-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_finite [hPre_finite : Cert.Pre_finite.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_finite.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2)) (m ((c.tc : Thread Cert.ForwardIdeal.nD Cert.ForwardIdeal.τ).loc Cert.ForwardIdeal.main_arg3)) (m ((c.tc : Thread Cert.ForwardIdeal.nD Cert.ForwardIdeal.τ).loc Cert.ForwardIdeal.main_arg4)) (m ((c.tc : Thread Cert.ForwardIdeal.nD Cert.ForwardIdeal.τ).loc Cert.ForwardIdeal.main_arg5)) (m ((c.tc : Thread Cert.ForwardIdeal.nD Cert.ForwardIdeal.τ).loc Cert.ForwardIdeal.main_arg6)) (m ((c.tc : Thread Cert.ForwardIdeal.nD Cert.ForwardIdeal.τ).loc Cert.ForwardIdeal.main_arg7)) (m ((c.tc : Thread Cert.ForwardIdeal.nD Cert.ForwardIdeal.τ).loc Cert.ForwardIdeal.main_arg8)) (m ((c.tc : Thread Cert.ForwardIdeal.nD Cert.ForwardIdeal.τ).loc Cert.ForwardIdeal.main_arg9))) = (fun _ => 1#1)

def Pre_ForwardReferenceIdeal (m : (ℓ : Loc Cert.ForwardReferenceIdeal.nD Cert.ForwardReferenceIdeal.τ Cert.ForwardReferenceIdeal.sig) → Buf (Elt Ideal) ℓ) : Prop :=
  True

def Pre_ForwardReferenceIdeal_finite [hPre_finite : Cert.Pre_finite.Facts] (m : (ℓ : Loc Cert.ForwardReferenceIdeal.nD Cert.ForwardReferenceIdeal.τ Cert.ForwardReferenceIdeal.sig) → Buf (Elt Ideal) ℓ) : Prop :=
  ∀ c : Dev Cert.ForwardReferenceIdeal.nD,
    (Cert.Pre_finite.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2)) (m ((c.tc : Thread Cert.ForwardReferenceIdeal.nD Cert.ForwardReferenceIdeal.τ).loc Cert.ForwardReferenceIdeal.main_arg3)) (m ((c.tc : Thread Cert.ForwardReferenceIdeal.nD Cert.ForwardReferenceIdeal.τ).loc Cert.ForwardReferenceIdeal.main_arg4)) (m ((c.tc : Thread Cert.ForwardReferenceIdeal.nD Cert.ForwardReferenceIdeal.τ).loc Cert.ForwardReferenceIdeal.main_arg5)) (m ((c.tc : Thread Cert.ForwardReferenceIdeal.nD Cert.ForwardReferenceIdeal.τ).loc Cert.ForwardReferenceIdeal.main_arg6)) (m ((c.tc : Thread Cert.ForwardReferenceIdeal.nD Cert.ForwardReferenceIdeal.τ).loc Cert.ForwardReferenceIdeal.main_arg7)) (m ((c.tc : Thread Cert.ForwardReferenceIdeal.nD Cert.ForwardReferenceIdeal.τ).loc Cert.ForwardReferenceIdeal.main_arg8)) (m ((c.tc : Thread Cert.ForwardReferenceIdeal.nD Cert.ForwardReferenceIdeal.τ).loc Cert.ForwardReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_finite [hPre_finite : Cert.Pre_finite.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_finite.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9))) = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_finite [hPre_finite : Cert.Pre_finite.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_finite.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8)) (m ((c.tc : Thread Cert.Reference1Ideal.nD Cert.Reference1Ideal.τ).loc Cert.Reference1Ideal.main_arg9))) = (fun _ => 1#1)

def Pre_Kernel0 (m : (ℓ : Loc Cert.Kernel0.nD Cert.Kernel0.τ Cert.Kernel0.sig) → Buf (Elt Bits) ℓ) : Prop :=
  True

def Pre_Kernel0Ideal (m : (ℓ : Loc Cert.Kernel0Ideal.nD Cert.Kernel0Ideal.τ Cert.Kernel0Ideal.sig) → Buf (Elt Ideal) ℓ) : Prop :=
  True

def Pre_Kernel0Ideal_finite [hPre_finite : Cert.Pre_finite.Facts] (m : (ℓ : Loc Cert.Kernel0Ideal.nD Cert.Kernel0Ideal.τ Cert.Kernel0Ideal.sig) → Buf (Elt Ideal) ℓ) : Prop :=
  ∀ c : Dev Cert.Kernel0Ideal.nD,
    (Cert.Pre_finite.fn (F := Ideal) (m ((c.tc : Thread Cert.Kernel0Ideal.nD Cert.Kernel0Ideal.τ).loc Cert.Kernel0Ideal.main_arg0)) (m ((c.tc : Thread Cert.Kernel0Ideal.nD Cert.Kernel0Ideal.τ).loc Cert.Kernel0Ideal.main_arg1)) (m ((c.tc : Thread Cert.Kernel0Ideal.nD Cert.Kernel0Ideal.τ).loc Cert.Kernel0Ideal.main_arg2)) (m ((c.tc : Thread Cert.Kernel0Ideal.nD Cert.Kernel0Ideal.τ).loc Cert.Kernel0Ideal.main_arg3)) (m ((c.tc : Thread Cert.Kernel0Ideal.nD Cert.Kernel0Ideal.τ).loc Cert.Kernel0Ideal.main_arg4)) (m ((c.tc : Thread Cert.Kernel0Ideal.nD Cert.Kernel0Ideal.τ).loc Cert.Kernel0Ideal.main_arg5)) (m ((c.tc : Thread Cert.Kernel0Ideal.nD Cert.Kernel0Ideal.τ).loc Cert.Kernel0Ideal.main_arg6)) (m ((c.tc : Thread Cert.Kernel0Ideal.nD Cert.Kernel0Ideal.τ).loc Cert.Kernel0Ideal.main_arg7)) (m ((c.tc : Thread Cert.Kernel0Ideal.nD Cert.Kernel0Ideal.τ).loc Cert.Kernel0Ideal.main_arg8)) (m ((c.tc : Thread Cert.Kernel0Ideal.nD Cert.Kernel0Ideal.τ).loc Cert.Kernel0Ideal.main_arg9))) = (fun _ => 1#1)

def Pre_Reference0Ideal (m : (ℓ : Loc Cert.Reference0Ideal.nD Cert.Reference0Ideal.τ Cert.Reference0Ideal.sig) → Buf (Elt Ideal) ℓ) : Prop :=
  True

def Pre_Reference0Ideal_finite [hPre_finite : Cert.Pre_finite.Facts] (m : (ℓ : Loc Cert.Reference0Ideal.nD Cert.Reference0Ideal.τ Cert.Reference0Ideal.sig) → Buf (Elt Ideal) ℓ) : Prop :=
  ∀ c : Dev Cert.Reference0Ideal.nD,
    (Cert.Pre_finite.fn (F := Ideal) (m ((c.tc : Thread Cert.Reference0Ideal.nD Cert.Reference0Ideal.τ).loc Cert.Reference0Ideal.main_arg0)) (m ((c.tc : Thread Cert.Reference0Ideal.nD Cert.Reference0Ideal.τ).loc Cert.Reference0Ideal.main_arg1)) (m ((c.tc : Thread Cert.Reference0Ideal.nD Cert.Reference0Ideal.τ).loc Cert.Reference0Ideal.main_arg2)) (m ((c.tc : Thread Cert.Reference0Ideal.nD Cert.Reference0Ideal.τ).loc Cert.Reference0Ideal.main_arg3)) (m ((c.tc : Thread Cert.Reference0Ideal.nD Cert.Reference0Ideal.τ).loc Cert.Reference0Ideal.main_arg4)) (m ((c.tc : Thread Cert.Reference0Ideal.nD Cert.Reference0Ideal.τ).loc Cert.Reference0Ideal.main_arg5)) (m ((c.tc : Thread Cert.Reference0Ideal.nD Cert.Reference0Ideal.τ).loc Cert.Reference0Ideal.main_arg6)) (m ((c.tc : Thread Cert.Reference0Ideal.nD Cert.Reference0Ideal.τ).loc Cert.Reference0Ideal.main_arg7)) (m ((c.tc : Thread Cert.Reference0Ideal.nD Cert.Reference0Ideal.τ).loc Cert.Reference0Ideal.main_arg8)) (m ((c.tc : Thread Cert.Reference0Ideal.nD Cert.Reference0Ideal.τ).loc Cert.Reference0Ideal.main_arg9))) = (fun _ => 1#1)

def Pre_Forward2 (m : (ℓ : Loc Cert.Forward2.nD Cert.Forward2.τ Cert.Forward2.sig) → Buf (Elt Bits) ℓ) : Prop :=
  True

def Pre_Forward2Ideal (m : (ℓ : Loc Cert.Forward2Ideal.nD Cert.Forward2Ideal.τ Cert.Forward2Ideal.sig) → Buf (Elt Ideal) ℓ) : Prop :=
  True

def Pre_Forward2Ideal_finite_layer [hPre_finite_layer : Cert.Pre_finite_layer.Facts] (m : (ℓ : Loc Cert.Forward2Ideal.nD Cert.Forward2Ideal.τ Cert.Forward2Ideal.sig) → Buf (Elt Ideal) ℓ) : Prop :=
  ∀ c : Dev Cert.Forward2Ideal.nD,
    (Cert.Pre_finite_layer.fn (F := Ideal) (m ((c.tc : Thread Cert.Forward2Ideal.nD Cert.Forward2Ideal.τ).loc Cert.Forward2Ideal.main_arg0)) (m ((c.tc : Thread Cert.Forward2Ideal.nD Cert.Forward2Ideal.τ).loc Cert.Forward2Ideal.main_arg1)) (m ((c.tc : Thread Cert.Forward2Ideal.nD Cert.Forward2Ideal.τ).loc Cert.Forward2Ideal.main_arg2)) (m ((c.tc : Thread Cert.Forward2Ideal.nD Cert.Forward2Ideal.τ).loc Cert.Forward2Ideal.main_arg3)) (m ((c.tc : Thread Cert.Forward2Ideal.nD Cert.Forward2Ideal.τ).loc Cert.Forward2Ideal.main_arg4)) (m ((c.tc : Thread Cert.Forward2Ideal.nD Cert.Forward2Ideal.τ).loc Cert.Forward2Ideal.main_arg5)) (m ((c.tc : Thread Cert.Forward2Ideal.nD Cert.Forward2Ideal.τ).loc Cert.Forward2Ideal.main_arg6)) (m ((c.tc : Thread Cert.Forward2Ideal.nD Cert.Forward2Ideal.τ).loc Cert.Forward2Ideal.main_arg7)) (m ((c.tc : Thread Cert.Forward2Ideal.nD Cert.Forward2Ideal.τ).loc Cert.Forward2Ideal.main_arg8))) = (fun _ => 1#1)

def Pre_ForwardReference2Ideal (m : (ℓ : Loc Cert.ForwardReference2Ideal.nD Cert.ForwardReference2Ideal.τ Cert.ForwardReference2Ideal.sig) → Buf (Elt Ideal) ℓ) : Prop :=
  True

def Pre_ForwardReference2Ideal_finite_layer [hPre_finite_layer : Cert.Pre_finite_layer.Facts] (m : (ℓ : Loc Cert.ForwardReference2Ideal.nD Cert.ForwardReference2Ideal.τ Cert.ForwardReference2Ideal.sig) → Buf (Elt Ideal) ℓ) : Prop :=
  ∀ c : Dev Cert.ForwardReference2Ideal.nD,
    (Cert.Pre_finite_layer.fn (F := Ideal) (m ((c.tc : Thread Cert.ForwardReference2Ideal.nD Cert.ForwardReference2Ideal.τ).loc Cert.ForwardReference2Ideal.main_arg0)) (m ((c.tc : Thread Cert.ForwardReference2Ideal.nD Cert.ForwardReference2Ideal.τ).loc Cert.ForwardReference2Ideal.main_arg1)) (m ((c.tc : Thread Cert.ForwardReference2Ideal.nD Cert.ForwardReference2Ideal.τ).loc Cert.ForwardReference2Ideal.main_arg2)) (m ((c.tc : Thread Cert.ForwardReference2Ideal.nD Cert.ForwardReference2Ideal.τ).loc Cert.ForwardReference2Ideal.main_arg3)) (m ((c.tc : Thread Cert.ForwardReference2Ideal.nD Cert.ForwardReference2Ideal.τ).loc Cert.ForwardReference2Ideal.main_arg4)) (m ((c.tc : Thread Cert.ForwardReference2Ideal.nD Cert.ForwardReference2Ideal.τ).loc Cert.ForwardReference2Ideal.main_arg5)) (m ((c.tc : Thread Cert.ForwardReference2Ideal.nD Cert.ForwardReference2Ideal.τ).loc Cert.ForwardReference2Ideal.main_arg6)) (m ((c.tc : Thread Cert.ForwardReference2Ideal.nD Cert.ForwardReference2Ideal.τ).loc Cert.ForwardReference2Ideal.main_arg7)) (m ((c.tc : Thread Cert.ForwardReference2Ideal.nD Cert.ForwardReference2Ideal.τ).loc Cert.ForwardReference2Ideal.main_arg8))) = (fun _ => 1#1)

def Pre_Forward1 (m : (ℓ : Loc Cert.Forward1.nD Cert.Forward1.τ Cert.Forward1.sig) → Buf (Elt Bits) ℓ) : Prop :=
  True

def Pre_Forward1Ideal (m : (ℓ : Loc Cert.Forward1Ideal.nD Cert.Forward1Ideal.τ Cert.Forward1Ideal.sig) → Buf (Elt Ideal) ℓ) : Prop :=
  True

def Pre_Forward1Ideal_finite_layer [hPre_finite_layer : Cert.Pre_finite_layer.Facts] (m : (ℓ : Loc Cert.Forward1Ideal.nD Cert.Forward1Ideal.τ Cert.Forward1Ideal.sig) → Buf (Elt Ideal) ℓ) : Prop :=
  ∀ c : Dev Cert.Forward1Ideal.nD,
    (Cert.Pre_finite_layer.fn (F := Ideal) (m ((c.tc : Thread Cert.Forward1Ideal.nD Cert.Forward1Ideal.τ).loc Cert.Forward1Ideal.main_arg0)) (m ((c.tc : Thread Cert.Forward1Ideal.nD Cert.Forward1Ideal.τ).loc Cert.Forward1Ideal.main_arg1)) (m ((c.tc : Thread Cert.Forward1Ideal.nD Cert.Forward1Ideal.τ).loc Cert.Forward1Ideal.main_arg2)) (m ((c.tc : Thread Cert.Forward1Ideal.nD Cert.Forward1Ideal.τ).loc Cert.Forward1Ideal.main_arg3)) (m ((c.tc : Thread Cert.Forward1Ideal.nD Cert.Forward1Ideal.τ).loc Cert.Forward1Ideal.main_arg4)) (m ((c.tc : Thread Cert.Forward1Ideal.nD Cert.Forward1Ideal.τ).loc Cert.Forward1Ideal.main_arg5)) (m ((c.tc : Thread Cert.Forward1Ideal.nD Cert.Forward1Ideal.τ).loc Cert.Forward1Ideal.main_arg6)) (m ((c.tc : Thread Cert.Forward1Ideal.nD Cert.Forward1Ideal.τ).loc Cert.Forward1Ideal.main_arg7)) (m ((c.tc : Thread Cert.Forward1Ideal.nD Cert.Forward1Ideal.τ).loc Cert.Forward1Ideal.main_arg8))) = (fun _ => 1#1)

def Pre_ForwardReference1Ideal (m : (ℓ : Loc Cert.ForwardReference1Ideal.nD Cert.ForwardReference1Ideal.τ Cert.ForwardReference1Ideal.sig) → Buf (Elt Ideal) ℓ) : Prop :=
  True

def Pre_ForwardReference1Ideal_finite_layer [hPre_finite_layer : Cert.Pre_finite_layer.Facts] (m : (ℓ : Loc Cert.ForwardReference1Ideal.nD Cert.ForwardReference1Ideal.τ Cert.ForwardReference1Ideal.sig) → Buf (Elt Ideal) ℓ) : Prop :=
  ∀ c : Dev Cert.ForwardReference1Ideal.nD,
    (Cert.Pre_finite_layer.fn (F := Ideal) (m ((c.tc : Thread Cert.ForwardReference1Ideal.nD Cert.ForwardReference1Ideal.τ).loc Cert.ForwardReference1Ideal.main_arg0)) (m ((c.tc : Thread Cert.ForwardReference1Ideal.nD Cert.ForwardReference1Ideal.τ).loc Cert.ForwardReference1Ideal.main_arg1)) (m ((c.tc : Thread Cert.ForwardReference1Ideal.nD Cert.ForwardReference1Ideal.τ).loc Cert.ForwardReference1Ideal.main_arg2)) (m ((c.tc : Thread Cert.ForwardReference1Ideal.nD Cert.ForwardReference1Ideal.τ).loc Cert.ForwardReference1Ideal.main_arg3)) (m ((c.tc : Thread Cert.ForwardReference1Ideal.nD Cert.ForwardReference1Ideal.τ).loc Cert.ForwardReference1Ideal.main_arg4)) (m ((c.tc : Thread Cert.ForwardReference1Ideal.nD Cert.ForwardReference1Ideal.τ).loc Cert.ForwardReference1Ideal.main_arg5)) (m ((c.tc : Thread Cert.ForwardReference1Ideal.nD Cert.ForwardReference1Ideal.τ).loc Cert.ForwardReference1Ideal.main_arg6)) (m ((c.tc : Thread Cert.ForwardReference1Ideal.nD Cert.ForwardReference1Ideal.τ).loc Cert.ForwardReference1Ideal.main_arg7)) (m ((c.tc : Thread Cert.ForwardReference1Ideal.nD Cert.ForwardReference1Ideal.τ).loc Cert.ForwardReference1Ideal.main_arg8))) = (fun _ => 1#1)

def Pre_Forward0 (m : (ℓ : Loc Cert.Forward0.nD Cert.Forward0.τ Cert.Forward0.sig) → Buf (Elt Bits) ℓ) : Prop :=
  True

def Pre_Forward0Ideal (m : (ℓ : Loc Cert.Forward0Ideal.nD Cert.Forward0Ideal.τ Cert.Forward0Ideal.sig) → Buf (Elt Ideal) ℓ) : Prop :=
  True

def Pre_Forward0Ideal_finite_layer [hPre_finite_layer : Cert.Pre_finite_layer.Facts] (m : (ℓ : Loc Cert.Forward0Ideal.nD Cert.Forward0Ideal.τ Cert.Forward0Ideal.sig) → Buf (Elt Ideal) ℓ) : Prop :=
  ∀ c : Dev Cert.Forward0Ideal.nD,
    (Cert.Pre_finite_layer.fn (F := Ideal) (m ((c.tc : Thread Cert.Forward0Ideal.nD Cert.Forward0Ideal.τ).loc Cert.Forward0Ideal.main_arg0)) (m ((c.tc : Thread Cert.Forward0Ideal.nD Cert.Forward0Ideal.τ).loc Cert.Forward0Ideal.main_arg1)) (m ((c.tc : Thread Cert.Forward0Ideal.nD Cert.Forward0Ideal.τ).loc Cert.Forward0Ideal.main_arg2)) (m ((c.tc : Thread Cert.Forward0Ideal.nD Cert.Forward0Ideal.τ).loc Cert.Forward0Ideal.main_arg3)) (m ((c.tc : Thread Cert.Forward0Ideal.nD Cert.Forward0Ideal.τ).loc Cert.Forward0Ideal.main_arg4)) (m ((c.tc : Thread Cert.Forward0Ideal.nD Cert.Forward0Ideal.τ).loc Cert.Forward0Ideal.main_arg5)) (m ((c.tc : Thread Cert.Forward0Ideal.nD Cert.Forward0Ideal.τ).loc Cert.Forward0Ideal.main_arg6)) (m ((c.tc : Thread Cert.Forward0Ideal.nD Cert.Forward0Ideal.τ).loc Cert.Forward0Ideal.main_arg7)) (m ((c.tc : Thread Cert.Forward0Ideal.nD Cert.Forward0Ideal.τ).loc Cert.Forward0Ideal.main_arg8))) = (fun _ => 1#1)

def Pre_ForwardReference0Ideal (m : (ℓ : Loc Cert.ForwardReference0Ideal.nD Cert.ForwardReference0Ideal.τ Cert.ForwardReference0Ideal.sig) → Buf (Elt Ideal) ℓ) : Prop :=
  True

def Pre_ForwardReference0Ideal_finite_layer [hPre_finite_layer : Cert.Pre_finite_layer.Facts] (m : (ℓ : Loc Cert.ForwardReference0Ideal.nD Cert.ForwardReference0Ideal.τ Cert.ForwardReference0Ideal.sig) → Buf (Elt Ideal) ℓ) : Prop :=
  ∀ c : Dev Cert.ForwardReference0Ideal.nD,
    (Cert.Pre_finite_layer.fn (F := Ideal) (m ((c.tc : Thread Cert.ForwardReference0Ideal.nD Cert.ForwardReference0Ideal.τ).loc Cert.ForwardReference0Ideal.main_arg0)) (m ((c.tc : Thread Cert.ForwardReference0Ideal.nD Cert.ForwardReference0Ideal.τ).loc Cert.ForwardReference0Ideal.main_arg1)) (m ((c.tc : Thread Cert.ForwardReference0Ideal.nD Cert.ForwardReference0Ideal.τ).loc Cert.ForwardReference0Ideal.main_arg2)) (m ((c.tc : Thread Cert.ForwardReference0Ideal.nD Cert.ForwardReference0Ideal.τ).loc Cert.ForwardReference0Ideal.main_arg3)) (m ((c.tc : Thread Cert.ForwardReference0Ideal.nD Cert.ForwardReference0Ideal.τ).loc Cert.ForwardReference0Ideal.main_arg4)) (m ((c.tc : Thread Cert.ForwardReference0Ideal.nD Cert.ForwardReference0Ideal.τ).loc Cert.ForwardReference0Ideal.main_arg5)) (m ((c.tc : Thread Cert.ForwardReference0Ideal.nD Cert.ForwardReference0Ideal.τ).loc Cert.ForwardReference0Ideal.main_arg6)) (m ((c.tc : Thread Cert.ForwardReference0Ideal.nD Cert.ForwardReference0Ideal.τ).loc Cert.ForwardReference0Ideal.main_arg7)) (m ((c.tc : Thread Cert.ForwardReference0Ideal.nD Cert.ForwardReference0Ideal.τ).loc Cert.ForwardReference0Ideal.main_arg8))) = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4)
      ∧ r.2.mem ((c.tc : Thread Cert.Forward.nD Cert.Forward.τ).loc Cert.Forward.main_arg5) = m ((c.tc : Thread Cert.Forward.nD Cert.Forward.τ).loc Cert.Forward.main_arg5)
      ∧ r.2.mem ((c.tc : Thread Cert.Forward.nD Cert.Forward.τ).loc Cert.Forward.main_arg6) = m ((c.tc : Thread Cert.Forward.nD Cert.Forward.τ).loc Cert.Forward.main_arg6)
      ∧ r.2.mem ((c.tc : Thread Cert.Forward.nD Cert.Forward.τ).loc Cert.Forward.main_arg7) = m ((c.tc : Thread Cert.Forward.nD Cert.Forward.τ).loc Cert.Forward.main_arg7)
      ∧ r.2.mem ((c.tc : Thread Cert.Forward.nD Cert.Forward.τ).loc Cert.Forward.main_arg8) = m ((c.tc : Thread Cert.Forward.nD Cert.Forward.τ).loc Cert.Forward.main_arg8)
      ∧ r.2.mem ((c.tc : Thread Cert.Forward.nD Cert.Forward.τ).loc Cert.Forward.main_arg9) = m ((c.tc : Thread Cert.Forward.nD Cert.Forward.τ).loc Cert.Forward.main_arg9))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
      ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7)
      ∧ r.2.mem ((c.tc : Thread Cert.ForwardIdeal.nD Cert.ForwardIdeal.τ).loc Cert.ForwardIdeal.main_arg8) = m ((c.tc : Thread Cert.ForwardIdeal.nD Cert.ForwardIdeal.τ).loc Cert.ForwardIdeal.main_arg8)
      ∧ r.2.mem ((c.tc : Thread Cert.ForwardIdeal.nD Cert.ForwardIdeal.τ).loc Cert.ForwardIdeal.main_arg9) = m ((c.tc : Thread Cert.ForwardIdeal.nD Cert.ForwardIdeal.τ).loc Cert.ForwardIdeal.main_arg9))
      ∧ r.2.sem = fun _ => 0)

def quiescent_ForwardIdeal_pre_finite [hForwardIdeal : Cert.ForwardIdeal.Facts] [hPre_finite : Cert.Pre_finite.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_finite m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
      ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7)
      ∧ r.2.mem ((c.tc : Thread Cert.ForwardIdeal.nD Cert.ForwardIdeal.τ).loc Cert.ForwardIdeal.main_arg8) = m ((c.tc : Thread Cert.ForwardIdeal.nD Cert.ForwardIdeal.τ).loc Cert.ForwardIdeal.main_arg8)
      ∧ r.2.mem ((c.tc : Thread Cert.ForwardIdeal.nD Cert.ForwardIdeal.τ).loc Cert.ForwardIdeal.main_arg9) = m ((c.tc : Thread Cert.ForwardIdeal.nD Cert.ForwardIdeal.τ).loc Cert.ForwardIdeal.main_arg9))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3)
      ∧ r.2.mem ((c.tc : Thread Cert.ForwardReferenceIdeal.nD Cert.ForwardReferenceIdeal.τ).loc Cert.ForwardReferenceIdeal.main_arg4) = m ((c.tc : Thread Cert.ForwardReferenceIdeal.nD Cert.ForwardReferenceIdeal.τ).loc Cert.ForwardReferenceIdeal.main_arg4)
      ∧ r.2.mem ((c.tc : Thread Cert.ForwardReferenceIdeal.nD Cert.ForwardReferenceIdeal.τ).loc Cert.ForwardReferenceIdeal.main_arg5) = m ((c.tc : Thread Cert.ForwardReferenceIdeal.nD Cert.ForwardReferenceIdeal.τ).loc Cert.ForwardReferenceIdeal.main_arg5)
      ∧ r.2.mem ((c.tc : Thread Cert.ForwardReferenceIdeal.nD Cert.ForwardReferenceIdeal.τ).loc Cert.ForwardReferenceIdeal.main_arg6) = m ((c.tc : Thread Cert.ForwardReferenceIdeal.nD Cert.ForwardReferenceIdeal.τ).loc Cert.ForwardReferenceIdeal.main_arg6)
      ∧ r.2.mem ((c.tc : Thread Cert.ForwardReferenceIdeal.nD Cert.ForwardReferenceIdeal.τ).loc Cert.ForwardReferenceIdeal.main_arg7) = m ((c.tc : Thread Cert.ForwardReferenceIdeal.nD Cert.ForwardReferenceIdeal.τ).loc Cert.ForwardReferenceIdeal.main_arg7)
      ∧ r.2.mem ((c.tc : Thread Cert.ForwardReferenceIdeal.nD Cert.ForwardReferenceIdeal.τ).loc Cert.ForwardReferenceIdeal.main_arg8) = m ((c.tc : Thread Cert.ForwardReferenceIdeal.nD Cert.ForwardReferenceIdeal.τ).loc Cert.ForwardReferenceIdeal.main_arg8)
      ∧ r.2.mem ((c.tc : Thread Cert.ForwardReferenceIdeal.nD Cert.ForwardReferenceIdeal.τ).loc Cert.ForwardReferenceIdeal.main_arg9) = m ((c.tc : Thread Cert.ForwardReferenceIdeal.nD Cert.ForwardReferenceIdeal.τ).loc Cert.ForwardReferenceIdeal.main_arg9))
      ∧ r.2.sem = fun _ => 0)

def quiescent_ForwardReferenceIdeal_pre_finite [hForwardReferenceIdeal : Cert.ForwardReferenceIdeal.Facts] [hPre_finite : Cert.Pre_finite.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal_finite m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3)
      ∧ r.2.mem ((c.tc : Thread Cert.ForwardReferenceIdeal.nD Cert.ForwardReferenceIdeal.τ).loc Cert.ForwardReferenceIdeal.main_arg4) = m ((c.tc : Thread Cert.ForwardReferenceIdeal.nD Cert.ForwardReferenceIdeal.τ).loc Cert.ForwardReferenceIdeal.main_arg4)
      ∧ r.2.mem ((c.tc : Thread Cert.ForwardReferenceIdeal.nD Cert.ForwardReferenceIdeal.τ).loc Cert.ForwardReferenceIdeal.main_arg5) = m ((c.tc : Thread Cert.ForwardReferenceIdeal.nD Cert.ForwardReferenceIdeal.τ).loc Cert.ForwardReferenceIdeal.main_arg5)
      ∧ r.2.mem ((c.tc : Thread Cert.ForwardReferenceIdeal.nD Cert.ForwardReferenceIdeal.τ).loc Cert.ForwardReferenceIdeal.main_arg6) = m ((c.tc : Thread Cert.ForwardReferenceIdeal.nD Cert.ForwardReferenceIdeal.τ).loc Cert.ForwardReferenceIdeal.main_arg6)
      ∧ r.2.mem ((c.tc : Thread Cert.ForwardReferenceIdeal.nD Cert.ForwardReferenceIdeal.τ).loc Cert.ForwardReferenceIdeal.main_arg7) = m ((c.tc : Thread Cert.ForwardReferenceIdeal.nD Cert.ForwardReferenceIdeal.τ).loc Cert.ForwardReferenceIdeal.main_arg7)
      ∧ r.2.mem ((c.tc : Thread Cert.ForwardReferenceIdeal.nD Cert.ForwardReferenceIdeal.τ).loc Cert.ForwardReferenceIdeal.main_arg8) = m ((c.tc : Thread Cert.ForwardReferenceIdeal.nD Cert.ForwardReferenceIdeal.τ).loc Cert.ForwardReferenceIdeal.main_arg8)
      ∧ r.2.mem ((c.tc : Thread Cert.ForwardReferenceIdeal.nD Cert.ForwardReferenceIdeal.τ).loc Cert.ForwardReferenceIdeal.main_arg9) = m ((c.tc : Thread Cert.ForwardReferenceIdeal.nD Cert.ForwardReferenceIdeal.τ).loc Cert.ForwardReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6)
      ∧ r.2.mem ((c.tc : Thread Cert.Kernel1.nD Cert.Kernel1.τ).loc Cert.Kernel1.main_arg7) = m ((c.tc : Thread Cert.Kernel1.nD Cert.Kernel1.τ).loc Cert.Kernel1.main_arg7)
      ∧ r.2.mem ((c.tc : Thread Cert.Kernel1.nD Cert.Kernel1.τ).loc Cert.Kernel1.main_arg8) = m ((c.tc : Thread Cert.Kernel1.nD Cert.Kernel1.τ).loc Cert.Kernel1.main_arg8)
      ∧ r.2.mem ((c.tc : Thread Cert.Kernel1.nD Cert.Kernel1.τ).loc Cert.Kernel1.main_arg9) = m ((c.tc : Thread Cert.Kernel1.nD Cert.Kernel1.τ).loc Cert.Kernel1.main_arg9))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ r.2.sem = fun _ => 0)

def quiescent_Kernel1Ideal_pre_finite [hKernel1Ideal : Cert.Kernel1Ideal.Facts] [hPre_finite : Cert.Pre_finite.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_finite m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9))
      ∧ r.2.sem = fun _ => 0)

def quiescent_Reference1Ideal_pre_finite [hReference1Ideal : Cert.Reference1Ideal.Facts] [hPre_finite : Cert.Pre_finite.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_finite m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9))
      ∧ r.2.sem = fun _ => 0)

def quiescent_Kernel0 [hKernel0 : Cert.Kernel0.Facts] : Prop :=
  ∀ (m : (ℓ : Loc Cert.Kernel0.nD Cert.Kernel0.τ Cert.Kernel0.sig) → Buf (Elt Bits) ℓ) (g : Dev Cert.Kernel0.nD → PrngReg), Pre_Kernel0 m →
    θ_run (Cert.Kernel0.defs (F := Bits)) (onTc (τ := Cert.Kernel0.τ) (Cert.Kernel0.main (F := Bits))) ⟨m, fun _ => 0, g⟩ (fun r => (∀ c : Dev Cert.Kernel0.nD,
      r.2.mem ((c.tc : Thread Cert.Kernel0.nD Cert.Kernel0.τ).loc Cert.Kernel0.main_arg0) = m ((c.tc : Thread Cert.Kernel0.nD Cert.Kernel0.τ).loc Cert.Kernel0.main_arg0)
      ∧ r.2.mem ((c.tc : Thread Cert.Kernel0.nD Cert.Kernel0.τ).loc Cert.Kernel0.main_arg1) = m ((c.tc : Thread Cert.Kernel0.nD Cert.Kernel0.τ).loc Cert.Kernel0.main_arg1)
      ∧ r.2.mem ((c.tc : Thread Cert.Kernel0.nD Cert.Kernel0.τ).loc Cert.Kernel0.main_arg2) = m ((c.tc : Thread Cert.Kernel0.nD Cert.Kernel0.τ).loc Cert.Kernel0.main_arg2)
      ∧ r.2.mem ((c.tc : Thread Cert.Kernel0.nD Cert.Kernel0.τ).loc Cert.Kernel0.main_arg3) = m ((c.tc : Thread Cert.Kernel0.nD Cert.Kernel0.τ).loc Cert.Kernel0.main_arg3)
      ∧ r.2.mem ((c.tc : Thread Cert.Kernel0.nD Cert.Kernel0.τ).loc Cert.Kernel0.main_arg4) = m ((c.tc : Thread Cert.Kernel0.nD Cert.Kernel0.τ).loc Cert.Kernel0.main_arg4)
      ∧ r.2.mem ((c.tc : Thread Cert.Kernel0.nD Cert.Kernel0.τ).loc Cert.Kernel0.main_arg5) = m ((c.tc : Thread Cert.Kernel0.nD Cert.Kernel0.τ).loc Cert.Kernel0.main_arg5)
      ∧ r.2.mem ((c.tc : Thread Cert.Kernel0.nD Cert.Kernel0.τ).loc Cert.Kernel0.main_arg6) = m ((c.tc : Thread Cert.Kernel0.nD Cert.Kernel0.τ).loc Cert.Kernel0.main_arg6)
      ∧ r.2.mem ((c.tc : Thread Cert.Kernel0.nD Cert.Kernel0.τ).loc Cert.Kernel0.main_arg7) = m ((c.tc : Thread Cert.Kernel0.nD Cert.Kernel0.τ).loc Cert.Kernel0.main_arg7)
      ∧ r.2.mem ((c.tc : Thread Cert.Kernel0.nD Cert.Kernel0.τ).loc Cert.Kernel0.main_arg8) = m ((c.tc : Thread Cert.Kernel0.nD Cert.Kernel0.τ).loc Cert.Kernel0.main_arg8)
      ∧ r.2.mem ((c.tc : Thread Cert.Kernel0.nD Cert.Kernel0.τ).loc Cert.Kernel0.main_arg9) = m ((c.tc : Thread Cert.Kernel0.nD Cert.Kernel0.τ).loc Cert.Kernel0.main_arg9))
      ∧ r.2.sem = fun _ => 0)

def quiescent_Kernel0Ideal [hKernel0Ideal : Cert.Kernel0Ideal.Facts] : Prop :=
  ∀ (m : (ℓ : Loc Cert.Kernel0Ideal.nD Cert.Kernel0Ideal.τ Cert.Kernel0Ideal.sig) → Buf (Elt Ideal) ℓ) (g : Dev Cert.Kernel0Ideal.nD → PrngReg), Pre_Kernel0Ideal m →
    θ_run (Cert.Kernel0Ideal.defs (F := Ideal)) (onTc (τ := Cert.Kernel0Ideal.τ) (Cert.Kernel0Ideal.main (F := Ideal))) ⟨m, fun _ => 0, g⟩ (fun r => (∀ c : Dev Cert.Kernel0Ideal.nD,
      r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
      ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
      ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
      ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
      ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
      ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5)
      ∧ r.2.mem ((c.tc : Thread Cert.Kernel0Ideal.nD Cert.Kernel0Ideal.τ).loc Cert.Kernel0Ideal.main_arg6) = m ((c.tc : Thread Cert.Kernel0Ideal.nD Cert.Kernel0Ideal.τ).loc Cert.Kernel0Ideal.main_arg6)
      ∧ r.2.mem ((c.tc : Thread Cert.Kernel0Ideal.nD Cert.Kernel0Ideal.τ).loc Cert.Kernel0Ideal.main_arg7) = m ((c.tc : Thread Cert.Kernel0Ideal.nD Cert.Kernel0Ideal.τ).loc Cert.Kernel0Ideal.main_arg7)
      ∧ r.2.mem ((c.tc : Thread Cert.Kernel0Ideal.nD Cert.Kernel0Ideal.τ).loc Cert.Kernel0Ideal.main_arg8) = m ((c.tc : Thread Cert.Kernel0Ideal.nD Cert.Kernel0Ideal.τ).loc Cert.Kernel0Ideal.main_arg8)
      ∧ r.2.mem ((c.tc : Thread Cert.Kernel0Ideal.nD Cert.Kernel0Ideal.τ).loc Cert.Kernel0Ideal.main_arg9) = m ((c.tc : Thread Cert.Kernel0Ideal.nD Cert.Kernel0Ideal.τ).loc Cert.Kernel0Ideal.main_arg9))
      ∧ r.2.sem = fun _ => 0)

def quiescent_Kernel0Ideal_pre_finite [hKernel0Ideal : Cert.Kernel0Ideal.Facts] [hPre_finite : Cert.Pre_finite.Facts] : Prop :=
  ∀ (m : (ℓ : Loc Cert.Kernel0Ideal.nD Cert.Kernel0Ideal.τ Cert.Kernel0Ideal.sig) → Buf (Elt Ideal) ℓ) (g : Dev Cert.Kernel0Ideal.nD → PrngReg), Pre_Kernel0Ideal_finite m →
    θ_run (Cert.Kernel0Ideal.defs (F := Ideal)) (onTc (τ := Cert.Kernel0Ideal.τ) (Cert.Kernel0Ideal.main (F := Ideal))) ⟨m, fun _ => 0, g⟩ (fun r => (∀ c : Dev Cert.Kernel0Ideal.nD,
      r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
      ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
      ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
      ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
      ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
      ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5)
      ∧ r.2.mem ((c.tc : Thread Cert.Kernel0Ideal.nD Cert.Kernel0Ideal.τ).loc Cert.Kernel0Ideal.main_arg6) = m ((c.tc : Thread Cert.Kernel0Ideal.nD Cert.Kernel0Ideal.τ).loc Cert.Kernel0Ideal.main_arg6)
      ∧ r.2.mem ((c.tc : Thread Cert.Kernel0Ideal.nD Cert.Kernel0Ideal.τ).loc Cert.Kernel0Ideal.main_arg7) = m ((c.tc : Thread Cert.Kernel0Ideal.nD Cert.Kernel0Ideal.τ).loc Cert.Kernel0Ideal.main_arg7)
      ∧ r.2.mem ((c.tc : Thread Cert.Kernel0Ideal.nD Cert.Kernel0Ideal.τ).loc Cert.Kernel0Ideal.main_arg8) = m ((c.tc : Thread Cert.Kernel0Ideal.nD Cert.Kernel0Ideal.τ).loc Cert.Kernel0Ideal.main_arg8)
      ∧ r.2.mem ((c.tc : Thread Cert.Kernel0Ideal.nD Cert.Kernel0Ideal.τ).loc Cert.Kernel0Ideal.main_arg9) = m ((c.tc : Thread Cert.Kernel0Ideal.nD Cert.Kernel0Ideal.τ).loc Cert.Kernel0Ideal.main_arg9))
      ∧ r.2.sem = fun _ => 0)

def quiescent_Reference0Ideal [hReference0Ideal : Cert.Reference0Ideal.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2)
      ∧ r.2.mem ((c.tc : Thread Cert.Reference0Ideal.nD Cert.Reference0Ideal.τ).loc Cert.Reference0Ideal.main_arg3) = m ((c.tc : Thread Cert.Reference0Ideal.nD Cert.Reference0Ideal.τ).loc Cert.Reference0Ideal.main_arg3)
      ∧ r.2.mem ((c.tc : Thread Cert.Reference0Ideal.nD Cert.Reference0Ideal.τ).loc Cert.Reference0Ideal.main_arg4) = m ((c.tc : Thread Cert.Reference0Ideal.nD Cert.Reference0Ideal.τ).loc Cert.Reference0Ideal.main_arg4)
      ∧ r.2.mem ((c.tc : Thread Cert.Reference0Ideal.nD Cert.Reference0Ideal.τ).loc Cert.Reference0Ideal.main_arg5) = m ((c.tc : Thread Cert.Reference0Ideal.nD Cert.Reference0Ideal.τ).loc Cert.Reference0Ideal.main_arg5)
      ∧ r.2.mem ((c.tc : Thread Cert.Reference0Ideal.nD Cert.Reference0Ideal.τ).loc Cert.Reference0Ideal.main_arg6) = m ((c.tc : Thread Cert.Reference0Ideal.nD Cert.Reference0Ideal.τ).loc Cert.Reference0Ideal.main_arg6)
      ∧ r.2.mem ((c.tc : Thread Cert.Reference0Ideal.nD Cert.Reference0Ideal.τ).loc Cert.Reference0Ideal.main_arg7) = m ((c.tc : Thread Cert.Reference0Ideal.nD Cert.Reference0Ideal.τ).loc Cert.Reference0Ideal.main_arg7)
      ∧ r.2.mem ((c.tc : Thread Cert.Reference0Ideal.nD Cert.Reference0Ideal.τ).loc Cert.Reference0Ideal.main_arg8) = m ((c.tc : Thread Cert.Reference0Ideal.nD Cert.Reference0Ideal.τ).loc Cert.Reference0Ideal.main_arg8)
      ∧ r.2.mem ((c.tc : Thread Cert.Reference0Ideal.nD Cert.Reference0Ideal.τ).loc Cert.Reference0Ideal.main_arg9) = m ((c.tc : Thread Cert.Reference0Ideal.nD Cert.Reference0Ideal.τ).loc Cert.Reference0Ideal.main_arg9))
      ∧ r.2.sem = fun _ => 0)

def quiescent_Reference0Ideal_pre_finite [hReference0Ideal : Cert.Reference0Ideal.Facts] [hPre_finite : Cert.Pre_finite.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal_finite m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2)
      ∧ r.2.mem ((c.tc : Thread Cert.Reference0Ideal.nD Cert.Reference0Ideal.τ).loc Cert.Reference0Ideal.main_arg3) = m ((c.tc : Thread Cert.Reference0Ideal.nD Cert.Reference0Ideal.τ).loc Cert.Reference0Ideal.main_arg3)
      ∧ r.2.mem ((c.tc : Thread Cert.Reference0Ideal.nD Cert.Reference0Ideal.τ).loc Cert.Reference0Ideal.main_arg4) = m ((c.tc : Thread Cert.Reference0Ideal.nD Cert.Reference0Ideal.τ).loc Cert.Reference0Ideal.main_arg4)
      ∧ r.2.mem ((c.tc : Thread Cert.Reference0Ideal.nD Cert.Reference0Ideal.τ).loc Cert.Reference0Ideal.main_arg5) = m ((c.tc : Thread Cert.Reference0Ideal.nD Cert.Reference0Ideal.τ).loc Cert.Reference0Ideal.main_arg5)
      ∧ r.2.mem ((c.tc : Thread Cert.Reference0Ideal.nD Cert.Reference0Ideal.τ).loc Cert.Reference0Ideal.main_arg6) = m ((c.tc : Thread Cert.Reference0Ideal.nD Cert.Reference0Ideal.τ).loc Cert.Reference0Ideal.main_arg6)
      ∧ r.2.mem ((c.tc : Thread Cert.Reference0Ideal.nD Cert.Reference0Ideal.τ).loc Cert.Reference0Ideal.main_arg7) = m ((c.tc : Thread Cert.Reference0Ideal.nD Cert.Reference0Ideal.τ).loc Cert.Reference0Ideal.main_arg7)
      ∧ r.2.mem ((c.tc : Thread Cert.Reference0Ideal.nD Cert.Reference0Ideal.τ).loc Cert.Reference0Ideal.main_arg8) = m ((c.tc : Thread Cert.Reference0Ideal.nD Cert.Reference0Ideal.τ).loc Cert.Reference0Ideal.main_arg8)
      ∧ r.2.mem ((c.tc : Thread Cert.Reference0Ideal.nD Cert.Reference0Ideal.τ).loc Cert.Reference0Ideal.main_arg9) = m ((c.tc : Thread Cert.Reference0Ideal.nD Cert.Reference0Ideal.τ).loc Cert.Reference0Ideal.main_arg9))
      ∧ r.2.sem = fun _ => 0)

def quiescent_Forward2 [hForward2 : Cert.Forward2.Facts] : Prop :=
  ∀ (m : (ℓ : Loc Cert.Forward2.nD Cert.Forward2.τ Cert.Forward2.sig) → Buf (Elt Bits) ℓ) (g : Dev Cert.Forward2.nD → PrngReg), Pre_Forward2 m →
    θ_run (Cert.Forward2.defs (F := Bits)) (onTc (τ := Cert.Forward2.τ) (Cert.Forward2.main (F := Bits))) ⟨m, fun _ => 0, g⟩ (fun r => (∀ c : Dev Cert.Forward2.nD,
      r.2.mem ((c.tc : Thread Cert.Forward2.nD Cert.Forward2.τ).loc Cert.Forward2.main_arg0) = m ((c.tc : Thread Cert.Forward2.nD Cert.Forward2.τ).loc Cert.Forward2.main_arg0)
      ∧ r.2.mem ((c.tc : Thread Cert.Forward2.nD Cert.Forward2.τ).loc Cert.Forward2.main_arg1) = m ((c.tc : Thread Cert.Forward2.nD Cert.Forward2.τ).loc Cert.Forward2.main_arg1)
      ∧ r.2.mem ((c.tc : Thread Cert.Forward2.nD Cert.Forward2.τ).loc Cert.Forward2.main_arg2) = m ((c.tc : Thread Cert.Forward2.nD Cert.Forward2.τ).loc Cert.Forward2.main_arg2)
      ∧ r.2.mem ((c.tc : Thread Cert.Forward2.nD Cert.Forward2.τ).loc Cert.Forward2.main_arg3) = m ((c.tc : Thread Cert.Forward2.nD Cert.Forward2.τ).loc Cert.Forward2.main_arg3)
      ∧ r.2.mem ((c.tc : Thread Cert.Forward2.nD Cert.Forward2.τ).loc Cert.Forward2.main_arg4) = m ((c.tc : Thread Cert.Forward2.nD Cert.Forward2.τ).loc Cert.Forward2.main_arg4)
      ∧ r.2.mem ((c.tc : Thread Cert.Forward2.nD Cert.Forward2.τ).loc Cert.Forward2.main_arg5) = m ((c.tc : Thread Cert.Forward2.nD Cert.Forward2.τ).loc Cert.Forward2.main_arg5)
      ∧ r.2.mem ((c.tc : Thread Cert.Forward2.nD Cert.Forward2.τ).loc Cert.Forward2.main_arg6) = m ((c.tc : Thread Cert.Forward2.nD Cert.Forward2.τ).loc Cert.Forward2.main_arg6)
      ∧ r.2.mem ((c.tc : Thread Cert.Forward2.nD Cert.Forward2.τ).loc Cert.Forward2.main_arg7) = m ((c.tc : Thread Cert.Forward2.nD Cert.Forward2.τ).loc Cert.Forward2.main_arg7)
      ∧ r.2.mem ((c.tc : Thread Cert.Forward2.nD Cert.Forward2.τ).loc Cert.Forward2.main_arg8) = m ((c.tc : Thread Cert.Forward2.nD Cert.Forward2.τ).loc Cert.Forward2.main_arg8))
      ∧ r.2.sem = fun _ => 0)

def quiescent_Forward2Ideal [hForward2Ideal : Cert.Forward2Ideal.Facts] : Prop :=
  ∀ (m : (ℓ : Loc Cert.Forward2Ideal.nD Cert.Forward2Ideal.τ Cert.Forward2Ideal.sig) → Buf (Elt Ideal) ℓ) (g : Dev Cert.Forward2Ideal.nD → PrngReg), Pre_Forward2Ideal m →
    θ_run (Cert.Forward2Ideal.defs (F := Ideal)) (onTc (τ := Cert.Forward2Ideal.τ) (Cert.Forward2Ideal.main (F := Ideal))) ⟨m, fun _ => 0, g⟩ (fun r => (∀ c : Dev Cert.Forward2Ideal.nD,
      r.2.mem ((c.tc : Thread Cert.Forward2Ideal.nD Cert.Forward2Ideal.τ).loc Cert.Forward2Ideal.main_arg0) = m ((c.tc : Thread Cert.Forward2Ideal.nD Cert.Forward2Ideal.τ).loc Cert.Forward2Ideal.main_arg0)
      ∧ r.2.mem ((c.tc : Thread Cert.Forward2Ideal.nD Cert.Forward2Ideal.τ).loc Cert.Forward2Ideal.main_arg1) = m ((c.tc : Thread Cert.Forward2Ideal.nD Cert.Forward2Ideal.τ).loc Cert.Forward2Ideal.main_arg1)
      ∧ r.2.mem ((c.tc : Thread Cert.Forward2Ideal.nD Cert.Forward2Ideal.τ).loc Cert.Forward2Ideal.main_arg2) = m ((c.tc : Thread Cert.Forward2Ideal.nD Cert.Forward2Ideal.τ).loc Cert.Forward2Ideal.main_arg2)
      ∧ r.2.mem ((c.tc : Thread Cert.Forward2Ideal.nD Cert.Forward2Ideal.τ).loc Cert.Forward2Ideal.main_arg3) = m ((c.tc : Thread Cert.Forward2Ideal.nD Cert.Forward2Ideal.τ).loc Cert.Forward2Ideal.main_arg3)
      ∧ r.2.mem ((c.tc : Thread Cert.Forward2Ideal.nD Cert.Forward2Ideal.τ).loc Cert.Forward2Ideal.main_arg4) = m ((c.tc : Thread Cert.Forward2Ideal.nD Cert.Forward2Ideal.τ).loc Cert.Forward2Ideal.main_arg4)
      ∧ r.2.mem ((c.tc : Thread Cert.Forward2Ideal.nD Cert.Forward2Ideal.τ).loc Cert.Forward2Ideal.main_arg5) = m ((c.tc : Thread Cert.Forward2Ideal.nD Cert.Forward2Ideal.τ).loc Cert.Forward2Ideal.main_arg5)
      ∧ r.2.mem ((c.tc : Thread Cert.Forward2Ideal.nD Cert.Forward2Ideal.τ).loc Cert.Forward2Ideal.main_arg6) = m ((c.tc : Thread Cert.Forward2Ideal.nD Cert.Forward2Ideal.τ).loc Cert.Forward2Ideal.main_arg6)
      ∧ r.2.mem ((c.tc : Thread Cert.Forward2Ideal.nD Cert.Forward2Ideal.τ).loc Cert.Forward2Ideal.main_arg7) = m ((c.tc : Thread Cert.Forward2Ideal.nD Cert.Forward2Ideal.τ).loc Cert.Forward2Ideal.main_arg7)
      ∧ r.2.mem ((c.tc : Thread Cert.Forward2Ideal.nD Cert.Forward2Ideal.τ).loc Cert.Forward2Ideal.main_arg8) = m ((c.tc : Thread Cert.Forward2Ideal.nD Cert.Forward2Ideal.τ).loc Cert.Forward2Ideal.main_arg8))
      ∧ r.2.sem = fun _ => 0)

def quiescent_Forward2Ideal_pre_finite_layer [hForward2Ideal : Cert.Forward2Ideal.Facts] [hPre_finite_layer : Cert.Pre_finite_layer.Facts] : Prop :=
  ∀ (m : (ℓ : Loc Cert.Forward2Ideal.nD Cert.Forward2Ideal.τ Cert.Forward2Ideal.sig) → Buf (Elt Ideal) ℓ) (g : Dev Cert.Forward2Ideal.nD → PrngReg), Pre_Forward2Ideal_finite_layer m →
    θ_run (Cert.Forward2Ideal.defs (F := Ideal)) (onTc (τ := Cert.Forward2Ideal.τ) (Cert.Forward2Ideal.main (F := Ideal))) ⟨m, fun _ => 0, g⟩ (fun r => (∀ c : Dev Cert.Forward2Ideal.nD,
      r.2.mem ((c.tc : Thread Cert.Forward2Ideal.nD Cert.Forward2Ideal.τ).loc Cert.Forward2Ideal.main_arg0) = m ((c.tc : Thread Cert.Forward2Ideal.nD Cert.Forward2Ideal.τ).loc Cert.Forward2Ideal.main_arg0)
      ∧ r.2.mem ((c.tc : Thread Cert.Forward2Ideal.nD Cert.Forward2Ideal.τ).loc Cert.Forward2Ideal.main_arg1) = m ((c.tc : Thread Cert.Forward2Ideal.nD Cert.Forward2Ideal.τ).loc Cert.Forward2Ideal.main_arg1)
      ∧ r.2.mem ((c.tc : Thread Cert.Forward2Ideal.nD Cert.Forward2Ideal.τ).loc Cert.Forward2Ideal.main_arg2) = m ((c.tc : Thread Cert.Forward2Ideal.nD Cert.Forward2Ideal.τ).loc Cert.Forward2Ideal.main_arg2)
      ∧ r.2.mem ((c.tc : Thread Cert.Forward2Ideal.nD Cert.Forward2Ideal.τ).loc Cert.Forward2Ideal.main_arg3) = m ((c.tc : Thread Cert.Forward2Ideal.nD Cert.Forward2Ideal.τ).loc Cert.Forward2Ideal.main_arg3)
      ∧ r.2.mem ((c.tc : Thread Cert.Forward2Ideal.nD Cert.Forward2Ideal.τ).loc Cert.Forward2Ideal.main_arg4) = m ((c.tc : Thread Cert.Forward2Ideal.nD Cert.Forward2Ideal.τ).loc Cert.Forward2Ideal.main_arg4)
      ∧ r.2.mem ((c.tc : Thread Cert.Forward2Ideal.nD Cert.Forward2Ideal.τ).loc Cert.Forward2Ideal.main_arg5) = m ((c.tc : Thread Cert.Forward2Ideal.nD Cert.Forward2Ideal.τ).loc Cert.Forward2Ideal.main_arg5)
      ∧ r.2.mem ((c.tc : Thread Cert.Forward2Ideal.nD Cert.Forward2Ideal.τ).loc Cert.Forward2Ideal.main_arg6) = m ((c.tc : Thread Cert.Forward2Ideal.nD Cert.Forward2Ideal.τ).loc Cert.Forward2Ideal.main_arg6)
      ∧ r.2.mem ((c.tc : Thread Cert.Forward2Ideal.nD Cert.Forward2Ideal.τ).loc Cert.Forward2Ideal.main_arg7) = m ((c.tc : Thread Cert.Forward2Ideal.nD Cert.Forward2Ideal.τ).loc Cert.Forward2Ideal.main_arg7)
      ∧ r.2.mem ((c.tc : Thread Cert.Forward2Ideal.nD Cert.Forward2Ideal.τ).loc Cert.Forward2Ideal.main_arg8) = m ((c.tc : Thread Cert.Forward2Ideal.nD Cert.Forward2Ideal.τ).loc Cert.Forward2Ideal.main_arg8))
      ∧ r.2.sem = fun _ => 0)

def quiescent_ForwardReference2Ideal [hForwardReference2Ideal : Cert.ForwardReference2Ideal.Facts] : Prop :=
  ∀ (m : (ℓ : Loc Cert.ForwardReference2Ideal.nD Cert.ForwardReference2Ideal.τ Cert.ForwardReference2Ideal.sig) → Buf (Elt Ideal) ℓ) (g : Dev Cert.ForwardReference2Ideal.nD → PrngReg), Pre_ForwardReference2Ideal m →
    θ_run (Cert.ForwardReference2Ideal.defs (F := Ideal)) (onTc (τ := Cert.ForwardReference2Ideal.τ) (Cert.ForwardReference2Ideal.main (F := Ideal))) ⟨m, fun _ => 0, g⟩ (fun r => (∀ c : Dev Cert.ForwardReference2Ideal.nD,
      r.2.mem ((c.tc : Thread Cert.ForwardReference2Ideal.nD Cert.ForwardReference2Ideal.τ).loc Cert.ForwardReference2Ideal.main_arg0) = m ((c.tc : Thread Cert.ForwardReference2Ideal.nD Cert.ForwardReference2Ideal.τ).loc Cert.ForwardReference2Ideal.main_arg0)
      ∧ r.2.mem ((c.tc : Thread Cert.ForwardReference2Ideal.nD Cert.ForwardReference2Ideal.τ).loc Cert.ForwardReference2Ideal.main_arg1) = m ((c.tc : Thread Cert.ForwardReference2Ideal.nD Cert.ForwardReference2Ideal.τ).loc Cert.ForwardReference2Ideal.main_arg1)
      ∧ r.2.mem ((c.tc : Thread Cert.ForwardReference2Ideal.nD Cert.ForwardReference2Ideal.τ).loc Cert.ForwardReference2Ideal.main_arg2) = m ((c.tc : Thread Cert.ForwardReference2Ideal.nD Cert.ForwardReference2Ideal.τ).loc Cert.ForwardReference2Ideal.main_arg2)
      ∧ r.2.mem ((c.tc : Thread Cert.ForwardReference2Ideal.nD Cert.ForwardReference2Ideal.τ).loc Cert.ForwardReference2Ideal.main_arg3) = m ((c.tc : Thread Cert.ForwardReference2Ideal.nD Cert.ForwardReference2Ideal.τ).loc Cert.ForwardReference2Ideal.main_arg3)
      ∧ r.2.mem ((c.tc : Thread Cert.ForwardReference2Ideal.nD Cert.ForwardReference2Ideal.τ).loc Cert.ForwardReference2Ideal.main_arg4) = m ((c.tc : Thread Cert.ForwardReference2Ideal.nD Cert.ForwardReference2Ideal.τ).loc Cert.ForwardReference2Ideal.main_arg4)
      ∧ r.2.mem ((c.tc : Thread Cert.ForwardReference2Ideal.nD Cert.ForwardReference2Ideal.τ).loc Cert.ForwardReference2Ideal.main_arg5) = m ((c.tc : Thread Cert.ForwardReference2Ideal.nD Cert.ForwardReference2Ideal.τ).loc Cert.ForwardReference2Ideal.main_arg5)
      ∧ r.2.mem ((c.tc : Thread Cert.ForwardReference2Ideal.nD Cert.ForwardReference2Ideal.τ).loc Cert.ForwardReference2Ideal.main_arg6) = m ((c.tc : Thread Cert.ForwardReference2Ideal.nD Cert.ForwardReference2Ideal.τ).loc Cert.ForwardReference2Ideal.main_arg6)
      ∧ r.2.mem ((c.tc : Thread Cert.ForwardReference2Ideal.nD Cert.ForwardReference2Ideal.τ).loc Cert.ForwardReference2Ideal.main_arg7) = m ((c.tc : Thread Cert.ForwardReference2Ideal.nD Cert.ForwardReference2Ideal.τ).loc Cert.ForwardReference2Ideal.main_arg7)
      ∧ r.2.mem ((c.tc : Thread Cert.ForwardReference2Ideal.nD Cert.ForwardReference2Ideal.τ).loc Cert.ForwardReference2Ideal.main_arg8) = m ((c.tc : Thread Cert.ForwardReference2Ideal.nD Cert.ForwardReference2Ideal.τ).loc Cert.ForwardReference2Ideal.main_arg8))
      ∧ r.2.sem = fun _ => 0)

def quiescent_ForwardReference2Ideal_pre_finite_layer [hForwardReference2Ideal : Cert.ForwardReference2Ideal.Facts] [hPre_finite_layer : Cert.Pre_finite_layer.Facts] : Prop :=
  ∀ (m : (ℓ : Loc Cert.ForwardReference2Ideal.nD Cert.ForwardReference2Ideal.τ Cert.ForwardReference2Ideal.sig) → Buf (Elt Ideal) ℓ) (g : Dev Cert.ForwardReference2Ideal.nD → PrngReg), Pre_ForwardReference2Ideal_finite_layer m →
    θ_run (Cert.ForwardReference2Ideal.defs (F := Ideal)) (onTc (τ := Cert.ForwardReference2Ideal.τ) (Cert.ForwardReference2Ideal.main (F := Ideal))) ⟨m, fun _ => 0, g⟩ (fun r => (∀ c : Dev Cert.ForwardReference2Ideal.nD,
      r.2.mem ((c.tc : Thread Cert.ForwardReference2Ideal.nD Cert.ForwardReference2Ideal.τ).loc Cert.ForwardReference2Ideal.main_arg0) = m ((c.tc : Thread Cert.ForwardReference2Ideal.nD Cert.ForwardReference2Ideal.τ).loc Cert.ForwardReference2Ideal.main_arg0)
      ∧ r.2.mem ((c.tc : Thread Cert.ForwardReference2Ideal.nD Cert.ForwardReference2Ideal.τ).loc Cert.ForwardReference2Ideal.main_arg1) = m ((c.tc : Thread Cert.ForwardReference2Ideal.nD Cert.ForwardReference2Ideal.τ).loc Cert.ForwardReference2Ideal.main_arg1)
      ∧ r.2.mem ((c.tc : Thread Cert.ForwardReference2Ideal.nD Cert.ForwardReference2Ideal.τ).loc Cert.ForwardReference2Ideal.main_arg2) = m ((c.tc : Thread Cert.ForwardReference2Ideal.nD Cert.ForwardReference2Ideal.τ).loc Cert.ForwardReference2Ideal.main_arg2)
      ∧ r.2.mem ((c.tc : Thread Cert.ForwardReference2Ideal.nD Cert.ForwardReference2Ideal.τ).loc Cert.ForwardReference2Ideal.main_arg3) = m ((c.tc : Thread Cert.ForwardReference2Ideal.nD Cert.ForwardReference2Ideal.τ).loc Cert.ForwardReference2Ideal.main_arg3)
      ∧ r.2.mem ((c.tc : Thread Cert.ForwardReference2Ideal.nD Cert.ForwardReference2Ideal.τ).loc Cert.ForwardReference2Ideal.main_arg4) = m ((c.tc : Thread Cert.ForwardReference2Ideal.nD Cert.ForwardReference2Ideal.τ).loc Cert.ForwardReference2Ideal.main_arg4)
      ∧ r.2.mem ((c.tc : Thread Cert.ForwardReference2Ideal.nD Cert.ForwardReference2Ideal.τ).loc Cert.ForwardReference2Ideal.main_arg5) = m ((c.tc : Thread Cert.ForwardReference2Ideal.nD Cert.ForwardReference2Ideal.τ).loc Cert.ForwardReference2Ideal.main_arg5)
      ∧ r.2.mem ((c.tc : Thread Cert.ForwardReference2Ideal.nD Cert.ForwardReference2Ideal.τ).loc Cert.ForwardReference2Ideal.main_arg6) = m ((c.tc : Thread Cert.ForwardReference2Ideal.nD Cert.ForwardReference2Ideal.τ).loc Cert.ForwardReference2Ideal.main_arg6)
      ∧ r.2.mem ((c.tc : Thread Cert.ForwardReference2Ideal.nD Cert.ForwardReference2Ideal.τ).loc Cert.ForwardReference2Ideal.main_arg7) = m ((c.tc : Thread Cert.ForwardReference2Ideal.nD Cert.ForwardReference2Ideal.τ).loc Cert.ForwardReference2Ideal.main_arg7)
      ∧ r.2.mem ((c.tc : Thread Cert.ForwardReference2Ideal.nD Cert.ForwardReference2Ideal.τ).loc Cert.ForwardReference2Ideal.main_arg8) = m ((c.tc : Thread Cert.ForwardReference2Ideal.nD Cert.ForwardReference2Ideal.τ).loc Cert.ForwardReference2Ideal.main_arg8))
      ∧ r.2.sem = fun _ => 0)

def quiescent_Forward1 [hForward1 : Cert.Forward1.Facts] : Prop :=
  ∀ (m : (ℓ : Loc Cert.Forward1.nD Cert.Forward1.τ Cert.Forward1.sig) → Buf (Elt Bits) ℓ) (g : Dev Cert.Forward1.nD → PrngReg), Pre_Forward1 m →
    θ_run (Cert.Forward1.defs (F := Bits)) (onTc (τ := Cert.Forward1.τ) (Cert.Forward1.main (F := Bits))) ⟨m, fun _ => 0, g⟩ (fun r => (∀ c : Dev Cert.Forward1.nD,
      r.2.mem ((c.tc : Thread Cert.Forward1.nD Cert.Forward1.τ).loc Cert.Forward1.main_arg0) = m ((c.tc : Thread Cert.Forward1.nD Cert.Forward1.τ).loc Cert.Forward1.main_arg0)
      ∧ r.2.mem ((c.tc : Thread Cert.Forward1.nD Cert.Forward1.τ).loc Cert.Forward1.main_arg1) = m ((c.tc : Thread Cert.Forward1.nD Cert.Forward1.τ).loc Cert.Forward1.main_arg1)
      ∧ r.2.mem ((c.tc : Thread Cert.Forward1.nD Cert.Forward1.τ).loc Cert.Forward1.main_arg2) = m ((c.tc : Thread Cert.Forward1.nD Cert.Forward1.τ).loc Cert.Forward1.main_arg2)
      ∧ r.2.mem ((c.tc : Thread Cert.Forward1.nD Cert.Forward1.τ).loc Cert.Forward1.main_arg3) = m ((c.tc : Thread Cert.Forward1.nD Cert.Forward1.τ).loc Cert.Forward1.main_arg3)
      ∧ r.2.mem ((c.tc : Thread Cert.Forward1.nD Cert.Forward1.τ).loc Cert.Forward1.main_arg4) = m ((c.tc : Thread Cert.Forward1.nD Cert.Forward1.τ).loc Cert.Forward1.main_arg4)
      ∧ r.2.mem ((c.tc : Thread Cert.Forward1.nD Cert.Forward1.τ).loc Cert.Forward1.main_arg5) = m ((c.tc : Thread Cert.Forward1.nD Cert.Forward1.τ).loc Cert.Forward1.main_arg5)
      ∧ r.2.mem ((c.tc : Thread Cert.Forward1.nD Cert.Forward1.τ).loc Cert.Forward1.main_arg6) = m ((c.tc : Thread Cert.Forward1.nD Cert.Forward1.τ).loc Cert.Forward1.main_arg6)
      ∧ r.2.mem ((c.tc : Thread Cert.Forward1.nD Cert.Forward1.τ).loc Cert.Forward1.main_arg7) = m ((c.tc : Thread Cert.Forward1.nD Cert.Forward1.τ).loc Cert.Forward1.main_arg7)
      ∧ r.2.mem ((c.tc : Thread Cert.Forward1.nD Cert.Forward1.τ).loc Cert.Forward1.main_arg8) = m ((c.tc : Thread Cert.Forward1.nD Cert.Forward1.τ).loc Cert.Forward1.main_arg8))
      ∧ r.2.sem = fun _ => 0)

def quiescent_Forward1Ideal [hForward1Ideal : Cert.Forward1Ideal.Facts] : Prop :=
  ∀ (m : (ℓ : Loc Cert.Forward1Ideal.nD Cert.Forward1Ideal.τ Cert.Forward1Ideal.sig) → Buf (Elt Ideal) ℓ) (g : Dev Cert.Forward1Ideal.nD → PrngReg), Pre_Forward1Ideal m →
    θ_run (Cert.Forward1Ideal.defs (F := Ideal)) (onTc (τ := Cert.Forward1Ideal.τ) (Cert.Forward1Ideal.main (F := Ideal))) ⟨m, fun _ => 0, g⟩ (fun r => (∀ c : Dev Cert.Forward1Ideal.nD,
      r.2.mem ((c.tc : Thread Cert.Forward1Ideal.nD Cert.Forward1Ideal.τ).loc Cert.Forward1Ideal.main_arg0) = m ((c.tc : Thread Cert.Forward1Ideal.nD Cert.Forward1Ideal.τ).loc Cert.Forward1Ideal.main_arg0)
      ∧ r.2.mem ((c.tc : Thread Cert.Forward1Ideal.nD Cert.Forward1Ideal.τ).loc Cert.Forward1Ideal.main_arg1) = m ((c.tc : Thread Cert.Forward1Ideal.nD Cert.Forward1Ideal.τ).loc Cert.Forward1Ideal.main_arg1)
      ∧ r.2.mem ((c.tc : Thread Cert.Forward1Ideal.nD Cert.Forward1Ideal.τ).loc Cert.Forward1Ideal.main_arg2) = m ((c.tc : Thread Cert.Forward1Ideal.nD Cert.Forward1Ideal.τ).loc Cert.Forward1Ideal.main_arg2)
      ∧ r.2.mem ((c.tc : Thread Cert.Forward1Ideal.nD Cert.Forward1Ideal.τ).loc Cert.Forward1Ideal.main_arg3) = m ((c.tc : Thread Cert.Forward1Ideal.nD Cert.Forward1Ideal.τ).loc Cert.Forward1Ideal.main_arg3)
      ∧ r.2.mem ((c.tc : Thread Cert.Forward1Ideal.nD Cert.Forward1Ideal.τ).loc Cert.Forward1Ideal.main_arg4) = m ((c.tc : Thread Cert.Forward1Ideal.nD Cert.Forward1Ideal.τ).loc Cert.Forward1Ideal.main_arg4)
      ∧ r.2.mem ((c.tc : Thread Cert.Forward1Ideal.nD Cert.Forward1Ideal.τ).loc Cert.Forward1Ideal.main_arg5) = m ((c.tc : Thread Cert.Forward1Ideal.nD Cert.Forward1Ideal.τ).loc Cert.Forward1Ideal.main_arg5)
      ∧ r.2.mem ((c.tc : Thread Cert.Forward1Ideal.nD Cert.Forward1Ideal.τ).loc Cert.Forward1Ideal.main_arg6) = m ((c.tc : Thread Cert.Forward1Ideal.nD Cert.Forward1Ideal.τ).loc Cert.Forward1Ideal.main_arg6)
      ∧ r.2.mem ((c.tc : Thread Cert.Forward1Ideal.nD Cert.Forward1Ideal.τ).loc Cert.Forward1Ideal.main_arg7) = m ((c.tc : Thread Cert.Forward1Ideal.nD Cert.Forward1Ideal.τ).loc Cert.Forward1Ideal.main_arg7)
      ∧ r.2.mem ((c.tc : Thread Cert.Forward1Ideal.nD Cert.Forward1Ideal.τ).loc Cert.Forward1Ideal.main_arg8) = m ((c.tc : Thread Cert.Forward1Ideal.nD Cert.Forward1Ideal.τ).loc Cert.Forward1Ideal.main_arg8))
      ∧ r.2.sem = fun _ => 0)

def quiescent_Forward1Ideal_pre_finite_layer [hForward1Ideal : Cert.Forward1Ideal.Facts] [hPre_finite_layer : Cert.Pre_finite_layer.Facts] : Prop :=
  ∀ (m : (ℓ : Loc Cert.Forward1Ideal.nD Cert.Forward1Ideal.τ Cert.Forward1Ideal.sig) → Buf (Elt Ideal) ℓ) (g : Dev Cert.Forward1Ideal.nD → PrngReg), Pre_Forward1Ideal_finite_layer m →
    θ_run (Cert.Forward1Ideal.defs (F := Ideal)) (onTc (τ := Cert.Forward1Ideal.τ) (Cert.Forward1Ideal.main (F := Ideal))) ⟨m, fun _ => 0, g⟩ (fun r => (∀ c : Dev Cert.Forward1Ideal.nD,
      r.2.mem ((c.tc : Thread Cert.Forward1Ideal.nD Cert.Forward1Ideal.τ).loc Cert.Forward1Ideal.main_arg0) = m ((c.tc : Thread Cert.Forward1Ideal.nD Cert.Forward1Ideal.τ).loc Cert.Forward1Ideal.main_arg0)
      ∧ r.2.mem ((c.tc : Thread Cert.Forward1Ideal.nD Cert.Forward1Ideal.τ).loc Cert.Forward1Ideal.main_arg1) = m ((c.tc : Thread Cert.Forward1Ideal.nD Cert.Forward1Ideal.τ).loc Cert.Forward1Ideal.main_arg1)
      ∧ r.2.mem ((c.tc : Thread Cert.Forward1Ideal.nD Cert.Forward1Ideal.τ).loc Cert.Forward1Ideal.main_arg2) = m ((c.tc : Thread Cert.Forward1Ideal.nD Cert.Forward1Ideal.τ).loc Cert.Forward1Ideal.main_arg2)
      ∧ r.2.mem ((c.tc : Thread Cert.Forward1Ideal.nD Cert.Forward1Ideal.τ).loc Cert.Forward1Ideal.main_arg3) = m ((c.tc : Thread Cert.Forward1Ideal.nD Cert.Forward1Ideal.τ).loc Cert.Forward1Ideal.main_arg3)
      ∧ r.2.mem ((c.tc : Thread Cert.Forward1Ideal.nD Cert.Forward1Ideal.τ).loc Cert.Forward1Ideal.main_arg4) = m ((c.tc : Thread Cert.Forward1Ideal.nD Cert.Forward1Ideal.τ).loc Cert.Forward1Ideal.main_arg4)
      ∧ r.2.mem ((c.tc : Thread Cert.Forward1Ideal.nD Cert.Forward1Ideal.τ).loc Cert.Forward1Ideal.main_arg5) = m ((c.tc : Thread Cert.Forward1Ideal.nD Cert.Forward1Ideal.τ).loc Cert.Forward1Ideal.main_arg5)
      ∧ r.2.mem ((c.tc : Thread Cert.Forward1Ideal.nD Cert.Forward1Ideal.τ).loc Cert.Forward1Ideal.main_arg6) = m ((c.tc : Thread Cert.Forward1Ideal.nD Cert.Forward1Ideal.τ).loc Cert.Forward1Ideal.main_arg6)
      ∧ r.2.mem ((c.tc : Thread Cert.Forward1Ideal.nD Cert.Forward1Ideal.τ).loc Cert.Forward1Ideal.main_arg7) = m ((c.tc : Thread Cert.Forward1Ideal.nD Cert.Forward1Ideal.τ).loc Cert.Forward1Ideal.main_arg7)
      ∧ r.2.mem ((c.tc : Thread Cert.Forward1Ideal.nD Cert.Forward1Ideal.τ).loc Cert.Forward1Ideal.main_arg8) = m ((c.tc : Thread Cert.Forward1Ideal.nD Cert.Forward1Ideal.τ).loc Cert.Forward1Ideal.main_arg8))
      ∧ r.2.sem = fun _ => 0)

def quiescent_ForwardReference1Ideal [hForwardReference1Ideal : Cert.ForwardReference1Ideal.Facts] : Prop :=
  ∀ (m : (ℓ : Loc Cert.ForwardReference1Ideal.nD Cert.ForwardReference1Ideal.τ Cert.ForwardReference1Ideal.sig) → Buf (Elt Ideal) ℓ) (g : Dev Cert.ForwardReference1Ideal.nD → PrngReg), Pre_ForwardReference1Ideal m →
    θ_run (Cert.ForwardReference1Ideal.defs (F := Ideal)) (onTc (τ := Cert.ForwardReference1Ideal.τ) (Cert.ForwardReference1Ideal.main (F := Ideal))) ⟨m, fun _ => 0, g⟩ (fun r => (∀ c : Dev Cert.ForwardReference1Ideal.nD,
      r.2.mem ((c.tc : Thread Cert.ForwardReference1Ideal.nD Cert.ForwardReference1Ideal.τ).loc Cert.ForwardReference1Ideal.main_arg0) = m ((c.tc : Thread Cert.ForwardReference1Ideal.nD Cert.ForwardReference1Ideal.τ).loc Cert.ForwardReference1Ideal.main_arg0)
      ∧ r.2.mem ((c.tc : Thread Cert.ForwardReference1Ideal.nD Cert.ForwardReference1Ideal.τ).loc Cert.ForwardReference1Ideal.main_arg1) = m ((c.tc : Thread Cert.ForwardReference1Ideal.nD Cert.ForwardReference1Ideal.τ).loc Cert.ForwardReference1Ideal.main_arg1)
      ∧ r.2.mem ((c.tc : Thread Cert.ForwardReference1Ideal.nD Cert.ForwardReference1Ideal.τ).loc Cert.ForwardReference1Ideal.main_arg2) = m ((c.tc : Thread Cert.ForwardReference1Ideal.nD Cert.ForwardReference1Ideal.τ).loc Cert.ForwardReference1Ideal.main_arg2)
      ∧ r.2.mem ((c.tc : Thread Cert.ForwardReference1Ideal.nD Cert.ForwardReference1Ideal.τ).loc Cert.ForwardReference1Ideal.main_arg3) = m ((c.tc : Thread Cert.ForwardReference1Ideal.nD Cert.ForwardReference1Ideal.τ).loc Cert.ForwardReference1Ideal.main_arg3)
      ∧ r.2.mem ((c.tc : Thread Cert.ForwardReference1Ideal.nD Cert.ForwardReference1Ideal.τ).loc Cert.ForwardReference1Ideal.main_arg4) = m ((c.tc : Thread Cert.ForwardReference1Ideal.nD Cert.ForwardReference1Ideal.τ).loc Cert.ForwardReference1Ideal.main_arg4)
      ∧ r.2.mem ((c.tc : Thread Cert.ForwardReference1Ideal.nD Cert.ForwardReference1Ideal.τ).loc Cert.ForwardReference1Ideal.main_arg5) = m ((c.tc : Thread Cert.ForwardReference1Ideal.nD Cert.ForwardReference1Ideal.τ).loc Cert.ForwardReference1Ideal.main_arg5)
      ∧ r.2.mem ((c.tc : Thread Cert.ForwardReference1Ideal.nD Cert.ForwardReference1Ideal.τ).loc Cert.ForwardReference1Ideal.main_arg6) = m ((c.tc : Thread Cert.ForwardReference1Ideal.nD Cert.ForwardReference1Ideal.τ).loc Cert.ForwardReference1Ideal.main_arg6)
      ∧ r.2.mem ((c.tc : Thread Cert.ForwardReference1Ideal.nD Cert.ForwardReference1Ideal.τ).loc Cert.ForwardReference1Ideal.main_arg7) = m ((c.tc : Thread Cert.ForwardReference1Ideal.nD Cert.ForwardReference1Ideal.τ).loc Cert.ForwardReference1Ideal.main_arg7)
      ∧ r.2.mem ((c.tc : Thread Cert.ForwardReference1Ideal.nD Cert.ForwardReference1Ideal.τ).loc Cert.ForwardReference1Ideal.main_arg8) = m ((c.tc : Thread Cert.ForwardReference1Ideal.nD Cert.ForwardReference1Ideal.τ).loc Cert.ForwardReference1Ideal.main_arg8))
      ∧ r.2.sem = fun _ => 0)

def quiescent_ForwardReference1Ideal_pre_finite_layer [hForwardReference1Ideal : Cert.ForwardReference1Ideal.Facts] [hPre_finite_layer : Cert.Pre_finite_layer.Facts] : Prop :=
  ∀ (m : (ℓ : Loc Cert.ForwardReference1Ideal.nD Cert.ForwardReference1Ideal.τ Cert.ForwardReference1Ideal.sig) → Buf (Elt Ideal) ℓ) (g : Dev Cert.ForwardReference1Ideal.nD → PrngReg), Pre_ForwardReference1Ideal_finite_layer m →
    θ_run (Cert.ForwardReference1Ideal.defs (F := Ideal)) (onTc (τ := Cert.ForwardReference1Ideal.τ) (Cert.ForwardReference1Ideal.main (F := Ideal))) ⟨m, fun _ => 0, g⟩ (fun r => (∀ c : Dev Cert.ForwardReference1Ideal.nD,
      r.2.mem ((c.tc : Thread Cert.ForwardReference1Ideal.nD Cert.ForwardReference1Ideal.τ).loc Cert.ForwardReference1Ideal.main_arg0) = m ((c.tc : Thread Cert.ForwardReference1Ideal.nD Cert.ForwardReference1Ideal.τ).loc Cert.ForwardReference1Ideal.main_arg0)
      ∧ r.2.mem ((c.tc : Thread Cert.ForwardReference1Ideal.nD Cert.ForwardReference1Ideal.τ).loc Cert.ForwardReference1Ideal.main_arg1) = m ((c.tc : Thread Cert.ForwardReference1Ideal.nD Cert.ForwardReference1Ideal.τ).loc Cert.ForwardReference1Ideal.main_arg1)
      ∧ r.2.mem ((c.tc : Thread Cert.ForwardReference1Ideal.nD Cert.ForwardReference1Ideal.τ).loc Cert.ForwardReference1Ideal.main_arg2) = m ((c.tc : Thread Cert.ForwardReference1Ideal.nD Cert.ForwardReference1Ideal.τ).loc Cert.ForwardReference1Ideal.main_arg2)
      ∧ r.2.mem ((c.tc : Thread Cert.ForwardReference1Ideal.nD Cert.ForwardReference1Ideal.τ).loc Cert.ForwardReference1Ideal.main_arg3) = m ((c.tc : Thread Cert.ForwardReference1Ideal.nD Cert.ForwardReference1Ideal.τ).loc Cert.ForwardReference1Ideal.main_arg3)
      ∧ r.2.mem ((c.tc : Thread Cert.ForwardReference1Ideal.nD Cert.ForwardReference1Ideal.τ).loc Cert.ForwardReference1Ideal.main_arg4) = m ((c.tc : Thread Cert.ForwardReference1Ideal.nD Cert.ForwardReference1Ideal.τ).loc Cert.ForwardReference1Ideal.main_arg4)
      ∧ r.2.mem ((c.tc : Thread Cert.ForwardReference1Ideal.nD Cert.ForwardReference1Ideal.τ).loc Cert.ForwardReference1Ideal.main_arg5) = m ((c.tc : Thread Cert.ForwardReference1Ideal.nD Cert.ForwardReference1Ideal.τ).loc Cert.ForwardReference1Ideal.main_arg5)
      ∧ r.2.mem ((c.tc : Thread Cert.ForwardReference1Ideal.nD Cert.ForwardReference1Ideal.τ).loc Cert.ForwardReference1Ideal.main_arg6) = m ((c.tc : Thread Cert.ForwardReference1Ideal.nD Cert.ForwardReference1Ideal.τ).loc Cert.ForwardReference1Ideal.main_arg6)
      ∧ r.2.mem ((c.tc : Thread Cert.ForwardReference1Ideal.nD Cert.ForwardReference1Ideal.τ).loc Cert.ForwardReference1Ideal.main_arg7) = m ((c.tc : Thread Cert.ForwardReference1Ideal.nD Cert.ForwardReference1Ideal.τ).loc Cert.ForwardReference1Ideal.main_arg7)
      ∧ r.2.mem ((c.tc : Thread Cert.ForwardReference1Ideal.nD Cert.ForwardReference1Ideal.τ).loc Cert.ForwardReference1Ideal.main_arg8) = m ((c.tc : Thread Cert.ForwardReference1Ideal.nD Cert.ForwardReference1Ideal.τ).loc Cert.ForwardReference1Ideal.main_arg8))
      ∧ r.2.sem = fun _ => 0)

def quiescent_Forward0 [hForward0 : Cert.Forward0.Facts] : Prop :=
  ∀ (m : (ℓ : Loc Cert.Forward0.nD Cert.Forward0.τ Cert.Forward0.sig) → Buf (Elt Bits) ℓ) (g : Dev Cert.Forward0.nD → PrngReg), Pre_Forward0 m →
    θ_run (Cert.Forward0.defs (F := Bits)) (onTc (τ := Cert.Forward0.τ) (Cert.Forward0.main (F := Bits))) ⟨m, fun _ => 0, g⟩ (fun r => (∀ c : Dev Cert.Forward0.nD,
      r.2.mem ((c.tc : Thread Cert.Forward0.nD Cert.Forward0.τ).loc Cert.Forward0.main_arg0) = m ((c.tc : Thread Cert.Forward0.nD Cert.Forward0.τ).loc Cert.Forward0.main_arg0)
      ∧ r.2.mem ((c.tc : Thread Cert.Forward0.nD Cert.Forward0.τ).loc Cert.Forward0.main_arg1) = m ((c.tc : Thread Cert.Forward0.nD Cert.Forward0.τ).loc Cert.Forward0.main_arg1)
      ∧ r.2.mem ((c.tc : Thread Cert.Forward0.nD Cert.Forward0.τ).loc Cert.Forward0.main_arg2) = m ((c.tc : Thread Cert.Forward0.nD Cert.Forward0.τ).loc Cert.Forward0.main_arg2)
      ∧ r.2.mem ((c.tc : Thread Cert.Forward0.nD Cert.Forward0.τ).loc Cert.Forward0.main_arg3) = m ((c.tc : Thread Cert.Forward0.nD Cert.Forward0.τ).loc Cert.Forward0.main_arg3)
      ∧ r.2.mem ((c.tc : Thread Cert.Forward0.nD Cert.Forward0.τ).loc Cert.Forward0.main_arg4) = m ((c.tc : Thread Cert.Forward0.nD Cert.Forward0.τ).loc Cert.Forward0.main_arg4)
      ∧ r.2.mem ((c.tc : Thread Cert.Forward0.nD Cert.Forward0.τ).loc Cert.Forward0.main_arg5) = m ((c.tc : Thread Cert.Forward0.nD Cert.Forward0.τ).loc Cert.Forward0.main_arg5)
      ∧ r.2.mem ((c.tc : Thread Cert.Forward0.nD Cert.Forward0.τ).loc Cert.Forward0.main_arg6) = m ((c.tc : Thread Cert.Forward0.nD Cert.Forward0.τ).loc Cert.Forward0.main_arg6)
      ∧ r.2.mem ((c.tc : Thread Cert.Forward0.nD Cert.Forward0.τ).loc Cert.Forward0.main_arg7) = m ((c.tc : Thread Cert.Forward0.nD Cert.Forward0.τ).loc Cert.Forward0.main_arg7)
      ∧ r.2.mem ((c.tc : Thread Cert.Forward0.nD Cert.Forward0.τ).loc Cert.Forward0.main_arg8) = m ((c.tc : Thread Cert.Forward0.nD Cert.Forward0.τ).loc Cert.Forward0.main_arg8))
      ∧ r.2.sem = fun _ => 0)

def quiescent_Forward0Ideal [hForward0Ideal : Cert.Forward0Ideal.Facts] : Prop :=
  ∀ (m : (ℓ : Loc Cert.Forward0Ideal.nD Cert.Forward0Ideal.τ Cert.Forward0Ideal.sig) → Buf (Elt Ideal) ℓ) (g : Dev Cert.Forward0Ideal.nD → PrngReg), Pre_Forward0Ideal m →
    θ_run (Cert.Forward0Ideal.defs (F := Ideal)) (onTc (τ := Cert.Forward0Ideal.τ) (Cert.Forward0Ideal.main (F := Ideal))) ⟨m, fun _ => 0, g⟩ (fun r => (∀ c : Dev Cert.Forward0Ideal.nD,
      r.2.mem ((c.tc : Thread Cert.Forward0Ideal.nD Cert.Forward0Ideal.τ).loc Cert.Forward0Ideal.main_arg0) = m ((c.tc : Thread Cert.Forward0Ideal.nD Cert.Forward0Ideal.τ).loc Cert.Forward0Ideal.main_arg0)
      ∧ r.2.mem ((c.tc : Thread Cert.Forward0Ideal.nD Cert.Forward0Ideal.τ).loc Cert.Forward0Ideal.main_arg1) = m ((c.tc : Thread Cert.Forward0Ideal.nD Cert.Forward0Ideal.τ).loc Cert.Forward0Ideal.main_arg1)
      ∧ r.2.mem ((c.tc : Thread Cert.Forward0Ideal.nD Cert.Forward0Ideal.τ).loc Cert.Forward0Ideal.main_arg2) = m ((c.tc : Thread Cert.Forward0Ideal.nD Cert.Forward0Ideal.τ).loc Cert.Forward0Ideal.main_arg2)
      ∧ r.2.mem ((c.tc : Thread Cert.Forward0Ideal.nD Cert.Forward0Ideal.τ).loc Cert.Forward0Ideal.main_arg3) = m ((c.tc : Thread Cert.Forward0Ideal.nD Cert.Forward0Ideal.τ).loc Cert.Forward0Ideal.main_arg3)
      ∧ r.2.mem ((c.tc : Thread Cert.Forward0Ideal.nD Cert.Forward0Ideal.τ).loc Cert.Forward0Ideal.main_arg4) = m ((c.tc : Thread Cert.Forward0Ideal.nD Cert.Forward0Ideal.τ).loc Cert.Forward0Ideal.main_arg4)
      ∧ r.2.mem ((c.tc : Thread Cert.Forward0Ideal.nD Cert.Forward0Ideal.τ).loc Cert.Forward0Ideal.main_arg5) = m ((c.tc : Thread Cert.Forward0Ideal.nD Cert.Forward0Ideal.τ).loc Cert.Forward0Ideal.main_arg5)
      ∧ r.2.mem ((c.tc : Thread Cert.Forward0Ideal.nD Cert.Forward0Ideal.τ).loc Cert.Forward0Ideal.main_arg6) = m ((c.tc : Thread Cert.Forward0Ideal.nD Cert.Forward0Ideal.τ).loc Cert.Forward0Ideal.main_arg6)
      ∧ r.2.mem ((c.tc : Thread Cert.Forward0Ideal.nD Cert.Forward0Ideal.τ).loc Cert.Forward0Ideal.main_arg7) = m ((c.tc : Thread Cert.Forward0Ideal.nD Cert.Forward0Ideal.τ).loc Cert.Forward0Ideal.main_arg7)
      ∧ r.2.mem ((c.tc : Thread Cert.Forward0Ideal.nD Cert.Forward0Ideal.τ).loc Cert.Forward0Ideal.main_arg8) = m ((c.tc : Thread Cert.Forward0Ideal.nD Cert.Forward0Ideal.τ).loc Cert.Forward0Ideal.main_arg8))
      ∧ r.2.sem = fun _ => 0)

def quiescent_Forward0Ideal_pre_finite_layer [hForward0Ideal : Cert.Forward0Ideal.Facts] [hPre_finite_layer : Cert.Pre_finite_layer.Facts] : Prop :=
  ∀ (m : (ℓ : Loc Cert.Forward0Ideal.nD Cert.Forward0Ideal.τ Cert.Forward0Ideal.sig) → Buf (Elt Ideal) ℓ) (g : Dev Cert.Forward0Ideal.nD → PrngReg), Pre_Forward0Ideal_finite_layer m →
    θ_run (Cert.Forward0Ideal.defs (F := Ideal)) (onTc (τ := Cert.Forward0Ideal.τ) (Cert.Forward0Ideal.main (F := Ideal))) ⟨m, fun _ => 0, g⟩ (fun r => (∀ c : Dev Cert.Forward0Ideal.nD,
      r.2.mem ((c.tc : Thread Cert.Forward0Ideal.nD Cert.Forward0Ideal.τ).loc Cert.Forward0Ideal.main_arg0) = m ((c.tc : Thread Cert.Forward0Ideal.nD Cert.Forward0Ideal.τ).loc Cert.Forward0Ideal.main_arg0)
      ∧ r.2.mem ((c.tc : Thread Cert.Forward0Ideal.nD Cert.Forward0Ideal.τ).loc Cert.Forward0Ideal.main_arg1) = m ((c.tc : Thread Cert.Forward0Ideal.nD Cert.Forward0Ideal.τ).loc Cert.Forward0Ideal.main_arg1)
      ∧ r.2.mem ((c.tc : Thread Cert.Forward0Ideal.nD Cert.Forward0Ideal.τ).loc Cert.Forward0Ideal.main_arg2) = m ((c.tc : Thread Cert.Forward0Ideal.nD Cert.Forward0Ideal.τ).loc Cert.Forward0Ideal.main_arg2)
      ∧ r.2.mem ((c.tc : Thread Cert.Forward0Ideal.nD Cert.Forward0Ideal.τ).loc Cert.Forward0Ideal.main_arg3) = m ((c.tc : Thread Cert.Forward0Ideal.nD Cert.Forward0Ideal.τ).loc Cert.Forward0Ideal.main_arg3)
      ∧ r.2.mem ((c.tc : Thread Cert.Forward0Ideal.nD Cert.Forward0Ideal.τ).loc Cert.Forward0Ideal.main_arg4) = m ((c.tc : Thread Cert.Forward0Ideal.nD Cert.Forward0Ideal.τ).loc Cert.Forward0Ideal.main_arg4)
      ∧ r.2.mem ((c.tc : Thread Cert.Forward0Ideal.nD Cert.Forward0Ideal.τ).loc Cert.Forward0Ideal.main_arg5) = m ((c.tc : Thread Cert.Forward0Ideal.nD Cert.Forward0Ideal.τ).loc Cert.Forward0Ideal.main_arg5)
      ∧ r.2.mem ((c.tc : Thread Cert.Forward0Ideal.nD Cert.Forward0Ideal.τ).loc Cert.Forward0Ideal.main_arg6) = m ((c.tc : Thread Cert.Forward0Ideal.nD Cert.Forward0Ideal.τ).loc Cert.Forward0Ideal.main_arg6)
      ∧ r.2.mem ((c.tc : Thread Cert.Forward0Ideal.nD Cert.Forward0Ideal.τ).loc Cert.Forward0Ideal.main_arg7) = m ((c.tc : Thread Cert.Forward0Ideal.nD Cert.Forward0Ideal.τ).loc Cert.Forward0Ideal.main_arg7)
      ∧ r.2.mem ((c.tc : Thread Cert.Forward0Ideal.nD Cert.Forward0Ideal.τ).loc Cert.Forward0Ideal.main_arg8) = m ((c.tc : Thread Cert.Forward0Ideal.nD Cert.Forward0Ideal.τ).loc Cert.Forward0Ideal.main_arg8))
      ∧ r.2.sem = fun _ => 0)

def quiescent_ForwardReference0Ideal [hForwardReference0Ideal : Cert.ForwardReference0Ideal.Facts] : Prop :=
  ∀ (m : (ℓ : Loc Cert.ForwardReference0Ideal.nD Cert.ForwardReference0Ideal.τ Cert.ForwardReference0Ideal.sig) → Buf (Elt Ideal) ℓ) (g : Dev Cert.ForwardReference0Ideal.nD → PrngReg), Pre_ForwardReference0Ideal m →
    θ_run (Cert.ForwardReference0Ideal.defs (F := Ideal)) (onTc (τ := Cert.ForwardReference0Ideal.τ) (Cert.ForwardReference0Ideal.main (F := Ideal))) ⟨m, fun _ => 0, g⟩ (fun r => (∀ c : Dev Cert.ForwardReference0Ideal.nD,
      r.2.mem ((c.tc : Thread Cert.ForwardReference0Ideal.nD Cert.ForwardReference0Ideal.τ).loc Cert.ForwardReference0Ideal.main_arg0) = m ((c.tc : Thread Cert.ForwardReference0Ideal.nD Cert.ForwardReference0Ideal.τ).loc Cert.ForwardReference0Ideal.main_arg0)
      ∧ r.2.mem ((c.tc : Thread Cert.ForwardReference0Ideal.nD Cert.ForwardReference0Ideal.τ).loc Cert.ForwardReference0Ideal.main_arg1) = m ((c.tc : Thread Cert.ForwardReference0Ideal.nD Cert.ForwardReference0Ideal.τ).loc Cert.ForwardReference0Ideal.main_arg1)
      ∧ r.2.mem ((c.tc : Thread Cert.ForwardReference0Ideal.nD Cert.ForwardReference0Ideal.τ).loc Cert.ForwardReference0Ideal.main_arg2) = m ((c.tc : Thread Cert.ForwardReference0Ideal.nD Cert.ForwardReference0Ideal.τ).loc Cert.ForwardReference0Ideal.main_arg2)
      ∧ r.2.mem ((c.tc : Thread Cert.ForwardReference0Ideal.nD Cert.ForwardReference0Ideal.τ).loc Cert.ForwardReference0Ideal.main_arg3) = m ((c.tc : Thread Cert.ForwardReference0Ideal.nD Cert.ForwardReference0Ideal.τ).loc Cert.ForwardReference0Ideal.main_arg3)
      ∧ r.2.mem ((c.tc : Thread Cert.ForwardReference0Ideal.nD Cert.ForwardReference0Ideal.τ).loc Cert.ForwardReference0Ideal.main_arg4) = m ((c.tc : Thread Cert.ForwardReference0Ideal.nD Cert.ForwardReference0Ideal.τ).loc Cert.ForwardReference0Ideal.main_arg4)
      ∧ r.2.mem ((c.tc : Thread Cert.ForwardReference0Ideal.nD Cert.ForwardReference0Ideal.τ).loc Cert.ForwardReference0Ideal.main_arg5) = m ((c.tc : Thread Cert.ForwardReference0Ideal.nD Cert.ForwardReference0Ideal.τ).loc Cert.ForwardReference0Ideal.main_arg5)
      ∧ r.2.mem ((c.tc : Thread Cert.ForwardReference0Ideal.nD Cert.ForwardReference0Ideal.τ).loc Cert.ForwardReference0Ideal.main_arg6) = m ((c.tc : Thread Cert.ForwardReference0Ideal.nD Cert.ForwardReference0Ideal.τ).loc Cert.ForwardReference0Ideal.main_arg6)
      ∧ r.2.mem ((c.tc : Thread Cert.ForwardReference0Ideal.nD Cert.ForwardReference0Ideal.τ).loc Cert.ForwardReference0Ideal.main_arg7) = m ((c.tc : Thread Cert.ForwardReference0Ideal.nD Cert.ForwardReference0Ideal.τ).loc Cert.ForwardReference0Ideal.main_arg7)
      ∧ r.2.mem ((c.tc : Thread Cert.ForwardReference0Ideal.nD Cert.ForwardReference0Ideal.τ).loc Cert.ForwardReference0Ideal.main_arg8) = m ((c.tc : Thread Cert.ForwardReference0Ideal.nD Cert.ForwardReference0Ideal.τ).loc Cert.ForwardReference0Ideal.main_arg8))
      ∧ r.2.sem = fun _ => 0)

def quiescent_ForwardReference0Ideal_pre_finite_layer [hForwardReference0Ideal : Cert.ForwardReference0Ideal.Facts] [hPre_finite_layer : Cert.Pre_finite_layer.Facts] : Prop :=
  ∀ (m : (ℓ : Loc Cert.ForwardReference0Ideal.nD Cert.ForwardReference0Ideal.τ Cert.ForwardReference0Ideal.sig) → Buf (Elt Ideal) ℓ) (g : Dev Cert.ForwardReference0Ideal.nD → PrngReg), Pre_ForwardReference0Ideal_finite_layer m →
    θ_run (Cert.ForwardReference0Ideal.defs (F := Ideal)) (onTc (τ := Cert.ForwardReference0Ideal.τ) (Cert.ForwardReference0Ideal.main (F := Ideal))) ⟨m, fun _ => 0, g⟩ (fun r => (∀ c : Dev Cert.ForwardReference0Ideal.nD,
      r.2.mem ((c.tc : Thread Cert.ForwardReference0Ideal.nD Cert.ForwardReference0Ideal.τ).loc Cert.ForwardReference0Ideal.main_arg0) = m ((c.tc : Thread Cert.ForwardReference0Ideal.nD Cert.ForwardReference0Ideal.τ).loc Cert.ForwardReference0Ideal.main_arg0)
      ∧ r.2.mem ((c.tc : Thread Cert.ForwardReference0Ideal.nD Cert.ForwardReference0Ideal.τ).loc Cert.ForwardReference0Ideal.main_arg1) = m ((c.tc : Thread Cert.ForwardReference0Ideal.nD Cert.ForwardReference0Ideal.τ).loc Cert.ForwardReference0Ideal.main_arg1)
      ∧ r.2.mem ((c.tc : Thread Cert.ForwardReference0Ideal.nD Cert.ForwardReference0Ideal.τ).loc Cert.ForwardReference0Ideal.main_arg2) = m ((c.tc : Thread Cert.ForwardReference0Ideal.nD Cert.ForwardReference0Ideal.τ).loc Cert.ForwardReference0Ideal.main_arg2)
      ∧ r.2.mem ((c.tc : Thread Cert.ForwardReference0Ideal.nD Cert.ForwardReference0Ideal.τ).loc Cert.ForwardReference0Ideal.main_arg3) = m ((c.tc : Thread Cert.ForwardReference0Ideal.nD Cert.ForwardReference0Ideal.τ).loc Cert.ForwardReference0Ideal.main_arg3)
      ∧ r.2.mem ((c.tc : Thread Cert.ForwardReference0Ideal.nD Cert.ForwardReference0Ideal.τ).loc Cert.ForwardReference0Ideal.main_arg4) = m ((c.tc : Thread Cert.ForwardReference0Ideal.nD Cert.ForwardReference0Ideal.τ).loc Cert.ForwardReference0Ideal.main_arg4)
      ∧ r.2.mem ((c.tc : Thread Cert.ForwardReference0Ideal.nD Cert.ForwardReference0Ideal.τ).loc Cert.ForwardReference0Ideal.main_arg5) = m ((c.tc : Thread Cert.ForwardReference0Ideal.nD Cert.ForwardReference0Ideal.τ).loc Cert.ForwardReference0Ideal.main_arg5)
      ∧ r.2.mem ((c.tc : Thread Cert.ForwardReference0Ideal.nD Cert.ForwardReference0Ideal.τ).loc Cert.ForwardReference0Ideal.main_arg6) = m ((c.tc : Thread Cert.ForwardReference0Ideal.nD Cert.ForwardReference0Ideal.τ).loc Cert.ForwardReference0Ideal.main_arg6)
      ∧ r.2.mem ((c.tc : Thread Cert.ForwardReference0Ideal.nD Cert.ForwardReference0Ideal.τ).loc Cert.ForwardReference0Ideal.main_arg7) = m ((c.tc : Thread Cert.ForwardReference0Ideal.nD Cert.ForwardReference0Ideal.τ).loc Cert.ForwardReference0Ideal.main_arg7)
      ∧ r.2.mem ((c.tc : Thread Cert.ForwardReference0Ideal.nD Cert.ForwardReference0Ideal.τ).loc Cert.ForwardReference0Ideal.main_arg8) = m ((c.tc : Thread Cert.ForwardReference0Ideal.nD Cert.ForwardReference0Ideal.τ).loc Cert.ForwardReference0Ideal.main_arg8))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v208_0)) (v1 : (c : Dev Cert.KernelIdeal.nD) → Buf (Elt Ideal) ((c.tc : Thread Cert.KernelIdeal.nD Cert.KernelIdeal.τ).loc Cert.KernelIdeal.main_v208_1)) (v2 : (c : Dev Cert.KernelIdeal.nD) → Buf (Elt Ideal) ((c.tc : Thread Cert.KernelIdeal.nD Cert.KernelIdeal.τ).loc Cert.KernelIdeal.main_v208_2)) (v3 : (c : Dev Cert.KernelIdeal.nD) → Buf (Elt Ideal) ((c.tc : Thread Cert.KernelIdeal.nD Cert.KernelIdeal.τ).loc Cert.KernelIdeal.main_v208_3)) (v4 : (c : Dev Cert.KernelIdeal.nD) → Buf (Elt Ideal) ((c.tc : Thread Cert.KernelIdeal.nD Cert.KernelIdeal.τ).loc Cert.KernelIdeal.main_v208_4)) (v5 : (c : Dev Cert.KernelIdeal.nD) → Buf (Elt Ideal) ((c.tc : Thread Cert.KernelIdeal.nD Cert.KernelIdeal.τ).loc Cert.KernelIdeal.main_v208_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v208_0) = v0 c
          ∧ r.2.mem ((c.tc : Thread Cert.KernelIdeal.nD Cert.KernelIdeal.τ).loc Cert.KernelIdeal.main_v208_1) = v1 c
          ∧ r.2.mem ((c.tc : Thread Cert.KernelIdeal.nD Cert.KernelIdeal.τ).loc Cert.KernelIdeal.main_v208_2) = v2 c
          ∧ r.2.mem ((c.tc : Thread Cert.KernelIdeal.nD Cert.KernelIdeal.τ).loc Cert.KernelIdeal.main_v208_3) = v3 c
          ∧ r.2.mem ((c.tc : Thread Cert.KernelIdeal.nD Cert.KernelIdeal.τ).loc Cert.KernelIdeal.main_v208_4) = v4 c
          ∧ r.2.mem ((c.tc : Thread Cert.KernelIdeal.nD Cert.KernelIdeal.τ).loc Cert.KernelIdeal.main_v208_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v349) = v0 c
          ∧ r.2.mem ((c.tc : Thread Cert.ReferenceIdeal.nD Cert.ReferenceIdeal.τ).loc Cert.ReferenceIdeal.main_v359) = v1 c
          ∧ r.2.mem ((c.tc : Thread Cert.ReferenceIdeal.nD Cert.ReferenceIdeal.τ).loc Cert.ReferenceIdeal.main_v360) = v2 c
          ∧ r.2.mem ((c.tc : Thread Cert.ReferenceIdeal.nD Cert.ReferenceIdeal.τ).loc Cert.ReferenceIdeal.main_v361) = v3 c
          ∧ r.2.mem ((c.tc : Thread Cert.ReferenceIdeal.nD Cert.ReferenceIdeal.τ).loc Cert.ReferenceIdeal.main_v353) = v4 c
          ∧ r.2.mem ((c.tc : Thread Cert.ReferenceIdeal.nD Cert.ReferenceIdeal.τ).loc Cert.ReferenceIdeal.main_v358) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Forward_ForwardIdeal : Prop :=
  True

def algebraic_ForwardIdeal_ForwardReferenceIdeal_pre_finite [hForwardIdeal : Cert.ForwardIdeal.Facts] [hForwardReferenceIdeal : Cert.ForwardReferenceIdeal.Facts] [hPre_finite : Cert.Pre_finite.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal_finite m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)
      ∧ m' ((c.tc : Thread Cert.ForwardReferenceIdeal.nD Cert.ForwardReferenceIdeal.τ).loc Cert.ForwardReferenceIdeal.main_arg3) = m ((c.tc : Thread Cert.ForwardIdeal.nD Cert.ForwardIdeal.τ).loc Cert.ForwardIdeal.main_arg3)
      ∧ m' ((c.tc : Thread Cert.ForwardReferenceIdeal.nD Cert.ForwardReferenceIdeal.τ).loc Cert.ForwardReferenceIdeal.main_arg4) = m ((c.tc : Thread Cert.ForwardIdeal.nD Cert.ForwardIdeal.τ).loc Cert.ForwardIdeal.main_arg4)
      ∧ m' ((c.tc : Thread Cert.ForwardReferenceIdeal.nD Cert.ForwardReferenceIdeal.τ).loc Cert.ForwardReferenceIdeal.main_arg5) = m ((c.tc : Thread Cert.ForwardIdeal.nD Cert.ForwardIdeal.τ).loc Cert.ForwardIdeal.main_arg5)
      ∧ m' ((c.tc : Thread Cert.ForwardReferenceIdeal.nD Cert.ForwardReferenceIdeal.τ).loc Cert.ForwardReferenceIdeal.main_arg6) = m ((c.tc : Thread Cert.ForwardIdeal.nD Cert.ForwardIdeal.τ).loc Cert.ForwardIdeal.main_arg6)
      ∧ m' ((c.tc : Thread Cert.ForwardReferenceIdeal.nD Cert.ForwardReferenceIdeal.τ).loc Cert.ForwardReferenceIdeal.main_arg7) = m ((c.tc : Thread Cert.ForwardIdeal.nD Cert.ForwardIdeal.τ).loc Cert.ForwardIdeal.main_arg7)
      ∧ m' ((c.tc : Thread Cert.ForwardReferenceIdeal.nD Cert.ForwardReferenceIdeal.τ).loc Cert.ForwardReferenceIdeal.main_arg8) = m ((c.tc : Thread Cert.ForwardIdeal.nD Cert.ForwardIdeal.τ).loc Cert.ForwardIdeal.main_arg8)
      ∧ m' ((c.tc : Thread Cert.ForwardReferenceIdeal.nD Cert.ForwardReferenceIdeal.τ).loc Cert.ForwardReferenceIdeal.main_arg9) = m ((c.tc : Thread Cert.ForwardIdeal.nD Cert.ForwardIdeal.τ).loc Cert.ForwardIdeal.main_arg9)) →
    ∃ (v0 : (c : Dev Cert.ForwardIdeal.nD) → Buf (Elt Ideal) ((c.tc : Thread Cert.ForwardIdeal.nD Cert.ForwardIdeal.τ).loc Cert.ForwardIdeal.main_v11_0)) (v1 : (c : Dev Cert.ForwardIdeal.nD) → Buf (Elt Ideal) ((c.tc : Thread Cert.ForwardIdeal.nD Cert.ForwardIdeal.τ).loc Cert.ForwardIdeal.main_v11_1)) (v2 : (c : Dev Cert.ForwardIdeal.nD) → Buf (Elt Ideal) ((c.tc : Thread Cert.ForwardIdeal.nD Cert.ForwardIdeal.τ).loc Cert.ForwardIdeal.main_v11_2)) (v3 : (c : Dev Cert.ForwardIdeal.nD) → Buf (Elt Ideal) ((c.tc : Thread Cert.ForwardIdeal.nD Cert.ForwardIdeal.τ).loc Cert.ForwardIdeal.main_v11_3)) (v4 : (c : Dev Cert.ForwardIdeal.nD) → Buf (Elt Ideal) ((c.tc : Thread Cert.ForwardIdeal.nD Cert.ForwardIdeal.τ).loc Cert.ForwardIdeal.main_v11_4)) (v5 : (c : Dev Cert.ForwardIdeal.nD) → Buf (Elt Ideal) ((c.tc : Thread Cert.ForwardIdeal.nD Cert.ForwardIdeal.τ).loc Cert.ForwardIdeal.main_v11_5)) (v6 : (c : Dev Cert.ForwardIdeal.nD) → Buf (Elt Ideal) ((c.tc : Thread Cert.ForwardIdeal.nD Cert.ForwardIdeal.τ).loc Cert.ForwardIdeal.main_v11_6)) (v7 : (c : Dev Cert.ForwardIdeal.nD) → Buf (Elt Ideal) ((c.tc : Thread Cert.ForwardIdeal.nD Cert.ForwardIdeal.τ).loc Cert.ForwardIdeal.main_v11_7)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v11_0) = v0 c
          ∧ r.2.mem ((c.tc : Thread Cert.ForwardIdeal.nD Cert.ForwardIdeal.τ).loc Cert.ForwardIdeal.main_v11_1) = v1 c
          ∧ r.2.mem ((c.tc : Thread Cert.ForwardIdeal.nD Cert.ForwardIdeal.τ).loc Cert.ForwardIdeal.main_v11_2) = v2 c
          ∧ r.2.mem ((c.tc : Thread Cert.ForwardIdeal.nD Cert.ForwardIdeal.τ).loc Cert.ForwardIdeal.main_v11_3) = v3 c
          ∧ r.2.mem ((c.tc : Thread Cert.ForwardIdeal.nD Cert.ForwardIdeal.τ).loc Cert.ForwardIdeal.main_v11_4) = v4 c
          ∧ r.2.mem ((c.tc : Thread Cert.ForwardIdeal.nD Cert.ForwardIdeal.τ).loc Cert.ForwardIdeal.main_v11_5) = v5 c
          ∧ r.2.mem ((c.tc : Thread Cert.ForwardIdeal.nD Cert.ForwardIdeal.τ).loc Cert.ForwardIdeal.main_v11_6) = v6 c
          ∧ r.2.mem ((c.tc : Thread Cert.ForwardIdeal.nD Cert.ForwardIdeal.τ).loc Cert.ForwardIdeal.main_v11_7) = v7 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
          ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
          ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
          ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7)
          ∧ r.2.mem ((c.tc : Thread Cert.ForwardIdeal.nD Cert.ForwardIdeal.τ).loc Cert.ForwardIdeal.main_arg8) = m ((c.tc : Thread Cert.ForwardIdeal.nD Cert.ForwardIdeal.τ).loc Cert.ForwardIdeal.main_arg8)
          ∧ r.2.mem ((c.tc : Thread Cert.ForwardIdeal.nD Cert.ForwardIdeal.τ).loc Cert.ForwardIdeal.main_arg9) = m ((c.tc : Thread Cert.ForwardIdeal.nD Cert.ForwardIdeal.τ).loc Cert.ForwardIdeal.main_arg9))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v176) = v0 c
          ∧ r.2.mem ((c.tc : Thread Cert.ForwardReferenceIdeal.nD Cert.ForwardReferenceIdeal.τ).loc Cert.ForwardReferenceIdeal.main_v180) = v1 c
          ∧ r.2.mem ((c.tc : Thread Cert.ForwardReferenceIdeal.nD Cert.ForwardReferenceIdeal.τ).loc Cert.ForwardReferenceIdeal.main_v181) = v2 c
          ∧ r.2.mem ((c.tc : Thread Cert.ForwardReferenceIdeal.nD Cert.ForwardReferenceIdeal.τ).loc Cert.ForwardReferenceIdeal.main_v182) = v3 c
          ∧ r.2.mem ((c.tc : Thread Cert.ForwardReferenceIdeal.nD Cert.ForwardReferenceIdeal.τ).loc Cert.ForwardReferenceIdeal.main_v183) = v4 c
          ∧ r.2.mem ((c.tc : Thread Cert.ForwardReferenceIdeal.nD Cert.ForwardReferenceIdeal.τ).loc Cert.ForwardReferenceIdeal.main_v184) = v5 c
          ∧ r.2.mem ((c.tc : Thread Cert.ForwardReferenceIdeal.nD Cert.ForwardReferenceIdeal.τ).loc Cert.ForwardReferenceIdeal.main_v185) = v6 c
          ∧ r.2.mem ((c.tc : Thread Cert.ForwardReferenceIdeal.nD Cert.ForwardReferenceIdeal.τ).loc Cert.ForwardReferenceIdeal.main_v186) = v7 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2)
          ∧ r.2.mem ((c.tc : Thread Cert.ForwardReferenceIdeal.nD Cert.ForwardReferenceIdeal.τ).loc Cert.ForwardReferenceIdeal.main_arg3) = m' ((c.tc : Thread Cert.ForwardReferenceIdeal.nD Cert.ForwardReferenceIdeal.τ).loc Cert.ForwardReferenceIdeal.main_arg3)
          ∧ r.2.mem ((c.tc : Thread Cert.ForwardReferenceIdeal.nD Cert.ForwardReferenceIdeal.τ).loc Cert.ForwardReferenceIdeal.main_arg4) = m' ((c.tc : Thread Cert.ForwardReferenceIdeal.nD Cert.ForwardReferenceIdeal.τ).loc Cert.ForwardReferenceIdeal.main_arg4)
          ∧ r.2.mem ((c.tc : Thread Cert.ForwardReferenceIdeal.nD Cert.ForwardReferenceIdeal.τ).loc Cert.ForwardReferenceIdeal.main_arg5) = m' ((c.tc : Thread Cert.ForwardReferenceIdeal.nD Cert.ForwardReferenceIdeal.τ).loc Cert.ForwardReferenceIdeal.main_arg5)
          ∧ r.2.mem ((c.tc : Thread Cert.ForwardReferenceIdeal.nD Cert.ForwardReferenceIdeal.τ).loc Cert.ForwardReferenceIdeal.main_arg6) = m' ((c.tc : Thread Cert.ForwardReferenceIdeal.nD Cert.ForwardReferenceIdeal.τ).loc Cert.ForwardReferenceIdeal.main_arg6)
          ∧ r.2.mem ((c.tc : Thread Cert.ForwardReferenceIdeal.nD Cert.ForwardReferenceIdeal.τ).loc Cert.ForwardReferenceIdeal.main_arg7) = m' ((c.tc : Thread Cert.ForwardReferenceIdeal.nD Cert.ForwardReferenceIdeal.τ).loc Cert.ForwardReferenceIdeal.main_arg7)
          ∧ r.2.mem ((c.tc : Thread Cert.ForwardReferenceIdeal.nD Cert.ForwardReferenceIdeal.τ).loc Cert.ForwardReferenceIdeal.main_arg8) = m' ((c.tc : Thread Cert.ForwardReferenceIdeal.nD Cert.ForwardReferenceIdeal.τ).loc Cert.ForwardReferenceIdeal.main_arg8)
          ∧ r.2.mem ((c.tc : Thread Cert.ForwardReferenceIdeal.nD Cert.ForwardReferenceIdeal.τ).loc Cert.ForwardReferenceIdeal.main_arg9) = m' ((c.tc : Thread Cert.ForwardReferenceIdeal.nD Cert.ForwardReferenceIdeal.τ).loc Cert.ForwardReferenceIdeal.main_arg9))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v208_0)) (v1 : (c : Dev Cert.Kernel2Ideal.nD) → Buf (Elt Ideal) ((c.tc : Thread Cert.Kernel2Ideal.nD Cert.Kernel2Ideal.τ).loc Cert.Kernel2Ideal.main_v208_1)) (v2 : (c : Dev Cert.Kernel2Ideal.nD) → Buf (Elt Ideal) ((c.tc : Thread Cert.Kernel2Ideal.nD Cert.Kernel2Ideal.τ).loc Cert.Kernel2Ideal.main_v208_2)) (v3 : (c : Dev Cert.Kernel2Ideal.nD) → Buf (Elt Ideal) ((c.tc : Thread Cert.Kernel2Ideal.nD Cert.Kernel2Ideal.τ).loc Cert.Kernel2Ideal.main_v208_3)) (v4 : (c : Dev Cert.Kernel2Ideal.nD) → Buf (Elt Ideal) ((c.tc : Thread Cert.Kernel2Ideal.nD Cert.Kernel2Ideal.τ).loc Cert.Kernel2Ideal.main_v208_4)) (v5 : (c : Dev Cert.Kernel2Ideal.nD) → Buf (Elt Ideal) ((c.tc : Thread Cert.Kernel2Ideal.nD Cert.Kernel2Ideal.τ).loc Cert.Kernel2Ideal.main_v208_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v208_0) = v0 c
          ∧ r.2.mem ((c.tc : Thread Cert.Kernel2Ideal.nD Cert.Kernel2Ideal.τ).loc Cert.Kernel2Ideal.main_v208_1) = v1 c
          ∧ r.2.mem ((c.tc : Thread Cert.Kernel2Ideal.nD Cert.Kernel2Ideal.τ).loc Cert.Kernel2Ideal.main_v208_2) = v2 c
          ∧ r.2.mem ((c.tc : Thread Cert.Kernel2Ideal.nD Cert.Kernel2Ideal.τ).loc Cert.Kernel2Ideal.main_v208_3) = v3 c
          ∧ r.2.mem ((c.tc : Thread Cert.Kernel2Ideal.nD Cert.Kernel2Ideal.τ).loc Cert.Kernel2Ideal.main_v208_4) = v4 c
          ∧ r.2.mem ((c.tc : Thread Cert.Kernel2Ideal.nD Cert.Kernel2Ideal.τ).loc Cert.Kernel2Ideal.main_v208_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v349) = v0 c
          ∧ r.2.mem ((c.tc : Thread Cert.Reference2Ideal.nD Cert.Reference2Ideal.τ).loc Cert.Reference2Ideal.main_v359) = v1 c
          ∧ r.2.mem ((c.tc : Thread Cert.Reference2Ideal.nD Cert.Reference2Ideal.τ).loc Cert.Reference2Ideal.main_v360) = v2 c
          ∧ r.2.mem ((c.tc : Thread Cert.Reference2Ideal.nD Cert.Reference2Ideal.τ).loc Cert.Reference2Ideal.main_v361) = v3 c
          ∧ r.2.mem ((c.tc : Thread Cert.Reference2Ideal.nD Cert.Reference2Ideal.τ).loc Cert.Reference2Ideal.main_v353) = v4 c
          ∧ r.2.mem ((c.tc : Thread Cert.Reference2Ideal.nD Cert.Reference2Ideal.τ).loc Cert.Reference2Ideal.main_v358) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel1_Kernel1Ideal : Prop :=
  True

def algebraic_Kernel1Ideal_Reference1Ideal_pre_finite [hKernel1Ideal : Cert.Kernel1Ideal.Facts] [hReference1Ideal : Cert.Reference1Ideal.Facts] [hPre_finite : Cert.Pre_finite.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_finite m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
      ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)
      ∧ m' ((c.tc : Thread Cert.Reference1Ideal.nD Cert.Reference1Ideal.τ).loc Cert.Reference1Ideal.main_arg9) = m ((c.tc : Thread Cert.Kernel1Ideal.nD Cert.Kernel1Ideal.τ).loc Cert.Kernel1Ideal.main_arg9)) →
    ∃ (v0 : (c : Dev Cert.Kernel1Ideal.nD) → Buf (Elt Ideal) ((c.tc : Thread Cert.Kernel1Ideal.nD Cert.Kernel1Ideal.τ).loc Cert.Kernel1Ideal.main_v208_0)) (v1 : (c : Dev Cert.Kernel1Ideal.nD) → Buf (Elt Ideal) ((c.tc : Thread Cert.Kernel1Ideal.nD Cert.Kernel1Ideal.τ).loc Cert.Kernel1Ideal.main_v208_1)) (v2 : (c : Dev Cert.Kernel1Ideal.nD) → Buf (Elt Ideal) ((c.tc : Thread Cert.Kernel1Ideal.nD Cert.Kernel1Ideal.τ).loc Cert.Kernel1Ideal.main_v208_2)) (v3 : (c : Dev Cert.Kernel1Ideal.nD) → Buf (Elt Ideal) ((c.tc : Thread Cert.Kernel1Ideal.nD Cert.Kernel1Ideal.τ).loc Cert.Kernel1Ideal.main_v208_3)) (v4 : (c : Dev Cert.Kernel1Ideal.nD) → Buf (Elt Ideal) ((c.tc : Thread Cert.Kernel1Ideal.nD Cert.Kernel1Ideal.τ).loc Cert.Kernel1Ideal.main_v208_4)) (v5 : (c : Dev Cert.Kernel1Ideal.nD) → Buf (Elt Ideal) ((c.tc : Thread Cert.Kernel1Ideal.nD Cert.Kernel1Ideal.τ).loc Cert.Kernel1Ideal.main_v208_5)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v208_0) = v0 c
          ∧ r.2.mem ((c.tc : Thread Cert.Kernel1Ideal.nD Cert.Kernel1Ideal.τ).loc Cert.Kernel1Ideal.main_v208_1) = v1 c
          ∧ r.2.mem ((c.tc : Thread Cert.Kernel1Ideal.nD Cert.Kernel1Ideal.τ).loc Cert.Kernel1Ideal.main_v208_2) = v2 c
          ∧ r.2.mem ((c.tc : Thread Cert.Kernel1Ideal.nD Cert.Kernel1Ideal.τ).loc Cert.Kernel1Ideal.main_v208_3) = v3 c
          ∧ r.2.mem ((c.tc : Thread Cert.Kernel1Ideal.nD Cert.Kernel1Ideal.τ).loc Cert.Kernel1Ideal.main_v208_4) = v4 c
          ∧ r.2.mem ((c.tc : Thread Cert.Kernel1Ideal.nD Cert.Kernel1Ideal.τ).loc Cert.Kernel1Ideal.main_v208_5) = v5 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
          ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
          ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
          ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v349) = v0 c
          ∧ r.2.mem ((c.tc : Thread Cert.Reference1Ideal.nD Cert.Reference1Ideal.τ).loc Cert.Reference1Ideal.main_v359) = v1 c
          ∧ r.2.mem ((c.tc : Thread Cert.Reference1Ideal.nD Cert.Reference1Ideal.τ).loc Cert.Reference1Ideal.main_v360) = v2 c
          ∧ r.2.mem ((c.tc : Thread Cert.Reference1Ideal.nD Cert.Reference1Ideal.τ).loc Cert.Reference1Ideal.main_v361) = v3 c
          ∧ r.2.mem ((c.tc : Thread Cert.Reference1Ideal.nD Cert.Reference1Ideal.τ).loc Cert.Reference1Ideal.main_v353) = v4 c
          ∧ r.2.mem ((c.tc : Thread Cert.Reference1Ideal.nD Cert.Reference1Ideal.τ).loc Cert.Reference1Ideal.main_v358) = v5 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7)
          ∧ r.2.mem ((c.tc : Thread Cert.Reference1Ideal.nD Cert.Reference1Ideal.τ).loc Cert.Reference1Ideal.main_arg8) = m' ((c.tc : Thread Cert.Reference1Ideal.nD Cert.Reference1Ideal.τ).loc Cert.Reference1Ideal.main_arg8)
          ∧ r.2.mem ((c.tc : Thread Cert.Reference1Ideal.nD Cert.Reference1Ideal.τ).loc Cert.Reference1Ideal.main_arg9) = m' ((c.tc : Thread Cert.Reference1Ideal.nD Cert.Reference1Ideal.τ).loc Cert.Reference1Ideal.main_arg9))

def preserves_Kernel0_Kernel0Ideal : Prop :=
  True

def algebraic_Kernel0Ideal_Reference0Ideal_pre_finite [hKernel0Ideal : Cert.Kernel0Ideal.Facts] [hReference0Ideal : Cert.Reference0Ideal.Facts] [hPre_finite : Cert.Pre_finite.Facts] : Prop :=
  ∀ (m : (ℓ : Loc Cert.Kernel0Ideal.nD Cert.Kernel0Ideal.τ Cert.Kernel0Ideal.sig) → Buf (Elt Ideal) ℓ) (g : Dev Cert.Kernel0Ideal.nD → PrngReg)
    (m' : (ℓ : Loc Cert.Reference0Ideal.nD Cert.Reference0Ideal.τ Cert.Reference0Ideal.sig) → Buf (Elt Ideal) ℓ) (g' : Dev Cert.Reference0Ideal.nD → PrngReg), Pre_Kernel0Ideal_finite m →
    (∀ c : Dev Cert.Kernel0Ideal.nD,
      m' ((c.tc : Thread Cert.Reference0Ideal.nD Cert.Reference0Ideal.τ).loc Cert.Reference0Ideal.main_arg0) = m ((c.tc : Thread Cert.Kernel0Ideal.nD Cert.Kernel0Ideal.τ).loc Cert.Kernel0Ideal.main_arg0)
      ∧ m' ((c.tc : Thread Cert.Reference0Ideal.nD Cert.Reference0Ideal.τ).loc Cert.Reference0Ideal.main_arg1) = m ((c.tc : Thread Cert.Kernel0Ideal.nD Cert.Kernel0Ideal.τ).loc Cert.Kernel0Ideal.main_arg1)
      ∧ m' ((c.tc : Thread Cert.Reference0Ideal.nD Cert.Reference0Ideal.τ).loc Cert.Reference0Ideal.main_arg2) = m ((c.tc : Thread Cert.Kernel0Ideal.nD Cert.Kernel0Ideal.τ).loc Cert.Kernel0Ideal.main_arg2)
      ∧ m' ((c.tc : Thread Cert.Reference0Ideal.nD Cert.Reference0Ideal.τ).loc Cert.Reference0Ideal.main_arg3) = m ((c.tc : Thread Cert.Kernel0Ideal.nD Cert.Kernel0Ideal.τ).loc Cert.Kernel0Ideal.main_arg3)
      ∧ m' ((c.tc : Thread Cert.Reference0Ideal.nD Cert.Reference0Ideal.τ).loc Cert.Reference0Ideal.main_arg4) = m ((c.tc : Thread Cert.Kernel0Ideal.nD Cert.Kernel0Ideal.τ).loc Cert.Kernel0Ideal.main_arg4)
      ∧ m' ((c.tc : Thread Cert.Reference0Ideal.nD Cert.Reference0Ideal.τ).loc Cert.Reference0Ideal.main_arg5) = m ((c.tc : Thread Cert.Kernel0Ideal.nD Cert.Kernel0Ideal.τ).loc Cert.Kernel0Ideal.main_arg5)
      ∧ m' ((c.tc : Thread Cert.Reference0Ideal.nD Cert.Reference0Ideal.τ).loc Cert.Reference0Ideal.main_arg6) = m ((c.tc : Thread Cert.Kernel0Ideal.nD Cert.Kernel0Ideal.τ).loc Cert.Kernel0Ideal.main_arg6)
      ∧ m' ((c.tc : Thread Cert.Reference0Ideal.nD Cert.Reference0Ideal.τ).loc Cert.Reference0Ideal.main_arg7) = m ((c.tc : Thread Cert.Kernel0Ideal.nD Cert.Kernel0Ideal.τ).loc Cert.Kernel0Ideal.main_arg7)
      ∧ m' ((c.tc : Thread Cert.Reference0Ideal.nD Cert.Reference0Ideal.τ).loc Cert.Reference0Ideal.main_arg8) = m ((c.tc : Thread Cert.Kernel0Ideal.nD Cert.Kernel0Ideal.τ).loc Cert.Kernel0Ideal.main_arg8)
      ∧ m' ((c.tc : Thread Cert.Reference0Ideal.nD Cert.Reference0Ideal.τ).loc Cert.Reference0Ideal.main_arg9) = m ((c.tc : Thread Cert.Kernel0Ideal.nD Cert.Kernel0Ideal.τ).loc Cert.Kernel0Ideal.main_arg9)) →
    ∃ (v0 : (c : Dev Cert.Kernel0Ideal.nD) → Buf (Elt Ideal) ((c.tc : Thread Cert.Kernel0Ideal.nD Cert.Kernel0Ideal.τ).loc Cert.Kernel0Ideal.main_v208_0)) (v1 : (c : Dev Cert.Kernel0Ideal.nD) → Buf (Elt Ideal) ((c.tc : Thread Cert.Kernel0Ideal.nD Cert.Kernel0Ideal.τ).loc Cert.Kernel0Ideal.main_v208_1)) (v2 : (c : Dev Cert.Kernel0Ideal.nD) → Buf (Elt Ideal) ((c.tc : Thread Cert.Kernel0Ideal.nD Cert.Kernel0Ideal.τ).loc Cert.Kernel0Ideal.main_v208_2)) (v3 : (c : Dev Cert.Kernel0Ideal.nD) → Buf (Elt Ideal) ((c.tc : Thread Cert.Kernel0Ideal.nD Cert.Kernel0Ideal.τ).loc Cert.Kernel0Ideal.main_v208_3)) (v4 : (c : Dev Cert.Kernel0Ideal.nD) → Buf (Elt Ideal) ((c.tc : Thread Cert.Kernel0Ideal.nD Cert.Kernel0Ideal.τ).loc Cert.Kernel0Ideal.main_v208_4)) (v5 : (c : Dev Cert.Kernel0Ideal.nD) → Buf (Elt Ideal) ((c.tc : Thread Cert.Kernel0Ideal.nD Cert.Kernel0Ideal.τ).loc Cert.Kernel0Ideal.main_v208_5)),
      θ_run (Cert.Kernel0Ideal.defs (F := Ideal)) (onTc (τ := Cert.Kernel0Ideal.τ) (Cert.Kernel0Ideal.main (F := Ideal))) ⟨m, fun _ => 0, g⟩ (fun r => ∀ c : Dev Cert.Kernel0Ideal.nD,
          r.2.mem ((c.tc : Thread Cert.Kernel0Ideal.nD Cert.Kernel0Ideal.τ).loc Cert.Kernel0Ideal.main_v208_0) = v0 c
          ∧ r.2.mem ((c.tc : Thread Cert.Kernel0Ideal.nD Cert.Kernel0Ideal.τ).loc Cert.Kernel0Ideal.main_v208_1) = v1 c
          ∧ r.2.mem ((c.tc : Thread Cert.Kernel0Ideal.nD Cert.Kernel0Ideal.τ).loc Cert.Kernel0Ideal.main_v208_2) = v2 c
          ∧ r.2.mem ((c.tc : Thread Cert.Kernel0Ideal.nD Cert.Kernel0Ideal.τ).loc Cert.Kernel0Ideal.main_v208_3) = v3 c
          ∧ r.2.mem ((c.tc : Thread Cert.Kernel0Ideal.nD Cert.Kernel0Ideal.τ).loc Cert.Kernel0Ideal.main_v208_4) = v4 c
          ∧ r.2.mem ((c.tc : Thread Cert.Kernel0Ideal.nD Cert.Kernel0Ideal.τ).loc Cert.Kernel0Ideal.main_v208_5) = v5 c
          ∧ r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
          ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
          ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
          ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
          ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
          ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5)
          ∧ r.2.mem ((c.tc : Thread Cert.Kernel0Ideal.nD Cert.Kernel0Ideal.τ).loc Cert.Kernel0Ideal.main_arg6) = m ((c.tc : Thread Cert.Kernel0Ideal.nD Cert.Kernel0Ideal.τ).loc Cert.Kernel0Ideal.main_arg6)
          ∧ r.2.mem ((c.tc : Thread Cert.Kernel0Ideal.nD Cert.Kernel0Ideal.τ).loc Cert.Kernel0Ideal.main_arg7) = m ((c.tc : Thread Cert.Kernel0Ideal.nD Cert.Kernel0Ideal.τ).loc Cert.Kernel0Ideal.main_arg7)
          ∧ r.2.mem ((c.tc : Thread Cert.Kernel0Ideal.nD Cert.Kernel0Ideal.τ).loc Cert.Kernel0Ideal.main_arg8) = m ((c.tc : Thread Cert.Kernel0Ideal.nD Cert.Kernel0Ideal.τ).loc Cert.Kernel0Ideal.main_arg8)
          ∧ r.2.mem ((c.tc : Thread Cert.Kernel0Ideal.nD Cert.Kernel0Ideal.τ).loc Cert.Kernel0Ideal.main_arg9) = m ((c.tc : Thread Cert.Kernel0Ideal.nD Cert.Kernel0Ideal.τ).loc Cert.Kernel0Ideal.main_arg9))
      ∧ θ_run (Cert.Reference0Ideal.defs (F := Ideal)) (onTc (τ := Cert.Reference0Ideal.τ) (Cert.Reference0Ideal.main (F := Ideal))) ⟨m', fun _ => 0, g'⟩ (fun r => ∀ c : Dev Cert.Reference0Ideal.nD,
          r.2.mem ((c.tc : Thread Cert.Reference0Ideal.nD Cert.Reference0Ideal.τ).loc Cert.Reference0Ideal.main_v349) = v0 c
          ∧ r.2.mem ((c.tc : Thread Cert.Reference0Ideal.nD Cert.Reference0Ideal.τ).loc Cert.Reference0Ideal.main_v359) = v1 c
          ∧ r.2.mem ((c.tc : Thread Cert.Reference0Ideal.nD Cert.Reference0Ideal.τ).loc Cert.Reference0Ideal.main_v360) = v2 c
          ∧ r.2.mem ((c.tc : Thread Cert.Reference0Ideal.nD Cert.Reference0Ideal.τ).loc Cert.Reference0Ideal.main_v361) = v3 c
          ∧ r.2.mem ((c.tc : Thread Cert.Reference0Ideal.nD Cert.Reference0Ideal.τ).loc Cert.Reference0Ideal.main_v353) = v4 c
          ∧ r.2.mem ((c.tc : Thread Cert.Reference0Ideal.nD Cert.Reference0Ideal.τ).loc Cert.Reference0Ideal.main_v358) = v5 c
          ∧ r.2.mem ((c.tc : Thread Cert.Reference0Ideal.nD Cert.Reference0Ideal.τ).loc Cert.Reference0Ideal.main_arg0) = m' ((c.tc : Thread Cert.Reference0Ideal.nD Cert.Reference0Ideal.τ).loc Cert.Reference0Ideal.main_arg0)
          ∧ r.2.mem ((c.tc : Thread Cert.Reference0Ideal.nD Cert.Reference0Ideal.τ).loc Cert.Reference0Ideal.main_arg1) = m' ((c.tc : Thread Cert.Reference0Ideal.nD Cert.Reference0Ideal.τ).loc Cert.Reference0Ideal.main_arg1)
          ∧ r.2.mem ((c.tc : Thread Cert.Reference0Ideal.nD Cert.Reference0Ideal.τ).loc Cert.Reference0Ideal.main_arg2) = m' ((c.tc : Thread Cert.Reference0Ideal.nD Cert.Reference0Ideal.τ).loc Cert.Reference0Ideal.main_arg2)
          ∧ r.2.mem ((c.tc : Thread Cert.Reference0Ideal.nD Cert.Reference0Ideal.τ).loc Cert.Reference0Ideal.main_arg3) = m' ((c.tc : Thread Cert.Reference0Ideal.nD Cert.Reference0Ideal.τ).loc Cert.Reference0Ideal.main_arg3)
          ∧ r.2.mem ((c.tc : Thread Cert.Reference0Ideal.nD Cert.Reference0Ideal.τ).loc Cert.Reference0Ideal.main_arg4) = m' ((c.tc : Thread Cert.Reference0Ideal.nD Cert.Reference0Ideal.τ).loc Cert.Reference0Ideal.main_arg4)
          ∧ r.2.mem ((c.tc : Thread Cert.Reference0Ideal.nD Cert.Reference0Ideal.τ).loc Cert.Reference0Ideal.main_arg5) = m' ((c.tc : Thread Cert.Reference0Ideal.nD Cert.Reference0Ideal.τ).loc Cert.Reference0Ideal.main_arg5)
          ∧ r.2.mem ((c.tc : Thread Cert.Reference0Ideal.nD Cert.Reference0Ideal.τ).loc Cert.Reference0Ideal.main_arg6) = m' ((c.tc : Thread Cert.Reference0Ideal.nD Cert.Reference0Ideal.τ).loc Cert.Reference0Ideal.main_arg6)
          ∧ r.2.mem ((c.tc : Thread Cert.Reference0Ideal.nD Cert.Reference0Ideal.τ).loc Cert.Reference0Ideal.main_arg7) = m' ((c.tc : Thread Cert.Reference0Ideal.nD Cert.Reference0Ideal.τ).loc Cert.Reference0Ideal.main_arg7)
          ∧ r.2.mem ((c.tc : Thread Cert.Reference0Ideal.nD Cert.Reference0Ideal.τ).loc Cert.Reference0Ideal.main_arg8) = m' ((c.tc : Thread Cert.Reference0Ideal.nD Cert.Reference0Ideal.τ).loc Cert.Reference0Ideal.main_arg8)
          ∧ r.2.mem ((c.tc : Thread Cert.Reference0Ideal.nD Cert.Reference0Ideal.τ).loc Cert.Reference0Ideal.main_arg9) = m' ((c.tc : Thread Cert.Reference0Ideal.nD Cert.Reference0Ideal.τ).loc Cert.Reference0Ideal.main_arg9))

def preserves_Forward2_Forward2Ideal : Prop :=
  True

def algebraic_Forward2Ideal_ForwardReference2Ideal_pre_finite_layer [hForward2Ideal : Cert.Forward2Ideal.Facts] [hForwardReference2Ideal : Cert.ForwardReference2Ideal.Facts] [hPre_finite_layer : Cert.Pre_finite_layer.Facts] : Prop :=
  ∀ (m : (ℓ : Loc Cert.Forward2Ideal.nD Cert.Forward2Ideal.τ Cert.Forward2Ideal.sig) → Buf (Elt Ideal) ℓ) (g : Dev Cert.Forward2Ideal.nD → PrngReg)
    (m' : (ℓ : Loc Cert.ForwardReference2Ideal.nD Cert.ForwardReference2Ideal.τ Cert.ForwardReference2Ideal.sig) → Buf (Elt Ideal) ℓ) (g' : Dev Cert.ForwardReference2Ideal.nD → PrngReg), Pre_Forward2Ideal_finite_layer m →
    (∀ c : Dev Cert.Forward2Ideal.nD,
      m' ((c.tc : Thread Cert.ForwardReference2Ideal.nD Cert.ForwardReference2Ideal.τ).loc Cert.ForwardReference2Ideal.main_arg0) = m ((c.tc : Thread Cert.Forward2Ideal.nD Cert.Forward2Ideal.τ).loc Cert.Forward2Ideal.main_arg0)
      ∧ m' ((c.tc : Thread Cert.ForwardReference2Ideal.nD Cert.ForwardReference2Ideal.τ).loc Cert.ForwardReference2Ideal.main_arg1) = m ((c.tc : Thread Cert.Forward2Ideal.nD Cert.Forward2Ideal.τ).loc Cert.Forward2Ideal.main_arg1)
      ∧ m' ((c.tc : Thread Cert.ForwardReference2Ideal.nD Cert.ForwardReference2Ideal.τ).loc Cert.ForwardReference2Ideal.main_arg2) = m ((c.tc : Thread Cert.Forward2Ideal.nD Cert.Forward2Ideal.τ).loc Cert.Forward2Ideal.main_arg2)
      ∧ m' ((c.tc : Thread Cert.ForwardReference2Ideal.nD Cert.ForwardReference2Ideal.τ).loc Cert.ForwardReference2Ideal.main_arg3) = m ((c.tc : Thread Cert.Forward2Ideal.nD Cert.Forward2Ideal.τ).loc Cert.Forward2Ideal.main_arg3)
      ∧ m' ((c.tc : Thread Cert.ForwardReference2Ideal.nD Cert.ForwardReference2Ideal.τ).loc Cert.ForwardReference2Ideal.main_arg4) = m ((c.tc : Thread Cert.Forward2Ideal.nD Cert.Forward2Ideal.τ).loc Cert.Forward2Ideal.main_arg4)
      ∧ m' ((c.tc : Thread Cert.ForwardReference2Ideal.nD Cert.ForwardReference2Ideal.τ).loc Cert.ForwardReference2Ideal.main_arg5) = m ((c.tc : Thread Cert.Forward2Ideal.nD Cert.Forward2Ideal.τ).loc Cert.Forward2Ideal.main_arg5)
      ∧ m' ((c.tc : Thread Cert.ForwardReference2Ideal.nD Cert.ForwardReference2Ideal.τ).loc Cert.ForwardReference2Ideal.main_arg6) = m ((c.tc : Thread Cert.Forward2Ideal.nD Cert.Forward2Ideal.τ).loc Cert.Forward2Ideal.main_arg6)
      ∧ m' ((c.tc : Thread Cert.ForwardReference2Ideal.nD Cert.ForwardReference2Ideal.τ).loc Cert.ForwardReference2Ideal.main_arg7) = m ((c.tc : Thread Cert.Forward2Ideal.nD Cert.Forward2Ideal.τ).loc Cert.Forward2Ideal.main_arg7)
      ∧ m' ((c.tc : Thread Cert.ForwardReference2Ideal.nD Cert.ForwardReference2Ideal.τ).loc Cert.ForwardReference2Ideal.main_arg8) = m ((c.tc : Thread Cert.Forward2Ideal.nD Cert.Forward2Ideal.τ).loc Cert.Forward2Ideal.main_arg8)) →
    ∃ (v0 : (c : Dev Cert.Forward2Ideal.nD) → Buf (Elt Ideal) ((c.tc : Thread Cert.Forward2Ideal.nD Cert.Forward2Ideal.τ).loc Cert.Forward2Ideal.main_v11_0)) (v1 : (c : Dev Cert.Forward2Ideal.nD) → Buf (Elt Ideal) ((c.tc : Thread Cert.Forward2Ideal.nD Cert.Forward2Ideal.τ).loc Cert.Forward2Ideal.main_v11_1)) (v2 : (c : Dev Cert.Forward2Ideal.nD) → Buf (Elt Ideal) ((c.tc : Thread Cert.Forward2Ideal.nD Cert.Forward2Ideal.τ).loc Cert.Forward2Ideal.main_v11_2)) (v3 : (c : Dev Cert.Forward2Ideal.nD) → Buf (Elt Ideal) ((c.tc : Thread Cert.Forward2Ideal.nD Cert.Forward2Ideal.τ).loc Cert.Forward2Ideal.main_v11_3)) (v4 : (c : Dev Cert.Forward2Ideal.nD) → Buf (Elt Ideal) ((c.tc : Thread Cert.Forward2Ideal.nD Cert.Forward2Ideal.τ).loc Cert.Forward2Ideal.main_v11_4)) (v5 : (c : Dev Cert.Forward2Ideal.nD) → Buf (Elt Ideal) ((c.tc : Thread Cert.Forward2Ideal.nD Cert.Forward2Ideal.τ).loc Cert.Forward2Ideal.main_v11_5)) (v6 : (c : Dev Cert.Forward2Ideal.nD) → Buf (Elt Ideal) ((c.tc : Thread Cert.Forward2Ideal.nD Cert.Forward2Ideal.τ).loc Cert.Forward2Ideal.main_v11_6)),
      θ_run (Cert.Forward2Ideal.defs (F := Ideal)) (onTc (τ := Cert.Forward2Ideal.τ) (Cert.Forward2Ideal.main (F := Ideal))) ⟨m, fun _ => 0, g⟩ (fun r => ∀ c : Dev Cert.Forward2Ideal.nD,
          r.2.mem ((c.tc : Thread Cert.Forward2Ideal.nD Cert.Forward2Ideal.τ).loc Cert.Forward2Ideal.main_v11_0) = v0 c
          ∧ r.2.mem ((c.tc : Thread Cert.Forward2Ideal.nD Cert.Forward2Ideal.τ).loc Cert.Forward2Ideal.main_v11_1) = v1 c
          ∧ r.2.mem ((c.tc : Thread Cert.Forward2Ideal.nD Cert.Forward2Ideal.τ).loc Cert.Forward2Ideal.main_v11_2) = v2 c
          ∧ r.2.mem ((c.tc : Thread Cert.Forward2Ideal.nD Cert.Forward2Ideal.τ).loc Cert.Forward2Ideal.main_v11_3) = v3 c
          ∧ r.2.mem ((c.tc : Thread Cert.Forward2Ideal.nD Cert.Forward2Ideal.τ).loc Cert.Forward2Ideal.main_v11_4) = v4 c
          ∧ r.2.mem ((c.tc : Thread Cert.Forward2Ideal.nD Cert.Forward2Ideal.τ).loc Cert.Forward2Ideal.main_v11_5) = v5 c
          ∧ r.2.mem ((c.tc : Thread Cert.Forward2Ideal.nD Cert.Forward2Ideal.τ).loc Cert.Forward2Ideal.main_v11_6) = v6 c
          ∧ r.2.mem ((c.tc : Thread Cert.Forward2Ideal.nD Cert.Forward2Ideal.τ).loc Cert.Forward2Ideal.main_arg0) = m ((c.tc : Thread Cert.Forward2Ideal.nD Cert.Forward2Ideal.τ).loc Cert.Forward2Ideal.main_arg0)
          ∧ r.2.mem ((c.tc : Thread Cert.Forward2Ideal.nD Cert.Forward2Ideal.τ).loc Cert.Forward2Ideal.main_arg1) = m ((c.tc : Thread Cert.Forward2Ideal.nD Cert.Forward2Ideal.τ).loc Cert.Forward2Ideal.main_arg1)
          ∧ r.2.mem ((c.tc : Thread Cert.Forward2Ideal.nD Cert.Forward2Ideal.τ).loc Cert.Forward2Ideal.main_arg2) = m ((c.tc : Thread Cert.Forward2Ideal.nD Cert.Forward2Ideal.τ).loc Cert.Forward2Ideal.main_arg2)
          ∧ r.2.mem ((c.tc : Thread Cert.Forward2Ideal.nD Cert.Forward2Ideal.τ).loc Cert.Forward2Ideal.main_arg3) = m ((c.tc : Thread Cert.Forward2Ideal.nD Cert.Forward2Ideal.τ).loc Cert.Forward2Ideal.main_arg3)
          ∧ r.2.mem ((c.tc : Thread Cert.Forward2Ideal.nD Cert.Forward2Ideal.τ).loc Cert.Forward2Ideal.main_arg4) = m ((c.tc : Thread Cert.Forward2Ideal.nD Cert.Forward2Ideal.τ).loc Cert.Forward2Ideal.main_arg4)
          ∧ r.2.mem ((c.tc : Thread Cert.Forward2Ideal.nD Cert.Forward2Ideal.τ).loc Cert.Forward2Ideal.main_arg5) = m ((c.tc : Thread Cert.Forward2Ideal.nD Cert.Forward2Ideal.τ).loc Cert.Forward2Ideal.main_arg5)
          ∧ r.2.mem ((c.tc : Thread Cert.Forward2Ideal.nD Cert.Forward2Ideal.τ).loc Cert.Forward2Ideal.main_arg6) = m ((c.tc : Thread Cert.Forward2Ideal.nD Cert.Forward2Ideal.τ).loc Cert.Forward2Ideal.main_arg6)
          ∧ r.2.mem ((c.tc : Thread Cert.Forward2Ideal.nD Cert.Forward2Ideal.τ).loc Cert.Forward2Ideal.main_arg7) = m ((c.tc : Thread Cert.Forward2Ideal.nD Cert.Forward2Ideal.τ).loc Cert.Forward2Ideal.main_arg7)
          ∧ r.2.mem ((c.tc : Thread Cert.Forward2Ideal.nD Cert.Forward2Ideal.τ).loc Cert.Forward2Ideal.main_arg8) = m ((c.tc : Thread Cert.Forward2Ideal.nD Cert.Forward2Ideal.τ).loc Cert.Forward2Ideal.main_arg8))
      ∧ θ_run (Cert.ForwardReference2Ideal.defs (F := Ideal)) (onTc (τ := Cert.ForwardReference2Ideal.τ) (Cert.ForwardReference2Ideal.main (F := Ideal))) ⟨m', fun _ => 0, g'⟩ (fun r => ∀ c : Dev Cert.ForwardReference2Ideal.nD,
          r.2.mem ((c.tc : Thread Cert.ForwardReference2Ideal.nD Cert.ForwardReference2Ideal.τ).loc Cert.ForwardReference2Ideal.main_v161) = v0 c
          ∧ r.2.mem ((c.tc : Thread Cert.ForwardReference2Ideal.nD Cert.ForwardReference2Ideal.τ).loc Cert.ForwardReference2Ideal.main_v165) = v1 c
          ∧ r.2.mem ((c.tc : Thread Cert.ForwardReference2Ideal.nD Cert.ForwardReference2Ideal.τ).loc Cert.ForwardReference2Ideal.main_v166) = v2 c
          ∧ r.2.mem ((c.tc : Thread Cert.ForwardReference2Ideal.nD Cert.ForwardReference2Ideal.τ).loc Cert.ForwardReference2Ideal.main_v167) = v3 c
          ∧ r.2.mem ((c.tc : Thread Cert.ForwardReference2Ideal.nD Cert.ForwardReference2Ideal.τ).loc Cert.ForwardReference2Ideal.main_v168) = v4 c
          ∧ r.2.mem ((c.tc : Thread Cert.ForwardReference2Ideal.nD Cert.ForwardReference2Ideal.τ).loc Cert.ForwardReference2Ideal.main_v169) = v5 c
          ∧ r.2.mem ((c.tc : Thread Cert.ForwardReference2Ideal.nD Cert.ForwardReference2Ideal.τ).loc Cert.ForwardReference2Ideal.main_v170) = v6 c
          ∧ r.2.mem ((c.tc : Thread Cert.ForwardReference2Ideal.nD Cert.ForwardReference2Ideal.τ).loc Cert.ForwardReference2Ideal.main_arg0) = m' ((c.tc : Thread Cert.ForwardReference2Ideal.nD Cert.ForwardReference2Ideal.τ).loc Cert.ForwardReference2Ideal.main_arg0)
          ∧ r.2.mem ((c.tc : Thread Cert.ForwardReference2Ideal.nD Cert.ForwardReference2Ideal.τ).loc Cert.ForwardReference2Ideal.main_arg1) = m' ((c.tc : Thread Cert.ForwardReference2Ideal.nD Cert.ForwardReference2Ideal.τ).loc Cert.ForwardReference2Ideal.main_arg1)
          ∧ r.2.mem ((c.tc : Thread Cert.ForwardReference2Ideal.nD Cert.ForwardReference2Ideal.τ).loc Cert.ForwardReference2Ideal.main_arg2) = m' ((c.tc : Thread Cert.ForwardReference2Ideal.nD Cert.ForwardReference2Ideal.τ).loc Cert.ForwardReference2Ideal.main_arg2)
          ∧ r.2.mem ((c.tc : Thread Cert.ForwardReference2Ideal.nD Cert.ForwardReference2Ideal.τ).loc Cert.ForwardReference2Ideal.main_arg3) = m' ((c.tc : Thread Cert.ForwardReference2Ideal.nD Cert.ForwardReference2Ideal.τ).loc Cert.ForwardReference2Ideal.main_arg3)
          ∧ r.2.mem ((c.tc : Thread Cert.ForwardReference2Ideal.nD Cert.ForwardReference2Ideal.τ).loc Cert.ForwardReference2Ideal.main_arg4) = m' ((c.tc : Thread Cert.ForwardReference2Ideal.nD Cert.ForwardReference2Ideal.τ).loc Cert.ForwardReference2Ideal.main_arg4)
          ∧ r.2.mem ((c.tc : Thread Cert.ForwardReference2Ideal.nD Cert.ForwardReference2Ideal.τ).loc Cert.ForwardReference2Ideal.main_arg5) = m' ((c.tc : Thread Cert.ForwardReference2Ideal.nD Cert.ForwardReference2Ideal.τ).loc Cert.ForwardReference2Ideal.main_arg5)
          ∧ r.2.mem ((c.tc : Thread Cert.ForwardReference2Ideal.nD Cert.ForwardReference2Ideal.τ).loc Cert.ForwardReference2Ideal.main_arg6) = m' ((c.tc : Thread Cert.ForwardReference2Ideal.nD Cert.ForwardReference2Ideal.τ).loc Cert.ForwardReference2Ideal.main_arg6)
          ∧ r.2.mem ((c.tc : Thread Cert.ForwardReference2Ideal.nD Cert.ForwardReference2Ideal.τ).loc Cert.ForwardReference2Ideal.main_arg7) = m' ((c.tc : Thread Cert.ForwardReference2Ideal.nD Cert.ForwardReference2Ideal.τ).loc Cert.ForwardReference2Ideal.main_arg7)
          ∧ r.2.mem ((c.tc : Thread Cert.ForwardReference2Ideal.nD Cert.ForwardReference2Ideal.τ).loc Cert.ForwardReference2Ideal.main_arg8) = m' ((c.tc : Thread Cert.ForwardReference2Ideal.nD Cert.ForwardReference2Ideal.τ).loc Cert.ForwardReference2Ideal.main_arg8))

def preserves_Forward1_Forward1Ideal : Prop :=
  True

def algebraic_Forward1Ideal_ForwardReference1Ideal_pre_finite_layer [hForward1Ideal : Cert.Forward1Ideal.Facts] [hForwardReference1Ideal : Cert.ForwardReference1Ideal.Facts] [hPre_finite_layer : Cert.Pre_finite_layer.Facts] : Prop :=
  ∀ (m : (ℓ : Loc Cert.Forward1Ideal.nD Cert.Forward1Ideal.τ Cert.Forward1Ideal.sig) → Buf (Elt Ideal) ℓ) (g : Dev Cert.Forward1Ideal.nD → PrngReg)
    (m' : (ℓ : Loc Cert.ForwardReference1Ideal.nD Cert.ForwardReference1Ideal.τ Cert.ForwardReference1Ideal.sig) → Buf (Elt Ideal) ℓ) (g' : Dev Cert.ForwardReference1Ideal.nD → PrngReg), Pre_Forward1Ideal_finite_layer m →
    (∀ c : Dev Cert.Forward1Ideal.nD,
      m' ((c.tc : Thread Cert.ForwardReference1Ideal.nD Cert.ForwardReference1Ideal.τ).loc Cert.ForwardReference1Ideal.main_arg0) = m ((c.tc : Thread Cert.Forward1Ideal.nD Cert.Forward1Ideal.τ).loc Cert.Forward1Ideal.main_arg0)
      ∧ m' ((c.tc : Thread Cert.ForwardReference1Ideal.nD Cert.ForwardReference1Ideal.τ).loc Cert.ForwardReference1Ideal.main_arg1) = m ((c.tc : Thread Cert.Forward1Ideal.nD Cert.Forward1Ideal.τ).loc Cert.Forward1Ideal.main_arg1)
      ∧ m' ((c.tc : Thread Cert.ForwardReference1Ideal.nD Cert.ForwardReference1Ideal.τ).loc Cert.ForwardReference1Ideal.main_arg2) = m ((c.tc : Thread Cert.Forward1Ideal.nD Cert.Forward1Ideal.τ).loc Cert.Forward1Ideal.main_arg2)
      ∧ m' ((c.tc : Thread Cert.ForwardReference1Ideal.nD Cert.ForwardReference1Ideal.τ).loc Cert.ForwardReference1Ideal.main_arg3) = m ((c.tc : Thread Cert.Forward1Ideal.nD Cert.Forward1Ideal.τ).loc Cert.Forward1Ideal.main_arg3)
      ∧ m' ((c.tc : Thread Cert.ForwardReference1Ideal.nD Cert.ForwardReference1Ideal.τ).loc Cert.ForwardReference1Ideal.main_arg4) = m ((c.tc : Thread Cert.Forward1Ideal.nD Cert.Forward1Ideal.τ).loc Cert.Forward1Ideal.main_arg4)
      ∧ m' ((c.tc : Thread Cert.ForwardReference1Ideal.nD Cert.ForwardReference1Ideal.τ).loc Cert.ForwardReference1Ideal.main_arg5) = m ((c.tc : Thread Cert.Forward1Ideal.nD Cert.Forward1Ideal.τ).loc Cert.Forward1Ideal.main_arg5)
      ∧ m' ((c.tc : Thread Cert.ForwardReference1Ideal.nD Cert.ForwardReference1Ideal.τ).loc Cert.ForwardReference1Ideal.main_arg6) = m ((c.tc : Thread Cert.Forward1Ideal.nD Cert.Forward1Ideal.τ).loc Cert.Forward1Ideal.main_arg6)
      ∧ m' ((c.tc : Thread Cert.ForwardReference1Ideal.nD Cert.ForwardReference1Ideal.τ).loc Cert.ForwardReference1Ideal.main_arg7) = m ((c.tc : Thread Cert.Forward1Ideal.nD Cert.Forward1Ideal.τ).loc Cert.Forward1Ideal.main_arg7)
      ∧ m' ((c.tc : Thread Cert.ForwardReference1Ideal.nD Cert.ForwardReference1Ideal.τ).loc Cert.ForwardReference1Ideal.main_arg8) = m ((c.tc : Thread Cert.Forward1Ideal.nD Cert.Forward1Ideal.τ).loc Cert.Forward1Ideal.main_arg8)) →
    ∃ (v0 : (c : Dev Cert.Forward1Ideal.nD) → Buf (Elt Ideal) ((c.tc : Thread Cert.Forward1Ideal.nD Cert.Forward1Ideal.τ).loc Cert.Forward1Ideal.main_v11_0)) (v1 : (c : Dev Cert.Forward1Ideal.nD) → Buf (Elt Ideal) ((c.tc : Thread Cert.Forward1Ideal.nD Cert.Forward1Ideal.τ).loc Cert.Forward1Ideal.main_v11_1)) (v2 : (c : Dev Cert.Forward1Ideal.nD) → Buf (Elt Ideal) ((c.tc : Thread Cert.Forward1Ideal.nD Cert.Forward1Ideal.τ).loc Cert.Forward1Ideal.main_v11_2)) (v3 : (c : Dev Cert.Forward1Ideal.nD) → Buf (Elt Ideal) ((c.tc : Thread Cert.Forward1Ideal.nD Cert.Forward1Ideal.τ).loc Cert.Forward1Ideal.main_v11_3)) (v4 : (c : Dev Cert.Forward1Ideal.nD) → Buf (Elt Ideal) ((c.tc : Thread Cert.Forward1Ideal.nD Cert.Forward1Ideal.τ).loc Cert.Forward1Ideal.main_v11_4)) (v5 : (c : Dev Cert.Forward1Ideal.nD) → Buf (Elt Ideal) ((c.tc : Thread Cert.Forward1Ideal.nD Cert.Forward1Ideal.τ).loc Cert.Forward1Ideal.main_v11_5)) (v6 : (c : Dev Cert.Forward1Ideal.nD) → Buf (Elt Ideal) ((c.tc : Thread Cert.Forward1Ideal.nD Cert.Forward1Ideal.τ).loc Cert.Forward1Ideal.main_v11_6)),
      θ_run (Cert.Forward1Ideal.defs (F := Ideal)) (onTc (τ := Cert.Forward1Ideal.τ) (Cert.Forward1Ideal.main (F := Ideal))) ⟨m, fun _ => 0, g⟩ (fun r => ∀ c : Dev Cert.Forward1Ideal.nD,
          r.2.mem ((c.tc : Thread Cert.Forward1Ideal.nD Cert.Forward1Ideal.τ).loc Cert.Forward1Ideal.main_v11_0) = v0 c
          ∧ r.2.mem ((c.tc : Thread Cert.Forward1Ideal.nD Cert.Forward1Ideal.τ).loc Cert.Forward1Ideal.main_v11_1) = v1 c
          ∧ r.2.mem ((c.tc : Thread Cert.Forward1Ideal.nD Cert.Forward1Ideal.τ).loc Cert.Forward1Ideal.main_v11_2) = v2 c
          ∧ r.2.mem ((c.tc : Thread Cert.Forward1Ideal.nD Cert.Forward1Ideal.τ).loc Cert.Forward1Ideal.main_v11_3) = v3 c
          ∧ r.2.mem ((c.tc : Thread Cert.Forward1Ideal.nD Cert.Forward1Ideal.τ).loc Cert.Forward1Ideal.main_v11_4) = v4 c
          ∧ r.2.mem ((c.tc : Thread Cert.Forward1Ideal.nD Cert.Forward1Ideal.τ).loc Cert.Forward1Ideal.main_v11_5) = v5 c
          ∧ r.2.mem ((c.tc : Thread Cert.Forward1Ideal.nD Cert.Forward1Ideal.τ).loc Cert.Forward1Ideal.main_v11_6) = v6 c
          ∧ r.2.mem ((c.tc : Thread Cert.Forward1Ideal.nD Cert.Forward1Ideal.τ).loc Cert.Forward1Ideal.main_arg0) = m ((c.tc : Thread Cert.Forward1Ideal.nD Cert.Forward1Ideal.τ).loc Cert.Forward1Ideal.main_arg0)
          ∧ r.2.mem ((c.tc : Thread Cert.Forward1Ideal.nD Cert.Forward1Ideal.τ).loc Cert.Forward1Ideal.main_arg1) = m ((c.tc : Thread Cert.Forward1Ideal.nD Cert.Forward1Ideal.τ).loc Cert.Forward1Ideal.main_arg1)
          ∧ r.2.mem ((c.tc : Thread Cert.Forward1Ideal.nD Cert.Forward1Ideal.τ).loc Cert.Forward1Ideal.main_arg2) = m ((c.tc : Thread Cert.Forward1Ideal.nD Cert.Forward1Ideal.τ).loc Cert.Forward1Ideal.main_arg2)
          ∧ r.2.mem ((c.tc : Thread Cert.Forward1Ideal.nD Cert.Forward1Ideal.τ).loc Cert.Forward1Ideal.main_arg3) = m ((c.tc : Thread Cert.Forward1Ideal.nD Cert.Forward1Ideal.τ).loc Cert.Forward1Ideal.main_arg3)
          ∧ r.2.mem ((c.tc : Thread Cert.Forward1Ideal.nD Cert.Forward1Ideal.τ).loc Cert.Forward1Ideal.main_arg4) = m ((c.tc : Thread Cert.Forward1Ideal.nD Cert.Forward1Ideal.τ).loc Cert.Forward1Ideal.main_arg4)
          ∧ r.2.mem ((c.tc : Thread Cert.Forward1Ideal.nD Cert.Forward1Ideal.τ).loc Cert.Forward1Ideal.main_arg5) = m ((c.tc : Thread Cert.Forward1Ideal.nD Cert.Forward1Ideal.τ).loc Cert.Forward1Ideal.main_arg5)
          ∧ r.2.mem ((c.tc : Thread Cert.Forward1Ideal.nD Cert.Forward1Ideal.τ).loc Cert.Forward1Ideal.main_arg6) = m ((c.tc : Thread Cert.Forward1Ideal.nD Cert.Forward1Ideal.τ).loc Cert.Forward1Ideal.main_arg6)
          ∧ r.2.mem ((c.tc : Thread Cert.Forward1Ideal.nD Cert.Forward1Ideal.τ).loc Cert.Forward1Ideal.main_arg7) = m ((c.tc : Thread Cert.Forward1Ideal.nD Cert.Forward1Ideal.τ).loc Cert.Forward1Ideal.main_arg7)
          ∧ r.2.mem ((c.tc : Thread Cert.Forward1Ideal.nD Cert.Forward1Ideal.τ).loc Cert.Forward1Ideal.main_arg8) = m ((c.tc : Thread Cert.Forward1Ideal.nD Cert.Forward1Ideal.τ).loc Cert.Forward1Ideal.main_arg8))
      ∧ θ_run (Cert.ForwardReference1Ideal.defs (F := Ideal)) (onTc (τ := Cert.ForwardReference1Ideal.τ) (Cert.ForwardReference1Ideal.main (F := Ideal))) ⟨m', fun _ => 0, g'⟩ (fun r => ∀ c : Dev Cert.ForwardReference1Ideal.nD,
          r.2.mem ((c.tc : Thread Cert.ForwardReference1Ideal.nD Cert.ForwardReference1Ideal.τ).loc Cert.ForwardReference1Ideal.main_v161) = v0 c
          ∧ r.2.mem ((c.tc : Thread Cert.ForwardReference1Ideal.nD Cert.ForwardReference1Ideal.τ).loc Cert.ForwardReference1Ideal.main_v165) = v1 c
          ∧ r.2.mem ((c.tc : Thread Cert.ForwardReference1Ideal.nD Cert.ForwardReference1Ideal.τ).loc Cert.ForwardReference1Ideal.main_v166) = v2 c
          ∧ r.2.mem ((c.tc : Thread Cert.ForwardReference1Ideal.nD Cert.ForwardReference1Ideal.τ).loc Cert.ForwardReference1Ideal.main_v167) = v3 c
          ∧ r.2.mem ((c.tc : Thread Cert.ForwardReference1Ideal.nD Cert.ForwardReference1Ideal.τ).loc Cert.ForwardReference1Ideal.main_v168) = v4 c
          ∧ r.2.mem ((c.tc : Thread Cert.ForwardReference1Ideal.nD Cert.ForwardReference1Ideal.τ).loc Cert.ForwardReference1Ideal.main_v169) = v5 c
          ∧ r.2.mem ((c.tc : Thread Cert.ForwardReference1Ideal.nD Cert.ForwardReference1Ideal.τ).loc Cert.ForwardReference1Ideal.main_v170) = v6 c
          ∧ r.2.mem ((c.tc : Thread Cert.ForwardReference1Ideal.nD Cert.ForwardReference1Ideal.τ).loc Cert.ForwardReference1Ideal.main_arg0) = m' ((c.tc : Thread Cert.ForwardReference1Ideal.nD Cert.ForwardReference1Ideal.τ).loc Cert.ForwardReference1Ideal.main_arg0)
          ∧ r.2.mem ((c.tc : Thread Cert.ForwardReference1Ideal.nD Cert.ForwardReference1Ideal.τ).loc Cert.ForwardReference1Ideal.main_arg1) = m' ((c.tc : Thread Cert.ForwardReference1Ideal.nD Cert.ForwardReference1Ideal.τ).loc Cert.ForwardReference1Ideal.main_arg1)
          ∧ r.2.mem ((c.tc : Thread Cert.ForwardReference1Ideal.nD Cert.ForwardReference1Ideal.τ).loc Cert.ForwardReference1Ideal.main_arg2) = m' ((c.tc : Thread Cert.ForwardReference1Ideal.nD Cert.ForwardReference1Ideal.τ).loc Cert.ForwardReference1Ideal.main_arg2)
          ∧ r.2.mem ((c.tc : Thread Cert.ForwardReference1Ideal.nD Cert.ForwardReference1Ideal.τ).loc Cert.ForwardReference1Ideal.main_arg3) = m' ((c.tc : Thread Cert.ForwardReference1Ideal.nD Cert.ForwardReference1Ideal.τ).loc Cert.ForwardReference1Ideal.main_arg3)
          ∧ r.2.mem ((c.tc : Thread Cert.ForwardReference1Ideal.nD Cert.ForwardReference1Ideal.τ).loc Cert.ForwardReference1Ideal.main_arg4) = m' ((c.tc : Thread Cert.ForwardReference1Ideal.nD Cert.ForwardReference1Ideal.τ).loc Cert.ForwardReference1Ideal.main_arg4)
          ∧ r.2.mem ((c.tc : Thread Cert.ForwardReference1Ideal.nD Cert.ForwardReference1Ideal.τ).loc Cert.ForwardReference1Ideal.main_arg5) = m' ((c.tc : Thread Cert.ForwardReference1Ideal.nD Cert.ForwardReference1Ideal.τ).loc Cert.ForwardReference1Ideal.main_arg5)
          ∧ r.2.mem ((c.tc : Thread Cert.ForwardReference1Ideal.nD Cert.ForwardReference1Ideal.τ).loc Cert.ForwardReference1Ideal.main_arg6) = m' ((c.tc : Thread Cert.ForwardReference1Ideal.nD Cert.ForwardReference1Ideal.τ).loc Cert.ForwardReference1Ideal.main_arg6)
          ∧ r.2.mem ((c.tc : Thread Cert.ForwardReference1Ideal.nD Cert.ForwardReference1Ideal.τ).loc Cert.ForwardReference1Ideal.main_arg7) = m' ((c.tc : Thread Cert.ForwardReference1Ideal.nD Cert.ForwardReference1Ideal.τ).loc Cert.ForwardReference1Ideal.main_arg7)
          ∧ r.2.mem ((c.tc : Thread Cert.ForwardReference1Ideal.nD Cert.ForwardReference1Ideal.τ).loc Cert.ForwardReference1Ideal.main_arg8) = m' ((c.tc : Thread Cert.ForwardReference1Ideal.nD Cert.ForwardReference1Ideal.τ).loc Cert.ForwardReference1Ideal.main_arg8))

def preserves_Forward0_Forward0Ideal : Prop :=
  True

def algebraic_Forward0Ideal_ForwardReference0Ideal_pre_finite_layer [hForward0Ideal : Cert.Forward0Ideal.Facts] [hForwardReference0Ideal : Cert.ForwardReference0Ideal.Facts] [hPre_finite_layer : Cert.Pre_finite_layer.Facts] : Prop :=
  ∀ (m : (ℓ : Loc Cert.Forward0Ideal.nD Cert.Forward0Ideal.τ Cert.Forward0Ideal.sig) → Buf (Elt Ideal) ℓ) (g : Dev Cert.Forward0Ideal.nD → PrngReg)
    (m' : (ℓ : Loc Cert.ForwardReference0Ideal.nD Cert.ForwardReference0Ideal.τ Cert.ForwardReference0Ideal.sig) → Buf (Elt Ideal) ℓ) (g' : Dev Cert.ForwardReference0Ideal.nD → PrngReg), Pre_Forward0Ideal_finite_layer m →
    (∀ c : Dev Cert.Forward0Ideal.nD,
      m' ((c.tc : Thread Cert.ForwardReference0Ideal.nD Cert.ForwardReference0Ideal.τ).loc Cert.ForwardReference0Ideal.main_arg0) = m ((c.tc : Thread Cert.Forward0Ideal.nD Cert.Forward0Ideal.τ).loc Cert.Forward0Ideal.main_arg0)
      ∧ m' ((c.tc : Thread Cert.ForwardReference0Ideal.nD Cert.ForwardReference0Ideal.τ).loc Cert.ForwardReference0Ideal.main_arg1) = m ((c.tc : Thread Cert.Forward0Ideal.nD Cert.Forward0Ideal.τ).loc Cert.Forward0Ideal.main_arg1)
      ∧ m' ((c.tc : Thread Cert.ForwardReference0Ideal.nD Cert.ForwardReference0Ideal.τ).loc Cert.ForwardReference0Ideal.main_arg2) = m ((c.tc : Thread Cert.Forward0Ideal.nD Cert.Forward0Ideal.τ).loc Cert.Forward0Ideal.main_arg2)
      ∧ m' ((c.tc : Thread Cert.ForwardReference0Ideal.nD Cert.ForwardReference0Ideal.τ).loc Cert.ForwardReference0Ideal.main_arg3) = m ((c.tc : Thread Cert.Forward0Ideal.nD Cert.Forward0Ideal.τ).loc Cert.Forward0Ideal.main_arg3)
      ∧ m' ((c.tc : Thread Cert.ForwardReference0Ideal.nD Cert.ForwardReference0Ideal.τ).loc Cert.ForwardReference0Ideal.main_arg4) = m ((c.tc : Thread Cert.Forward0Ideal.nD Cert.Forward0Ideal.τ).loc Cert.Forward0Ideal.main_arg4)
      ∧ m' ((c.tc : Thread Cert.ForwardReference0Ideal.nD Cert.ForwardReference0Ideal.τ).loc Cert.ForwardReference0Ideal.main_arg5) = m ((c.tc : Thread Cert.Forward0Ideal.nD Cert.Forward0Ideal.τ).loc Cert.Forward0Ideal.main_arg5)
      ∧ m' ((c.tc : Thread Cert.ForwardReference0Ideal.nD Cert.ForwardReference0Ideal.τ).loc Cert.ForwardReference0Ideal.main_arg6) = m ((c.tc : Thread Cert.Forward0Ideal.nD Cert.Forward0Ideal.τ).loc Cert.Forward0Ideal.main_arg6)
      ∧ m' ((c.tc : Thread Cert.ForwardReference0Ideal.nD Cert.ForwardReference0Ideal.τ).loc Cert.ForwardReference0Ideal.main_arg7) = m ((c.tc : Thread Cert.Forward0Ideal.nD Cert.Forward0Ideal.τ).loc Cert.Forward0Ideal.main_arg7)
      ∧ m' ((c.tc : Thread Cert.ForwardReference0Ideal.nD Cert.ForwardReference0Ideal.τ).loc Cert.ForwardReference0Ideal.main_arg8) = m ((c.tc : Thread Cert.Forward0Ideal.nD Cert.Forward0Ideal.τ).loc Cert.Forward0Ideal.main_arg8)) →
    ∃ (v0 : (c : Dev Cert.Forward0Ideal.nD) → Buf (Elt Ideal) ((c.tc : Thread Cert.Forward0Ideal.nD Cert.Forward0Ideal.τ).loc Cert.Forward0Ideal.main_v11_0)) (v1 : (c : Dev Cert.Forward0Ideal.nD) → Buf (Elt Ideal) ((c.tc : Thread Cert.Forward0Ideal.nD Cert.Forward0Ideal.τ).loc Cert.Forward0Ideal.main_v11_1)) (v2 : (c : Dev Cert.Forward0Ideal.nD) → Buf (Elt Ideal) ((c.tc : Thread Cert.Forward0Ideal.nD Cert.Forward0Ideal.τ).loc Cert.Forward0Ideal.main_v11_2)) (v3 : (c : Dev Cert.Forward0Ideal.nD) → Buf (Elt Ideal) ((c.tc : Thread Cert.Forward0Ideal.nD Cert.Forward0Ideal.τ).loc Cert.Forward0Ideal.main_v11_3)) (v4 : (c : Dev Cert.Forward0Ideal.nD) → Buf (Elt Ideal) ((c.tc : Thread Cert.Forward0Ideal.nD Cert.Forward0Ideal.τ).loc Cert.Forward0Ideal.main_v11_4)) (v5 : (c : Dev Cert.Forward0Ideal.nD) → Buf (Elt Ideal) ((c.tc : Thread Cert.Forward0Ideal.nD Cert.Forward0Ideal.τ).loc Cert.Forward0Ideal.main_v11_5)) (v6 : (c : Dev Cert.Forward0Ideal.nD) → Buf (Elt Ideal) ((c.tc : Thread Cert.Forward0Ideal.nD Cert.Forward0Ideal.τ).loc Cert.Forward0Ideal.main_v11_6)),
      θ_run (Cert.Forward0Ideal.defs (F := Ideal)) (onTc (τ := Cert.Forward0Ideal.τ) (Cert.Forward0Ideal.main (F := Ideal))) ⟨m, fun _ => 0, g⟩ (fun r => ∀ c : Dev Cert.Forward0Ideal.nD,
          r.2.mem ((c.tc : Thread Cert.Forward0Ideal.nD Cert.Forward0Ideal.τ).loc Cert.Forward0Ideal.main_v11_0) = v0 c
          ∧ r.2.mem ((c.tc : Thread Cert.Forward0Ideal.nD Cert.Forward0Ideal.τ).loc Cert.Forward0Ideal.main_v11_1) = v1 c
          ∧ r.2.mem ((c.tc : Thread Cert.Forward0Ideal.nD Cert.Forward0Ideal.τ).loc Cert.Forward0Ideal.main_v11_2) = v2 c
          ∧ r.2.mem ((c.tc : Thread Cert.Forward0Ideal.nD Cert.Forward0Ideal.τ).loc Cert.Forward0Ideal.main_v11_3) = v3 c
          ∧ r.2.mem ((c.tc : Thread Cert.Forward0Ideal.nD Cert.Forward0Ideal.τ).loc Cert.Forward0Ideal.main_v11_4) = v4 c
          ∧ r.2.mem ((c.tc : Thread Cert.Forward0Ideal.nD Cert.Forward0Ideal.τ).loc Cert.Forward0Ideal.main_v11_5) = v5 c
          ∧ r.2.mem ((c.tc : Thread Cert.Forward0Ideal.nD Cert.Forward0Ideal.τ).loc Cert.Forward0Ideal.main_v11_6) = v6 c
          ∧ r.2.mem ((c.tc : Thread Cert.Forward0Ideal.nD Cert.Forward0Ideal.τ).loc Cert.Forward0Ideal.main_arg0) = m ((c.tc : Thread Cert.Forward0Ideal.nD Cert.Forward0Ideal.τ).loc Cert.Forward0Ideal.main_arg0)
          ∧ r.2.mem ((c.tc : Thread Cert.Forward0Ideal.nD Cert.Forward0Ideal.τ).loc Cert.Forward0Ideal.main_arg1) = m ((c.tc : Thread Cert.Forward0Ideal.nD Cert.Forward0Ideal.τ).loc Cert.Forward0Ideal.main_arg1)
          ∧ r.2.mem ((c.tc : Thread Cert.Forward0Ideal.nD Cert.Forward0Ideal.τ).loc Cert.Forward0Ideal.main_arg2) = m ((c.tc : Thread Cert.Forward0Ideal.nD Cert.Forward0Ideal.τ).loc Cert.Forward0Ideal.main_arg2)
          ∧ r.2.mem ((c.tc : Thread Cert.Forward0Ideal.nD Cert.Forward0Ideal.τ).loc Cert.Forward0Ideal.main_arg3) = m ((c.tc : Thread Cert.Forward0Ideal.nD Cert.Forward0Ideal.τ).loc Cert.Forward0Ideal.main_arg3)
          ∧ r.2.mem ((c.tc : Thread Cert.Forward0Ideal.nD Cert.Forward0Ideal.τ).loc Cert.Forward0Ideal.main_arg4) = m ((c.tc : Thread Cert.Forward0Ideal.nD Cert.Forward0Ideal.τ).loc Cert.Forward0Ideal.main_arg4)
          ∧ r.2.mem ((c.tc : Thread Cert.Forward0Ideal.nD Cert.Forward0Ideal.τ).loc Cert.Forward0Ideal.main_arg5) = m ((c.tc : Thread Cert.Forward0Ideal.nD Cert.Forward0Ideal.τ).loc Cert.Forward0Ideal.main_arg5)
          ∧ r.2.mem ((c.tc : Thread Cert.Forward0Ideal.nD Cert.Forward0Ideal.τ).loc Cert.Forward0Ideal.main_arg6) = m ((c.tc : Thread Cert.Forward0Ideal.nD Cert.Forward0Ideal.τ).loc Cert.Forward0Ideal.main_arg6)
          ∧ r.2.mem ((c.tc : Thread Cert.Forward0Ideal.nD Cert.Forward0Ideal.τ).loc Cert.Forward0Ideal.main_arg7) = m ((c.tc : Thread Cert.Forward0Ideal.nD Cert.Forward0Ideal.τ).loc Cert.Forward0Ideal.main_arg7)
          ∧ r.2.mem ((c.tc : Thread Cert.Forward0Ideal.nD Cert.Forward0Ideal.τ).loc Cert.Forward0Ideal.main_arg8) = m ((c.tc : Thread Cert.Forward0Ideal.nD Cert.Forward0Ideal.τ).loc Cert.Forward0Ideal.main_arg8))
      ∧ θ_run (Cert.ForwardReference0Ideal.defs (F := Ideal)) (onTc (τ := Cert.ForwardReference0Ideal.τ) (Cert.ForwardReference0Ideal.main (F := Ideal))) ⟨m', fun _ => 0, g'⟩ (fun r => ∀ c : Dev Cert.ForwardReference0Ideal.nD,
          r.2.mem ((c.tc : Thread Cert.ForwardReference0Ideal.nD Cert.ForwardReference0Ideal.τ).loc Cert.ForwardReference0Ideal.main_v161) = v0 c
          ∧ r.2.mem ((c.tc : Thread Cert.ForwardReference0Ideal.nD Cert.ForwardReference0Ideal.τ).loc Cert.ForwardReference0Ideal.main_v165) = v1 c
          ∧ r.2.mem ((c.tc : Thread Cert.ForwardReference0Ideal.nD Cert.ForwardReference0Ideal.τ).loc Cert.ForwardReference0Ideal.main_v166) = v2 c
          ∧ r.2.mem ((c.tc : Thread Cert.ForwardReference0Ideal.nD Cert.ForwardReference0Ideal.τ).loc Cert.ForwardReference0Ideal.main_v167) = v3 c
          ∧ r.2.mem ((c.tc : Thread Cert.ForwardReference0Ideal.nD Cert.ForwardReference0Ideal.τ).loc Cert.ForwardReference0Ideal.main_v168) = v4 c
          ∧ r.2.mem ((c.tc : Thread Cert.ForwardReference0Ideal.nD Cert.ForwardReference0Ideal.τ).loc Cert.ForwardReference0Ideal.main_v169) = v5 c
          ∧ r.2.mem ((c.tc : Thread Cert.ForwardReference0Ideal.nD Cert.ForwardReference0Ideal.τ).loc Cert.ForwardReference0Ideal.main_v170) = v6 c
          ∧ r.2.mem ((c.tc : Thread Cert.ForwardReference0Ideal.nD Cert.ForwardReference0Ideal.τ).loc Cert.ForwardReference0Ideal.main_arg0) = m' ((c.tc : Thread Cert.ForwardReference0Ideal.nD Cert.ForwardReference0Ideal.τ).loc Cert.ForwardReference0Ideal.main_arg0)
          ∧ r.2.mem ((c.tc : Thread Cert.ForwardReference0Ideal.nD Cert.ForwardReference0Ideal.τ).loc Cert.ForwardReference0Ideal.main_arg1) = m' ((c.tc : Thread Cert.ForwardReference0Ideal.nD Cert.ForwardReference0Ideal.τ).loc Cert.ForwardReference0Ideal.main_arg1)
          ∧ r.2.mem ((c.tc : Thread Cert.ForwardReference0Ideal.nD Cert.ForwardReference0Ideal.τ).loc Cert.ForwardReference0Ideal.main_arg2) = m' ((c.tc : Thread Cert.ForwardReference0Ideal.nD Cert.ForwardReference0Ideal.τ).loc Cert.ForwardReference0Ideal.main_arg2)
          ∧ r.2.mem ((c.tc : Thread Cert.ForwardReference0Ideal.nD Cert.ForwardReference0Ideal.τ).loc Cert.ForwardReference0Ideal.main_arg3) = m' ((c.tc : Thread Cert.ForwardReference0Ideal.nD Cert.ForwardReference0Ideal.τ).loc Cert.ForwardReference0Ideal.main_arg3)
          ∧ r.2.mem ((c.tc : Thread Cert.ForwardReference0Ideal.nD Cert.ForwardReference0Ideal.τ).loc Cert.ForwardReference0Ideal.main_arg4) = m' ((c.tc : Thread Cert.ForwardReference0Ideal.nD Cert.ForwardReference0Ideal.τ).loc Cert.ForwardReference0Ideal.main_arg4)
          ∧ r.2.mem ((c.tc : Thread Cert.ForwardReference0Ideal.nD Cert.ForwardReference0Ideal.τ).loc Cert.ForwardReference0Ideal.main_arg5) = m' ((c.tc : Thread Cert.ForwardReference0Ideal.nD Cert.ForwardReference0Ideal.τ).loc Cert.ForwardReference0Ideal.main_arg5)
          ∧ r.2.mem ((c.tc : Thread Cert.ForwardReference0Ideal.nD Cert.ForwardReference0Ideal.τ).loc Cert.ForwardReference0Ideal.main_arg6) = m' ((c.tc : Thread Cert.ForwardReference0Ideal.nD Cert.ForwardReference0Ideal.τ).loc Cert.ForwardReference0Ideal.main_arg6)
          ∧ r.2.mem ((c.tc : Thread Cert.ForwardReference0Ideal.nD Cert.ForwardReference0Ideal.τ).loc Cert.ForwardReference0Ideal.main_arg7) = m' ((c.tc : Thread Cert.ForwardReference0Ideal.nD Cert.ForwardReference0Ideal.τ).loc Cert.ForwardReference0Ideal.main_arg7)
          ∧ r.2.mem ((c.tc : Thread Cert.ForwardReference0Ideal.nD Cert.ForwardReference0Ideal.τ).loc Cert.ForwardReference0Ideal.main_arg8) = m' ((c.tc : Thread Cert.ForwardReference0Ideal.nD Cert.ForwardReference0Ideal.τ).loc Cert.ForwardReference0Ideal.main_arg8))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)) →
    ∃ (v0 : (c : Dev Cert.ModulationIdeal.nD) → Buf (Elt Ideal) ((c.tc : Thread Cert.ModulationIdeal.nD Cert.ModulationIdeal.τ).loc Cert.ModulationIdeal.main_v0_0)) (v1 : (c : Dev Cert.ModulationIdeal.nD) → Buf (Elt Ideal) ((c.tc : Thread Cert.ModulationIdeal.nD Cert.ModulationIdeal.τ).loc Cert.ModulationIdeal.main_v0_1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v0_0) = v0 c
          ∧ r.2.mem ((c.tc : Thread Cert.ModulationIdeal.nD Cert.ModulationIdeal.τ).loc Cert.ModulationIdeal.main_v0_1) = v1 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v0) = v0 c
          ∧ r.2.mem ((c.tc : Thread Cert.ModulationReferenceIdeal.nD Cert.ModulationReferenceIdeal.τ).loc Cert.ModulationReferenceIdeal.main_v13) = v1 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hForwardReferenceIdeal : Cert.ForwardReferenceIdeal.Facts) (hKernel2 : Cert.Kernel2.Facts) (hKernel2Ideal : Cert.Kernel2Ideal.Facts) (hReference2Ideal : Cert.Reference2Ideal.Facts) (hKernel1 : Cert.Kernel1.Facts) (hKernel1Ideal : Cert.Kernel1Ideal.Facts) (hReference1Ideal : Cert.Reference1Ideal.Facts) (hKernel0 : Cert.Kernel0.Facts) (hKernel0Ideal : Cert.Kernel0Ideal.Facts) (hReference0Ideal : Cert.Reference0Ideal.Facts) (hForward2 : Cert.Forward2.Facts) (hForward2Ideal : Cert.Forward2Ideal.Facts) (hForwardReference2Ideal : Cert.ForwardReference2Ideal.Facts) (hForward1 : Cert.Forward1.Facts) (hForward1Ideal : Cert.Forward1Ideal.Facts) (hForwardReference1Ideal : Cert.ForwardReference1Ideal.Facts) (hForward0 : Cert.Forward0.Facts) (hForward0Ideal : Cert.Forward0Ideal.Facts) (hForwardReference0Ideal : Cert.ForwardReference0Ideal.Facts) (hModulation : Cert.Modulation.Facts) (hModulationIdeal : Cert.ModulationIdeal.Facts) (hModulationReferenceIdeal : Cert.ModulationReferenceIdeal.Facts) (hPre_finite : Cert.Pre_finite.Facts) (hPre_finite_layer : Cert.Pre_finite_layer.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Forward (hForward := hForward)
    ∧ quiescent_ForwardIdeal (hForwardIdeal := hForwardIdeal)
    ∧ quiescent_ForwardIdeal_pre_finite (hForwardIdeal := hForwardIdeal) (hPre_finite := hPre_finite)
    ∧ quiescent_ForwardReferenceIdeal (hForwardReferenceIdeal := hForwardReferenceIdeal)
    ∧ quiescent_ForwardReferenceIdeal_pre_finite (hForwardReferenceIdeal := hForwardReferenceIdeal) (hPre_finite := hPre_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel1 (hKernel1 := hKernel1)
    ∧ quiescent_Kernel1Ideal (hKernel1Ideal := hKernel1Ideal)
    ∧ quiescent_Kernel1Ideal_pre_finite (hKernel1Ideal := hKernel1Ideal) (hPre_finite := hPre_finite)
    ∧ quiescent_Reference1Ideal (hReference1Ideal := hReference1Ideal)
    ∧ quiescent_Reference1Ideal_pre_finite (hReference1Ideal := hReference1Ideal) (hPre_finite := hPre_finite)
    ∧ quiescent_Kernel0 (hKernel0 := hKernel0)
    ∧ quiescent_Kernel0Ideal (hKernel0Ideal := hKernel0Ideal)
    ∧ quiescent_Kernel0Ideal_pre_finite (hKernel0Ideal := hKernel0Ideal) (hPre_finite := hPre_finite)
    ∧ quiescent_Reference0Ideal (hReference0Ideal := hReference0Ideal)
    ∧ quiescent_Reference0Ideal_pre_finite (hReference0Ideal := hReference0Ideal) (hPre_finite := hPre_finite)
    ∧ quiescent_Forward2 (hForward2 := hForward2)
    ∧ quiescent_Forward2Ideal (hForward2Ideal := hForward2Ideal)
    ∧ quiescent_Forward2Ideal_pre_finite_layer (hForward2Ideal := hForward2Ideal) (hPre_finite_layer := hPre_finite_layer)
    ∧ quiescent_ForwardReference2Ideal (hForwardReference2Ideal := hForwardReference2Ideal)
    ∧ quiescent_ForwardReference2Ideal_pre_finite_layer (hForwardReference2Ideal := hForwardReference2Ideal) (hPre_finite_layer := hPre_finite_layer)
    ∧ quiescent_Forward1 (hForward1 := hForward1)
    ∧ quiescent_Forward1Ideal (hForward1Ideal := hForward1Ideal)
    ∧ quiescent_Forward1Ideal_pre_finite_layer (hForward1Ideal := hForward1Ideal) (hPre_finite_layer := hPre_finite_layer)
    ∧ quiescent_ForwardReference1Ideal (hForwardReference1Ideal := hForwardReference1Ideal)
    ∧ quiescent_ForwardReference1Ideal_pre_finite_layer (hForwardReference1Ideal := hForwardReference1Ideal) (hPre_finite_layer := hPre_finite_layer)
    ∧ quiescent_Forward0 (hForward0 := hForward0)
    ∧ quiescent_Forward0Ideal (hForward0Ideal := hForward0Ideal)
    ∧ quiescent_Forward0Ideal_pre_finite_layer (hForward0Ideal := hForward0Ideal) (hPre_finite_layer := hPre_finite_layer)
    ∧ quiescent_ForwardReference0Ideal (hForwardReference0Ideal := hForwardReference0Ideal)
    ∧ quiescent_ForwardReference0Ideal_pre_finite_layer (hForwardReference0Ideal := hForwardReference0Ideal) (hPre_finite_layer := hPre_finite_layer)
    ∧ quiescent_Modulation (hModulation := hModulation)
    ∧ quiescent_ModulationIdeal (hModulationIdeal := hModulationIdeal)
    ∧ quiescent_ModulationReferenceIdeal (hModulationReferenceIdeal := hModulationReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Forward_ForwardIdeal
    ∧ algebraic_ForwardIdeal_ForwardReferenceIdeal_pre_finite (hForwardIdeal := hForwardIdeal) (hForwardReferenceIdeal := hForwardReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel1_Kernel1Ideal
    ∧ algebraic_Kernel1Ideal_Reference1Ideal_pre_finite (hKernel1Ideal := hKernel1Ideal) (hReference1Ideal := hReference1Ideal) (hPre_finite := hPre_finite)
    ∧ preserves_Kernel0_Kernel0Ideal
    ∧ algebraic_Kernel0Ideal_Reference0Ideal_pre_finite (hKernel0Ideal := hKernel0Ideal) (hReference0Ideal := hReference0Ideal) (hPre_finite := hPre_finite)
    ∧ preserves_Forward2_Forward2Ideal
    ∧ algebraic_Forward2Ideal_ForwardReference2Ideal_pre_finite_layer (hForward2Ideal := hForward2Ideal) (hForwardReference2Ideal := hForwardReference2Ideal) (hPre_finite_layer := hPre_finite_layer)
    ∧ preserves_Forward1_Forward1Ideal
    ∧ algebraic_Forward1Ideal_ForwardReference1Ideal_pre_finite_layer (hForward1Ideal := hForward1Ideal) (hForwardReference1Ideal := hForwardReference1Ideal) (hPre_finite_layer := hPre_finite_layer)
    ∧ preserves_Forward0_Forward0Ideal
    ∧ algebraic_Forward0Ideal_ForwardReference0Ideal_pre_finite_layer (hForward0Ideal := hForward0Ideal) (hForwardReference0Ideal := hForwardReference0Ideal) (hPre_finite_layer := hPre_finite_layer)
    ∧ preserves_Modulation_ModulationIdeal
    ∧ algebraic_ModulationIdeal_ModulationReferenceIdeal (hModulationIdeal := hModulationIdeal) (hModulationReferenceIdeal := hModulationReferenceIdeal)
-- ==== Pre_finite.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S4x3072 : S_.BroadcastsInDim S4x3072 (![] : Fin 0 → Fin S4x3072.rank)
  reducesTo_S4x3072_S_d0_1 : S4x3072.ReducesTo [0, 1] S_
  bcast_S_S4x1024 : S_.BroadcastsInDim S4x1024 (![] : Fin 0 → Fin S4x1024.rank)
  reducesTo_S4x1024_S_d0_1 : S4x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S4x3x512 : S_.BroadcastsInDim S4x3x512 (![] : Fin 0 → Fin S4x3x512.rank)
  reducesTo_S4x3x512_S_d0_1_2 : S4x3x512.ReducesTo [0, 1, 2] S_
  bcast_S_S4x4x128x128 : S_.BroadcastsInDim S4x4x128x128 (![] : Fin 0 → Fin S4x4x128x128.rank)
  reducesTo_S4x4x128x128_S_d0_1_2_3 : S4x4x128x128.ReducesTo [0, 1, 2, 3] S_
  bcast_S_S4x512 : S_.BroadcastsInDim S4x512 (![] : Fin 0 → Fin S4x512.rank)
  reducesTo_S4x512_S_d0_1 : S4x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_arg8 : FVec F S4x1024 .f32) (main_arg9 : FVec F S2048x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S4x1024 .f32 := Host.absf main_arg8
  let main_cst_14 : FVec F S_ .f32 := constant S_ .f32 0x7F800000#32
  let main_v40 : FVec F S4x1024 .f32 := broadcastInDim S4x1024 ![] bcast_S_S4x1024 main_cst_14
  let main_v41 : IVec S4x1024 1 := cmpf .olt main_v39 main_v40
  let main_c_15 : IVec S_ 1 := constantI S_ 1 1#1
  let main_v42 : IVec S_ 1 := (fun x v => Host.reduce IntOp.andi x v reducesTo_S4x1024_S_d0_1 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  main_v48

def fn_part1 {F : FTy → Type} [FloatOps F] (main_arg4 : FVec F S4x3x512 .f32) (main_arg5 : FVec F S4x4x128x128 .f32) (main_arg6 : FVec F S4x512 .f32) (main_arg7 : FVec F S1024x1024 .f32) (main_arg8 : FVec F S4x1024 .f32) (main_arg9 : FVec F S2048x1024 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S4x3x512 .f32 := Host.absf main_arg4
  let main_cst_6 : FVec F S_ .f32 := constant S_ .f32 0x7F800000#32
  let main_v20 : FVec F S4x3x512 .f32 := broadcastInDim S4x3x512 ![] bcast_S_S4x3x512 main_cst_6
  let main_v21 : IVec S4x3x512 1 := cmpf .olt main_v19 main_v20
  let main_c_7 : IVec S_ 1 := constantI S_ 1 1#1
  let main_v22 : IVec S_ 1 := (fun x v => Host.reduce IntOp.andi x v reducesTo_S4x3x512_S_d0_1_2 h_S_) main_v21 main_c_7
  let main_v23 : IVec S_ 1 := andi main_v18 main_v22
  let main_v24 : FVec F S4x4x128x128 .f32 := Host.absf main_arg5
  let main_cst_8 : FVec F S_ .f32 := constant S_ .f32 0x7F800000#32
  let main_v25 : FVec F S4x4x128x128 .f32 := broadcastInDim S4x4x128x128 ![] bcast_S_S4x4x128x128 main_cst_8
  let main_v26 : IVec S4x4x128x128 1 := cmpf .olt main_v24 main_v25
  let main_c_9 : IVec S_ 1 := constantI S_ 1 1#1
  let main_v27 : IVec S_ 1 := (fun x v => Host.reduce IntOp.andi x v reducesTo_S4x4x128x128_S_d0_1_2_3 h_S_) main_v26 main_c_9
  let main_v28 : IVec S_ 1 := andi main_v23 main_v27
  let main_v29 : FVec F S4x512 .f32 := Host.absf main_arg6
  let main_cst_10 : FVec F S_ .f32 := constant S_ .f32 0x7F800000#32
  let main_v30 : FVec F S4x512 .f32 := broadcastInDim S4x512 ![] bcast_S_S4x512 main_cst_10
  let main_v31 : IVec S4x512 1 := cmpf .olt main_v29 main_v30
  let main_c_11 : IVec S_ 1 := constantI S_ 1 1#1
  let main_v32 : IVec S_ 1 := (fun x v => Host.reduce IntOp.andi x v reducesTo_S4x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S2048x1024 .f32) (main_arg1 : FVec F S4x3072 .f32) (main_arg2 : FVec F S4x1024 .f32) (main_arg3 : FVec F S1024x3072 .f32) (main_arg4 : FVec F S4x3x512 .f32) (main_arg5 : FVec F S4x4x128x128 .f32) (main_arg6 : FVec F S4x512 .f32) (main_arg7 : FVec F S1024x1024 .f32) (main_arg8 : FVec F S4x1024 .f32) (main_arg9 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S4x3072 .f32 := Host.absf main_arg1
  let main_cst_0 : FVec F S_ .f32 := constant S_ .f32 0x7F800000#32
  let main_v5 : FVec F S4x3072 .f32 := broadcastInDim S4x3072 ![] bcast_S_S4x3072 main_cst_0
  let main_v6 : IVec S4x3072 1 := cmpf .olt main_v4 main_v5
  let main_c_1 : IVec S_ 1 := constantI S_ 1 1#1
  let main_v7 : IVec S_ 1 := (fun x v => Host.reduce IntOp.andi x v reducesTo_S4x3072_S_d0_1 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_arg5 main_arg6 main_arg7 main_arg8 main_arg9 main_v13 main_v16
-- ==== Pre_finite_layer.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S4x3072 : S_.BroadcastsInDim S4x3072 (![] : Fin 0 → Fin S4x3072.rank)
  reducesTo_S4x3072_S_d0_1 : S4x3072.ReducesTo [0, 1] S_
  bcast_S_S4x1024 : S_.BroadcastsInDim S4x1024 (![] : Fin 0 → Fin S4x1024.rank)
  reducesTo_S4x1024_S_d0_1 : S4x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S4x3x512 : S_.BroadcastsInDim S4x3x512 (![] : Fin 0 → Fin S4x3x512.rank)
  reducesTo_S4x3x512_S_d0_1_2 : S4x3x512.ReducesTo [0, 1, 2] S_
  bcast_S_S4x4x128x128 : S_.BroadcastsInDim S4x4x128x128 (![] : Fin 0 → Fin S4x4x128x128.rank)
  reducesTo_S4x4x128x128_S_d0_1_2_3 : S4x4x128x128.ReducesTo [0, 1, 2, 3] S_
  bcast_S_S4x512 : S_.BroadcastsInDim S4x512 (![] : Fin 0 → Fin S4x512.rank)
  reducesTo_S4x512_S_d0_1 : S4x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_arg8 : FVec F S4x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S4x1024 .f32 := Host.absf main_arg8
  let main_cst_14 : FVec F S_ .f32 := constant S_ .f32 0x7F800000#32
  let main_v40 : FVec F S4x1024 .f32 := broadcastInDim S4x1024 ![] bcast_S_S4x1024 main_cst_14
  let main_v41 : IVec S4x1024 1 := cmpf .olt main_v39 main_v40
  let main_c_15 : IVec S_ 1 := constantI S_ 1 1#1
  let main_v42 : IVec S_ 1 := (fun x v => Host.reduce IntOp.andi x v reducesTo_S4x1024_S_d0_1 h_S_) main_v41 main_c_15
  let main_v43 : IVec S_ 1 := andi main_v38 main_v42
  main_v43

def fn_part1 {F : FTy → Type} [FloatOps F] (main_arg4 : FVec F S4x3x512 .f32) (main_arg5 : FVec F S4x4x128x128 .f32) (main_arg6 : FVec F S4x512 .f32) (main_arg7 : FVec F S1024x1024 .f32) (main_arg8 : FVec F S4x1024 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S4x3x512 .f32 := Host.absf main_arg4
  let main_cst_6 : FVec F S_ .f32 := constant S_ .f32 0x7F800000#32
  let main_v20 : FVec F S4x3x512 .f32 := broadcastInDim S4x3x512 ![] bcast_S_S4x3x512 main_cst_6
  let main_v21 : IVec S4x3x512 1 := cmpf .olt main_v19 main_v20
  let main_c_7 : IVec S_ 1 := constantI S_ 1 1#1
  let main_v22 : IVec S_ 1 := (fun x v => Host.reduce IntOp.andi x v reducesTo_S4x3x512_S_d0_1_2 h_S_) main_v21 main_c_7
  let main_v23 : IVec S_ 1 := andi main_v18 main_v22
  let main_v24 : FVec F S4x4x128x128 .f32 := Host.absf main_arg5
  let main_cst_8 : FVec F S_ .f32 := constant S_ .f32 0x7F800000#32
  let main_v25 : FVec F S4x4x128x128 .f32 := broadcastInDim S4x4x128x128 ![] bcast_S_S4x4x128x128 main_cst_8
  let main_v26 : IVec S4x4x128x128 1 := cmpf .olt main_v24 main_v25
  let main_c_9 : IVec S_ 1 := constantI S_ 1 1#1
  let main_v27 : IVec S_ 1 := (fun x v => Host.reduce IntOp.andi x v reducesTo_S4x4x128x128_S_d0_1_2_3 h_S_) main_v26 main_c_9
  let main_v28 : IVec S_ 1 := andi main_v23 main_v27
  let main_v29 : FVec F S4x512 .f32 := Host.absf main_arg6
  let main_cst_10 : FVec F S_ .f32 := constant S_ .f32 0x7F800000#32
  let main_v30 : FVec F S4x512 .f32 := broadcastInDim S4x512 ![] bcast_S_S4x512 main_cst_10
  let main_v31 : IVec S4x512 1 := cmpf .olt main_v29 main_v30
  let main_c_11 : IVec S_ 1 := constantI S_ 1 1#1
  let main_v32 : IVec S_ 1 := (fun x v => Host.reduce IntOp.andi x v reducesTo_S4x512_S_d0_1 h_S_) main_v31 main_c_11
  let main_v33 : IVec S_ 1 := andi main_v28 main_v32
  fn_part2 (F := F) main_arg7 main_arg8 main_v33

def fn {F : FTy → Type} [FloatOps F] (main_arg0 : FVec F S2048x1024 .f32) (main_arg1 : FVec F S4x3072 .f32) (main_arg2 : FVec F S4x1024 .f32) (main_arg3 : FVec F S1024x3072 .f32) (main_arg4 : FVec F S4x3x512 .f32) (main_arg5 : FVec F S4x4x128x128 .f32) (main_arg6 : FVec F S4x512 .f32) (main_arg7 : FVec F S1024x1024 .f32) (main_arg8 : FVec F S4x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S4x3072 .f32 := Host.absf main_arg1
  let main_cst_0 : FVec F S_ .f32 := constant S_ .f32 0x7F800000#32
  let main_v5 : FVec F S4x3072 .f32 := broadcastInDim S4x3072 ![] bcast_S_S4x3072 main_cst_0
  let main_v6 : IVec S4x3072 1 := cmpf .olt main_v4 main_v5
  let main_c_1 : IVec S_ 1 := constantI S_ 1 1#1
  let main_v7 : IVec S_ 1 := (fun x v => Host.reduce IntOp.andi x v reducesTo_S4x3072_S_d0_1 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_arg5 main_arg6 main_arg7 main_arg8 main_v13 main_v16
-- ==== Kernel.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S4x1x512 : Shape := ⟨3, ![4, 1, 512]⟩
abbrev S_ : Shape := ⟨0, ![]⟩
abbrev S4x4x512 : Shape := ⟨3, ![4, 4, 512]⟩
abbrev S4x8x512 : Shape := ⟨3, ![4, 8, 512]⟩
abbrev S4x3x1024 : Shape := ⟨3, ![4, 3, 1024]⟩
abbrev S4x1x1024 : Shape := ⟨3, ![4, 1, 1024]⟩
abbrev S4x8x1024 : Shape := ⟨3, ![4, 8, 1024]⟩
abbrev S1x8x1024 : Shape := ⟨3, ![1, 8, 1024]⟩
abbrev S8x1024 : Shape := ⟨2, ![8, 1024]⟩
abbrev S1x8x512 : Shape := ⟨3, ![1, 8, 512]⟩
abbrev S8x512 : Shape := ⟨2, ![8, 512]⟩
abbrev S1x4x128x128 : Shape := ⟨4, ![1, 4, 128, 128]⟩
abbrev S4x128x128 : Shape := ⟨3, ![4, 128, 128]⟩
abbrev S1x1024 : Shape := ⟨2, ![1, 1024]⟩
abbrev S1x512 : Shape := ⟨2, ![1, 512]⟩
abbrev S2048 : Shape := ⟨1, ![2048]⟩
abbrev S2048x1 : Shape := ⟨2, ![2048, 1]⟩
abbrev S2048x3072 : Shape := ⟨2, ![2048, 3072]⟩
abbrev S2048x512 : Shape := ⟨2, ![2048, 512]⟩
abbrev S2x512 : Shape := ⟨2, ![2, 512]⟩
abbrev S2046x512 : Shape := ⟨2, ![2046, 512]⟩
abbrev S2047x512 : Shape := ⟨2, ![2047, 512]⟩
abbrev S2048x1536 : Shape := ⟨2, ![2048, 1536]⟩
abbrev S2048x128 : Shape := ⟨2, ![2048, 128]⟩
abbrev S1x128 : Shape := ⟨2, ![1, 128]⟩
abbrev S2047x128 : Shape := ⟨2, ![2047, 128]⟩
abbrev S1x128x128 : Shape := ⟨3, ![1, 128, 128]⟩
abbrev S128x128 : Shape := ⟨2, ![128, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S2048x2048 : Shape := ⟨2, ![2048, 2048]⟩
abbrev S256x1024 : Shape := ⟨2, ![256, 1024]⟩
abbrev S16x1024 : Shape := ⟨2, ![16, 1024]⟩
abbrev S256x1536 : Shape := ⟨2, ![256, 1536]⟩
abbrev S256x2048 : Shape := ⟨2, ![256, 2048]⟩
abbrev S256x3072 : Shape := ⟨2, ![256, 3072]⟩
abbrev S16x512 : Shape := ⟨2, ![16, 512]⟩
abbrev S1x1x1024 : Shape := ⟨3, ![1, 1, 1024]⟩
abbrev S1x1x512 : Shape := ⟨3, ![1, 1, 512]⟩
abbrev S256 : Shape := ⟨1, ![256]⟩
abbrev S256x1 : Shape := ⟨2, ![256, 1]⟩
abbrev S1024 : Shape := ⟨1, ![1024]⟩
abbrev S256x512 : Shape := ⟨2, ![256, 512]⟩
abbrev S264x512 : Shape := ⟨2, ![264, 512]⟩
abbrev S512 : Shape := ⟨1, ![512]⟩
abbrev S256x128 : Shape := ⟨2, ![256, 128]⟩
abbrev S1x1x128x128 : Shape := ⟨4, ![1, 1, 128, 128]⟩
abbrev S16x128 : Shape := ⟨2, ![16, 128]⟩
abbrev S272x128 : Shape := ⟨2, ![272, 128]⟩

abbrev nBuf : Space → Nat
  | .hbm => 257
  | .vmem => 31
  | .smem => 0
  | _ => 0

abbrev hbmTy0_0 (i : Nat) : BufTy := match i % 128 with
  | 0 => ⟨S2048x1024, .f32⟩
  | 1 => ⟨S4x3072, .f32⟩
  | 2 => ⟨S4x1024, .f32⟩
  | 3 => ⟨S1024x3072, .f32⟩
  | 4 => ⟨S4x3x512, .f32⟩
  | 5 => ⟨S4x4x128x128, .f32⟩
  | 6 => ⟨S4x512, .f32⟩
  | 7 => ⟨S1024x1024, .f32⟩
  | 8 => ⟨S4x1024, .f32⟩
  | 9 => ⟨S2048x1024, .f32⟩
  | 10 => ⟨S4x1x512, .f32⟩
  | 11 => ⟨S_, .f32⟩
  | 12 => ⟨S4x4x512, .f32⟩
  | 13 => ⟨S4x8x512, .f32⟩
  | 14 => ⟨S4x4x128x128, .bf16⟩
  | 15 => ⟨S1024x3072, .bf16⟩
  | 16 => ⟨S1024x1024, .bf16⟩
  | 17 => ⟨S_, .f32⟩
  | 18 => ⟨S4x3x1024, .f32⟩
  | 19 => ⟨S4x3x1024, .f32⟩
  | 20 => ⟨S4x1x1024, .f32⟩
  | 21 => ⟨S4x1x1024, .f32⟩
  | 22 => ⟨S4x8x1024, .f32⟩
  | 23 => ⟨S1x8x1024, .f32⟩
  | 24 => ⟨S8x1024, .f32⟩
  | 25 => ⟨S1x8x512, .f32⟩
  | 26 => ⟨S8x512, .f32⟩
  | 27 => ⟨S1x4x128x128, .bf16⟩
  | 28 => ⟨S4x128x128, .bf16⟩
  | 29 => ⟨S1x1024, .f32⟩
  | 30 => ⟨S1x1024, .f32⟩
  | 31 => ⟨S1x1024, .f32⟩
  | 32 => ⟨S1x512, .f32⟩
  | 33 => ⟨S1x512, .f32⟩
  | 34 => ⟨S1x512, .f32⟩
  | 35 => ⟨S1x512, .f32⟩
  | 36 => ⟨S2048x1024, .f32⟩
  | 37 => ⟨S_, .f32⟩
  | 38 => ⟨S2048, .f32⟩
  | 39 => ⟨S2048x1, .f32⟩
  | 40 => ⟨S_, .f32⟩
  | 41 => ⟨S2048x1, .f32⟩
  | 42 => ⟨S2048x1, .f32⟩
  | 43 => ⟨S_, .f32⟩
  | 44 => ⟨S2048x1, .f32⟩
  | 45 => ⟨S2048x1, .f32⟩
  | 46 => ⟨S2048x1, .f32⟩
  | 47 => ⟨S2048x1024, .f32⟩
  | 48 => ⟨S2048x1024, .f32⟩
  | 49 => ⟨S2048x1024, .f32⟩
  | 50 => ⟨S2048x1024, .f32⟩
  | 51 => ⟨S_, .f32⟩
  | 52 => ⟨S1x1024, .f32⟩
  | 53 => ⟨S1x1024, .f32⟩
  | 54 => ⟨S2048x1024, .f32⟩
  | 55 => ⟨S2048x1024, .f32⟩
  | 56 => ⟨S2048x1024, .f32⟩
  | 57 => ⟨S2048x1024, .f32⟩
  | 58 => ⟨S2048x1024, .bf16⟩
  | 59 => ⟨S2048x3072, .f32⟩
  | 60 => ⟨S2048x512, .f32⟩
  | 61 => ⟨S2048x512, .f32⟩
  | 62 => ⟨S2048x512, .f32⟩
  | 63 => ⟨S2048x512, .f32⟩
  | 64 => ⟨S2048x512, .f32⟩
  | 65 => ⟨S2048x512, .f32⟩
  | 66 => ⟨S2048x1024, .f32⟩
  | 67 => ⟨S2048x1024, .bf16⟩
  | 68 => ⟨S2048x512, .f32⟩
  | 69 => ⟨S_, .f32⟩
  | 70 => ⟨S2x512, .f32⟩
  | 71 => ⟨S2046x512, .f32⟩
  | 72 => ⟨S2048x512, .f32⟩
  | 73 => ⟨S2048x512, .f32⟩
  | 74 => ⟨S2048x512, .f32⟩
  | 75 => ⟨S_, .f32⟩
  | 76 => ⟨S1x512, .f32⟩
  | 77 => ⟨S2047x512, .f32⟩
  | 78 => ⟨S2048x512, .f32⟩
  | 79 => ⟨S2048x512, .f32⟩
  | 80 => ⟨S2048x512, .f32⟩
  | 81 => ⟨S2048x512, .f32⟩
  | 82 => ⟨S2048x512, .f32⟩
  | 83 => ⟨S2048x512, .f32⟩
  | 84 => ⟨S2048x512, .f32⟩
  | 85 => ⟨S2048x512, .f32⟩
  | 86 => ⟨S2048x512, .f32⟩
  | 87 => ⟨S_, .f32⟩
  | 88 => ⟨S2048x512, .f32⟩
  | 89 => ⟨S2048x512, .f32⟩
  | 90 => ⟨S_, .f32⟩
  | 91 => ⟨S2048x512, .f32⟩
  | 92 => ⟨S2048x512, .f32⟩
  | 93 => ⟨S2048x512, .f32⟩
  | 94 => ⟨S2048x512, .f32⟩
  | 95 => ⟨S2048x512, .f32⟩
  | 96 => ⟨S2048x512, .f32⟩
  | 97 => ⟨S2048x512, .f32⟩
  | 98 => ⟨S_, .f32⟩
  | 99 => ⟨S2048x512, .f32⟩
  | 100 => ⟨S2048x512, .f32⟩
  | 101 => ⟨S2048x512, .f32⟩
  | 102 => ⟨S2048x512, .f32⟩
  | 103 => ⟨S2048x512, .f32⟩
  | 104 => ⟨S2048x1536, .f32⟩
  | 105 => ⟨S2048x1536, .bf16⟩
  | 106 => ⟨S2048x1, .i32⟩
  | 107 => ⟨S_, .i32⟩
  | 108 => ⟨S2048x1, .i32⟩
  | 109 => ⟨S2048x1, .i32⟩
  | 110 => ⟨S2048x1, .f32⟩
  | 111 => ⟨S2048x128, .f32⟩
  | 112 => ⟨S_, .f32⟩
  | 113 => ⟨S1x128, .f32⟩
  | 114 => ⟨S2047x128, .f32⟩
  | 115 => ⟨S2048x128, .f32⟩
  | 116 => ⟨S2048x128, .f32⟩
  | 117 => ⟨S_, .f32⟩
  | 118 => ⟨S2048x1, .f32⟩
  | 119 => ⟨S2048x1, .f32⟩
  | 120 => ⟨S_, .f32⟩
  | 121 => ⟨S2048x1, .f32⟩
  | 122 => ⟨S2048x1, .f32⟩
  | 123 => ⟨S2048x128, .f32⟩
  | 124 => ⟨S2048x128, .f32⟩
  | 125 => ⟨S2048x128, .f32⟩
  | 126 => ⟨S2048x128, .f32⟩
  | 127 => ⟨S2048x128, .bf16⟩
  | _ => ⟨S2048x1024, .f32⟩

abbrev hbmTy0_1 (i : Nat) : BufTy := match i % 128 with
  | 0 => ⟨S1x128x128, .bf16⟩
  | 1 => ⟨S128x128, .bf16⟩
  | 2 => ⟨S2048x128, .f32⟩
  | 3 => ⟨S2048x128, .f32⟩
  | 4 => ⟨S_, .f32⟩
  | 5 => ⟨S1x128, .f32⟩
  | 6 => ⟨S2047x128, .f32⟩
  | 7 => ⟨S2048x128, .f32⟩
  | 8 => ⟨S2048x128, .f32⟩
  | 9 => ⟨S_, .f32⟩
  | 10 => ⟨S2x128, .f32⟩
  | 11 => ⟨S2046x128, .f32⟩
  | 12 => ⟨S2048x128, .f32⟩
  | 13 => ⟨S2048x128, .f32⟩
  | 14 => ⟨S_, .f32⟩
  | 15 => ⟨S2048x1, .f32⟩
  | 16 => ⟨S2048x1, .f32⟩
  | 17 => ⟨S_, .f32⟩
  | 18 => ⟨S2048x1, .f32⟩
  | 19 => ⟨S2048x1, .f32⟩
  | 20 => ⟨S2048x128, .f32⟩
  | 21 => ⟨S2048x128, .f32⟩
  | 22 => ⟨S2048x128, .f32⟩
  | 23 => ⟨S2048x128, .f32⟩
  | 24 => ⟨S2048x128, .bf16⟩
  | 25 => ⟨S1x128x128, .bf16⟩
  | 26 => ⟨S128x128, .bf16⟩
  | 27 => ⟨S2048x128, .f32⟩
  | 28 => ⟨S2048x128, .f32⟩
  | 29 => ⟨S_, .f32⟩
  | 30 => ⟨S1x128, .f32⟩
  | 31 => ⟨S2047x128, .f32⟩
  | 32 => ⟨S2048x128, .f32⟩
  | 33 => ⟨S2048x128, .f32⟩
  | 34 => ⟨S_, .f32⟩
  | 35 => ⟨S2x128, .f32⟩
  | 36 => ⟨S2046x128, .f32⟩
  | 37 => ⟨S2048x128, .f32⟩
  | 38 => ⟨S2048x128, .f32⟩
  | 39 => ⟨S_, .f32⟩
  | 40 => ⟨S4x128, .f32⟩
  | 41 => ⟨S2044x128, .f32⟩
  | 42 => ⟨S2048x128, .f32⟩
  | 43 => ⟨S2048x128, .f32⟩
  | 44 => ⟨S_, .f32⟩
  | 45 => ⟨S2048x1, .f32⟩
  | 46 => ⟨S2048x1, .f32⟩
  | 47 => ⟨S_, .f32⟩
  | 48 => ⟨S2048x1, .f32⟩
  | 49 => ⟨S2048x1, .f32⟩
  | 50 => ⟨S2048x128, .f32⟩
  | 51 => ⟨S2048x128, .f32⟩
  | 52 => ⟨S2048x128, .f32⟩
  | 53 => ⟨S2048x128, .f32⟩
  | 54 => ⟨S2048x128, .bf16⟩
  | 55 => ⟨S1x128x128, .bf16⟩
  | 56 => ⟨S128x128, .bf16⟩
  | 57 => ⟨S2048x128, .f32⟩
  | 58 => ⟨S2048x128, .f32⟩
  | 59 => ⟨S_, .f32⟩
  | 60 => ⟨S1x128, .f32⟩
  | 61 => ⟨S2047x128, .f32⟩
  | 62 => ⟨S2048x128, .f32⟩
  | 63 => ⟨S2048x128, .f32⟩
  | 64 => ⟨S_, .f32⟩
  | 65 => ⟨S2x128, .f32⟩
  | 66 => ⟨S2046x128, .f32⟩
  | 67 => ⟨S2048x128, .f32⟩
  | 68 => ⟨S2048x128, .f32⟩
  | 69 => ⟨S_, .f32⟩
  | 70 => ⟨S4x128, .f32⟩
  | 71 => ⟨S2044x128, .f32⟩
  | 72 => ⟨S2048x128, .f32⟩
  | 73 => ⟨S2048x128, .f32⟩
  | 74 => ⟨S_, .f32⟩
  | 75 => ⟨S8x128, .f32⟩
  | 76 => ⟨S2040x128, .f32⟩
  | 77 => ⟨S2048x128, .f32⟩
  | 78 => ⟨S2048x128, .f32⟩
  | 79 => ⟨S_, .f32⟩
  | 80 => ⟨S2048x1, .f32⟩
  | 81 => ⟨S2048x1, .f32⟩
  | 82 => ⟨S_, .f32⟩
  | 83 => ⟨S2048x1, .f32⟩
  | 84 => ⟨S2048x1, .f32⟩
  | 85 => ⟨S2048x128, .f32⟩
  | 86 => ⟨S2048x128, .f32⟩
  | 87 => ⟨S2048x128, .f32⟩
  | 88 => ⟨S2048x128, .f32⟩
  | 89 => ⟨S2048x128, .bf16⟩
  | 90 => ⟨S1x128x128, .bf16⟩
  | 91 => ⟨S128x128, .bf16⟩
  | 92 => ⟨S2048x128, .f32⟩
  | 93 => ⟨S2048x512, .f32⟩
  | 94 => ⟨S2048x512, .f32⟩
  | 95 => ⟨S2048x512, .f32⟩
  | 96 => ⟨S_, .f32⟩
  | 97 => ⟨S2048x512, .f32⟩
  | 98 => ⟨S2048x512, .f32⟩
  | 99 => ⟨S_, .f32⟩
  | 100 => ⟨S2048x512, .f32⟩
  | 101 => ⟨S2048x512, .f32⟩
  | 102 => ⟨S2048x512, .f32⟩
  | 103 => ⟨S2048x512, .f32⟩
  | 104 => ⟨S2048x512, .f32⟩
  | 105 => ⟨S2048x512, .f32⟩
  | 106 => ⟨S2048x512, .f32⟩
  | 107 => ⟨S2048x512, .f32⟩
  | 108 => ⟨S2048x512, .bf16⟩
  | 109 => ⟨S_, .f32⟩
  | 110 => ⟨S2048x512, .f32⟩
  | 111 => ⟨S2048x512, .f32⟩
  | 112 => ⟨S2048x512, .f32⟩
  | 113 => ⟨S2048x512, .f32⟩
  | 114 => ⟨S2048x512, .f32⟩
  | 115 => ⟨S2048x512, .bf16⟩
  | 116 => ⟨S2048x512, .f32⟩
  | 117 => ⟨S2048x512, .bf16⟩
  | 118 => ⟨S2048x2048, .bf16⟩
  | 119 => ⟨S2048x1024, .f32⟩
  | 120 => ⟨S2048x1024, .bf16⟩
  | 121 => ⟨S2048x1024, .f32⟩
  | 122 => ⟨S2048x1024, .bf16⟩
  | 123 => ⟨S2048x1024, .f32⟩
  | 124 => ⟨S2048x3072, .bf16⟩
  | 125 => ⟨S2048x1024, .bf16⟩
  | 126 => ⟨S4x128x128, .bf16⟩
  | 127 => ⟨S8x512, .f32⟩
  | _ => ⟨S2048x1024, .f32⟩

abbrev hbmTy0_2 (i : Nat) : BufTy := match i % 128 with
  | 0 => ⟨S8x1024, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S256x1536, .bf16⟩
  | .local _ .vmem, ⟨11, _⟩ => ⟨S256x1536, .bf16⟩
  | .local _ .vmem, ⟨12, _⟩ => ⟨S256x2048, .bf16⟩
  | .local _ .vmem, ⟨13, _⟩ => ⟨S256x2048, .bf16⟩
  | .local _ .vmem, ⟨14, _⟩ => ⟨S1x8x1024, .f32⟩
  | .local _ .vmem, ⟨15, _⟩ => ⟨S1x8x512, .f32⟩
  | .local _ .vmem, ⟨16, _⟩ => ⟨S1x4x128x128, .bf16⟩
  | .local _ .vmem, ⟨17, _⟩ => ⟨S1024x1024, .bf16⟩
  | .local _ .vmem, ⟨18, _⟩ => ⟨S1024x3072, .bf16⟩
  | .local _ .vmem, ⟨19, _⟩ => ⟨S256x1024, .f32⟩
  | .local _ .vmem, ⟨20, _⟩ => ⟨S256x1024, .f32⟩
  | .local _ .vmem, ⟨21, _⟩ => ⟨S256x3072, .bf16⟩
  | .local _ .vmem, ⟨22, _⟩ => ⟨S256x3072, .bf16⟩
  | .local _ .vmem, ⟨23, _⟩ => ⟨S256x1024, .bf16⟩
  | .local _ .vmem, ⟨24, _⟩ => ⟨S256x1024, .bf16⟩
  | .local _ .vmem, ⟨25, _⟩ => ⟨S4x128x128, .bf16⟩
  | .local _ .vmem, ⟨26, _⟩ => ⟨S8x512, .f32⟩
  | .local _ .vmem, ⟨27, _⟩ => ⟨S8x1024, .f32⟩
  | .local _ .vmem, ⟨28, _⟩ => ⟨S4x128x128, .f32⟩
  | .local _ .vmem, ⟨29, _⟩ => ⟨S8x512, .f32⟩
  | .local _ .vmem, ⟨30, _⟩ => ⟨S16x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_7 : Ref sig .tc := ⟨.hbm, 87, rfl⟩
abbrev main_v69 : Ref sig .tc := ⟨.hbm, 88, rfl⟩
abbrev main_v70 : Ref sig .tc := ⟨.hbm, 89, rfl⟩
abbrev main_cst_8 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_9 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_c : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_10 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_11 : Ref sig .tc := ⟨.hbm, 117, rfl⟩
abbrev main_v94 : Ref sig .tc := ⟨.hbm, 118, rfl⟩
abbrev main_v95 : Ref sig .tc := ⟨.hbm, 119, rfl⟩
abbrev main_cst_12 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_13 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_cst_14 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_15 : Ref sig .tc := ⟨.hbm, 142, rfl⟩
abbrev main_v115 : Ref sig .tc := ⟨.hbm, 143, rfl⟩
abbrev main_v116 : Ref sig .tc := ⟨.hbm, 144, rfl⟩
abbrev main_cst_16 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_17 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_18 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_cst_19 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_20 : Ref sig .tc := ⟨.hbm, 172, rfl⟩
abbrev main_v140 : Ref sig .tc := ⟨.hbm, 173, rfl⟩
abbrev main_v141 : Ref sig .tc := ⟨.hbm, 174, rfl⟩
abbrev main_cst_21 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_22 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_cst_23 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_cst_24 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_cst_25 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_cst_26 : Ref sig .tc := ⟨.hbm, 207, rfl⟩
abbrev main_v169 : Ref sig .tc := ⟨.hbm, 208, rfl⟩
abbrev main_v170 : Ref sig .tc := ⟨.hbm, 209, rfl⟩
abbrev main_cst_27 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_cst_28 : Ref sig .tc := ⟨.hbm, 224, rfl⟩
abbrev main_v184 : Ref sig .tc := ⟨.hbm, 225, rfl⟩
abbrev main_v185 : Ref sig .tc := ⟨.hbm, 226, rfl⟩
abbrev main_cst_29 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_cst_30 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208_0 : Ref sig .tc := ⟨.hbm, 251, rfl⟩
abbrev main_v208_1 : Ref sig .tc := ⟨.hbm, 252, rfl⟩
abbrev main_v208_2 : Ref sig .tc := ⟨.hbm, 253, rfl⟩
abbrev main_v208_3 : Ref sig .tc := ⟨.hbm, 254, rfl⟩
abbrev main_v208_4 : Ref sig .tc := ⟨.hbm, 255, rfl⟩
abbrev main_v208_5 : Ref sig .tc := ⟨.hbm, 256, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_170 : BitVec 32 := 7#32
  let v322 : BitVec 1 := Scalar.cmpi .eq arg0 c7_i32_170
  let v323 : BitVec 32 := Scalar.extui v322
  let c0_i32_171 : BitVec 32 := 0#32
  let v324 : BitVec 1 := Scalar.cmpi .ne v323 c0_i32_171
  v324

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S1x3072 : Shape := ⟨2, ![1, 3072]⟩
abbrev S3072 : Shape := ⟨1, ![3072]⟩
abbrev S1x1024 : Shape := ⟨2, ![1, 1024]⟩
abbrev S1024 : Shape := ⟨1, ![1024]⟩
abbrev S1x3x512 : Shape := ⟨3, ![1, 3, 512]⟩
abbrev S3x512 : Shape := ⟨2, ![3, 512]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩
abbrev S_ : Shape := ⟨0, ![]⟩
abbrev S2048x3072 : Shape := ⟨2, ![2048, 3072]⟩
abbrev S2048 : Shape := ⟨1, ![2048]⟩
abbrev S2048x1 : Shape := ⟨2, ![2048, 1]⟩
abbrev S2048x512 : Shape := ⟨2, ![2048, 512]⟩
abbrev S2x512 : Shape := ⟨2, ![2, 512]⟩
abbrev S2046x512 : Shape := ⟨2, ![2046, 512]⟩
abbrev S2047x512 : Shape := ⟨2, ![2047, 512]⟩
abbrev S2048x128 : Shape := ⟨2, ![2048, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S2048x1x128 : Shape := ⟨3, ![2048, 1, 128]⟩
abbrev S2048x4x128 : Shape := ⟨3, ![2048, 4, 128]⟩
abbrev S4x128x2048 : Shape := ⟨3, ![4, 128, 2048]⟩
abbrev S4x2048x128 : Shape := ⟨3, ![4, 2048, 128]⟩
abbrev S8x512 : Shape := ⟨2, ![8, 512]⟩
abbrev S3x1024 : Shape := ⟨2, ![3, 1024]⟩
abbrev S8x1024 : Shape := ⟨2, ![8, 1024]⟩

abbrev nBuf : Space → Nat
  | .hbm => 491
  | .vmem => 0
  | .smem => 0
  | _ => 0

abbrev hbmTy0_0 (i : Nat) : BufTy := match i % 128 with
  | 0 => ⟨S2048x1024, .f32⟩
  | 1 => ⟨S4x3072, .f32⟩
  | 2 => ⟨S4x1024, .f32⟩
  | 3 => ⟨S1024x3072, .f32⟩
  | 4 => ⟨S4x3x512, .f32⟩
  | 5 => ⟨S4x4x128x128, .f32⟩
  | 6 => ⟨S4x512, .f32⟩
  | 7 => ⟨S1024x1024, .f32⟩
  | 8 => ⟨S4x1024, .f32⟩
  | 9 => ⟨S2048x1024, .f32⟩
  | 10 => ⟨S1x3072, .f32⟩
  | 11 => ⟨S3072, .f32⟩
  | 12 => ⟨S1x1024, .f32⟩
  | 13 => ⟨S1024, .f32⟩
  | 14 => ⟨S1x3x512, .f32⟩
  | 15 => ⟨S3x512, .f32⟩
  | 16 => ⟨S1x4x128x128, .f32⟩
  | 17 => ⟨S4x128x128, .f32⟩
  | 18 => ⟨S1x512, .f32⟩
  | 19 => ⟨S512, .f32⟩
  | 20 => ⟨S1x1024, .f32⟩
  | 21 => ⟨S1024, .f32⟩
  | 22 => ⟨S_, .f32⟩
  | 23 => ⟨S2048x3072, .f32⟩
  | 24 => ⟨S_, .f32⟩
  | 25 => ⟨S2048x1024, .f32⟩
  | 26 => ⟨S1024, .f32⟩
  | 27 => ⟨S1024, .f32⟩
  | 28 => ⟨S1024, .f32⟩
  | 29 => ⟨S2048x1024, .f32⟩
  | 30 => ⟨S_, .f32⟩
  | 31 => ⟨S2048, .f32⟩
  | 32 => ⟨S2048x1, .f32⟩
  | 33 => ⟨S_, .f32⟩
  | 34 => ⟨S2048x1, .f32⟩
  | 35 => ⟨S2048x1, .f32⟩
  | 36 => ⟨S_, .f32⟩
  | 37 => ⟨S2048x1, .f32⟩
  | 38 => ⟨S2048x1, .f32⟩
  | 39 => ⟨S2048x1, .f32⟩
  | 40 => ⟨S2048x1, .f32⟩
  | 41 => ⟨S_, .f32⟩
  | 42 => ⟨S2048x1, .f32⟩
  | 43 => ⟨S2048x1, .f32⟩
  | 44 => ⟨S2048x1024, .f32⟩
  | 45 => ⟨S2048x1024, .f32⟩
  | 46 => ⟨S1x1024, .f32⟩
  | 47 => ⟨S2048x1024, .f32⟩
  | 48 => ⟨S2048x1024, .f32⟩
  | 49 => ⟨S_, .f32⟩
  | 50 => ⟨S1024, .f32⟩
  | 51 => ⟨S1024, .f32⟩
  | 52 => ⟨S1x1024, .f32⟩
  | 53 => ⟨S2048x1024, .f32⟩
  | 54 => ⟨S2048x1024, .f32⟩
  | 55 => ⟨S1x1024, .f32⟩
  | 56 => ⟨S2048x1024, .f32⟩
  | 57 => ⟨S2048x1024, .f32⟩
  | 58 => ⟨S2048x3072, .f32⟩
  | 59 => ⟨S2048x3072, .f32⟩
  | 60 => ⟨S2048x512, .f32⟩
  | 61 => ⟨S2048x512, .f32⟩
  | 62 => ⟨S2048x512, .f32⟩
  | 63 => ⟨S2048x512, .f32⟩
  | 64 => ⟨S2048x512, .f32⟩
  | 65 => ⟨S2048x512, .f32⟩
  | 66 => ⟨S2048x512, .f32⟩
  | 67 => ⟨S1x512, .f32⟩
  | 68 => ⟨S512, .f32⟩
  | 69 => ⟨S_, .f32⟩
  | 70 => ⟨S2x512, .f32⟩
  | 71 => ⟨S2046x512, .f32⟩
  | 72 => ⟨S2048x512, .f32⟩
  | 73 => ⟨S_, .f32⟩
  | 74 => ⟨S2x512, .f32⟩
  | 75 => ⟨S1x512, .f32⟩
  | 76 => ⟨S2048x512, .f32⟩
  | 77 => ⟨S2048x512, .f32⟩
  | 78 => ⟨S1x512, .f32⟩
  | 79 => ⟨S512, .f32⟩
  | 80 => ⟨S_, .f32⟩
  | 81 => ⟨S1x512, .f32⟩
  | 82 => ⟨S2047x512, .f32⟩
  | 83 => ⟨S2048x512, .f32⟩
  | 84 => ⟨S_, .f32⟩
  | 85 => ⟨S1x512, .f32⟩
  | 86 => ⟨S1x512, .f32⟩
  | 87 => ⟨S2048x512, .f32⟩
  | 88 => ⟨S2048x512, .f32⟩
  | 89 => ⟨S2048x512, .f32⟩
  | 90 => ⟨S1x512, .f32⟩
  | 91 => ⟨S512, .f32⟩
  | 92 => ⟨S1x512, .f32⟩
  | 93 => ⟨S2048x512, .f32⟩
  | 94 => ⟨S2048x512, .f32⟩
  | 95 => ⟨S2048x512, .f32⟩
  | 96 => ⟨S2048x512, .f32⟩
  | 97 => ⟨S2048x512, .f32⟩
  | 98 => ⟨S2048x512, .f32⟩
  | 99 => ⟨S_, .f32⟩
  | 100 => ⟨S2048x512, .f32⟩
  | 101 => ⟨S2048x512, .f32⟩
  | 102 => ⟨S_, .f32⟩
  | 103 => ⟨S2048x512, .f32⟩
  | 104 => ⟨S2048x512, .f32⟩
  | 105 => ⟨S_, .f32⟩
  | 106 => ⟨S2048x512, .f32⟩
  | 107 => ⟨S2048x512, .f32⟩
  | 108 => ⟨S2048x512, .f32⟩
  | 109 => ⟨S2048x512, .f32⟩
  | 110 => ⟨S2048x512, .f32⟩
  | 111 => ⟨S2048, .i32⟩
  | 112 => ⟨S_, .i32⟩
  | 113 => ⟨S2048, .i32⟩
  | 114 => ⟨S2048, .i32⟩
  | 115 => ⟨S2048, .f32⟩
  | 116 => ⟨S2048x1, .f32⟩
  | 117 => ⟨S2048x128, .f32⟩
  | 118 => ⟨S_, .f32⟩
  | 119 => ⟨S_, .f32⟩
  | 120 => ⟨S2048x128, .f32⟩
  | 121 => ⟨S_, .f32⟩
  | 122 => ⟨S2x128, .f32⟩
  | 123 => ⟨S2046x128, .f32⟩
  | 124 => ⟨S2048x128, .f32⟩
  | 125 => ⟨S_, .f32⟩
  | 126 => ⟨S2x128, .f32⟩
  | 127 => ⟨S2048x128, .f32⟩
  | _ => ⟨S2048x1024, .f32⟩

abbrev hbmTy0_1 (i : Nat) : BufTy := match i % 128 with
  | 0 => ⟨S_, .f32⟩
  | 1 => ⟨S2048x1, .f32⟩
  | 2 => ⟨S2048x1, .f32⟩
  | 3 => ⟨S2048x128, .f32⟩
  | 4 => ⟨S2048x128, .f32⟩
  | 5 => ⟨S2048x128, .f32⟩
  | 6 => ⟨S2048x128, .f32⟩
  | 7 => ⟨S_, .f32⟩
  | 8 => ⟨S_, .f32⟩
  | 9 => ⟨S2048x128, .f32⟩
  | 10 => ⟨S_, .f32⟩
  | 11 => ⟨S4x128, .f32⟩
  | 12 => ⟨S2044x128, .f32⟩
  | 13 => ⟨S2048x128, .f32⟩
  | 14 => ⟨S_, .f32⟩
  | 15 => ⟨S4x128, .f32⟩
  | 16 => ⟨S2048x128, .f32⟩
  | 17 => ⟨S_, .f32⟩
  | 18 => ⟨S2048x1, .f32⟩
  | 19 => ⟨S2048x1, .f32⟩
  | 20 => ⟨S2048x128, .f32⟩
  | 21 => ⟨S2048x128, .f32⟩
  | 22 => ⟨S2048x128, .f32⟩
  | 23 => ⟨S2048x128, .f32⟩
  | 24 => ⟨S_, .f32⟩
  | 25 => ⟨S_, .f32⟩
  | 26 => ⟨S2048x128, .f32⟩
  | 27 => ⟨S_, .f32⟩
  | 28 => ⟨S8x128, .f32⟩
  | 29 => ⟨S2040x128, .f32⟩
  | 30 => ⟨S2048x128, .f32⟩
  | 31 => ⟨S_, .f32⟩
  | 32 => ⟨S8x128, .f32⟩
  | 33 => ⟨S2048x128, .f32⟩
  | 34 => ⟨S_, .f32⟩
  | 35 => ⟨S2048x1, .f32⟩
  | 36 => ⟨S2048x1, .f32⟩
  | 37 => ⟨S2048x128, .f32⟩
  | 38 => ⟨S2048x128, .f32⟩
  | 39 => ⟨S2048x128, .f32⟩
  | 40 => ⟨S2048x128, .f32⟩
  | 41 => ⟨S_, .f32⟩
  | 42 => ⟨S_, .f32⟩
  | 43 => ⟨S2048x128, .f32⟩
  | 44 => ⟨S_, .f32⟩
  | 45 => ⟨S16x128, .f32⟩
  | 46 => ⟨S2032x128, .f32⟩
  | 47 => ⟨S2048x128, .f32⟩
  | 48 => ⟨S_, .f32⟩
  | 49 => ⟨S16x128, .f32⟩
  | 50 => ⟨S2048x128, .f32⟩
  | 51 => ⟨S_, .f32⟩
  | 52 => ⟨S2048x1, .f32⟩
  | 53 => ⟨S2048x1, .f32⟩
  | 54 => ⟨S2048x128, .f32⟩
  | 55 => ⟨S2048x128, .f32⟩
  | 56 => ⟨S2048x128, .f32⟩
  | 57 => ⟨S2048x1x128, .f32⟩
  | 58 => ⟨S2048x1x128, .f32⟩
  | 59 => ⟨S2048x1x128, .f32⟩
  | 60 => ⟨S2048x1x128, .f32⟩
  | 61 => ⟨S2048x4x128, .f32⟩
  | 62 => ⟨S4x128x2048, .f32⟩
  | 63 => ⟨S2048x4x128, .f32⟩
  | 64 => ⟨S2048x512, .f32⟩
  | 65 => ⟨S1x512, .f32⟩
  | 66 => ⟨S2048x512, .f32⟩
  | 67 => ⟨S2048x512, .f32⟩
  | 68 => ⟨S2048x512, .f32⟩
  | 69 => ⟨S2048x512, .f32⟩
  | 70 => ⟨S_, .f32⟩
  | 71 => ⟨S2048x512, .f32⟩
  | 72 => ⟨S2048x512, .f32⟩
  | 73 => ⟨S_, .f32⟩
  | 74 => ⟨S2048x512, .f32⟩
  | 75 => ⟨S2048x512, .f32⟩
  | 76 => ⟨S_, .f32⟩
  | 77 => ⟨S2048x512, .f32⟩
  | 78 => ⟨S2048x512, .f32⟩
  | 79 => ⟨S2048x512, .f32⟩
  | 80 => ⟨S2048x512, .f32⟩
  | 81 => ⟨S2048x512, .f32⟩
  | 82 => ⟨S2048x1024, .f32⟩
  | 83 => ⟨S2048x1024, .f32⟩
  | 84 => ⟨S2048x1024, .f32⟩
  | 85 => ⟨S2048x1024, .f32⟩
  | 86 => ⟨S_, .f32⟩
  | 87 => ⟨S2048, .f32⟩
  | 88 => ⟨S2048x1, .f32⟩
  | 89 => ⟨S_, .f32⟩
  | 90 => ⟨S2048x1, .f32⟩
  | 91 => ⟨S2048x1, .f32⟩
  | 92 => ⟨S_, .f32⟩
  | 93 => ⟨S2048x1, .f32⟩
  | 94 => ⟨S2048x1, .f32⟩
  | 95 => ⟨S2048x1, .f32⟩
  | 96 => ⟨S2048x1, .f32⟩
  | 97 => ⟨S_, .f32⟩
  | 98 => ⟨S2048x1, .f32⟩
  | 99 => ⟨S2048x1, .f32⟩
  | 100 => ⟨S2048x1024, .f32⟩
  | 101 => ⟨S2048x1024, .f32⟩
  | 102 => ⟨S1x1024, .f32⟩
  | 103 => ⟨S2048x1024, .f32⟩
  | 104 => ⟨S2048x1024, .f32⟩
  | 105 => ⟨S1x1024, .f32⟩
  | 106 => ⟨S2048x1024, .f32⟩
  | 107 => ⟨S2048x1024, .f32⟩
  | 108 => ⟨S2048x1024, .f32⟩
  | 109 => ⟨S2048x1024, .f32⟩
  | 110 => ⟨S2048x1024, .f32⟩
  | 111 => ⟨S2048x1024, .f32⟩
  | 112 => ⟨S2048x1024, .f32⟩
  | 113 => ⟨S_, .f32⟩
  | 114 => ⟨S1024, .f32⟩
  | 115 => ⟨S1x1024, .f32⟩
  | 116 => ⟨S_, .f32⟩
  | 117 => ⟨S1024, .f32⟩
  | 118 => ⟨S2048x1024, .f32⟩
  | 119 => ⟨S_, .f32⟩
  | 120 => ⟨S1024, .f32⟩
  | 121 => ⟨S1x1024, .f32⟩
  | 122 => ⟨S2048x1024, .f32⟩
  | 123 => ⟨S2048x1024, .f32⟩
  | 124 => ⟨S_, .f32⟩
  | 125 => ⟨S1024, .f32⟩
  | 126 => ⟨S2048x1024, .f32⟩
  | 127 => ⟨S_, .f32⟩
  | _ => ⟨S2048x1024, .f32⟩

abbrev hbmTy0_2 (i : Nat) : BufTy := match i % 128 with
  | 0 => ⟨S2048, .f32⟩
  | 1 => ⟨S2048x1, .f32⟩
  | 2 => ⟨S2048x1024, .f32⟩
  | 3 => ⟨S2048x1024, .f32⟩
  | 4 => ⟨S2048x1, .f32⟩
  | 5 => ⟨S_, .f32⟩
  | 6 => ⟨S2048x1, .f32⟩
  | 7 => ⟨S2048x1, .f32⟩
  | 8 => ⟨S_, .f32⟩
  | 9 => ⟨S2048, .f32⟩
  | 10 => ⟨S2048x1024, .f32⟩
  | 11 => ⟨S2048x1024, .f32⟩
  | 12 => ⟨S2048x1024, .f32⟩
  | 13 => ⟨S2048x1024, .f32⟩
  | 14 => ⟨S2048x1024, .f32⟩
  | 15 => ⟨S2048x1024, .f32⟩
  | 16 => ⟨S2048x512, .f32⟩
  | 17 => ⟨S2048x512, .f32⟩
  | 18 => ⟨S2048x512, .f32⟩
  | 19 => ⟨S2048x512, .f32⟩
  | 20 => ⟨S2048x512, .f32⟩
  | 21 => ⟨S2048x512, .f32⟩
  | 22 => ⟨S2048x512, .f32⟩
  | 23 => ⟨S2048x512, .f32⟩
  | 24 => ⟨S2048x512, .f32⟩
  | 25 => ⟨S_, .f32⟩
  | 26 => ⟨S512, .f32⟩
  | 27 => ⟨S1x512, .f32⟩
  | 28 => ⟨S2048x512, .f32⟩
  | 29 => ⟨S2048x512, .f32⟩
  | 30 => ⟨S_, .f32⟩
  | 31 => ⟨S512, .f32⟩
  | 32 => ⟨S2048x4x128, .f32⟩
  | 33 => ⟨S4x128x2048, .f32⟩
  | 34 => ⟨S4x2048x128, .f32⟩
  | 35 => ⟨S2048x4x128, .f32⟩
  | 36 => ⟨S4x128x128, .f32⟩
  | 37 => ⟨S4x128x128, .f32⟩
  | 38 => ⟨S2048x1x128, .f32⟩
  | 39 => ⟨S2048x128, .f32⟩
  | 40 => ⟨S2048x1x128, .f32⟩
  | 41 => ⟨S2048x128, .f32⟩
  | 42 => ⟨S2048x1x128, .f32⟩
  | 43 => ⟨S2048x128, .f32⟩
  | 44 => ⟨S2048x1x128, .f32⟩
  | 45 => ⟨S2048x128, .f32⟩
  | 46 => ⟨S2048x128, .f32⟩
  | 47 => ⟨S2048x128, .f32⟩
  | 48 => ⟨S2048x128, .f32⟩
  | 49 => ⟨S2048x128, .f32⟩
  | 50 => ⟨S16x128, .f32⟩
  | 51 => ⟨S2032x128, .f32⟩
  | 52 => ⟨S_, .f32⟩
  | 53 => ⟨S2048x128, .f32⟩
  | 54 => ⟨S2048x128, .f32⟩
  | 55 => ⟨S_, .f32⟩
  | 56 => ⟨S_, .f32⟩
  | 57 => ⟨S2048x128, .f32⟩
  | 58 => ⟨S2048x128, .f32⟩
  | 59 => ⟨S_, .f32⟩
  | 60 => ⟨S2048x512, .f32⟩
  | 61 => ⟨S2048x128, .f32⟩
  | 62 => ⟨S2048x128, .f32⟩
  | 63 => ⟨S2048x128, .f32⟩
  | 64 => ⟨S2048x128, .f32⟩
  | 65 => ⟨S8x128, .f32⟩
  | 66 => ⟨S2040x128, .f32⟩
  | 67 => ⟨S_, .f32⟩
  | 68 => ⟨S2048x128, .f32⟩
  | 69 => ⟨S2048x128, .f32⟩
  | 70 => ⟨S_, .f32⟩
  | 71 => ⟨S_, .f32⟩
  | 72 => ⟨S2048x128, .f32⟩
  | 73 => ⟨S2048x128, .f32⟩
  | 74 => ⟨S_, .f32⟩
  | 75 => ⟨S2048x512, .f32⟩
  | 76 => ⟨S2048x512, .f32⟩
  | 77 => ⟨S2048x128, .f32⟩
  | 78 => ⟨S2048x128, .f32⟩
  | 79 => ⟨S2048x128, .f32⟩
  | 80 => ⟨S2048x128, .f32⟩
  | 81 => ⟨S4x128, .f32⟩
  | 82 => ⟨S2044x128, .f32⟩
  | 83 => ⟨S_, .f32⟩
  | 84 => ⟨S2048x128, .f32⟩
  | 85 => ⟨S2048x128, .f32⟩
  | 86 => ⟨S_, .f32⟩
  | 87 => ⟨S_, .f32⟩
  | 88 => ⟨S2048x128, .f32⟩
  | 89 => ⟨S2048x128, .f32⟩
  | 90 => ⟨S_, .f32⟩
  | 91 => ⟨S2048x512, .f32⟩
  | 92 => ⟨S2048x512, .f32⟩
  | 93 => ⟨S2048x128, .f32⟩
  | 94 => ⟨S2048x128, .f32⟩
  | 95 => ⟨S2048x128, .f32⟩
  | 96 => ⟨S2048x128, .f32⟩
  | 97 => ⟨S2x128, .f32⟩
  | 98 => ⟨S2046x128, .f32⟩
  | 99 => ⟨S_, .f32⟩
  | 100 => ⟨S2048x128, .f32⟩
  | 101 => ⟨S2048x128, .f32⟩
  | 102 => ⟨S_, .f32⟩
  | 103 => ⟨S_, .f32⟩
  | 104 => ⟨S2048x128, .f32⟩
  | 105 => ⟨S2048x128, .f32⟩
  | 106 => ⟨S_, .f32⟩
  | 107 => ⟨S2048x512, .f32⟩
  | 108 => ⟨S2048x512, .f32⟩
  | 109 => ⟨S2048x512, .f32⟩
  | 110 => ⟨S2048x512, .f32⟩
  | 111 => ⟨S2048x512, .f32⟩
  | 112 => ⟨S2048x512, .f32⟩
  | 113 => ⟨S2048x512, .f32⟩
  | 114 => ⟨S2048x512, .f32⟩
  | 115 => ⟨S2048x512, .f32⟩
  | 116 => ⟨S2048x512, .f32⟩
  | 117 => ⟨S2048x512, .f32⟩
  | 118 => ⟨S2048x512, .f32⟩
  | 119 => ⟨S2048x512, .f32⟩
  | 120 => ⟨S_, .f32⟩
  | 121 => ⟨S512, .f32⟩
  | 122 => ⟨S1x512, .f32⟩
  | 123 => ⟨S_, .f32⟩
  | 124 => ⟨S512, .f32⟩
  | 125 => ⟨S1x512, .f32⟩
  | 126 => ⟨S_, .f32⟩
  | 127 => ⟨S3x512, .f32⟩
  | _ => ⟨S2048x1024, .f32⟩

abbrev hbmTy0_3 (i : Nat) : BufTy := match i % 128 with
  | 0 => ⟨S2048x512, .f32⟩
  | 1 => ⟨S2048x512, .f32⟩
  | 2 => ⟨S2048x512, .f32⟩
  | 3 => ⟨S_, .f32⟩
  | 4 => ⟨S512, .f32⟩
  | 5 => ⟨S1x512, .f32⟩
  | 6 => ⟨S_, .f32⟩
  | 7 => ⟨S512, .f32⟩
  | 8 => ⟨S1x512, .f32⟩
  | 9 => ⟨S2047x512, .f32⟩
  | 10 => ⟨S_, .f32⟩
  | 11 => ⟨S2048x512, .f32⟩
  | 12 => ⟨S2048x512, .f32⟩
  | 13 => ⟨S1x512, .f32⟩
  | 14 => ⟨S_, .f32⟩
  | 15 => ⟨S3x512, .f32⟩
  | 16 => ⟨S3x512, .f32⟩
  | 17 => ⟨S2048x512, .f32⟩
  | 18 => ⟨S2048x512, .f32⟩
  | 19 => ⟨S2048x512, .f32⟩
  | 20 => ⟨S_, .f32⟩
  | 21 => ⟨S512, .f32⟩
  | 22 => ⟨S1x512, .f32⟩
  | 23 => ⟨S_, .f32⟩
  | 24 => ⟨S512, .f32⟩
  | 25 => ⟨S2x512, .f32⟩
  | 26 => ⟨S2046x512, .f32⟩
  | 27 => ⟨S_, .f32⟩
  | 28 => ⟨S2048x512, .f32⟩
  | 29 => ⟨S2048x512, .f32⟩
  | 30 => ⟨S1x512, .f32⟩
  | 31 => ⟨S_, .f32⟩
  | 32 => ⟨S3x512, .f32⟩
  | 33 => ⟨S3x512, .f32⟩
  | 34 => ⟨S2048x512, .f32⟩
  | 35 => ⟨S2048x512, .f32⟩
  | 36 => ⟨S_, .f32⟩
  | 37 => ⟨S2048x3072, .f32⟩
  | 38 => ⟨S_, .f32⟩
  | 39 => ⟨S2048x3072, .f32⟩
  | 40 => ⟨S2048x3072, .f32⟩
  | 41 => ⟨S_, .f32⟩
  | 42 => ⟨S2048x3072, .f32⟩
  | 43 => ⟨S2048x3072, .f32⟩
  | 44 => ⟨S_, .f32⟩
  | 45 => ⟨S2048x3072, .f32⟩
  | 46 => ⟨S2048x3072, .f32⟩
  | 47 => ⟨S_, .f32⟩
  | 48 => ⟨S2048x3072, .f32⟩
  | 49 => ⟨S2048x3072, .f32⟩
  | 50 => ⟨S_, .f32⟩
  | 51 => ⟨S2048x3072, .f32⟩
  | 52 => ⟨S2048x3072, .f32⟩
  | 53 => ⟨S2048x1024, .f32⟩
  | 54 => ⟨S_, .f32⟩
  | 55 => ⟨S1024, .f32⟩
  | 56 => ⟨S1x1024, .f32⟩
  | 57 => ⟨S_, .f32⟩
  | 58 => ⟨S1024, .f32⟩
  | 59 => ⟨S2048x1024, .f32⟩
  | 60 => ⟨S_, .f32⟩
  | 61 => ⟨S1024, .f32⟩
  | 62 => ⟨S1x1024, .f32⟩
  | 63 => ⟨S2048x1024, .f32⟩
  | 64 => ⟨S2048x1024, .f32⟩
  | 65 => ⟨S_, .f32⟩
  | 66 => ⟨S1024, .f32⟩
  | 67 => ⟨S2048x1024, .f32⟩
  | 68 => ⟨S_, .f32⟩
  | 69 => ⟨S1024, .f32⟩
  | 70 => ⟨S1x1024, .f32⟩
  | 71 => ⟨S2048x1024, .f32⟩
  | 72 => ⟨S2048x1024, .f32⟩
  | 73 => ⟨S_, .f32⟩
  | 74 => ⟨S1024, .f32⟩
  | 75 => ⟨S2048x1024, .f32⟩
  | 76 => ⟨S_, .f32⟩
  | 77 => ⟨S2048, .f32⟩
  | 78 => ⟨S2048x1, .f32⟩
  | 79 => ⟨S2048x1024, .f32⟩
  | 80 => ⟨S2048x1024, .f32⟩
  | 81 => ⟨S2048x1024, .f32⟩
  | 82 => ⟨S2048x1, .f32⟩
  | 83 => ⟨S_, .f32⟩
  | 84 => ⟨S2048x1, .f32⟩
  | 85 => ⟨S2048x1, .f32⟩
  | 86 => ⟨S_, .f32⟩
  | 87 => ⟨S2048, .f32⟩
  | 88 => ⟨S2048x1024, .f32⟩
  | 89 => ⟨S2048x1024, .f32⟩
  | 90 => ⟨S2048x1024, .f32⟩
  | 91 => ⟨S2048x1024, .f32⟩
  | 92 => ⟨S2048x1024, .f32⟩
  | 93 => ⟨S3072, .f32⟩
  | 94 => ⟨S1x512, .f32⟩
  | 95 => ⟨S_, .f32⟩
  | 96 => ⟨S4x512, .f32⟩
  | 97 => ⟨S8x512, .f32⟩
  | 98 => ⟨S3x1024, .f32⟩
  | 99 => ⟨S1x1024, .f32⟩
  | 100 => ⟨S1x1024, .f32⟩
  | 101 => ⟨S_, .f32⟩
  | 102 => ⟨S3x1024, .f32⟩
  | 103 => ⟨S8x1024, .f32⟩
  | 104 => ⟨S2048x3072, .bf16⟩
  | 105 => ⟨S2048x1024, .bf16⟩
  | 106 => ⟨S4x128x128, .bf16⟩
  | _ => ⟨S2048x1024, .f32⟩

abbrev hbmTy (i : Nat) : BufTy := match i / 128 with
  | 0 => hbmTy0_0 i
  | 1 => hbmTy0_1 i
  | 2 => hbmTy0_2 i
  | 3 => hbmTy0_3 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_call0_v0 : Ref sig .tc := ⟨.hbm, 97, rfl⟩
abbrev main_call0_v1 : Ref sig .tc := ⟨.hbm, 98, rfl⟩
abbrev main_call0_cst : Ref sig .tc := ⟨.hbm, 99, rfl⟩
abbrev main_call0_v2 : Ref sig .tc := ⟨.hbm, 100, rfl⟩
abbrev main_call0_v3 : Ref sig .tc := ⟨.hbm, 101, rfl⟩
abbrev main_call0_cst_0 : Ref sig .tc := ⟨.hbm, 102, rfl⟩
abbrev main_call0_v4 : Ref sig .tc := ⟨.hbm, 103, rfl⟩
abbrev main_v76_2 : Ref sig .tc := ⟨.hbm, 104, rfl⟩
abbrev main_call0_cst_1 : Ref sig .tc := ⟨.hbm, 105, rfl⟩
abbrev main_call0_v6 : Ref sig .tc := ⟨.hbm, 106, rfl⟩
abbrev main_call0_v7 : Ref sig .tc := ⟨.hbm, 107, rfl⟩
abbrev main_v76_1 : Ref sig .tc := ⟨.hbm, 108, rfl⟩
abbrev main_v76_0 : Ref sig .tc := ⟨.hbm, 109, rfl⟩
abbrev main_v77 : Ref sig .tc := ⟨.hbm, 110, rfl⟩
abbrev main_v78 : Ref sig .tc := ⟨.hbm, 111, rfl⟩
abbrev main_c : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call1_call0_cst : Ref sig .tc := ⟨.hbm, 118, rfl⟩
abbrev main_call1_call0_v0 : Ref sig .tc := ⟨.hbm, 119, rfl⟩
abbrev main_v84 : Ref sig .tc := ⟨.hbm, 120, rfl⟩
abbrev main_cst_10 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_11 : Ref sig .tc := ⟨.hbm, 125, rfl⟩
abbrev main_v88 : Ref sig .tc := ⟨.hbm, 126, rfl⟩
abbrev main_v89 : Ref sig .tc := ⟨.hbm, 127, rfl⟩
abbrev main_cst_12 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_call2_call0_cst : Ref sig .tc := ⟨.hbm, 135, rfl⟩
abbrev main_call2_call0_v0 : Ref sig .tc := ⟨.hbm, 136, rfl⟩
abbrev main_v96 : Ref sig .tc := ⟨.hbm, 137, rfl⟩
abbrev main_cst_13 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_14 : Ref sig .tc := ⟨.hbm, 142, rfl⟩
abbrev main_v100 : Ref sig .tc := ⟨.hbm, 143, rfl⟩
abbrev main_v101 : Ref sig .tc := ⟨.hbm, 144, rfl⟩
abbrev main_cst_15 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_call3_call0_cst : Ref sig .tc := ⟨.hbm, 152, rfl⟩
abbrev main_call3_call0_v0 : Ref sig .tc := ⟨.hbm, 153, rfl⟩
abbrev main_v108 : Ref sig .tc := ⟨.hbm, 154, rfl⟩
abbrev main_cst_16 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_17 : Ref sig .tc := ⟨.hbm, 159, rfl⟩
abbrev main_v112 : Ref sig .tc := ⟨.hbm, 160, rfl⟩
abbrev main_v113 : Ref sig .tc := ⟨.hbm, 161, rfl⟩
abbrev main_cst_18 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_call4_call0_cst : Ref sig .tc := ⟨.hbm, 169, rfl⟩
abbrev main_call4_call0_v0 : Ref sig .tc := ⟨.hbm, 170, rfl⟩
abbrev main_v120 : Ref sig .tc := ⟨.hbm, 171, rfl⟩
abbrev main_cst_19 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_20 : Ref sig .tc := ⟨.hbm, 176, rfl⟩
abbrev main_v124 : Ref sig .tc := ⟨.hbm, 177, rfl⟩
abbrev main_v125 : Ref sig .tc := ⟨.hbm, 178, rfl⟩
abbrev main_cst_21 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_call5_v0 : Ref sig .tc := ⟨.hbm, 196, rfl⟩
abbrev main_call5_v1 : Ref sig .tc := ⟨.hbm, 197, rfl⟩
abbrev main_call5_cst : Ref sig .tc := ⟨.hbm, 198, rfl⟩
abbrev main_call5_v2 : Ref sig .tc := ⟨.hbm, 199, rfl⟩
abbrev main_call5_v3 : Ref sig .tc := ⟨.hbm, 200, rfl⟩
abbrev main_call5_cst_0 : Ref sig .tc := ⟨.hbm, 201, rfl⟩
abbrev main_call5_v4 : Ref sig .tc := ⟨.hbm, 202, rfl⟩
abbrev main_v142_2 : Ref sig .tc := ⟨.hbm, 203, rfl⟩
abbrev main_call5_cst_1 : Ref sig .tc := ⟨.hbm, 204, rfl⟩
abbrev main_call5_v6 : Ref sig .tc := ⟨.hbm, 205, rfl⟩
abbrev main_call5_v7 : Ref sig .tc := ⟨.hbm, 206, rfl⟩
abbrev main_v142_1 : Ref sig .tc := ⟨.hbm, 207, rfl⟩
abbrev main_v142_0 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_cst_22 : Ref sig .tc := ⟨.hbm, 214, rfl⟩
abbrev main_v148 : Ref sig .tc := ⟨.hbm, 215, rfl⟩
abbrev main_v149 : Ref sig .tc := ⟨.hbm, 216, rfl⟩
abbrev main_cst_23 : Ref sig .tc := ⟨.hbm, 217, rfl⟩
abbrev main_v150 : Ref sig .tc := ⟨.hbm, 218, rfl⟩
abbrev main_v151 : Ref sig .tc := ⟨.hbm, 219, rfl⟩
abbrev main_cst_24 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_cst_25 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_cst_26 : Ref sig .tc := ⟨.hbm, 241, rfl⟩
abbrev main_v171 : Ref sig .tc := ⟨.hbm, 242, rfl⟩
abbrev main_v172 : Ref sig .tc := ⟨.hbm, 243, rfl⟩
abbrev main_cst_27 : Ref sig .tc := ⟨.hbm, 244, rfl⟩
abbrev main_v173 : Ref sig .tc := ⟨.hbm, 245, rfl⟩
abbrev main_v174 : Ref sig .tc := ⟨.hbm, 246, rfl⟩
abbrev main_cst_28 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_cst_29 : Ref sig .tc := ⟨.hbm, 252, rfl⟩
abbrev main_v179 : Ref sig .tc := ⟨.hbm, 253, rfl⟩
abbrev main_v180 : Ref sig .tc := ⟨.hbm, 254, rfl⟩
abbrev main_cst_30 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_cst_31 : Ref sig .tc := ⟨.hbm, 261, rfl⟩
abbrev main_v186 : Ref sig .tc := ⟨.hbm, 262, rfl⟩
abbrev main_v187 : Ref sig .tc := ⟨.hbm, 263, rfl⟩
abbrev main_cst_32 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_call6_v0 : Ref sig .tc := ⟨.hbm, 276, rfl⟩
abbrev main_call6_v1 : Ref sig .tc := ⟨.hbm, 277, rfl⟩
abbrev main_call6_v2 : Ref sig .tc := ⟨.hbm, 278, rfl⟩
abbrev main_v199 : Ref sig .tc := ⟨.hbm, 279, rfl⟩
abbrev main_v200 : Ref sig .tc := ⟨.hbm, 280, rfl⟩
abbrev main_cst_33 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_cst_34 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_cst_35 : Ref sig .tc := ⟨.hbm, 308, rfl⟩
abbrev main_v226 : Ref sig .tc := ⟨.hbm, 309, rfl⟩
abbrev main_v227 : Ref sig .tc := ⟨.hbm, 310, rfl⟩
abbrev main_call7_call0_cst : Ref sig .tc := ⟨.hbm, 311, rfl⟩
abbrev main_call7_call0_v0 : Ref sig .tc := ⟨.hbm, 312, rfl⟩
abbrev main_v228 : Ref sig .tc := ⟨.hbm, 313, rfl⟩
abbrev main_v229 : Ref sig .tc := ⟨.hbm, 314, rfl⟩
abbrev main_cst_36 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_cst_37 : Ref sig .tc := ⟨.hbm, 323, rfl⟩
abbrev main_v237 : Ref sig .tc := ⟨.hbm, 324, rfl⟩
abbrev main_v238 : Ref sig .tc := ⟨.hbm, 325, rfl⟩
abbrev main_call8_call0_cst : Ref sig .tc := ⟨.hbm, 326, rfl⟩
abbrev main_call8_call0_v0 : Ref sig .tc := ⟨.hbm, 327, rfl⟩
abbrev main_v239 : Ref sig .tc := ⟨.hbm, 328, rfl⟩
abbrev main_v240 : Ref sig .tc := ⟨.hbm, 329, rfl⟩
abbrev main_cst_38 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_v248 : Ref sig .tc := ⟨.hbm, 338, rfl⟩
abbrev main_cst_39 : Ref sig .tc := ⟨.hbm, 339, rfl⟩
abbrev main_v249 : Ref sig .tc := ⟨.hbm, 340, rfl⟩
abbrev main_v250 : Ref sig .tc := ⟨.hbm, 341, rfl⟩
abbrev main_call9_call0_cst : Ref sig .tc := ⟨.hbm, 342, rfl⟩
abbrev main_call9_call0_v0 : Ref sig .tc := ⟨.hbm, 343, rfl⟩
abbrev main_v251 : Ref sig .tc := ⟨.hbm, 344, rfl⟩
abbrev main_v252 : Ref sig .tc := ⟨.hbm, 345, rfl⟩
abbrev main_cst_40 : Ref sig .tc := ⟨.hbm, 346, rfl⟩
abbrev main_v253 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_v260 : Ref sig .tc := ⟨.hbm, 354, rfl⟩
abbrev main_cst_41 : Ref sig .tc := ⟨.hbm, 355, rfl⟩
abbrev main_v261 : Ref sig .tc := ⟨.hbm, 356, rfl⟩
abbrev main_v262 : Ref sig .tc := ⟨.hbm, 357, rfl⟩
abbrev main_call10_call0_cst : Ref sig .tc := ⟨.hbm, 358, rfl⟩
abbrev main_call10_call0_v0 : Ref sig .tc := ⟨.hbm, 359, rfl⟩
abbrev main_v263 : Ref sig .tc := ⟨.hbm, 360, rfl⟩
abbrev main_v264 : Ref sig .tc := ⟨.hbm, 361, rfl⟩
abbrev main_cst_42 : Ref sig .tc := ⟨.hbm, 362, rfl⟩
abbrev main_v265 : Ref sig .tc := ⟨.hbm, 363, rfl⟩
abbrev main_v266 : Ref sig .tc := ⟨.hbm, 364, rfl⟩
abbrev main_v267 : Ref sig .tc := ⟨.hbm, 365, rfl⟩
abbrev main_v268 : Ref sig .tc := ⟨.hbm, 366, rfl⟩
abbrev main_call11_v0 : Ref sig .tc := ⟨.hbm, 367, rfl⟩
abbrev main_call11_v1 : Ref sig .tc := ⟨.hbm, 368, rfl⟩
abbrev main_call11_v2 : Ref sig .tc := ⟨.hbm, 369, rfl⟩
abbrev main_v269 : Ref sig .tc := ⟨.hbm, 370, rfl⟩
abbrev main_v270 : Ref sig .tc := ⟨.hbm, 371, rfl⟩
abbrev main_v271 : Ref sig .tc := ⟨.hbm, 372, rfl⟩
abbrev main_v272 : Ref sig .tc := ⟨.hbm, 373, rfl⟩
abbrev main_v273 : Ref sig .tc := ⟨.hbm, 374, rfl⟩
abbrev main_v274 : Ref sig .tc := ⟨.hbm, 375, rfl⟩
abbrev main_cst_43 : Ref sig .tc := ⟨.hbm, 376, rfl⟩
abbrev main_v275 : Ref sig .tc := ⟨.hbm, 377, rfl⟩
abbrev main_v276 : Ref sig .tc := ⟨.hbm, 378, rfl⟩
abbrev main_cst_44 : Ref sig .tc := ⟨.hbm, 379, rfl⟩
abbrev main_v277 : Ref sig .tc := ⟨.hbm, 380, rfl⟩
abbrev main_v278 : Ref sig .tc := ⟨.hbm, 381, rfl⟩
abbrev main_cst_45 : Ref sig .tc := ⟨.hbm, 382, rfl⟩
abbrev main_v279 : Ref sig .tc := ⟨.hbm, 383, rfl⟩
abbrev main_v280 : Ref sig .tc := ⟨.hbm, 384, rfl⟩
abbrev main_v281 : Ref sig .tc := ⟨.hbm, 385, rfl⟩
abbrev main_v282 : Ref sig .tc := ⟨.hbm, 386, rfl⟩
abbrev main_cst_46 : Ref sig .tc := ⟨.hbm, 387, rfl⟩
abbrev main_v283 : Ref sig .tc := ⟨.hbm, 388, rfl⟩
abbrev main_v284 : Ref sig .tc := ⟨.hbm, 389, rfl⟩
abbrev main_cst_47 : Ref sig .tc := ⟨.hbm, 390, rfl⟩
abbrev main_v285 : Ref sig .tc := ⟨.hbm, 391, rfl⟩
abbrev main_v286 : Ref sig .tc := ⟨.hbm, 392, rfl⟩
abbrev main_v287 : Ref sig .tc := ⟨.hbm, 393, rfl⟩
abbrev main_cst_48 : Ref sig .tc := ⟨.hbm, 394, rfl⟩
abbrev main_v288 : Ref sig .tc := ⟨.hbm, 395, rfl⟩
abbrev main_v289 : Ref sig .tc := ⟨.hbm, 396, rfl⟩
abbrev main_v290 : Ref sig .tc := ⟨.hbm, 397, rfl⟩
abbrev main_cst_49 : Ref sig .tc := ⟨.hbm, 398, rfl⟩
abbrev main_v291 : Ref sig .tc := ⟨.hbm, 399, rfl⟩
abbrev main_v292 : Ref sig .tc := ⟨.hbm, 400, rfl⟩
abbrev main_v293 : Ref sig .tc := ⟨.hbm, 401, rfl⟩
abbrev main_v294 : Ref sig .tc := ⟨.hbm, 402, rfl⟩
abbrev main_v295 : Ref sig .tc := ⟨.hbm, 403, rfl⟩
abbrev main_cst_50 : Ref sig .tc := ⟨.hbm, 404, rfl⟩
abbrev main_v296 : Ref sig .tc := ⟨.hbm, 405, rfl⟩
abbrev main_v297 : Ref sig .tc := ⟨.hbm, 406, rfl⟩
abbrev main_cst_51 : Ref sig .tc := ⟨.hbm, 407, rfl⟩
abbrev main_v298 : Ref sig .tc := ⟨.hbm, 408, rfl⟩
abbrev main_v299 : Ref sig .tc := ⟨.hbm, 409, rfl⟩
abbrev main_v300 : Ref sig .tc := ⟨.hbm, 410, rfl⟩
abbrev main_cst_52 : Ref sig .tc := ⟨.hbm, 411, rfl⟩
abbrev main_v301 : Ref sig .tc := ⟨.hbm, 412, rfl⟩
abbrev main_v302 : Ref sig .tc := ⟨.hbm, 413, rfl⟩
abbrev main_v303 : Ref sig .tc := ⟨.hbm, 414, rfl⟩
abbrev main_cst_53 : Ref sig .tc := ⟨.hbm, 415, rfl⟩
abbrev main_v304 : Ref sig .tc := ⟨.hbm, 416, rfl⟩
abbrev main_v305 : Ref sig .tc := ⟨.hbm, 417, rfl⟩
abbrev main_v306 : Ref sig .tc := ⟨.hbm, 418, rfl⟩
abbrev main_v307 : Ref sig .tc := ⟨.hbm, 419, rfl⟩
abbrev main_cst_54 : Ref sig .tc := ⟨.hbm, 420, rfl⟩
abbrev main_v308 : Ref sig .tc := ⟨.hbm, 421, rfl⟩
abbrev main_cst_55 : Ref sig .tc := ⟨.hbm, 422, rfl⟩
abbrev main_v309 : Ref sig .tc := ⟨.hbm, 423, rfl⟩
abbrev main_v310 : Ref sig .tc := ⟨.hbm, 424, rfl⟩
abbrev main_cst_56 : Ref sig .tc := ⟨.hbm, 425, rfl⟩
abbrev main_v311 : Ref sig .tc := ⟨.hbm, 426, rfl⟩
abbrev main_v312 : Ref sig .tc := ⟨.hbm, 427, rfl⟩
abbrev main_cst_57 : Ref sig .tc := ⟨.hbm, 428, rfl⟩
abbrev main_v313 : Ref sig .tc := ⟨.hbm, 429, rfl⟩
abbrev main_v314 : Ref sig .tc := ⟨.hbm, 430, rfl⟩
abbrev main_cst_58 : Ref sig .tc := ⟨.hbm, 431, rfl⟩
abbrev main_v315 : Ref sig .tc := ⟨.hbm, 432, rfl⟩
abbrev main_v316 : Ref sig .tc := ⟨.hbm, 433, rfl⟩
abbrev main_cst_59 : Ref sig .tc := ⟨.hbm, 434, rfl⟩
abbrev main_v317 : Ref sig .tc := ⟨.hbm, 435, rfl⟩
abbrev main_v318 : Ref sig .tc := ⟨.hbm, 436, rfl⟩
abbrev main_v319 : Ref sig .tc := ⟨.hbm, 437, rfl⟩
abbrev main_cst_60 : Ref sig .tc := ⟨.hbm, 438, rfl⟩
abbrev main_v320 : Ref sig .tc := ⟨.hbm, 439, rfl⟩
abbrev main_v321 : Ref sig .tc := ⟨.hbm, 440, rfl⟩
abbrev main_cst_61 : Ref sig .tc := ⟨.hbm, 441, rfl⟩
abbrev main_v322 : Ref sig .tc := ⟨.hbm, 442, rfl⟩
abbrev main_v323 : Ref sig .tc := ⟨.hbm, 443, rfl⟩
abbrev main_cst_62 : Ref sig .tc := ⟨.hbm, 444, rfl⟩
abbrev main_v324 : Ref sig .tc := ⟨.hbm, 445, rfl⟩
abbrev main_v325 : Ref sig .tc := ⟨.hbm, 446, rfl⟩
abbrev main_v326 : Ref sig .tc := ⟨.hbm, 447, rfl⟩
abbrev main_v327 : Ref sig .tc := ⟨.hbm, 448, rfl⟩
abbrev main_cst_63 : Ref sig .tc := ⟨.hbm, 449, rfl⟩
abbrev main_v328 : Ref sig .tc := ⟨.hbm, 450, rfl⟩
abbrev main_v329 : Ref sig .tc := ⟨.hbm, 451, rfl⟩
abbrev main_cst_64 : Ref sig .tc := ⟨.hbm, 452, rfl⟩
abbrev main_v330 : Ref sig .tc := ⟨.hbm, 453, rfl⟩
abbrev main_v331 : Ref sig .tc := ⟨.hbm, 454, rfl⟩
abbrev main_v332 : Ref sig .tc := ⟨.hbm, 455, rfl⟩
abbrev main_v333 : Ref sig .tc := ⟨.hbm, 456, rfl⟩
abbrev main_cst_65 : Ref sig .tc := ⟨.hbm, 457, rfl⟩
abbrev main_v334 : Ref sig .tc := ⟨.hbm, 458, rfl⟩
abbrev main_v335 : Ref sig .tc := ⟨.hbm, 459, rfl⟩
abbrev main_cst_66 : Ref sig .tc := ⟨.hbm, 460, rfl⟩
abbrev main_v336 : Ref sig .tc := ⟨.hbm, 461, rfl⟩
abbrev main_v337 : Ref sig .tc := ⟨.hbm, 462, rfl⟩
abbrev main_v338 : Ref sig .tc := ⟨.hbm, 463, rfl⟩
abbrev main_v339 : Ref sig .tc := ⟨.hbm, 464, rfl⟩
abbrev main_v340 : Ref sig .tc := ⟨.hbm, 465, rfl⟩
abbrev main_v341 : Ref sig .tc := ⟨.hbm, 466, rfl⟩
abbrev main_cst_67 : Ref sig .tc := ⟨.hbm, 467, rfl⟩
abbrev main_v342 : Ref sig .tc := ⟨.hbm, 468, rfl⟩
abbrev main_v343 : Ref sig .tc := ⟨.hbm, 469, rfl⟩
abbrev main_cst_68 : Ref sig .tc := ⟨.hbm, 470, rfl⟩
abbrev main_v344 : Ref sig .tc := ⟨.hbm, 471, rfl⟩
abbrev main_v345 : Ref sig .tc := ⟨.hbm, 472, rfl⟩
abbrev main_v346 : Ref sig .tc := ⟨.hbm, 473, rfl⟩
abbrev main_v347 : Ref sig .tc := ⟨.hbm, 474, rfl⟩
abbrev main_v348 : Ref sig .tc := ⟨.hbm, 475, rfl⟩
abbrev main_v349 : Ref sig .tc := ⟨.hbm, 476, rfl⟩
abbrev main_v350 : Ref sig .tc := ⟨.hbm, 477, rfl⟩
abbrev main_v351 : Ref sig .tc := ⟨.hbm, 478, rfl⟩
abbrev main_cst_69 : Ref sig .tc := ⟨.hbm, 479, rfl⟩
abbrev main_v352 : Ref sig .tc := ⟨.hbm, 480, rfl⟩
abbrev main_v353 : Ref sig .tc := ⟨.hbm, 481, rfl⟩
abbrev main_v354 : Ref sig .tc := ⟨.hbm, 482, rfl⟩
abbrev main_v355 : Ref sig .tc := ⟨.hbm, 483, rfl⟩
abbrev main_v356 : Ref sig .tc := ⟨.hbm, 484, rfl⟩
abbrev main_cst_70 : Ref sig .tc := ⟨.hbm, 485, rfl⟩
abbrev main_v357 : Ref sig .tc := ⟨.hbm, 486, rfl⟩
abbrev main_v358 : Ref sig .tc := ⟨.hbm, 487, rfl⟩
abbrev main_v359 : Ref sig .tc := ⟨.hbm, 488, rfl⟩
abbrev main_v360 : Ref sig .tc := ⟨.hbm, 489, rfl⟩
abbrev main_v361 : Ref sig .tc := ⟨.hbm, 490, rfl⟩

abbrev nD : Nat := 1
abbrev τ : Topo := Topo.v7x

variable {F : FTy → Type} [FloatOps F]
-- ==== Forward.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S4x1x512 : Shape := ⟨3, ![4, 1, 512]⟩
abbrev S_ : Shape := ⟨0, ![]⟩
abbrev S4x4x512 : Shape := ⟨3, ![4, 4, 512]⟩
abbrev S4x8x512 : Shape := ⟨3, ![4, 8, 512]⟩
abbrev S4x3x1024 : Shape := ⟨3, ![4, 3, 1024]⟩
abbrev S4x1x1024 : Shape := ⟨3, ![4, 1, 1024]⟩
abbrev S4x8x1024 : Shape := ⟨3, ![4, 8, 1024]⟩
abbrev S2048x1536 : Shape := ⟨2, ![2048, 1536]⟩
abbrev S2048x2048 : Shape := ⟨2, ![2048, 2048]⟩
abbrev S8x128 : Shape := ⟨2, ![8, 128]⟩
abbrev S512x1024 : Shape := ⟨2, ![512, 1024]⟩
abbrev S1x8x1024 : Shape := ⟨3, ![1, 8, 1024]⟩
abbrev S1x8x512 : Shape := ⟨3, ![1, 8, 512]⟩
abbrev S1x4x128x128 : Shape := ⟨4, ![1, 4, 128, 128]⟩
abbrev S512x1536 : Shape := ⟨2, ![512, 1536]⟩
abbrev S512x2048 : Shape := ⟨2, ![512, 2048]⟩
abbrev S8x512 : Shape := ⟨2, ![8, 512]⟩
abbrev S16x512 : Shape := ⟨2, ![16, 512]⟩
abbrev S1x1x1024 : Shape := ⟨3, ![1, 1, 1024]⟩
abbrev S1x1024 : Shape := ⟨2, ![1, 1024]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩
abbrev S512x3072 : Shape := ⟨2, ![512, 3072]⟩
abbrev S512x512 : Shape := ⟨2, ![512, 512]⟩
abbrev S520x512 : Shape := ⟨2, ![520, 512]⟩
abbrev S528x512 : Shape := ⟨2, ![528, 512]⟩
abbrev S528x128 : Shape := ⟨2, ![528, 128]⟩
abbrev S512x128 : Shape := ⟨2, ![512, 128]⟩
abbrev S1x1x128x128 : Shape := ⟨4, ![1, 1, 128, 128]⟩
abbrev S128x128 : Shape := ⟨2, ![128, 128]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 31
  | .vmem => 26
  | .smem => 0
  | _ => 0

abbrev bufTy : (tb : Table) → Fin (tcTables nBuf tb) → BufTy
  | .hbm, ⟨0, _⟩ => ⟨S2048x1024, .f32⟩
  | .hbm, ⟨1, _⟩ => ⟨S4x3072, .f32⟩
  | .hbm, ⟨2, _⟩ => ⟨S4x1024, .f32⟩
  | .hbm, ⟨3, _⟩ => ⟨S1024x3072, .f32⟩
  | .hbm, ⟨4, _⟩ => ⟨S4x3x512, .f32⟩
  | .hbm, ⟨5, _⟩ => ⟨S4x4x128x128, .f32⟩
  | .hbm, ⟨6, _⟩ => ⟨S4x512, .f32⟩
  | .hbm, ⟨7, _⟩ => ⟨S1024x1024, .f32⟩
  | .hbm, ⟨8, _⟩ => ⟨S4x1024, .f32⟩
  | .hbm, ⟨9, _⟩ => ⟨S2048x1024, .f32⟩
  | .hbm, ⟨10, _⟩ => ⟨S4x1x512, .f32⟩
  | .hbm, ⟨11, _⟩ => ⟨S_, .f32⟩
  | .hbm, ⟨12, _⟩ => ⟨S4x4x512, .f32⟩
  | .hbm, ⟨13, _⟩ => ⟨S4x8x512, .f32⟩
  | .hbm, ⟨14, _⟩ => ⟨S4x4x128x128, .bf16⟩
  | .hbm, ⟨15, _⟩ => ⟨S1024x3072, .bf16⟩
  | .hbm, ⟨16, _⟩ => ⟨S1024x1024, .bf16⟩
  | .hbm, ⟨17, _⟩ => ⟨S_, .f32⟩
  | .hbm, ⟨18, _⟩ => ⟨S4x3x1024, .f32⟩
  | .hbm, ⟨19, _⟩ => ⟨S4x3x1024, .f32⟩
  | .hbm, ⟨20, _⟩ => ⟨S4x1x1024, .f32⟩
  | .hbm, ⟨21, _⟩ => ⟨S4x1x1024, .f32⟩
  | .hbm, ⟨22, _⟩ => ⟨S4x8x1024, .f32⟩
  | .hbm, ⟨23, _⟩ => ⟨S2048x1024, .f32⟩
  | .hbm, ⟨24, _⟩ => ⟨S2048x1024, .bf16⟩
  | .hbm, ⟨25, _⟩ => ⟨S2048x1024, .bf16⟩
  | .hbm, ⟨26, _⟩ => ⟨S2048x1024, .bf16⟩
  | .hbm, ⟨27, _⟩ => ⟨S2048x1024, .bf16⟩
  | .hbm, ⟨28, _⟩ => ⟨S2048x1536, .bf16⟩
  | .hbm, ⟨29, _⟩ => ⟨S2048x2048, .bf16⟩
  | .hbm, ⟨30, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x512, .f32⟩
  | .local _ .vmem, ⟨4, _⟩ => ⟨S1x4x128x128, .bf16⟩
  | .local _ .vmem, ⟨5, _⟩ => ⟨S1024x3072, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1536, .bf16⟩
  | .local _ .vmem, ⟨20, _⟩ => ⟨S512x1536, .bf16⟩
  | .local _ .vmem, ⟨21, _⟩ => ⟨S512x2048, .bf16⟩
  | .local _ .vmem, ⟨22, _⟩ => ⟨S512x2048, .bf16⟩
  | .local _ .vmem, ⟨23, _⟩ => ⟨S8x128, .f32⟩
  | .local _ .vmem, ⟨24, _⟩ => ⟨S8x512, .f32⟩
  | .local _ .vmem, ⟨25, _⟩ => ⟨S16x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev main_v11_6 : Ref sig .tc := ⟨.hbm, 29, rfl⟩
abbrev main_v11_7 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ForwardReferenceIdeal.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S1x3072 : Shape := ⟨2, ![1, 3072]⟩
abbrev S3072 : Shape := ⟨1, ![3072]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x3072 : Shape := ⟨2, ![2048, 3072]⟩
abbrev S2048x512 : Shape := ⟨2, ![2048, 512]⟩
abbrev S1x3x512 : Shape := ⟨3, ![1, 3, 512]⟩
abbrev S3x512 : Shape := ⟨2, ![3, 512]⟩
abbrev S1x512 : Shape := ⟨2, ![1, 512]⟩
abbrev S512 : Shape := ⟨1, ![512]⟩
abbrev S2x512 : Shape := ⟨2, ![2, 512]⟩
abbrev S2046x512 : Shape := ⟨2, ![2046, 512]⟩
abbrev S2047x512 : Shape := ⟨2, ![2047, 512]⟩
abbrev S1x4x128x128 : Shape := ⟨4, ![1, 4, 128, 128]⟩
abbrev S4x128x128 : Shape := ⟨3, ![4, 128, 128]⟩
abbrev S2048x128 : Shape := ⟨2, ![2048, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S2048x1x128 : Shape := ⟨3, ![2048, 1, 128]⟩
abbrev S2048x4x128 : Shape := ⟨3, ![2048, 4, 128]⟩
abbrev S4x128x2048 : Shape := ⟨3, ![4, 128, 2048]⟩
abbrev S2048x1536 : Shape := ⟨2, ![2048, 1536]⟩
abbrev S2048x2048 : Shape := ⟨2, ![2048, 2048]⟩

abbrev nBuf : Space → Nat
  | .hbm => 262
  | .vmem => 0
  | .smem => 0
  | _ => 0

abbrev hbmTy0_0 (i : Nat) : BufTy := match i % 128 with
  | 0 => ⟨S2048x1024, .f32⟩
  | 1 => ⟨S4x3072, .f32⟩
  | 2 => ⟨S4x1024, .f32⟩
  | 3 => ⟨S1024x3072, .f32⟩
  | 4 => ⟨S4x3x512, .f32⟩
  | 5 => ⟨S4x4x128x128, .f32⟩
  | 6 => ⟨S4x512, .f32⟩
  | 7 => ⟨S1024x1024, .f32⟩
  | 8 => ⟨S4x1024, .f32⟩
  | 9 => ⟨S2048x1024, .f32⟩
  | 10 => ⟨S1x3072, .f32⟩
  | 11 => ⟨S3072, .f32⟩
  | 12 => ⟨S1024, .f32⟩
  | 13 => ⟨S1024, .f32⟩
  | 14 => ⟨S1024, .f32⟩
  | 15 => ⟨S1x1024, .f32⟩
  | 16 => ⟨S1024, .f32⟩
  | 17 => ⟨S2048x1024, .f32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S_, .f32⟩
  | 25 => ⟨S2048x1, .f32⟩
  | 26 => ⟨S2048x1, .f32⟩
  | 27 => ⟨S2048x1, .f32⟩
  | 28 => ⟨S2048x1024, .f32⟩
  | 29 => ⟨S2048x1024, .f32⟩
  | 30 => ⟨S1x1024, .f32⟩
  | 31 => ⟨S2048x1024, .f32⟩
  | 32 => ⟨S2048x1024, .f32⟩
  | 33 => ⟨S_, .f32⟩
  | 34 => ⟨S1024, .f32⟩
  | 35 => ⟨S1024, .f32⟩
  | 36 => ⟨S1x1024, .f32⟩
  | 37 => ⟨S2048x1024, .f32⟩
  | 38 => ⟨S2048x1024, .f32⟩
  | 39 => ⟨S1x1024, .f32⟩
  | 40 => ⟨S2048x1024, .f32⟩
  | 41 => ⟨S2048x1024, .f32⟩
  | 42 => ⟨S2048x3072, .f32⟩
  | 43 => ⟨S2048x512, .f32⟩
  | 44 => ⟨S2048x512, .f32⟩
  | 45 => ⟨S2048x512, .f32⟩
  | 46 => ⟨S2048x512, .f32⟩
  | 47 => ⟨S2048x512, .f32⟩
  | 48 => ⟨S2048x512, .f32⟩
  | 49 => ⟨S_, .f32⟩
  | 50 => ⟨S2048x512, .f32⟩
  | 51 => ⟨S2048x512, .f32⟩
  | 52 => ⟨S1x3x512, .f32⟩
  | 53 => ⟨S3x512, .f32⟩
  | 54 => ⟨S1x512, .f32⟩
  | 55 => ⟨S512, .f32⟩
  | 56 => ⟨S_, .f32⟩
  | 57 => ⟨S2x512, .f32⟩
  | 58 => ⟨S2046x512, .f32⟩
  | 59 => ⟨S2048x512, .f32⟩
  | 60 => ⟨S1x512, .f32⟩
  | 61 => ⟨S2048x512, .f32⟩
  | 62 => ⟨S2048x512, .f32⟩
  | 63 => ⟨S1x512, .f32⟩
  | 64 => ⟨S512, .f32⟩
  | 65 => ⟨S_, .f32⟩
  | 66 => ⟨S1x512, .f32⟩
  | 67 => ⟨S2047x512, .f32⟩
  | 68 => ⟨S2048x512, .f32⟩
  | 69 => ⟨S1x512, .f32⟩
  | 70 => ⟨S2048x512, .f32⟩
  | 71 => ⟨S2048x512, .f32⟩
  | 72 => ⟨S2048x512, .f32⟩
  | 73 => ⟨S1x512, .f32⟩
  | 74 => ⟨S512, .f32⟩
  | 75 => ⟨S1x512, .f32⟩
  | 76 => ⟨S2048x512, .f32⟩
  | 77 => ⟨S2048x512, .f32⟩
  | 78 => ⟨S2048x512, .f32⟩
  | 79 => ⟨S2048x512, .f32⟩
  | 80 => ⟨S2048x512, .f32⟩
  | 81 => ⟨S2048x512, .f32⟩
  | 82 => ⟨S_, .f32⟩
  | 83 => ⟨S2048x512, .f32⟩
  | 84 => ⟨S2048x512, .f32⟩
  | 85 => ⟨S_, .f32⟩
  | 86 => ⟨S2048x512, .f32⟩
  | 87 => ⟨S2048x512, .f32⟩
  | 88 => ⟨S_, .f32⟩
  | 89 => ⟨S2048x512, .f32⟩
  | 90 => ⟨S2048x512, .f32⟩
  | 91 => ⟨S2048x512, .f32⟩
  | 92 => ⟨S2048x512, .f32⟩
  | 93 => ⟨S2048x512, .f32⟩
  | 94 => ⟨S2048x512, .f32⟩
  | 95 => ⟨S2048x512, .f32⟩
  | 96 => ⟨S2048x512, .f32⟩
  | 97 => ⟨S2048x512, .f32⟩
  | 98 => ⟨S2048x512, .f32⟩
  | 99 => ⟨S2048x512, .f32⟩
  | 100 => ⟨S2048x512, .f32⟩
  | 101 => ⟨S2048x512, .f32⟩
  | 102 => ⟨S1x4x128x128, .f32⟩
  | 103 => ⟨S4x128x128, .f32⟩
  | 104 => ⟨S2048, .i32⟩
  | 105 => ⟨S_, .i32⟩
  | 106 => ⟨S2048, .i32⟩
  | 107 => ⟨S2048, .i32⟩
  | 108 => ⟨S2048, .f32⟩
  | 109 => ⟨S2048x1, .f32⟩
  | 110 => ⟨S2048x128, .f32⟩
  | 111 => ⟨S_, .f32⟩
  | 112 => ⟨S_, .f32⟩
  | 113 => ⟨S2048x128, .f32⟩
  | 114 => ⟨S_, .f32⟩
  | 115 => ⟨S2x128, .f32⟩
  | 116 => ⟨S2046x128, .f32⟩
  | 117 => ⟨S2048x128, .f32⟩
  | 118 => ⟨S2048x128, .f32⟩
  | 119 => ⟨S_, .f32⟩
  | 120 => ⟨S2048x1, .f32⟩
  | 121 => ⟨S2048x1, .f32⟩
  | 122 => ⟨S2048x128, .f32⟩
  | 123 => ⟨S2048x128, .f32⟩
  | 124 => ⟨S2048x128, .f32⟩
  | 125 => ⟨S2048x128, .f32⟩
  | 126 => ⟨S_, .f32⟩
  | 127 => ⟨S_, .f32⟩
  | _ => ⟨S2048x1024, .f32⟩

abbrev hbmTy0_1 (i : Nat) : BufTy := match i % 128 with
  | 0 => ⟨S2048x128, .f32⟩
  | 1 => ⟨S_, .f32⟩
  | 2 => ⟨S4x128, .f32⟩
  | 3 => ⟨S2044x128, .f32⟩
  | 4 => ⟨S2048x128, .f32⟩
  | 5 => ⟨S2048x128, .f32⟩
  | 6 => ⟨S_, .f32⟩
  | 7 => ⟨S2048x1, .f32⟩
  | 8 => ⟨S2048x1, .f32⟩
  | 9 => ⟨S2048x128, .f32⟩
  | 10 => ⟨S2048x128, .f32⟩
  | 11 => ⟨S2048x128, .f32⟩
  | 12 => ⟨S2048x128, .f32⟩
  | 13 => ⟨S_, .f32⟩
  | 14 => ⟨S_, .f32⟩
  | 15 => ⟨S2048x128, .f32⟩
  | 16 => ⟨S_, .f32⟩
  | 17 => ⟨S8x128, .f32⟩
  | 18 => ⟨S2040x128, .f32⟩
  | 19 => ⟨S2048x128, .f32⟩
  | 20 => ⟨S2048x128, .f32⟩
  | 21 => ⟨S_, .f32⟩
  | 22 => ⟨S2048x1, .f32⟩
  | 23 => ⟨S2048x1, .f32⟩
  | 24 => ⟨S2048x128, .f32⟩
  | 25 => ⟨S2048x128, .f32⟩
  | 26 => ⟨S2048x128, .f32⟩
  | 27 => ⟨S2048x128, .f32⟩
  | 28 => ⟨S_, .f32⟩
  | 29 => ⟨S_, .f32⟩
  | 30 => ⟨S2048x128, .f32⟩
  | 31 => ⟨S_, .f32⟩
  | 32 => ⟨S16x128, .f32⟩
  | 33 => ⟨S2032x128, .f32⟩
  | 34 => ⟨S2048x128, .f32⟩
  | 35 => ⟨S2048x128, .f32⟩
  | 36 => ⟨S_, .f32⟩
  | 37 => ⟨S2048x1, .f32⟩
  | 38 => ⟨S2048x1, .f32⟩
  | 39 => ⟨S2048x128, .f32⟩
  | 40 => ⟨S2048x128, .f32⟩
  | 41 => ⟨S2048x128, .f32⟩
  | 42 => ⟨S2048x1x128, .f32⟩
  | 43 => ⟨S2048x1x128, .f32⟩
  | 44 => ⟨S2048x1x128, .f32⟩
  | 45 => ⟨S2048x1x128, .f32⟩
  | 46 => ⟨S2048x4x128, .f32⟩
  | 47 => ⟨S4x128x2048, .f32⟩
  | 48 => ⟨S2048x4x128, .f32⟩
  | 49 => ⟨S2048x512, .f32⟩
  | 50 => ⟨S2048x512, .f32⟩
  | 51 => ⟨S1x512, .f32⟩
  | 52 => ⟨S512, .f32⟩
  | 53 => ⟨S2048x512, .f32⟩
  | 54 => ⟨S2048x512, .f32⟩
  | 55 => ⟨S2048x512, .f32⟩
  | 56 => ⟨S2048x512, .f32⟩
  | 57 => ⟨S_, .f32⟩
  | 58 => ⟨S2048x512, .f32⟩
  | 59 => ⟨S2048x512, .f32⟩
  | 60 => ⟨S_, .f32⟩
  | 61 => ⟨S2048x512, .f32⟩
  | 62 => ⟨S2048x512, .f32⟩
  | 63 => ⟨S_, .f32⟩
  | 64 => ⟨S2048x512, .f32⟩
  | 65 => ⟨S2048x512, .f32⟩
  | 66 => ⟨S2048x512, .f32⟩
  | 67 => ⟨S2048x512, .f32⟩
  | 68 => ⟨S2048x512, .f32⟩
  | 69 => ⟨S2048x512, .f32⟩
  | 70 => ⟨S2048x512, .f32⟩
  | 71 => ⟨S2048x512, .f32⟩
  | 72 => ⟨S2048x512, .f32⟩
  | 73 => ⟨S2048x512, .f32⟩
  | 74 => ⟨S2048x512, .f32⟩
  | 75 => ⟨S2048x512, .f32⟩
  | 76 => ⟨S2048x512, .f32⟩
  | 77 => ⟨S2048x1024, .f32⟩
  | 78 => ⟨S2048x1024, .f32⟩
  | 79 => ⟨S1x1024, .f32⟩
  | 80 => ⟨S1024, .f32⟩
  | 81 => ⟨S2048x1024, .f32⟩
  | 82 => ⟨S_, .f32⟩
  | 83 => ⟨S2048, .f32⟩
  | 84 => ⟨S2048x1, .f32⟩
  | 85 => ⟨S_, .f32⟩
  | 86 => ⟨S2048x1, .f32⟩
  | 87 => ⟨S2048x1, .f32⟩
  | 88 => ⟨S_, .f32⟩
  | 89 => ⟨S2048x1, .f32⟩
  | 90 => ⟨S2048x1, .f32⟩
  | 91 => ⟨S2048x1, .f32⟩
  | 92 => ⟨S2048x1024, .f32⟩
  | 93 => ⟨S2048x1024, .f32⟩
  | 94 => ⟨S1x1024, .f32⟩
  | 95 => ⟨S2048x1024, .f32⟩
  | 96 => ⟨S2048x1024, .f32⟩
  | 97 => ⟨S1x1024, .f32⟩
  | 98 => ⟨S2048x1024, .f32⟩
  | 99 => ⟨S2048x1024, .f32⟩
  | 100 => ⟨S2048x1024, .f32⟩
  | 101 => ⟨S2048x1024, .f32⟩
  | 102 => ⟨S2048x1024, .f32⟩
  | 103 => ⟨S_, .f32⟩
  | 104 => ⟨S2048x1024, .f32⟩
  | 105 => ⟨S2048x1024, .f32⟩
  | 106 => ⟨S_, .f32⟩
  | 107 => ⟨S2048, .f32⟩
  | 108 => ⟨S_, .f32⟩
  | 109 => ⟨S2048, .f32⟩
  | 110 => ⟨S2048, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S2048, .f32⟩
  | 119 => ⟨S_, .f32⟩
  | 120 => ⟨S2048, .f32⟩
  | 121 => ⟨S2048, .f32⟩
  | 122 => ⟨S2048x1024, .f32⟩
  | 123 => ⟨S2048x1024, .f32⟩
  | 124 => ⟨S2048x1024, .f32⟩
  | 125 => ⟨S2048x1536, .f32⟩
  | 126 => ⟨S2048x2048, .f32⟩
  | 127 => ⟨S2048x1024, .bf16⟩
  | _ => ⟨S2048x1024, .f32⟩

abbrev hbmTy0_2 (i : Nat) : BufTy := match i % 128 with
  | 0 => ⟨S2048x1024, .bf16⟩
  | 1 => ⟨S2048x1024, .bf16⟩
  | 2 => ⟨S2048x1024, .bf16⟩
  | 3 => ⟨S2048x1536, .bf16⟩
  | 4 => ⟨S2048x2048, .bf16⟩
  | 5 => ⟨S8x128, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_call0_v0 : Ref sig .tc := ⟨.hbm, 80, rfl⟩
abbrev main_call0_v1 : Ref sig .tc := ⟨.hbm, 81, rfl⟩
abbrev main_call0_cst : Ref sig .tc := ⟨.hbm, 82, rfl⟩
abbrev main_call0_v2 : Ref sig .tc := ⟨.hbm, 83, rfl⟩
abbrev main_call0_v3 : Ref sig .tc := ⟨.hbm, 84, rfl⟩
abbrev main_call0_cst_0 : Ref sig .tc := ⟨.hbm, 85, rfl⟩
abbrev main_call0_v4 : Ref sig .tc := ⟨.hbm, 86, rfl⟩
abbrev main_v63_2 : Ref sig .tc := ⟨.hbm, 87, rfl⟩
abbrev main_call0_cst_1 : Ref sig .tc := ⟨.hbm, 88, rfl⟩
abbrev main_call0_v6 : Ref sig .tc := ⟨.hbm, 89, rfl⟩
abbrev main_call0_v7 : Ref sig .tc := ⟨.hbm, 90, rfl⟩
abbrev main_v63_1 : Ref sig .tc := ⟨.hbm, 91, rfl⟩
abbrev main_v63_0 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_call2_call0_cst : Ref sig .tc := ⟨.hbm, 111, rfl⟩
abbrev main_call2_call0_v0 : Ref sig .tc := ⟨.hbm, 112, rfl⟩
abbrev main_v78 : Ref sig .tc := ⟨.hbm, 113, rfl⟩
abbrev main_cst_6 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_7 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_call3_call0_cst : Ref sig .tc := ⟨.hbm, 126, rfl⟩
abbrev main_call3_call0_v0 : Ref sig .tc := ⟨.hbm, 127, rfl⟩
abbrev main_v89 : Ref sig .tc := ⟨.hbm, 128, rfl⟩
abbrev main_cst_8 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_9 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_call4_call0_cst : Ref sig .tc := ⟨.hbm, 141, rfl⟩
abbrev main_call4_call0_v0 : Ref sig .tc := ⟨.hbm, 142, rfl⟩
abbrev main_v100 : Ref sig .tc := ⟨.hbm, 143, rfl⟩
abbrev main_cst_10 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_11 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_call5_call0_cst : Ref sig .tc := ⟨.hbm, 156, rfl⟩
abbrev main_call5_call0_v0 : Ref sig .tc := ⟨.hbm, 157, rfl⟩
abbrev main_v111 : Ref sig .tc := ⟨.hbm, 158, rfl⟩
abbrev main_cst_12 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_13 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_call6_v0 : Ref sig .tc := ⟨.hbm, 183, rfl⟩
abbrev main_call6_v1 : Ref sig .tc := ⟨.hbm, 184, rfl⟩
abbrev main_call6_cst : Ref sig .tc := ⟨.hbm, 185, rfl⟩
abbrev main_call6_v2 : Ref sig .tc := ⟨.hbm, 186, rfl⟩
abbrev main_call6_v3 : Ref sig .tc := ⟨.hbm, 187, rfl⟩
abbrev main_call6_cst_0 : Ref sig .tc := ⟨.hbm, 188, rfl⟩
abbrev main_call6_v4 : Ref sig .tc := ⟨.hbm, 189, rfl⟩
abbrev main_v134_2 : Ref sig .tc := ⟨.hbm, 190, rfl⟩
abbrev main_call6_cst_1 : Ref sig .tc := ⟨.hbm, 191, rfl⟩
abbrev main_call6_v6 : Ref sig .tc := ⟨.hbm, 192, rfl⟩
abbrev main_call6_v7 : Ref sig .tc := ⟨.hbm, 193, rfl⟩
abbrev main_v134_1 : Ref sig .tc := ⟨.hbm, 194, rfl⟩
abbrev main_v134_0 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_call7_v0 : Ref sig .tc := ⟨.hbm, 199, rfl⟩
abbrev main_call7_v1 : Ref sig .tc := ⟨.hbm, 200, rfl⟩
abbrev main_call7_v2 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_cst_14 : Ref sig .tc := ⟨.hbm, 210, rfl⟩
abbrev main_v146 : Ref sig .tc := ⟨.hbm, 211, rfl⟩
abbrev main_v147 : Ref sig .tc := ⟨.hbm, 212, rfl⟩
abbrev main_cst_15 : Ref sig .tc := ⟨.hbm, 213, rfl⟩
abbrev main_v148 : Ref sig .tc := ⟨.hbm, 214, rfl⟩
abbrev main_v149 : Ref sig .tc := ⟨.hbm, 215, rfl⟩
abbrev main_cst_16 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_cst_17 : Ref sig .tc := ⟨.hbm, 231, rfl⟩
abbrev main_v164 : Ref sig .tc := ⟨.hbm, 232, rfl⟩
abbrev main_v165 : Ref sig .tc := ⟨.hbm, 233, rfl⟩
abbrev main_cst_18 : Ref sig .tc := ⟨.hbm, 234, rfl⟩
abbrev main_v166 : Ref sig .tc := ⟨.hbm, 235, rfl⟩
abbrev main_cst_19 : Ref sig .tc := ⟨.hbm, 236, rfl⟩
abbrev main_v167 : Ref sig .tc := ⟨.hbm, 237, rfl⟩
abbrev main_v168 : Ref sig .tc := ⟨.hbm, 238, rfl⟩
abbrev main_cst_20 : Ref sig .tc := ⟨.hbm, 239, rfl⟩
abbrev main_v169 : Ref sig .tc := ⟨.hbm, 240, rfl⟩
abbrev main_cst_21 : Ref sig .tc := ⟨.hbm, 241, rfl⟩
abbrev main_v170 : Ref sig .tc := ⟨.hbm, 242, rfl⟩
abbrev main_cst_22 : Ref sig .tc := ⟨.hbm, 243, rfl⟩
abbrev main_cst_23 : Ref sig .tc := ⟨.hbm, 244, rfl⟩
abbrev main_v171 : Ref sig .tc := ⟨.hbm, 245, rfl⟩
abbrev main_v172 : Ref sig .tc := ⟨.hbm, 246, rfl⟩
abbrev main_cst_24 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩

abbrev nD : Nat := 1
abbrev τ : Topo := Topo.v7x

variable {F : FTy → Type} [FloatOps F]
-- ==== Kernel2.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S4x1x512 : Shape := ⟨3, ![4, 1, 512]⟩
abbrev S_ : Shape := ⟨0, ![]⟩
abbrev S4x4x512 : Shape := ⟨3, ![4, 4, 512]⟩
abbrev S4x8x512 : Shape := ⟨3, ![4, 8, 512]⟩
abbrev S4x3x1024 : Shape := ⟨3, ![4, 3, 1024]⟩
abbrev S4x1x1024 : Shape := ⟨3, ![4, 1, 1024]⟩
abbrev S4x8x1024 : Shape := ⟨3, ![4, 8, 1024]⟩
abbrev S1x8x1024 : Shape := ⟨3, ![1, 8, 1024]⟩
abbrev S8x1024 : Shape := ⟨2, ![8, 1024]⟩
abbrev S1x8x512 : Shape := ⟨3, ![1, 8, 512]⟩
abbrev S8x512 : Shape := ⟨2, ![8, 512]⟩
abbrev S1x4x128x128 : Shape := ⟨4, ![1, 4, 128, 128]⟩
abbrev S4x128x128 : Shape := ⟨3, ![4, 128, 128]⟩
abbrev S1x1024 : Shape := ⟨2, ![1, 1024]⟩
abbrev S1x512 : Shape := ⟨2, ![1, 512]⟩
abbrev S2048 : Shape := ⟨1, ![2048]⟩
abbrev S2048x1 : Shape := ⟨2, ![2048, 1]⟩
abbrev S2048x3072 : Shape := ⟨2, ![2048, 3072]⟩
abbrev S2048x512 : Shape := ⟨2, ![2048, 512]⟩
abbrev S2x512 : Shape := ⟨2, ![2, 512]⟩
abbrev S2046x512 : Shape := ⟨2, ![2046, 512]⟩
abbrev S2047x512 : Shape := ⟨2, ![2047, 512]⟩
abbrev S2048x1536 : Shape := ⟨2, ![2048, 1536]⟩
abbrev S2048x128 : Shape := ⟨2, ![2048, 128]⟩
abbrev S1x128 : Shape := ⟨2, ![1, 128]⟩
abbrev S2047x128 : Shape := ⟨2, ![2047, 128]⟩
abbrev S1x128x128 : Shape := ⟨3, ![1, 128, 128]⟩
abbrev S128x128 : Shape := ⟨2, ![128, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S2048x2048 : Shape := ⟨2, ![2048, 2048]⟩
abbrev S256x1024 : Shape := ⟨2, ![256, 1024]⟩
abbrev S16x1024 : Shape := ⟨2, ![16, 1024]⟩
abbrev S256x1536 : Shape := ⟨2, ![256, 1536]⟩
abbrev S256x2048 : Shape := ⟨2, ![256, 2048]⟩
abbrev S256x3072 : Shape := ⟨2, ![256, 3072]⟩
abbrev S16x512 : Shape := ⟨2, ![16, 512]⟩
abbrev S1x1x1024 : Shape := ⟨3, ![1, 1, 1024]⟩
abbrev S1x1x512 : Shape := ⟨3, ![1, 1, 512]⟩
abbrev S256 : Shape := ⟨1, ![256]⟩
abbrev S256x1 : Shape := ⟨2, ![256, 1]⟩
abbrev S1024 : Shape := ⟨1, ![1024]⟩
abbrev S256x512 : Shape := ⟨2, ![256, 512]⟩
abbrev S264x512 : Shape := ⟨2, ![264, 512]⟩
abbrev S512 : Shape := ⟨1, ![512]⟩
abbrev S256x128 : Shape := ⟨2, ![256, 128]⟩
abbrev S1x1x128x128 : Shape := ⟨4, ![1, 1, 128, 128]⟩
abbrev S16x128 : Shape := ⟨2, ![16, 128]⟩
abbrev S272x128 : Shape := ⟨2, ![272, 128]⟩

abbrev nBuf : Space → Nat
  | .hbm => 257
  | .vmem => 31
  | .smem => 0
  | _ => 0

abbrev hbmTy0_0 (i : Nat) : BufTy := match i % 128 with
  | 0 => ⟨S2048x1024, .f32⟩
  | 1 => ⟨S4x3072, .f32⟩
  | 2 => ⟨S4x1024, .f32⟩
  | 3 => ⟨S1024x3072, .f32⟩
  | 4 => ⟨S4x3x512, .f32⟩
  | 5 => ⟨S4x4x128x128, .f32⟩
  | 6 => ⟨S4x512, .f32⟩
  | 7 => ⟨S1024x1024, .f32⟩
  | 8 => ⟨S4x1024, .f32⟩
  | 9 => ⟨S2048x1024, .f32⟩
  | 10 => ⟨S4x1x512, .f32⟩
  | 11 => ⟨S_, .f32⟩
  | 12 => ⟨S4x4x512, .f32⟩
  | 13 => ⟨S4x8x512, .f32⟩
  | 14 => ⟨S4x4x128x128, .bf16⟩
  | 15 => ⟨S1024x3072, .bf16⟩
  | 16 => ⟨S1024x1024, .bf16⟩
  | 17 => ⟨S_, .f32⟩
  | 18 => ⟨S4x3x1024, .f32⟩
  | 19 => ⟨S4x3x1024, .f32⟩
  | 20 => ⟨S4x1x1024, .f32⟩
  | 21 => ⟨S4x1x1024, .f32⟩
  | 22 => ⟨S4x8x1024, .f32⟩
  | 23 => ⟨S1x8x1024, .f32⟩
  | 24 => ⟨S8x1024, .f32⟩
  | 25 => ⟨S1x8x512, .f32⟩
  | 26 => ⟨S8x512, .f32⟩
  | 27 => ⟨S1x4x128x128, .bf16⟩
  | 28 => ⟨S4x128x128, .bf16⟩
  | 29 => ⟨S1x1024, .f32⟩
  | 30 => ⟨S1x1024, .f32⟩
  | 31 => ⟨S1x1024, .f32⟩
  | 32 => ⟨S1x512, .f32⟩
  | 33 => ⟨S1x512, .f32⟩
  | 34 => ⟨S1x512, .f32⟩
  | 35 => ⟨S1x512, .f32⟩
  | 36 => ⟨S2048x1024, .f32⟩
  | 37 => ⟨S_, .f32⟩
  | 38 => ⟨S2048, .f32⟩
  | 39 => ⟨S2048x1, .f32⟩
  | 40 => ⟨S_, .f32⟩
  | 41 => ⟨S2048x1, .f32⟩
  | 42 => ⟨S2048x1, .f32⟩
  | 43 => ⟨S_, .f32⟩
  | 44 => ⟨S2048x1, .f32⟩
  | 45 => ⟨S2048x1, .f32⟩
  | 46 => ⟨S2048x1, .f32⟩
  | 47 => ⟨S2048x1024, .f32⟩
  | 48 => ⟨S2048x1024, .f32⟩
  | 49 => ⟨S2048x1024, .f32⟩
  | 50 => ⟨S2048x1024, .f32⟩
  | 51 => ⟨S_, .f32⟩
  | 52 => ⟨S1x1024, .f32⟩
  | 53 => ⟨S1x1024, .f32⟩
  | 54 => ⟨S2048x1024, .f32⟩
  | 55 => ⟨S2048x1024, .f32⟩
  | 56 => ⟨S2048x1024, .f32⟩
  | 57 => ⟨S2048x1024, .f32⟩
  | 58 => ⟨S2048x1024, .bf16⟩
  | 59 => ⟨S2048x3072, .f32⟩
  | 60 => ⟨S2048x512, .f32⟩
  | 61 => ⟨S2048x512, .f32⟩
  | 62 => ⟨S2048x512, .f32⟩
  | 63 => ⟨S2048x512, .f32⟩
  | 64 => ⟨S2048x512, .f32⟩
  | 65 => ⟨S2048x512, .f32⟩
  | 66 => ⟨S2048x1024, .f32⟩
  | 67 => ⟨S2048x1024, .bf16⟩
  | 68 => ⟨S2048x512, .f32⟩
  | 69 => ⟨S_, .f32⟩
  | 70 => ⟨S2x512, .f32⟩
  | 71 => ⟨S2046x512, .f32⟩
  | 72 => ⟨S2048x512, .f32⟩
  | 73 => ⟨S2048x512, .f32⟩
  | 74 => ⟨S2048x512, .f32⟩
  | 75 => ⟨S_, .f32⟩
  | 76 => ⟨S1x512, .f32⟩
  | 77 => ⟨S2047x512, .f32⟩
  | 78 => ⟨S2048x512, .f32⟩
  | 79 => ⟨S2048x512, .f32⟩
  | 80 => ⟨S2048x512, .f32⟩
  | 81 => ⟨S2048x512, .f32⟩
  | 82 => ⟨S2048x512, .f32⟩
  | 83 => ⟨S2048x512, .f32⟩
  | 84 => ⟨S2048x512, .f32⟩
  | 85 => ⟨S2048x512, .f32⟩
  | 86 => ⟨S2048x512, .f32⟩
  | 87 => ⟨S_, .f32⟩
  | 88 => ⟨S2048x512, .f32⟩
  | 89 => ⟨S2048x512, .f32⟩
  | 90 => ⟨S_, .f32⟩
  | 91 => ⟨S2048x512, .f32⟩
  | 92 => ⟨S2048x512, .f32⟩
  | 93 => ⟨S2048x512, .f32⟩
  | 94 => ⟨S2048x512, .f32⟩
  | 95 => ⟨S2048x512, .f32⟩
  | 96 => ⟨S2048x512, .f32⟩
  | 97 => ⟨S2048x512, .f32⟩
  | 98 => ⟨S_, .f32⟩
  | 99 => ⟨S2048x512, .f32⟩
  | 100 => ⟨S2048x512, .f32⟩
  | 101 => ⟨S2048x512, .f32⟩
  | 102 => ⟨S2048x512, .f32⟩
  | 103 => ⟨S2048x512, .f32⟩
  | 104 => ⟨S2048x1536, .f32⟩
  | 105 => ⟨S2048x1536, .bf16⟩
  | 106 => ⟨S2048x1, .i32⟩
  | 107 => ⟨S_, .i32⟩
  | 108 => ⟨S2048x1, .i32⟩
  | 109 => ⟨S2048x1, .i32⟩
  | 110 => ⟨S2048x1, .f32⟩
  | 111 => ⟨S2048x128, .f32⟩
  | 112 => ⟨S_, .f32⟩
  | 113 => ⟨S1x128, .f32⟩
  | 114 => ⟨S2047x128, .f32⟩
  | 115 => ⟨S2048x128, .f32⟩
  | 116 => ⟨S2048x128, .f32⟩
  | 117 => ⟨S_, .f32⟩
  | 118 => ⟨S2048x1, .f32⟩
  | 119 => ⟨S2048x1, .f32⟩
  | 120 => ⟨S_, .f32⟩
  | 121 => ⟨S2048x1, .f32⟩
  | 122 => ⟨S2048x1, .f32⟩
  | 123 => ⟨S2048x128, .f32⟩
  | 124 => ⟨S2048x128, .f32⟩
  | 125 => ⟨S2048x128, .f32⟩
  | 126 => ⟨S2048x128, .f32⟩
  | 127 => ⟨S2048x128, .bf16⟩
  | _ => ⟨S2048x1024, .f32⟩

abbrev hbmTy0_1 (i : Nat) : BufTy := match i % 128 with
  | 0 => ⟨S1x128x128, .bf16⟩
  | 1 => ⟨S128x128, .bf16⟩
  | 2 => ⟨S2048x128, .f32⟩
  | 3 => ⟨S2048x128, .f32⟩
  | 4 => ⟨S_, .f32⟩
  | 5 => ⟨S1x128, .f32⟩
  | 6 => ⟨S2047x128, .f32⟩
  | 7 => ⟨S2048x128, .f32⟩
  | 8 => ⟨S2048x128, .f32⟩
  | 9 => ⟨S_, .f32⟩
  | 10 => ⟨S2x128, .f32⟩
  | 11 => ⟨S2046x128, .f32⟩
  | 12 => ⟨S2048x128, .f32⟩
  | 13 => ⟨S2048x128, .f32⟩
  | 14 => ⟨S_, .f32⟩
  | 15 => ⟨S2048x1, .f32⟩
  | 16 => ⟨S2048x1, .f32⟩
  | 17 => ⟨S_, .f32⟩
  | 18 => ⟨S2048x1, .f32⟩
  | 19 => ⟨S2048x1, .f32⟩
  | 20 => ⟨S2048x128, .f32⟩
  | 21 => ⟨S2048x128, .f32⟩
  | 22 => ⟨S2048x128, .f32⟩
  | 23 => ⟨S2048x128, .f32⟩
  | 24 => ⟨S2048x128, .bf16⟩
  | 25 => ⟨S1x128x128, .bf16⟩
  | 26 => ⟨S128x128, .bf16⟩
  | 27 => ⟨S2048x128, .f32⟩
  | 28 => ⟨S2048x128, .f32⟩
  | 29 => ⟨S_, .f32⟩
  | 30 => ⟨S1x128, .f32⟩
  | 31 => ⟨S2047x128, .f32⟩
  | 32 => ⟨S2048x128, .f32⟩
  | 33 => ⟨S2048x128, .f32⟩
  | 34 => ⟨S_, .f32⟩
  | 35 => ⟨S2x128, .f32⟩
  | 36 => ⟨S2046x128, .f32⟩
  | 37 => ⟨S2048x128, .f32⟩
  | 38 => ⟨S2048x128, .f32⟩
  | 39 => ⟨S_, .f32⟩
  | 40 => ⟨S4x128, .f32⟩
  | 41 => ⟨S2044x128, .f32⟩
  | 42 => ⟨S2048x128, .f32⟩
  | 43 => ⟨S2048x128, .f32⟩
  | 44 => ⟨S_, .f32⟩
  | 45 => ⟨S2048x1, .f32⟩
  | 46 => ⟨S2048x1, .f32⟩
  | 47 => ⟨S_, .f32⟩
  | 48 => ⟨S2048x1, .f32⟩
  | 49 => ⟨S2048x1, .f32⟩
  | 50 => ⟨S2048x128, .f32⟩
  | 51 => ⟨S2048x128, .f32⟩
  | 52 => ⟨S2048x128, .f32⟩
  | 53 => ⟨S2048x128, .f32⟩
  | 54 => ⟨S2048x128, .bf16⟩
  | 55 => ⟨S1x128x128, .bf16⟩
  | 56 => ⟨S128x128, .bf16⟩
  | 57 => ⟨S2048x128, .f32⟩
  | 58 => ⟨S2048x128, .f32⟩
  | 59 => ⟨S_, .f32⟩
  | 60 => ⟨S1x128, .f32⟩
  | 61 => ⟨S2047x128, .f32⟩
  | 62 => ⟨S2048x128, .f32⟩
  | 63 => ⟨S2048x128, .f32⟩
  | 64 => ⟨S_, .f32⟩
  | 65 => ⟨S2x128, .f32⟩
  | 66 => ⟨S2046x128, .f32⟩
  | 67 => ⟨S2048x128, .f32⟩
  | 68 => ⟨S2048x128, .f32⟩
  | 69 => ⟨S_, .f32⟩
  | 70 => ⟨S4x128, .f32⟩
  | 71 => ⟨S2044x128, .f32⟩
  | 72 => ⟨S2048x128, .f32⟩
  | 73 => ⟨S2048x128, .f32⟩
  | 74 => ⟨S_, .f32⟩
  | 75 => ⟨S8x128, .f32⟩
  | 76 => ⟨S2040x128, .f32⟩
  | 77 => ⟨S2048x128, .f32⟩
  | 78 => ⟨S2048x128, .f32⟩
  | 79 => ⟨S_, .f32⟩
  | 80 => ⟨S2048x1, .f32⟩
  | 81 => ⟨S2048x1, .f32⟩
  | 82 => ⟨S_, .f32⟩
  | 83 => ⟨S2048x1, .f32⟩
  | 84 => ⟨S2048x1, .f32⟩
  | 85 => ⟨S2048x128, .f32⟩
  | 86 => ⟨S2048x128, .f32⟩
  | 87 => ⟨S2048x128, .f32⟩
  | 88 => ⟨S2048x128, .f32⟩
  | 89 => ⟨S2048x128, .bf16⟩
  | 90 => ⟨S1x128x128, .bf16⟩
  | 91 => ⟨S128x128, .bf16⟩
  | 92 => ⟨S2048x128, .f32⟩
  | 93 => ⟨S2048x512, .f32⟩
  | 94 => ⟨S2048x512, .f32⟩
  | 95 => ⟨S2048x512, .f32⟩
  | 96 => ⟨S_, .f32⟩
  | 97 => ⟨S2048x512, .f32⟩
  | 98 => ⟨S2048x512, .f32⟩
  | 99 => ⟨S_, .f32⟩
  | 100 => ⟨S2048x512, .f32⟩
  | 101 => ⟨S2048x512, .f32⟩
  | 102 => ⟨S2048x512, .f32⟩
  | 103 => ⟨S2048x512, .f32⟩
  | 104 => ⟨S2048x512, .f32⟩
  | 105 => ⟨S2048x512, .f32⟩
  | 106 => ⟨S2048x512, .f32⟩
  | 107 => ⟨S2048x512, .f32⟩
  | 108 => ⟨S2048x512, .bf16⟩
  | 109 => ⟨S_, .f32⟩
  | 110 => ⟨S2048x512, .f32⟩
  | 111 => ⟨S2048x512, .f32⟩
  | 112 => ⟨S2048x512, .f32⟩
  | 113 => ⟨S2048x512, .f32⟩
  | 114 => ⟨S2048x512, .f32⟩
  | 115 => ⟨S2048x512, .bf16⟩
  | 116 => ⟨S2048x512, .f32⟩
  | 117 => ⟨S2048x512, .bf16⟩
  | 118 => ⟨S2048x2048, .bf16⟩
  | 119 => ⟨S2048x1024, .f32⟩
  | 120 => ⟨S2048x1024, .bf16⟩
  | 121 => ⟨S2048x1024, .f32⟩
  | 122 => ⟨S2048x1024, .bf16⟩
  | 123 => ⟨S2048x1024, .f32⟩
  | 124 => ⟨S2048x3072, .bf16⟩
  | 125 => ⟨S2048x1024, .bf16⟩
  | 126 => ⟨S4x128x128, .bf16⟩
  | 127 => ⟨S8x512, .f32⟩
  | _ => ⟨S2048x1024, .f32⟩

abbrev hbmTy0_2 (i : Nat) : BufTy := match i % 128 with
  | 0 => ⟨S8x1024, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S256x1536, .bf16⟩
  | .local _ .vmem, ⟨11, _⟩ => ⟨S256x1536, .bf16⟩
  | .local _ .vmem, ⟨12, _⟩ => ⟨S256x2048, .bf16⟩
  | .local _ .vmem, ⟨13, _⟩ => ⟨S256x2048, .bf16⟩
  | .local _ .vmem, ⟨14, _⟩ => ⟨S1x8x1024, .f32⟩
  | .local _ .vmem, ⟨15, _⟩ => ⟨S1x8x512, .f32⟩
  | .local _ .vmem, ⟨16, _⟩ => ⟨S1x4x128x128, .bf16⟩
  | .local _ .vmem, ⟨17, _⟩ => ⟨S1024x1024, .bf16⟩
  | .local _ .vmem, ⟨18, _⟩ => ⟨S1024x3072, .bf16⟩
  | .local _ .vmem, ⟨19, _⟩ => ⟨S256x1024, .f32⟩
  | .local _ .vmem, ⟨20, _⟩ => ⟨S256x1024, .f32⟩
  | .local _ .vmem, ⟨21, _⟩ => ⟨S256x3072, .bf16⟩
  | .local _ .vmem, ⟨22, _⟩ => ⟨S256x3072, .bf16⟩
  | .local _ .vmem, ⟨23, _⟩ => ⟨S256x1024, .bf16⟩
  | .local _ .vmem, ⟨24, _⟩ => ⟨S256x1024, .bf16⟩
  | .local _ .vmem, ⟨25, _⟩ => ⟨S4x128x128, .bf16⟩
  | .local _ .vmem, ⟨26, _⟩ => ⟨S8x512, .f32⟩
  | .local _ .vmem, ⟨27, _⟩ => ⟨S8x1024, .f32⟩
  | .local _ .vmem, ⟨28, _⟩ => ⟨S4x128x128, .f32⟩
  | .local _ .vmem, ⟨29, _⟩ => ⟨S8x512, .f32⟩
  | .local _ .vmem, ⟨30, _⟩ => ⟨S16x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_7 : Ref sig .tc := ⟨.hbm, 87, rfl⟩
abbrev main_v69 : Ref sig .tc := ⟨.hbm, 88, rfl⟩
abbrev main_v70 : Ref sig .tc := ⟨.hbm, 89, rfl⟩
abbrev main_cst_8 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_9 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_c : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_10 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_11 : Ref sig .tc := ⟨.hbm, 117, rfl⟩
abbrev main_v94 : Ref sig .tc := ⟨.hbm, 118, rfl⟩
abbrev main_v95 : Ref sig .tc := ⟨.hbm, 119, rfl⟩
abbrev main_cst_12 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_13 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_cst_14 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_15 : Ref sig .tc := ⟨.hbm, 142, rfl⟩
abbrev main_v115 : Ref sig .tc := ⟨.hbm, 143, rfl⟩
abbrev main_v116 : Ref sig .tc := ⟨.hbm, 144, rfl⟩
abbrev main_cst_16 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_17 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_18 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_cst_19 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_20 : Ref sig .tc := ⟨.hbm, 172, rfl⟩
abbrev main_v140 : Ref sig .tc := ⟨.hbm, 173, rfl⟩
abbrev main_v141 : Ref sig .tc := ⟨.hbm, 174, rfl⟩
abbrev main_cst_21 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_22 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_cst_23 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_cst_24 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_cst_25 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_cst_26 : Ref sig .tc := ⟨.hbm, 207, rfl⟩
abbrev main_v169 : Ref sig .tc := ⟨.hbm, 208, rfl⟩
abbrev main_v170 : Ref sig .tc := ⟨.hbm, 209, rfl⟩
abbrev main_cst_27 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_cst_28 : Ref sig .tc := ⟨.hbm, 224, rfl⟩
abbrev main_v184 : Ref sig .tc := ⟨.hbm, 225, rfl⟩
abbrev main_v185 : Ref sig .tc := ⟨.hbm, 226, rfl⟩
abbrev main_cst_29 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_cst_30 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208_0 : Ref sig .tc := ⟨.hbm, 251, rfl⟩
abbrev main_v208_1 : Ref sig .tc := ⟨.hbm, 252, rfl⟩
abbrev main_v208_2 : Ref sig .tc := ⟨.hbm, 253, rfl⟩
abbrev main_v208_3 : Ref sig .tc := ⟨.hbm, 254, rfl⟩
abbrev main_v208_4 : Ref sig .tc := ⟨.hbm, 255, rfl⟩
abbrev main_v208_5 : Ref sig .tc := ⟨.hbm, 256, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_170 : BitVec 32 := 7#32
  let v322 : BitVec 1 := Scalar.cmpi .eq arg0 c7_i32_170
  let v323 : BitVec 32 := Scalar.extui v322
  let c0_i32_171 : BitVec 32 := 0#32
  let v324 : BitVec 1 := Scalar.cmpi .ne v323 c0_i32_171
  v324

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_9 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference2Ideal.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S1x3072 : Shape := ⟨2, ![1, 3072]⟩
abbrev S3072 : Shape := ⟨1, ![3072]⟩
abbrev S1x1024 : Shape := ⟨2, ![1, 1024]⟩
abbrev S1024 : Shape := ⟨1, ![1024]⟩
abbrev S1x3x512 : Shape := ⟨3, ![1, 3, 512]⟩
abbrev S3x512 : Shape := ⟨2, ![3, 512]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩
abbrev S_ : Shape := ⟨0, ![]⟩
abbrev S2048x3072 : Shape := ⟨2, ![2048, 3072]⟩
abbrev S2048 : Shape := ⟨1, ![2048]⟩
abbrev S2048x1 : Shape := ⟨2, ![2048, 1]⟩
abbrev S2048x512 : Shape := ⟨2, ![2048, 512]⟩
abbrev S2x512 : Shape := ⟨2, ![2, 512]⟩
abbrev S2046x512 : Shape := ⟨2, ![2046, 512]⟩
abbrev S2047x512 : Shape := ⟨2, ![2047, 512]⟩
abbrev S2048x128 : Shape := ⟨2, ![2048, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S2048x1x128 : Shape := ⟨3, ![2048, 1, 128]⟩
abbrev S2048x4x128 : Shape := ⟨3, ![2048, 4, 128]⟩
abbrev S4x128x2048 : Shape := ⟨3, ![4, 128, 2048]⟩
abbrev S4x2048x128 : Shape := ⟨3, ![4, 2048, 128]⟩
abbrev S8x512 : Shape := ⟨2, ![8, 512]⟩
abbrev S3x1024 : Shape := ⟨2, ![3, 1024]⟩
abbrev S8x1024 : Shape := ⟨2, ![8, 1024]⟩

abbrev nBuf : Space → Nat
  | .hbm => 491
  | .vmem => 0
  | .smem => 0
  | _ => 0

abbrev hbmTy0_0 (i : Nat) : BufTy := match i % 128 with
  | 0 => ⟨S2048x1024, .f32⟩
  | 1 => ⟨S4x3072, .f32⟩
  | 2 => ⟨S4x1024, .f32⟩
  | 3 => ⟨S1024x3072, .f32⟩
  | 4 => ⟨S4x3x512, .f32⟩
  | 5 => ⟨S4x4x128x128, .f32⟩
  | 6 => ⟨S4x512, .f32⟩
  | 7 => ⟨S1024x1024, .f32⟩
  | 8 => ⟨S4x1024, .f32⟩
  | 9 => ⟨S2048x1024, .f32⟩
  | 10 => ⟨S1x3072, .f32⟩
  | 11 => ⟨S3072, .f32⟩
  | 12 => ⟨S1x1024, .f32⟩
  | 13 => ⟨S1024, .f32⟩
  | 14 => ⟨S1x3x512, .f32⟩
  | 15 => ⟨S3x512, .f32⟩
  | 16 => ⟨S1x4x128x128, .f32⟩
  | 17 => ⟨S4x128x128, .f32⟩
  | 18 => ⟨S1x512, .f32⟩
  | 19 => ⟨S512, .f32⟩
  | 20 => ⟨S1x1024, .f32⟩
  | 21 => ⟨S1024, .f32⟩
  | 22 => ⟨S_, .f32⟩
  | 23 => ⟨S2048x3072, .f32⟩
  | 24 => ⟨S_, .f32⟩
  | 25 => ⟨S2048x1024, .f32⟩
  | 26 => ⟨S1024, .f32⟩
  | 27 => ⟨S1024, .f32⟩
  | 28 => ⟨S1024, .f32⟩
  | 29 => ⟨S2048x1024, .f32⟩
  | 30 => ⟨S_, .f32⟩
  | 31 => ⟨S2048, .f32⟩
  | 32 => ⟨S2048x1, .f32⟩
  | 33 => ⟨S_, .f32⟩
  | 34 => ⟨S2048x1, .f32⟩
  | 35 => ⟨S2048x1, .f32⟩
  | 36 => ⟨S_, .f32⟩
  | 37 => ⟨S2048x1, .f32⟩
  | 38 => ⟨S2048x1, .f32⟩
  | 39 => ⟨S2048x1, .f32⟩
  | 40 => ⟨S2048x1, .f32⟩
  | 41 => ⟨S_, .f32⟩
  | 42 => ⟨S2048x1, .f32⟩
  | 43 => ⟨S2048x1, .f32⟩
  | 44 => ⟨S2048x1024, .f32⟩
  | 45 => ⟨S2048x1024, .f32⟩
  | 46 => ⟨S1x1024, .f32⟩
  | 47 => ⟨S2048x1024, .f32⟩
  | 48 => ⟨S2048x1024, .f32⟩
  | 49 => ⟨S_, .f32⟩
  | 50 => ⟨S1024, .f32⟩
  | 51 => ⟨S1024, .f32⟩
  | 52 => ⟨S1x1024, .f32⟩
  | 53 => ⟨S2048x1024, .f32⟩
  | 54 => ⟨S2048x1024, .f32⟩
  | 55 => ⟨S1x1024, .f32⟩
  | 56 => ⟨S2048x1024, .f32⟩
  | 57 => ⟨S2048x1024, .f32⟩
  | 58 => ⟨S2048x3072, .f32⟩
  | 59 => ⟨S2048x3072, .f32⟩
  | 60 => ⟨S2048x512, .f32⟩
  | 61 => ⟨S2048x512, .f32⟩
  | 62 => ⟨S2048x512, .f32⟩
  | 63 => ⟨S2048x512, .f32⟩
  | 64 => ⟨S2048x512, .f32⟩
  | 65 => ⟨S2048x512, .f32⟩
  | 66 => ⟨S2048x512, .f32⟩
  | 67 => ⟨S1x512, .f32⟩
  | 68 => ⟨S512, .f32⟩
  | 69 => ⟨S_, .f32⟩
  | 70 => ⟨S2x512, .f32⟩
  | 71 => ⟨S2046x512, .f32⟩
  | 72 => ⟨S2048x512, .f32⟩
  | 73 => ⟨S_, .f32⟩
  | 74 => ⟨S2x512, .f32⟩
  | 75 => ⟨S1x512, .f32⟩
  | 76 => ⟨S2048x512, .f32⟩
  | 77 => ⟨S2048x512, .f32⟩
  | 78 => ⟨S1x512, .f32⟩
  | 79 => ⟨S512, .f32⟩
  | 80 => ⟨S_, .f32⟩
  | 81 => ⟨S1x512, .f32⟩
  | 82 => ⟨S2047x512, .f32⟩
  | 83 => ⟨S2048x512, .f32⟩
  | 84 => ⟨S_, .f32⟩
  | 85 => ⟨S1x512, .f32⟩
  | 86 => ⟨S1x512, .f32⟩
  | 87 => ⟨S2048x512, .f32⟩
  | 88 => ⟨S2048x512, .f32⟩
  | 89 => ⟨S2048x512, .f32⟩
  | 90 => ⟨S1x512, .f32⟩
  | 91 => ⟨S512, .f32⟩
  | 92 => ⟨S1x512, .f32⟩
  | 93 => ⟨S2048x512, .f32⟩
  | 94 => ⟨S2048x512, .f32⟩
  | 95 => ⟨S2048x512, .f32⟩
  | 96 => ⟨S2048x512, .f32⟩
  | 97 => ⟨S2048x512, .f32⟩
  | 98 => ⟨S2048x512, .f32⟩
  | 99 => ⟨S_, .f32⟩
  | 100 => ⟨S2048x512, .f32⟩
  | 101 => ⟨S2048x512, .f32⟩
  | 102 => ⟨S_, .f32⟩
  | 103 => ⟨S2048x512, .f32⟩
  | 104 => ⟨S2048x512, .f32⟩
  | 105 => ⟨S_, .f32⟩
  | 106 => ⟨S2048x512, .f32⟩
  | 107 => ⟨S2048x512, .f32⟩
  | 108 => ⟨S2048x512, .f32⟩
  | 109 => ⟨S2048x512, .f32⟩
  | 110 => ⟨S2048x512, .f32⟩
  | 111 => ⟨S2048, .i32⟩
  | 112 => ⟨S_, .i32⟩
  | 113 => ⟨S2048, .i32⟩
  | 114 => ⟨S2048, .i32⟩
  | 115 => ⟨S2048, .f32⟩
  | 116 => ⟨S2048x1, .f32⟩
  | 117 => ⟨S2048x128, .f32⟩
  | 118 => ⟨S_, .f32⟩
  | 119 => ⟨S_, .f32⟩
  | 120 => ⟨S2048x128, .f32⟩
  | 121 => ⟨S_, .f32⟩
  | 122 => ⟨S2x128, .f32⟩
  | 123 => ⟨S2046x128, .f32⟩
  | 124 => ⟨S2048x128, .f32⟩
  | 125 => ⟨S_, .f32⟩
  | 126 => ⟨S2x128, .f32⟩
  | 127 => ⟨S2048x128, .f32⟩
  | _ => ⟨S2048x1024, .f32⟩

abbrev hbmTy0_1 (i : Nat) : BufTy := match i % 128 with
  | 0 => ⟨S_, .f32⟩
  | 1 => ⟨S2048x1, .f32⟩
  | 2 => ⟨S2048x1, .f32⟩
  | 3 => ⟨S2048x128, .f32⟩
  | 4 => ⟨S2048x128, .f32⟩
  | 5 => ⟨S2048x128, .f32⟩
  | 6 => ⟨S2048x128, .f32⟩
  | 7 => ⟨S_, .f32⟩
  | 8 => ⟨S_, .f32⟩
  | 9 => ⟨S2048x128, .f32⟩
  | 10 => ⟨S_, .f32⟩
  | 11 => ⟨S4x128, .f32⟩
  | 12 => ⟨S2044x128, .f32⟩
  | 13 => ⟨S2048x128, .f32⟩
  | 14 => ⟨S_, .f32⟩
  | 15 => ⟨S4x128, .f32⟩
  | 16 => ⟨S2048x128, .f32⟩
  | 17 => ⟨S_, .f32⟩
  | 18 => ⟨S2048x1, .f32⟩
  | 19 => ⟨S2048x1, .f32⟩
  | 20 => ⟨S2048x128, .f32⟩
  | 21 => ⟨S2048x128, .f32⟩
  | 22 => ⟨S2048x128, .f32⟩
  | 23 => ⟨S2048x128, .f32⟩
  | 24 => ⟨S_, .f32⟩
  | 25 => ⟨S_, .f32⟩
  | 26 => ⟨S2048x128, .f32⟩
  | 27 => ⟨S_, .f32⟩
  | 28 => ⟨S8x128, .f32⟩
  | 29 => ⟨S2040x128, .f32⟩
  | 30 => ⟨S2048x128, .f32⟩
  | 31 => ⟨S_, .f32⟩
  | 32 => ⟨S8x128, .f32⟩
  | 33 => ⟨S2048x128, .f32⟩
  | 34 => ⟨S_, .f32⟩
  | 35 => ⟨S2048x1, .f32⟩
  | 36 => ⟨S2048x1, .f32⟩
  | 37 => ⟨S2048x128, .f32⟩
  | 38 => ⟨S2048x128, .f32⟩
  | 39 => ⟨S2048x128, .f32⟩
  | 40 => ⟨S2048x128, .f32⟩
  | 41 => ⟨S_, .f32⟩
  | 42 => ⟨S_, .f32⟩
  | 43 => ⟨S2048x128, .f32⟩
  | 44 => ⟨S_, .f32⟩
  | 45 => ⟨S16x128, .f32⟩
  | 46 => ⟨S2032x128, .f32⟩
  | 47 => ⟨S2048x128, .f32⟩
  | 48 => ⟨S_, .f32⟩
  | 49 => ⟨S16x128, .f32⟩
  | 50 => ⟨S2048x128, .f32⟩
  | 51 => ⟨S_, .f32⟩
  | 52 => ⟨S2048x1, .f32⟩
  | 53 => ⟨S2048x1, .f32⟩
  | 54 => ⟨S2048x128, .f32⟩
  | 55 => ⟨S2048x128, .f32⟩
  | 56 => ⟨S2048x128, .f32⟩
  | 57 => ⟨S2048x1x128, .f32⟩
  | 58 => ⟨S2048x1x128, .f32⟩
  | 59 => ⟨S2048x1x128, .f32⟩
  | 60 => ⟨S2048x1x128, .f32⟩
  | 61 => ⟨S2048x4x128, .f32⟩
  | 62 => ⟨S4x128x2048, .f32⟩
  | 63 => ⟨S2048x4x128, .f32⟩
  | 64 => ⟨S2048x512, .f32⟩
  | 65 => ⟨S1x512, .f32⟩
  | 66 => ⟨S2048x512, .f32⟩
  | 67 => ⟨S2048x512, .f32⟩
  | 68 => ⟨S2048x512, .f32⟩
  | 69 => ⟨S2048x512, .f32⟩
  | 70 => ⟨S_, .f32⟩
  | 71 => ⟨S2048x512, .f32⟩
  | 72 => ⟨S2048x512, .f32⟩
  | 73 => ⟨S_, .f32⟩
  | 74 => ⟨S2048x512, .f32⟩
  | 75 => ⟨S2048x512, .f32⟩
  | 76 => ⟨S_, .f32⟩
  | 77 => ⟨S2048x512, .f32⟩
  | 78 => ⟨S2048x512, .f32⟩
  | 79 => ⟨S2048x512, .f32⟩
  | 80 => ⟨S2048x512, .f32⟩
  | 81 => ⟨S2048x512, .f32⟩
  | 82 => ⟨S2048x1024, .f32⟩
  | 83 => ⟨S2048x1024, .f32⟩
  | 84 => ⟨S2048x1024, .f32⟩
  | 85 => ⟨S2048x1024, .f32⟩
  | 86 => ⟨S_, .f32⟩
  | 87 => ⟨S2048, .f32⟩
  | 88 => ⟨S2048x1, .f32⟩
  | 89 => ⟨S_, .f32⟩
  | 90 => ⟨S2048x1, .f32⟩
  | 91 => ⟨S2048x1, .f32⟩
  | 92 => ⟨S_, .f32⟩
  | 93 => ⟨S2048x1, .f32⟩
  | 94 => ⟨S2048x1, .f32⟩
  | 95 => ⟨S2048x1, .f32⟩
  | 96 => ⟨S2048x1, .f32⟩
  | 97 => ⟨S_, .f32⟩
  | 98 => ⟨S2048x1, .f32⟩
  | 99 => ⟨S2048x1, .f32⟩
  | 100 => ⟨S2048x1024, .f32⟩
  | 101 => ⟨S2048x1024, .f32⟩
  | 102 => ⟨S1x1024, .f32⟩
  | 103 => ⟨S2048x1024, .f32⟩
  | 104 => ⟨S2048x1024, .f32⟩
  | 105 => ⟨S1x1024, .f32⟩
  | 106 => ⟨S2048x1024, .f32⟩
  | 107 => ⟨S2048x1024, .f32⟩
  | 108 => ⟨S2048x1024, .f32⟩
  | 109 => ⟨S2048x1024, .f32⟩
  | 110 => ⟨S2048x1024, .f32⟩
  | 111 => ⟨S2048x1024, .f32⟩
  | 112 => ⟨S2048x1024, .f32⟩
  | 113 => ⟨S_, .f32⟩
  | 114 => ⟨S1024, .f32⟩
  | 115 => ⟨S1x1024, .f32⟩
  | 116 => ⟨S_, .f32⟩
  | 117 => ⟨S1024, .f32⟩
  | 118 => ⟨S2048x1024, .f32⟩
  | 119 => ⟨S_, .f32⟩
  | 120 => ⟨S1024, .f32⟩
  | 121 => ⟨S1x1024, .f32⟩
  | 122 => ⟨S2048x1024, .f32⟩
  | 123 => ⟨S2048x1024, .f32⟩
  | 124 => ⟨S_, .f32⟩
  | 125 => ⟨S1024, .f32⟩
  | 126 => ⟨S2048x1024, .f32⟩
  | 127 => ⟨S_, .f32⟩
  | _ => ⟨S2048x1024, .f32⟩

abbrev hbmTy0_2 (i : Nat) : BufTy := match i % 128 with
  | 0 => ⟨S2048, .f32⟩
  | 1 => ⟨S2048x1, .f32⟩
  | 2 => ⟨S2048x1024, .f32⟩
  | 3 => ⟨S2048x1024, .f32⟩
  | 4 => ⟨S2048x1, .f32⟩
  | 5 => ⟨S_, .f32⟩
  | 6 => ⟨S2048x1, .f32⟩
  | 7 => ⟨S2048x1, .f32⟩
  | 8 => ⟨S_, .f32⟩
  | 9 => ⟨S2048, .f32⟩
  | 10 => ⟨S2048x1024, .f32⟩
  | 11 => ⟨S2048x1024, .f32⟩
  | 12 => ⟨S2048x1024, .f32⟩
  | 13 => ⟨S2048x1024, .f32⟩
  | 14 => ⟨S2048x1024, .f32⟩
  | 15 => ⟨S2048x1024, .f32⟩
  | 16 => ⟨S2048x512, .f32⟩
  | 17 => ⟨S2048x512, .f32⟩
  | 18 => ⟨S2048x512, .f32⟩
  | 19 => ⟨S2048x512, .f32⟩
  | 20 => ⟨S2048x512, .f32⟩
  | 21 => ⟨S2048x512, .f32⟩
  | 22 => ⟨S2048x512, .f32⟩
  | 23 => ⟨S2048x512, .f32⟩
  | 24 => ⟨S2048x512, .f32⟩
  | 25 => ⟨S_, .f32⟩
  | 26 => ⟨S512, .f32⟩
  | 27 => ⟨S1x512, .f32⟩
  | 28 => ⟨S2048x512, .f32⟩
  | 29 => ⟨S2048x512, .f32⟩
  | 30 => ⟨S_, .f32⟩
  | 31 => ⟨S512, .f32⟩
  | 32 => ⟨S2048x4x128, .f32⟩
  | 33 => ⟨S4x128x2048, .f32⟩
  | 34 => ⟨S4x2048x128, .f32⟩
  | 35 => ⟨S2048x4x128, .f32⟩
  | 36 => ⟨S4x128x128, .f32⟩
  | 37 => ⟨S4x128x128, .f32⟩
  | 38 => ⟨S2048x1x128, .f32⟩
  | 39 => ⟨S2048x128, .f32⟩
  | 40 => ⟨S2048x1x128, .f32⟩
  | 41 => ⟨S2048x128, .f32⟩
  | 42 => ⟨S2048x1x128, .f32⟩
  | 43 => ⟨S2048x128, .f32⟩
  | 44 => ⟨S2048x1x128, .f32⟩
  | 45 => ⟨S2048x128, .f32⟩
  | 46 => ⟨S2048x128, .f32⟩
  | 47 => ⟨S2048x128, .f32⟩
  | 48 => ⟨S2048x128, .f32⟩
  | 49 => ⟨S2048x128, .f32⟩
  | 50 => ⟨S16x128, .f32⟩
  | 51 => ⟨S2032x128, .f32⟩
  | 52 => ⟨S_, .f32⟩
  | 53 => ⟨S2048x128, .f32⟩
  | 54 => ⟨S2048x128, .f32⟩
  | 55 => ⟨S_, .f32⟩
  | 56 => ⟨S_, .f32⟩
  | 57 => ⟨S2048x128, .f32⟩
  | 58 => ⟨S2048x128, .f32⟩
  | 59 => ⟨S_, .f32⟩
  | 60 => ⟨S2048x512, .f32⟩
  | 61 => ⟨S2048x128, .f32⟩
  | 62 => ⟨S2048x128, .f32⟩
  | 63 => ⟨S2048x128, .f32⟩
  | 64 => ⟨S2048x128, .f32⟩
  | 65 => ⟨S8x128, .f32⟩
  | 66 => ⟨S2040x128, .f32⟩
  | 67 => ⟨S_, .f32⟩
  | 68 => ⟨S2048x128, .f32⟩
  | 69 => ⟨S2048x128, .f32⟩
  | 70 => ⟨S_, .f32⟩
  | 71 => ⟨S_, .f32⟩
  | 72 => ⟨S2048x128, .f32⟩
  | 73 => ⟨S2048x128, .f32⟩
  | 74 => ⟨S_, .f32⟩
  | 75 => ⟨S2048x512, .f32⟩
  | 76 => ⟨S2048x512, .f32⟩
  | 77 => ⟨S2048x128, .f32⟩
  | 78 => ⟨S2048x128, .f32⟩
  | 79 => ⟨S2048x128, .f32⟩
  | 80 => ⟨S2048x128, .f32⟩
  | 81 => ⟨S4x128, .f32⟩
  | 82 => ⟨S2044x128, .f32⟩
  | 83 => ⟨S_, .f32⟩
  | 84 => ⟨S2048x128, .f32⟩
  | 85 => ⟨S2048x128, .f32⟩
  | 86 => ⟨S_, .f32⟩
  | 87 => ⟨S_, .f32⟩
  | 88 => ⟨S2048x128, .f32⟩
  | 89 => ⟨S2048x128, .f32⟩
  | 90 => ⟨S_, .f32⟩
  | 91 => ⟨S2048x512, .f32⟩
  | 92 => ⟨S2048x512, .f32⟩
  | 93 => ⟨S2048x128, .f32⟩
  | 94 => ⟨S2048x128, .f32⟩
  | 95 => ⟨S2048x128, .f32⟩
  | 96 => ⟨S2048x128, .f32⟩
  | 97 => ⟨S2x128, .f32⟩
  | 98 => ⟨S2046x128, .f32⟩
  | 99 => ⟨S_, .f32⟩
  | 100 => ⟨S2048x128, .f32⟩
  | 101 => ⟨S2048x128, .f32⟩
  | 102 => ⟨S_, .f32⟩
  | 103 => ⟨S_, .f32⟩
  | 104 => ⟨S2048x128, .f32⟩
  | 105 => ⟨S2048x128, .f32⟩
  | 106 => ⟨S_, .f32⟩
  | 107 => ⟨S2048x512, .f32⟩
  | 108 => ⟨S2048x512, .f32⟩
  | 109 => ⟨S2048x512, .f32⟩
  | 110 => ⟨S2048x512, .f32⟩
  | 111 => ⟨S2048x512, .f32⟩
  | 112 => ⟨S2048x512, .f32⟩
  | 113 => ⟨S2048x512, .f32⟩
  | 114 => ⟨S2048x512, .f32⟩
  | 115 => ⟨S2048x512, .f32⟩
  | 116 => ⟨S2048x512, .f32⟩
  | 117 => ⟨S2048x512, .f32⟩
  | 118 => ⟨S2048x512, .f32⟩
  | 119 => ⟨S2048x512, .f32⟩
  | 120 => ⟨S_, .f32⟩
  | 121 => ⟨S512, .f32⟩
  | 122 => ⟨S1x512, .f32⟩
  | 123 => ⟨S_, .f32⟩
  | 124 => ⟨S512, .f32⟩
  | 125 => ⟨S1x512, .f32⟩
  | 126 => ⟨S_, .f32⟩
  | 127 => ⟨S3x512, .f32⟩
  | _ => ⟨S2048x1024, .f32⟩

abbrev hbmTy0_3 (i : Nat) : BufTy := match i % 128 with
  | 0 => ⟨S2048x512, .f32⟩
  | 1 => ⟨S2048x512, .f32⟩
  | 2 => ⟨S2048x512, .f32⟩
  | 3 => ⟨S_, .f32⟩
  | 4 => ⟨S512, .f32⟩
  | 5 => ⟨S1x512, .f32⟩
  | 6 => ⟨S_, .f32⟩
  | 7 => ⟨S512, .f32⟩
  | 8 => ⟨S1x512, .f32⟩
  | 9 => ⟨S2047x512, .f32⟩
  | 10 => ⟨S_, .f32⟩
  | 11 => ⟨S2048x512, .f32⟩
  | 12 => ⟨S2048x512, .f32⟩
  | 13 => ⟨S1x512, .f32⟩
  | 14 => ⟨S_, .f32⟩
  | 15 => ⟨S3x512, .f32⟩
  | 16 => ⟨S3x512, .f32⟩
  | 17 => ⟨S2048x512, .f32⟩
  | 18 => ⟨S2048x512, .f32⟩
  | 19 => ⟨S2048x512, .f32⟩
  | 20 => ⟨S_, .f32⟩
  | 21 => ⟨S512, .f32⟩
  | 22 => ⟨S1x512, .f32⟩
  | 23 => ⟨S_, .f32⟩
  | 24 => ⟨S512, .f32⟩
  | 25 => ⟨S2x512, .f32⟩
  | 26 => ⟨S2046x512, .f32⟩
  | 27 => ⟨S_, .f32⟩
  | 28 => ⟨S2048x512, .f32⟩
  | 29 => ⟨S2048x512, .f32⟩
  | 30 => ⟨S1x512, .f32⟩
  | 31 => ⟨S_, .f32⟩
  | 32 => ⟨S3x512, .f32⟩
  | 33 => ⟨S3x512, .f32⟩
  | 34 => ⟨S2048x512, .f32⟩
  | 35 => ⟨S2048x512, .f32⟩
  | 36 => ⟨S_, .f32⟩
  | 37 => ⟨S2048x3072, .f32⟩
  | 38 => ⟨S_, .f32⟩
  | 39 => ⟨S2048x3072, .f32⟩
  | 40 => ⟨S2048x3072, .f32⟩
  | 41 => ⟨S_, .f32⟩
  | 42 => ⟨S2048x3072, .f32⟩
  | 43 => ⟨S2048x3072, .f32⟩
  | 44 => ⟨S_, .f32⟩
  | 45 => ⟨S2048x3072, .f32⟩
  | 46 => ⟨S2048x3072, .f32⟩
  | 47 => ⟨S_, .f32⟩
  | 48 => ⟨S2048x3072, .f32⟩
  | 49 => ⟨S2048x3072, .f32⟩
  | 50 => ⟨S_, .f32⟩
  | 51 => ⟨S2048x3072, .f32⟩
  | 52 => ⟨S2048x3072, .f32⟩
  | 53 => ⟨S2048x1024, .f32⟩
  | 54 => ⟨S_, .f32⟩
  | 55 => ⟨S1024, .f32⟩
  | 56 => ⟨S1x1024, .f32⟩
  | 57 => ⟨S_, .f32⟩
  | 58 => ⟨S1024, .f32⟩
  | 59 => ⟨S2048x1024, .f32⟩
  | 60 => ⟨S_, .f32⟩
  | 61 => ⟨S1024, .f32⟩
  | 62 => ⟨S1x1024, .f32⟩
  | 63 => ⟨S2048x1024, .f32⟩
  | 64 => ⟨S2048x1024, .f32⟩
  | 65 => ⟨S_, .f32⟩
  | 66 => ⟨S1024, .f32⟩
  | 67 => ⟨S2048x1024, .f32⟩
  | 68 => ⟨S_, .f32⟩
  | 69 => ⟨S1024, .f32⟩
  | 70 => ⟨S1x1024, .f32⟩
  | 71 => ⟨S2048x1024, .f32⟩
  | 72 => ⟨S2048x1024, .f32⟩
  | 73 => ⟨S_, .f32⟩
  | 74 => ⟨S1024, .f32⟩
  | 75 => ⟨S2048x1024, .f32⟩
  | 76 => ⟨S_, .f32⟩
  | 77 => ⟨S2048, .f32⟩
  | 78 => ⟨S2048x1, .f32⟩
  | 79 => ⟨S2048x1024, .f32⟩
  | 80 => ⟨S2048x1024, .f32⟩
  | 81 => ⟨S2048x1024, .f32⟩
  | 82 => ⟨S2048x1, .f32⟩
  | 83 => ⟨S_, .f32⟩
  | 84 => ⟨S2048x1, .f32⟩
  | 85 => ⟨S2048x1, .f32⟩
  | 86 => ⟨S_, .f32⟩
  | 87 => ⟨S2048, .f32⟩
  | 88 => ⟨S2048x1024, .f32⟩
  | 89 => ⟨S2048x1024, .f32⟩
  | 90 => ⟨S2048x1024, .f32⟩
  | 91 => ⟨S2048x1024, .f32⟩
  | 92 => ⟨S2048x1024, .f32⟩
  | 93 => ⟨S3072, .f32⟩
  | 94 => ⟨S1x512, .f32⟩
  | 95 => ⟨S_, .f32⟩
  | 96 => ⟨S4x512, .f32⟩
  | 97 => ⟨S8x512, .f32⟩
  | 98 => ⟨S3x1024, .f32⟩
  | 99 => ⟨S1x1024, .f32⟩
  | 100 => ⟨S1x1024, .f32⟩
  | 101 => ⟨S_, .f32⟩
  | 102 => ⟨S3x1024, .f32⟩
  | 103 => ⟨S8x1024, .f32⟩
  | 104 => ⟨S2048x3072, .bf16⟩
  | 105 => ⟨S2048x1024, .bf16⟩
  | 106 => ⟨S4x128x128, .bf16⟩
  | _ => ⟨S2048x1024, .f32⟩

abbrev hbmTy (i : Nat) : BufTy := match i / 128 with
  | 0 => hbmTy0_0 i
  | 1 => hbmTy0_1 i
  | 2 => hbmTy0_2 i
  | 3 => hbmTy0_3 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_call0_v0 : Ref sig .tc := ⟨.hbm, 97, rfl⟩
abbrev main_call0_v1 : Ref sig .tc := ⟨.hbm, 98, rfl⟩
abbrev main_call0_cst : Ref sig .tc := ⟨.hbm, 99, rfl⟩
abbrev main_call0_v2 : Ref sig .tc := ⟨.hbm, 100, rfl⟩
abbrev main_call0_v3 : Ref sig .tc := ⟨.hbm, 101, rfl⟩
abbrev main_call0_cst_0 : Ref sig .tc := ⟨.hbm, 102, rfl⟩
abbrev main_call0_v4 : Ref sig .tc := ⟨.hbm, 103, rfl⟩
abbrev main_v76_2 : Ref sig .tc := ⟨.hbm, 104, rfl⟩
abbrev main_call0_cst_1 : Ref sig .tc := ⟨.hbm, 105, rfl⟩
abbrev main_call0_v6 : Ref sig .tc := ⟨.hbm, 106, rfl⟩
abbrev main_call0_v7 : Ref sig .tc := ⟨.hbm, 107, rfl⟩
abbrev main_v76_1 : Ref sig .tc := ⟨.hbm, 108, rfl⟩
abbrev main_v76_0 : Ref sig .tc := ⟨.hbm, 109, rfl⟩
abbrev main_v77 : Ref sig .tc := ⟨.hbm, 110, rfl⟩
abbrev main_v78 : Ref sig .tc := ⟨.hbm, 111, rfl⟩
abbrev main_c : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call1_call0_cst : Ref sig .tc := ⟨.hbm, 118, rfl⟩
abbrev main_call1_call0_v0 : Ref sig .tc := ⟨.hbm, 119, rfl⟩
abbrev main_v84 : Ref sig .tc := ⟨.hbm, 120, rfl⟩
abbrev main_cst_10 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_11 : Ref sig .tc := ⟨.hbm, 125, rfl⟩
abbrev main_v88 : Ref sig .tc := ⟨.hbm, 126, rfl⟩
abbrev main_v89 : Ref sig .tc := ⟨.hbm, 127, rfl⟩
abbrev main_cst_12 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_call2_call0_cst : Ref sig .tc := ⟨.hbm, 135, rfl⟩
abbrev main_call2_call0_v0 : Ref sig .tc := ⟨.hbm, 136, rfl⟩
abbrev main_v96 : Ref sig .tc := ⟨.hbm, 137, rfl⟩
abbrev main_cst_13 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_14 : Ref sig .tc := ⟨.hbm, 142, rfl⟩
abbrev main_v100 : Ref sig .tc := ⟨.hbm, 143, rfl⟩
abbrev main_v101 : Ref sig .tc := ⟨.hbm, 144, rfl⟩
abbrev main_cst_15 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_call3_call0_cst : Ref sig .tc := ⟨.hbm, 152, rfl⟩
abbrev main_call3_call0_v0 : Ref sig .tc := ⟨.hbm, 153, rfl⟩
abbrev main_v108 : Ref sig .tc := ⟨.hbm, 154, rfl⟩
abbrev main_cst_16 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_17 : Ref sig .tc := ⟨.hbm, 159, rfl⟩
abbrev main_v112 : Ref sig .tc := ⟨.hbm, 160, rfl⟩
abbrev main_v113 : Ref sig .tc := ⟨.hbm, 161, rfl⟩
abbrev main_cst_18 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_call4_call0_cst : Ref sig .tc := ⟨.hbm, 169, rfl⟩
abbrev main_call4_call0_v0 : Ref sig .tc := ⟨.hbm, 170, rfl⟩
abbrev main_v120 : Ref sig .tc := ⟨.hbm, 171, rfl⟩
abbrev main_cst_19 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_20 : Ref sig .tc := ⟨.hbm, 176, rfl⟩
abbrev main_v124 : Ref sig .tc := ⟨.hbm, 177, rfl⟩
abbrev main_v125 : Ref sig .tc := ⟨.hbm, 178, rfl⟩
abbrev main_cst_21 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_call5_v0 : Ref sig .tc := ⟨.hbm, 196, rfl⟩
abbrev main_call5_v1 : Ref sig .tc := ⟨.hbm, 197, rfl⟩
abbrev main_call5_cst : Ref sig .tc := ⟨.hbm, 198, rfl⟩
abbrev main_call5_v2 : Ref sig .tc := ⟨.hbm, 199, rfl⟩
abbrev main_call5_v3 : Ref sig .tc := ⟨.hbm, 200, rfl⟩
abbrev main_call5_cst_0 : Ref sig .tc := ⟨.hbm, 201, rfl⟩
abbrev main_call5_v4 : Ref sig .tc := ⟨.hbm, 202, rfl⟩
abbrev main_v142_2 : Ref sig .tc := ⟨.hbm, 203, rfl⟩
abbrev main_call5_cst_1 : Ref sig .tc := ⟨.hbm, 204, rfl⟩
abbrev main_call5_v6 : Ref sig .tc := ⟨.hbm, 205, rfl⟩
abbrev main_call5_v7 : Ref sig .tc := ⟨.hbm, 206, rfl⟩
abbrev main_v142_1 : Ref sig .tc := ⟨.hbm, 207, rfl⟩
abbrev main_v142_0 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_cst_22 : Ref sig .tc := ⟨.hbm, 214, rfl⟩
abbrev main_v148 : Ref sig .tc := ⟨.hbm, 215, rfl⟩
abbrev main_v149 : Ref sig .tc := ⟨.hbm, 216, rfl⟩
abbrev main_cst_23 : Ref sig .tc := ⟨.hbm, 217, rfl⟩
abbrev main_v150 : Ref sig .tc := ⟨.hbm, 218, rfl⟩
abbrev main_v151 : Ref sig .tc := ⟨.hbm, 219, rfl⟩
abbrev main_cst_24 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_cst_25 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_cst_26 : Ref sig .tc := ⟨.hbm, 241, rfl⟩
abbrev main_v171 : Ref sig .tc := ⟨.hbm, 242, rfl⟩
abbrev main_v172 : Ref sig .tc := ⟨.hbm, 243, rfl⟩
abbrev main_cst_27 : Ref sig .tc := ⟨.hbm, 244, rfl⟩
abbrev main_v173 : Ref sig .tc := ⟨.hbm, 245, rfl⟩
abbrev main_v174 : Ref sig .tc := ⟨.hbm, 246, rfl⟩
abbrev main_cst_28 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_cst_29 : Ref sig .tc := ⟨.hbm, 252, rfl⟩
abbrev main_v179 : Ref sig .tc := ⟨.hbm, 253, rfl⟩
abbrev main_v180 : Ref sig .tc := ⟨.hbm, 254, rfl⟩
abbrev main_cst_30 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_cst_31 : Ref sig .tc := ⟨.hbm, 261, rfl⟩
abbrev main_v186 : Ref sig .tc := ⟨.hbm, 262, rfl⟩
abbrev main_v187 : Ref sig .tc := ⟨.hbm, 263, rfl⟩
abbrev main_cst_32 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_call6_v0 : Ref sig .tc := ⟨.hbm, 276, rfl⟩
abbrev main_call6_v1 : Ref sig .tc := ⟨.hbm, 277, rfl⟩
abbrev main_call6_v2 : Ref sig .tc := ⟨.hbm, 278, rfl⟩
abbrev main_v199 : Ref sig .tc := ⟨.hbm, 279, rfl⟩
abbrev main_v200 : Ref sig .tc := ⟨.hbm, 280, rfl⟩
abbrev main_cst_33 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_cst_34 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_cst_35 : Ref sig .tc := ⟨.hbm, 308, rfl⟩
abbrev main_v226 : Ref sig .tc := ⟨.hbm, 309, rfl⟩
abbrev main_v227 : Ref sig .tc := ⟨.hbm, 310, rfl⟩
abbrev main_call7_call0_cst : Ref sig .tc := ⟨.hbm, 311, rfl⟩
abbrev main_call7_call0_v0 : Ref sig .tc := ⟨.hbm, 312, rfl⟩
abbrev main_v228 : Ref sig .tc := ⟨.hbm, 313, rfl⟩
abbrev main_v229 : Ref sig .tc := ⟨.hbm, 314, rfl⟩
abbrev main_cst_36 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_cst_37 : Ref sig .tc := ⟨.hbm, 323, rfl⟩
abbrev main_v237 : Ref sig .tc := ⟨.hbm, 324, rfl⟩
abbrev main_v238 : Ref sig .tc := ⟨.hbm, 325, rfl⟩
abbrev main_call8_call0_cst : Ref sig .tc := ⟨.hbm, 326, rfl⟩
abbrev main_call8_call0_v0 : Ref sig .tc := ⟨.hbm, 327, rfl⟩
abbrev main_v239 : Ref sig .tc := ⟨.hbm, 328, rfl⟩
abbrev main_v240 : Ref sig .tc := ⟨.hbm, 329, rfl⟩
abbrev main_cst_38 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_v248 : Ref sig .tc := ⟨.hbm, 338, rfl⟩
abbrev main_cst_39 : Ref sig .tc := ⟨.hbm, 339, rfl⟩
abbrev main_v249 : Ref sig .tc := ⟨.hbm, 340, rfl⟩
abbrev main_v250 : Ref sig .tc := ⟨.hbm, 341, rfl⟩
abbrev main_call9_call0_cst : Ref sig .tc := ⟨.hbm, 342, rfl⟩
abbrev main_call9_call0_v0 : Ref sig .tc := ⟨.hbm, 343, rfl⟩
abbrev main_v251 : Ref sig .tc := ⟨.hbm, 344, rfl⟩
abbrev main_v252 : Ref sig .tc := ⟨.hbm, 345, rfl⟩
abbrev main_cst_40 : Ref sig .tc := ⟨.hbm, 346, rfl⟩
abbrev main_v253 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_v260 : Ref sig .tc := ⟨.hbm, 354, rfl⟩
abbrev main_cst_41 : Ref sig .tc := ⟨.hbm, 355, rfl⟩
abbrev main_v261 : Ref sig .tc := ⟨.hbm, 356, rfl⟩
abbrev main_v262 : Ref sig .tc := ⟨.hbm, 357, rfl⟩
abbrev main_call10_call0_cst : Ref sig .tc := ⟨.hbm, 358, rfl⟩
abbrev main_call10_call0_v0 : Ref sig .tc := ⟨.hbm, 359, rfl⟩
abbrev main_v263 : Ref sig .tc := ⟨.hbm, 360, rfl⟩
abbrev main_v264 : Ref sig .tc := ⟨.hbm, 361, rfl⟩
abbrev main_cst_42 : Ref sig .tc := ⟨.hbm, 362, rfl⟩
abbrev main_v265 : Ref sig .tc := ⟨.hbm, 363, rfl⟩
abbrev main_v266 : Ref sig .tc := ⟨.hbm, 364, rfl⟩
abbrev main_v267 : Ref sig .tc := ⟨.hbm, 365, rfl⟩
abbrev main_v268 : Ref sig .tc := ⟨.hbm, 366, rfl⟩
abbrev main_call11_v0 : Ref sig .tc := ⟨.hbm, 367, rfl⟩
abbrev main_call11_v1 : Ref sig .tc := ⟨.hbm, 368, rfl⟩
abbrev main_call11_v2 : Ref sig .tc := ⟨.hbm, 369, rfl⟩
abbrev main_v269 : Ref sig .tc := ⟨.hbm, 370, rfl⟩
abbrev main_v270 : Ref sig .tc := ⟨.hbm, 371, rfl⟩
abbrev main_v271 : Ref sig .tc := ⟨.hbm, 372, rfl⟩
abbrev main_v272 : Ref sig .tc := ⟨.hbm, 373, rfl⟩
abbrev main_v273 : Ref sig .tc := ⟨.hbm, 374, rfl⟩
abbrev main_v274 : Ref sig .tc := ⟨.hbm, 375, rfl⟩
abbrev main_cst_43 : Ref sig .tc := ⟨.hbm, 376, rfl⟩
abbrev main_v275 : Ref sig .tc := ⟨.hbm, 377, rfl⟩
abbrev main_v276 : Ref sig .tc := ⟨.hbm, 378, rfl⟩
abbrev main_cst_44 : Ref sig .tc := ⟨.hbm, 379, rfl⟩
abbrev main_v277 : Ref sig .tc := ⟨.hbm, 380, rfl⟩
abbrev main_v278 : Ref sig .tc := ⟨.hbm, 381, rfl⟩
abbrev main_cst_45 : Ref sig .tc := ⟨.hbm, 382, rfl⟩
abbrev main_v279 : Ref sig .tc := ⟨.hbm, 383, rfl⟩
abbrev main_v280 : Ref sig .tc := ⟨.hbm, 384, rfl⟩
abbrev main_v281 : Ref sig .tc := ⟨.hbm, 385, rfl⟩
abbrev main_v282 : Ref sig .tc := ⟨.hbm, 386, rfl⟩
abbrev main_cst_46 : Ref sig .tc := ⟨.hbm, 387, rfl⟩
abbrev main_v283 : Ref sig .tc := ⟨.hbm, 388, rfl⟩
abbrev main_v284 : Ref sig .tc := ⟨.hbm, 389, rfl⟩
abbrev main_cst_47 : Ref sig .tc := ⟨.hbm, 390, rfl⟩
abbrev main_v285 : Ref sig .tc := ⟨.hbm, 391, rfl⟩
abbrev main_v286 : Ref sig .tc := ⟨.hbm, 392, rfl⟩
abbrev main_v287 : Ref sig .tc := ⟨.hbm, 393, rfl⟩
abbrev main_cst_48 : Ref sig .tc := ⟨.hbm, 394, rfl⟩
abbrev main_v288 : Ref sig .tc := ⟨.hbm, 395, rfl⟩
abbrev main_v289 : Ref sig .tc := ⟨.hbm, 396, rfl⟩
abbrev main_v290 : Ref sig .tc := ⟨.hbm, 397, rfl⟩
abbrev main_cst_49 : Ref sig .tc := ⟨.hbm, 398, rfl⟩
abbrev main_v291 : Ref sig .tc := ⟨.hbm, 399, rfl⟩
abbrev main_v292 : Ref sig .tc := ⟨.hbm, 400, rfl⟩
abbrev main_v293 : Ref sig .tc := ⟨.hbm, 401, rfl⟩
abbrev main_v294 : Ref sig .tc := ⟨.hbm, 402, rfl⟩
abbrev main_v295 : Ref sig .tc := ⟨.hbm, 403, rfl⟩
abbrev main_cst_50 : Ref sig .tc := ⟨.hbm, 404, rfl⟩
abbrev main_v296 : Ref sig .tc := ⟨.hbm, 405, rfl⟩
abbrev main_v297 : Ref sig .tc := ⟨.hbm, 406, rfl⟩
abbrev main_cst_51 : Ref sig .tc := ⟨.hbm, 407, rfl⟩
abbrev main_v298 : Ref sig .tc := ⟨.hbm, 408, rfl⟩
abbrev main_v299 : Ref sig .tc := ⟨.hbm, 409, rfl⟩
abbrev main_v300 : Ref sig .tc := ⟨.hbm, 410, rfl⟩
abbrev main_cst_52 : Ref sig .tc := ⟨.hbm, 411, rfl⟩
abbrev main_v301 : Ref sig .tc := ⟨.hbm, 412, rfl⟩
abbrev main_v302 : Ref sig .tc := ⟨.hbm, 413, rfl⟩
abbrev main_v303 : Ref sig .tc := ⟨.hbm, 414, rfl⟩
abbrev main_cst_53 : Ref sig .tc := ⟨.hbm, 415, rfl⟩
abbrev main_v304 : Ref sig .tc := ⟨.hbm, 416, rfl⟩
abbrev main_v305 : Ref sig .tc := ⟨.hbm, 417, rfl⟩
abbrev main_v306 : Ref sig .tc := ⟨.hbm, 418, rfl⟩
abbrev main_v307 : Ref sig .tc := ⟨.hbm, 419, rfl⟩
abbrev main_cst_54 : Ref sig .tc := ⟨.hbm, 420, rfl⟩
abbrev main_v308 : Ref sig .tc := ⟨.hbm, 421, rfl⟩
abbrev main_cst_55 : Ref sig .tc := ⟨.hbm, 422, rfl⟩
abbrev main_v309 : Ref sig .tc := ⟨.hbm, 423, rfl⟩
abbrev main_v310 : Ref sig .tc := ⟨.hbm, 424, rfl⟩
abbrev main_cst_56 : Ref sig .tc := ⟨.hbm, 425, rfl⟩
abbrev main_v311 : Ref sig .tc := ⟨.hbm, 426, rfl⟩
abbrev main_v312 : Ref sig .tc := ⟨.hbm, 427, rfl⟩
abbrev main_cst_57 : Ref sig .tc := ⟨.hbm, 428, rfl⟩
abbrev main_v313 : Ref sig .tc := ⟨.hbm, 429, rfl⟩
abbrev main_v314 : Ref sig .tc := ⟨.hbm, 430, rfl⟩
abbrev main_cst_58 : Ref sig .tc := ⟨.hbm, 431, rfl⟩
abbrev main_v315 : Ref sig .tc := ⟨.hbm, 432, rfl⟩
abbrev main_v316 : Ref sig .tc := ⟨.hbm, 433, rfl⟩
abbrev main_cst_59 : Ref sig .tc := ⟨.hbm, 434, rfl⟩
abbrev main_v317 : Ref sig .tc := ⟨.hbm, 435, rfl⟩
abbrev main_v318 : Ref sig .tc := ⟨.hbm, 436, rfl⟩
abbrev main_v319 : Ref sig .tc := ⟨.hbm, 437, rfl⟩
abbrev main_cst_60 : Ref sig .tc := ⟨.hbm, 438, rfl⟩
abbrev main_v320 : Ref sig .tc := ⟨.hbm, 439, rfl⟩
abbrev main_v321 : Ref sig .tc := ⟨.hbm, 440, rfl⟩
abbrev main_cst_61 : Ref sig .tc := ⟨.hbm, 441, rfl⟩
abbrev main_v322 : Ref sig .tc := ⟨.hbm, 442, rfl⟩
abbrev main_v323 : Ref sig .tc := ⟨.hbm, 443, rfl⟩
abbrev main_cst_62 : Ref sig .tc := ⟨.hbm, 444, rfl⟩
abbrev main_v324 : Ref sig .tc := ⟨.hbm, 445, rfl⟩
abbrev main_v325 : Ref sig .tc := ⟨.hbm, 446, rfl⟩
abbrev main_v326 : Ref sig .tc := ⟨.hbm, 447, rfl⟩
abbrev main_v327 : Ref sig .tc := ⟨.hbm, 448, rfl⟩
abbrev main_cst_63 : Ref sig .tc := ⟨.hbm, 449, rfl⟩
abbrev main_v328 : Ref sig .tc := ⟨.hbm, 450, rfl⟩
abbrev main_v329 : Ref sig .tc := ⟨.hbm, 451, rfl⟩
abbrev main_cst_64 : Ref sig .tc := ⟨.hbm, 452, rfl⟩
abbrev main_v330 : Ref sig .tc := ⟨.hbm, 453, rfl⟩
abbrev main_v331 : Ref sig .tc := ⟨.hbm, 454, rfl⟩
abbrev main_v332 : Ref sig .tc := ⟨.hbm, 455, rfl⟩
abbrev main_v333 : Ref sig .tc := ⟨.hbm, 456, rfl⟩
abbrev main_cst_65 : Ref sig .tc := ⟨.hbm, 457, rfl⟩
abbrev main_v334 : Ref sig .tc := ⟨.hbm, 458, rfl⟩
abbrev main_v335 : Ref sig .tc := ⟨.hbm, 459, rfl⟩
abbrev main_cst_66 : Ref sig .tc := ⟨.hbm, 460, rfl⟩
abbrev main_v336 : Ref sig .tc := ⟨.hbm, 461, rfl⟩
abbrev main_v337 : Ref sig .tc := ⟨.hbm, 462, rfl⟩
abbrev main_v338 : Ref sig .tc := ⟨.hbm, 463, rfl⟩
abbrev main_v339 : Ref sig .tc := ⟨.hbm, 464, rfl⟩
abbrev main_v340 : Ref sig .tc := ⟨.hbm, 465, rfl⟩
abbrev main_v341 : Ref sig .tc := ⟨.hbm, 466, rfl⟩
abbrev main_cst_67 : Ref sig .tc := ⟨.hbm, 467, rfl⟩
abbrev main_v342 : Ref sig .tc := ⟨.hbm, 468, rfl⟩
abbrev main_v343 : Ref sig .tc := ⟨.hbm, 469, rfl⟩
abbrev main_cst_68 : Ref sig .tc := ⟨.hbm, 470, rfl⟩
abbrev main_v344 : Ref sig .tc := ⟨.hbm, 471, rfl⟩
abbrev main_v345 : Ref sig .tc := ⟨.hbm, 472, rfl⟩
abbrev main_v346 : Ref sig .tc := ⟨.hbm, 473, rfl⟩
abbrev main_v347 : Ref sig .tc := ⟨.hbm, 474, rfl⟩
abbrev main_v348 : Ref sig .tc := ⟨.hbm, 475, rfl⟩
abbrev main_v349 : Ref sig .tc := ⟨.hbm, 476, rfl⟩
abbrev main_v350 : Ref sig .tc := ⟨.hbm, 477, rfl⟩
abbrev main_v351 : Ref sig .tc := ⟨.hbm, 478, rfl⟩
abbrev main_cst_69 : Ref sig .tc := ⟨.hbm, 479, rfl⟩
abbrev main_v352 : Ref sig .tc := ⟨.hbm, 480, rfl⟩
abbrev main_v353 : Ref sig .tc := ⟨.hbm, 481, rfl⟩
abbrev main_v354 : Ref sig .tc := ⟨.hbm, 482, rfl⟩
abbrev main_v355 : Ref sig .tc := ⟨.hbm, 483, rfl⟩
abbrev main_v356 : Ref sig .tc := ⟨.hbm, 484, rfl⟩
abbrev main_cst_70 : Ref sig .tc := ⟨.hbm, 485, rfl⟩
abbrev main_v357 : Ref sig .tc := ⟨.hbm, 486, rfl⟩
abbrev main_v358 : Ref sig .tc := ⟨.hbm, 487, rfl⟩
abbrev main_v359 : Ref sig .tc := ⟨.hbm, 488, rfl⟩
abbrev main_v360 : Ref sig .tc := ⟨.hbm, 489, rfl⟩
abbrev main_v361 : Ref sig .tc := ⟨.hbm, 490, rfl⟩

abbrev nD : Nat := 1
abbrev τ : Topo := Topo.v7x

variable {F : FTy → Type} [FloatOps F]
-- ==== Kernel1.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S4x1x512 : Shape := ⟨3, ![4, 1, 512]⟩
abbrev S_ : Shape := ⟨0, ![]⟩
abbrev S4x4x512 : Shape := ⟨3, ![4, 4, 512]⟩
abbrev S4x8x512 : Shape := ⟨3, ![4, 8, 512]⟩
abbrev S4x3x1024 : Shape := ⟨3, ![4, 3, 1024]⟩
abbrev S4x1x1024 : Shape := ⟨3, ![4, 1, 1024]⟩
abbrev S4x8x1024 : Shape := ⟨3, ![4, 8, 1024]⟩
abbrev S1x8x1024 : Shape := ⟨3, ![1, 8, 1024]⟩
abbrev S8x1024 : Shape := ⟨2, ![8, 1024]⟩
abbrev S1x8x512 : Shape := ⟨3, ![1, 8, 512]⟩
abbrev S8x512 : Shape := ⟨2, ![8, 512]⟩
abbrev S1x4x128x128 : Shape := ⟨4, ![1, 4, 128, 128]⟩
abbrev S4x128x128 : Shape := ⟨3, ![4, 128, 128]⟩
abbrev S1x1024 : Shape := ⟨2, ![1, 1024]⟩
abbrev S1x512 : Shape := ⟨2, ![1, 512]⟩
abbrev S2048 : Shape := ⟨1, ![2048]⟩
abbrev S2048x1 : Shape := ⟨2, ![2048, 1]⟩
abbrev S2048x3072 : Shape := ⟨2, ![2048, 3072]⟩
abbrev S2048x512 : Shape := ⟨2, ![2048, 512]⟩
abbrev S2x512 : Shape := ⟨2, ![2, 512]⟩
abbrev S2046x512 : Shape := ⟨2, ![2046, 512]⟩
abbrev S2047x512 : Shape := ⟨2, ![2047, 512]⟩
abbrev S2048x1536 : Shape := ⟨2, ![2048, 1536]⟩
abbrev S2048x128 : Shape := ⟨2, ![2048, 128]⟩
abbrev S1x128 : Shape := ⟨2, ![1, 128]⟩
abbrev S2047x128 : Shape := ⟨2, ![2047, 128]⟩
abbrev S1x128x128 : Shape := ⟨3, ![1, 128, 128]⟩
abbrev S128x128 : Shape := ⟨2, ![128, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S2048x2048 : Shape := ⟨2, ![2048, 2048]⟩
abbrev S256x1024 : Shape := ⟨2, ![256, 1024]⟩
abbrev S16x1024 : Shape := ⟨2, ![16, 1024]⟩
abbrev S256x1536 : Shape := ⟨2, ![256, 1536]⟩
abbrev S256x2048 : Shape := ⟨2, ![256, 2048]⟩
abbrev S256x3072 : Shape := ⟨2, ![256, 3072]⟩
abbrev S16x512 : Shape := ⟨2, ![16, 512]⟩
abbrev S1x1x1024 : Shape := ⟨3, ![1, 1, 1024]⟩
abbrev S1x1x512 : Shape := ⟨3, ![1, 1, 512]⟩
abbrev S256 : Shape := ⟨1, ![256]⟩
abbrev S256x1 : Shape := ⟨2, ![256, 1]⟩
abbrev S1024 : Shape := ⟨1, ![1024]⟩
abbrev S256x512 : Shape := ⟨2, ![256, 512]⟩
abbrev S264x512 : Shape := ⟨2, ![264, 512]⟩
abbrev S512 : Shape := ⟨1, ![512]⟩
abbrev S256x128 : Shape := ⟨2, ![256, 128]⟩
abbrev S1x1x128x128 : Shape := ⟨4, ![1, 1, 128, 128]⟩
abbrev S16x128 : Shape := ⟨2, ![16, 128]⟩
abbrev S272x128 : Shape := ⟨2, ![272, 128]⟩

abbrev nBuf : Space → Nat
  | .hbm => 257
  | .vmem => 31
  | .smem => 0
  | _ => 0

abbrev hbmTy0_0 (i : Nat) : BufTy := match i % 128 with
  | 0 => ⟨S2048x1024, .f32⟩
  | 1 => ⟨S4x3072, .f32⟩
  | 2 => ⟨S4x1024, .f32⟩
  | 3 => ⟨S1024x3072, .f32⟩
  | 4 => ⟨S4x3x512, .f32⟩
  | 5 => ⟨S4x4x128x128, .f32⟩
  | 6 => ⟨S4x512, .f32⟩
  | 7 => ⟨S1024x1024, .f32⟩
  | 8 => ⟨S4x1024, .f32⟩
  | 9 => ⟨S2048x1024, .f32⟩
  | 10 => ⟨S4x1x512, .f32⟩
  | 11 => ⟨S_, .f32⟩
  | 12 => ⟨S4x4x512, .f32⟩
  | 13 => ⟨S4x8x512, .f32⟩
  | 14 => ⟨S4x4x128x128, .bf16⟩
  | 15 => ⟨S1024x3072, .bf16⟩
  | 16 => ⟨S1024x1024, .bf16⟩
  | 17 => ⟨S_, .f32⟩
  | 18 => ⟨S4x3x1024, .f32⟩
  | 19 => ⟨S4x3x1024, .f32⟩
  | 20 => ⟨S4x1x1024, .f32⟩
  | 21 => ⟨S4x1x1024, .f32⟩
  | 22 => ⟨S4x8x1024, .f32⟩
  | 23 => ⟨S1x8x1024, .f32⟩
  | 24 => ⟨S8x1024, .f32⟩
  | 25 => ⟨S1x8x512, .f32⟩
  | 26 => ⟨S8x512, .f32⟩
  | 27 => ⟨S1x4x128x128, .bf16⟩
  | 28 => ⟨S4x128x128, .bf16⟩
  | 29 => ⟨S1x1024, .f32⟩
  | 30 => ⟨S1x1024, .f32⟩
  | 31 => ⟨S1x1024, .f32⟩
  | 32 => ⟨S1x512, .f32⟩
  | 33 => ⟨S1x512, .f32⟩
  | 34 => ⟨S1x512, .f32⟩
  | 35 => ⟨S1x512, .f32⟩
  | 36 => ⟨S2048x1024, .f32⟩
  | 37 => ⟨S_, .f32⟩
  | 38 => ⟨S2048, .f32⟩
  | 39 => ⟨S2048x1, .f32⟩
  | 40 => ⟨S_, .f32⟩
  | 41 => ⟨S2048x1, .f32⟩
  | 42 => ⟨S2048x1, .f32⟩
  | 43 => ⟨S_, .f32⟩
  | 44 => ⟨S2048x1, .f32⟩
  | 45 => ⟨S2048x1, .f32⟩
  | 46 => ⟨S2048x1, .f32⟩
  | 47 => ⟨S2048x1024, .f32⟩
  | 48 => ⟨S2048x1024, .f32⟩
  | 49 => ⟨S2048x1024, .f32⟩
  | 50 => ⟨S2048x1024, .f32⟩
  | 51 => ⟨S_, .f32⟩
  | 52 => ⟨S1x1024, .f32⟩
  | 53 => ⟨S1x1024, .f32⟩
  | 54 => ⟨S2048x1024, .f32⟩
  | 55 => ⟨S2048x1024, .f32⟩
  | 56 => ⟨S2048x1024, .f32⟩
  | 57 => ⟨S2048x1024, .f32⟩
  | 58 => ⟨S2048x1024, .bf16⟩
  | 59 => ⟨S2048x3072, .f32⟩
  | 60 => ⟨S2048x512, .f32⟩
  | 61 => ⟨S2048x512, .f32⟩
  | 62 => ⟨S2048x512, .f32⟩
  | 63 => ⟨S2048x512, .f32⟩
  | 64 => ⟨S2048x512, .f32⟩
  | 65 => ⟨S2048x512, .f32⟩
  | 66 => ⟨S2048x1024, .f32⟩
  | 67 => ⟨S2048x1024, .bf16⟩
  | 68 => ⟨S2048x512, .f32⟩
  | 69 => ⟨S_, .f32⟩
  | 70 => ⟨S2x512, .f32⟩
  | 71 => ⟨S2046x512, .f32⟩
  | 72 => ⟨S2048x512, .f32⟩
  | 73 => ⟨S2048x512, .f32⟩
  | 74 => ⟨S2048x512, .f32⟩
  | 75 => ⟨S_, .f32⟩
  | 76 => ⟨S1x512, .f32⟩
  | 77 => ⟨S2047x512, .f32⟩
  | 78 => ⟨S2048x512, .f32⟩
  | 79 => ⟨S2048x512, .f32⟩
  | 80 => ⟨S2048x512, .f32⟩
  | 81 => ⟨S2048x512, .f32⟩
  | 82 => ⟨S2048x512, .f32⟩
  | 83 => ⟨S2048x512, .f32⟩
  | 84 => ⟨S2048x512, .f32⟩
  | 85 => ⟨S2048x512, .f32⟩
  | 86 => ⟨S2048x512, .f32⟩
  | 87 => ⟨S_, .f32⟩
  | 88 => ⟨S2048x512, .f32⟩
  | 89 => ⟨S2048x512, .f32⟩
  | 90 => ⟨S_, .f32⟩
  | 91 => ⟨S2048x512, .f32⟩
  | 92 => ⟨S2048x512, .f32⟩
  | 93 => ⟨S2048x512, .f32⟩
  | 94 => ⟨S2048x512, .f32⟩
  | 95 => ⟨S2048x512, .f32⟩
  | 96 => ⟨S2048x512, .f32⟩
  | 97 => ⟨S2048x512, .f32⟩
  | 98 => ⟨S_, .f32⟩
  | 99 => ⟨S2048x512, .f32⟩
  | 100 => ⟨S2048x512, .f32⟩
  | 101 => ⟨S2048x512, .f32⟩
  | 102 => ⟨S2048x512, .f32⟩
  | 103 => ⟨S2048x512, .f32⟩
  | 104 => ⟨S2048x1536, .f32⟩
  | 105 => ⟨S2048x1536, .bf16⟩
  | 106 => ⟨S2048x1, .i32⟩
  | 107 => ⟨S_, .i32⟩
  | 108 => ⟨S2048x1, .i32⟩
  | 109 => ⟨S2048x1, .i32⟩
  | 110 => ⟨S2048x1, .f32⟩
  | 111 => ⟨S2048x128, .f32⟩
  | 112 => ⟨S_, .f32⟩
  | 113 => ⟨S1x128, .f32⟩
  | 114 => ⟨S2047x128, .f32⟩
  | 115 => ⟨S2048x128, .f32⟩
  | 116 => ⟨S2048x128, .f32⟩
  | 117 => ⟨S_, .f32⟩
  | 118 => ⟨S2048x1, .f32⟩
  | 119 => ⟨S2048x1, .f32⟩
  | 120 => ⟨S_, .f32⟩
  | 121 => ⟨S2048x1, .f32⟩
  | 122 => ⟨S2048x1, .f32⟩
  | 123 => ⟨S2048x128, .f32⟩
  | 124 => ⟨S2048x128, .f32⟩
  | 125 => ⟨S2048x128, .f32⟩
  | 126 => ⟨S2048x128, .f32⟩
  | 127 => ⟨S2048x128, .bf16⟩
  | _ => ⟨S2048x1024, .f32⟩

abbrev hbmTy0_1 (i : Nat) : BufTy := match i % 128 with
  | 0 => ⟨S1x128x128, .bf16⟩
  | 1 => ⟨S128x128, .bf16⟩
  | 2 => ⟨S2048x128, .f32⟩
  | 3 => ⟨S2048x128, .f32⟩
  | 4 => ⟨S_, .f32⟩
  | 5 => ⟨S1x128, .f32⟩
  | 6 => ⟨S2047x128, .f32⟩
  | 7 => ⟨S2048x128, .f32⟩
  | 8 => ⟨S2048x128, .f32⟩
  | 9 => ⟨S_, .f32⟩
  | 10 => ⟨S2x128, .f32⟩
  | 11 => ⟨S2046x128, .f32⟩
  | 12 => ⟨S2048x128, .f32⟩
  | 13 => ⟨S2048x128, .f32⟩
  | 14 => ⟨S_, .f32⟩
  | 15 => ⟨S2048x1, .f32⟩
  | 16 => ⟨S2048x1, .f32⟩
  | 17 => ⟨S_, .f32⟩
  | 18 => ⟨S2048x1, .f32⟩
  | 19 => ⟨S2048x1, .f32⟩
  | 20 => ⟨S2048x128, .f32⟩
  | 21 => ⟨S2048x128, .f32⟩
  | 22 => ⟨S2048x128, .f32⟩
  | 23 => ⟨S2048x128, .f32⟩
  | 24 => ⟨S2048x128, .bf16⟩
  | 25 => ⟨S1x128x128, .bf16⟩
  | 26 => ⟨S128x128, .bf16⟩
  | 27 => ⟨S2048x128, .f32⟩
  | 28 => ⟨S2048x128, .f32⟩
  | 29 => ⟨S_, .f32⟩
  | 30 => ⟨S1x128, .f32⟩
  | 31 => ⟨S2047x128, .f32⟩
  | 32 => ⟨S2048x128, .f32⟩
  | 33 => ⟨S2048x128, .f32⟩
  | 34 => ⟨S_, .f32⟩
  | 35 => ⟨S2x128, .f32⟩
  | 36 => ⟨S2046x128, .f32⟩
  | 37 => ⟨S2048x128, .f32⟩
  | 38 => ⟨S2048x128, .f32⟩
  | 39 => ⟨S_, .f32⟩
  | 40 => ⟨S4x128, .f32⟩
  | 41 => ⟨S2044x128, .f32⟩
  | 42 => ⟨S2048x128, .f32⟩
  | 43 => ⟨S2048x128, .f32⟩
  | 44 => ⟨S_, .f32⟩
  | 45 => ⟨S2048x1, .f32⟩
  | 46 => ⟨S2048x1, .f32⟩
  | 47 => ⟨S_, .f32⟩
  | 48 => ⟨S2048x1, .f32⟩
  | 49 => ⟨S2048x1, .f32⟩
  | 50 => ⟨S2048x128, .f32⟩
  | 51 => ⟨S2048x128, .f32⟩
  | 52 => ⟨S2048x128, .f32⟩
  | 53 => ⟨S2048x128, .f32⟩
  | 54 => ⟨S2048x128, .bf16⟩
  | 55 => ⟨S1x128x128, .bf16⟩
  | 56 => ⟨S128x128, .bf16⟩
  | 57 => ⟨S2048x128, .f32⟩
  | 58 => ⟨S2048x128, .f32⟩
  | 59 => ⟨S_, .f32⟩
  | 60 => ⟨S1x128, .f32⟩
  | 61 => ⟨S2047x128, .f32⟩
  | 62 => ⟨S2048x128, .f32⟩
  | 63 => ⟨S2048x128, .f32⟩
  | 64 => ⟨S_, .f32⟩
  | 65 => ⟨S2x128, .f32⟩
  | 66 => ⟨S2046x128, .f32⟩
  | 67 => ⟨S2048x128, .f32⟩
  | 68 => ⟨S2048x128, .f32⟩
  | 69 => ⟨S_, .f32⟩
  | 70 => ⟨S4x128, .f32⟩
  | 71 => ⟨S2044x128, .f32⟩
  | 72 => ⟨S2048x128, .f32⟩
  | 73 => ⟨S2048x128, .f32⟩
  | 74 => ⟨S_, .f32⟩
  | 75 => ⟨S8x128, .f32⟩
  | 76 => ⟨S2040x128, .f32⟩
  | 77 => ⟨S2048x128, .f32⟩
  | 78 => ⟨S2048x128, .f32⟩
  | 79 => ⟨S_, .f32⟩
  | 80 => ⟨S2048x1, .f32⟩
  | 81 => ⟨S2048x1, .f32⟩
  | 82 => ⟨S_, .f32⟩
  | 83 => ⟨S2048x1, .f32⟩
  | 84 => ⟨S2048x1, .f32⟩
  | 85 => ⟨S2048x128, .f32⟩
  | 86 => ⟨S2048x128, .f32⟩
  | 87 => ⟨S2048x128, .f32⟩
  | 88 => ⟨S2048x128, .f32⟩
  | 89 => ⟨S2048x128, .bf16⟩
  | 90 => ⟨S1x128x128, .bf16⟩
  | 91 => ⟨S128x128, .bf16⟩
  | 92 => ⟨S2048x128, .f32⟩
  | 93 => ⟨S2048x512, .f32⟩
  | 94 => ⟨S2048x512, .f32⟩
  | 95 => ⟨S2048x512, .f32⟩
  | 96 => ⟨S_, .f32⟩
  | 97 => ⟨S2048x512, .f32⟩
  | 98 => ⟨S2048x512, .f32⟩
  | 99 => ⟨S_, .f32⟩
  | 100 => ⟨S2048x512, .f32⟩
  | 101 => ⟨S2048x512, .f32⟩
  | 102 => ⟨S2048x512, .f32⟩
  | 103 => ⟨S2048x512, .f32⟩
  | 104 => ⟨S2048x512, .f32⟩
  | 105 => ⟨S2048x512, .f32⟩
  | 106 => ⟨S2048x512, .f32⟩
  | 107 => ⟨S2048x512, .f32⟩
  | 108 => ⟨S2048x512, .bf16⟩
  | 109 => ⟨S_, .f32⟩
  | 110 => ⟨S2048x512, .f32⟩
  | 111 => ⟨S2048x512, .f32⟩
  | 112 => ⟨S2048x512, .f32⟩
  | 113 => ⟨S2048x512, .f32⟩
  | 114 => ⟨S2048x512, .f32⟩
  | 115 => ⟨S2048x512, .bf16⟩
  | 116 => ⟨S2048x512, .f32⟩
  | 117 => ⟨S2048x512, .bf16⟩
  | 118 => ⟨S2048x2048, .bf16⟩
  | 119 => ⟨S2048x1024, .f32⟩
  | 120 => ⟨S2048x1024, .bf16⟩
  | 121 => ⟨S2048x1024, .f32⟩
  | 122 => ⟨S2048x1024, .bf16⟩
  | 123 => ⟨S2048x1024, .f32⟩
  | 124 => ⟨S2048x3072, .bf16⟩
  | 125 => ⟨S2048x1024, .bf16⟩
  | 126 => ⟨S4x128x128, .bf16⟩
  | 127 => ⟨S8x512, .f32⟩
  | _ => ⟨S2048x1024, .f32⟩

abbrev hbmTy0_2 (i : Nat) : BufTy := match i % 128 with
  | 0 => ⟨S8x1024, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S256x1536, .bf16⟩
  | .local _ .vmem, ⟨11, _⟩ => ⟨S256x1536, .bf16⟩
  | .local _ .vmem, ⟨12, _⟩ => ⟨S256x2048, .bf16⟩
  | .local _ .vmem, ⟨13, _⟩ => ⟨S256x2048, .bf16⟩
  | .local _ .vmem, ⟨14, _⟩ => ⟨S1x8x1024, .f32⟩
  | .local _ .vmem, ⟨15, _⟩ => ⟨S1x8x512, .f32⟩
  | .local _ .vmem, ⟨16, _⟩ => ⟨S1x4x128x128, .bf16⟩
  | .local _ .vmem, ⟨17, _⟩ => ⟨S1024x1024, .bf16⟩
  | .local _ .vmem, ⟨18, _⟩ => ⟨S1024x3072, .bf16⟩
  | .local _ .vmem, ⟨19, _⟩ => ⟨S256x1024, .f32⟩
  | .local _ .vmem, ⟨20, _⟩ => ⟨S256x1024, .f32⟩
  | .local _ .vmem, ⟨21, _⟩ => ⟨S256x3072, .bf16⟩
  | .local _ .vmem, ⟨22, _⟩ => ⟨S256x3072, .bf16⟩
  | .local _ .vmem, ⟨23, _⟩ => ⟨S256x1024, .bf16⟩
  | .local _ .vmem, ⟨24, _⟩ => ⟨S256x1024, .bf16⟩
  | .local _ .vmem, ⟨25, _⟩ => ⟨S4x128x128, .bf16⟩
  | .local _ .vmem, ⟨26, _⟩ => ⟨S8x512, .f32⟩
  | .local _ .vmem, ⟨27, _⟩ => ⟨S8x1024, .f32⟩
  | .local _ .vmem, ⟨28, _⟩ => ⟨S4x128x128, .f32⟩
  | .local _ .vmem, ⟨29, _⟩ => ⟨S8x512, .f32⟩
  | .local _ .vmem, ⟨30, _⟩ => ⟨S16x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_7 : Ref sig .tc := ⟨.hbm, 87, rfl⟩
abbrev main_v69 : Ref sig .tc := ⟨.hbm, 88, rfl⟩
abbrev main_v70 : Ref sig .tc := ⟨.hbm, 89, rfl⟩
abbrev main_cst_8 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_9 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_c : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_10 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_11 : Ref sig .tc := ⟨.hbm, 117, rfl⟩
abbrev main_v94 : Ref sig .tc := ⟨.hbm, 118, rfl⟩
abbrev main_v95 : Ref sig .tc := ⟨.hbm, 119, rfl⟩
abbrev main_cst_12 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_13 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_cst_14 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_15 : Ref sig .tc := ⟨.hbm, 142, rfl⟩
abbrev main_v115 : Ref sig .tc := ⟨.hbm, 143, rfl⟩
abbrev main_v116 : Ref sig .tc := ⟨.hbm, 144, rfl⟩
abbrev main_cst_16 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_17 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_18 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_cst_19 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_20 : Ref sig .tc := ⟨.hbm, 172, rfl⟩
abbrev main_v140 : Ref sig .tc := ⟨.hbm, 173, rfl⟩
abbrev main_v141 : Ref sig .tc := ⟨.hbm, 174, rfl⟩
abbrev main_cst_21 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_22 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_cst_23 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_cst_24 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_cst_25 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_cst_26 : Ref sig .tc := ⟨.hbm, 207, rfl⟩
abbrev main_v169 : Ref sig .tc := ⟨.hbm, 208, rfl⟩
abbrev main_v170 : Ref sig .tc := ⟨.hbm, 209, rfl⟩
abbrev main_cst_27 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_cst_28 : Ref sig .tc := ⟨.hbm, 224, rfl⟩
abbrev main_v184 : Ref sig .tc := ⟨.hbm, 225, rfl⟩
abbrev main_v185 : Ref sig .tc := ⟨.hbm, 226, rfl⟩
abbrev main_cst_29 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_cst_30 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208_0 : Ref sig .tc := ⟨.hbm, 251, rfl⟩
abbrev main_v208_1 : Ref sig .tc := ⟨.hbm, 252, rfl⟩
abbrev main_v208_2 : Ref sig .tc := ⟨.hbm, 253, rfl⟩
abbrev main_v208_3 : Ref sig .tc := ⟨.hbm, 254, rfl⟩
abbrev main_v208_4 : Ref sig .tc := ⟨.hbm, 255, rfl⟩
abbrev main_v208_5 : Ref sig .tc := ⟨.hbm, 256, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_170 : BitVec 32 := 7#32
  let v322 : BitVec 1 := Scalar.cmpi .eq arg0 c7_i32_170
  let v323 : BitVec 32 := Scalar.extui v322
  let c0_i32_171 : BitVec 32 := 0#32
  let v324 : BitVec 1 := Scalar.cmpi .ne v323 c0_i32_171
  v324

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference1Ideal.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S1x3072 : Shape := ⟨2, ![1, 3072]⟩
abbrev S3072 : Shape := ⟨1, ![3072]⟩
abbrev S1x1024 : Shape := ⟨2, ![1, 1024]⟩
abbrev S1024 : Shape := ⟨1, ![1024]⟩
abbrev S1x3x512 : Shape := ⟨3, ![1, 3, 512]⟩
abbrev S3x512 : Shape := ⟨2, ![3, 512]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩
abbrev S_ : Shape := ⟨0, ![]⟩
abbrev S2048x3072 : Shape := ⟨2, ![2048, 3072]⟩
abbrev S2048 : Shape := ⟨1, ![2048]⟩
abbrev S2048x1 : Shape := ⟨2, ![2048, 1]⟩
abbrev S2048x512 : Shape := ⟨2, ![2048, 512]⟩
abbrev S2x512 : Shape := ⟨2, ![2, 512]⟩
abbrev S2046x512 : Shape := ⟨2, ![2046, 512]⟩
abbrev S2047x512 : Shape := ⟨2, ![2047, 512]⟩
abbrev S2048x128 : Shape := ⟨2, ![2048, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S2048x1x128 : Shape := ⟨3, ![2048, 1, 128]⟩
abbrev S2048x4x128 : Shape := ⟨3, ![2048, 4, 128]⟩
abbrev S4x128x2048 : Shape := ⟨3, ![4, 128, 2048]⟩
abbrev S4x2048x128 : Shape := ⟨3, ![4, 2048, 128]⟩
abbrev S8x512 : Shape := ⟨2, ![8, 512]⟩
abbrev S3x1024 : Shape := ⟨2, ![3, 1024]⟩
abbrev S8x1024 : Shape := ⟨2, ![8, 1024]⟩

abbrev nBuf : Space → Nat
  | .hbm => 491
  | .vmem => 0
  | .smem => 0
  | _ => 0

abbrev hbmTy0_0 (i : Nat) : BufTy := match i % 128 with
  | 0 => ⟨S2048x1024, .f32⟩
  | 1 => ⟨S4x3072, .f32⟩
  | 2 => ⟨S4x1024, .f32⟩
  | 3 => ⟨S1024x3072, .f32⟩
  | 4 => ⟨S4x3x512, .f32⟩
  | 5 => ⟨S4x4x128x128, .f32⟩
  | 6 => ⟨S4x512, .f32⟩
  | 7 => ⟨S1024x1024, .f32⟩
  | 8 => ⟨S4x1024, .f32⟩
  | 9 => ⟨S2048x1024, .f32⟩
  | 10 => ⟨S1x3072, .f32⟩
  | 11 => ⟨S3072, .f32⟩
  | 12 => ⟨S1x1024, .f32⟩
  | 13 => ⟨S1024, .f32⟩
  | 14 => ⟨S1x3x512, .f32⟩
  | 15 => ⟨S3x512, .f32⟩
  | 16 => ⟨S1x4x128x128, .f32⟩
  | 17 => ⟨S4x128x128, .f32⟩
  | 18 => ⟨S1x512, .f32⟩
  | 19 => ⟨S512, .f32⟩
  | 20 => ⟨S1x1024, .f32⟩
  | 21 => ⟨S1024, .f32⟩
  | 22 => ⟨S_, .f32⟩
  | 23 => ⟨S2048x3072, .f32⟩
  | 24 => ⟨S_, .f32⟩
  | 25 => ⟨S2048x1024, .f32⟩
  | 26 => ⟨S1024, .f32⟩
  | 27 => ⟨S1024, .f32⟩
  | 28 => ⟨S1024, .f32⟩
  | 29 => ⟨S2048x1024, .f32⟩
  | 30 => ⟨S_, .f32⟩
  | 31 => ⟨S2048, .f32⟩
  | 32 => ⟨S2048x1, .f32⟩
  | 33 => ⟨S_, .f32⟩
  | 34 => ⟨S2048x1, .f32⟩
  | 35 => ⟨S2048x1, .f32⟩
  | 36 => ⟨S_, .f32⟩
  | 37 => ⟨S2048x1, .f32⟩
  | 38 => ⟨S2048x1, .f32⟩
  | 39 => ⟨S2048x1, .f32⟩
  | 40 => ⟨S2048x1, .f32⟩
  | 41 => ⟨S_, .f32⟩
  | 42 => ⟨S2048x1, .f32⟩
  | 43 => ⟨S2048x1, .f32⟩
  | 44 => ⟨S2048x1024, .f32⟩
  | 45 => ⟨S2048x1024, .f32⟩
  | 46 => ⟨S1x1024, .f32⟩
  | 47 => ⟨S2048x1024, .f32⟩
  | 48 => ⟨S2048x1024, .f32⟩
  | 49 => ⟨S_, .f32⟩
  | 50 => ⟨S1024, .f32⟩
  | 51 => ⟨S1024, .f32⟩
  | 52 => ⟨S1x1024, .f32⟩
  | 53 => ⟨S2048x1024, .f32⟩
  | 54 => ⟨S2048x1024, .f32⟩
  | 55 => ⟨S1x1024, .f32⟩
  | 56 => ⟨S2048x1024, .f32⟩
  | 57 => ⟨S2048x1024, .f32⟩
  | 58 => ⟨S2048x3072, .f32⟩
  | 59 => ⟨S2048x3072, .f32⟩
  | 60 => ⟨S2048x512, .f32⟩
  | 61 => ⟨S2048x512, .f32⟩
  | 62 => ⟨S2048x512, .f32⟩
  | 63 => ⟨S2048x512, .f32⟩
  | 64 => ⟨S2048x512, .f32⟩
  | 65 => ⟨S2048x512, .f32⟩
  | 66 => ⟨S2048x512, .f32⟩
  | 67 => ⟨S1x512, .f32⟩
  | 68 => ⟨S512, .f32⟩
  | 69 => ⟨S_, .f32⟩
  | 70 => ⟨S2x512, .f32⟩
  | 71 => ⟨S2046x512, .f32⟩
  | 72 => ⟨S2048x512, .f32⟩
  | 73 => ⟨S_, .f32⟩
  | 74 => ⟨S2x512, .f32⟩
  | 75 => ⟨S1x512, .f32⟩
  | 76 => ⟨S2048x512, .f32⟩
  | 77 => ⟨S2048x512, .f32⟩
  | 78 => ⟨S1x512, .f32⟩
  | 79 => ⟨S512, .f32⟩
  | 80 => ⟨S_, .f32⟩
  | 81 => ⟨S1x512, .f32⟩
  | 82 => ⟨S2047x512, .f32⟩
  | 83 => ⟨S2048x512, .f32⟩
  | 84 => ⟨S_, .f32⟩
  | 85 => ⟨S1x512, .f32⟩
  | 86 => ⟨S1x512, .f32⟩
  | 87 => ⟨S2048x512, .f32⟩
  | 88 => ⟨S2048x512, .f32⟩
  | 89 => ⟨S2048x512, .f32⟩
  | 90 => ⟨S1x512, .f32⟩
  | 91 => ⟨S512, .f32⟩
  | 92 => ⟨S1x512, .f32⟩
  | 93 => ⟨S2048x512, .f32⟩
  | 94 => ⟨S2048x512, .f32⟩
  | 95 => ⟨S2048x512, .f32⟩
  | 96 => ⟨S2048x512, .f32⟩
  | 97 => ⟨S2048x512, .f32⟩
  | 98 => ⟨S2048x512, .f32⟩
  | 99 => ⟨S_, .f32⟩
  | 100 => ⟨S2048x512, .f32⟩
  | 101 => ⟨S2048x512, .f32⟩
  | 102 => ⟨S_, .f32⟩
  | 103 => ⟨S2048x512, .f32⟩
  | 104 => ⟨S2048x512, .f32⟩
  | 105 => ⟨S_, .f32⟩
  | 106 => ⟨S2048x512, .f32⟩
  | 107 => ⟨S2048x512, .f32⟩
  | 108 => ⟨S2048x512, .f32⟩
  | 109 => ⟨S2048x512, .f32⟩
  | 110 => ⟨S2048x512, .f32⟩
  | 111 => ⟨S2048, .i32⟩
  | 112 => ⟨S_, .i32⟩
  | 113 => ⟨S2048, .i32⟩
  | 114 => ⟨S2048, .i32⟩
  | 115 => ⟨S2048, .f32⟩
  | 116 => ⟨S2048x1, .f32⟩
  | 117 => ⟨S2048x128, .f32⟩
  | 118 => ⟨S_, .f32⟩
  | 119 => ⟨S_, .f32⟩
  | 120 => ⟨S2048x128, .f32⟩
  | 121 => ⟨S_, .f32⟩
  | 122 => ⟨S2x128, .f32⟩
  | 123 => ⟨S2046x128, .f32⟩
  | 124 => ⟨S2048x128, .f32⟩
  | 125 => ⟨S_, .f32⟩
  | 126 => ⟨S2x128, .f32⟩
  | 127 => ⟨S2048x128, .f32⟩
  | _ => ⟨S2048x1024, .f32⟩

abbrev hbmTy0_1 (i : Nat) : BufTy := match i % 128 with
  | 0 => ⟨S_, .f32⟩
  | 1 => ⟨S2048x1, .f32⟩
  | 2 => ⟨S2048x1, .f32⟩
  | 3 => ⟨S2048x128, .f32⟩
  | 4 => ⟨S2048x128, .f32⟩
  | 5 => ⟨S2048x128, .f32⟩
  | 6 => ⟨S2048x128, .f32⟩
  | 7 => ⟨S_, .f32⟩
  | 8 => ⟨S_, .f32⟩
  | 9 => ⟨S2048x128, .f32⟩
  | 10 => ⟨S_, .f32⟩
  | 11 => ⟨S4x128, .f32⟩
  | 12 => ⟨S2044x128, .f32⟩
  | 13 => ⟨S2048x128, .f32⟩
  | 14 => ⟨S_, .f32⟩
  | 15 => ⟨S4x128, .f32⟩
  | 16 => ⟨S2048x128, .f32⟩
  | 17 => ⟨S_, .f32⟩
  | 18 => ⟨S2048x1, .f32⟩
  | 19 => ⟨S2048x1, .f32⟩
  | 20 => ⟨S2048x128, .f32⟩
  | 21 => ⟨S2048x128, .f32⟩
  | 22 => ⟨S2048x128, .f32⟩
  | 23 => ⟨S2048x128, .f32⟩
  | 24 => ⟨S_, .f32⟩
  | 25 => ⟨S_, .f32⟩
  | 26 => ⟨S2048x128, .f32⟩
  | 27 => ⟨S_, .f32⟩
  | 28 => ⟨S8x128, .f32⟩
  | 29 => ⟨S2040x128, .f32⟩
  | 30 => ⟨S2048x128, .f32⟩
  | 31 => ⟨S_, .f32⟩
  | 32 => ⟨S8x128, .f32⟩
  | 33 => ⟨S2048x128, .f32⟩
  | 34 => ⟨S_, .f32⟩
  | 35 => ⟨S2048x1, .f32⟩
  | 36 => ⟨S2048x1, .f32⟩
  | 37 => ⟨S2048x128, .f32⟩
  | 38 => ⟨S2048x128, .f32⟩
  | 39 => ⟨S2048x128, .f32⟩
  | 40 => ⟨S2048x128, .f32⟩
  | 41 => ⟨S_, .f32⟩
  | 42 => ⟨S_, .f32⟩
  | 43 => ⟨S2048x128, .f32⟩
  | 44 => ⟨S_, .f32⟩
  | 45 => ⟨S16x128, .f32⟩
  | 46 => ⟨S2032x128, .f32⟩
  | 47 => ⟨S2048x128, .f32⟩
  | 48 => ⟨S_, .f32⟩
  | 49 => ⟨S16x128, .f32⟩
  | 50 => ⟨S2048x128, .f32⟩
  | 51 => ⟨S_, .f32⟩
  | 52 => ⟨S2048x1, .f32⟩
  | 53 => ⟨S2048x1, .f32⟩
  | 54 => ⟨S2048x128, .f32⟩
  | 55 => ⟨S2048x128, .f32⟩
  | 56 => ⟨S2048x128, .f32⟩
  | 57 => ⟨S2048x1x128, .f32⟩
  | 58 => ⟨S2048x1x128, .f32⟩
  | 59 => ⟨S2048x1x128, .f32⟩
  | 60 => ⟨S2048x1x128, .f32⟩
  | 61 => ⟨S2048x4x128, .f32⟩
  | 62 => ⟨S4x128x2048, .f32⟩
  | 63 => ⟨S2048x4x128, .f32⟩
  | 64 => ⟨S2048x512, .f32⟩
  | 65 => ⟨S1x512, .f32⟩
  | 66 => ⟨S2048x512, .f32⟩
  | 67 => ⟨S2048x512, .f32⟩
  | 68 => ⟨S2048x512, .f32⟩
  | 69 => ⟨S2048x512, .f32⟩
  | 70 => ⟨S_, .f32⟩
  | 71 => ⟨S2048x512, .f32⟩
  | 72 => ⟨S2048x512, .f32⟩
  | 73 => ⟨S_, .f32⟩
  | 74 => ⟨S2048x512, .f32⟩
  | 75 => ⟨S2048x512, .f32⟩
  | 76 => ⟨S_, .f32⟩
  | 77 => ⟨S2048x512, .f32⟩
  | 78 => ⟨S2048x512, .f32⟩
  | 79 => ⟨S2048x512, .f32⟩
  | 80 => ⟨S2048x512, .f32⟩
  | 81 => ⟨S2048x512, .f32⟩
  | 82 => ⟨S2048x1024, .f32⟩
  | 83 => ⟨S2048x1024, .f32⟩
  | 84 => ⟨S2048x1024, .f32⟩
  | 85 => ⟨S2048x1024, .f32⟩
  | 86 => ⟨S_, .f32⟩
  | 87 => ⟨S2048, .f32⟩
  | 88 => ⟨S2048x1, .f32⟩
  | 89 => ⟨S_, .f32⟩
  | 90 => ⟨S2048x1, .f32⟩
  | 91 => ⟨S2048x1, .f32⟩
  | 92 => ⟨S_, .f32⟩
  | 93 => ⟨S2048x1, .f32⟩
  | 94 => ⟨S2048x1, .f32⟩
  | 95 => ⟨S2048x1, .f32⟩
  | 96 => ⟨S2048x1, .f32⟩
  | 97 => ⟨S_, .f32⟩
  | 98 => ⟨S2048x1, .f32⟩
  | 99 => ⟨S2048x1, .f32⟩
  | 100 => ⟨S2048x1024, .f32⟩
  | 101 => ⟨S2048x1024, .f32⟩
  | 102 => ⟨S1x1024, .f32⟩
  | 103 => ⟨S2048x1024, .f32⟩
  | 104 => ⟨S2048x1024, .f32⟩
  | 105 => ⟨S1x1024, .f32⟩
  | 106 => ⟨S2048x1024, .f32⟩
  | 107 => ⟨S2048x1024, .f32⟩
  | 108 => ⟨S2048x1024, .f32⟩
  | 109 => ⟨S2048x1024, .f32⟩
  | 110 => ⟨S2048x1024, .f32⟩
  | 111 => ⟨S2048x1024, .f32⟩
  | 112 => ⟨S2048x1024, .f32⟩
  | 113 => ⟨S_, .f32⟩
  | 114 => ⟨S1024, .f32⟩
  | 115 => ⟨S1x1024, .f32⟩
  | 116 => ⟨S_, .f32⟩
  | 117 => ⟨S1024, .f32⟩
  | 118 => ⟨S2048x1024, .f32⟩
  | 119 => ⟨S_, .f32⟩
  | 120 => ⟨S1024, .f32⟩
  | 121 => ⟨S1x1024, .f32⟩
  | 122 => ⟨S2048x1024, .f32⟩
  | 123 => ⟨S2048x1024, .f32⟩
  | 124 => ⟨S_, .f32⟩
  | 125 => ⟨S1024, .f32⟩
  | 126 => ⟨S2048x1024, .f32⟩
  | 127 => ⟨S_, .f32⟩
  | _ => ⟨S2048x1024, .f32⟩

abbrev hbmTy0_2 (i : Nat) : BufTy := match i % 128 with
  | 0 => ⟨S2048, .f32⟩
  | 1 => ⟨S2048x1, .f32⟩
  | 2 => ⟨S2048x1024, .f32⟩
  | 3 => ⟨S2048x1024, .f32⟩
  | 4 => ⟨S2048x1, .f32⟩
  | 5 => ⟨S_, .f32⟩
  | 6 => ⟨S2048x1, .f32⟩
  | 7 => ⟨S2048x1, .f32⟩
  | 8 => ⟨S_, .f32⟩
  | 9 => ⟨S2048, .f32⟩
  | 10 => ⟨S2048x1024, .f32⟩
  | 11 => ⟨S2048x1024, .f32⟩
  | 12 => ⟨S2048x1024, .f32⟩
  | 13 => ⟨S2048x1024, .f32⟩
  | 14 => ⟨S2048x1024, .f32⟩
  | 15 => ⟨S2048x1024, .f32⟩
  | 16 => ⟨S2048x512, .f32⟩
  | 17 => ⟨S2048x512, .f32⟩
  | 18 => ⟨S2048x512, .f32⟩
  | 19 => ⟨S2048x512, .f32⟩
  | 20 => ⟨S2048x512, .f32⟩
  | 21 => ⟨S2048x512, .f32⟩
  | 22 => ⟨S2048x512, .f32⟩
  | 23 => ⟨S2048x512, .f32⟩
  | 24 => ⟨S2048x512, .f32⟩
  | 25 => ⟨S_, .f32⟩
  | 26 => ⟨S512, .f32⟩
  | 27 => ⟨S1x512, .f32⟩
  | 28 => ⟨S2048x512, .f32⟩
  | 29 => ⟨S2048x512, .f32⟩
  | 30 => ⟨S_, .f32⟩
  | 31 => ⟨S512, .f32⟩
  | 32 => ⟨S2048x4x128, .f32⟩
  | 33 => ⟨S4x128x2048, .f32⟩
  | 34 => ⟨S4x2048x128, .f32⟩
  | 35 => ⟨S2048x4x128, .f32⟩
  | 36 => ⟨S4x128x128, .f32⟩
  | 37 => ⟨S4x128x128, .f32⟩
  | 38 => ⟨S2048x1x128, .f32⟩
  | 39 => ⟨S2048x128, .f32⟩
  | 40 => ⟨S2048x1x128, .f32⟩
  | 41 => ⟨S2048x128, .f32⟩
  | 42 => ⟨S2048x1x128, .f32⟩
  | 43 => ⟨S2048x128, .f32⟩
  | 44 => ⟨S2048x1x128, .f32⟩
  | 45 => ⟨S2048x128, .f32⟩
  | 46 => ⟨S2048x128, .f32⟩
  | 47 => ⟨S2048x128, .f32⟩
  | 48 => ⟨S2048x128, .f32⟩
  | 49 => ⟨S2048x128, .f32⟩
  | 50 => ⟨S16x128, .f32⟩
  | 51 => ⟨S2032x128, .f32⟩
  | 52 => ⟨S_, .f32⟩
  | 53 => ⟨S2048x128, .f32⟩
  | 54 => ⟨S2048x128, .f32⟩
  | 55 => ⟨S_, .f32⟩
  | 56 => ⟨S_, .f32⟩
  | 57 => ⟨S2048x128, .f32⟩
  | 58 => ⟨S2048x128, .f32⟩
  | 59 => ⟨S_, .f32⟩
  | 60 => ⟨S2048x512, .f32⟩
  | 61 => ⟨S2048x128, .f32⟩
  | 62 => ⟨S2048x128, .f32⟩
  | 63 => ⟨S2048x128, .f32⟩
  | 64 => ⟨S2048x128, .f32⟩
  | 65 => ⟨S8x128, .f32⟩
  | 66 => ⟨S2040x128, .f32⟩
  | 67 => ⟨S_, .f32⟩
  | 68 => ⟨S2048x128, .f32⟩
  | 69 => ⟨S2048x128, .f32⟩
  | 70 => ⟨S_, .f32⟩
  | 71 => ⟨S_, .f32⟩
  | 72 => ⟨S2048x128, .f32⟩
  | 73 => ⟨S2048x128, .f32⟩
  | 74 => ⟨S_, .f32⟩
  | 75 => ⟨S2048x512, .f32⟩
  | 76 => ⟨S2048x512, .f32⟩
  | 77 => ⟨S2048x128, .f32⟩
  | 78 => ⟨S2048x128, .f32⟩
  | 79 => ⟨S2048x128, .f32⟩
  | 80 => ⟨S2048x128, .f32⟩
  | 81 => ⟨S4x128, .f32⟩
  | 82 => ⟨S2044x128, .f32⟩
  | 83 => ⟨S_, .f32⟩
  | 84 => ⟨S2048x128, .f32⟩
  | 85 => ⟨S2048x128, .f32⟩
  | 86 => ⟨S_, .f32⟩
  | 87 => ⟨S_, .f32⟩
  | 88 => ⟨S2048x128, .f32⟩
  | 89 => ⟨S2048x128, .f32⟩
  | 90 => ⟨S_, .f32⟩
  | 91 => ⟨S2048x512, .f32⟩
  | 92 => ⟨S2048x512, .f32⟩
  | 93 => ⟨S2048x128, .f32⟩
  | 94 => ⟨S2048x128, .f32⟩
  | 95 => ⟨S2048x128, .f32⟩
  | 96 => ⟨S2048x128, .f32⟩
  | 97 => ⟨S2x128, .f32⟩
  | 98 => ⟨S2046x128, .f32⟩
  | 99 => ⟨S_, .f32⟩
  | 100 => ⟨S2048x128, .f32⟩
  | 101 => ⟨S2048x128, .f32⟩
  | 102 => ⟨S_, .f32⟩
  | 103 => ⟨S_, .f32⟩
  | 104 => ⟨S2048x128, .f32⟩
  | 105 => ⟨S2048x128, .f32⟩
  | 106 => ⟨S_, .f32⟩
  | 107 => ⟨S2048x512, .f32⟩
  | 108 => ⟨S2048x512, .f32⟩
  | 109 => ⟨S2048x512, .f32⟩
  | 110 => ⟨S2048x512, .f32⟩
  | 111 => ⟨S2048x512, .f32⟩
  | 112 => ⟨S2048x512, .f32⟩
  | 113 => ⟨S2048x512, .f32⟩
  | 114 => ⟨S2048x512, .f32⟩
  | 115 => ⟨S2048x512, .f32⟩
  | 116 => ⟨S2048x512, .f32⟩
  | 117 => ⟨S2048x512, .f32⟩
  | 118 => ⟨S2048x512, .f32⟩
  | 119 => ⟨S2048x512, .f32⟩
  | 120 => ⟨S_, .f32⟩
  | 121 => ⟨S512, .f32⟩
  | 122 => ⟨S1x512, .f32⟩
  | 123 => ⟨S_, .f32⟩
  | 124 => ⟨S512, .f32⟩
  | 125 => ⟨S1x512, .f32⟩
  | 126 => ⟨S_, .f32⟩
  | 127 => ⟨S3x512, .f32⟩
  | _ => ⟨S2048x1024, .f32⟩

abbrev hbmTy0_3 (i : Nat) : BufTy := match i % 128 with
  | 0 => ⟨S2048x512, .f32⟩
  | 1 => ⟨S2048x512, .f32⟩
  | 2 => ⟨S2048x512, .f32⟩
  | 3 => ⟨S_, .f32⟩
  | 4 => ⟨S512, .f32⟩
  | 5 => ⟨S1x512, .f32⟩
  | 6 => ⟨S_, .f32⟩
  | 7 => ⟨S512, .f32⟩
  | 8 => ⟨S1x512, .f32⟩
  | 9 => ⟨S2047x512, .f32⟩
  | 10 => ⟨S_, .f32⟩
  | 11 => ⟨S2048x512, .f32⟩
  | 12 => ⟨S2048x512, .f32⟩
  | 13 => ⟨S1x512, .f32⟩
  | 14 => ⟨S_, .f32⟩
  | 15 => ⟨S3x512, .f32⟩
  | 16 => ⟨S3x512, .f32⟩
  | 17 => ⟨S2048x512, .f32⟩
  | 18 => ⟨S2048x512, .f32⟩
  | 19 => ⟨S2048x512, .f32⟩
  | 20 => ⟨S_, .f32⟩
  | 21 => ⟨S512, .f32⟩
  | 22 => ⟨S1x512, .f32⟩
  | 23 => ⟨S_, .f32⟩
  | 24 => ⟨S512, .f32⟩
  | 25 => ⟨S2x512, .f32⟩
  | 26 => ⟨S2046x512, .f32⟩
  | 27 => ⟨S_, .f32⟩
  | 28 => ⟨S2048x512, .f32⟩
  | 29 => ⟨S2048x512, .f32⟩
  | 30 => ⟨S1x512, .f32⟩
  | 31 => ⟨S_, .f32⟩
  | 32 => ⟨S3x512, .f32⟩
  | 33 => ⟨S3x512, .f32⟩
  | 34 => ⟨S2048x512, .f32⟩
  | 35 => ⟨S2048x512, .f32⟩
  | 36 => ⟨S_, .f32⟩
  | 37 => ⟨S2048x3072, .f32⟩
  | 38 => ⟨S_, .f32⟩
  | 39 => ⟨S2048x3072, .f32⟩
  | 40 => ⟨S2048x3072, .f32⟩
  | 41 => ⟨S_, .f32⟩
  | 42 => ⟨S2048x3072, .f32⟩
  | 43 => ⟨S2048x3072, .f32⟩
  | 44 => ⟨S_, .f32⟩
  | 45 => ⟨S2048x3072, .f32⟩
  | 46 => ⟨S2048x3072, .f32⟩
  | 47 => ⟨S_, .f32⟩
  | 48 => ⟨S2048x3072, .f32⟩
  | 49 => ⟨S2048x3072, .f32⟩
  | 50 => ⟨S_, .f32⟩
  | 51 => ⟨S2048x3072, .f32⟩
  | 52 => ⟨S2048x3072, .f32⟩
  | 53 => ⟨S2048x1024, .f32⟩
  | 54 => ⟨S_, .f32⟩
  | 55 => ⟨S1024, .f32⟩
  | 56 => ⟨S1x1024, .f32⟩
  | 57 => ⟨S_, .f32⟩
  | 58 => ⟨S1024, .f32⟩
  | 59 => ⟨S2048x1024, .f32⟩
  | 60 => ⟨S_, .f32⟩
  | 61 => ⟨S1024, .f32⟩
  | 62 => ⟨S1x1024, .f32⟩
  | 63 => ⟨S2048x1024, .f32⟩
  | 64 => ⟨S2048x1024, .f32⟩
  | 65 => ⟨S_, .f32⟩
  | 66 => ⟨S1024, .f32⟩
  | 67 => ⟨S2048x1024, .f32⟩
  | 68 => ⟨S_, .f32⟩
  | 69 => ⟨S1024, .f32⟩
  | 70 => ⟨S1x1024, .f32⟩
  | 71 => ⟨S2048x1024, .f32⟩
  | 72 => ⟨S2048x1024, .f32⟩
  | 73 => ⟨S_, .f32⟩
  | 74 => ⟨S1024, .f32⟩
  | 75 => ⟨S2048x1024, .f32⟩
  | 76 => ⟨S_, .f32⟩
  | 77 => ⟨S2048, .f32⟩
  | 78 => ⟨S2048x1, .f32⟩
  | 79 => ⟨S2048x1024, .f32⟩
  | 80 => ⟨S2048x1024, .f32⟩
  | 81 => ⟨S2048x1024, .f32⟩
  | 82 => ⟨S2048x1, .f32⟩
  | 83 => ⟨S_, .f32⟩
  | 84 => ⟨S2048x1, .f32⟩
  | 85 => ⟨S2048x1, .f32⟩
  | 86 => ⟨S_, .f32⟩
  | 87 => ⟨S2048, .f32⟩
  | 88 => ⟨S2048x1024, .f32⟩
  | 89 => ⟨S2048x1024, .f32⟩
  | 90 => ⟨S2048x1024, .f32⟩
  | 91 => ⟨S2048x1024, .f32⟩
  | 92 => ⟨S2048x1024, .f32⟩
  | 93 => ⟨S3072, .f32⟩
  | 94 => ⟨S1x512, .f32⟩
  | 95 => ⟨S_, .f32⟩
  | 96 => ⟨S4x512, .f32⟩
  | 97 => ⟨S8x512, .f32⟩
  | 98 => ⟨S3x1024, .f32⟩
  | 99 => ⟨S1x1024, .f32⟩
  | 100 => ⟨S1x1024, .f32⟩
  | 101 => ⟨S_, .f32⟩
  | 102 => ⟨S3x1024, .f32⟩
  | 103 => ⟨S8x1024, .f32⟩
  | 104 => ⟨S2048x3072, .bf16⟩
  | 105 => ⟨S2048x1024, .bf16⟩
  | 106 => ⟨S4x128x128, .bf16⟩
  | _ => ⟨S2048x1024, .f32⟩

abbrev hbmTy (i : Nat) : BufTy := match i / 128 with
  | 0 => hbmTy0_0 i
  | 1 => hbmTy0_1 i
  | 2 => hbmTy0_2 i
  | 3 => hbmTy0_3 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_call0_v0 : Ref sig .tc := ⟨.hbm, 97, rfl⟩
abbrev main_call0_v1 : Ref sig .tc := ⟨.hbm, 98, rfl⟩
abbrev main_call0_cst : Ref sig .tc := ⟨.hbm, 99, rfl⟩
abbrev main_call0_v2 : Ref sig .tc := ⟨.hbm, 100, rfl⟩
abbrev main_call0_v3 : Ref sig .tc := ⟨.hbm, 101, rfl⟩
abbrev main_call0_cst_0 : Ref sig .tc := ⟨.hbm, 102, rfl⟩
abbrev main_call0_v4 : Ref sig .tc := ⟨.hbm, 103, rfl⟩
abbrev main_v76_2 : Ref sig .tc := ⟨.hbm, 104, rfl⟩
abbrev main_call0_cst_1 : Ref sig .tc := ⟨.hbm, 105, rfl⟩
abbrev main_call0_v6 : Ref sig .tc := ⟨.hbm, 106, rfl⟩
abbrev main_call0_v7 : Ref sig .tc := ⟨.hbm, 107, rfl⟩
abbrev main_v76_1 : Ref sig .tc := ⟨.hbm, 108, rfl⟩
abbrev main_v76_0 : Ref sig .tc := ⟨.hbm, 109, rfl⟩
abbrev main_v77 : Ref sig .tc := ⟨.hbm, 110, rfl⟩
abbrev main_v78 : Ref sig .tc := ⟨.hbm, 111, rfl⟩
abbrev main_c : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call1_call0_cst : Ref sig .tc := ⟨.hbm, 118, rfl⟩
abbrev main_call1_call0_v0 : Ref sig .tc := ⟨.hbm, 119, rfl⟩
abbrev main_v84 : Ref sig .tc := ⟨.hbm, 120, rfl⟩
abbrev main_cst_10 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_11 : Ref sig .tc := ⟨.hbm, 125, rfl⟩
abbrev main_v88 : Ref sig .tc := ⟨.hbm, 126, rfl⟩
abbrev main_v89 : Ref sig .tc := ⟨.hbm, 127, rfl⟩
abbrev main_cst_12 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_call2_call0_cst : Ref sig .tc := ⟨.hbm, 135, rfl⟩
abbrev main_call2_call0_v0 : Ref sig .tc := ⟨.hbm, 136, rfl⟩
abbrev main_v96 : Ref sig .tc := ⟨.hbm, 137, rfl⟩
abbrev main_cst_13 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_14 : Ref sig .tc := ⟨.hbm, 142, rfl⟩
abbrev main_v100 : Ref sig .tc := ⟨.hbm, 143, rfl⟩
abbrev main_v101 : Ref sig .tc := ⟨.hbm, 144, rfl⟩
abbrev main_cst_15 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_call3_call0_cst : Ref sig .tc := ⟨.hbm, 152, rfl⟩
abbrev main_call3_call0_v0 : Ref sig .tc := ⟨.hbm, 153, rfl⟩
abbrev main_v108 : Ref sig .tc := ⟨.hbm, 154, rfl⟩
abbrev main_cst_16 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_17 : Ref sig .tc := ⟨.hbm, 159, rfl⟩
abbrev main_v112 : Ref sig .tc := ⟨.hbm, 160, rfl⟩
abbrev main_v113 : Ref sig .tc := ⟨.hbm, 161, rfl⟩
abbrev main_cst_18 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_call4_call0_cst : Ref sig .tc := ⟨.hbm, 169, rfl⟩
abbrev main_call4_call0_v0 : Ref sig .tc := ⟨.hbm, 170, rfl⟩
abbrev main_v120 : Ref sig .tc := ⟨.hbm, 171, rfl⟩
abbrev main_cst_19 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_20 : Ref sig .tc := ⟨.hbm, 176, rfl⟩
abbrev main_v124 : Ref sig .tc := ⟨.hbm, 177, rfl⟩
abbrev main_v125 : Ref sig .tc := ⟨.hbm, 178, rfl⟩
abbrev main_cst_21 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_call5_v0 : Ref sig .tc := ⟨.hbm, 196, rfl⟩
abbrev main_call5_v1 : Ref sig .tc := ⟨.hbm, 197, rfl⟩
abbrev main_call5_cst : Ref sig .tc := ⟨.hbm, 198, rfl⟩
abbrev main_call5_v2 : Ref sig .tc := ⟨.hbm, 199, rfl⟩
abbrev main_call5_v3 : Ref sig .tc := ⟨.hbm, 200, rfl⟩
abbrev main_call5_cst_0 : Ref sig .tc := ⟨.hbm, 201, rfl⟩
abbrev main_call5_v4 : Ref sig .tc := ⟨.hbm, 202, rfl⟩
abbrev main_v142_2 : Ref sig .tc := ⟨.hbm, 203, rfl⟩
abbrev main_call5_cst_1 : Ref sig .tc := ⟨.hbm, 204, rfl⟩
abbrev main_call5_v6 : Ref sig .tc := ⟨.hbm, 205, rfl⟩
abbrev main_call5_v7 : Ref sig .tc := ⟨.hbm, 206, rfl⟩
abbrev main_v142_1 : Ref sig .tc := ⟨.hbm, 207, rfl⟩
abbrev main_v142_0 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_cst_22 : Ref sig .tc := ⟨.hbm, 214, rfl⟩
abbrev main_v148 : Ref sig .tc := ⟨.hbm, 215, rfl⟩
abbrev main_v149 : Ref sig .tc := ⟨.hbm, 216, rfl⟩
abbrev main_cst_23 : Ref sig .tc := ⟨.hbm, 217, rfl⟩
abbrev main_v150 : Ref sig .tc := ⟨.hbm, 218, rfl⟩
abbrev main_v151 : Ref sig .tc := ⟨.hbm, 219, rfl⟩
abbrev main_cst_24 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_cst_25 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_cst_26 : Ref sig .tc := ⟨.hbm, 241, rfl⟩
abbrev main_v171 : Ref sig .tc := ⟨.hbm, 242, rfl⟩
abbrev main_v172 : Ref sig .tc := ⟨.hbm, 243, rfl⟩
abbrev main_cst_27 : Ref sig .tc := ⟨.hbm, 244, rfl⟩
abbrev main_v173 : Ref sig .tc := ⟨.hbm, 245, rfl⟩
abbrev main_v174 : Ref sig .tc := ⟨.hbm, 246, rfl⟩
abbrev main_cst_28 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_cst_29 : Ref sig .tc := ⟨.hbm, 252, rfl⟩
abbrev main_v179 : Ref sig .tc := ⟨.hbm, 253, rfl⟩
abbrev main_v180 : Ref sig .tc := ⟨.hbm, 254, rfl⟩
abbrev main_cst_30 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_cst_31 : Ref sig .tc := ⟨.hbm, 261, rfl⟩
abbrev main_v186 : Ref sig .tc := ⟨.hbm, 262, rfl⟩
abbrev main_v187 : Ref sig .tc := ⟨.hbm, 263, rfl⟩
abbrev main_cst_32 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_call6_v0 : Ref sig .tc := ⟨.hbm, 276, rfl⟩
abbrev main_call6_v1 : Ref sig .tc := ⟨.hbm, 277, rfl⟩
abbrev main_call6_v2 : Ref sig .tc := ⟨.hbm, 278, rfl⟩
abbrev main_v199 : Ref sig .tc := ⟨.hbm, 279, rfl⟩
abbrev main_v200 : Ref sig .tc := ⟨.hbm, 280, rfl⟩
abbrev main_cst_33 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_cst_34 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_cst_35 : Ref sig .tc := ⟨.hbm, 308, rfl⟩
abbrev main_v226 : Ref sig .tc := ⟨.hbm, 309, rfl⟩
abbrev main_v227 : Ref sig .tc := ⟨.hbm, 310, rfl⟩
abbrev main_call7_call0_cst : Ref sig .tc := ⟨.hbm, 311, rfl⟩
abbrev main_call7_call0_v0 : Ref sig .tc := ⟨.hbm, 312, rfl⟩
abbrev main_v228 : Ref sig .tc := ⟨.hbm, 313, rfl⟩
abbrev main_v229 : Ref sig .tc := ⟨.hbm, 314, rfl⟩
abbrev main_cst_36 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_cst_37 : Ref sig .tc := ⟨.hbm, 323, rfl⟩
abbrev main_v237 : Ref sig .tc := ⟨.hbm, 324, rfl⟩
abbrev main_v238 : Ref sig .tc := ⟨.hbm, 325, rfl⟩
abbrev main_call8_call0_cst : Ref sig .tc := ⟨.hbm, 326, rfl⟩
abbrev main_call8_call0_v0 : Ref sig .tc := ⟨.hbm, 327, rfl⟩
abbrev main_v239 : Ref sig .tc := ⟨.hbm, 328, rfl⟩
abbrev main_v240 : Ref sig .tc := ⟨.hbm, 329, rfl⟩
abbrev main_cst_38 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_v248 : Ref sig .tc := ⟨.hbm, 338, rfl⟩
abbrev main_cst_39 : Ref sig .tc := ⟨.hbm, 339, rfl⟩
abbrev main_v249 : Ref sig .tc := ⟨.hbm, 340, rfl⟩
abbrev main_v250 : Ref sig .tc := ⟨.hbm, 341, rfl⟩
abbrev main_call9_call0_cst : Ref sig .tc := ⟨.hbm, 342, rfl⟩
abbrev main_call9_call0_v0 : Ref sig .tc := ⟨.hbm, 343, rfl⟩
abbrev main_v251 : Ref sig .tc := ⟨.hbm, 344, rfl⟩
abbrev main_v252 : Ref sig .tc := ⟨.hbm, 345, rfl⟩
abbrev main_cst_40 : Ref sig .tc := ⟨.hbm, 346, rfl⟩
abbrev main_v253 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_v260 : Ref sig .tc := ⟨.hbm, 354, rfl⟩
abbrev main_cst_41 : Ref sig .tc := ⟨.hbm, 355, rfl⟩
abbrev main_v261 : Ref sig .tc := ⟨.hbm, 356, rfl⟩
abbrev main_v262 : Ref sig .tc := ⟨.hbm, 357, rfl⟩
abbrev main_call10_call0_cst : Ref sig .tc := ⟨.hbm, 358, rfl⟩
abbrev main_call10_call0_v0 : Ref sig .tc := ⟨.hbm, 359, rfl⟩
abbrev main_v263 : Ref sig .tc := ⟨.hbm, 360, rfl⟩
abbrev main_v264 : Ref sig .tc := ⟨.hbm, 361, rfl⟩
abbrev main_cst_42 : Ref sig .tc := ⟨.hbm, 362, rfl⟩
abbrev main_v265 : Ref sig .tc := ⟨.hbm, 363, rfl⟩
abbrev main_v266 : Ref sig .tc := ⟨.hbm, 364, rfl⟩
abbrev main_v267 : Ref sig .tc := ⟨.hbm, 365, rfl⟩
abbrev main_v268 : Ref sig .tc := ⟨.hbm, 366, rfl⟩
abbrev main_call11_v0 : Ref sig .tc := ⟨.hbm, 367, rfl⟩
abbrev main_call11_v1 : Ref sig .tc := ⟨.hbm, 368, rfl⟩
abbrev main_call11_v2 : Ref sig .tc := ⟨.hbm, 369, rfl⟩
abbrev main_v269 : Ref sig .tc := ⟨.hbm, 370, rfl⟩
abbrev main_v270 : Ref sig .tc := ⟨.hbm, 371, rfl⟩
abbrev main_v271 : Ref sig .tc := ⟨.hbm, 372, rfl⟩
abbrev main_v272 : Ref sig .tc := ⟨.hbm, 373, rfl⟩
abbrev main_v273 : Ref sig .tc := ⟨.hbm, 374, rfl⟩
abbrev main_v274 : Ref sig .tc := ⟨.hbm, 375, rfl⟩
abbrev main_cst_43 : Ref sig .tc := ⟨.hbm, 376, rfl⟩
abbrev main_v275 : Ref sig .tc := ⟨.hbm, 377, rfl⟩
abbrev main_v276 : Ref sig .tc := ⟨.hbm, 378, rfl⟩
abbrev main_cst_44 : Ref sig .tc := ⟨.hbm, 379, rfl⟩
abbrev main_v277 : Ref sig .tc := ⟨.hbm, 380, rfl⟩
abbrev main_v278 : Ref sig .tc := ⟨.hbm, 381, rfl⟩
abbrev main_cst_45 : Ref sig .tc := ⟨.hbm, 382, rfl⟩
abbrev main_v279 : Ref sig .tc := ⟨.hbm, 383, rfl⟩
abbrev main_v280 : Ref sig .tc := ⟨.hbm, 384, rfl⟩
abbrev main_v281 : Ref sig .tc := ⟨.hbm, 385, rfl⟩
abbrev main_v282 : Ref sig .tc := ⟨.hbm, 386, rfl⟩
abbrev main_cst_46 : Ref sig .tc := ⟨.hbm, 387, rfl⟩
abbrev main_v283 : Ref sig .tc := ⟨.hbm, 388, rfl⟩
abbrev main_v284 : Ref sig .tc := ⟨.hbm, 389, rfl⟩
abbrev main_cst_47 : Ref sig .tc := ⟨.hbm, 390, rfl⟩
abbrev main_v285 : Ref sig .tc := ⟨.hbm, 391, rfl⟩
abbrev main_v286 : Ref sig .tc := ⟨.hbm, 392, rfl⟩
abbrev main_v287 : Ref sig .tc := ⟨.hbm, 393, rfl⟩
abbrev main_cst_48 : Ref sig .tc := ⟨.hbm, 394, rfl⟩
abbrev main_v288 : Ref sig .tc := ⟨.hbm, 395, rfl⟩
abbrev main_v289 : Ref sig .tc := ⟨.hbm, 396, rfl⟩
abbrev main_v290 : Ref sig .tc := ⟨.hbm, 397, rfl⟩
abbrev main_cst_49 : Ref sig .tc := ⟨.hbm, 398, rfl⟩
abbrev main_v291 : Ref sig .tc := ⟨.hbm, 399, rfl⟩
abbrev main_v292 : Ref sig .tc := ⟨.hbm, 400, rfl⟩
abbrev main_v293 : Ref sig .tc := ⟨.hbm, 401, rfl⟩
abbrev main_v294 : Ref sig .tc := ⟨.hbm, 402, rfl⟩
abbrev main_v295 : Ref sig .tc := ⟨.hbm, 403, rfl⟩
abbrev main_cst_50 : Ref sig .tc := ⟨.hbm, 404, rfl⟩
abbrev main_v296 : Ref sig .tc := ⟨.hbm, 405, rfl⟩
abbrev main_v297 : Ref sig .tc := ⟨.hbm, 406, rfl⟩
abbrev main_cst_51 : Ref sig .tc := ⟨.hbm, 407, rfl⟩
abbrev main_v298 : Ref sig .tc := ⟨.hbm, 408, rfl⟩
abbrev main_v299 : Ref sig .tc := ⟨.hbm, 409, rfl⟩
abbrev main_v300 : Ref sig .tc := ⟨.hbm, 410, rfl⟩
abbrev main_cst_52 : Ref sig .tc := ⟨.hbm, 411, rfl⟩
abbrev main_v301 : Ref sig .tc := ⟨.hbm, 412, rfl⟩
abbrev main_v302 : Ref sig .tc := ⟨.hbm, 413, rfl⟩
abbrev main_v303 : Ref sig .tc := ⟨.hbm, 414, rfl⟩
abbrev main_cst_53 : Ref sig .tc := ⟨.hbm, 415, rfl⟩
abbrev main_v304 : Ref sig .tc := ⟨.hbm, 416, rfl⟩
abbrev main_v305 : Ref sig .tc := ⟨.hbm, 417, rfl⟩
abbrev main_v306 : Ref sig .tc := ⟨.hbm, 418, rfl⟩
abbrev main_v307 : Ref sig .tc := ⟨.hbm, 419, rfl⟩
abbrev main_cst_54 : Ref sig .tc := ⟨.hbm, 420, rfl⟩
abbrev main_v308 : Ref sig .tc := ⟨.hbm, 421, rfl⟩
abbrev main_cst_55 : Ref sig .tc := ⟨.hbm, 422, rfl⟩
abbrev main_v309 : Ref sig .tc := ⟨.hbm, 423, rfl⟩
abbrev main_v310 : Ref sig .tc := ⟨.hbm, 424, rfl⟩
abbrev main_cst_56 : Ref sig .tc := ⟨.hbm, 425, rfl⟩
abbrev main_v311 : Ref sig .tc := ⟨.hbm, 426, rfl⟩
abbrev main_v312 : Ref sig .tc := ⟨.hbm, 427, rfl⟩
abbrev main_cst_57 : Ref sig .tc := ⟨.hbm, 428, rfl⟩
abbrev main_v313 : Ref sig .tc := ⟨.hbm, 429, rfl⟩
abbrev main_v314 : Ref sig .tc := ⟨.hbm, 430, rfl⟩
abbrev main_cst_58 : Ref sig .tc := ⟨.hbm, 431, rfl⟩
abbrev main_v315 : Ref sig .tc := ⟨.hbm, 432, rfl⟩
abbrev main_v316 : Ref sig .tc := ⟨.hbm, 433, rfl⟩
abbrev main_cst_59 : Ref sig .tc := ⟨.hbm, 434, rfl⟩
abbrev main_v317 : Ref sig .tc := ⟨.hbm, 435, rfl⟩
abbrev main_v318 : Ref sig .tc := ⟨.hbm, 436, rfl⟩
abbrev main_v319 : Ref sig .tc := ⟨.hbm, 437, rfl⟩
abbrev main_cst_60 : Ref sig .tc := ⟨.hbm, 438, rfl⟩
abbrev main_v320 : Ref sig .tc := ⟨.hbm, 439, rfl⟩
abbrev main_v321 : Ref sig .tc := ⟨.hbm, 440, rfl⟩
abbrev main_cst_61 : Ref sig .tc := ⟨.hbm, 441, rfl⟩
abbrev main_v322 : Ref sig .tc := ⟨.hbm, 442, rfl⟩
abbrev main_v323 : Ref sig .tc := ⟨.hbm, 443, rfl⟩
abbrev main_cst_62 : Ref sig .tc := ⟨.hbm, 444, rfl⟩
abbrev main_v324 : Ref sig .tc := ⟨.hbm, 445, rfl⟩
abbrev main_v325 : Ref sig .tc := ⟨.hbm, 446, rfl⟩
abbrev main_v326 : Ref sig .tc := ⟨.hbm, 447, rfl⟩
abbrev main_v327 : Ref sig .tc := ⟨.hbm, 448, rfl⟩
abbrev main_cst_63 : Ref sig .tc := ⟨.hbm, 449, rfl⟩
abbrev main_v328 : Ref sig .tc := ⟨.hbm, 450, rfl⟩
abbrev main_v329 : Ref sig .tc := ⟨.hbm, 451, rfl⟩
abbrev main_cst_64 : Ref sig .tc := ⟨.hbm, 452, rfl⟩
abbrev main_v330 : Ref sig .tc := ⟨.hbm, 453, rfl⟩
abbrev main_v331 : Ref sig .tc := ⟨.hbm, 454, rfl⟩
abbrev main_v332 : Ref sig .tc := ⟨.hbm, 455, rfl⟩
abbrev main_v333 : Ref sig .tc := ⟨.hbm, 456, rfl⟩
abbrev main_cst_65 : Ref sig .tc := ⟨.hbm, 457, rfl⟩
abbrev main_v334 : Ref sig .tc := ⟨.hbm, 458, rfl⟩
abbrev main_v335 : Ref sig .tc := ⟨.hbm, 459, rfl⟩
abbrev main_cst_66 : Ref sig .tc := ⟨.hbm, 460, rfl⟩
abbrev main_v336 : Ref sig .tc := ⟨.hbm, 461, rfl⟩
abbrev main_v337 : Ref sig .tc := ⟨.hbm, 462, rfl⟩
abbrev main_v338 : Ref sig .tc := ⟨.hbm, 463, rfl⟩
abbrev main_v339 : Ref sig .tc := ⟨.hbm, 464, rfl⟩
abbrev main_v340 : Ref sig .tc := ⟨.hbm, 465, rfl⟩
abbrev main_v341 : Ref sig .tc := ⟨.hbm, 466, rfl⟩
abbrev main_cst_67 : Ref sig .tc := ⟨.hbm, 467, rfl⟩
abbrev main_v342 : Ref sig .tc := ⟨.hbm, 468, rfl⟩
abbrev main_v343 : Ref sig .tc := ⟨.hbm, 469, rfl⟩
abbrev main_cst_68 : Ref sig .tc := ⟨.hbm, 470, rfl⟩
abbrev main_v344 : Ref sig .tc := ⟨.hbm, 471, rfl⟩
abbrev main_v345 : Ref sig .tc := ⟨.hbm, 472, rfl⟩
abbrev main_v346 : Ref sig .tc := ⟨.hbm, 473, rfl⟩
abbrev main_v347 : Ref sig .tc := ⟨.hbm, 474, rfl⟩
abbrev main_v348 : Ref sig .tc := ⟨.hbm, 475, rfl⟩
abbrev main_v349 : Ref sig .tc := ⟨.hbm, 476, rfl⟩
abbrev main_v350 : Ref sig .tc := ⟨.hbm, 477, rfl⟩
abbrev main_v351 : Ref sig .tc := ⟨.hbm, 478, rfl⟩
abbrev main_cst_69 : Ref sig .tc := ⟨.hbm, 479, rfl⟩
abbrev main_v352 : Ref sig .tc := ⟨.hbm, 480, rfl⟩
abbrev main_v353 : Ref sig .tc := ⟨.hbm, 481, rfl⟩
abbrev main_v354 : Ref sig .tc := ⟨.hbm, 482, rfl⟩
abbrev main_v355 : Ref sig .tc := ⟨.hbm, 483, rfl⟩
abbrev main_v356 : Ref sig .tc := ⟨.hbm, 484, rfl⟩
abbrev main_cst_70 : Ref sig .tc := ⟨.hbm, 485, rfl⟩
abbrev main_v357 : Ref sig .tc := ⟨.hbm, 486, rfl⟩
abbrev main_v358 : Ref sig .tc := ⟨.hbm, 487, rfl⟩
abbrev main_v359 : Ref sig .tc := ⟨.hbm, 488, rfl⟩
abbrev main_v360 : Ref sig .tc := ⟨.hbm, 489, rfl⟩
abbrev main_v361 : Ref sig .tc := ⟨.hbm, 490, rfl⟩

abbrev nD : Nat := 1
abbrev τ : Topo := Topo.v7x

variable {F : FTy → Type} [FloatOps F]
-- ==== Kernel0.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S4x1x512 : Shape := ⟨3, ![4, 1, 512]⟩
abbrev S_ : Shape := ⟨0, ![]⟩
abbrev S4x4x512 : Shape := ⟨3, ![4, 4, 512]⟩
abbrev S4x8x512 : Shape := ⟨3, ![4, 8, 512]⟩
abbrev S4x3x1024 : Shape := ⟨3, ![4, 3, 1024]⟩
abbrev S4x1x1024 : Shape := ⟨3, ![4, 1, 1024]⟩
abbrev S4x8x1024 : Shape := ⟨3, ![4, 8, 1024]⟩
abbrev S1x8x1024 : Shape := ⟨3, ![1, 8, 1024]⟩
abbrev S8x1024 : Shape := ⟨2, ![8, 1024]⟩
abbrev S1x8x512 : Shape := ⟨3, ![1, 8, 512]⟩
abbrev S8x512 : Shape := ⟨2, ![8, 512]⟩
abbrev S1x4x128x128 : Shape := ⟨4, ![1, 4, 128, 128]⟩
abbrev S4x128x128 : Shape := ⟨3, ![4, 128, 128]⟩
abbrev S1x1024 : Shape := ⟨2, ![1, 1024]⟩
abbrev S1x512 : Shape := ⟨2, ![1, 512]⟩
abbrev S2048 : Shape := ⟨1, ![2048]⟩
abbrev S2048x1 : Shape := ⟨2, ![2048, 1]⟩
abbrev S2048x3072 : Shape := ⟨2, ![2048, 3072]⟩
abbrev S2048x512 : Shape := ⟨2, ![2048, 512]⟩
abbrev S2x512 : Shape := ⟨2, ![2, 512]⟩
abbrev S2046x512 : Shape := ⟨2, ![2046, 512]⟩
abbrev S2047x512 : Shape := ⟨2, ![2047, 512]⟩
abbrev S2048x1536 : Shape := ⟨2, ![2048, 1536]⟩
abbrev S2048x128 : Shape := ⟨2, ![2048, 128]⟩
abbrev S1x128 : Shape := ⟨2, ![1, 128]⟩
abbrev S2047x128 : Shape := ⟨2, ![2047, 128]⟩
abbrev S1x128x128 : Shape := ⟨3, ![1, 128, 128]⟩
abbrev S128x128 : Shape := ⟨2, ![128, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S2048x2048 : Shape := ⟨2, ![2048, 2048]⟩
abbrev S256x1024 : Shape := ⟨2, ![256, 1024]⟩
abbrev S16x1024 : Shape := ⟨2, ![16, 1024]⟩
abbrev S256x1536 : Shape := ⟨2, ![256, 1536]⟩
abbrev S256x2048 : Shape := ⟨2, ![256, 2048]⟩
abbrev S256x3072 : Shape := ⟨2, ![256, 3072]⟩
abbrev S16x512 : Shape := ⟨2, ![16, 512]⟩
abbrev S1x1x1024 : Shape := ⟨3, ![1, 1, 1024]⟩
abbrev S1x1x512 : Shape := ⟨3, ![1, 1, 512]⟩
abbrev S256 : Shape := ⟨1, ![256]⟩
abbrev S256x1 : Shape := ⟨2, ![256, 1]⟩
abbrev S1024 : Shape := ⟨1, ![1024]⟩
abbrev S256x512 : Shape := ⟨2, ![256, 512]⟩
abbrev S264x512 : Shape := ⟨2, ![264, 512]⟩
abbrev S512 : Shape := ⟨1, ![512]⟩
abbrev S256x128 : Shape := ⟨2, ![256, 128]⟩
abbrev S1x1x128x128 : Shape := ⟨4, ![1, 1, 128, 128]⟩
abbrev S16x128 : Shape := ⟨2, ![16, 128]⟩
abbrev S272x128 : Shape := ⟨2, ![272, 128]⟩

abbrev nBuf : Space → Nat
  | .hbm => 257
  | .vmem => 31
  | .smem => 0
  | _ => 0

abbrev hbmTy0_0 (i : Nat) : BufTy := match i % 128 with
  | 0 => ⟨S2048x1024, .f32⟩
  | 1 => ⟨S4x3072, .f32⟩
  | 2 => ⟨S4x1024, .f32⟩
  | 3 => ⟨S1024x3072, .f32⟩
  | 4 => ⟨S4x3x512, .f32⟩
  | 5 => ⟨S4x4x128x128, .f32⟩
  | 6 => ⟨S4x512, .f32⟩
  | 7 => ⟨S1024x1024, .f32⟩
  | 8 => ⟨S4x1024, .f32⟩
  | 9 => ⟨S2048x1024, .f32⟩
  | 10 => ⟨S4x1x512, .f32⟩
  | 11 => ⟨S_, .f32⟩
  | 12 => ⟨S4x4x512, .f32⟩
  | 13 => ⟨S4x8x512, .f32⟩
  | 14 => ⟨S4x4x128x128, .bf16⟩
  | 15 => ⟨S1024x3072, .bf16⟩
  | 16 => ⟨S1024x1024, .bf16⟩
  | 17 => ⟨S_, .f32⟩
  | 18 => ⟨S4x3x1024, .f32⟩
  | 19 => ⟨S4x3x1024, .f32⟩
  | 20 => ⟨S4x1x1024, .f32⟩
  | 21 => ⟨S4x1x1024, .f32⟩
  | 22 => ⟨S4x8x1024, .f32⟩
  | 23 => ⟨S1x8x1024, .f32⟩
  | 24 => ⟨S8x1024, .f32⟩
  | 25 => ⟨S1x8x512, .f32⟩
  | 26 => ⟨S8x512, .f32⟩
  | 27 => ⟨S1x4x128x128, .bf16⟩
  | 28 => ⟨S4x128x128, .bf16⟩
  | 29 => ⟨S1x1024, .f32⟩
  | 30 => ⟨S1x1024, .f32⟩
  | 31 => ⟨S1x1024, .f32⟩
  | 32 => ⟨S1x512, .f32⟩
  | 33 => ⟨S1x512, .f32⟩
  | 34 => ⟨S1x512, .f32⟩
  | 35 => ⟨S1x512, .f32⟩
  | 36 => ⟨S2048x1024, .f32⟩
  | 37 => ⟨S_, .f32⟩
  | 38 => ⟨S2048, .f32⟩
  | 39 => ⟨S2048x1, .f32⟩
  | 40 => ⟨S_, .f32⟩
  | 41 => ⟨S2048x1, .f32⟩
  | 42 => ⟨S2048x1, .f32⟩
  | 43 => ⟨S_, .f32⟩
  | 44 => ⟨S2048x1, .f32⟩
  | 45 => ⟨S2048x1, .f32⟩
  | 46 => ⟨S2048x1, .f32⟩
  | 47 => ⟨S2048x1024, .f32⟩
  | 48 => ⟨S2048x1024, .f32⟩
  | 49 => ⟨S2048x1024, .f32⟩
  | 50 => ⟨S2048x1024, .f32⟩
  | 51 => ⟨S_, .f32⟩
  | 52 => ⟨S1x1024, .f32⟩
  | 53 => ⟨S1x1024, .f32⟩
  | 54 => ⟨S2048x1024, .f32⟩
  | 55 => ⟨S2048x1024, .f32⟩
  | 56 => ⟨S2048x1024, .f32⟩
  | 57 => ⟨S2048x1024, .f32⟩
  | 58 => ⟨S2048x1024, .bf16⟩
  | 59 => ⟨S2048x3072, .f32⟩
  | 60 => ⟨S2048x512, .f32⟩
  | 61 => ⟨S2048x512, .f32⟩
  | 62 => ⟨S2048x512, .f32⟩
  | 63 => ⟨S2048x512, .f32⟩
  | 64 => ⟨S2048x512, .f32⟩
  | 65 => ⟨S2048x512, .f32⟩
  | 66 => ⟨S2048x1024, .f32⟩
  | 67 => ⟨S2048x1024, .bf16⟩
  | 68 => ⟨S2048x512, .f32⟩
  | 69 => ⟨S_, .f32⟩
  | 70 => ⟨S2x512, .f32⟩
  | 71 => ⟨S2046x512, .f32⟩
  | 72 => ⟨S2048x512, .f32⟩
  | 73 => ⟨S2048x512, .f32⟩
  | 74 => ⟨S2048x512, .f32⟩
  | 75 => ⟨S_, .f32⟩
  | 76 => ⟨S1x512, .f32⟩
  | 77 => ⟨S2047x512, .f32⟩
  | 78 => ⟨S2048x512, .f32⟩
  | 79 => ⟨S2048x512, .f32⟩
  | 80 => ⟨S2048x512, .f32⟩
  | 81 => ⟨S2048x512, .f32⟩
  | 82 => ⟨S2048x512, .f32⟩
  | 83 => ⟨S2048x512, .f32⟩
  | 84 => ⟨S2048x512, .f32⟩
  | 85 => ⟨S2048x512, .f32⟩
  | 86 => ⟨S2048x512, .f32⟩
  | 87 => ⟨S_, .f32⟩
  | 88 => ⟨S2048x512, .f32⟩
  | 89 => ⟨S2048x512, .f32⟩
  | 90 => ⟨S_, .f32⟩
  | 91 => ⟨S2048x512, .f32⟩
  | 92 => ⟨S2048x512, .f32⟩
  | 93 => ⟨S2048x512, .f32⟩
  | 94 => ⟨S2048x512, .f32⟩
  | 95 => ⟨S2048x512, .f32⟩
  | 96 => ⟨S2048x512, .f32⟩
  | 97 => ⟨S2048x512, .f32⟩
  | 98 => ⟨S_, .f32⟩
  | 99 => ⟨S2048x512, .f32⟩
  | 100 => ⟨S2048x512, .f32⟩
  | 101 => ⟨S2048x512, .f32⟩
  | 102 => ⟨S2048x512, .f32⟩
  | 103 => ⟨S2048x512, .f32⟩
  | 104 => ⟨S2048x1536, .f32⟩
  | 105 => ⟨S2048x1536, .bf16⟩
  | 106 => ⟨S2048x1, .i32⟩
  | 107 => ⟨S_, .i32⟩
  | 108 => ⟨S2048x1, .i32⟩
  | 109 => ⟨S2048x1, .i32⟩
  | 110 => ⟨S2048x1, .f32⟩
  | 111 => ⟨S2048x128, .f32⟩
  | 112 => ⟨S_, .f32⟩
  | 113 => ⟨S1x128, .f32⟩
  | 114 => ⟨S2047x128, .f32⟩
  | 115 => ⟨S2048x128, .f32⟩
  | 116 => ⟨S2048x128, .f32⟩
  | 117 => ⟨S_, .f32⟩
  | 118 => ⟨S2048x1, .f32⟩
  | 119 => ⟨S2048x1, .f32⟩
  | 120 => ⟨S_, .f32⟩
  | 121 => ⟨S2048x1, .f32⟩
  | 122 => ⟨S2048x1, .f32⟩
  | 123 => ⟨S2048x128, .f32⟩
  | 124 => ⟨S2048x128, .f32⟩
  | 125 => ⟨S2048x128, .f32⟩
  | 126 => ⟨S2048x128, .f32⟩
  | 127 => ⟨S2048x128, .bf16⟩
  | _ => ⟨S2048x1024, .f32⟩

abbrev hbmTy0_1 (i : Nat) : BufTy := match i % 128 with
  | 0 => ⟨S1x128x128, .bf16⟩
  | 1 => ⟨S128x128, .bf16⟩
  | 2 => ⟨S2048x128, .f32⟩
  | 3 => ⟨S2048x128, .f32⟩
  | 4 => ⟨S_, .f32⟩
  | 5 => ⟨S1x128, .f32⟩
  | 6 => ⟨S2047x128, .f32⟩
  | 7 => ⟨S2048x128, .f32⟩
  | 8 => ⟨S2048x128, .f32⟩
  | 9 => ⟨S_, .f32⟩
  | 10 => ⟨S2x128, .f32⟩
  | 11 => ⟨S2046x128, .f32⟩
  | 12 => ⟨S2048x128, .f32⟩
  | 13 => ⟨S2048x128, .f32⟩
  | 14 => ⟨S_, .f32⟩
  | 15 => ⟨S2048x1, .f32⟩
  | 16 => ⟨S2048x1, .f32⟩
  | 17 => ⟨S_, .f32⟩
  | 18 => ⟨S2048x1, .f32⟩
  | 19 => ⟨S2048x1, .f32⟩
  | 20 => ⟨S2048x128, .f32⟩
  | 21 => ⟨S2048x128, .f32⟩
  | 22 => ⟨S2048x128, .f32⟩
  | 23 => ⟨S2048x128, .f32⟩
  | 24 => ⟨S2048x128, .bf16⟩
  | 25 => ⟨S1x128x128, .bf16⟩
  | 26 => ⟨S128x128, .bf16⟩
  | 27 => ⟨S2048x128, .f32⟩
  | 28 => ⟨S2048x128, .f32⟩
  | 29 => ⟨S_, .f32⟩
  | 30 => ⟨S1x128, .f32⟩
  | 31 => ⟨S2047x128, .f32⟩
  | 32 => ⟨S2048x128, .f32⟩
  | 33 => ⟨S2048x128, .f32⟩
  | 34 => ⟨S_, .f32⟩
  | 35 => ⟨S2x128, .f32⟩
  | 36 => ⟨S2046x128, .f32⟩
  | 37 => ⟨S2048x128, .f32⟩
  | 38 => ⟨S2048x128, .f32⟩
  | 39 => ⟨S_, .f32⟩
  | 40 => ⟨S4x128, .f32⟩
  | 41 => ⟨S2044x128, .f32⟩
  | 42 => ⟨S2048x128, .f32⟩
  | 43 => ⟨S2048x128, .f32⟩
  | 44 => ⟨S_, .f32⟩
  | 45 => ⟨S2048x1, .f32⟩
  | 46 => ⟨S2048x1, .f32⟩
  | 47 => ⟨S_, .f32⟩
  | 48 => ⟨S2048x1, .f32⟩
  | 49 => ⟨S2048x1, .f32⟩
  | 50 => ⟨S2048x128, .f32⟩
  | 51 => ⟨S2048x128, .f32⟩
  | 52 => ⟨S2048x128, .f32⟩
  | 53 => ⟨S2048x128, .f32⟩
  | 54 => ⟨S2048x128, .bf16⟩
  | 55 => ⟨S1x128x128, .bf16⟩
  | 56 => ⟨S128x128, .bf16⟩
  | 57 => ⟨S2048x128, .f32⟩
  | 58 => ⟨S2048x128, .f32⟩
  | 59 => ⟨S_, .f32⟩
  | 60 => ⟨S1x128, .f32⟩
  | 61 => ⟨S2047x128, .f32⟩
  | 62 => ⟨S2048x128, .f32⟩
  | 63 => ⟨S2048x128, .f32⟩
  | 64 => ⟨S_, .f32⟩
  | 65 => ⟨S2x128, .f32⟩
  | 66 => ⟨S2046x128, .f32⟩
  | 67 => ⟨S2048x128, .f32⟩
  | 68 => ⟨S2048x128, .f32⟩
  | 69 => ⟨S_, .f32⟩
  | 70 => ⟨S4x128, .f32⟩
  | 71 => ⟨S2044x128, .f32⟩
  | 72 => ⟨S2048x128, .f32⟩
  | 73 => ⟨S2048x128, .f32⟩
  | 74 => ⟨S_, .f32⟩
  | 75 => ⟨S8x128, .f32⟩
  | 76 => ⟨S2040x128, .f32⟩
  | 77 => ⟨S2048x128, .f32⟩
  | 78 => ⟨S2048x128, .f32⟩
  | 79 => ⟨S_, .f32⟩
  | 80 => ⟨S2048x1, .f32⟩
  | 81 => ⟨S2048x1, .f32⟩
  | 82 => ⟨S_, .f32⟩
  | 83 => ⟨S2048x1, .f32⟩
  | 84 => ⟨S2048x1, .f32⟩
  | 85 => ⟨S2048x128, .f32⟩
  | 86 => ⟨S2048x128, .f32⟩
  | 87 => ⟨S2048x128, .f32⟩
  | 88 => ⟨S2048x128, .f32⟩
  | 89 => ⟨S2048x128, .bf16⟩
  | 90 => ⟨S1x128x128, .bf16⟩
  | 91 => ⟨S128x128, .bf16⟩
  | 92 => ⟨S2048x128, .f32⟩
  | 93 => ⟨S2048x512, .f32⟩
  | 94 => ⟨S2048x512, .f32⟩
  | 95 => ⟨S2048x512, .f32⟩
  | 96 => ⟨S_, .f32⟩
  | 97 => ⟨S2048x512, .f32⟩
  | 98 => ⟨S2048x512, .f32⟩
  | 99 => ⟨S_, .f32⟩
  | 100 => ⟨S2048x512, .f32⟩
  | 101 => ⟨S2048x512, .f32⟩
  | 102 => ⟨S2048x512, .f32⟩
  | 103 => ⟨S2048x512, .f32⟩
  | 104 => ⟨S2048x512, .f32⟩
  | 105 => ⟨S2048x512, .f32⟩
  | 106 => ⟨S2048x512, .f32⟩
  | 107 => ⟨S2048x512, .f32⟩
  | 108 => ⟨S2048x512, .bf16⟩
  | 109 => ⟨S_, .f32⟩
  | 110 => ⟨S2048x512, .f32⟩
  | 111 => ⟨S2048x512, .f32⟩
  | 112 => ⟨S2048x512, .f32⟩
  | 113 => ⟨S2048x512, .f32⟩
  | 114 => ⟨S2048x512, .f32⟩
  | 115 => ⟨S2048x512, .bf16⟩
  | 116 => ⟨S2048x512, .f32⟩
  | 117 => ⟨S2048x512, .bf16⟩
  | 118 => ⟨S2048x2048, .bf16⟩
  | 119 => ⟨S2048x1024, .f32⟩
  | 120 => ⟨S2048x1024, .bf16⟩
  | 121 => ⟨S2048x1024, .f32⟩
  | 122 => ⟨S2048x1024, .bf16⟩
  | 123 => ⟨S2048x1024, .f32⟩
  | 124 => ⟨S2048x3072, .bf16⟩
  | 125 => ⟨S2048x1024, .bf16⟩
  | 126 => ⟨S4x128x128, .bf16⟩
  | 127 => ⟨S8x512, .f32⟩
  | _ => ⟨S2048x1024, .f32⟩

abbrev hbmTy0_2 (i : Nat) : BufTy := match i % 128 with
  | 0 => ⟨S8x1024, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S256x1536, .bf16⟩
  | .local _ .vmem, ⟨11, _⟩ => ⟨S256x1536, .bf16⟩
  | .local _ .vmem, ⟨12, _⟩ => ⟨S256x2048, .bf16⟩
  | .local _ .vmem, ⟨13, _⟩ => ⟨S256x2048, .bf16⟩
  | .local _ .vmem, ⟨14, _⟩ => ⟨S1x8x1024, .f32⟩
  | .local _ .vmem, ⟨15, _⟩ => ⟨S1x8x512, .f32⟩
  | .local _ .vmem, ⟨16, _⟩ => ⟨S1x4x128x128, .bf16⟩
  | .local _ .vmem, ⟨17, _⟩ => ⟨S1024x1024, .bf16⟩
  | .local _ .vmem, ⟨18, _⟩ => ⟨S1024x3072, .bf16⟩
  | .local _ .vmem, ⟨19, _⟩ => ⟨S256x1024, .f32⟩
  | .local _ .vmem, ⟨20, _⟩ => ⟨S256x1024, .f32⟩
  | .local _ .vmem, ⟨21, _⟩ => ⟨S256x3072, .bf16⟩
  | .local _ .vmem, ⟨22, _⟩ => ⟨S256x3072, .bf16⟩
  | .local _ .vmem, ⟨23, _⟩ => ⟨S256x1024, .bf16⟩
  | .local _ .vmem, ⟨24, _⟩ => ⟨S256x1024, .bf16⟩
  | .local _ .vmem, ⟨25, _⟩ => ⟨S4x128x128, .bf16⟩
  | .local _ .vmem, ⟨26, _⟩ => ⟨S8x512, .f32⟩
  | .local _ .vmem, ⟨27, _⟩ => ⟨S8x1024, .f32⟩
  | .local _ .vmem, ⟨28, _⟩ => ⟨S4x128x128, .f32⟩
  | .local _ .vmem, ⟨29, _⟩ => ⟨S8x512, .f32⟩
  | .local _ .vmem, ⟨30, _⟩ => ⟨S16x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_7 : Ref sig .tc := ⟨.hbm, 87, rfl⟩
abbrev main_v69 : Ref sig .tc := ⟨.hbm, 88, rfl⟩
abbrev main_v70 : Ref sig .tc := ⟨.hbm, 89, rfl⟩
abbrev main_cst_8 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_9 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_c : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_10 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_11 : Ref sig .tc := ⟨.hbm, 117, rfl⟩
abbrev main_v94 : Ref sig .tc := ⟨.hbm, 118, rfl⟩
abbrev main_v95 : Ref sig .tc := ⟨.hbm, 119, rfl⟩
abbrev main_cst_12 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_13 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_cst_14 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_15 : Ref sig .tc := ⟨.hbm, 142, rfl⟩
abbrev main_v115 : Ref sig .tc := ⟨.hbm, 143, rfl⟩
abbrev main_v116 : Ref sig .tc := ⟨.hbm, 144, rfl⟩
abbrev main_cst_16 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_17 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_18 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_cst_19 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_20 : Ref sig .tc := ⟨.hbm, 172, rfl⟩
abbrev main_v140 : Ref sig .tc := ⟨.hbm, 173, rfl⟩
abbrev main_v141 : Ref sig .tc := ⟨.hbm, 174, rfl⟩
abbrev main_cst_21 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_22 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_cst_23 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_cst_24 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_cst_25 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_cst_26 : Ref sig .tc := ⟨.hbm, 207, rfl⟩
abbrev main_v169 : Ref sig .tc := ⟨.hbm, 208, rfl⟩
abbrev main_v170 : Ref sig .tc := ⟨.hbm, 209, rfl⟩
abbrev main_cst_27 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_cst_28 : Ref sig .tc := ⟨.hbm, 224, rfl⟩
abbrev main_v184 : Ref sig .tc := ⟨.hbm, 225, rfl⟩
abbrev main_v185 : Ref sig .tc := ⟨.hbm, 226, rfl⟩
abbrev main_cst_29 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_cst_30 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208_0 : Ref sig .tc := ⟨.hbm, 251, rfl⟩
abbrev main_v208_1 : Ref sig .tc := ⟨.hbm, 252, rfl⟩
abbrev main_v208_2 : Ref sig .tc := ⟨.hbm, 253, rfl⟩
abbrev main_v208_3 : Ref sig .tc := ⟨.hbm, 254, rfl⟩
abbrev main_v208_4 : Ref sig .tc := ⟨.hbm, 255, rfl⟩
abbrev main_v208_5 : Ref sig .tc := ⟨.hbm, 256, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_170 : BitVec 32 := 7#32
  let v322 : BitVec 1 := Scalar.cmpi .eq arg0 c7_i32_170
  let v323 : BitVec 32 := Scalar.extui v322
  let c0_i32_171 : BitVec 32 := 0#32
  let v324 : BitVec 1 := Scalar.cmpi .ne v323 c0_i32_171
  v324

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference0Ideal.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S1x3072 : Shape := ⟨2, ![1, 3072]⟩
abbrev S3072 : Shape := ⟨1, ![3072]⟩
abbrev S1x1024 : Shape := ⟨2, ![1, 1024]⟩
abbrev S1024 : Shape := ⟨1, ![1024]⟩
abbrev S1x3x512 : Shape := ⟨3, ![1, 3, 512]⟩
abbrev S3x512 : Shape := ⟨2, ![3, 512]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩
abbrev S_ : Shape := ⟨0, ![]⟩
abbrev S2048x3072 : Shape := ⟨2, ![2048, 3072]⟩
abbrev S2048 : Shape := ⟨1, ![2048]⟩
abbrev S2048x1 : Shape := ⟨2, ![2048, 1]⟩
abbrev S2048x512 : Shape := ⟨2, ![2048, 512]⟩
abbrev S2x512 : Shape := ⟨2, ![2, 512]⟩
abbrev S2046x512 : Shape := ⟨2, ![2046, 512]⟩
abbrev S2047x512 : Shape := ⟨2, ![2047, 512]⟩
abbrev S2048x128 : Shape := ⟨2, ![2048, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S2048x1x128 : Shape := ⟨3, ![2048, 1, 128]⟩
abbrev S2048x4x128 : Shape := ⟨3, ![2048, 4, 128]⟩
abbrev S4x128x2048 : Shape := ⟨3, ![4, 128, 2048]⟩
abbrev S4x2048x128 : Shape := ⟨3, ![4, 2048, 128]⟩
abbrev S8x512 : Shape := ⟨2, ![8, 512]⟩
abbrev S3x1024 : Shape := ⟨2, ![3, 1024]⟩
abbrev S8x1024 : Shape := ⟨2, ![8, 1024]⟩

abbrev nBuf : Space → Nat
  | .hbm => 491
  | .vmem => 0
  | .smem => 0
  | _ => 0

abbrev hbmTy0_0 (i : Nat) : BufTy := match i % 128 with
  | 0 => ⟨S2048x1024, .f32⟩
  | 1 => ⟨S4x3072, .f32⟩
  | 2 => ⟨S4x1024, .f32⟩
  | 3 => ⟨S1024x3072, .f32⟩
  | 4 => ⟨S4x3x512, .f32⟩
  | 5 => ⟨S4x4x128x128, .f32⟩
  | 6 => ⟨S4x512, .f32⟩
  | 7 => ⟨S1024x1024, .f32⟩
  | 8 => ⟨S4x1024, .f32⟩
  | 9 => ⟨S2048x1024, .f32⟩
  | 10 => ⟨S1x3072, .f32⟩
  | 11 => ⟨S3072, .f32⟩
  | 12 => ⟨S1x1024, .f32⟩
  | 13 => ⟨S1024, .f32⟩
  | 14 => ⟨S1x3x512, .f32⟩
  | 15 => ⟨S3x512, .f32⟩
  | 16 => ⟨S1x4x128x128, .f32⟩
  | 17 => ⟨S4x128x128, .f32⟩
  | 18 => ⟨S1x512, .f32⟩
  | 19 => ⟨S512, .f32⟩
  | 20 => ⟨S1x1024, .f32⟩
  | 21 => ⟨S1024, .f32⟩
  | 22 => ⟨S_, .f32⟩
  | 23 => ⟨S2048x3072, .f32⟩
  | 24 => ⟨S_, .f32⟩
  | 25 => ⟨S2048x1024, .f32⟩
  | 26 => ⟨S1024, .f32⟩
  | 27 => ⟨S1024, .f32⟩
  | 28 => ⟨S1024, .f32⟩
  | 29 => ⟨S2048x1024, .f32⟩
  | 30 => ⟨S_, .f32⟩
  | 31 => ⟨S2048, .f32⟩
  | 32 => ⟨S2048x1, .f32⟩
  | 33 => ⟨S_, .f32⟩
  | 34 => ⟨S2048x1, .f32⟩
  | 35 => ⟨S2048x1, .f32⟩
  | 36 => ⟨S_, .f32⟩
  | 37 => ⟨S2048x1, .f32⟩
  | 38 => ⟨S2048x1, .f32⟩
  | 39 => ⟨S2048x1, .f32⟩
  | 40 => ⟨S2048x1, .f32⟩
  | 41 => ⟨S_, .f32⟩
  | 42 => ⟨S2048x1, .f32⟩
  | 43 => ⟨S2048x1, .f32⟩
  | 44 => ⟨S2048x1024, .f32⟩
  | 45 => ⟨S2048x1024, .f32⟩
  | 46 => ⟨S1x1024, .f32⟩
  | 47 => ⟨S2048x1024, .f32⟩
  | 48 => ⟨S2048x1024, .f32⟩
  | 49 => ⟨S_, .f32⟩
  | 50 => ⟨S1024, .f32⟩
  | 51 => ⟨S1024, .f32⟩
  | 52 => ⟨S1x1024, .f32⟩
  | 53 => ⟨S2048x1024, .f32⟩
  | 54 => ⟨S2048x1024, .f32⟩
  | 55 => ⟨S1x1024, .f32⟩
  | 56 => ⟨S2048x1024, .f32⟩
  | 57 => ⟨S2048x1024, .f32⟩
  | 58 => ⟨S2048x3072, .f32⟩
  | 59 => ⟨S2048x3072, .f32⟩
  | 60 => ⟨S2048x512, .f32⟩
  | 61 => ⟨S2048x512, .f32⟩
  | 62 => ⟨S2048x512, .f32⟩
  | 63 => ⟨S2048x512, .f32⟩
  | 64 => ⟨S2048x512, .f32⟩
  | 65 => ⟨S2048x512, .f32⟩
  | 66 => ⟨S2048x512, .f32⟩
  | 67 => ⟨S1x512, .f32⟩
  | 68 => ⟨S512, .f32⟩
  | 69 => ⟨S_, .f32⟩
  | 70 => ⟨S2x512, .f32⟩
  | 71 => ⟨S2046x512, .f32⟩
  | 72 => ⟨S2048x512, .f32⟩
  | 73 => ⟨S_, .f32⟩
  | 74 => ⟨S2x512, .f32⟩
  | 75 => ⟨S1x512, .f32⟩
  | 76 => ⟨S2048x512, .f32⟩
  | 77 => ⟨S2048x512, .f32⟩
  | 78 => ⟨S1x512, .f32⟩
  | 79 => ⟨S512, .f32⟩
  | 80 => ⟨S_, .f32⟩
  | 81 => ⟨S1x512, .f32⟩
  | 82 => ⟨S2047x512, .f32⟩
  | 83 => ⟨S2048x512, .f32⟩
  | 84 => ⟨S_, .f32⟩
  | 85 => ⟨S1x512, .f32⟩
  | 86 => ⟨S1x512, .f32⟩
  | 87 => ⟨S2048x512, .f32⟩
  | 88 => ⟨S2048x512, .f32⟩
  | 89 => ⟨S2048x512, .f32⟩
  | 90 => ⟨S1x512, .f32⟩
  | 91 => ⟨S512, .f32⟩
  | 92 => ⟨S1x512, .f32⟩
  | 93 => ⟨S2048x512, .f32⟩
  | 94 => ⟨S2048x512, .f32⟩
  | 95 => ⟨S2048x512, .f32⟩
  | 96 => ⟨S2048x512, .f32⟩
  | 97 => ⟨S2048x512, .f32⟩
  | 98 => ⟨S2048x512, .f32⟩
  | 99 => ⟨S_, .f32⟩
  | 100 => ⟨S2048x512, .f32⟩
  | 101 => ⟨S2048x512, .f32⟩
  | 102 => ⟨S_, .f32⟩
  | 103 => ⟨S2048x512, .f32⟩
  | 104 => ⟨S2048x512, .f32⟩
  | 105 => ⟨S_, .f32⟩
  | 106 => ⟨S2048x512, .f32⟩
  | 107 => ⟨S2048x512, .f32⟩
  | 108 => ⟨S2048x512, .f32⟩
  | 109 => ⟨S2048x512, .f32⟩
  | 110 => ⟨S2048x512, .f32⟩
  | 111 => ⟨S2048, .i32⟩
  | 112 => ⟨S_, .i32⟩
  | 113 => ⟨S2048, .i32⟩
  | 114 => ⟨S2048, .i32⟩
  | 115 => ⟨S2048, .f32⟩
  | 116 => ⟨S2048x1, .f32⟩
  | 117 => ⟨S2048x128, .f32⟩
  | 118 => ⟨S_, .f32⟩
  | 119 => ⟨S_, .f32⟩
  | 120 => ⟨S2048x128, .f32⟩
  | 121 => ⟨S_, .f32⟩
  | 122 => ⟨S2x128, .f32⟩
  | 123 => ⟨S2046x128, .f32⟩
  | 124 => ⟨S2048x128, .f32⟩
  | 125 => ⟨S_, .f32⟩
  | 126 => ⟨S2x128, .f32⟩
  | 127 => ⟨S2048x128, .f32⟩
  | _ => ⟨S2048x1024, .f32⟩

abbrev hbmTy0_1 (i : Nat) : BufTy := match i % 128 with
  | 0 => ⟨S_, .f32⟩
  | 1 => ⟨S2048x1, .f32⟩
  | 2 => ⟨S2048x1, .f32⟩
  | 3 => ⟨S2048x128, .f32⟩
  | 4 => ⟨S2048x128, .f32⟩
  | 5 => ⟨S2048x128, .f32⟩
  | 6 => ⟨S2048x128, .f32⟩
  | 7 => ⟨S_, .f32⟩
  | 8 => ⟨S_, .f32⟩
  | 9 => ⟨S2048x128, .f32⟩
  | 10 => ⟨S_, .f32⟩
  | 11 => ⟨S4x128, .f32⟩
  | 12 => ⟨S2044x128, .f32⟩
  | 13 => ⟨S2048x128, .f32⟩
  | 14 => ⟨S_, .f32⟩
  | 15 => ⟨S4x128, .f32⟩
  | 16 => ⟨S2048x128, .f32⟩
  | 17 => ⟨S_, .f32⟩
  | 18 => ⟨S2048x1, .f32⟩
  | 19 => ⟨S2048x1, .f32⟩
  | 20 => ⟨S2048x128, .f32⟩
  | 21 => ⟨S2048x128, .f32⟩
  | 22 => ⟨S2048x128, .f32⟩
  | 23 => ⟨S2048x128, .f32⟩
  | 24 => ⟨S_, .f32⟩
  | 25 => ⟨S_, .f32⟩
  | 26 => ⟨S2048x128, .f32⟩
  | 27 => ⟨S_, .f32⟩
  | 28 => ⟨S8x128, .f32⟩
  | 29 => ⟨S2040x128, .f32⟩
  | 30 => ⟨S2048x128, .f32⟩
  | 31 => ⟨S_, .f32⟩
  | 32 => ⟨S8x128, .f32⟩
  | 33 => ⟨S2048x128, .f32⟩
  | 34 => ⟨S_, .f32⟩
  | 35 => ⟨S2048x1, .f32⟩
  | 36 => ⟨S2048x1, .f32⟩
  | 37 => ⟨S2048x128, .f32⟩
  | 38 => ⟨S2048x128, .f32⟩
  | 39 => ⟨S2048x128, .f32⟩
  | 40 => ⟨S2048x128, .f32⟩
  | 41 => ⟨S_, .f32⟩
  | 42 => ⟨S_, .f32⟩
  | 43 => ⟨S2048x128, .f32⟩
  | 44 => ⟨S_, .f32⟩
  | 45 => ⟨S16x128, .f32⟩
  | 46 => ⟨S2032x128, .f32⟩
  | 47 => ⟨S2048x128, .f32⟩
  | 48 => ⟨S_, .f32⟩
  | 49 => ⟨S16x128, .f32⟩
  | 50 => ⟨S2048x128, .f32⟩
  | 51 => ⟨S_, .f32⟩
  | 52 => ⟨S2048x1, .f32⟩
  | 53 => ⟨S2048x1, .f32⟩
  | 54 => ⟨S2048x128, .f32⟩
  | 55 => ⟨S2048x128, .f32⟩
  | 56 => ⟨S2048x128, .f32⟩
  | 57 => ⟨S2048x1x128, .f32⟩
  | 58 => ⟨S2048x1x128, .f32⟩
  | 59 => ⟨S2048x1x128, .f32⟩
  | 60 => ⟨S2048x1x128, .f32⟩
  | 61 => ⟨S2048x4x128, .f32⟩
  | 62 => ⟨S4x128x2048, .f32⟩
  | 63 => ⟨S2048x4x128, .f32⟩
  | 64 => ⟨S2048x512, .f32⟩
  | 65 => ⟨S1x512, .f32⟩
  | 66 => ⟨S2048x512, .f32⟩
  | 67 => ⟨S2048x512, .f32⟩
  | 68 => ⟨S2048x512, .f32⟩
  | 69 => ⟨S2048x512, .f32⟩
  | 70 => ⟨S_, .f32⟩
  | 71 => ⟨S2048x512, .f32⟩
  | 72 => ⟨S2048x512, .f32⟩
  | 73 => ⟨S_, .f32⟩
  | 74 => ⟨S2048x512, .f32⟩
  | 75 => ⟨S2048x512, .f32⟩
  | 76 => ⟨S_, .f32⟩
  | 77 => ⟨S2048x512, .f32⟩
  | 78 => ⟨S2048x512, .f32⟩
  | 79 => ⟨S2048x512, .f32⟩
  | 80 => ⟨S2048x512, .f32⟩
  | 81 => ⟨S2048x512, .f32⟩
  | 82 => ⟨S2048x1024, .f32⟩
  | 83 => ⟨S2048x1024, .f32⟩
  | 84 => ⟨S2048x1024, .f32⟩
  | 85 => ⟨S2048x1024, .f32⟩
  | 86 => ⟨S_, .f32⟩
  | 87 => ⟨S2048, .f32⟩
  | 88 => ⟨S2048x1, .f32⟩
  | 89 => ⟨S_, .f32⟩
  | 90 => ⟨S2048x1, .f32⟩
  | 91 => ⟨S2048x1, .f32⟩
  | 92 => ⟨S_, .f32⟩
  | 93 => ⟨S2048x1, .f32⟩
  | 94 => ⟨S2048x1, .f32⟩
  | 95 => ⟨S2048x1, .f32⟩
  | 96 => ⟨S2048x1, .f32⟩
  | 97 => ⟨S_, .f32⟩
  | 98 => ⟨S2048x1, .f32⟩
  | 99 => ⟨S2048x1, .f32⟩
  | 100 => ⟨S2048x1024, .f32⟩
  | 101 => ⟨S2048x1024, .f32⟩
  | 102 => ⟨S1x1024, .f32⟩
  | 103 => ⟨S2048x1024, .f32⟩
  | 104 => ⟨S2048x1024, .f32⟩
  | 105 => ⟨S1x1024, .f32⟩
  | 106 => ⟨S2048x1024, .f32⟩
  | 107 => ⟨S2048x1024, .f32⟩
  | 108 => ⟨S2048x1024, .f32⟩
  | 109 => ⟨S2048x1024, .f32⟩
  | 110 => ⟨S2048x1024, .f32⟩
  | 111 => ⟨S2048x1024, .f32⟩
  | 112 => ⟨S2048x1024, .f32⟩
  | 113 => ⟨S_, .f32⟩
  | 114 => ⟨S1024, .f32⟩
  | 115 => ⟨S1x1024, .f32⟩
  | 116 => ⟨S_, .f32⟩
  | 117 => ⟨S1024, .f32⟩
  | 118 => ⟨S2048x1024, .f32⟩
  | 119 => ⟨S_, .f32⟩
  | 120 => ⟨S1024, .f32⟩
  | 121 => ⟨S1x1024, .f32⟩
  | 122 => ⟨S2048x1024, .f32⟩
  | 123 => ⟨S2048x1024, .f32⟩
  | 124 => ⟨S_, .f32⟩
  | 125 => ⟨S1024, .f32⟩
  | 126 => ⟨S2048x1024, .f32⟩
  | 127 => ⟨S_, .f32⟩
  | _ => ⟨S2048x1024, .f32⟩

abbrev hbmTy0_2 (i : Nat) : BufTy := match i % 128 with
  | 0 => ⟨S2048, .f32⟩
  | 1 => ⟨S2048x1, .f32⟩
  | 2 => ⟨S2048x1024, .f32⟩
  | 3 => ⟨S2048x1024, .f32⟩
  | 4 => ⟨S2048x1, .f32⟩
  | 5 => ⟨S_, .f32⟩
  | 6 => ⟨S2048x1, .f32⟩
  | 7 => ⟨S2048x1, .f32⟩
  | 8 => ⟨S_, .f32⟩
  | 9 => ⟨S2048, .f32⟩
  | 10 => ⟨S2048x1024, .f32⟩
  | 11 => ⟨S2048x1024, .f32⟩
  | 12 => ⟨S2048x1024, .f32⟩
  | 13 => ⟨S2048x1024, .f32⟩
  | 14 => ⟨S2048x1024, .f32⟩
  | 15 => ⟨S2048x1024, .f32⟩
  | 16 => ⟨S2048x512, .f32⟩
  | 17 => ⟨S2048x512, .f32⟩
  | 18 => ⟨S2048x512, .f32⟩
  | 19 => ⟨S2048x512, .f32⟩
  | 20 => ⟨S2048x512, .f32⟩
  | 21 => ⟨S2048x512, .f32⟩
  | 22 => ⟨S2048x512, .f32⟩
  | 23 => ⟨S2048x512, .f32⟩
  | 24 => ⟨S2048x512, .f32⟩
  | 25 => ⟨S_, .f32⟩
  | 26 => ⟨S512, .f32⟩
  | 27 => ⟨S1x512, .f32⟩
  | 28 => ⟨S2048x512, .f32⟩
  | 29 => ⟨S2048x512, .f32⟩
  | 30 => ⟨S_, .f32⟩
  | 31 => ⟨S512, .f32⟩
  | 32 => ⟨S2048x4x128, .f32⟩
  | 33 => ⟨S4x128x2048, .f32⟩
  | 34 => ⟨S4x2048x128, .f32⟩
  | 35 => ⟨S2048x4x128, .f32⟩
  | 36 => ⟨S4x128x128, .f32⟩
  | 37 => ⟨S4x128x128, .f32⟩
  | 38 => ⟨S2048x1x128, .f32⟩
  | 39 => ⟨S2048x128, .f32⟩
  | 40 => ⟨S2048x1x128, .f32⟩
  | 41 => ⟨S2048x128, .f32⟩
  | 42 => ⟨S2048x1x128, .f32⟩
  | 43 => ⟨S2048x128, .f32⟩
  | 44 => ⟨S2048x1x128, .f32⟩
  | 45 => ⟨S2048x128, .f32⟩
  | 46 => ⟨S2048x128, .f32⟩
  | 47 => ⟨S2048x128, .f32⟩
  | 48 => ⟨S2048x128, .f32⟩
  | 49 => ⟨S2048x128, .f32⟩
  | 50 => ⟨S16x128, .f32⟩
  | 51 => ⟨S2032x128, .f32⟩
  | 52 => ⟨S_, .f32⟩
  | 53 => ⟨S2048x128, .f32⟩
  | 54 => ⟨S2048x128, .f32⟩
  | 55 => ⟨S_, .f32⟩
  | 56 => ⟨S_, .f32⟩
  | 57 => ⟨S2048x128, .f32⟩
  | 58 => ⟨S2048x128, .f32⟩
  | 59 => ⟨S_, .f32⟩
  | 60 => ⟨S2048x512, .f32⟩
  | 61 => ⟨S2048x128, .f32⟩
  | 62 => ⟨S2048x128, .f32⟩
  | 63 => ⟨S2048x128, .f32⟩
  | 64 => ⟨S2048x128, .f32⟩
  | 65 => ⟨S8x128, .f32⟩
  | 66 => ⟨S2040x128, .f32⟩
  | 67 => ⟨S_, .f32⟩
  | 68 => ⟨S2048x128, .f32⟩
  | 69 => ⟨S2048x128, .f32⟩
  | 70 => ⟨S_, .f32⟩
  | 71 => ⟨S_, .f32⟩
  | 72 => ⟨S2048x128, .f32⟩
  | 73 => ⟨S2048x128, .f32⟩
  | 74 => ⟨S_, .f32⟩
  | 75 => ⟨S2048x512, .f32⟩
  | 76 => ⟨S2048x512, .f32⟩
  | 77 => ⟨S2048x128, .f32⟩
  | 78 => ⟨S2048x128, .f32⟩
  | 79 => ⟨S2048x128, .f32⟩
  | 80 => ⟨S2048x128, .f32⟩
  | 81 => ⟨S4x128, .f32⟩
  | 82 => ⟨S2044x128, .f32⟩
  | 83 => ⟨S_, .f32⟩
  | 84 => ⟨S2048x128, .f32⟩
  | 85 => ⟨S2048x128, .f32⟩
  | 86 => ⟨S_, .f32⟩
  | 87 => ⟨S_, .f32⟩
  | 88 => ⟨S2048x128, .f32⟩
  | 89 => ⟨S2048x128, .f32⟩
  | 90 => ⟨S_, .f32⟩
  | 91 => ⟨S2048x512, .f32⟩
  | 92 => ⟨S2048x512, .f32⟩
  | 93 => ⟨S2048x128, .f32⟩
  | 94 => ⟨S2048x128, .f32⟩
  | 95 => ⟨S2048x128, .f32⟩
  | 96 => ⟨S2048x128, .f32⟩
  | 97 => ⟨S2x128, .f32⟩
  | 98 => ⟨S2046x128, .f32⟩
  | 99 => ⟨S_, .f32⟩
  | 100 => ⟨S2048x128, .f32⟩
  | 101 => ⟨S2048x128, .f32⟩
  | 102 => ⟨S_, .f32⟩
  | 103 => ⟨S_, .f32⟩
  | 104 => ⟨S2048x128, .f32⟩
  | 105 => ⟨S2048x128, .f32⟩
  | 106 => ⟨S_, .f32⟩
  | 107 => ⟨S2048x512, .f32⟩
  | 108 => ⟨S2048x512, .f32⟩
  | 109 => ⟨S2048x512, .f32⟩
  | 110 => ⟨S2048x512, .f32⟩
  | 111 => ⟨S2048x512, .f32⟩
  | 112 => ⟨S2048x512, .f32⟩
  | 113 => ⟨S2048x512, .f32⟩
  | 114 => ⟨S2048x512, .f32⟩
  | 115 => ⟨S2048x512, .f32⟩
  | 116 => ⟨S2048x512, .f32⟩
  | 117 => ⟨S2048x512, .f32⟩
  | 118 => ⟨S2048x512, .f32⟩
  | 119 => ⟨S2048x512, .f32⟩
  | 120 => ⟨S_, .f32⟩
  | 121 => ⟨S512, .f32⟩
  | 122 => ⟨S1x512, .f32⟩
  | 123 => ⟨S_, .f32⟩
  | 124 => ⟨S512, .f32⟩
  | 125 => ⟨S1x512, .f32⟩
  | 126 => ⟨S_, .f32⟩
  | 127 => ⟨S3x512, .f32⟩
  | _ => ⟨S2048x1024, .f32⟩

abbrev hbmTy0_3 (i : Nat) : BufTy := match i % 128 with
  | 0 => ⟨S2048x512, .f32⟩
  | 1 => ⟨S2048x512, .f32⟩
  | 2 => ⟨S2048x512, .f32⟩
  | 3 => ⟨S_, .f32⟩
  | 4 => ⟨S512, .f32⟩
  | 5 => ⟨S1x512, .f32⟩
  | 6 => ⟨S_, .f32⟩
  | 7 => ⟨S512, .f32⟩
  | 8 => ⟨S1x512, .f32⟩
  | 9 => ⟨S2047x512, .f32⟩
  | 10 => ⟨S_, .f32⟩
  | 11 => ⟨S2048x512, .f32⟩
  | 12 => ⟨S2048x512, .f32⟩
  | 13 => ⟨S1x512, .f32⟩
  | 14 => ⟨S_, .f32⟩
  | 15 => ⟨S3x512, .f32⟩
  | 16 => ⟨S3x512, .f32⟩
  | 17 => ⟨S2048x512, .f32⟩
  | 18 => ⟨S2048x512, .f32⟩
  | 19 => ⟨S2048x512, .f32⟩
  | 20 => ⟨S_, .f32⟩
  | 21 => ⟨S512, .f32⟩
  | 22 => ⟨S1x512, .f32⟩
  | 23 => ⟨S_, .f32⟩
  | 24 => ⟨S512, .f32⟩
  | 25 => ⟨S2x512, .f32⟩
  | 26 => ⟨S2046x512, .f32⟩
  | 27 => ⟨S_, .f32⟩
  | 28 => ⟨S2048x512, .f32⟩
  | 29 => ⟨S2048x512, .f32⟩
  | 30 => ⟨S1x512, .f32⟩
  | 31 => ⟨S_, .f32⟩
  | 32 => ⟨S3x512, .f32⟩
  | 33 => ⟨S3x512, .f32⟩
  | 34 => ⟨S2048x512, .f32⟩
  | 35 => ⟨S2048x512, .f32⟩
  | 36 => ⟨S_, .f32⟩
  | 37 => ⟨S2048x3072, .f32⟩
  | 38 => ⟨S_, .f32⟩
  | 39 => ⟨S2048x3072, .f32⟩
  | 40 => ⟨S2048x3072, .f32⟩
  | 41 => ⟨S_, .f32⟩
  | 42 => ⟨S2048x3072, .f32⟩
  | 43 => ⟨S2048x3072, .f32⟩
  | 44 => ⟨S_, .f32⟩
  | 45 => ⟨S2048x3072, .f32⟩
  | 46 => ⟨S2048x3072, .f32⟩
  | 47 => ⟨S_, .f32⟩
  | 48 => ⟨S2048x3072, .f32⟩
  | 49 => ⟨S2048x3072, .f32⟩
  | 50 => ⟨S_, .f32⟩
  | 51 => ⟨S2048x3072, .f32⟩
  | 52 => ⟨S2048x3072, .f32⟩
  | 53 => ⟨S2048x1024, .f32⟩
  | 54 => ⟨S_, .f32⟩
  | 55 => ⟨S1024, .f32⟩
  | 56 => ⟨S1x1024, .f32⟩
  | 57 => ⟨S_, .f32⟩
  | 58 => ⟨S1024, .f32⟩
  | 59 => ⟨S2048x1024, .f32⟩
  | 60 => ⟨S_, .f32⟩
  | 61 => ⟨S1024, .f32⟩
  | 62 => ⟨S1x1024, .f32⟩
  | 63 => ⟨S2048x1024, .f32⟩
  | 64 => ⟨S2048x1024, .f32⟩
  | 65 => ⟨S_, .f32⟩
  | 66 => ⟨S1024, .f32⟩
  | 67 => ⟨S2048x1024, .f32⟩
  | 68 => ⟨S_, .f32⟩
  | 69 => ⟨S1024, .f32⟩
  | 70 => ⟨S1x1024, .f32⟩
  | 71 => ⟨S2048x1024, .f32⟩
  | 72 => ⟨S2048x1024, .f32⟩
  | 73 => ⟨S_, .f32⟩
  | 74 => ⟨S1024, .f32⟩
  | 75 => ⟨S2048x1024, .f32⟩
  | 76 => ⟨S_, .f32⟩
  | 77 => ⟨S2048, .f32⟩
  | 78 => ⟨S2048x1, .f32⟩
  | 79 => ⟨S2048x1024, .f32⟩
  | 80 => ⟨S2048x1024, .f32⟩
  | 81 => ⟨S2048x1024, .f32⟩
  | 82 => ⟨S2048x1, .f32⟩
  | 83 => ⟨S_, .f32⟩
  | 84 => ⟨S2048x1, .f32⟩
  | 85 => ⟨S2048x1, .f32⟩
  | 86 => ⟨S_, .f32⟩
  | 87 => ⟨S2048, .f32⟩
  | 88 => ⟨S2048x1024, .f32⟩
  | 89 => ⟨S2048x1024, .f32⟩
  | 90 => ⟨S2048x1024, .f32⟩
  | 91 => ⟨S2048x1024, .f32⟩
  | 92 => ⟨S2048x1024, .f32⟩
  | 93 => ⟨S3072, .f32⟩
  | 94 => ⟨S1x512, .f32⟩
  | 95 => ⟨S_, .f32⟩
  | 96 => ⟨S4x512, .f32⟩
  | 97 => ⟨S8x512, .f32⟩
  | 98 => ⟨S3x1024, .f32⟩
  | 99 => ⟨S1x1024, .f32⟩
  | 100 => ⟨S1x1024, .f32⟩
  | 101 => ⟨S_, .f32⟩
  | 102 => ⟨S3x1024, .f32⟩
  | 103 => ⟨S8x1024, .f32⟩
  | 104 => ⟨S2048x3072, .bf16⟩
  | 105 => ⟨S2048x1024, .bf16⟩
  | 106 => ⟨S4x128x128, .bf16⟩
  | _ => ⟨S2048x1024, .f32⟩

abbrev hbmTy (i : Nat) : BufTy := match i / 128 with
  | 0 => hbmTy0_0 i
  | 1 => hbmTy0_1 i
  | 2 => hbmTy0_2 i
  | 3 => hbmTy0_3 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_call0_v0 : Ref sig .tc := ⟨.hbm, 97, rfl⟩
abbrev main_call0_v1 : Ref sig .tc := ⟨.hbm, 98, rfl⟩
abbrev main_call0_cst : Ref sig .tc := ⟨.hbm, 99, rfl⟩
abbrev main_call0_v2 : Ref sig .tc := ⟨.hbm, 100, rfl⟩
abbrev main_call0_v3 : Ref sig .tc := ⟨.hbm, 101, rfl⟩
abbrev main_call0_cst_0 : Ref sig .tc := ⟨.hbm, 102, rfl⟩
abbrev main_call0_v4 : Ref sig .tc := ⟨.hbm, 103, rfl⟩
abbrev main_v76_2 : Ref sig .tc := ⟨.hbm, 104, rfl⟩
abbrev main_call0_cst_1 : Ref sig .tc := ⟨.hbm, 105, rfl⟩
abbrev main_call0_v6 : Ref sig .tc := ⟨.hbm, 106, rfl⟩
abbrev main_call0_v7 : Ref sig .tc := ⟨.hbm, 107, rfl⟩
abbrev main_v76_1 : Ref sig .tc := ⟨.hbm, 108, rfl⟩
abbrev main_v76_0 : Ref sig .tc := ⟨.hbm, 109, rfl⟩
abbrev main_v77 : Ref sig .tc := ⟨.hbm, 110, rfl⟩
abbrev main_v78 : Ref sig .tc := ⟨.hbm, 111, rfl⟩
abbrev main_c : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call1_call0_cst : Ref sig .tc := ⟨.hbm, 118, rfl⟩
abbrev main_call1_call0_v0 : Ref sig .tc := ⟨.hbm, 119, rfl⟩
abbrev main_v84 : Ref sig .tc := ⟨.hbm, 120, rfl⟩
abbrev main_cst_10 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_11 : Ref sig .tc := ⟨.hbm, 125, rfl⟩
abbrev main_v88 : Ref sig .tc := ⟨.hbm, 126, rfl⟩
abbrev main_v89 : Ref sig .tc := ⟨.hbm, 127, rfl⟩
abbrev main_cst_12 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_call2_call0_cst : Ref sig .tc := ⟨.hbm, 135, rfl⟩
abbrev main_call2_call0_v0 : Ref sig .tc := ⟨.hbm, 136, rfl⟩
abbrev main_v96 : Ref sig .tc := ⟨.hbm, 137, rfl⟩
abbrev main_cst_13 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_14 : Ref sig .tc := ⟨.hbm, 142, rfl⟩
abbrev main_v100 : Ref sig .tc := ⟨.hbm, 143, rfl⟩
abbrev main_v101 : Ref sig .tc := ⟨.hbm, 144, rfl⟩
abbrev main_cst_15 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_call3_call0_cst : Ref sig .tc := ⟨.hbm, 152, rfl⟩
abbrev main_call3_call0_v0 : Ref sig .tc := ⟨.hbm, 153, rfl⟩
abbrev main_v108 : Ref sig .tc := ⟨.hbm, 154, rfl⟩
abbrev main_cst_16 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_17 : Ref sig .tc := ⟨.hbm, 159, rfl⟩
abbrev main_v112 : Ref sig .tc := ⟨.hbm, 160, rfl⟩
abbrev main_v113 : Ref sig .tc := ⟨.hbm, 161, rfl⟩
abbrev main_cst_18 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_call4_call0_cst : Ref sig .tc := ⟨.hbm, 169, rfl⟩
abbrev main_call4_call0_v0 : Ref sig .tc := ⟨.hbm, 170, rfl⟩
abbrev main_v120 : Ref sig .tc := ⟨.hbm, 171, rfl⟩
abbrev main_cst_19 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_20 : Ref sig .tc := ⟨.hbm, 176, rfl⟩
abbrev main_v124 : Ref sig .tc := ⟨.hbm, 177, rfl⟩
abbrev main_v125 : Ref sig .tc := ⟨.hbm, 178, rfl⟩
abbrev main_cst_21 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_call5_v0 : Ref sig .tc := ⟨.hbm, 196, rfl⟩
abbrev main_call5_v1 : Ref sig .tc := ⟨.hbm, 197, rfl⟩
abbrev main_call5_cst : Ref sig .tc := ⟨.hbm, 198, rfl⟩
abbrev main_call5_v2 : Ref sig .tc := ⟨.hbm, 199, rfl⟩
abbrev main_call5_v3 : Ref sig .tc := ⟨.hbm, 200, rfl⟩
abbrev main_call5_cst_0 : Ref sig .tc := ⟨.hbm, 201, rfl⟩
abbrev main_call5_v4 : Ref sig .tc := ⟨.hbm, 202, rfl⟩
abbrev main_v142_2 : Ref sig .tc := ⟨.hbm, 203, rfl⟩
abbrev main_call5_cst_1 : Ref sig .tc := ⟨.hbm, 204, rfl⟩
abbrev main_call5_v6 : Ref sig .tc := ⟨.hbm, 205, rfl⟩
abbrev main_call5_v7 : Ref sig .tc := ⟨.hbm, 206, rfl⟩
abbrev main_v142_1 : Ref sig .tc := ⟨.hbm, 207, rfl⟩
abbrev main_v142_0 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_cst_22 : Ref sig .tc := ⟨.hbm, 214, rfl⟩
abbrev main_v148 : Ref sig .tc := ⟨.hbm, 215, rfl⟩
abbrev main_v149 : Ref sig .tc := ⟨.hbm, 216, rfl⟩
abbrev main_cst_23 : Ref sig .tc := ⟨.hbm, 217, rfl⟩
abbrev main_v150 : Ref sig .tc := ⟨.hbm, 218, rfl⟩
abbrev main_v151 : Ref sig .tc := ⟨.hbm, 219, rfl⟩
abbrev main_cst_24 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_cst_25 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_cst_26 : Ref sig .tc := ⟨.hbm, 241, rfl⟩
abbrev main_v171 : Ref sig .tc := ⟨.hbm, 242, rfl⟩
abbrev main_v172 : Ref sig .tc := ⟨.hbm, 243, rfl⟩
abbrev main_cst_27 : Ref sig .tc := ⟨.hbm, 244, rfl⟩
abbrev main_v173 : Ref sig .tc := ⟨.hbm, 245, rfl⟩
abbrev main_v174 : Ref sig .tc := ⟨.hbm, 246, rfl⟩
abbrev main_cst_28 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_cst_29 : Ref sig .tc := ⟨.hbm, 252, rfl⟩
abbrev main_v179 : Ref sig .tc := ⟨.hbm, 253, rfl⟩
abbrev main_v180 : Ref sig .tc := ⟨.hbm, 254, rfl⟩
abbrev main_cst_30 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_cst_31 : Ref sig .tc := ⟨.hbm, 261, rfl⟩
abbrev main_v186 : Ref sig .tc := ⟨.hbm, 262, rfl⟩
abbrev main_v187 : Ref sig .tc := ⟨.hbm, 263, rfl⟩
abbrev main_cst_32 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_call6_v0 : Ref sig .tc := ⟨.hbm, 276, rfl⟩
abbrev main_call6_v1 : Ref sig .tc := ⟨.hbm, 277, rfl⟩
abbrev main_call6_v2 : Ref sig .tc := ⟨.hbm, 278, rfl⟩
abbrev main_v199 : Ref sig .tc := ⟨.hbm, 279, rfl⟩
abbrev main_v200 : Ref sig .tc := ⟨.hbm, 280, rfl⟩
abbrev main_cst_33 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_cst_34 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_cst_35 : Ref sig .tc := ⟨.hbm, 308, rfl⟩
abbrev main_v226 : Ref sig .tc := ⟨.hbm, 309, rfl⟩
abbrev main_v227 : Ref sig .tc := ⟨.hbm, 310, rfl⟩
abbrev main_call7_call0_cst : Ref sig .tc := ⟨.hbm, 311, rfl⟩
abbrev main_call7_call0_v0 : Ref sig .tc := ⟨.hbm, 312, rfl⟩
abbrev main_v228 : Ref sig .tc := ⟨.hbm, 313, rfl⟩
abbrev main_v229 : Ref sig .tc := ⟨.hbm, 314, rfl⟩
abbrev main_cst_36 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_cst_37 : Ref sig .tc := ⟨.hbm, 323, rfl⟩
abbrev main_v237 : Ref sig .tc := ⟨.hbm, 324, rfl⟩
abbrev main_v238 : Ref sig .tc := ⟨.hbm, 325, rfl⟩
abbrev main_call8_call0_cst : Ref sig .tc := ⟨.hbm, 326, rfl⟩
abbrev main_call8_call0_v0 : Ref sig .tc := ⟨.hbm, 327, rfl⟩
abbrev main_v239 : Ref sig .tc := ⟨.hbm, 328, rfl⟩
abbrev main_v240 : Ref sig .tc := ⟨.hbm, 329, rfl⟩
abbrev main_cst_38 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_v248 : Ref sig .tc := ⟨.hbm, 338, rfl⟩
abbrev main_cst_39 : Ref sig .tc := ⟨.hbm, 339, rfl⟩
abbrev main_v249 : Ref sig .tc := ⟨.hbm, 340, rfl⟩
abbrev main_v250 : Ref sig .tc := ⟨.hbm, 341, rfl⟩
abbrev main_call9_call0_cst : Ref sig .tc := ⟨.hbm, 342, rfl⟩
abbrev main_call9_call0_v0 : Ref sig .tc := ⟨.hbm, 343, rfl⟩
abbrev main_v251 : Ref sig .tc := ⟨.hbm, 344, rfl⟩
abbrev main_v252 : Ref sig .tc := ⟨.hbm, 345, rfl⟩
abbrev main_cst_40 : Ref sig .tc := ⟨.hbm, 346, rfl⟩
abbrev main_v253 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_v260 : Ref sig .tc := ⟨.hbm, 354, rfl⟩
abbrev main_cst_41 : Ref sig .tc := ⟨.hbm, 355, rfl⟩
abbrev main_v261 : Ref sig .tc := ⟨.hbm, 356, rfl⟩
abbrev main_v262 : Ref sig .tc := ⟨.hbm, 357, rfl⟩
abbrev main_call10_call0_cst : Ref sig .tc := ⟨.hbm, 358, rfl⟩
abbrev main_call10_call0_v0 : Ref sig .tc := ⟨.hbm, 359, rfl⟩
abbrev main_v263 : Ref sig .tc := ⟨.hbm, 360, rfl⟩
abbrev main_v264 : Ref sig .tc := ⟨.hbm, 361, rfl⟩
abbrev main_cst_42 : Ref sig .tc := ⟨.hbm, 362, rfl⟩
abbrev main_v265 : Ref sig .tc := ⟨.hbm, 363, rfl⟩
abbrev main_v266 : Ref sig .tc := ⟨.hbm, 364, rfl⟩
abbrev main_v267 : Ref sig .tc := ⟨.hbm, 365, rfl⟩
abbrev main_v268 : Ref sig .tc := ⟨.hbm, 366, rfl⟩
abbrev main_call11_v0 : Ref sig .tc := ⟨.hbm, 367, rfl⟩
abbrev main_call11_v1 : Ref sig .tc := ⟨.hbm, 368, rfl⟩
abbrev main_call11_v2 : Ref sig .tc := ⟨.hbm, 369, rfl⟩
abbrev main_v269 : Ref sig .tc := ⟨.hbm, 370, rfl⟩
abbrev main_v270 : Ref sig .tc := ⟨.hbm, 371, rfl⟩
abbrev main_v271 : Ref sig .tc := ⟨.hbm, 372, rfl⟩
abbrev main_v272 : Ref sig .tc := ⟨.hbm, 373, rfl⟩
abbrev main_v273 : Ref sig .tc := ⟨.hbm, 374, rfl⟩
abbrev main_v274 : Ref sig .tc := ⟨.hbm, 375, rfl⟩
abbrev main_cst_43 : Ref sig .tc := ⟨.hbm, 376, rfl⟩
abbrev main_v275 : Ref sig .tc := ⟨.hbm, 377, rfl⟩
abbrev main_v276 : Ref sig .tc := ⟨.hbm, 378, rfl⟩
abbrev main_cst_44 : Ref sig .tc := ⟨.hbm, 379, rfl⟩
abbrev main_v277 : Ref sig .tc := ⟨.hbm, 380, rfl⟩
abbrev main_v278 : Ref sig .tc := ⟨.hbm, 381, rfl⟩
abbrev main_cst_45 : Ref sig .tc := ⟨.hbm, 382, rfl⟩
abbrev main_v279 : Ref sig .tc := ⟨.hbm, 383, rfl⟩
abbrev main_v280 : Ref sig .tc := ⟨.hbm, 384, rfl⟩
abbrev main_v281 : Ref sig .tc := ⟨.hbm, 385, rfl⟩
abbrev main_v282 : Ref sig .tc := ⟨.hbm, 386, rfl⟩
abbrev main_cst_46 : Ref sig .tc := ⟨.hbm, 387, rfl⟩
abbrev main_v283 : Ref sig .tc := ⟨.hbm, 388, rfl⟩
abbrev main_v284 : Ref sig .tc := ⟨.hbm, 389, rfl⟩
abbrev main_cst_47 : Ref sig .tc := ⟨.hbm, 390, rfl⟩
abbrev main_v285 : Ref sig .tc := ⟨.hbm, 391, rfl⟩
abbrev main_v286 : Ref sig .tc := ⟨.hbm, 392, rfl⟩
abbrev main_v287 : Ref sig .tc := ⟨.hbm, 393, rfl⟩
abbrev main_cst_48 : Ref sig .tc := ⟨.hbm, 394, rfl⟩
abbrev main_v288 : Ref sig .tc := ⟨.hbm, 395, rfl⟩
abbrev main_v289 : Ref sig .tc := ⟨.hbm, 396, rfl⟩
abbrev main_v290 : Ref sig .tc := ⟨.hbm, 397, rfl⟩
abbrev main_cst_49 : Ref sig .tc := ⟨.hbm, 398, rfl⟩
abbrev main_v291 : Ref sig .tc := ⟨.hbm, 399, rfl⟩
abbrev main_v292 : Ref sig .tc := ⟨.hbm, 400, rfl⟩
abbrev main_v293 : Ref sig .tc := ⟨.hbm, 401, rfl⟩
abbrev main_v294 : Ref sig .tc := ⟨.hbm, 402, rfl⟩
abbrev main_v295 : Ref sig .tc := ⟨.hbm, 403, rfl⟩
abbrev main_cst_50 : Ref sig .tc := ⟨.hbm, 404, rfl⟩
abbrev main_v296 : Ref sig .tc := ⟨.hbm, 405, rfl⟩
abbrev main_v297 : Ref sig .tc := ⟨.hbm, 406, rfl⟩
abbrev main_cst_51 : Ref sig .tc := ⟨.hbm, 407, rfl⟩
abbrev main_v298 : Ref sig .tc := ⟨.hbm, 408, rfl⟩
abbrev main_v299 : Ref sig .tc := ⟨.hbm, 409, rfl⟩
abbrev main_v300 : Ref sig .tc := ⟨.hbm, 410, rfl⟩
abbrev main_cst_52 : Ref sig .tc := ⟨.hbm, 411, rfl⟩
abbrev main_v301 : Ref sig .tc := ⟨.hbm, 412, rfl⟩
abbrev main_v302 : Ref sig .tc := ⟨.hbm, 413, rfl⟩
abbrev main_v303 : Ref sig .tc := ⟨.hbm, 414, rfl⟩
abbrev main_cst_53 : Ref sig .tc := ⟨.hbm, 415, rfl⟩
abbrev main_v304 : Ref sig .tc := ⟨.hbm, 416, rfl⟩
abbrev main_v305 : Ref sig .tc := ⟨.hbm, 417, rfl⟩
abbrev main_v306 : Ref sig .tc := ⟨.hbm, 418, rfl⟩
abbrev main_v307 : Ref sig .tc := ⟨.hbm, 419, rfl⟩
abbrev main_cst_54 : Ref sig .tc := ⟨.hbm, 420, rfl⟩
abbrev main_v308 : Ref sig .tc := ⟨.hbm, 421, rfl⟩
abbrev main_cst_55 : Ref sig .tc := ⟨.hbm, 422, rfl⟩
abbrev main_v309 : Ref sig .tc := ⟨.hbm, 423, rfl⟩
abbrev main_v310 : Ref sig .tc := ⟨.hbm, 424, rfl⟩
abbrev main_cst_56 : Ref sig .tc := ⟨.hbm, 425, rfl⟩
abbrev main_v311 : Ref sig .tc := ⟨.hbm, 426, rfl⟩
abbrev main_v312 : Ref sig .tc := ⟨.hbm, 427, rfl⟩
abbrev main_cst_57 : Ref sig .tc := ⟨.hbm, 428, rfl⟩
abbrev main_v313 : Ref sig .tc := ⟨.hbm, 429, rfl⟩
abbrev main_v314 : Ref sig .tc := ⟨.hbm, 430, rfl⟩
abbrev main_cst_58 : Ref sig .tc := ⟨.hbm, 431, rfl⟩
abbrev main_v315 : Ref sig .tc := ⟨.hbm, 432, rfl⟩
abbrev main_v316 : Ref sig .tc := ⟨.hbm, 433, rfl⟩
abbrev main_cst_59 : Ref sig .tc := ⟨.hbm, 434, rfl⟩
abbrev main_v317 : Ref sig .tc := ⟨.hbm, 435, rfl⟩
abbrev main_v318 : Ref sig .tc := ⟨.hbm, 436, rfl⟩
abbrev main_v319 : Ref sig .tc := ⟨.hbm, 437, rfl⟩
abbrev main_cst_60 : Ref sig .tc := ⟨.hbm, 438, rfl⟩
abbrev main_v320 : Ref sig .tc := ⟨.hbm, 439, rfl⟩
abbrev main_v321 : Ref sig .tc := ⟨.hbm, 440, rfl⟩
abbrev main_cst_61 : Ref sig .tc := ⟨.hbm, 441, rfl⟩
abbrev main_v322 : Ref sig .tc := ⟨.hbm, 442, rfl⟩
abbrev main_v323 : Ref sig .tc := ⟨.hbm, 443, rfl⟩
abbrev main_cst_62 : Ref sig .tc := ⟨.hbm, 444, rfl⟩
abbrev main_v324 : Ref sig .tc := ⟨.hbm, 445, rfl⟩
abbrev main_v325 : Ref sig .tc := ⟨.hbm, 446, rfl⟩
abbrev main_v326 : Ref sig .tc := ⟨.hbm, 447, rfl⟩
abbrev main_v327 : Ref sig .tc := ⟨.hbm, 448, rfl⟩
abbrev main_cst_63 : Ref sig .tc := ⟨.hbm, 449, rfl⟩
abbrev main_v328 : Ref sig .tc := ⟨.hbm, 450, rfl⟩
abbrev main_v329 : Ref sig .tc := ⟨.hbm, 451, rfl⟩
abbrev main_cst_64 : Ref sig .tc := ⟨.hbm, 452, rfl⟩
abbrev main_v330 : Ref sig .tc := ⟨.hbm, 453, rfl⟩
abbrev main_v331 : Ref sig .tc := ⟨.hbm, 454, rfl⟩
abbrev main_v332 : Ref sig .tc := ⟨.hbm, 455, rfl⟩
abbrev main_v333 : Ref sig .tc := ⟨.hbm, 456, rfl⟩
abbrev main_cst_65 : Ref sig .tc := ⟨.hbm, 457, rfl⟩
abbrev main_v334 : Ref sig .tc := ⟨.hbm, 458, rfl⟩
abbrev main_v335 : Ref sig .tc := ⟨.hbm, 459, rfl⟩
abbrev main_cst_66 : Ref sig .tc := ⟨.hbm, 460, rfl⟩
abbrev main_v336 : Ref sig .tc := ⟨.hbm, 461, rfl⟩
abbrev main_v337 : Ref sig .tc := ⟨.hbm, 462, rfl⟩
abbrev main_v338 : Ref sig .tc := ⟨.hbm, 463, rfl⟩
abbrev main_v339 : Ref sig .tc := ⟨.hbm, 464, rfl⟩
abbrev main_v340 : Ref sig .tc := ⟨.hbm, 465, rfl⟩
abbrev main_v341 : Ref sig .tc := ⟨.hbm, 466, rfl⟩
abbrev main_cst_67 : Ref sig .tc := ⟨.hbm, 467, rfl⟩
abbrev main_v342 : Ref sig .tc := ⟨.hbm, 468, rfl⟩
abbrev main_v343 : Ref sig .tc := ⟨.hbm, 469, rfl⟩
abbrev main_cst_68 : Ref sig .tc := ⟨.hbm, 470, rfl⟩
abbrev main_v344 : Ref sig .tc := ⟨.hbm, 471, rfl⟩
abbrev main_v345 : Ref sig .tc := ⟨.hbm, 472, rfl⟩
abbrev main_v346 : Ref sig .tc := ⟨.hbm, 473, rfl⟩
abbrev main_v347 : Ref sig .tc := ⟨.hbm, 474, rfl⟩
abbrev main_v348 : Ref sig .tc := ⟨.hbm, 475, rfl⟩
abbrev main_v349 : Ref sig .tc := ⟨.hbm, 476, rfl⟩
abbrev main_v350 : Ref sig .tc := ⟨.hbm, 477, rfl⟩
abbrev main_v351 : Ref sig .tc := ⟨.hbm, 478, rfl⟩
abbrev main_cst_69 : Ref sig .tc := ⟨.hbm, 479, rfl⟩
abbrev main_v352 : Ref sig .tc := ⟨.hbm, 480, rfl⟩
abbrev main_v353 : Ref sig .tc := ⟨.hbm, 481, rfl⟩
abbrev main_v354 : Ref sig .tc := ⟨.hbm, 482, rfl⟩
abbrev main_v355 : Ref sig .tc := ⟨.hbm, 483, rfl⟩
abbrev main_v356 : Ref sig .tc := ⟨.hbm, 484, rfl⟩
abbrev main_cst_70 : Ref sig .tc := ⟨.hbm, 485, rfl⟩
abbrev main_v357 : Ref sig .tc := ⟨.hbm, 486, rfl⟩
abbrev main_v358 : Ref sig .tc := ⟨.hbm, 487, rfl⟩
abbrev main_v359 : Ref sig .tc := ⟨.hbm, 488, rfl⟩
abbrev main_v360 : Ref sig .tc := ⟨.hbm, 489, rfl⟩
abbrev main_v361 : Ref sig .tc := ⟨.hbm, 490, rfl⟩

abbrev nD : Nat := 1
abbrev τ : Topo := Topo.v7x

variable {F : FTy → Type} [FloatOps F]
-- ==== Forward2.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S4x1x512 : Shape := ⟨3, ![4, 1, 512]⟩
abbrev S_ : Shape := ⟨0, ![]⟩
abbrev S4x4x512 : Shape := ⟨3, ![4, 4, 512]⟩
abbrev S4x8x512 : Shape := ⟨3, ![4, 8, 512]⟩
abbrev S4x3x1024 : Shape := ⟨3, ![4, 3, 1024]⟩
abbrev S4x1x1024 : Shape := ⟨3, ![4, 1, 1024]⟩
abbrev S4x8x1024 : Shape := ⟨3, ![4, 8, 1024]⟩
abbrev S2048x1536 : Shape := ⟨2, ![2048, 1536]⟩
abbrev S2048x2048 : Shape := ⟨2, ![2048, 2048]⟩
abbrev S512x1024 : Shape := ⟨2, ![512, 1024]⟩
abbrev S1x8x1024 : Shape := ⟨3, ![1, 8, 1024]⟩
abbrev S1x8x512 : Shape := ⟨3, ![1, 8, 512]⟩
abbrev S1x4x128x128 : Shape := ⟨4, ![1, 4, 128, 128]⟩
abbrev S512x1536 : Shape := ⟨2, ![512, 1536]⟩
abbrev S512x2048 : Shape := ⟨2, ![512, 2048]⟩
abbrev S8x512 : Shape := ⟨2, ![8, 512]⟩
abbrev S16x512 : Shape := ⟨2, ![16, 512]⟩
abbrev S1x1x1024 : Shape := ⟨3, ![1, 1, 1024]⟩
abbrev S1x1024 : Shape := ⟨2, ![1, 1024]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩
abbrev S512x3072 : Shape := ⟨2, ![512, 3072]⟩
abbrev S512x512 : Shape := ⟨2, ![512, 512]⟩
abbrev S520x512 : Shape := ⟨2, ![520, 512]⟩
abbrev S528x512 : Shape := ⟨2, ![528, 512]⟩
abbrev S528x128 : Shape := ⟨2, ![528, 128]⟩
abbrev S512x128 : Shape := ⟨2, ![512, 128]⟩
abbrev S1x1x128x128 : Shape := ⟨4, ![1, 1, 128, 128]⟩
abbrev S128x128 : Shape := ⟨2, ![128, 128]⟩

abbrev nBuf : Space → Nat
  | .hbm => 29
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S4x3072, .f32⟩
  | .hbm, ⟨2, _⟩ => ⟨S4x1024, .f32⟩
  | .hbm, ⟨3, _⟩ => ⟨S1024x3072, .f32⟩
  | .hbm, ⟨4, _⟩ => ⟨S4x3x512, .f32⟩
  | .hbm, ⟨5, _⟩ => ⟨S4x4x128x128, .f32⟩
  | .hbm, ⟨6, _⟩ => ⟨S4x512, .f32⟩
  | .hbm, ⟨7, _⟩ => ⟨S1024x1024, .f32⟩
  | .hbm, ⟨8, _⟩ => ⟨S4x1024, .f32⟩
  | .hbm, ⟨9, _⟩ => ⟨S4x1x512, .f32⟩
  | .hbm, ⟨10, _⟩ => ⟨S_, .f32⟩
  | .hbm, ⟨11, _⟩ => ⟨S4x4x512, .f32⟩
  | .hbm, ⟨12, _⟩ => ⟨S4x8x512, .f32⟩
  | .hbm, ⟨13, _⟩ => ⟨S4x4x128x128, .bf16⟩
  | .hbm, ⟨14, _⟩ => ⟨S1024x3072, .bf16⟩
  | .hbm, ⟨15, _⟩ => ⟨S1024x1024, .bf16⟩
  | .hbm, ⟨16, _⟩ => ⟨S_, .f32⟩
  | .hbm, ⟨17, _⟩ => ⟨S4x3x1024, .f32⟩
  | .hbm, ⟨18, _⟩ => ⟨S4x3x1024, .f32⟩
  | .hbm, ⟨19, _⟩ => ⟨S4x1x1024, .f32⟩
  | .hbm, ⟨20, _⟩ => ⟨S4x1x1024, .f32⟩
  | .hbm, ⟨21, _⟩ => ⟨S4x8x1024, .f32⟩
  | .hbm, ⟨22, _⟩ => ⟨S2048x1024, .f32⟩
  | .hbm, ⟨23, _⟩ => ⟨S2048x1024, .bf16⟩
  | .hbm, ⟨24, _⟩ => ⟨S2048x1024, .bf16⟩
  | .hbm, ⟨25, _⟩ => ⟨S2048x1024, .bf16⟩
  | .hbm, ⟨26, _⟩ => ⟨S2048x1024, .bf16⟩
  | .hbm, ⟨27, _⟩ => ⟨S2048x1536, .bf16⟩
  | .hbm, ⟨28, _⟩ => ⟨S2048x2048, .bf16⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x512, .f32⟩
  | .local _ .vmem, ⟨4, _⟩ => ⟨S1x4x128x128, .bf16⟩
  | .local _ .vmem, ⟨5, _⟩ => ⟨S1024x3072, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1536, .bf16⟩
  | .local _ .vmem, ⟨18, _⟩ => ⟨S512x1536, .bf16⟩
  | .local _ .vmem, ⟨19, _⟩ => ⟨S512x2048, .bf16⟩
  | .local _ .vmem, ⟨20, _⟩ => ⟨S512x2048, .bf16⟩
  | .local _ .vmem, ⟨21, _⟩ => ⟨S8x512, .f32⟩
  | .local _ .vmem, ⟨22, _⟩ => ⟨S16x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev main_v11_5 : Ref sig .tc := ⟨.hbm, 27, rfl⟩
abbrev main_v11_6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ForwardReference2Ideal.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S1x3072 : Shape := ⟨2, ![1, 3072]⟩
abbrev S3072 : Shape := ⟨1, ![3072]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x3072 : Shape := ⟨2, ![2048, 3072]⟩
abbrev S2048x512 : Shape := ⟨2, ![2048, 512]⟩
abbrev S1x3x512 : Shape := ⟨3, ![1, 3, 512]⟩
abbrev S3x512 : Shape := ⟨2, ![3, 512]⟩
abbrev S1x512 : Shape := ⟨2, ![1, 512]⟩
abbrev S512 : Shape := ⟨1, ![512]⟩
abbrev S2x512 : Shape := ⟨2, ![2, 512]⟩
abbrev S2046x512 : Shape := ⟨2, ![2046, 512]⟩
abbrev S2047x512 : Shape := ⟨2, ![2047, 512]⟩
abbrev S1x4x128x128 : Shape := ⟨4, ![1, 4, 128, 128]⟩
abbrev S4x128x128 : Shape := ⟨3, ![4, 128, 128]⟩
abbrev S2048x128 : Shape := ⟨2, ![2048, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S2048x1x128 : Shape := ⟨3, ![2048, 1, 128]⟩
abbrev S2048x4x128 : Shape := ⟨3, ![2048, 4, 128]⟩
abbrev S4x128x2048 : Shape := ⟨3, ![4, 128, 2048]⟩
abbrev S2048x1536 : Shape := ⟨2, ![2048, 1536]⟩
abbrev S2048x2048 : Shape := ⟨2, ![2048, 2048]⟩

abbrev nBuf : Space → Nat
  | .hbm => 237
  | .vmem => 0
  | .smem => 0
  | _ => 0

abbrev hbmTy0_0 (i : Nat) : BufTy := match i % 128 with
  | 0 => ⟨S2048x1024, .f32⟩
  | 1 => ⟨S4x3072, .f32⟩
  | 2 => ⟨S4x1024, .f32⟩
  | 3 => ⟨S1024x3072, .f32⟩
  | 4 => ⟨S4x3x512, .f32⟩
  | 5 => ⟨S4x4x128x128, .f32⟩
  | 6 => ⟨S4x512, .f32⟩
  | 7 => ⟨S1024x1024, .f32⟩
  | 8 => ⟨S4x1024, .f32⟩
  | 9 => ⟨S1x3072, .f32⟩
  | 10 => ⟨S3072, .f32⟩
  | 11 => ⟨S1024, .f32⟩
  | 12 => ⟨S1024, .f32⟩
  | 13 => ⟨S1024, .f32⟩
  | 14 => ⟨S1x1024, .f32⟩
  | 15 => ⟨S1024, .f32⟩
  | 16 => ⟨S2048x1024, .f32⟩
  | 17 => ⟨S_, .f32⟩
  | 18 => ⟨S2048, .f32⟩
  | 19 => ⟨S2048x1, .f32⟩
  | 20 => ⟨S_, .f32⟩
  | 21 => ⟨S2048x1, .f32⟩
  | 22 => ⟨S2048x1, .f32⟩
  | 23 => ⟨S_, .f32⟩
  | 24 => ⟨S2048x1, .f32⟩
  | 25 => ⟨S2048x1, .f32⟩
  | 26 => ⟨S2048x1, .f32⟩
  | 27 => ⟨S2048x1024, .f32⟩
  | 28 => ⟨S2048x1024, .f32⟩
  | 29 => ⟨S1x1024, .f32⟩
  | 30 => ⟨S2048x1024, .f32⟩
  | 31 => ⟨S2048x1024, .f32⟩
  | 32 => ⟨S_, .f32⟩
  | 33 => ⟨S1024, .f32⟩
  | 34 => ⟨S1024, .f32⟩
  | 35 => ⟨S1x1024, .f32⟩
  | 36 => ⟨S2048x1024, .f32⟩
  | 37 => ⟨S2048x1024, .f32⟩
  | 38 => ⟨S1x1024, .f32⟩
  | 39 => ⟨S2048x1024, .f32⟩
  | 40 => ⟨S2048x1024, .f32⟩
  | 41 => ⟨S2048x3072, .f32⟩
  | 42 => ⟨S2048x512, .f32⟩
  | 43 => ⟨S2048x512, .f32⟩
  | 44 => ⟨S2048x512, .f32⟩
  | 45 => ⟨S2048x512, .f32⟩
  | 46 => ⟨S2048x512, .f32⟩
  | 47 => ⟨S2048x512, .f32⟩
  | 48 => ⟨S_, .f32⟩
  | 49 => ⟨S2048x512, .f32⟩
  | 50 => ⟨S2048x512, .f32⟩
  | 51 => ⟨S1x3x512, .f32⟩
  | 52 => ⟨S3x512, .f32⟩
  | 53 => ⟨S1x512, .f32⟩
  | 54 => ⟨S512, .f32⟩
  | 55 => ⟨S_, .f32⟩
  | 56 => ⟨S2x512, .f32⟩
  | 57 => ⟨S2046x512, .f32⟩
  | 58 => ⟨S2048x512, .f32⟩
  | 59 => ⟨S1x512, .f32⟩
  | 60 => ⟨S2048x512, .f32⟩
  | 61 => ⟨S2048x512, .f32⟩
  | 62 => ⟨S1x512, .f32⟩
  | 63 => ⟨S512, .f32⟩
  | 64 => ⟨S_, .f32⟩
  | 65 => ⟨S1x512, .f32⟩
  | 66 => ⟨S2047x512, .f32⟩
  | 67 => ⟨S2048x512, .f32⟩
  | 68 => ⟨S1x512, .f32⟩
  | 69 => ⟨S2048x512, .f32⟩
  | 70 => ⟨S2048x512, .f32⟩
  | 71 => ⟨S2048x512, .f32⟩
  | 72 => ⟨S1x512, .f32⟩
  | 73 => ⟨S512, .f32⟩
  | 74 => ⟨S1x512, .f32⟩
  | 75 => ⟨S2048x512, .f32⟩
  | 76 => ⟨S2048x512, .f32⟩
  | 77 => ⟨S2048x512, .f32⟩
  | 78 => ⟨S2048x512, .f32⟩
  | 79 => ⟨S2048x512, .f32⟩
  | 80 => ⟨S2048x512, .f32⟩
  | 81 => ⟨S_, .f32⟩
  | 82 => ⟨S2048x512, .f32⟩
  | 83 => ⟨S2048x512, .f32⟩
  | 84 => ⟨S_, .f32⟩
  | 85 => ⟨S2048x512, .f32⟩
  | 86 => ⟨S2048x512, .f32⟩
  | 87 => ⟨S_, .f32⟩
  | 88 => ⟨S2048x512, .f32⟩
  | 89 => ⟨S2048x512, .f32⟩
  | 90 => ⟨S2048x512, .f32⟩
  | 91 => ⟨S2048x512, .f32⟩
  | 92 => ⟨S2048x512, .f32⟩
  | 93 => ⟨S2048x512, .f32⟩
  | 94 => ⟨S2048x512, .f32⟩
  | 95 => ⟨S2048x512, .f32⟩
  | 96 => ⟨S2048x512, .f32⟩
  | 97 => ⟨S2048x512, .f32⟩
  | 98 => ⟨S2048x512, .f32⟩
  | 99 => ⟨S2048x512, .f32⟩
  | 100 => ⟨S2048x512, .f32⟩
  | 101 => ⟨S1x4x128x128, .f32⟩
  | 102 => ⟨S4x128x128, .f32⟩
  | 103 => ⟨S2048, .i32⟩
  | 104 => ⟨S_, .i32⟩
  | 105 => ⟨S2048, .i32⟩
  | 106 => ⟨S2048, .i32⟩
  | 107 => ⟨S2048, .f32⟩
  | 108 => ⟨S2048x1, .f32⟩
  | 109 => ⟨S2048x128, .f32⟩
  | 110 => ⟨S_, .f32⟩
  | 111 => ⟨S_, .f32⟩
  | 112 => ⟨S2048x128, .f32⟩
  | 113 => ⟨S_, .f32⟩
  | 114 => ⟨S2x128, .f32⟩
  | 115 => ⟨S2046x128, .f32⟩
  | 116 => ⟨S2048x128, .f32⟩
  | 117 => ⟨S2048x128, .f32⟩
  | 118 => ⟨S_, .f32⟩
  | 119 => ⟨S2048x1, .f32⟩
  | 120 => ⟨S2048x1, .f32⟩
  | 121 => ⟨S2048x128, .f32⟩
  | 122 => ⟨S2048x128, .f32⟩
  | 123 => ⟨S2048x128, .f32⟩
  | 124 => ⟨S2048x128, .f32⟩
  | 125 => ⟨S_, .f32⟩
  | 126 => ⟨S_, .f32⟩
  | 127 => ⟨S2048x128, .f32⟩
  | _ => ⟨S2048x1024, .f32⟩

abbrev hbmTy0_1 (i : Nat) : BufTy := match i % 128 with
  | 0 => ⟨S_, .f32⟩
  | 1 => ⟨S4x128, .f32⟩
  | 2 => ⟨S2044x128, .f32⟩
  | 3 => ⟨S2048x128, .f32⟩
  | 4 => ⟨S2048x128, .f32⟩
  | 5 => ⟨S_, .f32⟩
  | 6 => ⟨S2048x1, .f32⟩
  | 7 => ⟨S2048x1, .f32⟩
  | 8 => ⟨S2048x128, .f32⟩
  | 9 => ⟨S2048x128, .f32⟩
  | 10 => ⟨S2048x128, .f32⟩
  | 11 => ⟨S2048x128, .f32⟩
  | 12 => ⟨S_, .f32⟩
  | 13 => ⟨S_, .f32⟩
  | 14 => ⟨S2048x128, .f32⟩
  | 15 => ⟨S_, .f32⟩
  | 16 => ⟨S8x128, .f32⟩
  | 17 => ⟨S2040x128, .f32⟩
  | 18 => ⟨S2048x128, .f32⟩
  | 19 => ⟨S2048x128, .f32⟩
  | 20 => ⟨S_, .f32⟩
  | 21 => ⟨S2048x1, .f32⟩
  | 22 => ⟨S2048x1, .f32⟩
  | 23 => ⟨S2048x128, .f32⟩
  | 24 => ⟨S2048x128, .f32⟩
  | 25 => ⟨S2048x128, .f32⟩
  | 26 => ⟨S2048x128, .f32⟩
  | 27 => ⟨S_, .f32⟩
  | 28 => ⟨S_, .f32⟩
  | 29 => ⟨S2048x128, .f32⟩
  | 30 => ⟨S_, .f32⟩
  | 31 => ⟨S16x128, .f32⟩
  | 32 => ⟨S2032x128, .f32⟩
  | 33 => ⟨S2048x128, .f32⟩
  | 34 => ⟨S2048x128, .f32⟩
  | 35 => ⟨S_, .f32⟩
  | 36 => ⟨S2048x1, .f32⟩
  | 37 => ⟨S2048x1, .f32⟩
  | 38 => ⟨S2048x128, .f32⟩
  | 39 => ⟨S2048x128, .f32⟩
  | 40 => ⟨S2048x128, .f32⟩
  | 41 => ⟨S2048x1x128, .f32⟩
  | 42 => ⟨S2048x1x128, .f32⟩
  | 43 => ⟨S2048x1x128, .f32⟩
  | 44 => ⟨S2048x1x128, .f32⟩
  | 45 => ⟨S2048x4x128, .f32⟩
  | 46 => ⟨S4x128x2048, .f32⟩
  | 47 => ⟨S2048x4x128, .f32⟩
  | 48 => ⟨S2048x512, .f32⟩
  | 49 => ⟨S2048x512, .f32⟩
  | 50 => ⟨S1x512, .f32⟩
  | 51 => ⟨S512, .f32⟩
  | 52 => ⟨S2048x512, .f32⟩
  | 53 => ⟨S2048x512, .f32⟩
  | 54 => ⟨S2048x512, .f32⟩
  | 55 => ⟨S2048x512, .f32⟩
  | 56 => ⟨S_, .f32⟩
  | 57 => ⟨S2048x512, .f32⟩
  | 58 => ⟨S2048x512, .f32⟩
  | 59 => ⟨S_, .f32⟩
  | 60 => ⟨S2048x512, .f32⟩
  | 61 => ⟨S2048x512, .f32⟩
  | 62 => ⟨S_, .f32⟩
  | 63 => ⟨S2048x512, .f32⟩
  | 64 => ⟨S2048x512, .f32⟩
  | 65 => ⟨S2048x512, .f32⟩
  | 66 => ⟨S2048x512, .f32⟩
  | 67 => ⟨S2048x512, .f32⟩
  | 68 => ⟨S2048x512, .f32⟩
  | 69 => ⟨S2048x512, .f32⟩
  | 70 => ⟨S2048x512, .f32⟩
  | 71 => ⟨S2048x512, .f32⟩
  | 72 => ⟨S2048x512, .f32⟩
  | 73 => ⟨S2048x512, .f32⟩
  | 74 => ⟨S2048x512, .f32⟩
  | 75 => ⟨S2048x512, .f32⟩
  | 76 => ⟨S2048x1024, .f32⟩
  | 77 => ⟨S2048x1024, .f32⟩
  | 78 => ⟨S1x1024, .f32⟩
  | 79 => ⟨S1024, .f32⟩
  | 80 => ⟨S2048x1024, .f32⟩
  | 81 => ⟨S_, .f32⟩
  | 82 => ⟨S2048, .f32⟩
  | 83 => ⟨S2048x1, .f32⟩
  | 84 => ⟨S_, .f32⟩
  | 85 => ⟨S2048x1, .f32⟩
  | 86 => ⟨S2048x1, .f32⟩
  | 87 => ⟨S_, .f32⟩
  | 88 => ⟨S2048x1, .f32⟩
  | 89 => ⟨S2048x1, .f32⟩
  | 90 => ⟨S2048x1, .f32⟩
  | 91 => ⟨S2048x1024, .f32⟩
  | 92 => ⟨S2048x1024, .f32⟩
  | 93 => ⟨S1x1024, .f32⟩
  | 94 => ⟨S2048x1024, .f32⟩
  | 95 => ⟨S2048x1024, .f32⟩
  | 96 => ⟨S1x1024, .f32⟩
  | 97 => ⟨S2048x1024, .f32⟩
  | 98 => ⟨S2048x1024, .f32⟩
  | 99 => ⟨S2048x1024, .f32⟩
  | 100 => ⟨S2048x1024, .f32⟩
  | 101 => ⟨S2048x1536, .f32⟩
  | 102 => ⟨S2048x2048, .f32⟩
  | 103 => ⟨S2048x1024, .bf16⟩
  | 104 => ⟨S2048x1024, .bf16⟩
  | 105 => ⟨S2048x1024, .bf16⟩
  | 106 => ⟨S2048x1024, .bf16⟩
  | 107 => ⟨S2048x1536, .bf16⟩
  | 108 => ⟨S2048x2048, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_v63_2 : Ref sig .tc := ⟨.hbm, 86, rfl⟩
abbrev main_call0_cst_1 : Ref sig .tc := ⟨.hbm, 87, rfl⟩
abbrev main_call0_v6 : Ref sig .tc := ⟨.hbm, 88, rfl⟩
abbrev main_call0_v7 : Ref sig .tc := ⟨.hbm, 89, rfl⟩
abbrev main_v63_1 : Ref sig .tc := ⟨.hbm, 90, rfl⟩
abbrev main_v63_0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_call2_call0_cst : Ref sig .tc := ⟨.hbm, 110, rfl⟩
abbrev main_call2_call0_v0 : Ref sig .tc := ⟨.hbm, 111, rfl⟩
abbrev main_v78 : Ref sig .tc := ⟨.hbm, 112, rfl⟩
abbrev main_cst_6 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_7 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_call3_call0_cst : Ref sig .tc := ⟨.hbm, 125, rfl⟩
abbrev main_call3_call0_v0 : Ref sig .tc := ⟨.hbm, 126, rfl⟩
abbrev main_v89 : Ref sig .tc := ⟨.hbm, 127, rfl⟩
abbrev main_cst_8 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_9 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_call4_call0_cst : Ref sig .tc := ⟨.hbm, 140, rfl⟩
abbrev main_call4_call0_v0 : Ref sig .tc := ⟨.hbm, 141, rfl⟩
abbrev main_v100 : Ref sig .tc := ⟨.hbm, 142, rfl⟩
abbrev main_cst_10 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_11 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_call5_call0_cst : Ref sig .tc := ⟨.hbm, 155, rfl⟩
abbrev main_call5_call0_v0 : Ref sig .tc := ⟨.hbm, 156, rfl⟩
abbrev main_v111 : Ref sig .tc := ⟨.hbm, 157, rfl⟩
abbrev main_cst_12 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_13 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_call6_v0 : Ref sig .tc := ⟨.hbm, 182, rfl⟩
abbrev main_call6_v1 : Ref sig .tc := ⟨.hbm, 183, rfl⟩
abbrev main_call6_cst : Ref sig .tc := ⟨.hbm, 184, rfl⟩
abbrev main_call6_v2 : Ref sig .tc := ⟨.hbm, 185, rfl⟩
abbrev main_call6_v3 : Ref sig .tc := ⟨.hbm, 186, rfl⟩
abbrev main_call6_cst_0 : Ref sig .tc := ⟨.hbm, 187, rfl⟩
abbrev main_call6_v4 : Ref sig .tc := ⟨.hbm, 188, rfl⟩
abbrev main_v134_2 : Ref sig .tc := ⟨.hbm, 189, rfl⟩
abbrev main_call6_cst_1 : Ref sig .tc := ⟨.hbm, 190, rfl⟩
abbrev main_call6_v6 : Ref sig .tc := ⟨.hbm, 191, rfl⟩
abbrev main_call6_v7 : Ref sig .tc := ⟨.hbm, 192, rfl⟩
abbrev main_v134_1 : Ref sig .tc := ⟨.hbm, 193, rfl⟩
abbrev main_v134_0 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_call7_v0 : Ref sig .tc := ⟨.hbm, 198, rfl⟩
abbrev main_call7_v1 : Ref sig .tc := ⟨.hbm, 199, rfl⟩
abbrev main_call7_v2 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_cst_14 : Ref sig .tc := ⟨.hbm, 209, rfl⟩
abbrev main_v146 : Ref sig .tc := ⟨.hbm, 210, rfl⟩
abbrev main_v147 : Ref sig .tc := ⟨.hbm, 211, rfl⟩
abbrev main_cst_15 : Ref sig .tc := ⟨.hbm, 212, rfl⟩
abbrev main_v148 : Ref sig .tc := ⟨.hbm, 213, rfl⟩
abbrev main_v149 : Ref sig .tc := ⟨.hbm, 214, rfl⟩
abbrev main_cst_16 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩

abbrev nD : Nat := 1
abbrev τ : Topo := Topo.v7x

variable {F : FTy → Type} [FloatOps F]
-- ==== Forward1.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S4x1x512 : Shape := ⟨3, ![4, 1, 512]⟩
abbrev S_ : Shape := ⟨0, ![]⟩
abbrev S4x4x512 : Shape := ⟨3, ![4, 4, 512]⟩
abbrev S4x8x512 : Shape := ⟨3, ![4, 8, 512]⟩
abbrev S4x3x1024 : Shape := ⟨3, ![4, 3, 1024]⟩
abbrev S4x1x1024 : Shape := ⟨3, ![4, 1, 1024]⟩
abbrev S4x8x1024 : Shape := ⟨3, ![4, 8, 1024]⟩
abbrev S2048x1536 : Shape := ⟨2, ![2048, 1536]⟩
abbrev S2048x2048 : Shape := ⟨2, ![2048, 2048]⟩
abbrev S512x1024 : Shape := ⟨2, ![512, 1024]⟩
abbrev S1x8x1024 : Shape := ⟨3, ![1, 8, 1024]⟩
abbrev S1x8x512 : Shape := ⟨3, ![1, 8, 512]⟩
abbrev S1x4x128x128 : Shape := ⟨4, ![1, 4, 128, 128]⟩
abbrev S512x1536 : Shape := ⟨2, ![512, 1536]⟩
abbrev S512x2048 : Shape := ⟨2, ![512, 2048]⟩
abbrev S8x512 : Shape := ⟨2, ![8, 512]⟩
abbrev S16x512 : Shape := ⟨2, ![16, 512]⟩
abbrev S1x1x1024 : Shape := ⟨3, ![1, 1, 1024]⟩
abbrev S1x1024 : Shape := ⟨2, ![1, 1024]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩
abbrev S512x3072 : Shape := ⟨2, ![512, 3072]⟩
abbrev S512x512 : Shape := ⟨2, ![512, 512]⟩
abbrev S520x512 : Shape := ⟨2, ![520, 512]⟩
abbrev S528x512 : Shape := ⟨2, ![528, 512]⟩
abbrev S528x128 : Shape := ⟨2, ![528, 128]⟩
abbrev S512x128 : Shape := ⟨2, ![512, 128]⟩
abbrev S1x1x128x128 : Shape := ⟨4, ![1, 1, 128, 128]⟩
abbrev S128x128 : Shape := ⟨2, ![128, 128]⟩

abbrev nBuf : Space → Nat
  | .hbm => 29
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S4x3072, .f32⟩
  | .hbm, ⟨2, _⟩ => ⟨S4x1024, .f32⟩
  | .hbm, ⟨3, _⟩ => ⟨S1024x3072, .f32⟩
  | .hbm, ⟨4, _⟩ => ⟨S4x3x512, .f32⟩
  | .hbm, ⟨5, _⟩ => ⟨S4x4x128x128, .f32⟩
  | .hbm, ⟨6, _⟩ => ⟨S4x512, .f32⟩
  | .hbm, ⟨7, _⟩ => ⟨S1024x1024, .f32⟩
  | .hbm, ⟨8, _⟩ => ⟨S4x1024, .f32⟩
  | .hbm, ⟨9, _⟩ => ⟨S4x1x512, .f32⟩
  | .hbm, ⟨10, _⟩ => ⟨S_, .f32⟩
  | .hbm, ⟨11, _⟩ => ⟨S4x4x512, .f32⟩
  | .hbm, ⟨12, _⟩ => ⟨S4x8x512, .f32⟩
  | .hbm, ⟨13, _⟩ => ⟨S4x4x128x128, .bf16⟩
  | .hbm, ⟨14, _⟩ => ⟨S1024x3072, .bf16⟩
  | .hbm, ⟨15, _⟩ => ⟨S1024x1024, .bf16⟩
  | .hbm, ⟨16, _⟩ => ⟨S_, .f32⟩
  | .hbm, ⟨17, _⟩ => ⟨S4x3x1024, .f32⟩
  | .hbm, ⟨18, _⟩ => ⟨S4x3x1024, .f32⟩
  | .hbm, ⟨19, _⟩ => ⟨S4x1x1024, .f32⟩
  | .hbm, ⟨20, _⟩ => ⟨S4x1x1024, .f32⟩
  | .hbm, ⟨21, _⟩ => ⟨S4x8x1024, .f32⟩
  | .hbm, ⟨22, _⟩ => ⟨S2048x1024, .f32⟩
  | .hbm, ⟨23, _⟩ => ⟨S2048x1024, .bf16⟩
  | .hbm, ⟨24, _⟩ => ⟨S2048x1024, .bf16⟩
  | .hbm, ⟨25, _⟩ => ⟨S2048x1024, .bf16⟩
  | .hbm, ⟨26, _⟩ => ⟨S2048x1024, .bf16⟩
  | .hbm, ⟨27, _⟩ => ⟨S2048x1536, .bf16⟩
  | .hbm, ⟨28, _⟩ => ⟨S2048x2048, .bf16⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x512, .f32⟩
  | .local _ .vmem, ⟨4, _⟩ => ⟨S1x4x128x128, .bf16⟩
  | .local _ .vmem, ⟨5, _⟩ => ⟨S1024x3072, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1536, .bf16⟩
  | .local _ .vmem, ⟨18, _⟩ => ⟨S512x1536, .bf16⟩
  | .local _ .vmem, ⟨19, _⟩ => ⟨S512x2048, .bf16⟩
  | .local _ .vmem, ⟨20, _⟩ => ⟨S512x2048, .bf16⟩
  | .local _ .vmem, ⟨21, _⟩ => ⟨S8x512, .f32⟩
  | .local _ .vmem, ⟨22, _⟩ => ⟨S16x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev main_v11_5 : Ref sig .tc := ⟨.hbm, 27, rfl⟩
abbrev main_v11_6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ForwardReference1Ideal.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S1x3072 : Shape := ⟨2, ![1, 3072]⟩
abbrev S3072 : Shape := ⟨1, ![3072]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x3072 : Shape := ⟨2, ![2048, 3072]⟩
abbrev S2048x512 : Shape := ⟨2, ![2048, 512]⟩
abbrev S1x3x512 : Shape := ⟨3, ![1, 3, 512]⟩
abbrev S3x512 : Shape := ⟨2, ![3, 512]⟩
abbrev S1x512 : Shape := ⟨2, ![1, 512]⟩
abbrev S512 : Shape := ⟨1, ![512]⟩
abbrev S2x512 : Shape := ⟨2, ![2, 512]⟩
abbrev S2046x512 : Shape := ⟨2, ![2046, 512]⟩
abbrev S2047x512 : Shape := ⟨2, ![2047, 512]⟩
abbrev S1x4x128x128 : Shape := ⟨4, ![1, 4, 128, 128]⟩
abbrev S4x128x128 : Shape := ⟨3, ![4, 128, 128]⟩
abbrev S2048x128 : Shape := ⟨2, ![2048, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S2048x1x128 : Shape := ⟨3, ![2048, 1, 128]⟩
abbrev S2048x4x128 : Shape := ⟨3, ![2048, 4, 128]⟩
abbrev S4x128x2048 : Shape := ⟨3, ![4, 128, 2048]⟩
abbrev S2048x1536 : Shape := ⟨2, ![2048, 1536]⟩
abbrev S2048x2048 : Shape := ⟨2, ![2048, 2048]⟩

abbrev nBuf : Space → Nat
  | .hbm => 237
  | .vmem => 0
  | .smem => 0
  | _ => 0

abbrev hbmTy0_0 (i : Nat) : BufTy := match i % 128 with
  | 0 => ⟨S2048x1024, .f32⟩
  | 1 => ⟨S4x3072, .f32⟩
  | 2 => ⟨S4x1024, .f32⟩
  | 3 => ⟨S1024x3072, .f32⟩
  | 4 => ⟨S4x3x512, .f32⟩
  | 5 => ⟨S4x4x128x128, .f32⟩
  | 6 => ⟨S4x512, .f32⟩
  | 7 => ⟨S1024x1024, .f32⟩
  | 8 => ⟨S4x1024, .f32⟩
  | 9 => ⟨S1x3072, .f32⟩
  | 10 => ⟨S3072, .f32⟩
  | 11 => ⟨S1024, .f32⟩
  | 12 => ⟨S1024, .f32⟩
  | 13 => ⟨S1024, .f32⟩
  | 14 => ⟨S1x1024, .f32⟩
  | 15 => ⟨S1024, .f32⟩
  | 16 => ⟨S2048x1024, .f32⟩
  | 17 => ⟨S_, .f32⟩
  | 18 => ⟨S2048, .f32⟩
  | 19 => ⟨S2048x1, .f32⟩
  | 20 => ⟨S_, .f32⟩
  | 21 => ⟨S2048x1, .f32⟩
  | 22 => ⟨S2048x1, .f32⟩
  | 23 => ⟨S_, .f32⟩
  | 24 => ⟨S2048x1, .f32⟩
  | 25 => ⟨S2048x1, .f32⟩
  | 26 => ⟨S2048x1, .f32⟩
  | 27 => ⟨S2048x1024, .f32⟩
  | 28 => ⟨S2048x1024, .f32⟩
  | 29 => ⟨S1x1024, .f32⟩
  | 30 => ⟨S2048x1024, .f32⟩
  | 31 => ⟨S2048x1024, .f32⟩
  | 32 => ⟨S_, .f32⟩
  | 33 => ⟨S1024, .f32⟩
  | 34 => ⟨S1024, .f32⟩
  | 35 => ⟨S1x1024, .f32⟩
  | 36 => ⟨S2048x1024, .f32⟩
  | 37 => ⟨S2048x1024, .f32⟩
  | 38 => ⟨S1x1024, .f32⟩
  | 39 => ⟨S2048x1024, .f32⟩
  | 40 => ⟨S2048x1024, .f32⟩
  | 41 => ⟨S2048x3072, .f32⟩
  | 42 => ⟨S2048x512, .f32⟩
  | 43 => ⟨S2048x512, .f32⟩
  | 44 => ⟨S2048x512, .f32⟩
  | 45 => ⟨S2048x512, .f32⟩
  | 46 => ⟨S2048x512, .f32⟩
  | 47 => ⟨S2048x512, .f32⟩
  | 48 => ⟨S_, .f32⟩
  | 49 => ⟨S2048x512, .f32⟩
  | 50 => ⟨S2048x512, .f32⟩
  | 51 => ⟨S1x3x512, .f32⟩
  | 52 => ⟨S3x512, .f32⟩
  | 53 => ⟨S1x512, .f32⟩
  | 54 => ⟨S512, .f32⟩
  | 55 => ⟨S_, .f32⟩
  | 56 => ⟨S2x512, .f32⟩
  | 57 => ⟨S2046x512, .f32⟩
  | 58 => ⟨S2048x512, .f32⟩
  | 59 => ⟨S1x512, .f32⟩
  | 60 => ⟨S2048x512, .f32⟩
  | 61 => ⟨S2048x512, .f32⟩
  | 62 => ⟨S1x512, .f32⟩
  | 63 => ⟨S512, .f32⟩
  | 64 => ⟨S_, .f32⟩
  | 65 => ⟨S1x512, .f32⟩
  | 66 => ⟨S2047x512, .f32⟩
  | 67 => ⟨S2048x512, .f32⟩
  | 68 => ⟨S1x512, .f32⟩
  | 69 => ⟨S2048x512, .f32⟩
  | 70 => ⟨S2048x512, .f32⟩
  | 71 => ⟨S2048x512, .f32⟩
  | 72 => ⟨S1x512, .f32⟩
  | 73 => ⟨S512, .f32⟩
  | 74 => ⟨S1x512, .f32⟩
  | 75 => ⟨S2048x512, .f32⟩
  | 76 => ⟨S2048x512, .f32⟩
  | 77 => ⟨S2048x512, .f32⟩
  | 78 => ⟨S2048x512, .f32⟩
  | 79 => ⟨S2048x512, .f32⟩
  | 80 => ⟨S2048x512, .f32⟩
  | 81 => ⟨S_, .f32⟩
  | 82 => ⟨S2048x512, .f32⟩
  | 83 => ⟨S2048x512, .f32⟩
  | 84 => ⟨S_, .f32⟩
  | 85 => ⟨S2048x512, .f32⟩
  | 86 => ⟨S2048x512, .f32⟩
  | 87 => ⟨S_, .f32⟩
  | 88 => ⟨S2048x512, .f32⟩
  | 89 => ⟨S2048x512, .f32⟩
  | 90 => ⟨S2048x512, .f32⟩
  | 91 => ⟨S2048x512, .f32⟩
  | 92 => ⟨S2048x512, .f32⟩
  | 93 => ⟨S2048x512, .f32⟩
  | 94 => ⟨S2048x512, .f32⟩
  | 95 => ⟨S2048x512, .f32⟩
  | 96 => ⟨S2048x512, .f32⟩
  | 97 => ⟨S2048x512, .f32⟩
  | 98 => ⟨S2048x512, .f32⟩
  | 99 => ⟨S2048x512, .f32⟩
  | 100 => ⟨S2048x512, .f32⟩
  | 101 => ⟨S1x4x128x128, .f32⟩
  | 102 => ⟨S4x128x128, .f32⟩
  | 103 => ⟨S2048, .i32⟩
  | 104 => ⟨S_, .i32⟩
  | 105 => ⟨S2048, .i32⟩
  | 106 => ⟨S2048, .i32⟩
  | 107 => ⟨S2048, .f32⟩
  | 108 => ⟨S2048x1, .f32⟩
  | 109 => ⟨S2048x128, .f32⟩
  | 110 => ⟨S_, .f32⟩
  | 111 => ⟨S_, .f32⟩
  | 112 => ⟨S2048x128, .f32⟩
  | 113 => ⟨S_, .f32⟩
  | 114 => ⟨S2x128, .f32⟩
  | 115 => ⟨S2046x128, .f32⟩
  | 116 => ⟨S2048x128, .f32⟩
  | 117 => ⟨S2048x128, .f32⟩
  | 118 => ⟨S_, .f32⟩
  | 119 => ⟨S2048x1, .f32⟩
  | 120 => ⟨S2048x1, .f32⟩
  | 121 => ⟨S2048x128, .f32⟩
  | 122 => ⟨S2048x128, .f32⟩
  | 123 => ⟨S2048x128, .f32⟩
  | 124 => ⟨S2048x128, .f32⟩
  | 125 => ⟨S_, .f32⟩
  | 126 => ⟨S_, .f32⟩
  | 127 => ⟨S2048x128, .f32⟩
  | _ => ⟨S2048x1024, .f32⟩

abbrev hbmTy0_1 (i : Nat) : BufTy := match i % 128 with
  | 0 => ⟨S_, .f32⟩
  | 1 => ⟨S4x128, .f32⟩
  | 2 => ⟨S2044x128, .f32⟩
  | 3 => ⟨S2048x128, .f32⟩
  | 4 => ⟨S2048x128, .f32⟩
  | 5 => ⟨S_, .f32⟩
  | 6 => ⟨S2048x1, .f32⟩
  | 7 => ⟨S2048x1, .f32⟩
  | 8 => ⟨S2048x128, .f32⟩
  | 9 => ⟨S2048x128, .f32⟩
  | 10 => ⟨S2048x128, .f32⟩
  | 11 => ⟨S2048x128, .f32⟩
  | 12 => ⟨S_, .f32⟩
  | 13 => ⟨S_, .f32⟩
  | 14 => ⟨S2048x128, .f32⟩
  | 15 => ⟨S_, .f32⟩
  | 16 => ⟨S8x128, .f32⟩
  | 17 => ⟨S2040x128, .f32⟩
  | 18 => ⟨S2048x128, .f32⟩
  | 19 => ⟨S2048x128, .f32⟩
  | 20 => ⟨S_, .f32⟩
  | 21 => ⟨S2048x1, .f32⟩
  | 22 => ⟨S2048x1, .f32⟩
  | 23 => ⟨S2048x128, .f32⟩
  | 24 => ⟨S2048x128, .f32⟩
  | 25 => ⟨S2048x128, .f32⟩
  | 26 => ⟨S2048x128, .f32⟩
  | 27 => ⟨S_, .f32⟩
  | 28 => ⟨S_, .f32⟩
  | 29 => ⟨S2048x128, .f32⟩
  | 30 => ⟨S_, .f32⟩
  | 31 => ⟨S16x128, .f32⟩
  | 32 => ⟨S2032x128, .f32⟩
  | 33 => ⟨S2048x128, .f32⟩
  | 34 => ⟨S2048x128, .f32⟩
  | 35 => ⟨S_, .f32⟩
  | 36 => ⟨S2048x1, .f32⟩
  | 37 => ⟨S2048x1, .f32⟩
  | 38 => ⟨S2048x128, .f32⟩
  | 39 => ⟨S2048x128, .f32⟩
  | 40 => ⟨S2048x128, .f32⟩
  | 41 => ⟨S2048x1x128, .f32⟩
  | 42 => ⟨S2048x1x128, .f32⟩
  | 43 => ⟨S2048x1x128, .f32⟩
  | 44 => ⟨S2048x1x128, .f32⟩
  | 45 => ⟨S2048x4x128, .f32⟩
  | 46 => ⟨S4x128x2048, .f32⟩
  | 47 => ⟨S2048x4x128, .f32⟩
  | 48 => ⟨S2048x512, .f32⟩
  | 49 => ⟨S2048x512, .f32⟩
  | 50 => ⟨S1x512, .f32⟩
  | 51 => ⟨S512, .f32⟩
  | 52 => ⟨S2048x512, .f32⟩
  | 53 => ⟨S2048x512, .f32⟩
  | 54 => ⟨S2048x512, .f32⟩
  | 55 => ⟨S2048x512, .f32⟩
  | 56 => ⟨S_, .f32⟩
  | 57 => ⟨S2048x512, .f32⟩
  | 58 => ⟨S2048x512, .f32⟩
  | 59 => ⟨S_, .f32⟩
  | 60 => ⟨S2048x512, .f32⟩
  | 61 => ⟨S2048x512, .f32⟩
  | 62 => ⟨S_, .f32⟩
  | 63 => ⟨S2048x512, .f32⟩
  | 64 => ⟨S2048x512, .f32⟩
  | 65 => ⟨S2048x512, .f32⟩
  | 66 => ⟨S2048x512, .f32⟩
  | 67 => ⟨S2048x512, .f32⟩
  | 68 => ⟨S2048x512, .f32⟩
  | 69 => ⟨S2048x512, .f32⟩
  | 70 => ⟨S2048x512, .f32⟩
  | 71 => ⟨S2048x512, .f32⟩
  | 72 => ⟨S2048x512, .f32⟩
  | 73 => ⟨S2048x512, .f32⟩
  | 74 => ⟨S2048x512, .f32⟩
  | 75 => ⟨S2048x512, .f32⟩
  | 76 => ⟨S2048x1024, .f32⟩
  | 77 => ⟨S2048x1024, .f32⟩
  | 78 => ⟨S1x1024, .f32⟩
  | 79 => ⟨S1024, .f32⟩
  | 80 => ⟨S2048x1024, .f32⟩
  | 81 => ⟨S_, .f32⟩
  | 82 => ⟨S2048, .f32⟩
  | 83 => ⟨S2048x1, .f32⟩
  | 84 => ⟨S_, .f32⟩
  | 85 => ⟨S2048x1, .f32⟩
  | 86 => ⟨S2048x1, .f32⟩
  | 87 => ⟨S_, .f32⟩
  | 88 => ⟨S2048x1, .f32⟩
  | 89 => ⟨S2048x1, .f32⟩
  | 90 => ⟨S2048x1, .f32⟩
  | 91 => ⟨S2048x1024, .f32⟩
  | 92 => ⟨S2048x1024, .f32⟩
  | 93 => ⟨S1x1024, .f32⟩
  | 94 => ⟨S2048x1024, .f32⟩
  | 95 => ⟨S2048x1024, .f32⟩
  | 96 => ⟨S1x1024, .f32⟩
  | 97 => ⟨S2048x1024, .f32⟩
  | 98 => ⟨S2048x1024, .f32⟩
  | 99 => ⟨S2048x1024, .f32⟩
  | 100 => ⟨S2048x1024, .f32⟩
  | 101 => ⟨S2048x1536, .f32⟩
  | 102 => ⟨S2048x2048, .f32⟩
  | 103 => ⟨S2048x1024, .bf16⟩
  | 104 => ⟨S2048x1024, .bf16⟩
  | 105 => ⟨S2048x1024, .bf16⟩
  | 106 => ⟨S2048x1024, .bf16⟩
  | 107 => ⟨S2048x1536, .bf16⟩
  | 108 => ⟨S2048x2048, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_v63_2 : Ref sig .tc := ⟨.hbm, 86, rfl⟩
abbrev main_call0_cst_1 : Ref sig .tc := ⟨.hbm, 87, rfl⟩
abbrev main_call0_v6 : Ref sig .tc := ⟨.hbm, 88, rfl⟩
abbrev main_call0_v7 : Ref sig .tc := ⟨.hbm, 89, rfl⟩
abbrev main_v63_1 : Ref sig .tc := ⟨.hbm, 90, rfl⟩
abbrev main_v63_0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_call2_call0_cst : Ref sig .tc := ⟨.hbm, 110, rfl⟩
abbrev main_call2_call0_v0 : Ref sig .tc := ⟨.hbm, 111, rfl⟩
abbrev main_v78 : Ref sig .tc := ⟨.hbm, 112, rfl⟩
abbrev main_cst_6 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_7 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_call3_call0_cst : Ref sig .tc := ⟨.hbm, 125, rfl⟩
abbrev main_call3_call0_v0 : Ref sig .tc := ⟨.hbm, 126, rfl⟩
abbrev main_v89 : Ref sig .tc := ⟨.hbm, 127, rfl⟩
abbrev main_cst_8 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_9 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_call4_call0_cst : Ref sig .tc := ⟨.hbm, 140, rfl⟩
abbrev main_call4_call0_v0 : Ref sig .tc := ⟨.hbm, 141, rfl⟩
abbrev main_v100 : Ref sig .tc := ⟨.hbm, 142, rfl⟩
abbrev main_cst_10 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_11 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_call5_call0_cst : Ref sig .tc := ⟨.hbm, 155, rfl⟩
abbrev main_call5_call0_v0 : Ref sig .tc := ⟨.hbm, 156, rfl⟩
abbrev main_v111 : Ref sig .tc := ⟨.hbm, 157, rfl⟩
abbrev main_cst_12 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_13 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_call6_v0 : Ref sig .tc := ⟨.hbm, 182, rfl⟩
abbrev main_call6_v1 : Ref sig .tc := ⟨.hbm, 183, rfl⟩
abbrev main_call6_cst : Ref sig .tc := ⟨.hbm, 184, rfl⟩
abbrev main_call6_v2 : Ref sig .tc := ⟨.hbm, 185, rfl⟩
abbrev main_call6_v3 : Ref sig .tc := ⟨.hbm, 186, rfl⟩
abbrev main_call6_cst_0 : Ref sig .tc := ⟨.hbm, 187, rfl⟩
abbrev main_call6_v4 : Ref sig .tc := ⟨.hbm, 188, rfl⟩
abbrev main_v134_2 : Ref sig .tc := ⟨.hbm, 189, rfl⟩
abbrev main_call6_cst_1 : Ref sig .tc := ⟨.hbm, 190, rfl⟩
abbrev main_call6_v6 : Ref sig .tc := ⟨.hbm, 191, rfl⟩
abbrev main_call6_v7 : Ref sig .tc := ⟨.hbm, 192, rfl⟩
abbrev main_v134_1 : Ref sig .tc := ⟨.hbm, 193, rfl⟩
abbrev main_v134_0 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_call7_v0 : Ref sig .tc := ⟨.hbm, 198, rfl⟩
abbrev main_call7_v1 : Ref sig .tc := ⟨.hbm, 199, rfl⟩
abbrev main_call7_v2 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_cst_14 : Ref sig .tc := ⟨.hbm, 209, rfl⟩
abbrev main_v146 : Ref sig .tc := ⟨.hbm, 210, rfl⟩
abbrev main_v147 : Ref sig .tc := ⟨.hbm, 211, rfl⟩
abbrev main_cst_15 : Ref sig .tc := ⟨.hbm, 212, rfl⟩
abbrev main_v148 : Ref sig .tc := ⟨.hbm, 213, rfl⟩
abbrev main_v149 : Ref sig .tc := ⟨.hbm, 214, rfl⟩
abbrev main_cst_16 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩

abbrev nD : Nat := 1
abbrev τ : Topo := Topo.v7x

variable {F : FTy → Type} [FloatOps F]
-- ==== Forward0.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S4x1x512 : Shape := ⟨3, ![4, 1, 512]⟩
abbrev S_ : Shape := ⟨0, ![]⟩
abbrev S4x4x512 : Shape := ⟨3, ![4, 4, 512]⟩
abbrev S4x8x512 : Shape := ⟨3, ![4, 8, 512]⟩
abbrev S4x3x1024 : Shape := ⟨3, ![4, 3, 1024]⟩
abbrev S4x1x1024 : Shape := ⟨3, ![4, 1, 1024]⟩
abbrev S4x8x1024 : Shape := ⟨3, ![4, 8, 1024]⟩
abbrev S2048x1536 : Shape := ⟨2, ![2048, 1536]⟩
abbrev S2048x2048 : Shape := ⟨2, ![2048, 2048]⟩
abbrev S512x1024 : Shape := ⟨2, ![512, 1024]⟩
abbrev S1x8x1024 : Shape := ⟨3, ![1, 8, 1024]⟩
abbrev S1x8x512 : Shape := ⟨3, ![1, 8, 512]⟩
abbrev S1x4x128x128 : Shape := ⟨4, ![1, 4, 128, 128]⟩
abbrev S512x1536 : Shape := ⟨2, ![512, 1536]⟩
abbrev S512x2048 : Shape := ⟨2, ![512, 2048]⟩
abbrev S8x512 : Shape := ⟨2, ![8, 512]⟩
abbrev S16x512 : Shape := ⟨2, ![16, 512]⟩
abbrev S1x1x1024 : Shape := ⟨3, ![1, 1, 1024]⟩
abbrev S1x1024 : Shape := ⟨2, ![1, 1024]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩
abbrev S512x3072 : Shape := ⟨2, ![512, 3072]⟩
abbrev S512x512 : Shape := ⟨2, ![512, 512]⟩
abbrev S520x512 : Shape := ⟨2, ![520, 512]⟩
abbrev S528x512 : Shape := ⟨2, ![528, 512]⟩
abbrev S528x128 : Shape := ⟨2, ![528, 128]⟩
abbrev S512x128 : Shape := ⟨2, ![512, 128]⟩
abbrev S1x1x128x128 : Shape := ⟨4, ![1, 1, 128, 128]⟩
abbrev S128x128 : Shape := ⟨2, ![128, 128]⟩

abbrev nBuf : Space → Nat
  | .hbm => 29
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S4x3072, .f32⟩
  | .hbm, ⟨2, _⟩ => ⟨S4x1024, .f32⟩
  | .hbm, ⟨3, _⟩ => ⟨S1024x3072, .f32⟩
  | .hbm, ⟨4, _⟩ => ⟨S4x3x512, .f32⟩
  | .hbm, ⟨5, _⟩ => ⟨S4x4x128x128, .f32⟩
  | .hbm, ⟨6, _⟩ => ⟨S4x512, .f32⟩
  | .hbm, ⟨7, _⟩ => ⟨S1024x1024, .f32⟩
  | .hbm, ⟨8, _⟩ => ⟨S4x1024, .f32⟩
  | .hbm, ⟨9, _⟩ => ⟨S4x1x512, .f32⟩
  | .hbm, ⟨10, _⟩ => ⟨S_, .f32⟩
  | .hbm, ⟨11, _⟩ => ⟨S4x4x512, .f32⟩
  | .hbm, ⟨12, _⟩ => ⟨S4x8x512, .f32⟩
  | .hbm, ⟨13, _⟩ => ⟨S4x4x128x128, .bf16⟩
  | .hbm, ⟨14, _⟩ => ⟨S1024x3072, .bf16⟩
  | .hbm, ⟨15, _⟩ => ⟨S1024x1024, .bf16⟩
  | .hbm, ⟨16, _⟩ => ⟨S_, .f32⟩
  | .hbm, ⟨17, _⟩ => ⟨S4x3x1024, .f32⟩
  | .hbm, ⟨18, _⟩ => ⟨S4x3x1024, .f32⟩
  | .hbm, ⟨19, _⟩ => ⟨S4x1x1024, .f32⟩
  | .hbm, ⟨20, _⟩ => ⟨S4x1x1024, .f32⟩
  | .hbm, ⟨21, _⟩ => ⟨S4x8x1024, .f32⟩
  | .hbm, ⟨22, _⟩ => ⟨S2048x1024, .f32⟩
  | .hbm, ⟨23, _⟩ => ⟨S2048x1024, .bf16⟩
  | .hbm, ⟨24, _⟩ => ⟨S2048x1024, .bf16⟩
  | .hbm, ⟨25, _⟩ => ⟨S2048x1024, .bf16⟩
  | .hbm, ⟨26, _⟩ => ⟨S2048x1024, .bf16⟩
  | .hbm, ⟨27, _⟩ => ⟨S2048x1536, .bf16⟩
  | .hbm, ⟨28, _⟩ => ⟨S2048x2048, .bf16⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x512, .f32⟩
  | .local _ .vmem, ⟨4, _⟩ => ⟨S1x4x128x128, .bf16⟩
  | .local _ .vmem, ⟨5, _⟩ => ⟨S1024x3072, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1536, .bf16⟩
  | .local _ .vmem, ⟨18, _⟩ => ⟨S512x1536, .bf16⟩
  | .local _ .vmem, ⟨19, _⟩ => ⟨S512x2048, .bf16⟩
  | .local _ .vmem, ⟨20, _⟩ => ⟨S512x2048, .bf16⟩
  | .local _ .vmem, ⟨21, _⟩ => ⟨S8x512, .f32⟩
  | .local _ .vmem, ⟨22, _⟩ => ⟨S16x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev main_v11_5 : Ref sig .tc := ⟨.hbm, 27, rfl⟩
abbrev main_v11_6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ForwardReference0Ideal.lean ====
abbrev S2048x1024 : Shape := ⟨2, ![2048, 1024]⟩
abbrev S4x3072 : Shape := ⟨2, ![4, 3072]⟩
abbrev S4x1024 : Shape := ⟨2, ![4, 1024]⟩
abbrev S1024x3072 : Shape := ⟨2, ![1024, 3072]⟩
abbrev S4x3x512 : Shape := ⟨3, ![4, 3, 512]⟩
abbrev S4x4x128x128 : Shape := ⟨4, ![4, 4, 128, 128]⟩
abbrev S4x512 : Shape := ⟨2, ![4, 512]⟩
abbrev S1024x1024 : Shape := ⟨2, ![1024, 1024]⟩
abbrev S1x3072 : Shape := ⟨2, ![1, 3072]⟩
abbrev S3072 : Shape := ⟨1, ![3072]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x3072 : Shape := ⟨2, ![2048, 3072]⟩
abbrev S2048x512 : Shape := ⟨2, ![2048, 512]⟩
abbrev S1x3x512 : Shape := ⟨3, ![1, 3, 512]⟩
abbrev S3x512 : Shape := ⟨2, ![3, 512]⟩
abbrev S1x512 : Shape := ⟨2, ![1, 512]⟩
abbrev S512 : Shape := ⟨1, ![512]⟩
abbrev S2x512 : Shape := ⟨2, ![2, 512]⟩
abbrev S2046x512 : Shape := ⟨2, ![2046, 512]⟩
abbrev S2047x512 : Shape := ⟨2, ![2047, 512]⟩
abbrev S1x4x128x128 : Shape := ⟨4, ![1, 4, 128, 128]⟩
abbrev S4x128x128 : Shape := ⟨3, ![4, 128, 128]⟩
abbrev S2048x128 : Shape := ⟨2, ![2048, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S2048x1x128 : Shape := ⟨3, ![2048, 1, 128]⟩
abbrev S2048x4x128 : Shape := ⟨3, ![2048, 4, 128]⟩
abbrev S4x128x2048 : Shape := ⟨3, ![4, 128, 2048]⟩
abbrev S2048x1536 : Shape := ⟨2, ![2048, 1536]⟩
abbrev S2048x2048 : Shape := ⟨2, ![2048, 2048]⟩

abbrev nBuf : Space → Nat
  | .hbm => 237
  | .vmem => 0
  | .smem => 0
  | _ => 0

abbrev hbmTy0_0 (i : Nat) : BufTy := match i % 128 with
  | 0 => ⟨S2048x1024, .f32⟩
  | 1 => ⟨S4x3072, .f32⟩
  | 2 => ⟨S4x1024, .f32⟩
  | 3 => ⟨S1024x3072, .f32⟩
  | 4 => ⟨S4x3x512, .f32⟩
  | 5 => ⟨S4x4x128x128, .f32⟩
  | 6 => ⟨S4x512, .f32⟩
  | 7 => ⟨S1024x1024, .f32⟩
  | 8 => ⟨S4x1024, .f32⟩
  | 9 => ⟨S1x3072, .f32⟩
  | 10 => ⟨S3072, .f32⟩
  | 11 => ⟨S1024, .f32⟩
  | 12 => ⟨S1024, .f32⟩
  | 13 => ⟨S1024, .f32⟩
  | 14 => ⟨S1x1024, .f32⟩
  | 15 => ⟨S1024, .f32⟩
  | 16 => ⟨S2048x1024, .f32⟩
  | 17 => ⟨S_, .f32⟩
  | 18 => ⟨S2048, .f32⟩
  | 19 => ⟨S2048x1, .f32⟩
  | 20 => ⟨S_, .f32⟩
  | 21 => ⟨S2048x1, .f32⟩
  | 22 => ⟨S2048x1, .f32⟩
  | 23 => ⟨S_, .f32⟩
  | 24 => ⟨S2048x1, .f32⟩
  | 25 => ⟨S2048x1, .f32⟩
  | 26 => ⟨S2048x1, .f32⟩
  | 27 => ⟨S2048x1024, .f32⟩
  | 28 => ⟨S2048x1024, .f32⟩
  | 29 => ⟨S1x1024, .f32⟩
  | 30 => ⟨S2048x1024, .f32⟩
  | 31 => ⟨S2048x1024, .f32⟩
  | 32 => ⟨S_, .f32⟩
  | 33 => ⟨S1024, .f32⟩
  | 34 => ⟨S1024, .f32⟩
  | 35 => ⟨S1x1024, .f32⟩
  | 36 => ⟨S2048x1024, .f32⟩
  | 37 => ⟨S2048x1024, .f32⟩
  | 38 => ⟨S1x1024, .f32⟩
  | 39 => ⟨S2048x1024, .f32⟩
  | 40 => ⟨S2048x1024, .f32⟩
  | 41 => ⟨S2048x3072, .f32⟩
  | 42 => ⟨S2048x512, .f32⟩
  | 43 => ⟨S2048x512, .f32⟩
  | 44 => ⟨S2048x512, .f32⟩
  | 45 => ⟨S2048x512, .f32⟩
  | 46 => ⟨S2048x512, .f32⟩
  | 47 => ⟨S2048x512, .f32⟩
  | 48 => ⟨S_, .f32⟩
  | 49 => ⟨S2048x512, .f32⟩
  | 50 => ⟨S2048x512, .f32⟩
  | 51 => ⟨S1x3x512, .f32⟩
  | 52 => ⟨S3x512, .f32⟩
  | 53 => ⟨S1x512, .f32⟩
  | 54 => ⟨S512, .f32⟩
  | 55 => ⟨S_, .f32⟩
  | 56 => ⟨S2x512, .f32⟩
  | 57 => ⟨S2046x512, .f32⟩
  | 58 => ⟨S2048x512, .f32⟩
  | 59 => ⟨S1x512, .f32⟩
  | 60 => ⟨S2048x512, .f32⟩
  | 61 => ⟨S2048x512, .f32⟩
  | 62 => ⟨S1x512, .f32⟩
  | 63 => ⟨S512, .f32⟩
  | 64 => ⟨S_, .f32⟩
  | 65 => ⟨S1x512, .f32⟩
  | 66 => ⟨S2047x512, .f32⟩
  | 67 => ⟨S2048x512, .f32⟩
  | 68 => ⟨S1x512, .f32⟩
  | 69 => ⟨S2048x512, .f32⟩
  | 70 => ⟨S2048x512, .f32⟩
  | 71 => ⟨S2048x512, .f32⟩
  | 72 => ⟨S1x512, .f32⟩
  | 73 => ⟨S512, .f32⟩
  | 74 => ⟨S1x512, .f32⟩
  | 75 => ⟨S2048x512, .f32⟩
  | 76 => ⟨S2048x512, .f32⟩
  | 77 => ⟨S2048x512, .f32⟩
  | 78 => ⟨S2048x512, .f32⟩
  | 79 => ⟨S2048x512, .f32⟩
  | 80 => ⟨S2048x512, .f32⟩
  | 81 => ⟨S_, .f32⟩
  | 82 => ⟨S2048x512, .f32⟩
  | 83 => ⟨S2048x512, .f32⟩
  | 84 => ⟨S_, .f32⟩
  | 85 => ⟨S2048x512, .f32⟩
  | 86 => ⟨S2048x512, .f32⟩
  | 87 => ⟨S_, .f32⟩
  | 88 => ⟨S2048x512, .f32⟩
  | 89 => ⟨S2048x512, .f32⟩
  | 90 => ⟨S2048x512, .f32⟩
  | 91 => ⟨S2048x512, .f32⟩
  | 92 => ⟨S2048x512, .f32⟩
  | 93 => ⟨S2048x512, .f32⟩
  | 94 => ⟨S2048x512, .f32⟩
  | 95 => ⟨S2048x512, .f32⟩
  | 96 => ⟨S2048x512, .f32⟩
  | 97 => ⟨S2048x512, .f32⟩
  | 98 => ⟨S2048x512, .f32⟩
  | 99 => ⟨S2048x512, .f32⟩
  | 100 => ⟨S2048x512, .f32⟩
  | 101 => ⟨S1x4x128x128, .f32⟩
  | 102 => ⟨S4x128x128, .f32⟩
  | 103 => ⟨S2048, .i32⟩
  | 104 => ⟨S_, .i32⟩
  | 105 => ⟨S2048, .i32⟩
  | 106 => ⟨S2048, .i32⟩
  | 107 => ⟨S2048, .f32⟩
  | 108 => ⟨S2048x1, .f32⟩
  | 109 => ⟨S2048x128, .f32⟩
  | 110 => ⟨S_, .f32⟩
  | 111 => ⟨S_, .f32⟩
  | 112 => ⟨S2048x128, .f32⟩
  | 113 => ⟨S_, .f32⟩
  | 114 => ⟨S2x128, .f32⟩
  | 115 => ⟨S2046x128, .f32⟩
  | 116 => ⟨S2048x128, .f32⟩
  | 117 => ⟨S2048x128, .f32⟩
  | 118 => ⟨S_, .f32⟩
  | 119 => ⟨S2048x1, .f32⟩
  | 120 => ⟨S2048x1, .f32⟩
  | 121 => ⟨S2048x128, .f32⟩
  | 122 => ⟨S2048x128, .f32⟩
  | 123 => ⟨S2048x128, .f32⟩
  | 124 => ⟨S2048x128, .f32⟩
  | 125 => ⟨S_, .f32⟩
  | 126 => ⟨S_, .f32⟩
  | 127 => ⟨S2048x128, .f32⟩
  | _ => ⟨S2048x1024, .f32⟩

abbrev hbmTy0_1 (i : Nat) : BufTy := match i % 128 with
  | 0 => ⟨S_, .f32⟩
  | 1 => ⟨S4x128, .f32⟩
  | 2 => ⟨S2044x128, .f32⟩
  | 3 => ⟨S2048x128, .f32⟩
  | 4 => ⟨S2048x128, .f32⟩
  | 5 => ⟨S_, .f32⟩
  | 6 => ⟨S2048x1, .f32⟩
  | 7 => ⟨S2048x1, .f32⟩
  | 8 => ⟨S2048x128, .f32⟩
  | 9 => ⟨S2048x128, .f32⟩
  | 10 => ⟨S2048x128, .f32⟩
  | 11 => ⟨S2048x128, .f32⟩
  | 12 => ⟨S_, .f32⟩
  | 13 => ⟨S_, .f32⟩
  | 14 => ⟨S2048x128, .f32⟩
  | 15 => ⟨S_, .f32⟩
  | 16 => ⟨S8x128, .f32⟩
  | 17 => ⟨S2040x128, .f32⟩
  | 18 => ⟨S2048x128, .f32⟩
  | 19 => ⟨S2048x128, .f32⟩
  | 20 => ⟨S_, .f32⟩
  | 21 => ⟨S2048x1, .f32⟩
  | 22 => ⟨S2048x1, .f32⟩
  | 23 => ⟨S2048x128, .f32⟩
  | 24 => ⟨S2048x128, .f32⟩
  | 25 => ⟨S2048x128, .f32⟩
  | 26 => ⟨S2048x128, .f32⟩
  | 27 => ⟨S_, .f32⟩
  | 28 => ⟨S_, .f32⟩
  | 29 => ⟨S2048x128, .f32⟩
  | 30 => ⟨S_, .f32⟩
  | 31 => ⟨S16x128, .f32⟩
  | 32 => ⟨S2032x128, .f32⟩
  | 33 => ⟨S2048x128, .f32⟩
  | 34 => ⟨S2048x128, .f32⟩
  | 35 => ⟨S_, .f32⟩
  | 36 => ⟨S2048x1, .f32⟩
  | 37 => ⟨S2048x1, .f32⟩
  | 38 => ⟨S2048x128, .f32⟩
  | 39 => ⟨S2048x128, .f32⟩
  | 40 => ⟨S2048x128, .f32⟩
  | 41 => ⟨S2048x1x128, .f32⟩
  | 42 => ⟨S2048x1x128, .f32⟩
  | 43 => ⟨S2048x1x128, .f32⟩
  | 44 => ⟨S2048x1x128, .f32⟩
  | 45 => ⟨S2048x4x128, .f32⟩
  | 46 => ⟨S4x128x2048, .f32⟩
  | 47 => ⟨S2048x4x128, .f32⟩
  | 48 => ⟨S2048x512, .f32⟩
  | 49 => ⟨S2048x512, .f32⟩
  | 50 => ⟨S1x512, .f32⟩
  | 51 => ⟨S512, .f32⟩
  | 52 => ⟨S2048x512, .f32⟩
  | 53 => ⟨S2048x512, .f32⟩
  | 54 => ⟨S2048x512, .f32⟩
  | 55 => ⟨S2048x512, .f32⟩
  | 56 => ⟨S_, .f32⟩
  | 57 => ⟨S2048x512, .f32⟩
  | 58 => ⟨S2048x512, .f32⟩
  | 59 => ⟨S_, .f32⟩
  | 60 => ⟨S2048x512, .f32⟩
  | 61 => ⟨S2048x512, .f32⟩
  | 62 => ⟨S_, .f32⟩
  | 63 => ⟨S2048x512, .f32⟩
  | 64 => ⟨S2048x512, .f32⟩
  | 65 => ⟨S2048x512, .f32⟩
  | 66 => ⟨S2048x512, .f32⟩
  | 67 => ⟨S2048x512, .f32⟩
  | 68 => ⟨S2048x512, .f32⟩
  | 69 => ⟨S2048x512, .f32⟩
  | 70 => ⟨S2048x512, .f32⟩
  | 71 => ⟨S2048x512, .f32⟩
  | 72 => ⟨S2048x512, .f32⟩
  | 73 => ⟨S2048x512, .f32⟩
  | 74 => ⟨S2048x512, .f32⟩
  | 75 => ⟨S2048x512, .f32⟩
  | 76 => ⟨S2048x1024, .f32⟩
  | 77 => ⟨S2048x1024, .f32⟩
  | 78 => ⟨S1x1024, .f32⟩
  | 79 => ⟨S1024, .f32⟩
  | 80 => ⟨S2048x1024, .f32⟩
  | 81 => ⟨S_, .f32⟩
  | 82 => ⟨S2048, .f32⟩
  | 83 => ⟨S2048x1, .f32⟩
  | 84 => ⟨S_, .f32⟩
  | 85 => ⟨S2048x1, .f32⟩
  | 86 => ⟨S2048x1, .f32⟩
  | 87 => ⟨S_, .f32⟩
  | 88 => ⟨S2048x1, .f32⟩
  | 89 => ⟨S2048x1, .f32⟩
  | 90 => ⟨S2048x1, .f32⟩
  | 91 => ⟨S2048x1024, .f32⟩
  | 92 => ⟨S2048x1024, .f32⟩
  | 93 => ⟨S1x1024, .f32⟩
  | 94 => ⟨S2048x1024, .f32⟩
  | 95 => ⟨S2048x1024, .f32⟩
  | 96 => ⟨S1x1024, .f32⟩
  | 97 => ⟨S2048x1024, .f32⟩
  | 98 => ⟨S2048x1024, .f32⟩
  | 99 => ⟨S2048x1024, .f32⟩
  | 100 => ⟨S2048x1024, .f32⟩
  | 101 => ⟨S2048x1536, .f32⟩
  | 102 => ⟨S2048x2048, .f32⟩
  | 103 => ⟨S2048x1024, .bf16⟩
  | 104 => ⟨S2048x1024, .bf16⟩
  | 105 => ⟨S2048x1024, .bf16⟩
  | 106 => ⟨S2048x1024, .bf16⟩
  | 107 => ⟨S2048x1536, .bf16⟩
  | 108 => ⟨S2048x2048, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_v63_2 : Ref sig .tc := ⟨.hbm, 86, rfl⟩
abbrev main_call0_cst_1 : Ref sig .tc := ⟨.hbm, 87, rfl⟩
abbrev main_call0_v6 : Ref sig .tc := ⟨.hbm, 88, rfl⟩
abbrev main_call0_v7 : Ref sig .tc := ⟨.hbm, 89, rfl⟩
abbrev main_v63_1 : Ref sig .tc := ⟨.hbm, 90, rfl⟩
abbrev main_v63_0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_call2_call0_cst : Ref sig .tc := ⟨.hbm, 110, rfl⟩
abbrev main_call2_call0_v0 : Ref sig .tc := ⟨.hbm, 111, rfl⟩
abbrev main_v78 : Ref sig .tc := ⟨.hbm, 112, rfl⟩
abbrev main_cst_6 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_7 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_call3_call0_cst : Ref sig .tc := ⟨.hbm, 125, rfl⟩
abbrev main_call3_call0_v0 : Ref sig .tc := ⟨.hbm, 126, rfl⟩
abbrev main_v89 : Ref sig .tc := ⟨.hbm, 127, rfl⟩
abbrev main_cst_8 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_9 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_call4_call0_cst : Ref sig .tc := ⟨.hbm, 140, rfl⟩
abbrev main_call4_call0_v0 : Ref sig .tc := ⟨.hbm, 141, rfl⟩
abbrev main_v100 : Ref sig .tc := ⟨.hbm, 142, rfl⟩
abbrev main_cst_10 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_11 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_call5_call0_cst : Ref sig .tc := ⟨.hbm, 155, rfl⟩
abbrev main_call5_call0_v0 : Ref sig .tc := ⟨.hbm, 156, rfl⟩
abbrev main_v111 : Ref sig .tc := ⟨.hbm, 157, rfl⟩
abbrev main_cst_12 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_13 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_call6_v0 : Ref sig .tc := ⟨.hbm, 182, rfl⟩
abbrev main_call6_v1 : Ref sig .tc := ⟨.hbm, 183, rfl⟩
abbrev main_call6_cst : Ref sig .tc := ⟨.hbm, 184, rfl⟩
abbrev main_call6_v2 : Ref sig .tc := ⟨.hbm, 185, rfl⟩
abbrev main_call6_v3 : Ref sig .tc := ⟨.hbm, 186, rfl⟩
abbrev main_call6_cst_0 : Ref sig .tc := ⟨.hbm, 187, rfl⟩
abbrev main_call6_v4 : Ref sig .tc := ⟨.hbm, 188, rfl⟩
abbrev main_v134_2 : Ref sig .tc := ⟨.hbm, 189, rfl⟩
abbrev main_call6_cst_1 : Ref sig .tc := ⟨.hbm, 190, rfl⟩
abbrev main_call6_v6 : Ref sig .tc := ⟨.hbm, 191, rfl⟩
abbrev main_call6_v7 : Ref sig .tc := ⟨.hbm, 192, rfl⟩
abbrev main_v134_1 : Ref sig .tc := ⟨.hbm, 193, rfl⟩
abbrev main_v134_0 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_call7_v0 : Ref sig .tc := ⟨.hbm, 198, rfl⟩
abbrev main_call7_v1 : Ref sig .tc := ⟨.hbm, 199, rfl⟩
abbrev main_call7_v2 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_cst_14 : Ref sig .tc := ⟨.hbm, 209, rfl⟩
abbrev main_v146 : Ref sig .tc := ⟨.hbm, 210, rfl⟩
abbrev main_v147 : Ref sig .tc := ⟨.hbm, 211, rfl⟩
abbrev main_cst_15 : Ref sig .tc := ⟨.hbm, 212, rfl⟩
abbrev main_v148 : Ref sig .tc := ⟨.hbm, 213, rfl⟩
abbrev main_v149 : Ref sig .tc := ⟨.hbm, 214, rfl⟩
abbrev main_cst_16 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩

abbrev nD : Nat := 1
abbrev τ : Topo := Topo.v7x

variable {F : FTy → Type} [FloatOps F]
-- ==== Modulation.lean ====
abbrev S8x1024 : Shape := ⟨2, ![8, 1024]⟩
abbrev S4x1024x384 : Shape := ⟨3, ![4, 1024, 384]⟩
abbrev S8x1536 : Shape := ⟨2, ![8, 1536]⟩
abbrev S1x1024x384 : Shape := ⟨3, ![1, 1024, 384]⟩
abbrev S8x384 : Shape := ⟨2, ![8, 384]⟩
abbrev S1024x384 : Shape := ⟨2, ![1024, 384]⟩

abbrev nBuf : Space → Nat
  | .hbm => 4
  | .vmem => 6
  | .smem => 0
  | _ => 0

abbrev bufTy : (tb : Table) → Fin (tcTables nBuf tb) → BufTy
  | .hbm, ⟨0, _⟩ => ⟨S8x1024, .f32⟩
  | .hbm, ⟨1, _⟩ => ⟨S4x1024x384, .f32⟩
  | .hbm, ⟨2, _⟩ => ⟨S8x1024, .f32⟩
  | .hbm, ⟨3, _⟩ => ⟨S8x1536, .f32⟩
  | .local _ .vmem, ⟨0, _⟩ => ⟨S8x1024, .f32⟩
  | .local _ .vmem, ⟨1, _⟩ => ⟨S1x1024x384, .f32⟩
  | .local _ .vmem, ⟨2, _⟩ => ⟨S1x1024x384, .f32⟩
  | .local _ .vmem, ⟨3, _⟩ => ⟨S8x1024, .f32⟩
  | .local _ .vmem, ⟨4, _⟩ => ⟨S8x384, .f32⟩
  | .local _ .vmem, ⟨5, _⟩ => ⟨S8x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationReferenceIdeal.lean ====
abbrev S8x1024 : Shape := ⟨2, ![8, 1024]⟩
abbrev S4x1024x384 : Shape := ⟨3, ![4, 1024, 384]⟩
abbrev S_ : Shape := ⟨0, ![]⟩
abbrev S1x1024x384 : Shape := ⟨3, ![1, 1024, 384]⟩
abbrev S1024x384 : Shape := ⟨2, ![1024, 384]⟩
abbrev S8x384 : Shape := ⟨2, ![8, 384]⟩
abbrev S8x1536 : Shape := ⟨2, ![8, 1536]⟩

abbrev nBuf : Space → Nat
  | .hbm => 24
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x384, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1x1024x384, .f32⟩
  | .hbm, ⟨12, _⟩ => ⟨S1024x384, .f32⟩
  | .hbm, ⟨13, _⟩ => ⟨S8x384, .f32⟩
  | .hbm, ⟨14, _⟩ => ⟨S1x1024x384, .f32⟩
  | .hbm, ⟨15, _⟩ => ⟨S1024x384, .f32⟩
  | .hbm, ⟨16, _⟩ => ⟨S8x384, .f32⟩
  | .hbm, ⟨17, _⟩ => ⟨S1x1024x384, .f32⟩
  | .hbm, ⟨18, _⟩ => ⟨S1024x384, .f32⟩
  | .hbm, ⟨19, _⟩ => ⟨S8x384, .f32⟩
  | .hbm, ⟨20, _⟩ => ⟨S1x1024x384, .f32⟩
  | .hbm, ⟨21, _⟩ => ⟨S1024x384, .f32⟩
  | .hbm, ⟨22, _⟩ => ⟨S8x384, .f32⟩
  | .hbm, ⟨23, _⟩ => ⟨S8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Proof.Spec.lean ====
/-
   Rows are tokens `t` and run over all natural numbers; a sum over tokens stops at 2048. -/
module

public import Idealize.ShloMosaic.Lib.Pointwise

@[expose] public section

noncomputable section

namespace Layer

open Finset

/-- The entries of the ten arguments. -/
structure Args where
  x : ℕ → ℕ → ℝ
  md : ℕ → ℕ → ℝ
  gpre : ℕ → ℕ → ℝ
  win : ℕ → ℕ → ℝ
  wc : ℕ → ℕ → ℕ → ℝ
  wp : ℕ → ℕ → ℕ → ℕ → ℝ
  ps : ℕ → ℕ → ℝ
  wout : ℕ → ℕ → ℝ
  gpost : ℕ → ℕ → ℝ
  dxo : ℕ → ℕ → ℝ

/-- The number added to a mean square before its root is taken: the value of its word. -/
def eps : ℝ := 8796093 / 8796093022208

/-- The mean square of a row of 1024 entries, and `eps`. -/
def msq (f : ℕ → ℝ) : ℝ := (∑ k ∈ range 1024, f k * f k) / 1024 + eps

/-- The reciprocal root of `msq`. -/
def rms (f : ℕ → ℝ) : ℝ := (√(msq f))⁻¹

/-- `1 / (1 + e^(-v))`. -/
def sgm (v : ℝ) : ℝ := 1 / (1 + Real.exp (-v))

/-- Rows moved `k` later, zeros before. -/
def late (f : ℕ → ℝ) (k t : ℕ) : ℝ := if k ≤ t then f (t - k) else 0

/-- Rows moved `k` earlier, zeros from row 2048 on. -/
def soon (f : ℕ → ℝ) (k t : ℕ) : ℝ := if t + k < 2048 then f (t + k) else 0

/-- The window of pool group `g`. -/
def wdw (g : ℕ) : ℕ := 2 ^ (g + 1)

/-- How many tokens the window of group `g` holds at token `t`. -/
def cnt (g t : ℕ) : ℝ := min ((t : ℝ) + 1) (wdw g : ℝ)

namespace Args

variable (I : Args)

def sh (l : ℕ) : ℝ := I.md 3 l
def sc (l : ℕ) : ℝ := I.md 3 (1024 + l)
def gate (l : ℕ) : ℝ := I.md 3 (2048 + l)

def rx (t : ℕ) : ℝ := rms (I.x t)
def xn (t l : ℕ) : ℝ := I.x t l * I.rx t
def h (t l : ℕ) : ℝ := I.xn t l * I.gpre 3 l * (1 + I.sc l) + I.sh l
def proj (t c : ℕ) : ℝ := ∑ k ∈ range 1024, I.h t k * I.win k c

def z (c t : ℕ) : ℝ := I.proj t (1024 + c) * I.proj t c
def conv (t c : ℕ) : ℝ :=
  I.wc 3 0 c * late (I.z c) 2 t + I.wc 3 1 c * late (I.z c) 1 t + I.wc 3 2 c * I.z c t
def ga (t c : ℕ) : ℝ := I.proj t (1536 + c)
def silua (t c : ℕ) : ℝ := I.ga t c * sgm (I.ga t c)
def bconv (t c : ℕ) : ℝ := I.proj t (512 + c) * I.conv t c

/-- The windowed mean of group `g` less the token, at channel `c` of the group. -/
def pooled (g t c : ℕ) : ℝ :=
  (∑ j ∈ range (wdw g), late (fun s => I.proj s (2048 + (128 * g + c))) j t) / cnt g t - I.proj t (2048 + (128 * g + c))
def mixed (t d : ℕ) : ℝ := ∑ k ∈ range 128, I.pooled (d / 128) t k * I.wp 3 (d / 128) k (d % 128)
def mps (t d : ℕ) : ℝ := I.mixed t d * I.ps 3 d
def gp (t d : ℕ) : ℝ := I.proj t (2560 + d)
def silup (t d : ℕ) : ℝ := I.gp t d * sgm (I.gp t d)

def ycat (t d : ℕ) : ℝ :=
  if d < 512 then I.bconv t d * I.silua t d else I.mps t (d - 512) * I.silup t (d - 512)
def y (t c : ℕ) : ℝ := ∑ k ∈ range 1024, I.ycat t k * I.wout k c
def ry (t : ℕ) : ℝ := rms (I.y t)
def yh (t c : ℕ) : ℝ := I.y t c * I.ry t

/-! The cotangents. -/

def dyh (t c : ℕ) : ℝ := I.dxo t c * (I.gate c * I.gpost 3 c)
def dy (t c : ℕ) : ℝ :=
  I.ry t * (I.dyh t c - I.yh t c * ((∑ k ∈ range 1024, I.dyh t k * I.yh t k) / 1024))
def dycat (t k : ℕ) : ℝ := ∑ c ∈ range 1024, I.dy t c * I.wout k c

def db (t c : ℕ) : ℝ := I.dycat t c * (I.silua t c * I.conv t c)
def dconv (c t : ℕ) : ℝ := I.dycat t c * (I.silua t c * I.proj t (512 + c))
def dga (t c : ℕ) : ℝ :=
  I.dycat t c * (I.bconv t c * (sgm (I.ga t c) + I.silua t c * (1 - sgm (I.ga t c))))
def dz (t c : ℕ) : ℝ :=
  I.wc 3 2 c * I.dconv c t + I.wc 3 1 c * soon (I.dconv c) 1 t + I.wc 3 0 c * soon (I.dconv c) 2 t

def dmixed (t d : ℕ) : ℝ := I.dycat t (512 + d) * (I.ps 3 d * I.silup t d)
def dgp (t d : ℕ) : ℝ :=
  I.dycat t (512 + d) * (I.mps t d * (sgm (I.gp t d) + I.silup t d * (1 - sgm (I.gp t d))))
/-- The cotangent of `pooled` at group `g`, channel `c`. -/
def dpool (g t c : ℕ) : ℝ := ∑ k ∈ range 128, I.dmixed t (128 * g + k) * I.wp 3 g c k
/-- `dpool` over the number of tokens of the window. -/
def q (g c t : ℕ) : ℝ := I.dpool g t c / cnt g t
def dup (g t c : ℕ) : ℝ := (∑ j ∈ range (wdw g), soon (I.q g c) j t) - I.dpool g t c

def dproj (t c : ℕ) : ℝ :=
  if c < 512 then I.dz t c * I.proj t (1024 + c)
  else if c < 1024 then I.db t (c - 512)
  else if c < 1536 then I.dz t (c - 1024) * I.proj t (c - 1024)
  else if c < 2048 then I.dga t (c - 1536)
  else if c < 2560 then I.dup ((c - 2048) / 128) t ((c - 2048) % 128)
  else I.dgp t (c - 2560)
def dh (t l : ℕ) : ℝ := ∑ c ∈ range 3072, I.dproj t c * I.win l c
def dxn (t l : ℕ) : ℝ := I.dh t l * (I.gpre 3 l * (1 + I.sc l))
def dx (t l : ℕ) : ℝ :=
  I.dxo t l + I.rx t * (I.dxn t l - I.xn t l * ((∑ k ∈ range 1024, I.dxn t k * I.xn t k) / 1024))

/-! The sums over the tokens. -/

def dwpool (g c d : ℕ) : ℝ := ∑ t ∈ range 2048, I.pooled g t c * I.dmixed t (128 * g + d)
def dwc (j c : ℕ) : ℝ := ∑ t ∈ range 2048, I.dconv c t * late (I.z c) (2 - j) t
def dps (d : ℕ) : ℝ := ∑ t ∈ range 2048, I.dycat t (512 + d) * (I.silup t d * I.mixed t d)
def sumdh (l : ℕ) : ℝ := ∑ t ∈ range 2048, I.dh t l
def sumdhx (l : ℕ) : ℝ := ∑ t ∈ range 2048, I.dh t l * I.xn t l
def sumdy (c : ℕ) : ℝ := ∑ t ∈ range 2048, I.dxo t c * I.yh t c

/-- The gradients of the convolution's weights (rows 0 to 2) and of the pool's scale (row 3). -/
def dcps (j c : ℕ) : ℝ := if j < 3 then I.dwc j c else if j = 3 then I.dps c else 0
/-- The gradients of shift, scale and gate (rows 0 to 2) and of the two norms' gains (rows 3 and 4). -/
def dvec (j l : ℕ) : ℝ :=
  if j = 0 then I.sumdh l else if j = 1 then I.sumdhx l * I.gpre 3 l else if j = 2 then I.sumdy l * I.gpost 3 l
  else if j = 3 then I.sumdhx l * (1 + I.sc l) else if j = 4 then I.sumdy l * I.gate l else 0

end Args

end Layer
-- ==== Proof.Reals.lean ====
/- The extended reals' operations at reals, the constants of the programs, and sums over moved rows. -/
module

public import proofs.«01_k».proof.Proof.Spec
public import Idealize.ShloMosaic.Lib.IdealHost

@[expose] public section

set_option maxRecDepth 16384

noncomputable section

namespace Layer

open Finset Idealize.ShloMosaic

/-! ## Constants -/

theorem c_1024 : Ideal.ofBits .f32 0x44800000#32 = ((1024 : ℝ) : EReal) := by
  simp [Ideal.ofBits, Ideal.ieee, -EReal.coe_mul]; norm_num
theorem c_inv1024 : Ideal.ofBits .f32 0x3A800000#32 = ((1 / 1024 : ℝ) : EReal) := by
  simp [Ideal.ofBits, Ideal.ieee, -EReal.coe_mul]; norm_num
theorem c_half : Ideal.ofBits .f32 0xBF000000#32 = ((-(1 / 2) : ℝ) : EReal) := by
  simp [Ideal.ofBits, Ideal.ieee, -EReal.coe_mul, -EReal.coe_neg]; norm_num
theorem c_eps : Ideal.ofBits .f32 0x358637BD#32 = ((eps : ℝ) : EReal) := by
  simp [Ideal.ofBits, Ideal.ieee, -EReal.coe_mul, eps]; norm_num
theorem c_two : Ideal.ofBits .f32 0x40000000#32 = ((2 : ℝ) : EReal) := by
  simp [Ideal.ofBits, Ideal.ieee, -EReal.coe_mul]; norm_num
theorem c_four : Ideal.ofBits .f32 0x40800000#32 = ((4 : ℝ) : EReal) := by
  simp [Ideal.ofBits, Ideal.ieee, -EReal.coe_mul]; norm_num
theorem c_eight : Ideal.ofBits .f32 0x41000000#32 = ((8 : ℝ) : EReal) := by
  simp [Ideal.ofBits, Ideal.ieee, -EReal.coe_mul]; norm_num
theorem c_sixteen : Ideal.ofBits .f32 0x41800000#32 = ((16 : ℝ) : EReal) := by
  simp [Ideal.ofBits, Ideal.ieee, -EReal.coe_mul]; norm_num
theorem c_one : (1 : EReal) = ((1 : ℝ) : EReal) := rfl
theorem c_zero : (0 : EReal) = ((0 : ℝ) : EReal) := rfl

/-! ## Operations at reals -/

theorem sum_real {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

theorem div_real (x : ℝ) {y : ℝ} (h : y ≠ 0) : Ideal.div (x : EReal) (y : EReal) = ((x / y : ℝ) : EReal) := by
  rw [Ideal.div_coe h, ← EReal.coe_mul, mul_one_div]

theorem rsqrt_real {x : ℝ} (h : 0 < x) : Ideal.rsqrt (x : EReal) = (((√x)⁻¹ : ℝ) : EReal) := by
  rw [Ideal.rsqrt_coe, if_neg (not_lt.mpr h.le), if_neg h.ne']

theorem min_real (x y : ℝ) : min (x : EReal) (y : EReal) = ((min x y : ℝ) : EReal) := by
  rcases le_total x y with h | h
  · rw [min_eq_left h, min_eq_left (EReal.coe_le_coe_iff.mpr h)]
  · rw [min_eq_right h, min_eq_right (EReal.coe_le_coe_iff.mpr h)]

theorem ite_real (p : Prop) [Decidable p] (x y : ℝ) :
    (if p then (x : EReal) else (y : EReal)) = ((if p then x else y : ℝ) : EReal) := by split <;> rfl

theorem dite_real (p : Prop) [Decidable p] (x : p → ℝ) (y : ¬p → ℝ) :
    (if h : p then ((x h : ℝ) : EReal) else ((y h : ℝ) : EReal)) = ((if h : p then x h else y h : ℝ) : EReal) := by
  split <;> rfl

theorem eps_pos : 0 < eps := by norm_num [eps]
theorem msq_pos (f : ℕ → ℝ) : 0 < msq f := by
  have : 0 ≤ (∑ k ∈ range 1024, f k * f k) / 1024 := by
    apply div_nonneg _ (by norm_num)
    exact sum_nonneg fun k _ => mul_self_nonneg _
  have := eps_pos
  unfold msq; linarith
theorem rms_real (f : ℕ → ℝ) : Ideal.rsqrt ((msq f : ℝ) : EReal) = ((rms f : ℝ) : EReal) := rsqrt_real (msq_pos f)
theorem sig_ne (v : ℝ) : 1 + Real.exp (-v) ≠ 0 := by positivity
theorem cnt_pos (g t : ℕ) : 0 < cnt g t := by
  unfold cnt wdw; exact lt_min (by positivity) (by positivity)

/-- The reciprocal root over its mean square is the root's cube: twice the root over the mean square. -/
theorem rms_div (f : ℕ → ℝ) : rms f / msq f = rms f * (rms f * rms f) := by
  have h := msq_pos f
  have : rms f * rms f = (msq f)⁻¹ := by
    unfold rms; rw [← mul_inv, Real.mul_self_sqrt h.le]
  rw [this, div_eq_mul_inv]

theorem div_1024 (x : ℝ) : Ideal.div (x : EReal) ((1024 : ℝ) : EReal) = ((x / 1024 : ℝ) : EReal) :=
  div_real x (by norm_num)
theorem div_cnt (x : ℝ) (g t : ℕ) : Ideal.div (x : EReal) ((cnt g t : ℝ) : EReal) = ((x / cnt g t : ℝ) : EReal) :=
  div_real x (cnt_pos g t).ne'
theorem div_sig (v : ℝ) : Ideal.div ((1 : ℝ) : EReal) ((1 + Real.exp (-v) : ℝ) : EReal) = ((sgm v : ℝ) : EReal) :=
  div_real 1 (sig_ne v)
theorem div_rms (f : ℕ → ℝ) :
    Ideal.div ((rms f : ℝ) : EReal) ((msq f : ℝ) : EReal) = ((rms f * (rms f * rms f) : ℝ) : EReal) := by
  rw [div_real _ (msq_pos f).ne', rms_div]
theorem add_real (x y : ℝ) : (x : EReal) + (y : EReal) = ((x + y : ℝ) : EReal) := rfl
theorem mul_real (x y : ℝ) : (x : EReal) * (y : EReal) = ((x * y : ℝ) : EReal) := (EReal.coe_mul x y).symm
theorem neg_real (x : ℝ) : -(x : EReal) = ((-x : ℝ) : EReal) := rfl
theorem sub_real (x y : ℝ) : (x : EReal) - (y : EReal) = ((x - y : ℝ) : EReal) := (EReal.coe_sub x y).symm
theorem exp_real (x : ℝ) : Ideal.exp (x : EReal) = ((Real.exp x : ℝ) : EReal) := rfl

/-- All of these, to read an expression over reals as a real. -/
theorem reals : ((1 : EReal) = ((1 : ℝ) : EReal)) ∧ ((0 : EReal) = ((0 : ℝ) : EReal))
    ∧ (Ideal.ofBits .f32 0x44800000#32 = ((1024 : ℝ) : EReal)) ∧ (Ideal.ofBits .f32 0xBF000000#32 = ((-(1 / 2) : ℝ) : EReal))
    ∧ (Ideal.ofBits .f32 0x358637BD#32 = ((eps : ℝ) : EReal)) ∧ (Ideal.ofBits .f32 0x40000000#32 = ((2 : ℝ) : EReal))
    ∧ (Ideal.ofBits .f32 0x40800000#32 = ((4 : ℝ) : EReal)) ∧ (Ideal.ofBits .f32 0x41000000#32 = ((8 : ℝ) : EReal))
    ∧ (Ideal.ofBits .f32 0x41800000#32 = ((16 : ℝ) : EReal))
    ∧ (∀ x y : ℝ, (x : EReal) + (y : EReal) = ((x + y : ℝ) : EReal))
    ∧ (∀ x y : ℝ, (x : EReal) * (y : EReal) = ((x * y : ℝ) : EReal))
    ∧ (∀ x : ℝ, -(x : EReal) = ((-x : ℝ) : EReal))
    ∧ (∀ x y : ℝ, (x : EReal) - (y : EReal) = ((x - y : ℝ) : EReal))
    ∧ (∀ x : ℝ, Ideal.exp (x : EReal) = ((Real.exp x : ℝ) : EReal))
    ∧ (∀ x y : ℝ, min (x : EReal) (y : EReal) = ((min x y : ℝ) : EReal))
    ∧ (∀ x : ℝ, Ideal.div (x : EReal) ((1024 : ℝ) : EReal) = ((x / 1024 : ℝ) : EReal))
    ∧ (∀ (x : ℝ) (g t : ℕ), Ideal.div (x : EReal) ((cnt g t : ℝ) : EReal) = ((x / cnt g t : ℝ) : EReal))
    ∧ (∀ v : ℝ, Ideal.div ((1 : ℝ) : EReal) ((1 + Real.exp (-v) : ℝ) : EReal) = ((sgm v : ℝ) : EReal))
    ∧ (∀ f : ℕ → ℝ, Ideal.div ((rms f : ℝ) : EReal) ((msq f : ℝ) : EReal) = ((rms f * (rms f * rms f) : ℝ) : EReal))
    ∧ (∀ f : ℕ → ℝ, Ideal.rsqrt ((msq f : ℝ) : EReal) = ((rms f : ℝ) : EReal)) :=
  ⟨rfl, rfl, c_1024, c_half, c_eps, c_two, c_four, c_eight, c_sixteen, add_real, mul_real, neg_real, sub_real, exp_real,
    min_real, div_1024, div_cnt, div_sig, div_rms, rms_real⟩

/-- The gradient of a root mean square norm at `f`, of cotangent `u`: the three terms of the chain rule as one. -/
theorem norm_grad (r : ℝ) (f u : ℕ → ℝ) (l : ℕ) :
    u l * r + f l * ((-(1 / 2) * (r * (r * r)) * ∑ k ∈ range 1024, f k * u k) / 1024)
        + (-(1 / 2) * (r * (r * r)) * ∑ k ∈ range 1024, f k * u k) / 1024 * f l
      = r * (u l - f l * r * ((∑ k ∈ range 1024, u k * (f k * r)) / 1024)) := by
  have : ∑ k ∈ range 1024, u k * (f k * r) = r * ∑ k ∈ range 1024, f k * u k := by
    rw [mul_sum]; exact sum_congr rfl fun k _ => by ring
  rw [this]; ring

/-- The product with `wout`, the two branches' channels apart. -/
theorem y_halves (I : Args) (t c : ℕ) :
    I.y t c = (∑ k ∈ range 512, I.bconv t k * I.silua t k * I.wout k c)
      + ∑ k ∈ range 512, I.mps t k * I.silup t k * I.wout (512 + k) c := by
  unfold Args.y
  refine (sum_range_add _ 512 512).trans (congrArg₂ (· + ·) (sum_congr rfl fun k hk => ?_) (sum_congr rfl fun k _ => ?_))
  · rw [Args.ycat, if_pos (mem_range.mp hk)]
  · rw [Args.ycat, if_neg (by omega), Nat.add_sub_cancel_left]

/-- Four groups of 128 channels, each padded to 512 and added up, are the channel's own group. -/
theorem four_groups (f : ℕ → ℕ → ℝ) {c : ℕ} (hc : c < 512) :
    (if 384 ≤ c ∧ c - 384 < 128 then f 3 (c - 384) else 0) + (if 256 ≤ c ∧ c - 256 < 128 then f 2 (c - 256) else 0)
        + (if 128 ≤ c ∧ c - 128 < 128 then f 1 (c - 128) else 0) + (if 0 ≤ c ∧ c - 0 < 128 then f 0 (c - 0) else 0)
      = f (c / 128) (c % 128) := by
  have hd := Nat.div_add_mod c 128
  have hm := Nat.mod_lt c (show 0 < 128 by norm_num)
  generalize c / 128 = g at *
  generalize c % 128 = k at *
  subst hd
  have hg : g < 4 := by omega
  interval_cases g <;> split_ifs <;> first | omega | (simp)

/-- The six parts of the projection's cotangent, each padded to 3072 columns and added up. -/
theorem six_parts (I : Args) (t : ℕ) {c : ℕ} (hc : c < 3072) :
    (if 2560 ≤ c ∧ c - 2560 < 512 then I.dgp t (c - 2560) else 0)
        + (if 2048 ≤ c ∧ c - 2048 < 512 then I.dup ((c - 2048) / 128) t ((c - 2048) % 128) else 0)
        + (if 1536 ≤ c ∧ c - 1536 < 512 then I.dga t (c - 1536) else 0)
        + (if 1024 ≤ c ∧ c - 1024 < 512 then I.dz t (c - 1024) * I.proj t (c - 1024) else 0)
        + (if 512 ≤ c ∧ c - 512 < 512 then I.db t (c - 512) else 0)
        + (if 0 ≤ c ∧ c - 0 < 512 then I.dz t (c - 0) * I.proj t (1024 + (c - 0)) else 0)
      = I.dproj t c := by
  have n : ∀ {p : Prop} [Decidable p] (x : ℝ), ¬p → (if p then x else 0) = 0 := fun x h => if_neg h
  unfold Args.dproj
  rcases (by omega : c < 512 ∨ (512 ≤ c ∧ c < 1024) ∨ (1024 ≤ c ∧ c < 1536) ∨ (1536 ≤ c ∧ c < 2048)
    ∨ (2048 ≤ c ∧ c < 2560) ∨ 2560 ≤ c) with h | h | h | h | h | h
  · rw [n _ (by omega), n _ (by omega), n _ (by omega), n _ (by omega), n _ (by omega), if_pos (by omega), if_pos (by omega)]; simp
  · rw [n _ (by omega), n _ (by omega), n _ (by omega), n _ (by omega), if_pos (by omega), n _ (by omega), if_neg (by omega), if_pos (by omega)]; simp
  · rw [n _ (by omega), n _ (by omega), n _ (by omega), if_pos (by omega), n _ (by omega), n _ (by omega), if_neg (by omega), if_neg (by omega), if_pos (by omega)]; simp
  · rw [n _ (by omega), n _ (by omega), if_pos (by omega), n _ (by omega), n _ (by omega), n _ (by omega), if_neg (by omega), if_neg (by omega), if_neg (by omega), if_pos (by omega)]; simp
  · rw [n _ (by omega), if_pos (by omega), n _ (by omega), n _ (by omega), n _ (by omega), n _ (by omega), if_neg (by omega), if_neg (by omega), if_neg (by omega), if_neg (by omega), if_pos (by omega)]; simp
  · rw [if_pos (by omega), n _ (by omega), n _ (by omega), n _ (by omega), n _ (by omega), n _ (by omega), if_neg (by omega), if_neg (by omega), if_neg (by omega), if_neg (by omega), if_neg (by omega)]; simp

/-! ## Sums over moved rows -/

/-- A running sum less itself `w` rows before is the sum over a window of `w` rows. -/
theorem late_window (f : ℕ → ℝ) {w t : ℕ} (ht : t < 2048) :
    (∑ j ∈ range 2048, late f j t) - late (fun s => ∑ j ∈ range 2048, late f j s) w t = ∑ j ∈ range w, late f j t := by
  have e : late (fun s => ∑ j ∈ range 2048, late f j s) w t = ∑ j ∈ range 2048, late f (w + j) t := by
    unfold late
    by_cases h : w ≤ t
    · rw [if_pos h]
      refine sum_congr rfl fun j _ => ?_
      by_cases h' : j ≤ t - w
      · rw [if_pos h', if_pos (by omega)]; congr 1; omega
      · rw [if_neg h', if_neg (by omega)]
    · rw [if_neg h]
      exact (sum_eq_zero fun j _ => if_neg (by omega)).symm
  have s : ∑ j ∈ range (w + 2048), late f j t = ∑ j ∈ range 2048, late f j t := by
    refine (sum_subset (range_subset_range.mpr (by omega)) fun j _ hj => if_neg ?_).symm
    have := mem_range.not.mp hj; omega
  rw [e, ← s, sum_range_add]; ring

/-- The same from the other end. -/
theorem soon_window (f : ℕ → ℝ) (w t : ℕ) :
    (∑ j ∈ range 2048, soon (fun s => f s + -soon f w s) j t) = ∑ j ∈ range w, soon f j t := by
  have e : ∀ j ∈ range 2048, soon (fun s => f s + -soon f w s) j t = soon f j t - soon f (w + j) t := by
    intro j _
    unfold soon
    by_cases h : t + j < 2048
    · rw [if_pos h, if_pos h]
      dsimp only
      rw [show t + j + w = t + (w + j) by omega]; ring
    · rw [if_neg h, if_neg h, if_neg (by omega)]; ring
  have s : ∑ j ∈ range (w + 2048), soon f j t = ∑ j ∈ range 2048, soon f j t := by
    refine (sum_subset (range_subset_range.mpr (by omega)) fun j _ hj => if_neg ?_).symm
    have := mem_range.not.mp hj; omega
  rw [sum_congr rfl e, sum_sub_distrib, ← s, sum_range_add]; ring

theorem late_real (f : ℕ → ℝ) (k t : ℕ) :
    (if _ : t < k then ((0 : ℝ) : EReal) else ((f (t - k) : ℝ) : EReal)) = ((late f k t : ℝ) : EReal) := by
  unfold late
  by_cases h : t < k
  · rw [dif_pos h, if_neg (by omega)]
  · rw [dif_neg h, if_pos (by omega)]

theorem window_real (f : ℕ → ℝ) (w : ℕ) {t : ℕ} (ht : t < 2048) :
    ((∑ j ∈ range 2048, late f j t) - (if _ : t < w then 0 else ∑ j ∈ range 2048, late f j (t - w)))
      = ∑ j ∈ range w, late f j t := by
  rw [← late_window (w := w) f ht]
  congr 1
  by_cases h : t < w
  · rw [dif_pos h, late, if_neg (by omega)]
  · rw [dif_neg h, late, if_pos (by omega)]

/-- Token `t` is the `t + 1`st. -/
theorem count_real {t : ℕ} (ht : t < 2048) :
    FloatOps.sitofp (F := Ideal) .f32 (IntOp.addi 1#32 (BitVec.ofNat 32 t)) = (((t : ℝ) + 1 : ℝ) : EReal) := by
  have : (IntOp.addi 1#32 (BitVec.ofNat 32 t)).toInt = (t : ℤ) + 1 := by
    unfold IntOp.addi
    rw [BitVec.toInt_eq_toNat_of_lt] <;> simp <;> omega
  have e : FloatOps.sitofp (F := Ideal) .f32 (IntOp.addi 1#32 (BitVec.ofNat 32 t))
      = (((IntOp.addi 1#32 (BitVec.ofNat 32 t)).toInt : ℝ) : EReal) := rfl
  rw [e, this]
  push_cast; rfl

/-- Twice a window: the window's sum and the sum one window earlier. -/
theorem window_double (f : ℕ → ℝ) (k t : ℕ) :
    ((∑ j ∈ range k, late f j t) + (if _ : t < k then 0 else ∑ j ∈ range k, late f j (t - k)))
      = ∑ j ∈ range (k + k), late f j t := by
  rw [sum_range_add _ k k]
  congr 1
  by_cases h : t < k
  · rw [dif_pos h]
    exact (sum_eq_zero fun j _ => by rw [late, if_neg (by omega)]).symm
  · rw [dif_neg h]
    refine sum_congr rfl fun j _ => ?_
    unfold late
    by_cases h' : j ≤ t - k
    · rw [if_pos h', if_pos (by omega)]; congr 1; omega
    · rw [if_neg h', if_neg (by omega)]

/-- The window of two tokens. -/
theorem window_two (f : ℕ → ℝ) (t : ℕ) : (f t + (if _ : t < 1 then 0 else f (t - 1))) = ∑ j ∈ range 2, late f j t := by
  have h := window_double f 1 t
  simpa [late] using h

/-- One over the number of tokens of a window, the window's size under any name. -/
theorem inv_count (g t : ℕ) {w : ℝ} (hw : w = (wdw g : ℝ)) :
    Ideal.div ((1 : ℝ) : EReal) ((min ((t : ℝ) + 1) w : ℝ) : EReal) = ((1 / cnt g t : ℝ) : EReal) := by
  rw [hw]; exact div_cnt 1 g t

/-- A token's number among the tokens so far, the one added last. -/
theorem count_real' {t : ℕ} (ht : t < 2048) :
    FloatOps.sitofp (F := Ideal) .f32 (IntOp.addi (BitVec.ofNat 32 t) 1#32) = (((t : ℝ) + 1 : ℝ) : EReal) := by
  rw [← count_real ht]; unfold IntOp.addi; rw [BitVec.add_comm]

/-- A fold that adds is a sum. -/
theorem foldl_sum {n : ℕ} (f : Fin n → EReal) (v : EReal) :
    (List.finRange n).foldl (fun r k => r + f k) v = v + ∑ k, f k := by
  rw [← List.sum_ofFn, List.ofFn_eq_map]
  generalize List.finRange n = L
  induction L generalizing v with
  | nil => simp
  | cons a L ih => simp [ih, add_assoc]

/-- The sum a window of 2048 rows takes, row by row of the window; `lo` rows of padding come first. -/
theorem window_rows (lo hi : ℕ) (x : FVec Ideal ⟨2, ![2048, 128]⟩ .f32) (f : ℕ → ℕ → ℝ)
    (hx : ∀ r l, x (ix2 r l) = ((f l.val r.val : ℝ) : EReal)) {u : Shape} (init : u.Idx → EReal) (hi0 : ∀ i, init i = 0)
    (h : (⟨2, ![2048, 128]⟩ : Shape).ReduceWindows ![2048, 1] ![1, 1] ![lo, 0] ![hi, 0] ⟨2, ![2048, 128]⟩)
    (hu : 0 < u.numel) (r : Fin 2048) (l : Fin 128) :
    Host.reduceWindowAdd (F := Ideal) (φ := .f32) ![2048, 1] ![1, 1] ![lo, 0] ![hi, 0] x init h hu (ix2 r l)
      = ((∑ a ∈ range 2048, (if lo ≤ r.val + a ∧ r.val + a - lo < 2048 then f l.val (r.val + a - lo) else 0) : ℝ) : EReal) := by
  unfold Host.reduceWindowAdd
  rw [Ideal.hostReduceWindowAdd_def]
  unfold Ideal.hostReduceWindowAdd Host.reduceWindow
  dsimp only
  rw [foldl_sum, hi0, zero_add]
  refine (Fintype.sum_equiv (Shape.rowMajor ⟨2, ![2048, 1]⟩).symm _
    (fun i : (⟨2, ![2048, 1]⟩ : Shape).Idx =>
      ((if lo ≤ r.val + (i 0).val ∧ r.val + (i 0).val - lo < 2048 then f l.val (r.val + (i 0).val - lo) else 0 : ℝ) : EReal))
    fun n => ?_).trans ?_
  · have i1 : ((Shape.rowMajor ⟨2, ![2048, 1]⟩).symm n 1).val = 0 :=
      Nat.lt_one_iff.mp ((Shape.rowMajor ⟨2, ![2048, 1]⟩).symm n 1).isLt
    by_cases hc : lo ≤ r.val + ((Shape.rowMajor ⟨2, ![2048, 1]⟩).symm n 0).val
        ∧ r.val + ((Shape.rowMajor ⟨2, ![2048, 1]⟩).symm n 0).val - lo < 2048
    · rw [if_pos hc, dif_pos]
      · refine (congrArg x (funext fun a => Fin.ext ?_)).trans (hx ⟨_, hc.2⟩ l)
        refine Fin.cases ?_ (fun b => Fin.cases ?_ (fun b => b.elim0) b) a
        · show r.val * 1 + _ - lo = _
          rw [mul_one]; rfl
        · show l.val * 1 + ((Shape.rowMajor ⟨2, ![2048, 1]⟩).symm n 1).val - 0 = l.val
          rw [i1]; omega
      · refine fun a => Fin.cases ?_ (fun b => Fin.cases ?_ (fun b => b.elim0) b) a
        · show lo ≤ r.val * 1 + _ ∧ r.val * 1 + _ - lo < 2048
          rw [mul_one]; exact hc
        · show 0 ≤ l.val * 1 + _ ∧ l.val * 1 + ((Shape.rowMajor ⟨2, ![2048, 1]⟩).symm n 1).val - 0 < 128
          rw [i1]; have := l.isLt; omega
    · rw [if_neg hc, dif_neg]
      · rfl
      · intro hn
        have h0 := hn 0
        have h0' : lo ≤ r.val * 1 + ((Shape.rowMajor ⟨2, ![2048, 1]⟩).symm n 0).val
            ∧ r.val * 1 + ((Shape.rowMajor ⟨2, ![2048, 1]⟩).symm n 0).val - lo < 2048 := h0
        rw [mul_one] at h0'; exact hc h0'
  · rw [Idealize.ShloMosaic.sum_idx2]
    simp only [Fin.sum_univ_one]
    rw [sum_real, sum_range]
    rfl

/-- The running sum down the rows. -/
theorem cumsum_real (x : FVec Ideal ⟨2, ![2048, 128]⟩ .f32) (f : ℕ → ℕ → ℝ)
    (hx : ∀ r l, x (ix2 r l) = ((f l.val r.val : ℝ) : EReal)) {u : Shape} (init : u.Idx → EReal) (hi0 : ∀ i, init i = 0)
    (h : (⟨2, ![2048, 128]⟩ : Shape).ReduceWindows ![2048, 1] ![1, 1] ![2047, 0] ![0, 0] ⟨2, ![2048, 128]⟩)
    (hu : 0 < u.numel) (r : Fin 2048) (l : Fin 128) :
    Host.reduceWindowAdd (F := Ideal) (φ := .f32) ![2048, 1] ![1, 1] ![2047, 0] ![0, 0] x init h hu (ix2 r l)
      = ((∑ j ∈ range 2048, late (f l.val) j r.val : ℝ) : EReal) := by
  rw [window_rows 2047 0 x f hx init hi0 h hu r l, ← sum_range_reflect]
  congr 1
  refine sum_congr rfl fun j hj => ?_
  have := mem_range.mp hj
  have := r.isLt
  unfold late
  by_cases hc : j ≤ r.val
  · rw [if_pos hc, if_pos (by omega), show r.val + (2048 - 1 - j) - 2047 = r.val - j by omega]
  · rw [if_neg hc, if_neg (by omega)]

/-- The running sum up the rows. -/
theorem revsum_real (x : FVec Ideal ⟨2, ![2048, 128]⟩ .f32) (f : ℕ → ℕ → ℝ)
    (hx : ∀ r l, x (ix2 r l) = ((f l.val r.val : ℝ) : EReal)) {u : Shape} (init : u.Idx → EReal) (hi0 : ∀ i, init i = 0)
    (h : (⟨2, ![2048, 128]⟩ : Shape).ReduceWindows ![2048, 1] ![1, 1] ![0, 0] ![2047, 0] ⟨2, ![2048, 128]⟩)
    (hu : 0 < u.numel) (r : Fin 2048) (l : Fin 128) :
    Host.reduceWindowAdd (F := Ideal) (φ := .f32) ![2048, 1] ![1, 1] ![0, 0] ![2047, 0] x init h hu (ix2 r l)
      = ((∑ j ∈ range 2048, soon (f l.val) j r.val : ℝ) : EReal) := by
  rw [window_rows 0 2047 x f hx init hi0 h hu r l]
  congr 1
  refine sum_congr rfl fun j _ => ?_
  unfold soon
  by_cases hc : r.val + j < 2048
  · rw [if_pos hc, if_pos (by omega), Nat.sub_zero]
  · rw [if_neg hc, if_neg (by omega)]

/-! ## Vectors of reals, an operation at an index -/

theorem add_at {s : Shape} {φ : FTy} {u v : FVec Ideal s φ} {i : s.Idx} {x y : ℝ} (hu : u i = (x : EReal))
    (hv : v i = (y : EReal)) : addf u v i = ((x + y : ℝ) : EReal) := by
  show u i + v i = _
  rw [hu, hv]; rfl

/-- Columns padded with zeros on both sides. -/
theorem pad_cols {m n N o hi : ℕ} (x : FVec Ideal ⟨2, ![m, n]⟩ .f32) (f : ℕ → ℕ → ℝ)
    (hx : ∀ r l, x (ix2 r l) = ((f r.val l.val : ℝ) : EReal)) {u : Shape} (v : u.Idx → EReal) (hv : ∀ i, v i = 0)
    (h : (⟨2, ![m, n]⟩ : Shape).Pads ![0, o] ![0, hi] ![0, 0] ⟨2, ![m, N]⟩) (hu : 0 < u.numel) (r : Fin m) (c : Fin N) :
    (pad ⟨2, ![m, N]⟩ ![0, o] ![0, hi] ![0, 0] x v h hu : FVec Ideal ⟨2, ![m, N]⟩ .f32) (ix2 r c)
      = ((if o ≤ c.val ∧ c.val - o < n then f r.val (c.val - o) else 0 : ℝ) : EReal) := by
  by_cases hc : o ≤ c.val ∧ c.val - o < n
  · rw [if_pos hc]
    pointwise
    refine (dif_pos hc).trans ?_
    refine (congrArg x (funext fun a => Fin.ext ?_)).trans (hx r ⟨c.val - o, hc.2⟩)
    refine Fin.cases ?_ (fun b => Fin.cases ?_ (fun b => b.elim0) b) a
    · show (r.val - 0) / (0 + 1) = r.val
      omega
    · show (c.val - o) / (0 + 1) = c.val - o
      omega
  · rw [if_neg hc]
    pointwise
    exact (dif_neg hc).trans (hv _)

/-- Rows moved up, zeros below. -/
theorem pad_rows {m n N k : ℕ} (x : FVec Ideal ⟨2, ![m, n]⟩ .f32) (f : ℕ → ℕ → ℝ)
    (hx : ∀ r l, x (ix2 r l) = ((f l.val r.val : ℝ) : EReal)) {u : Shape} (v : u.Idx → EReal) (hv : ∀ i, v i = 0)
    (h : (⟨2, ![m, n]⟩ : Shape).Pads ![0, 0] ![k, 0] ![0, 0] ⟨2, ![N, n]⟩) (hu : 0 < u.numel) (r : Fin N) (c : Fin n) :
    (pad ⟨2, ![N, n]⟩ ![0, 0] ![k, 0] ![0, 0] x v h hu : FVec Ideal ⟨2, ![N, n]⟩ .f32) (ix2 r c)
      = ((if r.val < m then f c.val r.val else 0 : ℝ) : EReal) := by
  pointwise
  by_cases hc : r.val < m
  · rw [if_pos hc]
    refine (dif_pos hc).trans ?_
    refine (congrArg x (funext fun a => Fin.ext ?_)).trans (hx ⟨r.val, hc⟩ c)
    refine Fin.cases ?_ (fun b => Fin.cases ?_ (fun b => b.elim0) b) a
    · show (r.val - 0) / (0 + 1) = r.val
      omega
    · show (c.val - 0) / (0 + 1) = c.val
      omega
  · rw [if_neg hc]
    exact (dif_neg hc).trans (hv _)

end Layer
-- ==== Proof.Ref.lean ====
/- The reference's buffers, entry by entry, as the reals of `Layer.Args`. -/
module

public import proofs.«01_k».proof.Proof.Gen.ReferenceIdeal.Run
public import proofs.«01_k».proof.Proof.Reals

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Layer (late soon msq rms sgm cnt wdw reals sum_real ite_real dite_real)

/-- The ten arguments' contents are the reals of `I`. -/
def Reads (V0 : Valuation τ sig (Elt Ideal)) (I : Layer.Args) : Prop :=
  (∀ r l, V0 (Proc.devRef .tc main_arg0) (ix2 r l) = ((I.x r.val l.val : ℝ) : EReal))
  ∧ (∀ r l, V0 (Proc.devRef .tc main_arg1) (ix2 r l) = ((I.md r.val l.val : ℝ) : EReal))
  ∧ (∀ r l, V0 (Proc.devRef .tc main_arg2) (ix2 r l) = ((I.gpre r.val l.val : ℝ) : EReal))
  ∧ (∀ r l, V0 (Proc.devRef .tc main_arg3) (ix2 r l) = ((I.win r.val l.val : ℝ) : EReal))
  ∧ (∀ a r l, V0 (Proc.devRef .tc main_arg4) (ix3 a r l) = ((I.wc a.val r.val l.val : ℝ) : EReal))
  ∧ (∀ a b r l, V0 (Proc.devRef .tc main_arg5) (ix4 a b r l) = ((I.wp a.val b.val r.val l.val : ℝ) : EReal))
  ∧ (∀ r l, V0 (Proc.devRef .tc main_arg6) (ix2 r l) = ((I.ps r.val l.val : ℝ) : EReal))
  ∧ (∀ r l, V0 (Proc.devRef .tc main_arg7) (ix2 r l) = ((I.wout r.val l.val : ℝ) : EReal))
  ∧ (∀ r l, V0 (Proc.devRef .tc main_arg8) (ix2 r l) = ((I.gpost r.val l.val : ℝ) : EReal))
  ∧ (∀ r l, V0 (Proc.devRef .tc main_arg9) (ix2 r l) = ((I.dxo r.val l.val : ℝ) : EReal))

variable {V0 : Valuation τ sig (Elt Ideal)} {I : Layer.Args} (H : Reads V0 I)
include H

/-! ## The forward lines -/

theorem r1 : ∀ l, res_main_v1 V0 (ix1 l) = ((I.md 3 l.val : ℝ) : EReal) := by
  intro l
  have A := H; unfold Reads at A
  pointwise [res_main_v1]
  simp only [A, reals, Fin.sum_univ_one, sum_real, ite_real, dite_real]
  first | rfl | (refine congrArg Real.toEReal ?_; ring)

theorem r5 : ∀ j c, res_main_v5 V0 (ix2 j c) = ((I.wc 3 j.val c.val : ℝ) : EReal) := by
  intro j c
  have A := H; unfold Reads at A
  pointwise [res_main_v5]
  simp only [A, reals, Fin.sum_univ_one, sum_real, ite_real, dite_real]
  first | rfl | (refine congrArg Real.toEReal ?_; ring)

theorem r7 : ∀ g c d, res_main_v7 V0 (ix3 g c d) = ((I.wp 3 g.val c.val d.val : ℝ) : EReal) := by
  intro g c d
  have A := H; unfold Reads at A
  pointwise [res_main_v7]
  simp only [A, reals, Fin.sum_univ_one, sum_real, ite_real, dite_real]
  first | rfl | (refine congrArg Real.toEReal ?_; ring)

theorem r23 : ∀ r, res_main_v23 V0 (ix2 r 0) = ((msq (I.x r.val) : ℝ) : EReal) := by
  intro r
  have A := H; unfold Reads at A
  pointwise [res_main_v23]
  simp only [A, reals, Fin.sum_univ_one, sum_real, ite_real, dite_real]
  first | rfl | (refine congrArg Real.toEReal ?_; simp only [msq, Finset.sum_range] <;> ring)

theorem r24 : ∀ r, res_main_v24 V0 (ix2 r 0) = ((I.rx r.val : ℝ) : EReal) := by
  intro r
  have A := H; unfold Reads at A
  pointwise [res_main_v24]
  simp only [A, r23 H, reals, Fin.sum_univ_one, sum_real, ite_real, dite_real]
  first | rfl | (refine congrArg Real.toEReal ?_; ring)

theorem r29 : ∀ r l, res_main_v29 V0 (ix2 r l) = ((I.xn r.val l.val : ℝ) : EReal) := by
  intro r l
  have A := H; unfold Reads at A
  pointwise [res_main_v29]
  simp only [A, r24 H, reals, Fin.sum_univ_one, sum_real, ite_real, dite_real]
  first | rfl | (refine congrArg Real.toEReal ?_; ring)

theorem r30 : ∀ l, res_main_v30 V0 (ix2 0 l) = ((I.gpre 3 l.val : ℝ) : EReal) := by
  intro l
  have A := H; unfold Reads at A
  pointwise [res_main_v30]
  simp only [A, reals, Fin.sum_univ_one, sum_real, ite_real, dite_real]
  first | rfl | (refine congrArg Real.toEReal ?_; ring)

theorem r32 : ∀ r l, res_main_v32 V0 (ix2 r l) = ((I.xn r.val l.val * I.gpre 3 l.val : ℝ) : EReal) := by
  intro r l
  have A := H; unfold Reads at A
  pointwise [res_main_v32]
  simp only [A, r29 H, r30 H, reals, Fin.sum_univ_one, sum_real, ite_real, dite_real]

theorem r35 : ∀ l, res_main_v35 V0 (ix2 0 l) = ((1 + I.sc l.val : ℝ) : EReal) := by
  intro l
  have A := H; unfold Reads at A
  pointwise [res_main_v35]
  simp only [A, r1 H, reals, Fin.sum_univ_one, sum_real, ite_real, dite_real]
  first | rfl | (refine congrArg Real.toEReal ?_; ring)

theorem r42 : ∀ r c, res_main_v42 V0 (ix2 r c) = ((I.proj r.val c.val : ℝ) : EReal) := by
  intro r c
  have A := H; unfold Reads at A
  pointwise [res_main_v42]
  simp only [A, r32 H, r35 H, r1 H, reals, Fin.sum_univ_one, sum_real, ite_real, dite_real]
  first | rfl | (refine congrArg Real.toEReal ?_; simp only [Layer.Args.proj, Layer.Args.h, Layer.Args.sh, Finset.sum_range] <;> ring)

theorem r43 : ∀ r c, res_main_v43 V0 (ix2 r c) = ((I.proj r.val c.val : ℝ) : EReal) := by
  intro r c
  have A := H; unfold Reads at A
  pointwise [res_main_v43]
  simp only [A, r42 H, reals, Fin.sum_univ_one, sum_real, ite_real, dite_real]

theorem r44 : ∀ r c, res_main_v44 V0 (ix2 r c) = ((I.proj r.val (512 + c.val) : ℝ) : EReal) := by
  intro r c
  have A := H; unfold Reads at A
  pointwise [res_main_v44]
  simp only [A, r42 H, reals, Fin.sum_univ_one, sum_real, ite_real, dite_real]

theorem r45 : ∀ r c, res_main_v45 V0 (ix2 r c) = ((I.proj r.val (1024 + c.val) : ℝ) : EReal) := by
  intro r c
  have A := H; unfold Reads at A
  pointwise [res_main_v45]
  simp only [A, r42 H, reals, Fin.sum_univ_one, sum_real, ite_real, dite_real]

theorem r46 : ∀ r c, res_main_v46 V0 (ix2 r c) = ((I.ga r.val c.val : ℝ) : EReal) := by
  intro r c
  have A := H; unfold Reads at A
  pointwise [res_main_v46]
  simp only [A, r42 H, reals, Fin.sum_univ_one, sum_real, ite_real, dite_real]
  first | rfl | (refine congrArg Real.toEReal ?_; ring)

theorem r47 : ∀ r c, res_main_v47 V0 (ix2 r c) = ((I.proj r.val (2048 + c.val) : ℝ) : EReal) := by
  intro r c
  have A := H; unfold Reads at A
  pointwise [res_main_v47]
  simp only [A, r42 H, reals, Fin.sum_univ_one, sum_real, ite_real, dite_real]

theorem r48 : ∀ r c, res_main_v48 V0 (ix2 r c) = ((I.gp r.val c.val : ℝ) : EReal) := by
  intro r c
  have A := H; unfold Reads at A
  pointwise [res_main_v48]
  simp only [A, r42 H, reals, Fin.sum_univ_one, sum_real, ite_real, dite_real]
  first | rfl | (refine congrArg Real.toEReal ?_; ring)

theorem r49 : ∀ r c, res_main_v49 V0 (ix2 r c) = ((I.z c.val r.val : ℝ) : EReal) := by
  intro r c
  have A := H; unfold Reads at A
  pointwise [res_main_v49]
  simp only [A, r43 H, r45 H, reals, Fin.sum_univ_one, sum_real, ite_real, dite_real]
  first | rfl | (refine congrArg Real.toEReal ?_; ring)

theorem r54 : ∀ r c, res_main_v54 V0 (ix2 r c) = ((late (I.z c.val) 2 r.val : ℝ) : EReal) := by
  intro r c
  have A := H; unfold Reads at A
  pointwise [res_main_v54]
  simp only [A, r49 H, reals, Fin.sum_univ_one, sum_real, ite_real, dite_real]
  exact Layer.late_real (I.z c.val) 2 r.val

theorem r63 : ∀ r c, res_main_v63 V0 (ix2 r c) = ((late (I.z c.val) 1 r.val : ℝ) : EReal) := by
  intro r c
  have A := H; unfold Reads at A
  pointwise [res_main_v63]
  simp only [A, r49 H, reals, Fin.sum_univ_one, sum_real, ite_real, dite_real]
  exact Layer.late_real (I.z c.val) 1 r.val

theorem r56 : ∀ c, res_main_v56 V0 (ix2 0 c) = ((I.wc 3 0 c.val : ℝ) : EReal) := by
  intro c
  have A := H; unfold Reads at A
  pointwise [res_main_v56]
  simp only [A, r5 H, reals, Fin.sum_univ_one, sum_real, ite_real, dite_real]
  first | rfl | (refine congrArg Real.toEReal ?_; ring)

theorem r65 : ∀ c, res_main_v65 V0 (ix2 0 c) = ((I.wc 3 1 c.val : ℝ) : EReal) := by
  intro c
  have A := H; unfold Reads at A
  pointwise [res_main_v65]
  simp only [A, r5 H, reals, Fin.sum_univ_one, sum_real, ite_real, dite_real]
  first | rfl | (refine congrArg Real.toEReal ?_; ring)

theorem r71 : ∀ c, res_main_v71 V0 (ix2 0 c) = ((I.wc 3 2 c.val : ℝ) : EReal) := by
  intro c
  have A := H; unfold Reads at A
  pointwise [res_main_v71]
  simp only [A, r5 H, reals, Fin.sum_univ_one, sum_real, ite_real, dite_real]
  first | rfl | (refine congrArg Real.toEReal ?_; ring)

theorem r74 : ∀ r c, res_main_v74 V0 (ix2 r c) = ((I.conv r.val c.val : ℝ) : EReal) := by
  intro r c
  have A := H; unfold Reads at A
  pointwise [res_main_v74]
  simp only [A, r49 H, r54 H, r63 H, r56 H, r65 H, r71 H, reals, Fin.sum_univ_one, sum_real, ite_real, dite_real]
  first | rfl | (refine congrArg Real.toEReal ?_; ring)

theorem r75 : ∀ r c, res_main_v75 V0 (ix2 r c) = ((I.bconv r.val c.val : ℝ) : EReal) := by
  intro r c
  have A := H; unfold Reads at A
  pointwise [res_main_v75]
  simp only [A, r44 H, r74 H, reals, Fin.sum_univ_one, sum_real, ite_real, dite_real]
  first | rfl | (refine congrArg Real.toEReal ?_; ring)

theorem r76_2 : ∀ r c, res_main_v76_2 V0 (ix2 r c) = ((sgm (I.ga r.val c.val) : ℝ) : EReal) := by
  intro r c
  have A := H; unfold Reads at A
  pointwise [res_main_v76_2]
  simp only [A, r46 H, reals, Fin.sum_univ_one, sum_real, ite_real, dite_real]

theorem r76_0 : ∀ r c, res_main_v76_0 V0 (ix2 r c) = ((I.silua r.val c.val : ℝ) : EReal) := by
  intro r c
  have A := H; unfold Reads at A
  pointwise [res_main_v76_0]
  simp only [A, r46 H, r76_2 H, reals, Fin.sum_univ_one, sum_real, ite_real, dite_real]
  first | rfl | (refine congrArg Real.toEReal ?_; ring)

theorem r82 : ∀ r, res_main_v82 V0 (ix2 r 0) = (((r.val : ℝ) + 1 : ℝ) : EReal) := by
  intro r

  pointwise [res_main_v82]
  exact Layer.count_real r.isLt

theorem r83 : ∀ r c, res_main_v83 V0 (ix2 r c) = ((I.proj r.val (2048 + (0 + c.val)) : ℝ) : EReal) := by
  intro r c
  have A := H; unfold Reads at A
  pointwise [res_main_v83]
  simp only [A, r47 H, reals, Fin.sum_univ_one, sum_real, ite_real, dite_real]

theorem r84 : ∀ r c, res_main_v84 V0 (ix2 r c) = ((∑ j ∈ Finset.range 2048, late (fun s => I.proj s (2048 + (0 + c.val))) j r.val : ℝ) : EReal) := by
  intro r c

  exact Layer.cumsum_real _ (fun c s => I.proj s (2048 + (0 + c))) (r83 H) _ (fun i => by pointwise) _ _ r c

theorem r91 : ∀ r, res_main_v91 V0 (ix2 r 0) = ((cnt 0 r.val : ℝ) : EReal) := by
  intro r
  have A := H; unfold Reads at A
  pointwise [res_main_v91]
  simp only [A, r82 H, reals, Fin.sum_univ_one, sum_real, ite_real, dite_real]
  refine congrArg Real.toEReal ?_
  unfold cnt wdw
  norm_num

theorem r95 : ∀ r c, res_main_v95 V0 (ix2 r c) = ((I.proj r.val (2048 + (128 + c.val)) : ℝ) : EReal) := by
  intro r c
  have A := H; unfold Reads at A
  pointwise [res_main_v95]
  simp only [A, r47 H, reals, Fin.sum_univ_one, sum_real, ite_real, dite_real]

theorem r96 : ∀ r c, res_main_v96 V0 (ix2 r c) = ((∑ j ∈ Finset.range 2048, late (fun s => I.proj s (2048 + (128 + c.val))) j r.val : ℝ) : EReal) := by
  intro r c

  exact Layer.cumsum_real _ (fun c s => I.proj s (2048 + (128 + c))) (r95 H) _ (fun i => by pointwise) _ _ r c

theorem r103 : ∀ r, res_main_v103 V0 (ix2 r 0) = ((cnt 1 r.val : ℝ) : EReal) := by
  intro r
  have A := H; unfold Reads at A
  pointwise [res_main_v103]
  simp only [A, r82 H, reals, Fin.sum_univ_one, sum_real, ite_real, dite_real]
  refine congrArg Real.toEReal ?_
  unfold cnt wdw
  norm_num

theorem r107 : ∀ r c, res_main_v107 V0 (ix2 r c) = ((I.proj r.val (2048 + (256 + c.val)) : ℝ) : EReal) := by
  intro r c
  have A := H; unfold Reads at A
  pointwise [res_main_v107]
  simp only [A, r47 H, reals, Fin.sum_univ_one, sum_real, ite_real, dite_real]

theorem r108 : ∀ r c, res_main_v108 V0 (ix2 r c) = ((∑ j ∈ Finset.range 2048, late (fun s => I.proj s (2048 + (256 + c.val))) j r.val : ℝ) : EReal) := by
  intro r c

  exact Layer.cumsum_real _ (fun c s => I.proj s (2048 + (256 + c))) (r107 H) _ (fun i => by pointwise) _ _ r c

theorem r115 : ∀ r, res_main_v115 V0 (ix2 r 0) = ((cnt 2 r.val : ℝ) : EReal) := by
  intro r
  have A := H; unfold Reads at A
  pointwise [res_main_v115]
  simp only [A, r82 H, reals, Fin.sum_univ_one, sum_real, ite_real, dite_real]
  refine congrArg Real.toEReal ?_
  unfold cnt wdw
  norm_num

theorem r119 : ∀ r c, res_main_v119 V0 (ix2 r c) = ((I.proj r.val (2048 + (384 + c.val)) : ℝ) : EReal) := by
  intro r c
  have A := H; unfold Reads at A
  pointwise [res_main_v119]
  simp only [A, r47 H, reals, Fin.sum_univ_one, sum_real, ite_real, dite_real]

theorem r120 : ∀ r c, res_main_v120 V0 (ix2 r c) = ((∑ j ∈ Finset.range 2048, late (fun s => I.proj s (2048 + (384 + c.val))) j r.val : ℝ) : EReal) := by
  intro r c

  exact Layer.cumsum_real _ (fun c s => I.proj s (2048 + (384 + c))) (r119 H) _ (fun i => by pointwise) _ _ r c

theorem r127 : ∀ r, res_main_v127 V0 (ix2 r 0) = ((cnt 3 r.val : ℝ) : EReal) := by
  intro r
  have A := H; unfold Reads at A
  pointwise [res_main_v127]
  simp only [A, r82 H, reals, Fin.sum_univ_one, sum_real, ite_real, dite_real]
  refine congrArg Real.toEReal ?_
  unfold cnt wdw
  norm_num

theorem r135 : ∀ r g c, res_main_v135 V0 (ix3 r g c) = ((I.pooled g.val r.val c.val : ℝ) : EReal) := by
  intro r g c
  have A := H; unfold Reads at A
  pointwise [res_main_v135]
  simp only [A, r84 H, r96 H, r108 H, r120 H, r83 H, r95 H, r107 H, r119 H, r91 H, r103 H, r115 H, r127 H, reals, Fin.sum_univ_one, sum_real, ite_real, dite_real]
  refine congrArg Real.toEReal ?_
  clear A
  simp only [Layer.window_real _ _ r.isLt]
  unfold Layer.Args.pooled
  obtain ⟨g, hg⟩ := g
  interval_cases g <;> simp [wdw]

theorem r138 : ∀ r d, res_main_v138 V0 (ix2 r d) = ((I.mixed r.val d.val : ℝ) : EReal) := by
  intro r d
  have A := H; unfold Reads at A
  pointwise [res_main_v138]
  simp only [A, r7 H, r135 H, reals, Fin.sum_univ_one, sum_real, ite_real, dite_real]
  refine congrArg Real.toEReal ?_
  simp only [Layer.Args.mixed, Finset.sum_range]
  exact Finset.sum_congr rfl fun k _ => by ring

theorem r139 : ∀ d, res_main_v139 V0 (ix2 0 d) = ((I.ps 3 d.val : ℝ) : EReal) := by
  intro d
  have A := H; unfold Reads at A
  pointwise [res_main_v139]
  simp only [A, reals, Fin.sum_univ_one, sum_real, ite_real, dite_real]
  first | rfl | (refine congrArg Real.toEReal ?_; ring)

theorem r141 : ∀ r d, res_main_v141 V0 (ix2 r d) = ((I.mps r.val d.val : ℝ) : EReal) := by
  intro r d
  have A := H; unfold Reads at A
  pointwise [res_main_v141]
  simp only [A, r138 H, r139 H, reals, Fin.sum_univ_one, sum_real, ite_real, dite_real]
  first | rfl | (refine congrArg Real.toEReal ?_; ring)

theorem r142_2 : ∀ r d, res_main_v142_2 V0 (ix2 r d) = ((sgm (I.gp r.val d.val) : ℝ) : EReal) := by
  intro r d
  have A := H; unfold Reads at A
  pointwise [res_main_v142_2]
  simp only [A, r48 H, reals, Fin.sum_univ_one, sum_real, ite_real, dite_real]

theorem r142_0 : ∀ r d, res_main_v142_0 V0 (ix2 r d) = ((I.silup r.val d.val : ℝ) : EReal) := by
  intro r d
  have A := H; unfold Reads at A
  pointwise [res_main_v142_0]
  simp only [A, r48 H, r142_2 H, reals, Fin.sum_univ_one, sum_real, ite_real, dite_real]
  first | rfl | (refine congrArg Real.toEReal ?_; ring)

theorem r146 : ∀ r c, res_main_v146 V0 (ix2 r c) = ((I.y r.val c.val : ℝ) : EReal) := by
  intro r c
  have A := H; unfold Reads at A
  pointwise [res_main_v146]
  simp only [A, r75 H, r76_0 H, r141 H, r142_0 H, reals, Fin.sum_univ_one, sum_real, ite_real, dite_real]
  refine congrArg Real.toEReal ?_
  simp only [Layer.y_halves, Finset.sum_range]

theorem r153 : ∀ r, res_main_v153 V0 (ix2 r 0) = ((msq (I.y r.val) : ℝ) : EReal) := by
  intro r
  have A := H; unfold Reads at A
  pointwise [res_main_v153]
  simp only [A, r146 H, reals, Fin.sum_univ_one, sum_real, ite_real, dite_real]
  first | rfl | (refine congrArg Real.toEReal ?_; simp only [msq, Finset.sum_range] <;> ring)

theorem r154 : ∀ r, res_main_v154 V0 (ix2 r 0) = ((I.ry r.val : ℝ) : EReal) := by
  intro r
  have A := H; unfold Reads at A
  pointwise [res_main_v154]
  simp only [A, r153 H, reals, Fin.sum_univ_one, sum_real, ite_real, dite_real]
  first | rfl | (refine congrArg Real.toEReal ?_; ring)

theorem r159 : ∀ r l, res_main_v159 V0 (ix2 r l) = ((I.yh r.val l.val : ℝ) : EReal) := by
  intro r l
  have A := H; unfold Reads at A
  pointwise [res_main_v159]
  simp only [A, r146 H, r154 H, reals, Fin.sum_univ_one, sum_real, ite_real, dite_real]
  first | rfl | (refine congrArg Real.toEReal ?_; ring)

theorem r160 : ∀ l, res_main_v160 V0 (ix2 0 l) = ((I.gpost 3 l.val : ℝ) : EReal) := by
  intro l
  have A := H; unfold Reads at A
  pointwise [res_main_v160]
  simp only [A, reals, Fin.sum_univ_one, sum_real, ite_real, dite_real]
  first | rfl | (refine congrArg Real.toEReal ?_; ring)

theorem r162 : ∀ r l, res_main_v162 V0 (ix2 r l) = ((I.yh r.val l.val * I.gpost 3 l.val : ℝ) : EReal) := by
  intro r l
  have A := H; unfold Reads at A
  pointwise [res_main_v162]
  simp only [A, r159 H, r160 H, reals, Fin.sum_univ_one, sum_real, ite_real, dite_real]

theorem r163 : ∀ l, res_main_v163 V0 (ix2 0 l) = ((I.gate l.val : ℝ) : EReal) := by
  intro l
  have A := H; unfold Reads at A
  pointwise [res_main_v163]
  simp only [A, r1 H, reals, Fin.sum_univ_one, sum_real, ite_real, dite_real]
  first | rfl | (refine congrArg Real.toEReal ?_; ring)

theorem r167 : ∀ r l, res_main_v167 V0 (ix2 r l) = ((I.dxo r.val l.val : ℝ) : EReal) := by
  intro r l
  have A := H; unfold Reads at A
  pointwise [res_main_v167]
  simp only [A, reals, Fin.sum_univ_one, sum_real, ite_real, dite_real]

theorem r169 : ∀ r l, res_main_v169 V0 (ix2 r l) = ((I.gate l.val * I.dxo r.val l.val : ℝ) : EReal) := by
  intro r l
  have A := H; unfold Reads at A
  pointwise [res_main_v169]
  simp only [A, r163 H, r167 H, reals, Fin.sum_univ_one, sum_real, ite_real, dite_real]

theorem r178 : ∀ r l, res_main_v178 V0 (ix2 r l) = ((I.dyh r.val l.val : ℝ) : EReal) := by
  intro r l
  have A := H; unfold Reads at A
  pointwise [res_main_v178]
  simp only [A, r169 H, r160 H, reals, Fin.sum_univ_one, sum_real, ite_real, dite_real]
  first | rfl | (refine congrArg Real.toEReal ?_; simp only [Layer.Args.dyh] <;> ring)

theorem r189 : ∀ r l, res_main_v189 V0 (ix2 r l) = (((-(1 / 2) * (I.ry r.val * (I.ry r.val * I.ry r.val)) * ∑ k ∈ Finset.range 1024, I.y r.val k * I.dyh r.val k) / 1024 : ℝ) : EReal) := by
  intro r l
  have A := H; unfold Reads at A
  pointwise [res_main_v189]
  simp only [A, r146 H, r178 H, reals, Fin.sum_univ_one, sum_real, ite_real, dite_real]
  simp only [r153 H _, r154 H _, Layer.Args.ry, reals]
  refine congrArg Real.toEReal ?_
  simp only [Finset.sum_range]
  ring

theorem r193 : ∀ r l, res_main_v193 V0 (ix2 r l) = ((I.dy r.val l.val : ℝ) : EReal) := by
  intro r l
  have A := H; unfold Reads at A
  pointwise [res_main_v193]
  simp only [A, r178 H, r154 H, r146 H, r189 H, reals, Fin.sum_univ_one, sum_real, ite_real, dite_real]
  exact congrArg Real.toEReal (Layer.norm_grad (I.ry r.val) (I.y r.val) (I.dyh r.val) l.val)

theorem r194 : ∀ r k, res_main_v194 V0 (ix2 r k) = ((I.dycat r.val k.val : ℝ) : EReal) := by
  intro r k
  have A := H; unfold Reads at A
  pointwise [res_main_v194]
  simp only [A, r193 H, reals, Fin.sum_univ_one, sum_real, ite_real, dite_real]
  first | rfl | (refine congrArg Real.toEReal ?_; simp only [Layer.Args.dycat, Finset.sum_range] <;> ring)

theorem r195 : ∀ r c, res_main_v195 V0 (ix2 r c) = ((I.dycat r.val c.val : ℝ) : EReal) := by
  intro r c
  have A := H; unfold Reads at A
  pointwise [res_main_v195]
  simp only [A, r194 H, reals, Fin.sum_univ_one, sum_real, ite_real, dite_real]

theorem r196 : ∀ r c, res_main_v196 V0 (ix2 r c) = ((I.dycat r.val (512 + c.val) : ℝ) : EReal) := by
  intro r c
  have A := H; unfold Reads at A
  pointwise [res_main_v196]
  simp only [A, r194 H, reals, Fin.sum_univ_one, sum_real, ite_real, dite_real]

theorem r197 : ∀ r d, res_main_v197 V0 (ix2 r d) = ((I.mps r.val d.val * I.dycat r.val (512 + d.val) : ℝ) : EReal) := by
  intro r d
  have A := H; unfold Reads at A
  pointwise [res_main_v197]
  simp only [A, r141 H, r196 H, reals, Fin.sum_univ_one, sum_real, ite_real, dite_real]

theorem r198 : ∀ r d, res_main_v198 V0 (ix2 r d) = ((I.dycat r.val (512 + d.val) * I.silup r.val d.val : ℝ) : EReal) := by
  intro r d
  have A := H; unfold Reads at A
  pointwise [res_main_v198]
  simp only [A, r196 H, r142_0 H, reals, Fin.sum_univ_one, sum_real, ite_real, dite_real]

theorem r207 : ∀ g c r, res_main_v207 V0 (ix3 g c r) = ((I.dmixed r.val (128 * g.val + c.val) : ℝ) : EReal) := by
  intro g c r
  have A := H; unfold Reads at A
  pointwise [res_main_v207]
  simp only [A, r198 H, r139 H, reals, Fin.sum_univ_one, sum_real, ite_real, dite_real]
  refine congrArg Real.toEReal ?_
  rw [Nat.mul_comm g.val 128, Layer.Args.dmixed]
  ring

theorem r209 : ∀ r g c, res_main_v209 V0 (ix3 r g c) = ((I.dpool g.val r.val c.val : ℝ) : EReal) := by
  intro r g c
  have A := H; unfold Reads at A
  pointwise [res_main_v209]
  simp only [A, r207 H, r7 H, reals, Fin.sum_univ_one, sum_real, ite_real, dite_real]
  first | rfl | (refine congrArg Real.toEReal ?_; simp only [Layer.Args.dpool, Finset.sum_range] <;> ring)

theorem r213 : ∀ r c, res_main_v213 V0 (ix2 r c) = ((I.dpool 0 r.val c.val : ℝ) : EReal) := by
  intro r c
  have A := H; unfold Reads at A
  pointwise [res_main_v213]
  simp only [A, r209 H, reals, Fin.sum_univ_one, sum_real, ite_real, dite_real]
  first | rfl | (refine congrArg Real.toEReal ?_; ring)

theorem r257 : ∀ r c, res_main_v257 V0 (ix2 r c) = ((I.q 0 c.val r.val : ℝ) : EReal) := by
  intro r c
  have A := H; unfold Reads at A
  pointwise [res_main_v257]
  simp only [A, r213 H, r91 H, reals, Fin.sum_univ_one, sum_real, ite_real, dite_real]
  first | rfl | (refine congrArg Real.toEReal ?_; ring)

theorem r258 : ∀ r c, res_main_v258 V0 (ix2 r c) = ((-I.q 0 c.val r.val : ℝ) : EReal) := by
  intro r c
  have A := H; unfold Reads at A
  pointwise [res_main_v258]
  simp only [A, r257 H, reals, Fin.sum_univ_one, sum_real, ite_real, dite_real]

theorem r215 : ∀ r c, res_main_v215 V0 (ix2 r c) = ((I.dpool 1 r.val c.val : ℝ) : EReal) := by
  intro r c
  have A := H; unfold Reads at A
  pointwise [res_main_v215]
  simp only [A, r209 H, reals, Fin.sum_univ_one, sum_real, ite_real, dite_real]
  first | rfl | (refine congrArg Real.toEReal ?_; ring)

theorem r245 : ∀ r c, res_main_v245 V0 (ix2 r c) = ((I.q 1 c.val r.val : ℝ) : EReal) := by
  intro r c
  have A := H; unfold Reads at A
  pointwise [res_main_v245]
  simp only [A, r215 H, r103 H, reals, Fin.sum_univ_one, sum_real, ite_real, dite_real]
  first | rfl | (refine congrArg Real.toEReal ?_; ring)

theorem r246 : ∀ r c, res_main_v246 V0 (ix2 r c) = ((-I.q 1 c.val r.val : ℝ) : EReal) := by
  intro r c
  have A := H; unfold Reads at A
  pointwise [res_main_v246]
  simp only [A, r245 H, reals, Fin.sum_univ_one, sum_real, ite_real, dite_real]

theorem r217 : ∀ r c, res_main_v217 V0 (ix2 r c) = ((I.dpool 2 r.val c.val : ℝ) : EReal) := by
  intro r c
  have A := H; unfold Reads at A
  pointwise [res_main_v217]
  simp only [A, r209 H, reals, Fin.sum_univ_one, sum_real, ite_real, dite_real]
  first | rfl | (refine congrArg Real.toEReal ?_; ring)

theorem r233 : ∀ r c, res_main_v233 V0 (ix2 r c) = ((I.q 2 c.val r.val : ℝ) : EReal) := by
  intro r c
  have A := H; unfold Reads at A
  pointwise [res_main_v233]
  simp only [A, r217 H, r115 H, reals, Fin.sum_univ_one, sum_real, ite_real, dite_real]
  first | rfl | (refine congrArg Real.toEReal ?_; ring)

theorem r234 : ∀ r c, res_main_v234 V0 (ix2 r c) = ((-I.q 2 c.val r.val : ℝ) : EReal) := by
  intro r c
  have A := H; unfold Reads at A
  pointwise [res_main_v234]
  simp only [A, r233 H, reals, Fin.sum_univ_one, sum_real, ite_real, dite_real]

theorem r219 : ∀ r c, res_main_v219 V0 (ix2 r c) = ((I.dpool 3 r.val c.val : ℝ) : EReal) := by
  intro r c
  have A := H; unfold Reads at A
  pointwise [res_main_v219]
  simp only [A, r209 H, reals, Fin.sum_univ_one, sum_real, ite_real, dite_real]
  first | rfl | (refine congrArg Real.toEReal ?_; ring)

theorem r222 : ∀ r c, res_main_v222 V0 (ix2 r c) = ((I.q 3 c.val r.val : ℝ) : EReal) := by
  intro r c
  have A := H; unfold Reads at A
  pointwise [res_main_v222]
  simp only [A, r219 H, r127 H, reals, Fin.sum_univ_one, sum_real, ite_real, dite_real]
  first | rfl | (refine congrArg Real.toEReal ?_; ring)

theorem r223 : ∀ r c, res_main_v223 V0 (ix2 r c) = ((-I.q 3 c.val r.val : ℝ) : EReal) := by
  intro r c
  have A := H; unfold Reads at A
  pointwise [res_main_v223]
  simp only [A, r222 H, reals, Fin.sum_univ_one, sum_real, ite_real, dite_real]

theorem r267 : ∀ r c, res_main_v267 V0 (ix2 r c) = ((I.bconv r.val c.val * I.dycat r.val c.val : ℝ) : EReal) := by
  intro r c
  have A := H; unfold Reads at A
  pointwise [res_main_v267]
  simp only [A, r75 H, r195 H, reals, Fin.sum_univ_one, sum_real, ite_real, dite_real]

theorem r268 : ∀ r c, res_main_v268 V0 (ix2 r c) = ((I.dycat r.val c.val * I.silua r.val c.val : ℝ) : EReal) := by
  intro r c
  have A := H; unfold Reads at A
  pointwise [res_main_v268]
  simp only [A, r195 H, r76_0 H, reals, Fin.sum_univ_one, sum_real, ite_real, dite_real]

theorem r270 : ∀ r c, res_main_v270 V0 (ix2 r c) = ((I.dconv c.val r.val : ℝ) : EReal) := by
  intro r c
  have A := H; unfold Reads at A
  pointwise [res_main_v270]
  simp only [A, r44 H, r268 H, reals, Fin.sum_univ_one, sum_real, ite_real, dite_real]
  first | rfl | (refine congrArg Real.toEReal ?_; simp only [Layer.Args.dconv] <;> ring)

theorem r281 : ∀ r c, res_main_v281 V0 (ix2 r c) = ((I.wc 3 1 c.val * I.dconv c.val r.val : ℝ) : EReal) := by
  intro r c
  have A := H; unfold Reads at A
  pointwise [res_main_v281]
  simp only [A, r65 H, r270 H, reals, Fin.sum_univ_one, sum_real, ite_real, dite_real]

theorem r294 : ∀ r c, res_main_v294 V0 (ix2 r c) = ((I.wc 3 0 c.val * I.dconv c.val r.val : ℝ) : EReal) := by
  intro r c
  have A := H; unfold Reads at A
  pointwise [res_main_v294]
  simp only [A, r56 H, r270 H, reals, Fin.sum_univ_one, sum_real, ite_real, dite_real]

theorem r302 : ∀ r c, res_main_v302 V0 (ix2 r c) = ((I.dz r.val c.val : ℝ) : EReal) := by
  intro r c
  have A := H; unfold Reads at A
  pointwise [res_main_v302]
  simp only [A, r71 H, r270 H, r281 H, r294 H, reals, Fin.sum_univ_one, sum_real, ite_real, dite_real]
  refine congrArg Real.toEReal ?_
  simp only [Layer.Args.dz, soon, Nat.add_comm r.val, show r.val < 2047 ↔ 1 + r.val < 2048 by omega,
    show r.val < 2046 ↔ 2 + r.val < 2048 by omega]
  split_ifs <;> ring

end Cert.ReferenceIdeal.Value
-- ==== Proof.RefGrad.lean ====
/- The reference's results, entry by entry, as the reals of `Layer.Args`. -/
module

public import proofs.«01_k».proof.Proof.Gen.ReferenceIdeal.Run
public import proofs.«01_k».proof.Proof.Ref

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Layer (late soon msq rms sgm cnt wdw reals sum_real ite_real dite_real)

variable {V0 : Valuation τ sig (Elt Ideal)} {I : Layer.Args} (H : Reads V0 I)
include H

/-! ## The cotangents of the projection, the norm and the arguments -/

omit H in
/-- The cotangent of the pool's input at one group: the group's own rows of `dpool`, and the window's sum of `q`
    taken as a running sum from the end. -/
theorem pool_group {g k m : ℕ} (hg : wdw g = k) (a b d : FVec Ideal S2048x128 .f32)
    (ha : ∀ r c, a (ix2 r c) = ((I.dpool g r.val c.val : ℝ) : EReal))
    (hb : ∀ r c, b (ix2 r c) = ((I.q g c.val r.val : ℝ) : EReal))
    (hd : ∀ r c, d (ix2 r c) = ((-I.q g c.val r.val : ℝ) : EReal))
    (hm : m + k = 2048) (hs : S2048x128.Slices ![k, 0] ⟨2, ![m, 128]⟩)
    (hp : (⟨2, ![m, 128]⟩ : Shape).Pads ![0, 0] ![k, 0] ![0, 0] S2048x128)
    (hw : S2048x128.ReduceWindows ![2048, 1] ![1, 1] ![0, 0] ![2047, 0] S2048x128) (r : Fin 2048) (c : Fin 128) :
    addf (Host.negf a) (Host.reduceWindowAdd ![2048, 1] ![1, 1] ![0, 0] ![2047, 0]
      (addf b (pad S2048x128 ![0, 0] ![k, 0] ![0, 0] (extractStridedSlice ⟨2, ![m, 128]⟩ ![k, 0] d hs)
        (constant S_ .f32 0x00000000#32) hp h_S_))
      (broadcastInDim S_ ![] bcast_S_S_ (constant S_ .f32 0x00000000#32)) hw h_S_) (ix2 r c)
      = ((I.dup g r.val c.val : ℝ) : EReal) := by
  have hsl : ∀ (r : Fin m) (c : Fin 128), extractStridedSlice ⟨2, ![m, 128]⟩ ![k, 0] d hs (ix2 r c)
      = ((-I.q g c.val (r.val + k) : ℝ) : EReal) := by
    intro r c
    pointwise
    rw [hd]
    simp only [Nat.add_comm k]
  have hpd : ∀ (r : Fin 2048) (c : Fin 128), addf b (pad S2048x128 ![0, 0] ![k, 0] ![0, 0]
        (extractStridedSlice ⟨2, ![m, 128]⟩ ![k, 0] d hs) (constant S_ .f32 0x00000000#32) hp h_S_) (ix2 r c)
      = (((fun s => I.q g c.val s + -soon (I.q g c.val) (wdw g) s) r.val : ℝ) : EReal) := by
    intro r c
    rw [Layer.add_at (hb r c) (Layer.pad_rows _ (fun c r => -I.q g c (r + k)) hsl _ (fun i => by pointwise) hp h_S_ r c)]
    refine congrArg Real.toEReal ?_
    unfold soon
    rw [hg]
    by_cases h : r.val < m
    · simp only [if_pos h, if_pos (show r.val + k < 2048 by omega)]
    · simp only [if_neg h, if_neg (show ¬r.val + k < 2048 by omega), neg_zero]
  have hn : Host.negf a (ix2 r c) = ((-I.dpool g r.val c.val : ℝ) : EReal) := by
    pointwise
    rw [ha]; rfl
  rw [Layer.add_at hn (Layer.revsum_real _ (fun c s => I.q g c s + -soon (I.q g c) (wdw g) s) hpd _
    (fun i => by pointwise) _ _ r c)]
  refine congrArg Real.toEReal ?_
  rw [Layer.soon_window, Layer.Args.dup]
  ring

theorem r318 : ∀ r c, res_main_v318 V0 (ix2 r c) = ((I.dproj r.val c.val : ℝ) : EReal) := by
  intro r c

  have z0 : ∀ i, (constant (F := Ideal) S_ .f32 0x00000000#32) i = 0 := fun i => by pointwise
  unfold res_main_v318
  refine (Layer.add_at (Layer.add_at (Layer.add_at (Layer.add_at (Layer.add_at
    (Layer.pad_cols _ (fun r c => I.dgp r c) ?_ _ z0 _ _ r c)
    (Layer.pad_cols _ (fun r c => I.dup (c / 128) r (c % 128)) ?_ _ z0 _ _ r c))
    (Layer.pad_cols _ (fun r c => I.dga r c) ?_ _ z0 _ _ r c))
    (Layer.pad_cols _ (fun r c => I.dz r c * I.proj r c) ?_ _ z0 _ _ r c))
    (Layer.pad_cols _ (fun r c => I.db r c) ?_ _ z0 _ _ r c))
    (Layer.pad_cols _ (fun r c => I.dz r c * I.proj r (1024 + c)) ?_ _ z0 _ _ r c)).trans ?_
  · intro r c
    pointwise
    simp only [r197 H, r142_2 H, r48 H, reals]
    refine congrArg Real.toEReal ?_
    simp only [Layer.Args.dgp, Layer.Args.silup]
    ring
  · intro r c
    refine (Layer.add_at (Layer.add_at (Layer.add_at
      (Layer.pad_cols _ (fun r c => I.dup 3 r c) (pool_group rfl _ _ _ (r219 H) (r222 H) (r223 H) rfl _ _ _) _ z0 _ _ r c)
      (Layer.pad_cols _ (fun r c => I.dup 2 r c) (pool_group rfl _ _ _ (r217 H) (r233 H) (r234 H) rfl _ _ _) _ z0 _ _ r c))
      (Layer.pad_cols _ (fun r c => I.dup 1 r c) (pool_group rfl _ _ _ (r215 H) (r245 H) (r246 H) rfl _ _ _) _ z0 _ _ r c))
      (Layer.pad_cols _ (fun r c => I.dup 0 r c) (pool_group rfl _ _ _ (r213 H) (r257 H) (r258 H) rfl _ _ _) _ z0 _ _ r c)).trans ?_
    refine congrArg Real.toEReal ?_
    exact Layer.four_groups (fun g c => I.dup g r.val c) c.isLt
  · intro r c
    pointwise
    simp only [r267 H, r76_2 H, r46 H, reals]
    refine congrArg Real.toEReal ?_
    simp only [Layer.Args.dga, Layer.Args.silua]
    ring
  · intro r c
    pointwise
    simp only [r302 H, r43 H, reals]
  · intro r c
    pointwise
    simp only [r268 H, r74 H, reals]
    refine congrArg Real.toEReal ?_
    simp only [Layer.Args.db]
    ring
  · intro r c
    pointwise
    simp only [r302 H, r45 H, reals]
    exact congrArg Real.toEReal (mul_comm _ _)
  · refine congrArg Real.toEReal ?_
    exact Layer.six_parts I r.val c.isLt

theorem r319 : ∀ r l, res_main_v319 V0 (ix2 r l) = ((I.dh r.val l.val : ℝ) : EReal) := by
  intro r l
  have A := H; unfold Reads at A
  pointwise [res_main_v319]
  simp only [A, r318 H, reals, Fin.sum_univ_one, sum_real, ite_real, dite_real]
  first | rfl | (refine congrArg Real.toEReal ?_; simp only [Layer.Args.dh, Finset.sum_range] <;> ring)

theorem r327 : ∀ r l, res_main_v327 V0 (ix2 r l) = ((I.dh r.val l.val * (1 + I.sc l.val) : ℝ) : EReal) := by
  intro r l
  have A := H; unfold Reads at A
  pointwise [res_main_v327]
  simp only [A, r319 H, r35 H, reals, Fin.sum_univ_one, sum_real, ite_real, dite_real]

theorem r333 : ∀ r l, res_main_v333 V0 (ix2 r l) = ((I.dxn r.val l.val : ℝ) : EReal) := by
  intro r l
  have A := H; unfold Reads at A
  pointwise [res_main_v333]
  simp only [A, r327 H, r30 H, reals, Fin.sum_univ_one, sum_real, ite_real, dite_real]
  first | rfl | (refine congrArg Real.toEReal ?_; simp only [Layer.Args.dxn] <;> ring)

theorem r345 : ∀ r l, res_main_v345 V0 (ix2 r l) = (((-(1 / 2) * (I.rx r.val * (I.rx r.val * I.rx r.val)) * ∑ k ∈ Finset.range 1024, I.x r.val k * I.dxn r.val k) / 1024 : ℝ) : EReal) := by
  intro r l
  have A := H; unfold Reads at A
  pointwise [res_main_v345]
  simp only [A, r333 H, reals, Fin.sum_univ_one, sum_real, ite_real, dite_real]
  simp only [r23 H _, r24 H _, Layer.Args.rx, reals]
  refine congrArg Real.toEReal ?_
  simp only [Finset.sum_range]
  ring

/-- From contents that read the reals of `I`, the reference's operations leave the gradients of `I` in the six results. -/
theorem values :
    (∀ t l, after ops V0 (Proc.devRef .tc main_v349) (ix2 t l) = ((I.dx t.val l.val : ℝ) : EReal))
      ∧ (∀ t l, after ops V0 (Proc.devRef .tc main_v359) (ix2 t l) = ((I.dproj t.val l.val : ℝ) : EReal))
      ∧ (∀ t l, after ops V0 (Proc.devRef .tc main_v360) (ix2 t l) = ((I.dy t.val l.val : ℝ) : EReal))
      ∧ (∀ g k l, after ops V0 (Proc.devRef .tc main_v361) (ix3 g k l) = ((I.dwpool g.val k.val l.val : ℝ) : EReal))
      ∧ (∀ j l, after ops V0 (Proc.devRef .tc main_v353) (ix2 j l) = ((I.dcps j.val l.val : ℝ) : EReal))
      ∧ (∀ j l, after ops V0 (Proc.devRef .tc main_v358) (ix2 j l) = ((I.dvec j.val l.val : ℝ) : EReal)) := by
  have A := H
  unfold Reads at A
  refine ⟨fun t l => ?_, fun t l => ?_, fun t l => ?_, fun g k l => ?_, fun j l => ?_, fun j l => ?_⟩
  · rw [(congrFun (after_ops V0) (Proc.devRef .tc main_v349)).trans (val8_main_v349 V0)]
    pointwise
    simp only [A, r333 H, r24 H, r345 H, reals]
    refine congrArg Real.toEReal ?_
    have e := Layer.norm_grad (I.rx t.val) (I.x t.val) (I.dxn t.val) l.val
    simp only [Layer.Args.dx, Layer.Args.xn]
    rw [← e]
    ring
  · rw [(congrFun (after_ops V0) (Proc.devRef .tc main_v359)).trans (val8_main_v359 V0)]
    pointwise
    exact r318 H t l
  · rw [(congrFun (after_ops V0) (Proc.devRef .tc main_v360)).trans (val8_main_v360 V0)]
    pointwise
    exact r193 H t l
  · rw [(congrFun (after_ops V0) (Proc.devRef .tc main_v361)).trans (val8_main_v361 V0)]
    pointwise
    simp only [r207 H, r135 H, reals, sum_real]
    refine congrArg Real.toEReal ?_
    simp only [Layer.Args.dwpool, Finset.sum_range]
    exact Finset.sum_congr rfl fun k _ => by ring
  · rw [(congrFun (after_ops V0) (Proc.devRef .tc main_v353)).trans (val8_main_v353 V0)]
    pointwise
    simp only [r270 H, r49 H, r63 H, r54 H, r138 H, r198 H, reals, sum_real, Fin.sum_univ_one, dite_real]
    refine congrArg Real.toEReal ?_
    clear A
    obtain ⟨j, hj⟩ := j
    unfold Layer.Args.dcps Layer.Args.dwc Layer.Args.dps
    simp only [Finset.sum_range]
    interval_cases j <;> simp [late]
    exact Finset.sum_congr rfl fun k _ => by ring
  · rw [(congrFun (after_ops V0) (Proc.devRef .tc main_v358)).trans (val8_main_v358 V0)]
    pointwise
    simp only [r319 H, r32 H, r167 H, r162 H, r29 H, r327 H, r159 H, r169 H, reals, sum_real, Fin.sum_univ_one, dite_real]
    refine congrArg Real.toEReal ?_
    clear A
    obtain ⟨j, hj⟩ := j
    unfold Layer.Args.dvec Layer.Args.sumdh Layer.Args.sumdhx Layer.Args.sumdy
    simp only [Finset.sum_range, Finset.sum_mul]
    have hl := l.isLt
    interval_cases j <;> simp
    · exact Finset.sum_congr rfl fun k _ => by ring
    · rw [if_neg (by omega), if_neg (by omega), show 2048 + l.val - 1024 - 1024 = l.val by omega]
      exact Finset.sum_congr rfl fun k _ => by ring
    · exact Finset.sum_congr rfl fun k _ => by ring
    · exact Finset.sum_congr rfl fun k _ => by ring

omit H in
/-- From contents that read the reals of `I`, the reference ends with its six results the gradients of `I`, its arguments unchanged. -/
theorem gradients (m : (ℓ : Loc nD τ sig) → Buf (Elt Ideal) ℓ) (ρ : Dev nD → PrngReg) (J : Dev nD → Layer.Args)
    (HJ : ∀ c, Reads (launchContents m c) (J c)) :
    θ_run defs (onTc (τ := τ) (main (F := Ideal))) ⟨m, fun _ => 0, ρ⟩ fun r => ∀ c : Dev nD,
      (∀ t l, r.2.mem ((c.tc : Thread nD τ).loc main_v349) (ix2 t l) = (((J c).dx t.val l.val : ℝ) : EReal))
      ∧ (∀ t l, r.2.mem ((c.tc : Thread nD τ).loc main_v359) (ix2 t l) = (((J c).dproj t.val l.val : ℝ) : EReal))
      ∧ (∀ t l, r.2.mem ((c.tc : Thread nD τ).loc main_v360) (ix2 t l) = (((J c).dy t.val l.val : ℝ) : EReal))
      ∧ (∀ g k l, r.2.mem ((c.tc : Thread nD τ).loc main_v361) (ix3 g k l) = (((J c).dwpool g.val k.val l.val : ℝ) : EReal))
      ∧ (∀ j l, r.2.mem ((c.tc : Thread nD τ).loc main_v353) (ix2 j l) = (((J c).dcps j.val l.val : ℝ) : EReal))
      ∧ (∀ j l, r.2.mem ((c.tc : Thread nD τ).loc main_v358) (ix2 j l) = (((J c).dvec j.val l.val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (run (F := Ideal) m ρ)
  exact ⟨fun j l => ((congrFun (h c).1 _).trans (congrFun ((congrFun (after_ops _) (Proc.devRef .tc main_v349)).trans (val8_main_v349 _)).symm _)).trans ((values (HJ c)).1 j l),
    fun j l => ((congrFun (h c).2.1 _).trans (congrFun ((congrFun (after_ops _) (Proc.devRef .tc main_v359)).trans (val8_main_v359 _)).symm _)).trans ((values (HJ c)).2.1 j l),
    fun j l => ((congrFun (h c).2.2.1 _).trans (congrFun ((congrFun (after_ops _) (Proc.devRef .tc main_v360)).trans (val8_main_v360 _)).symm _)).trans ((values (HJ c)).2.2.1 j l),
    fun g k l => ((congrFun (h c).2.2.2.1 _).trans (congrFun ((congrFun (after_ops _) (Proc.devRef .tc main_v361)).trans (val8_main_v361 _)).symm _)).trans ((values (HJ c)).2.2.2.1 g k l),
    fun j l => ((congrFun (h c).2.2.2.2.1 _).trans (congrFun ((congrFun (after_ops _) (Proc.devRef .tc main_v353)).trans (val8_main_v353 _)).symm _)).trans ((values (HJ c)).2.2.2.2.1 j l),
    fun j l => ((congrFun (h c).2.2.2.2.2.1 _).trans (congrFun ((congrFun (after_ops _) (Proc.devRef .tc main_v358)).trans (val8_main_v358 _)).symm _)).trans ((values (HJ c)).2.2.2.2.2 j l),
    (h c).2.2.2.2.2.2⟩

end Cert.ReferenceIdeal.Value
-- ==== Proof.Line.lean ====
/- The host lines before the kernel, in order, and how a buffer they leave is read from a few of them. -/
module

public import proofs.«01_k».proof.Proof.Gen.KernelIdeal.Launch
public import Idealize.ShloMosaic.Lib.StableHlo.ReadAt
public import proofs.«01_k».proof.Proof.Reals

@[expose] public section

set_option maxRecDepth 16384

noncomputable section

namespace Cert.KernelIdeal.Host

open Cert.KernelIdeal Cert.KernelIdeal.Gen Idealize.ShloMosaic Idealize.ShloMosaic.TcCoe Idealize.ShloMosaic.StableHlo
open Layer (late soon msq rms sgm cnt wdw reals sum_real ite_real dite_real)

/-! ## Reading the line in pieces -/

/-- The host lines. -/
abbrev line : List (HloOp τ sig (Elt Ideal)) := hostOps0

/-- The references that the operations write, in order. -/
def targets : List (Ref sig .tc) :=
  [main_v0, main_cst, main_v1, main_v2, main_v3, main_v4, main_v5, main_cst_0, main_v6, main_v7, main_v8, main_v9,
   main_v10, main_v11, main_v12, main_v13, main_v14, main_v15, main_v16, main_v17, main_v18, main_v19, main_v20,
   main_v21, main_v22, main_v23, main_v24, main_cst_1, main_v25, main_v26, main_cst_2, main_v27, main_v28,
   main_cst_3, main_v29, main_v30, main_v31, main_v32, main_v33, main_v34, main_v35, main_cst_4, main_v36, main_v37,
   main_v38, main_v39, main_v40, main_v41, main_v42, main_v43, main_v44, main_v45, main_v46, main_v47, main_v48,
   main_v49, main_v50, main_v51, main_v52, main_cst_5, main_v53, main_v54, main_v55, main_v56, main_v57, main_cst_6,
   main_v58, main_v59, main_v60, main_v61, main_v62, main_v63, main_v64, main_v65, main_v66, main_v67, main_v68,
   main_cst_7, main_v69, main_v70, main_cst_8, main_v71, main_v72, main_v73, main_v74, main_v75, main_v76, main_v77,
   main_cst_9, main_v78, main_v79, main_v80, main_v81, main_v82, main_v83, main_v84, main_v85, main_c, main_v86,
   main_v87, main_v88, main_v89, main_cst_10, main_v90, main_v91, main_v92, main_v93, main_cst_11, main_v94,
   main_v95, main_cst_12, main_v96, main_v97, main_v98, main_v99, main_v100, main_v101, main_v102, main_v103,
   main_v104, main_v105, main_v106, main_cst_13, main_v107, main_v108, main_v109, main_v110, main_cst_14, main_v111,
   main_v112, main_v113, main_v114, main_cst_15, main_v115, main_v116, main_cst_16, main_v117, main_v118, main_v119,
   main_v120, main_v121, main_v122, main_v123, main_v124, main_v125, main_v126, main_v127, main_cst_17, main_v128,
   main_v129, main_v130, main_v131, main_cst_18, main_v132, main_v133, main_v134, main_v135, main_cst_19, main_v136,
   main_v137, main_v138, main_v139, main_cst_20, main_v140, main_v141, main_cst_21, main_v142, main_v143, main_v144,
   main_v145, main_v146, main_v147, main_v148, main_v149, main_v150, main_v151, main_v152, main_cst_22, main_v153,
   main_v154, main_v155, main_v156, main_cst_23, main_v157, main_v158, main_v159, main_v160, main_cst_24, main_v161,
   main_v162, main_v163, main_v164, main_cst_25, main_v165, main_v166, main_v167, main_v168, main_cst_26, main_v169,
   main_v170, main_cst_27, main_v171, main_v172, main_v173, main_v174, main_v175, main_v176, main_v177, main_v178,
   main_v179, main_v180, main_v181, main_v182, main_v183, main_cst_28, main_v184, main_v185, main_cst_29, main_v186,
   main_v187, main_v188, main_v189, main_v190, main_v191, main_v192, main_v193, main_v194, main_cst_30, main_v195,
   main_v196, main_v197, main_v198, main_v199, main_v200, main_v201, main_v202, main_v203, main_v204, main_v205,
   main_v206, main_v207]

theorem line_writes : line.map HloOp.writes = targets.map fun w => {Proc.devRef (τ := τ) .tc w} := rfl

/-- The contents after the whole line at a buffer that no operation from position `k` on writes are the contents after
    the first `k` operations. -/
theorem settled (V0 : Valuation τ sig (Elt Ideal)) (k : ℕ) {r : Ref sig .tc} (hr : r ∉ targets.drop k) :
    after line V0 (Proc.devRef .tc r) = upto line V0 k (Proc.devRef .tc r) := by
  have h : after line V0 = after (line.drop k) (upto line V0 k) := by
    rw [upto, ← after_append, List.take_append_drop]
  rw [h]
  refine after_unwritten (targets.drop k) ?_ hr _
  rw [List.map_drop, line_writes, List.map_drop]

/-- The contents after the whole line at a buffer that operations `i` to `i + n - 1` settle: those of the `n` operations
    alone, from the contents before them. -/
theorem piece (V0 : Valuation τ sig (Elt Ideal)) (i n : ℕ) {r : Ref sig .tc} (hr : r ∉ targets.drop (i + n)) :
    after line V0 (Proc.devRef .tc r) = after ((line.drop i).take n) (upto line V0 i) (Proc.devRef .tc r) := by
  rw [settled V0 (i + n) hr, upto, upto, ← after_append, List.take_add]

/-- The ten arguments' contents are the reals of `I`. -/
def Reads (V0 : Valuation τ sig (Elt Ideal)) (I : Layer.Args) : Prop :=
  (∀ r l, V0 (Proc.devRef .tc main_arg0) (ix2 r l) = ((I.x r.val l.val : ℝ) : EReal))
  ∧ (∀ r l, V0 (Proc.devRef .tc main_arg1) (ix2 r l) = ((I.md r.val l.val : ℝ) : EReal))
  ∧ (∀ r l, V0 (Proc.devRef .tc main_arg2) (ix2 r l) = ((I.gpre r.val l.val : ℝ) : EReal))
  ∧ (∀ r l, V0 (Proc.devRef .tc main_arg3) (ix2 r l) = ((I.win r.val l.val : ℝ) : EReal))
  ∧ (∀ a r l, V0 (Proc.devRef .tc main_arg4) (ix3 a r l) = ((I.wc a.val r.val l.val : ℝ) : EReal))
  ∧ (∀ a b r l, V0 (Proc.devRef .tc main_arg5) (ix4 a b r l) = ((I.wp a.val b.val r.val l.val : ℝ) : EReal))
  ∧ (∀ r l, V0 (Proc.devRef .tc main_arg6) (ix2 r l) = ((I.ps r.val l.val : ℝ) : EReal))
  ∧ (∀ r l, V0 (Proc.devRef .tc main_arg7) (ix2 r l) = ((I.wout r.val l.val : ℝ) : EReal))
  ∧ (∀ r l, V0 (Proc.devRef .tc main_arg8) (ix2 r l) = ((I.gpost r.val l.val : ℝ) : EReal))
  ∧ (∀ r l, V0 (Proc.devRef .tc main_arg9) (ix2 r l) = ((I.dxo r.val l.val : ℝ) : EReal))

/-- Row `r` of the modulation's and gains' eight rows. -/
def vecRow (I : Layer.Args) (r l : ℕ) : ℝ :=
  if r = 0 then I.sh l else if r = 1 then I.sc l else if r = 2 then I.gate l else if r = 3 then I.gpre 3 l
  else if r = 4 then I.gpost 3 l else 0

/-- Row `r` of the eight rows of the convolution's weights and the pool's scale. -/
def cpsRow (I : Layer.Args) (r l : ℕ) : ℝ := if r < 3 then I.wc 3 r l else if r = 3 then I.ps 3 l else 0

end Cert.KernelIdeal.Host
-- ==== Proof.Host.lean ====
/- What the kernel's arguments hold when it starts: the host lines before it, entry by entry, as the reals of
   `Layer.Args`. -/
module

public import proofs.«01_k».proof.Proof.Line

@[expose] public section

set_option maxRecDepth 16384

noncomputable section

namespace Cert.KernelIdeal.Host

open Cert.KernelIdeal Cert.KernelIdeal.Gen Idealize.ShloMosaic Idealize.ShloMosaic.TcCoe Idealize.ShloMosaic.StableHlo
open Layer (late soon msq rms sgm cnt wdw reals sum_real ite_real dite_real)

/-- The saved factors of the convolution's gate, three stretches of 512 columns. -/
def faRow (I : Layer.Args) (t c : ℕ) : ℝ :=
  if c < 512 then I.silua t c * I.conv t c
  else if c < 1024 then I.silua t (c - 512) * I.proj t (512 + (c - 512))
  else I.bconv t (c - 1024) * (sgm (I.ga t (c - 1024)) + I.silua t (c - 1024) * (1 - sgm (I.ga t (c - 1024))))

/-- The saved factors of the pool's gate, three stretches of 512 columns, and the four groups' pooled rows. -/
def fpRow (I : Layer.Args) (t c : ℕ) : ℝ :=
  if c < 512 then I.ps 3 c * I.silup t c
  else if c < 1024 then I.mps t (c - 512) * (sgm (I.gp t (c - 512)) + I.silup t (c - 512) * (1 - sgm (I.gp t (c - 512))))
  else if c < 1536 then I.silup t (c - 1024) * I.mixed t (c - 1024)
  else I.pooled ((c - 1536) / 128) t ((c - 1536) % 128)

variable {V0 : Valuation τ sig (Elt Ideal)} {I : Layer.Args} (H : Reads V0 I)
include H

theorem arg0 : ∀ r l, after line V0 (Proc.devRef .tc main_arg0) (ix2 r l) = ((I.x r.val l.val : ℝ) : EReal) := by
  intro r l
  have A := H; unfold Reads at A
  rw [settled V0 0 (by decide +kernel), upto_zero]
  simp only [A]

theorem arg9 : ∀ r l, after line V0 (Proc.devRef .tc main_arg9) (ix2 r l) = ((I.dxo r.val l.val : ℝ) : EReal) := by
  intro r l
  have A := H; unfold Reads at A
  rw [settled V0 0 (by decide +kernel), upto_zero]
  simp only [A]

/-- The rows of the layer's modulation and gains. -/
theorem v12 : ∀ r l, after line V0 (Proc.devRef .tc main_v12) (ix2 r l) = ((vecRow I r.val l.val : ℝ) : EReal) := by
  intro r l
  have A := H; unfold Reads at A
  rw [piece V0 0 15 (by decide +kernel), upto_zero]
  repeat after_reads_at
  simp only [A, reals, Fin.sum_univ_one, sum_real, ite_real, dite_real]
  refine congrArg Real.toEReal ?_
  unfold vecRow Layer.Args.sh Layer.Args.sc Layer.Args.gate
  split_ifs <;> first | rfl | omega | (congr 1 <;> omega)

/-- The convolution's weights and the pool's scale. -/
theorem v14 : ∀ r l, after line V0 (Proc.devRef .tc main_v14) (ix2 r l) = ((cpsRow I r.val l.val : ℝ) : EReal) := by
  intro r l
  have A := H; unfold Reads at A
  rw [piece V0 0 17 (by decide +kernel), upto_zero]
  repeat after_reads_at
  simp only [A, reals, Fin.sum_univ_one, sum_real, ite_real, dite_real]
  refine congrArg Real.toEReal ?_
  unfold cpsRow
  split_ifs <;> first | rfl | omega | (congr 1 <;> omega)

theorem v16 : ∀ a r l, after line V0 (Proc.devRef .tc main_v16) (ix3 a r l) = ((I.wp 3 a.val r.val l.val : ℝ) : EReal) := by
  intro a r l
  have A := H; unfold Reads at A
  rw [piece V0 0 19 (by decide +kernel), upto_zero]
  repeat after_reads_at
  simp only [A, reals, Fin.sum_univ_one, sum_real, ite_real, dite_real]
  rfl

theorem v4 : ∀ r l, after line V0 (Proc.devRef .tc main_v4) (ix2 r l) = ((I.win r.val l.val : ℝ) : EReal) := by
  intro r l
  have A := H; unfold Reads at A
  rw [piece V0 0 6 (by decide +kernel), upto_zero]
  repeat after_reads_at
  simp only [A, reals, Fin.sum_univ_one, sum_real, ite_real, dite_real]

theorem v5 : ∀ r l, after line V0 (Proc.devRef .tc main_v5) (ix2 r l) = ((I.wout r.val l.val : ℝ) : EReal) := by
  intro r l
  have A := H; unfold Reads at A
  rw [piece V0 0 7 (by decide +kernel), upto_zero]
  repeat after_reads_at
  simp only [A, reals, Fin.sum_univ_one, sum_real, ite_real, dite_real]

theorem v17 : ∀ l, after line V0 (Proc.devRef .tc main_v17) (ix2 0 l) = ((I.sh l.val : ℝ) : EReal) := by
  intro l
  have e12 := v12 H
  rw [settled V0 19 (r := main_v12) (by decide +kernel)] at e12
  rw [piece V0 19 1 (by decide +kernel)]
  generalize upto line V0 19 = U at *
  repeat after_reads_at
  simp only [e12, reals, Fin.sum_univ_one, sum_real, ite_real, dite_real]
  rfl

theorem v18 : ∀ l, after line V0 (Proc.devRef .tc main_v18) (ix2 0 l) = ((I.sc l.val : ℝ) : EReal) := by
  intro l
  have e12 := v12 H
  rw [settled V0 19 (r := main_v12) (by decide +kernel)] at e12
  rw [piece V0 19 2 (by decide +kernel)]
  generalize upto line V0 19 = U at *
  repeat after_reads_at
  simp only [e12, reals, Fin.sum_univ_one, sum_real, ite_real, dite_real]
  rfl

theorem v19 : ∀ l, after line V0 (Proc.devRef .tc main_v19) (ix2 0 l) = ((I.gpre 3 l.val : ℝ) : EReal) := by
  intro l
  have e12 := v12 H
  rw [settled V0 19 (r := main_v12) (by decide +kernel)] at e12
  rw [piece V0 19 3 (by decide +kernel)]
  generalize upto line V0 19 = U at *
  repeat after_reads_at
  simp only [e12, reals, Fin.sum_univ_one, sum_real, ite_real, dite_real]
  rfl

theorem v20 : ∀ l, after line V0 (Proc.devRef .tc main_v20) (ix2 0 l) = ((I.wc 3 0 l.val : ℝ) : EReal) := by
  intro l
  have e14 := v14 H
  rw [settled V0 22 (r := main_v14) (by decide +kernel)] at e14
  rw [piece V0 22 1 (by decide +kernel)]
  generalize upto line V0 22 = U at *
  repeat after_reads_at
  simp only [e14, reals, Fin.sum_univ_one, sum_real, ite_real, dite_real]
  rfl

theorem v21 : ∀ l, after line V0 (Proc.devRef .tc main_v21) (ix2 0 l) = ((I.wc 3 1 l.val : ℝ) : EReal) := by
  intro l
  have e14 := v14 H
  rw [settled V0 22 (r := main_v14) (by decide +kernel)] at e14
  rw [piece V0 22 2 (by decide +kernel)]
  generalize upto line V0 22 = U at *
  repeat after_reads_at
  simp only [e14, reals, Fin.sum_univ_one, sum_real, ite_real, dite_real]
  rfl

theorem v22 : ∀ l, after line V0 (Proc.devRef .tc main_v22) (ix2 0 l) = ((I.wc 3 2 l.val : ℝ) : EReal) := by
  intro l
  have e14 := v14 H
  rw [settled V0 22 (r := main_v14) (by decide +kernel)] at e14
  rw [piece V0 22 3 (by decide +kernel)]
  generalize upto line V0 22 = U at *
  repeat after_reads_at
  simp only [e14, reals, Fin.sum_univ_one, sum_real, ite_real, dite_real]
  rfl

theorem v23 : ∀ l, after line V0 (Proc.devRef .tc main_v23) (ix2 0 l) = ((I.ps 3 l.val : ℝ) : EReal) := by
  intro l
  have e14 := v14 H
  rw [settled V0 22 (r := main_v14) (by decide +kernel)] at e14
  rw [piece V0 22 4 (by decide +kernel)]
  generalize upto line V0 22 = U at *
  repeat after_reads_at
  simp only [e14, reals, Fin.sum_univ_one, sum_real, ite_real, dite_real]
  rfl

/-- The mean square, and the number added to it. -/
theorem v30 : ∀ r, after line V0 (Proc.devRef .tc main_v30) (ix2 r 0) = ((msq (I.x r.val) : ℝ) : EReal) := by
  intro r
  have A := H; unfold Reads at A
  rw [piece V0 0 36 (by decide +kernel), upto_zero]
  repeat after_reads_at
  simp only [A, reals, Fin.sum_univ_one, sum_real, ite_real, dite_real]
  refine congrArg Real.toEReal ?_
  simp only [msq, Finset.sum_range]

/-- The six projections. -/
theorem v43 : ∀ r c, after line V0 (Proc.devRef .tc main_v43) (ix2 r c) = ((I.proj r.val c.val : ℝ) : EReal) := by
  intro r c
  have erg0 := arg0 H
  have e30 := v30 H
  have e19 := v19 H
  have e18 := v18 H
  have e17 := v17 H
  have e4 := v4 H
  rw [settled V0 36 (r := main_arg0) (by decide +kernel)] at erg0
  rw [settled V0 36 (r := main_v30) (by decide +kernel)] at e30
  rw [settled V0 36 (r := main_v19) (by decide +kernel)] at e19
  rw [settled V0 36 (r := main_v18) (by decide +kernel)] at e18
  rw [settled V0 36 (r := main_v17) (by decide +kernel)] at e17
  rw [settled V0 36 (r := main_v4) (by decide +kernel)] at e4
  rw [piece V0 36 14 (by decide +kernel)]
  generalize upto line V0 36 = U at *
  repeat after_reads_at
  simp only [erg0, e30, e19, e18, e17, e4, reals, Fin.sum_univ_one, sum_real, ite_real, dite_real]
  refine congrArg Real.toEReal ?_
  simp only [Layer.Args.proj, Layer.Args.h, Layer.Args.xn, Layer.Args.rx, Finset.sum_range] <;> ring

theorem v44 : ∀ r c, after line V0 (Proc.devRef .tc main_v44) (ix2 r c) = ((I.proj r.val c.val : ℝ) : EReal) := by
  intro r c
  have e43 := v43 H
  rw [settled V0 50 (r := main_v43) (by decide +kernel)] at e43
  rw [piece V0 50 1 (by decide +kernel)]
  generalize upto line V0 50 = U at *
  repeat after_reads_at
  simp only [e43, reals, Fin.sum_univ_one, sum_real, ite_real, dite_real]

theorem v45 : ∀ r c, after line V0 (Proc.devRef .tc main_v45) (ix2 r c) = ((I.proj r.val (512 + c.val) : ℝ) : EReal) := by
  intro r c
  have e43 := v43 H
  rw [settled V0 50 (r := main_v43) (by decide +kernel)] at e43
  rw [piece V0 50 2 (by decide +kernel)]
  generalize upto line V0 50 = U at *
  repeat after_reads_at
  simp only [e43, reals, Fin.sum_univ_one, sum_real, ite_real, dite_real]

theorem v46 : ∀ r c, after line V0 (Proc.devRef .tc main_v46) (ix2 r c) = ((I.proj r.val (1024 + c.val) : ℝ) : EReal) := by
  intro r c
  have e43 := v43 H
  rw [settled V0 50 (r := main_v43) (by decide +kernel)] at e43
  rw [piece V0 50 3 (by decide +kernel)]
  generalize upto line V0 50 = U at *
  repeat after_reads_at
  simp only [e43, reals, Fin.sum_univ_one, sum_real, ite_real, dite_real]

theorem v47 : ∀ r c, after line V0 (Proc.devRef .tc main_v47) (ix2 r c) = ((I.proj r.val (1536 + c.val) : ℝ) : EReal) := by
  intro r c
  have e43 := v43 H
  rw [settled V0 50 (r := main_v43) (by decide +kernel)] at e43
  rw [piece V0 50 4 (by decide +kernel)]
  generalize upto line V0 50 = U at *
  repeat after_reads_at
  simp only [e43, reals, Fin.sum_univ_one, sum_real, ite_real, dite_real]

theorem v48 : ∀ r c, after line V0 (Proc.devRef .tc main_v48) (ix2 r c) = ((I.proj r.val (2048 + c.val) : ℝ) : EReal) := by
  intro r c
  have e43 := v43 H
  rw [settled V0 50 (r := main_v43) (by decide +kernel)] at e43
  rw [piece V0 50 5 (by decide +kernel)]
  generalize upto line V0 50 = U at *
  repeat after_reads_at
  simp only [e43, reals, Fin.sum_univ_one, sum_real, ite_real, dite_real]

theorem v49 : ∀ r c, after line V0 (Proc.devRef .tc main_v49) (ix2 r c) = ((I.proj r.val (2560 + c.val) : ℝ) : EReal) := by
  intro r c
  have e43 := v43 H
  rw [settled V0 50 (r := main_v43) (by decide +kernel)] at e43
  rw [piece V0 50 6 (by decide +kernel)]
  generalize upto line V0 50 = U at *
  repeat after_reads_at
  simp only [e43, reals, Fin.sum_univ_one, sum_real, ite_real, dite_real]

/-- The saved operands of the convolution's product. -/
theorem v51 : ∀ r c, after line V0 (Proc.devRef .tc main_v51) (ix2 r c) = ((if c.val < 512 then I.proj r.val c.val else I.proj r.val (512 + c.val) : ℝ) : EReal) := by
  intro r c
  have e44 := v44 H
  have e46 := v46 H
  rw [settled V0 56 (r := main_v44) (by decide +kernel)] at e44
  rw [settled V0 56 (r := main_v46) (by decide +kernel)] at e46
  rw [piece V0 56 2 (by decide +kernel)]
  generalize upto line V0 56 = U at *
  repeat after_reads_at
  simp only [e44, e46, reals, Fin.sum_univ_one, sum_real, ite_real, dite_real]
  refine congrArg Real.toEReal ?_
  split_ifs <;> first | rfl | (congr 1; omega)

theorem v52 : ∀ r c, after line V0 (Proc.devRef .tc main_v52) (ix2 r c) = ((I.z c.val r.val : ℝ) : EReal) := by
  intro r c
  have e44 := v44 H
  have e46 := v46 H
  rw [settled V0 58 (r := main_v44) (by decide +kernel)] at e44
  rw [settled V0 58 (r := main_v46) (by decide +kernel)] at e46
  rw [piece V0 58 1 (by decide +kernel)]
  generalize upto line V0 58 = U at *
  repeat after_reads_at
  simp only [e44, e46, reals, Fin.sum_univ_one, sum_real, ite_real, dite_real]
  rfl

/-- The convolution. -/
theorem v66 : ∀ r c, after line V0 (Proc.devRef .tc main_v66) (ix2 r c) = ((I.conv r.val c.val : ℝ) : EReal) := by
  intro r c
  have e52 := v52 H
  have e20 := v20 H
  have e21 := v21 H
  have e22 := v22 H
  rw [settled V0 59 (r := main_v52) (by decide +kernel)] at e52
  rw [settled V0 59 (r := main_v20) (by decide +kernel)] at e20
  rw [settled V0 59 (r := main_v21) (by decide +kernel)] at e21
  rw [settled V0 59 (r := main_v22) (by decide +kernel)] at e22
  rw [piece V0 59 16 (by decide +kernel)]
  generalize upto line V0 59 = U at *
  repeat after_reads_at
  simp only [e52, e20, e21, e22, reals, Fin.sum_univ_one, sum_real, ite_real, dite_real]
  refine congrArg Real.toEReal ?_
  simp only [Layer.Args.conv, late]
  split_ifs <;> first | omega | (simp; done) | ring

theorem v72 : ∀ r c, after line V0 (Proc.devRef .tc main_v72) (ix2 r c) = ((sgm (I.ga r.val c.val) : ℝ) : EReal) := by
  intro r c
  have e47 := v47 H
  rw [settled V0 75 (r := main_v47) (by decide +kernel)] at e47
  rw [piece V0 75 8 (by decide +kernel)]
  generalize upto line V0 75 = U at *
  repeat after_reads_at
  simp only [e47, reals, Fin.sum_univ_one, sum_real, ite_real, dite_real]
  rfl

/-- The gate's half of the mixer's output. -/
theorem v75 : ∀ r c, after line V0 (Proc.devRef .tc main_v75) (ix2 r c) = ((I.bconv r.val c.val * I.silua r.val c.val : ℝ) : EReal) := by
  intro r c
  have e72 := v72 H
  have e45 := v45 H
  have e47 := v47 H
  have e66 := v66 H
  rw [settled V0 83 (r := main_v72) (by decide +kernel)] at e72
  rw [settled V0 83 (r := main_v45) (by decide +kernel)] at e45
  rw [settled V0 83 (r := main_v47) (by decide +kernel)] at e47
  rw [settled V0 83 (r := main_v66) (by decide +kernel)] at e66
  rw [piece V0 83 3 (by decide +kernel)]
  generalize upto line V0 83 = U at *
  repeat after_reads_at
  simp only [e72, e45, e47, e66, reals, Fin.sum_univ_one, sum_real, ite_real, dite_real]
  rfl

theorem v84 : ∀ r c, after line V0 (Proc.devRef .tc main_v84) (ix2 r c) = ((faRow I r.val c.val : ℝ) : EReal) := by
  intro r c
  have e72 := v72 H
  have e45 := v45 H
  have e47 := v47 H
  have e66 := v66 H
  rw [settled V0 83 (r := main_v72) (by decide +kernel)] at e72
  rw [settled V0 83 (r := main_v45) (by decide +kernel)] at e45
  rw [settled V0 83 (r := main_v47) (by decide +kernel)] at e47
  rw [settled V0 83 (r := main_v66) (by decide +kernel)] at e66
  rw [piece V0 83 13 (by decide +kernel)]
  generalize upto line V0 83 = U at *
  repeat after_reads_at
  simp only [e72, e45, e47, e66, reals, Fin.sum_univ_one, sum_real, ite_real, dite_real]
  refine congrArg Real.toEReal ?_
  unfold faRow
  simp only [Nat.sub_sub, Nat.reduceAdd]
  split_ifs <;> first | rfl | (exfalso; omega)

/-- Tokens so far. -/
theorem v88 : ∀ r, after line V0 (Proc.devRef .tc main_v88) (ix2 r 0) = (((r.val : ℝ) + 1 : ℝ) : EReal) := by
  intro r
  rw [piece V0 96 5 (by decide +kernel)]
  generalize upto line V0 96 = U at *
  repeat after_reads_at
  exact Layer.count_real' r.isLt

theorem v93 : ∀ r c, after line V0 (Proc.devRef .tc main_v93) (ix2 r c) = ((∑ j ∈ Finset.range 2, late (fun s => I.proj s (2048 + (128 * 0 + c.val))) j r.val : ℝ) : EReal) := by
  intro r c
  have e48 := v48 H
  rw [settled V0 101 (r := main_v48) (by decide +kernel)] at e48
  rw [piece V0 101 6 (by decide +kernel)]
  generalize upto line V0 101 = U at *
  repeat after_reads_at
  simp only [e48, reals, Fin.sum_univ_one, sum_real, ite_real, dite_real]
  have h := Layer.window_two (fun s => I.proj s (2048 + (128 * 0 + c.val))) r.val
  simp only [Nat.reduceMul, Nat.zero_add] at h ⊢
  rw [← h]

/-- Pool group 0. -/
theorem v102 : ∀ r c, after line V0 (Proc.devRef .tc main_v102) (ix2 r c) = ((I.pooled 0 r.val c.val : ℝ) : EReal) := by
  intro r c
  have e93 := v93 H
  have e48 := v48 H
  have e88 := v88 H
  rw [settled V0 107 (r := main_v93) (by decide +kernel)] at e93
  rw [settled V0 107 (r := main_v48) (by decide +kernel)] at e48
  rw [settled V0 107 (r := main_v88) (by decide +kernel)] at e88
  rw [piece V0 107 11 (by decide +kernel)]
  generalize upto line V0 107 = U at *
  repeat after_reads_at
  simp only [e93, e48, e88, reals, Fin.sum_univ_one, sum_real, ite_real, dite_real]
  rw [Layer.inv_count 0 r.val (by norm_num [wdw])]
  simp only [reals]
  refine congrArg Real.toEReal ?_
  simp only [Layer.Args.pooled, wdw, Nat.reduceMul, Nat.reduceAdd, Nat.reducePow, Nat.zero_add, mul_one_div]

theorem v105 : ∀ r c, after line V0 (Proc.devRef .tc main_v105) (ix2 r c) = ((I.mixed r.val (128 * 0 + c.val) : ℝ) : EReal) := by
  intro r c
  have e102 := v102 H
  have e16 := v16 H
  rw [settled V0 118 (r := main_v102) (by decide +kernel)] at e102
  rw [settled V0 118 (r := main_v16) (by decide +kernel)] at e16
  rw [piece V0 118 3 (by decide +kernel)]
  generalize upto line V0 118 = U at *
  repeat after_reads_at
  simp only [e102, e16, reals, Fin.sum_univ_one, sum_real, ite_real, dite_real]
  refine congrArg Real.toEReal ?_
  simp only [Layer.Args.mixed, Finset.sum_range]
  rw [show c.val / 128 = 0 by omega, show c.val % 128 = c.val by omega]
  rfl

theorem v110 : ∀ r c, after line V0 (Proc.devRef .tc main_v110) (ix2 r c) = ((∑ j ∈ Finset.range 2, late (fun s => I.proj s (2048 + (128 * 1 + c.val))) j r.val : ℝ) : EReal) := by
  intro r c
  have e48 := v48 H
  rw [settled V0 121 (r := main_v48) (by decide +kernel)] at e48
  rw [piece V0 121 6 (by decide +kernel)]
  generalize upto line V0 121 = U at *
  repeat after_reads_at
  simp only [e48, reals, Fin.sum_univ_one, sum_real, ite_real, dite_real]
  have h := Layer.window_two (fun s => I.proj s (2048 + (128 * 1 + c.val))) r.val
  simp only [Nat.reduceMul, Nat.zero_add] at h ⊢
  rw [← h]

theorem v114 : ∀ r c, after line V0 (Proc.devRef .tc main_v114) (ix2 r c) = ((∑ j ∈ Finset.range 4, late (fun s => I.proj s (2048 + (128 * 1 + c.val))) j r.val : ℝ) : EReal) := by
  intro r c
  have e110 := v110 H
  rw [settled V0 127 (r := main_v110) (by decide +kernel)] at e110
  rw [piece V0 127 5 (by decide +kernel)]
  generalize upto line V0 127 = U at *
  repeat after_reads_at
  simp only [e110, reals, Fin.sum_univ_one, sum_real, ite_real, dite_real]
  exact congrArg Real.toEReal (Layer.window_double (fun s => I.proj s (2048 + (128 * 1 + c.val))) 2 r.val)

/-- Pool group 1. -/
theorem v123 : ∀ r c, after line V0 (Proc.devRef .tc main_v123) (ix2 r c) = ((I.pooled 1 r.val c.val : ℝ) : EReal) := by
  intro r c
  have e114 := v114 H
  have e48 := v48 H
  have e88 := v88 H
  rw [settled V0 132 (r := main_v114) (by decide +kernel)] at e114
  rw [settled V0 132 (r := main_v48) (by decide +kernel)] at e48
  rw [settled V0 132 (r := main_v88) (by decide +kernel)] at e88
  rw [piece V0 132 11 (by decide +kernel)]
  generalize upto line V0 132 = U at *
  repeat after_reads_at
  simp only [e114, e48, e88, reals, Fin.sum_univ_one, sum_real, ite_real, dite_real]
  rw [Layer.inv_count 1 r.val (by norm_num [wdw])]
  simp only [reals]
  refine congrArg Real.toEReal ?_
  simp only [Layer.Args.pooled, wdw, Nat.reduceMul, Nat.reduceAdd, Nat.reducePow, Nat.zero_add, mul_one_div]

theorem v126 : ∀ r c, after line V0 (Proc.devRef .tc main_v126) (ix2 r c) = ((I.mixed r.val (128 * 1 + c.val) : ℝ) : EReal) := by
  intro r c
  have e123 := v123 H
  have e16 := v16 H
  rw [settled V0 143 (r := main_v123) (by decide +kernel)] at e123
  rw [settled V0 143 (r := main_v16) (by decide +kernel)] at e16
  rw [piece V0 143 3 (by decide +kernel)]
  generalize upto line V0 143 = U at *
  repeat after_reads_at
  simp only [e123, e16, reals, Fin.sum_univ_one, sum_real, ite_real, dite_real]
  refine congrArg Real.toEReal ?_
  simp only [Layer.Args.mixed, Finset.sum_range]
  rw [show (128 * 1 + c.val) / 128 = 1 by omega, show (128 * 1 + c.val) % 128 = c.val by omega]
  rfl

theorem v131 : ∀ r c, after line V0 (Proc.devRef .tc main_v131) (ix2 r c) = ((∑ j ∈ Finset.range 2, late (fun s => I.proj s (2048 + (128 * 2 + c.val))) j r.val : ℝ) : EReal) := by
  intro r c
  have e48 := v48 H
  rw [settled V0 146 (r := main_v48) (by decide +kernel)] at e48
  rw [piece V0 146 6 (by decide +kernel)]
  generalize upto line V0 146 = U at *
  repeat after_reads_at
  simp only [e48, reals, Fin.sum_univ_one, sum_real, ite_real, dite_real]
  have h := Layer.window_two (fun s => I.proj s (2048 + (128 * 2 + c.val))) r.val
  simp only [Nat.reduceMul, Nat.zero_add] at h ⊢
  rw [← h]

theorem v135 : ∀ r c, after line V0 (Proc.devRef .tc main_v135) (ix2 r c) = ((∑ j ∈ Finset.range 4, late (fun s => I.proj s (2048 + (128 * 2 + c.val))) j r.val : ℝ) : EReal) := by
  intro r c
  have e131 := v131 H
  rw [settled V0 152 (r := main_v131) (by decide +kernel)] at e131
  rw [piece V0 152 5 (by decide +kernel)]
  generalize upto line V0 152 = U at *
  repeat after_reads_at
  simp only [e131, reals, Fin.sum_univ_one, sum_real, ite_real, dite_real]
  exact congrArg Real.toEReal (Layer.window_double (fun s => I.proj s (2048 + (128 * 2 + c.val))) 2 r.val)

theorem v139 : ∀ r c, after line V0 (Proc.devRef .tc main_v139) (ix2 r c) = ((∑ j ∈ Finset.range 8, late (fun s => I.proj s (2048 + (128 * 2 + c.val))) j r.val : ℝ) : EReal) := by
  intro r c
  have e135 := v135 H
  rw [settled V0 157 (r := main_v135) (by decide +kernel)] at e135
  rw [piece V0 157 5 (by decide +kernel)]
  generalize upto line V0 157 = U at *
  repeat after_reads_at
  simp only [e135, reals, Fin.sum_univ_one, sum_real, ite_real, dite_real]
  exact congrArg Real.toEReal (Layer.window_double (fun s => I.proj s (2048 + (128 * 2 + c.val))) 4 r.val)

/-- Pool group 2. -/
theorem v148 : ∀ r c, after line V0 (Proc.devRef .tc main_v148) (ix2 r c) = ((I.pooled 2 r.val c.val : ℝ) : EReal) := by
  intro r c
  have e139 := v139 H
  have e48 := v48 H
  have e88 := v88 H
  rw [settled V0 162 (r := main_v139) (by decide +kernel)] at e139
  rw [settled V0 162 (r := main_v48) (by decide +kernel)] at e48
  rw [settled V0 162 (r := main_v88) (by decide +kernel)] at e88
  rw [piece V0 162 11 (by decide +kernel)]
  generalize upto line V0 162 = U at *
  repeat after_reads_at
  simp only [e139, e48, e88, reals, Fin.sum_univ_one, sum_real, ite_real, dite_real]
  rw [Layer.inv_count 2 r.val (by norm_num [wdw])]
  simp only [reals]
  refine congrArg Real.toEReal ?_
  simp only [Layer.Args.pooled, wdw, Nat.reduceMul, Nat.reduceAdd, Nat.reducePow, Nat.zero_add, mul_one_div]

theorem v151 : ∀ r c, after line V0 (Proc.devRef .tc main_v151) (ix2 r c) = ((I.mixed r.val (128 * 2 + c.val) : ℝ) : EReal) := by
  intro r c
  have e148 := v148 H
  have e16 := v16 H
  rw [settled V0 173 (r := main_v148) (by decide +kernel)] at e148
  rw [settled V0 173 (r := main_v16) (by decide +kernel)] at e16
  rw [piece V0 173 3 (by decide +kernel)]
  generalize upto line V0 173 = U at *
  repeat after_reads_at
  simp only [e148, e16, reals, Fin.sum_univ_one, sum_real, ite_real, dite_real]
  refine congrArg Real.toEReal ?_
  simp only [Layer.Args.mixed, Finset.sum_range]
  rw [show (128 * 2 + c.val) / 128 = 2 by omega, show (128 * 2 + c.val) % 128 = c.val by omega]
  rfl

theorem v156 : ∀ r c, after line V0 (Proc.devRef .tc main_v156) (ix2 r c) = ((∑ j ∈ Finset.range 2, late (fun s => I.proj s (2048 + (128 * 3 + c.val))) j r.val : ℝ) : EReal) := by
  intro r c
  have e48 := v48 H
  rw [settled V0 176 (r := main_v48) (by decide +kernel)] at e48
  rw [piece V0 176 6 (by decide +kernel)]
  generalize upto line V0 176 = U at *
  repeat after_reads_at
  simp only [e48, reals, Fin.sum_univ_one, sum_real, ite_real, dite_real]
  have h := Layer.window_two (fun s => I.proj s (2048 + (128 * 3 + c.val))) r.val
  simp only [Nat.reduceMul, Nat.zero_add] at h ⊢
  rw [← h]

theorem v160 : ∀ r c, after line V0 (Proc.devRef .tc main_v160) (ix2 r c) = ((∑ j ∈ Finset.range 4, late (fun s => I.proj s (2048 + (128 * 3 + c.val))) j r.val : ℝ) : EReal) := by
  intro r c
  have e156 := v156 H
  rw [settled V0 182 (r := main_v156) (by decide +kernel)] at e156
  rw [piece V0 182 5 (by decide +kernel)]
  generalize upto line V0 182 = U at *
  repeat after_reads_at
  simp only [e156, reals, Fin.sum_univ_one, sum_real, ite_real, dite_real]
  exact congrArg Real.toEReal (Layer.window_double (fun s => I.proj s (2048 + (128 * 3 + c.val))) 2 r.val)

theorem v164 : ∀ r c, after line V0 (Proc.devRef .tc main_v164) (ix2 r c) = ((∑ j ∈ Finset.range 8, late (fun s => I.proj s (2048 + (128 * 3 + c.val))) j r.val : ℝ) : EReal) := by
  intro r c
  have e160 := v160 H
  rw [settled V0 187 (r := main_v160) (by decide +kernel)] at e160
  rw [piece V0 187 5 (by decide +kernel)]
  generalize upto line V0 187 = U at *
  repeat after_reads_at
  simp only [e160, reals, Fin.sum_univ_one, sum_real, ite_real, dite_real]
  exact congrArg Real.toEReal (Layer.window_double (fun s => I.proj s (2048 + (128 * 3 + c.val))) 4 r.val)

theorem v168 : ∀ r c, after line V0 (Proc.devRef .tc main_v168) (ix2 r c) = ((∑ j ∈ Finset.range 16, late (fun s => I.proj s (2048 + (128 * 3 + c.val))) j r.val : ℝ) : EReal) := by
  intro r c
  have e164 := v164 H
  rw [settled V0 192 (r := main_v164) (by decide +kernel)] at e164
  rw [piece V0 192 5 (by decide +kernel)]
  generalize upto line V0 192 = U at *
  repeat after_reads_at
  simp only [e164, reals, Fin.sum_univ_one, sum_real, ite_real, dite_real]
  exact congrArg Real.toEReal (Layer.window_double (fun s => I.proj s (2048 + (128 * 3 + c.val))) 8 r.val)

/-- Pool group 3. -/
theorem v177 : ∀ r c, after line V0 (Proc.devRef .tc main_v177) (ix2 r c) = ((I.pooled 3 r.val c.val : ℝ) : EReal) := by
  intro r c
  have e168 := v168 H
  have e48 := v48 H
  have e88 := v88 H
  rw [settled V0 197 (r := main_v168) (by decide +kernel)] at e168
  rw [settled V0 197 (r := main_v48) (by decide +kernel)] at e48
  rw [settled V0 197 (r := main_v88) (by decide +kernel)] at e88
  rw [piece V0 197 11 (by decide +kernel)]
  generalize upto line V0 197 = U at *
  repeat after_reads_at
  simp only [e168, e48, e88, reals, Fin.sum_univ_one, sum_real, ite_real, dite_real]
  rw [Layer.inv_count 3 r.val (by norm_num [wdw])]
  simp only [reals]
  refine congrArg Real.toEReal ?_
  simp only [Layer.Args.pooled, wdw, Nat.reduceMul, Nat.reduceAdd, Nat.reducePow, Nat.zero_add, mul_one_div]

theorem v180 : ∀ r c, after line V0 (Proc.devRef .tc main_v180) (ix2 r c) = ((I.mixed r.val (128 * 3 + c.val) : ℝ) : EReal) := by
  intro r c
  have e177 := v177 H
  have e16 := v16 H
  rw [settled V0 208 (r := main_v177) (by decide +kernel)] at e177
  rw [settled V0 208 (r := main_v16) (by decide +kernel)] at e16
  rw [piece V0 208 3 (by decide +kernel)]
  generalize upto line V0 208 = U at *
  repeat after_reads_at
  simp only [e177, e16, reals, Fin.sum_univ_one, sum_real, ite_real, dite_real]
  refine congrArg Real.toEReal ?_
  simp only [Layer.Args.mixed, Finset.sum_range]
  rw [show (128 * 3 + c.val) / 128 = 3 by omega, show (128 * 3 + c.val) % 128 = c.val by omega]
  rfl

/-- The four groups' products side by side. -/
theorem v181 : ∀ r c, after line V0 (Proc.devRef .tc main_v181) (ix2 r c) = ((I.mixed r.val c.val : ℝ) : EReal) := by
  intro r c
  have e105 := v105 H
  have e126 := v126 H
  have e151 := v151 H
  have e180 := v180 H
  rw [settled V0 211 (r := main_v105) (by decide +kernel)] at e105
  rw [settled V0 211 (r := main_v126) (by decide +kernel)] at e126
  rw [settled V0 211 (r := main_v151) (by decide +kernel)] at e151
  rw [settled V0 211 (r := main_v180) (by decide +kernel)] at e180
  rw [piece V0 211 1 (by decide +kernel)]
  generalize upto line V0 211 = U at *
  repeat after_reads_at
  simp only [e105, e126, e151, e180, reals, Fin.sum_univ_one, sum_real, ite_real, dite_real]
  refine congrArg Real.toEReal ?_
  split_ifs <;> (congr 1; omega)

theorem v187 : ∀ r c, after line V0 (Proc.devRef .tc main_v187) (ix2 r c) = ((sgm (I.gp r.val c.val) : ℝ) : EReal) := by
  intro r c
  have e49 := v49 H
  rw [settled V0 212 (r := main_v49) (by decide +kernel)] at e49
  rw [piece V0 212 8 (by decide +kernel)]
  generalize upto line V0 212 = U at *
  repeat after_reads_at
  simp only [e49, reals, Fin.sum_univ_one, sum_real, ite_real, dite_real]
  rfl

/-- The pool's half of the mixer's output. -/
theorem v191 : ∀ r c, after line V0 (Proc.devRef .tc main_v191) (ix2 r c) = ((I.mps r.val c.val * I.silup r.val c.val : ℝ) : EReal) := by
  intro r c
  have e187 := v187 H
  have e49 := v49 H
  have e181 := v181 H
  have e23 := v23 H
  rw [settled V0 220 (r := main_v187) (by decide +kernel)] at e187
  rw [settled V0 220 (r := main_v49) (by decide +kernel)] at e49
  rw [settled V0 220 (r := main_v181) (by decide +kernel)] at e181
  rw [settled V0 220 (r := main_v23) (by decide +kernel)] at e23
  rw [piece V0 220 4 (by decide +kernel)]
  generalize upto line V0 220 = U at *
  repeat after_reads_at
  simp only [e187, e49, e181, e23, reals, Fin.sum_univ_one, sum_real, ite_real, dite_real]
  rfl

theorem v194 : ∀ r c, after line V0 (Proc.devRef .tc main_v194) (ix2 r c) = ((I.ps 3 c.val * I.silup r.val c.val : ℝ) : EReal) := by
  intro r c
  have e187 := v187 H
  have e49 := v49 H
  have e23 := v23 H
  rw [settled V0 220 (r := main_v187) (by decide +kernel)] at e187
  rw [settled V0 220 (r := main_v49) (by decide +kernel)] at e49
  rw [settled V0 220 (r := main_v23) (by decide +kernel)] at e23
  rw [piece V0 220 7 (by decide +kernel)]
  generalize upto line V0 220 = U at *
  repeat after_reads_at
  simp only [e187, e49, e23, reals, Fin.sum_univ_one, sum_real, ite_real, dite_real]
  rfl

theorem v200 : ∀ r c, after line V0 (Proc.devRef .tc main_v200) (ix2 r c) = ((I.mps r.val c.val * (sgm (I.gp r.val c.val) + I.silup r.val c.val * (1 - sgm (I.gp r.val c.val))) : ℝ) : EReal) := by
  intro r c
  have e187 := v187 H
  have e49 := v49 H
  have e181 := v181 H
  have e23 := v23 H
  rw [settled V0 220 (r := main_v187) (by decide +kernel)] at e187
  rw [settled V0 220 (r := main_v49) (by decide +kernel)] at e49
  rw [settled V0 220 (r := main_v181) (by decide +kernel)] at e181
  rw [settled V0 220 (r := main_v23) (by decide +kernel)] at e23
  rw [piece V0 220 14 (by decide +kernel)]
  generalize upto line V0 220 = U at *
  repeat after_reads_at
  simp only [e187, e49, e181, e23, reals, Fin.sum_univ_one, sum_real, ite_real, dite_real]
  rfl

theorem v202 : ∀ r c, after line V0 (Proc.devRef .tc main_v202) (ix2 r c) = ((I.silup r.val c.val * I.mixed r.val c.val : ℝ) : EReal) := by
  intro r c
  have e187 := v187 H
  have e49 := v49 H
  have e181 := v181 H
  rw [settled V0 220 (r := main_v187) (by decide +kernel)] at e187
  rw [settled V0 220 (r := main_v49) (by decide +kernel)] at e49
  rw [settled V0 220 (r := main_v181) (by decide +kernel)] at e181
  rw [piece V0 220 16 (by decide +kernel)]
  generalize upto line V0 220 = U at *
  repeat after_reads_at
  simp only [e187, e49, e181, reals, Fin.sum_univ_one, sum_real, ite_real, dite_real]
  rfl

/-- The saved factors of the pool's gate and the pooled rows. -/
theorem v203 : ∀ r c, after line V0 (Proc.devRef .tc main_v203) (ix2 r c) = ((fpRow I r.val c.val : ℝ) : EReal) := by
  intro r c
  have e194 := v194 H
  have e200 := v200 H
  have e202 := v202 H
  have e102 := v102 H
  have e123 := v123 H
  have e148 := v148 H
  have e177 := v177 H
  rw [settled V0 236 (r := main_v194) (by decide +kernel)] at e194
  rw [settled V0 236 (r := main_v200) (by decide +kernel)] at e200
  rw [settled V0 236 (r := main_v202) (by decide +kernel)] at e202
  rw [settled V0 236 (r := main_v102) (by decide +kernel)] at e102
  rw [settled V0 236 (r := main_v123) (by decide +kernel)] at e123
  rw [settled V0 236 (r := main_v148) (by decide +kernel)] at e148
  rw [settled V0 236 (r := main_v177) (by decide +kernel)] at e177
  rw [piece V0 236 1 (by decide +kernel)]
  generalize upto line V0 236 = U at *
  repeat after_reads_at
  simp only [e194, e200, e202, e102, e123, e148, e177, reals, Fin.sum_univ_one, sum_real, ite_real, dite_real]
  refine congrArg Real.toEReal ?_
  unfold fpRow
  simp only [Nat.sub_sub, Nat.reduceAdd]
  by_cases h1 : c.val < 512
  · rw [dif_pos h1, if_pos h1]
  rw [dif_neg h1, if_neg h1]
  by_cases h2 : c.val < 1024
  · rw [dif_pos (by omega), if_pos h2]
  rw [dif_neg (by omega), if_neg h2]
  by_cases h3 : c.val < 1536
  · rw [dif_pos (by omega), if_pos h3]
  rw [dif_neg (by omega), if_neg h3]
  by_cases h4 : c.val < 1664
  · rw [dif_pos (by omega)]; congr 1 <;> omega
  rw [dif_neg (by omega)]
  by_cases h5 : c.val < 1792
  · rw [dif_pos (by omega)]; congr 1 <;> omega
  rw [dif_neg (by omega)]
  by_cases h6 : c.val < 1920
  · rw [dif_pos (by omega)]; congr 1 <;> omega
  rw [dif_neg (by omega)]; congr 1 <;> omega

/-- The mixer's output. -/
theorem v207 : ∀ r c, after line V0 (Proc.devRef .tc main_v207) (ix2 r c) = ((I.y r.val c.val : ℝ) : EReal) := by
  intro r c
  have e75 := v75 H
  have e191 := v191 H
  have e5 := v5 H
  rw [settled V0 237 (r := main_v75) (by decide +kernel)] at e75
  rw [settled V0 237 (r := main_v191) (by decide +kernel)] at e191
  rw [settled V0 237 (r := main_v5) (by decide +kernel)] at e5
  rw [piece V0 237 4 (by decide +kernel)]
  generalize upto line V0 237 = U at *
  repeat after_reads_at
  simp only [e75, e191, e5, reals, Fin.sum_univ_one, sum_real, ite_real, dite_real]
  refine congrArg Real.toEReal ?_
  rw [Layer.y_halves]
  simp only [Finset.sum_range]

end Cert.KernelIdeal.Host
-- ==== Proof.Tile.lean ====
/- The kernel's body at one tile of 256 rows, value by value, as the reals of `Layer.Args`: row `r` of the tile is
   token `n + r`. -/
module

public import proofs.«01_k».proof.Proof.Gen.KernelIdeal.Skeleton
public import proofs.«01_k».proof.Proof.Host

@[expose] public section

set_option maxRecDepth 16384

noncomputable section

namespace Cert.KernelIdeal.Tile

open Cert.KernelIdeal Cert.KernelIdeal.Gen Idealize.ShloMosaic Idealize.ShloMosaic.TcCoe
open Layer (late soon msq rms sgm cnt wdw eps reals sum_real ite_real dite_real)

/-! The window's sum of the rows from a row on, by doubling. -/

/-- Rows of 272, the rotated rows added to them. -/
def turn (b : BitVec 32) (x : FVec Ideal S272x128 .f32) : FVec Ideal S272x128 .f32 :=
  addf x (dynamicRotate 0 b none x rotates_S272x128_d0)

theorem turn_sum (k : ℕ) (b : BitVec 32) (h : ∀ (x : FVec Ideal S272x128 .f32) r c, turn b x (ix2 r c) = x (ix2 r c) + x (ix2 ⟨(r.val + k) % 272, by omega⟩ c))
    {u : ℕ → ℕ → ℝ} {x : FVec Ideal S272x128 .f32}
    (hx : ∀ r c, r.val + k ≤ 272 → x (ix2 r c) = ((∑ i ∈ Finset.range k, u c.val (r.val + i) : ℝ) : EReal)) :
    ∀ r c, r.val + (k + k) ≤ 272 → turn b x (ix2 r c) = ((∑ i ∈ Finset.range (k + k), u c.val (r.val + i) : ℝ) : EReal) := by
  intro r c hr
  by_cases hk : k = 0
  · subst hk; rw [h, hx _ _ (by omega), hx _ _ (by simp only []; omega)]; simp
  have e : (r.val + k) % 272 = r.val + k := Nat.mod_eq_of_lt (by omega)
  rw [h, hx _ _ (by omega), hx _ _ (by simp only [e]; omega), Layer.add_real, Finset.sum_range_add _ k k]
  refine congrArg Real.toEReal (congrArg (_ + ·) (Finset.sum_congr rfl fun i _ => ?_))
  show u c.val ((r.val + k) % 272 + i) = _
  rw [e, Nat.add_assoc]

theorem turn_1 (x r c) : turn 271#32 x (ix2 r c) = x (ix2 r c) + x (ix2 ⟨(r.val + 1) % 272, by omega⟩ c) := by
  pointwise [turn]
  exact congrArg (fun i => x (ix2 r c) + x (ix2 i c)) (Fin.ext (show (r.val + 272 - 271) % 272 = (r.val + 1) % 272 by omega))

theorem turn_2 (x r c) : turn 270#32 x (ix2 r c) = x (ix2 r c) + x (ix2 ⟨(r.val + 2) % 272, by omega⟩ c) := by
  pointwise [turn]
  exact congrArg (fun i => x (ix2 r c) + x (ix2 i c)) (Fin.ext (show (r.val + 272 - 270) % 272 = (r.val + 2) % 272 by omega))

theorem turn_4 (x r c) : turn 268#32 x (ix2 r c) = x (ix2 r c) + x (ix2 ⟨(r.val + 4) % 272, by omega⟩ c) := by
  pointwise [turn]
  exact congrArg (fun i => x (ix2 r c) + x (ix2 i c)) (Fin.ext (show (r.val + 272 - 268) % 272 = (r.val + 4) % 272 by omega))

theorem turn_8 (x r c) : turn 264#32 x (ix2 r c) = x (ix2 r c) + x (ix2 ⟨(r.val + 8) % 272, by omega⟩ c) := by
  pointwise [turn]
  exact congrArg (fun i => x (ix2 r c) + x (ix2 i c)) (Fin.ext (show (r.val + 272 - 264) % 272 = (r.val + 8) % 272 by omega))

variable {I : Layer.Args} {n : ℕ}

/-! ## The output norm -/

theorem p20 {v19 : Vec Ideal S256x1024 .bf16} (h19 : ∀ r l, v19 (ix2 r l) = ((I.y (n + r.val) l.val : ℝ) : EReal)) :
    ∀ r l, k0_pay20 v19 (ix2 r l) = ((I.y (n + r.val) l.val : ℝ) : EReal) := by
  intro r l
  pointwise [k0_pay20]
  simp only [h19]

theorem p21 {v19 : Vec Ideal S256x1024 .bf16} (h19 : ∀ r l, v19 (ix2 r l) = ((I.y (n + r.val) l.val : ℝ) : EReal)) :
    ∀ r, k0_pay21 v19 (ix2 r 0) = ((msq (I.y (n + r.val)) - eps : ℝ) : EReal) := by
  intro r
  pointwise [k0_pay21, k0_pay20]
  simp only [h19, reals, sum_real]
  refine congrArg Real.toEReal ?_
  simp only [msq, Finset.sum_range, add_sub_cancel_right]

theorem p22 {w : Ideal .f32} (hw : w = ((eps : ℝ) : EReal)) {v26 : FVec Ideal S256x1 .f32} (h26 : ∀ r, v26 (ix2 r 0) = ((msq (I.y (n + r.val)) - eps : ℝ) : EReal)) :
    ∀ r, k0_pay22 v26 w (ix2 r 0) = ((I.ry (n + r.val) : ℝ) : EReal) := by
  intro r
  pointwise [k0_pay22]
  simp only [hw, h26, reals, sub_add_cancel]
  rfl

variable {w : Ideal .f32} (hw : w = ((eps : ℝ) : EReal))
  {v21 : FVec Ideal S256x1024 .f32} (h21 : ∀ r l, v21 (ix2 r l) = ((I.y (n + r.val) l.val : ℝ) : EReal))
  {v26 : FVec Ideal S256x1 .f32} (h26 : ∀ r, v26 (ix2 r 0) = ((msq (I.y (n + r.val)) - eps : ℝ) : EReal))
  {v18 : Vec Ideal S256x1024 .f32} (h18 : ∀ r l, v18 (ix2 r l) = ((I.dxo (n + r.val) l.val : ℝ) : EReal))
  {v7 v11 : FVec Ideal S1x1024 .f32} (h7 : ∀ l, v7 (ix2 0 l) = ((I.gate l.val : ℝ) : EReal))
  (h11 : ∀ l, v11 (ix2 0 l) = ((I.gpost 3 l.val : ℝ) : EReal))
  {v54 : Vec Ideal S1024x1024 .bf16} (h54 : ∀ r l, v54 (ix2 r l) = ((I.wout r.val l.val : ℝ) : EReal))

include hw h21 h26 in
theorem p23 : ∀ r l, k0_pay23 v21 v26 w (ix2 r l) = ((I.yh (n + r.val) l.val : ℝ) : EReal) := by
  intro r l
  pointwise [k0_pay23]
  simp only [h21, p22 hw h26, reals]
  rfl

include hw h21 h26 h18 in
theorem p24 {v32 : Vec Ideal S1x1024 .f32} {a : ℕ → ℝ} (h32 : ∀ l, v32 (ix2 0 l) = ((a l.val : ℝ) : EReal)) :
    ∀ l, k0_pay24 v18 v21 v26 w v32 (ix2 0 l)
      = ((a l.val + ∑ k ∈ Finset.range 256, I.dxo (n + k) l.val * I.yh (n + k) l.val : ℝ) : EReal) := by
  intro l
  pointwise [k0_pay24]
  simp only [h18, h32, p23 hw h21 h26, reals, sum_real, Finset.sum_range]

include hw h21 h26 h18 h7 h11 in
theorem p25 : ∀ r l, k0_pay25 v7 v11 v18 v21 v26 w (ix2 r l) = ((I.dy (n + r.val) l.val : ℝ) : EReal) := by
  intro r l
  pointwise [k0_pay25]
  simp only [h18, h7, h11, p23 hw h21 h26, p22 hw h26, reals, sum_real]
  refine congrArg Real.toEReal ?_
  simp only [Layer.Args.dy, Layer.Args.dyh, Finset.sum_range]

include hw h21 h26 h18 h7 h11 h54 in
theorem p26 : ∀ r l, k0_pay26 v7 v11 v18 v21 v26 w v54 (ix2 r l) = ((I.dycat (n + r.val) l.val : ℝ) : EReal) := by
  intro r l
  pointwise [k0_pay26]
  simp only [h54, p25 hw h21 h26 h18 h7 h11, reals, sum_real]
  refine congrArg Real.toEReal ?_
  simp only [Layer.Args.dycat, Finset.sum_range]

/-! ## The convolution's gate -/

variable {v59 : Vec Ideal S256x1536 .bf16} (h59 : ∀ r c, v59 (ix2 r c) = ((Host.faRow I (n + r.val) c.val : ℝ) : EReal))

include hw h21 h26 h18 h7 h11 h54 h59 in
theorem p30 : ∀ r c, k0_pay30 v7 v11 v18 v21 v26 w v54 v59 (ix2 r c) = ((I.db (n + r.val) c.val : ℝ) : EReal) := by
  intro r c
  pointwise [k0_pay30, k0_pay27, k0_pay29]
  simp only [h59, p26 hw h21 h26 h18 h7 h11 h54, reals]
  refine congrArg Real.toEReal ?_
  simp only [Layer.Args.db, Host.faRow]
  rw [if_pos c.isLt]

include hw h21 h26 h18 h7 h11 h54 h59 in
theorem p31 : ∀ r c, k0_pay31 v7 v11 v18 v21 v26 w v54 v59 (ix2 r c) = ((I.dconv c.val (n + r.val) : ℝ) : EReal) := by
  intro r c
  pointwise [k0_pay31, k0_pay27, k0_pay29]
  simp only [h59, p26 hw h21 h26 h18 h7 h11 h54, reals]
  refine congrArg Real.toEReal ?_
  simp only [Layer.Args.dconv, Host.faRow]
  rw [if_neg (by omega), if_pos (by omega), Nat.add_sub_cancel_left]

include hw h21 h26 h18 h7 h11 h54 h59 in
theorem p32 : ∀ r c, k0_pay32 v7 v11 v18 v21 v26 w v54 v59 (ix2 r c) = ((I.dga (n + r.val) c.val : ℝ) : EReal) := by
  intro r c
  pointwise [k0_pay32, k0_pay27, k0_pay29]
  simp only [h59, p26 hw h21 h26 h18 h7 h11 h54, reals]
  refine congrArg Real.toEReal ?_
  simp only [Layer.Args.dga, Host.faRow]
  rw [if_neg (by omega), if_neg (by omega), Nat.add_sub_cancel_left]

include hw h21 h26 h18 h7 h11 h54 in
theorem p28 : ∀ r c, k0_pay28 v7 v11 v18 v21 v26 w v54 (ix2 r c) = ((I.dycat (n + r.val) (512 + c.val) : ℝ) : EReal) := by
  intro r c
  pointwise [k0_pay28]
  simp only [p26 hw h21 h26 h18 h7 h11 h54]

variable {v68 : Vec Ideal S256x1024 .bf16}
  (h68 : ∀ r c, v68 (ix2 r c) = (((if c.val < 512 then I.proj (n + r.val) c.val else I.proj (n + r.val) (512 + c.val)) : ℝ) : EReal))

include h68 in
theorem p34 : ∀ r c, k0_pay34 v68 (ix2 r c) = ((I.proj (n + r.val) c.val : ℝ) : EReal) := by
  intro r c
  pointwise [k0_pay34, k0_pay33]
  rw [h68, if_pos c.isLt]

include h68 in
theorem p35 : ∀ r c, k0_pay35 v68 (ix2 r c) = ((I.proj (n + r.val) (1024 + c.val) : ℝ) : EReal) := by
  intro r c
  pointwise [k0_pay35, k0_pay33]
  rw [h68, if_neg (by simp)]
  refine congrArg (fun k => ((I.proj (n + r.val) k : ℝ) : EReal)) ?_
  show 512 + (512 + c.val) = _
  omega

include h68 in
theorem p36 : ∀ r c, k0_pay36 v68 (ix2 r c) = ((I.z c.val (n + r.val) : ℝ) : EReal) := by
  intro r c
  pointwise [k0_pay36]
  simp only [p34 h68, p35 h68, reals]
  rfl

/-- A choice by whether the tile is not the first. -/
theorem pick {T : ℕ} (hT : T < 8) {α : Type} (a b : α) :
    Scalar.select (Scalar.cmpi .sgt (BitVec.ofNat 32 T) 0#32) a b = if 0 < T then a else b := by
  interval_cases T <;> rfl

variable {T : ℕ} (hT : T < 8) (hn : n = 256 * T) {v74 : Vec Ideal S16x1024 .bf16}
  (h74 : 0 < T → ∀ r c, v74 (ix2 r c) = (((if c.val < 512 then I.proj (n - 16 + r.val) c.val else I.proj (n - 16 + r.val) (512 + c.val)) : ℝ) : EReal))

include h68 hT hn h74 in
/-- The convolution's operand, from eight tokens before the tile on. -/
theorem p37 : ∀ r c, k0_pay37 (BitVec.ofNat 32 T) v68 v74 (ix2 r c) = ((late (I.z c.val) 8 (n + r.val) : ℝ) : EReal) := by
  intro r c
  pointwise [k0_pay37]
  simp only [p36 h68]
  unfold late
  by_cases h : r.val < 8
  · rw [dif_pos h]
    rw [pick hT, pick hT]
    by_cases h0 : 0 < T
    · rw [if_pos h0, if_pos h0, h74 h0, h74 h0, if_neg (by simp), if_pos (by simp)]
      rw [Layer.mul_real, if_pos (by omega)]
      refine congrArg Real.toEReal ?_
      unfold Layer.Args.z
      have e : n - 16 + (8 + r.val) = n + r.val - 8 := by omega
      show I.proj (n - 16 + (8 + r.val)) (512 + (512 + c.val)) * I.proj (n - 16 + (8 + r.val)) c.val = _
      rw [e, show 512 + (512 + c.val) = 1024 + c.val by omega]
    · rw [if_neg h0, if_neg (by omega)]; rfl
  · rw [dif_neg h, if_pos (by omega)]
    refine congrArg (fun k => ((I.z c.val k : ℝ) : EReal)) ?_
    show n + (r.val - 8) = _
    omega

include h68 hT hn h74 in
theorem p38 : ∀ r c, k0_pay38 (BitVec.ofNat 32 T) v68 v74 (ix2 r c) = ((late (I.z c.val) 1 (n + r.val) : ℝ) : EReal) := by
  intro r c
  pointwise [k0_pay38]
  rw [p37 h68 hT hn h74]
  refine congrArg Real.toEReal ?_
  show late (I.z c.val) 8 (n + (8 + r.val + 264 - 1) % 264) = _
  unfold late
  have e : (8 + r.val + 264 - 1) % 264 = r.val + 7 := by omega
  rw [e]
  by_cases h : 1 ≤ n + r.val
  · rw [if_pos h, if_pos (by omega)]; exact congrArg (I.z _) (by omega)
  · rw [if_neg h, if_neg (by omega)]

variable {v65 : FVec Ideal S256x512 .f32} (h65 : ∀ r c, v65 (ix2 r c) = ((I.dconv c.val (n + r.val) : ℝ) : EReal))

include h68 hT hn h74 h65 in
theorem p41 {v107 : Vec Ideal S1x512 .f32} {a : ℕ → ℝ} (h107 : ∀ l, v107 (ix2 0 l) = ((a l.val : ℝ) : EReal)) :
    ∀ l, k0_pay41 (BitVec.ofNat 32 T) v65 v68 v74 v107 (ix2 0 l)
      = ((a l.val + ∑ k ∈ Finset.range 256, I.dconv l.val (n + k) * late (I.z l.val) 2 (n + k) : ℝ) : EReal) := by
  intro l
  pointwise [k0_pay41]
  simp only [h107, h65, p37 h68 hT hn h74, reals, sum_real]
  refine congrArg Real.toEReal (congrArg (a l.val + ·) ?_)
  rw [Finset.sum_range]
  refine Finset.sum_congr rfl fun k _ => congrArg (I.dconv l.val (n + k.val) * ·) ?_
  show late (I.z l.val) 8 (n + (8 + k.val + 264 - 2) % 264) = _
  unfold late
  have e : (8 + k.val + 264 - 2) % 264 = k.val + 6 := by omega
  rw [e]
  by_cases h : 2 ≤ n + k.val
  · rw [if_pos h, if_pos (by omega)]; exact congrArg (I.z _) (by omega)
  · rw [if_neg h, if_neg (by omega)]

include h65 in
theorem p42 {v86 : FVec Ideal S256x512 .f32} (h86 : ∀ r c, v86 (ix2 r c) = ((late (I.z c.val) 1 (n + r.val) : ℝ) : EReal))
    {v114 : Vec Ideal S1x512 .f32} {a : ℕ → ℝ} (h114 : ∀ l, v114 (ix2 0 l) = ((a l.val : ℝ) : EReal)) :
    ∀ l, k0_pay42 v65 v86 v114 (ix2 0 l)
      = ((a l.val + ∑ k ∈ Finset.range 256, I.dconv l.val (n + k) * late (I.z l.val) 1 (n + k) : ℝ) : EReal) := by
  intro l
  pointwise [k0_pay42]
  simp only [h114, h65, h86, reals, sum_real, Finset.sum_range]

include h65 in
theorem p43 {v80 : FVec Ideal S256x512 .f32} (h80 : ∀ r c, v80 (ix2 r c) = ((I.z c.val (n + r.val) : ℝ) : EReal))
    {v121 : Vec Ideal S1x512 .f32} {a : ℕ → ℝ} (h121 : ∀ l, v121 (ix2 0 l) = ((a l.val : ℝ) : EReal)) :
    ∀ l, k0_pay43 v65 v80 v121 (ix2 0 l)
      = ((a l.val + ∑ k ∈ Finset.range 256, I.dconv l.val (n + k) * late (I.z l.val) 0 (n + k) : ℝ) : EReal) := by
  intro l
  pointwise [k0_pay43]
  simp only [h121, h65, h80, reals, sum_real, Finset.sum_range]
  simp only [late, Nat.zero_le, if_true, Nat.sub_zero]

include hT hn h65 in
/-- The transposed convolution: the tile's rows and the rows after it. -/
theorem p39 {v13 v15 v17 : FVec Ideal S1x512 .f32} {v89 : Vec Ideal S8x512 .f32}
    (h13 : ∀ l, v13 (ix2 0 l) = ((I.wc 3 0 l.val : ℝ) : EReal)) (h15 : ∀ l, v15 (ix2 0 l) = ((I.wc 3 1 l.val : ℝ) : EReal))
    (h17 : ∀ l, v17 (ix2 0 l) = ((I.wc 3 2 l.val : ℝ) : EReal))
    (h89 : ∀ r c, v89 (ix2 r c) = ((soon (I.dconv c.val) 0 (n + (256 + r.val)) : ℝ) : EReal)) :
    ∀ r c, k0_pay39 v13 v15 v17 v65 v89 (ix2 r c) = ((I.dz (n + r.val) c.val : ℝ) : EReal) := by
  intro r c
  have step : ∀ k : ℕ, 0 < k → k < 8 → (h : ∀ h : (r.val + 264 - (264 - k)) % 264 < 256, (r.val + 264 - (264 - k)) % 264 < 256) →
      (if h : (r.val + 264 - (264 - k)) % 264 < 256 then v65 (ix2 ⟨(r.val + 264 - (264 - k)) % 264, h⟩ c)
        else v89 (ix2 ⟨(r.val + 264 - (264 - k)) % 264 - 256, by omega⟩ c)) = ((soon (I.dconv c.val) k (n + r.val) : ℝ) : EReal) := by
    intro k h0 h8 _
    have e : (r.val + 264 - (264 - k)) % 264 = r.val + k := by omega
    by_cases h : r.val + k < 256
    · rw [dif_pos (by omega), h65]
      refine congrArg Real.toEReal ?_
      show I.dconv c.val (n + (r.val + 264 - (264 - k)) % 264) = _
      rw [e, soon, if_pos (by omega)]; exact congrArg (I.dconv _) (by omega)
    · rw [dif_neg (by omega), h89]
      refine congrArg Real.toEReal ?_
      show soon (I.dconv c.val) 0 (n + (256 + ((r.val + 264 - (264 - k)) % 264 - 256))) = _
      rw [e]; unfold soon
      have e' : n + (256 + (r.val + k - 256)) + 0 = n + r.val + k := by omega
      rw [e']
  pointwise [k0_pay39]
  rw [step 1 (by omega) (by omega) (fun h => h), step 2 (by omega) (by omega) (fun h => h)]
  simp only [h13, h15, h17, h65, reals]
  rfl

theorem p40 {v65 : FVec Ideal S256x512 .f32} (h65 : ∀ r c, v65 (ix2 r c) = ((I.dconv c.val (n + r.val) : ℝ) : EReal)) :
    ∀ r c, k0_pay40 v65 (ix2 r c) = ((I.dconv c.val (n + r.val) : ℝ) : EReal) := by
  intro r c
  pointwise [k0_pay40]
  simp only [h65]

/-! ## The pool's gate -/

variable {v58 : FVec Ideal S256x512 .f32} (h58 : ∀ r c, v58 (ix2 r c) = ((I.dycat (n + r.val) (512 + c.val) : ℝ) : EReal))

include h58 in
theorem p46 {v130 : Vec Ideal S256x512 .bf16} (h130 : ∀ r c, v130 (ix2 r c) = ((I.ps 3 c.val * I.silup (n + r.val) c.val : ℝ) : EReal)) :
    ∀ r c, k0_pay46 v58 v130 (ix2 r c) = ((I.dmixed (n + r.val) c.val : ℝ) : EReal) := by
  intro r c
  pointwise [k0_pay46]
  simp only [h58, h130, reals]
  rfl

include h58 in
theorem p47 {v135 : Vec Ideal S256x512 .bf16} (h135 : ∀ r c, v135 (ix2 r c)
      = ((I.mps (n + r.val) c.val * (sgm (I.gp (n + r.val) c.val) + I.silup (n + r.val) c.val * (1 - sgm (I.gp (n + r.val) c.val))) : ℝ) : EReal)) :
    ∀ r c, k0_pay47 v58 v135 (ix2 r c) = ((I.dgp (n + r.val) c.val : ℝ) : EReal) := by
  intro r c
  pointwise [k0_pay47]
  simp only [h58, h135, reals]
  rfl

include h58 in
theorem p48 {v139 : Vec Ideal S1x512 .f32} {a : ℕ → ℝ} (h139 : ∀ l, v139 (ix2 0 l) = ((a l.val : ℝ) : EReal))
    {v141 : Vec Ideal S256x512 .bf16} (h141 : ∀ r c, v141 (ix2 r c) = ((I.silup (n + r.val) c.val * I.mixed (n + r.val) c.val : ℝ) : EReal)) :
    ∀ l, k0_pay48 v58 v139 v141 (ix2 0 l)
      = ((a l.val + ∑ k ∈ Finset.range 256, I.dycat (n + k) (512 + l.val) * (I.silup (n + k) l.val * I.mixed (n + k) l.val) : ℝ) : EReal) := by
  intro l
  pointwise [k0_pay48]
  simp only [h139, h58, h141, reals, sum_real, Finset.sum_range]

include hT hn in
theorem p49 : ∀ r, k0_pay49 (F := Ideal) (BitVec.ofNat 32 T) (ix2 r 0) = ((((n + r.val : ℕ) : ℝ) + 1 : ℝ) : EReal) := by
  intro r
  pointwise [k0_pay49]
  rw [← Layer.count_real (t := n + r.val) (by omega)]
  refine congrArg (FloatOps.sitofp (F := Ideal) .f32) ?_
  unfold IntOp.addi Scalar.addi Scalar.muli
  rw [hn, BitVec.ofNat_add, BitVec.ofNat_mul, BitVec.mul_comm]
  ac_rfl

/-! ## The pool -/

variable {v134 : FVec Ideal S256x512 .bf16} (h134 : ∀ r c, v134 (ix2 r c) = ((I.dmixed (n + r.val) c.val : ℝ) : EReal))

include h134 in
theorem p50 : ∀ r c, k0_pay50 v134 (ix2 r c) = ((I.dmixed (n + r.val) (128 * 0 + c.val) : ℝ) : EReal) := by
  intro r c
  pointwise [k0_pay50]
  rw [h134]

include h134 in
theorem p51 {w : Vec Ideal S1x1x128x128 .bf16} (hw : ∀ a b, w (ix4 0 0 a b) = ((I.wp 3 0 a.val b.val : ℝ) : EReal)) :
    ∀ r c, k0_pay51 v134 w (ix2 r c) = ((I.dpool 0 (n + r.val) c.val : ℝ) : EReal) := by
  intro r c
  pointwise [k0_pay51]
  simp only [p50 h134, hw, reals, sum_real, Layer.Args.dpool, Finset.sum_range]

include h134 in
theorem p56 : ∀ r c, k0_pay56 v134 (ix2 r c) = ((I.dmixed (n + r.val) (128 * 1 + c.val) : ℝ) : EReal) := by
  intro r c
  pointwise [k0_pay56]
  rw [h134]

include h134 in
theorem p62 : ∀ r c, k0_pay62 v134 (ix2 r c) = ((I.dmixed (n + r.val) (128 * 2 + c.val) : ℝ) : EReal) := by
  intro r c
  pointwise [k0_pay62]
  rw [h134]

include h134 in
theorem p63 {w : Vec Ideal S1x1x128x128 .bf16} (hw : ∀ a b, w (ix4 0 0 a b) = ((I.wp 3 2 a.val b.val : ℝ) : EReal)) :
    ∀ r c, k0_pay63 v134 w (ix2 r c) = ((I.dpool 2 (n + r.val) c.val : ℝ) : EReal) := by
  intro r c
  pointwise [k0_pay63]
  simp only [p62 h134, hw, reals, sum_real, Layer.Args.dpool, Finset.sum_range]

include h134 in
theorem p69 : ∀ r c, k0_pay69 v134 (ix2 r c) = ((I.dmixed (n + r.val) (128 * 3 + c.val) : ℝ) : EReal) := by
  intro r c
  pointwise [k0_pay69]
  rw [h134]

include h134 in
theorem p70 {w : Vec Ideal S1x1x128x128 .bf16} (hw : ∀ a b, w (ix4 0 0 a b) = ((I.wp 3 3 a.val b.val : ℝ) : EReal)) :
    ∀ r c, k0_pay70 v134 w (ix2 r c) = ((I.dpool 3 (n + r.val) c.val : ℝ) : EReal) := by
  intro r c
  pointwise [k0_pay70]
  simp only [p69 h134, hw, reals, sum_real, Layer.Args.dpool, Finset.sum_range]

theorem p57 {v181 : FVec Ideal S256x128 .bf16} (h181 : ∀ r c, v181 (ix2 r c) = ((I.dmixed (n + r.val) (128 * 1 + c.val) : ℝ) : EReal))
    {w : Vec Ideal S1x1x128x128 .bf16} (hw : ∀ a b, w (ix4 0 0 a b) = ((I.wp 3 1 a.val b.val : ℝ) : EReal)) :
    ∀ r c, k0_pay57 v181 w (ix2 r c) = ((I.dpool 1 (n + r.val) c.val : ℝ) : EReal) := by
  intro r c
  pointwise [k0_pay57]
  simp only [h181, hw, reals, sum_real, Layer.Args.dpool, Finset.sum_range]

variable {a : ℕ → ℕ → ℝ} {acc : Vec Ideal S1x128x128 .f32} (hacc : ∀ k l, acc (ix3 0 k l) = ((a k.val l.val : ℝ) : EReal))
  {v161 : Vec Ideal S256x128 .bf16}

include h134 hacc in
theorem p52 (h161 : ∀ r c, v161 (ix2 r c) = ((I.pooled 0 (n + r.val) c.val : ℝ) : EReal)) :
    ∀ k l, k0_pay52 v134 acc v161 (ix3 0 k l)
      = ((a k.val l.val + ∑ t ∈ Finset.range 256, I.pooled 0 (n + t) k.val * I.dmixed (n + t) (128 * 0 + l.val) : ℝ) : EReal) := by
  intro k l
  pointwise [k0_pay52]
  simp only [p50 h134, hacc, h161, reals, sum_real, Finset.sum_range, Nat.mul_zero, Nat.zero_add]

include hacc in
theorem p58 {v181 : FVec Ideal S256x128 .bf16} (h181 : ∀ r c, v181 (ix2 r c) = ((I.dmixed (n + r.val) (128 * 1 + c.val) : ℝ) : EReal))
    (h161 : ∀ r c, v161 (ix2 r c) = ((I.pooled 1 (n + r.val) c.val : ℝ) : EReal)) :
    ∀ k l, k0_pay58 v181 acc v161 (ix3 0 k l)
      = ((a k.val l.val + ∑ t ∈ Finset.range 256, I.pooled 1 (n + t) k.val * I.dmixed (n + t) (128 * 1 + l.val) : ℝ) : EReal) := by
  intro k l
  pointwise [k0_pay58]
  simp only [h181, hacc, h161, reals, sum_real, Finset.sum_range]

include hacc in
theorem p65 {v209 : FVec Ideal S256x128 .bf16} (h209 : ∀ r c, v209 (ix2 r c) = ((I.dmixed (n + r.val) (128 * 2 + c.val) : ℝ) : EReal))
    (h161 : ∀ r c, v161 (ix2 r c) = ((I.pooled 2 (n + r.val) c.val : ℝ) : EReal)) :
    ∀ k l, k0_pay65 v209 (k0_pay64 acc) v161 (ix3 0 k l)
      = ((a k.val l.val + ∑ t ∈ Finset.range 256, I.pooled 2 (n + t) k.val * I.dmixed (n + t) (128 * 2 + l.val) : ℝ) : EReal) := by
  intro k l
  pointwise [k0_pay65, k0_pay64]
  simp only [h209, hacc, h161, reals, sum_real, Finset.sum_range]

include h134 hacc in
theorem p72 (h161 : ∀ r c, v161 (ix2 r c) = ((I.pooled 3 (n + r.val) c.val : ℝ) : EReal)) :
    ∀ k l, k0_pay72 (k0_pay71 v134 acc v161) (ix3 0 k l)
      = ((a k.val l.val + ∑ t ∈ Finset.range 256, I.pooled 3 (n + t) k.val * I.dmixed (n + t) (128 * 3 + l.val) : ℝ) : EReal) := by
  intro k l
  pointwise [k0_pay72, k0_pay71]
  simp only [p69 h134, hacc, h161, reals, sum_real, Finset.sum_range]

/-! A row's division by the number of tokens in its window. -/

theorem wdw_two : (2 : ℝ) = (wdw 0 : ℝ) := by norm_num [wdw]
theorem wdw_four : (4 : ℝ) = (wdw 1 : ℝ) := by norm_num [wdw]
theorem wdw_eight : (8 : ℝ) = (wdw 2 : ℝ) := by norm_num [wdw]
theorem wdw_sixteen : (16 : ℝ) = (wdw 3 : ℝ) := by norm_num [wdw]

include hT hn h134 in
theorem p53 {w : Vec Ideal S1x1x128x128 .bf16} (hw : ∀ a b, w (ix4 0 0 a b) = ((I.wp 3 0 a.val b.val : ℝ) : EReal)) :
    ∀ r c, k0_pay53 (BitVec.ofNat 32 T) v134 w (ix2 r c) = ((I.q 0 c.val (n + r.val) : ℝ) : EReal) := by
  intro r c
  pointwise [k0_pay53]
  simp only [p49 hT hn, p51 h134 hw, reals]
  rw [Layer.inv_count 0 _ wdw_two]
  simp only [reals, mul_one_div]
  rfl

variable {v154 : FVec Ideal S256x1 .f32} (h154 : ∀ r, v154 (ix2 r 0) = ((((n + r.val : ℕ) : ℝ) + 1 : ℝ) : EReal))

include h154 in
theorem p59 {v181 : FVec Ideal S256x128 .bf16} (h181 : ∀ r c, v181 (ix2 r c) = ((I.dmixed (n + r.val) (128 * 1 + c.val) : ℝ) : EReal))
    {w : Vec Ideal S1x1x128x128 .bf16} (hw : ∀ a b, w (ix4 0 0 a b) = ((I.wp 3 1 a.val b.val : ℝ) : EReal)) :
    ∀ r c, k0_pay59 v154 v181 w (ix2 r c) = ((I.q 1 c.val (n + r.val) : ℝ) : EReal) := by
  intro r c
  pointwise [k0_pay59]
  simp only [h154, p57 h181 hw, reals]
  rw [Layer.inv_count 1 _ wdw_four]
  simp only [reals, mul_one_div]
  rfl

include h154 in
theorem p66 {v212 : FVec Ideal S256x128 .f32} (hd : ∀ r c, v212 (ix2 r c) = ((I.dpool 2 (n + r.val) c.val : ℝ) : EReal)) :
    ∀ r c, k0_pay66 v154 v212 (ix2 r c) = ((I.q 2 c.val (n + r.val) : ℝ) : EReal) := by
  intro r c
  pointwise [k0_pay66]
  simp only [h154, hd, reals]
  rw [Layer.inv_count 2 _ wdw_eight]
  simp only [reals, mul_one_div]
  rfl

include h154 in
theorem p73 {v242 : FVec Ideal S256x128 .f32} (hd : ∀ r c, v242 (ix2 r c) = ((I.dpool 3 (n + r.val) c.val : ℝ) : EReal)) :
    ∀ r c, k0_pay73 v154 v242 (ix2 r c) = ((I.q 3 c.val (n + r.val) : ℝ) : EReal) := by
  intro r c
  pointwise [k0_pay73]
  simp only [h154, hd, reals]
  rw [Layer.inv_count 3 _ wdw_sixteen]
  simp only [reals, mul_one_div]
  rfl

/-- A tile's rows and the sixteen rows after them. -/
def stack (x : FVec Ideal S256x128 .f32) (y : FVec Ideal S16x128 .f32) : FVec Ideal S272x128 .f32 :=
  concatenate S272x128 0 [⟨S256x128, x⟩, ⟨S16x128, y⟩] concatenates_S256x128_S16x128_S272x128_d0

/-- The first 256 rows, `z` taken from them. -/
def back (y : FVec Ideal S272x128 .f32) (z : FVec Ideal S256x128 .f32) : FVec Ideal S256x128 .f32 :=
  subf (extractStridedSlice S256x128 ![0, 0] y slices_S272x128_o0_0_S256x128) z

/-- The pool's gradient at the rows from the tile's first on. -/
def seq (I : Layer.Args) (n g : ℕ) (c j : ℕ) : ℝ := soon (I.q g c) 0 (n + j)

variable {g : ℕ} {x : FVec Ideal S256x128 .f32} (hq : ∀ r c, x (ix2 r c) = ((I.q g c.val (n + r.val) : ℝ) : EReal))
  {y : FVec Ideal S16x128 .f32} (hy : ∀ r c, y (ix2 r c) = ((soon (I.q g c.val) 0 (n + (256 + r.val)) : ℝ) : EReal))

include hT hn hq hy in
theorem stack_rows : ∀ r c, r.val + 1 ≤ 272 → stack x y (ix2 r c)
    = ((∑ i ∈ Finset.range 1, seq I n g c.val (r.val + i) : ℝ) : EReal) := by
  intro r c _
  pointwise [stack]
  rw [Finset.sum_range_one]
  by_cases h : r.val < 256
  · rw [dif_pos h, hq]
    refine congrArg Real.toEReal ?_
    show I.q g c.val (n + r.val) = soon (I.q g c.val) 0 (n + (r.val + 0))
    rw [soon, if_pos (by omega)]; rfl
  · rw [dif_neg h, hy]
    refine congrArg (fun k => ((soon (I.q g c.val) 0 k : ℝ) : EReal)) ?_
    show n + (256 + (r.val - 256)) = n + (r.val + 0)
    omega

theorem back_rows {K : ℕ} (hK : wdw g = K) (hK' : K ≤ 16) {w : FVec Ideal S272x128 .f32}
    (hw : ∀ r c, r.val + K ≤ 272 → w (ix2 r c) = ((∑ i ∈ Finset.range K, seq I n g c.val (r.val + i) : ℝ) : EReal))
    {z : FVec Ideal S256x128 .f32} (hz : ∀ r c, z (ix2 r c) = ((I.dpool g (n + r.val) c.val : ℝ) : EReal)) :
    ∀ r c, back w z (ix2 r c) = ((I.dup g (n + r.val) c.val : ℝ) : EReal) := by
  intro r c
  pointwise [back]
  rw [hz, hw _ _ (by show r.val + K ≤ 272; omega), Layer.sub_real]
  refine congrArg Real.toEReal ?_
  unfold Layer.Args.dup
  rw [hK]
  refine congrArg (· - _) (Finset.sum_congr rfl fun i _ => ?_)
  show soon (I.q g c.val) 0 (n + (r.val + i)) = _
  unfold soon
  rw [Nat.add_zero, Nat.add_assoc]

include hT hn in
theorem p55 {v134 : FVec Ideal S256x512 .bf16} (h134 : ∀ r c, v134 (ix2 r c) = ((I.dmixed (n + r.val) c.val : ℝ) : EReal))
    {w : Vec Ideal S1x1x128x128 .bf16} (hw : ∀ a b, w (ix4 0 0 a b) = ((I.wp 3 0 a.val b.val : ℝ) : EReal))
    {y : FVec Ideal S16x128 .f32} (hy : ∀ r c, y (ix2 r c) = ((soon (I.q 0 c.val) 0 (n + (256 + r.val)) : ℝ) : EReal)) :
    ∀ r c, k0_pay55 (BitVec.ofNat 32 T) v134 w y (ix2 r c) = ((I.dup 0 (n + r.val) c.val : ℝ) : EReal) := by
  have e : k0_pay55 (BitVec.ofNat 32 T) v134 w y = back (turn 271#32 (stack (k0_pay53 (BitVec.ofNat 32 T) v134 w) y)) (k0_pay51 v134 w) := rfl
  rw [e]
  have t0 := stack_rows hT hn (p53 hT hn h134 hw) hy
  have t1 := turn_sum (u := seq I n 0) 1 271#32 turn_1 t0
  exact back_rows (K := 2) rfl (by omega) t1 (p51 h134 hw)

include hT hn in
theorem p61 {v154 : FVec Ideal S256x1 .f32} (h154 : ∀ r, v154 (ix2 r 0) = ((((n + r.val : ℕ) : ℝ) + 1 : ℝ) : EReal))
    {v181 : FVec Ideal S256x128 .bf16} (h181 : ∀ r c, v181 (ix2 r c) = ((I.dmixed (n + r.val) (128 * 1 + c.val) : ℝ) : EReal))
    {w : Vec Ideal S1x1x128x128 .bf16} (hw : ∀ a b, w (ix4 0 0 a b) = ((I.wp 3 1 a.val b.val : ℝ) : EReal))
    {y : FVec Ideal S16x128 .f32} (hy : ∀ r c, y (ix2 r c) = ((soon (I.q 1 c.val) 0 (n + (256 + r.val)) : ℝ) : EReal)) :
    ∀ r c, k0_pay61 v154 v181 w y (ix2 r c) = ((I.dup 1 (n + r.val) c.val : ℝ) : EReal) := by
  have e : k0_pay61 v154 v181 w y = back (turn 270#32 (turn 271#32 (stack (k0_pay59 v154 v181 w) y))) (k0_pay57 v181 w) := rfl
  rw [e]
  have t0 := stack_rows hT hn (p59 h154 h181 hw) hy
  have t1 := turn_sum (u := seq I n 1) 1 271#32 turn_1 t0
  have t2 := turn_sum (u := seq I n 1) 2 270#32 turn_2 t1
  exact back_rows (K := 4) rfl (by omega) t2 (p57 h181 hw)

include hT hn in
theorem p68 {v154 : FVec Ideal S256x1 .f32} (h154 : ∀ r, v154 (ix2 r 0) = ((((n + r.val : ℕ) : ℝ) + 1 : ℝ) : EReal))
    {v212 : FVec Ideal S256x128 .f32} (hd : ∀ r c, v212 (ix2 r c) = ((I.dpool 2 (n + r.val) c.val : ℝ) : EReal))
    {y : FVec Ideal S16x128 .f32} (hy : ∀ r c, y (ix2 r c) = ((soon (I.q 2 c.val) 0 (n + (256 + r.val)) : ℝ) : EReal)) :
    ∀ r c, k0_pay68 v154 v212 y (ix2 r c) = ((I.dup 2 (n + r.val) c.val : ℝ) : EReal) := by
  have e : k0_pay68 v154 v212 y = back (turn 268#32 (turn 270#32 (turn 271#32 (stack (k0_pay66 v154 v212) y)))) v212 := rfl
  rw [e]
  have t0 := stack_rows hT hn (p66 h154 hd) hy
  have t1 := turn_sum (u := seq I n 2) 1 271#32 turn_1 t0
  have t2 := turn_sum (u := seq I n 2) 2 270#32 turn_2 t1
  have t3 := turn_sum (u := seq I n 2) 4 268#32 turn_4 t2
  exact back_rows (K := 8) rfl (by omega) t3 hd

/-- The last group's rows. -/
def last (v154 : FVec Ideal S256x1 .f32) (v242 : FVec Ideal S256x128 .f32) (y : FVec Ideal S16x128 .f32) : FVec Ideal S256x128 .f32 :=
  back (turn 264#32 (turn 268#32 (turn 270#32 (turn 271#32 (stack (k0_pay73 v154 v242) y))))) v242

include hT hn in
theorem last_rows {v154 : FVec Ideal S256x1 .f32} (h154 : ∀ r, v154 (ix2 r 0) = ((((n + r.val : ℕ) : ℝ) + 1 : ℝ) : EReal))
    {v242 : FVec Ideal S256x128 .f32} (hd : ∀ r c, v242 (ix2 r c) = ((I.dpool 3 (n + r.val) c.val : ℝ) : EReal))
    {y : FVec Ideal S16x128 .f32} (hy : ∀ r c, y (ix2 r c) = ((soon (I.q 3 c.val) 0 (n + (256 + r.val)) : ℝ) : EReal)) :
    ∀ r c, last v154 v242 y (ix2 r c) = ((I.dup 3 (n + r.val) c.val : ℝ) : EReal) := by
  have e : last v154 v242 y = back (turn 264#32 (turn 268#32 (turn 270#32 (turn 271#32 (stack (k0_pay73 v154 v242) y))))) v242 := rfl
  rw [e]
  have t0 := stack_rows hT hn (p73 h154 hd) hy
  have t1 := turn_sum (u := seq I n 3) 1 271#32 turn_1 t0
  have t2 := turn_sum (u := seq I n 3) 2 270#32 turn_2 t1
  have t3 := turn_sum (u := seq I n 3) 4 268#32 turn_4 t2
  have t4 := turn_sum (u := seq I n 3) 8 264#32 turn_8 t3
  exact back_rows (K := 16) rfl (by omega) t4 hd

/-- The first rows of the four groups, side by side. -/
theorem p74 {v154 : FVec Ideal S256x1 .f32} (h154 : ∀ r, v154 (ix2 r 0) = ((((n + r.val : ℕ) : ℝ) + 1 : ℝ) : EReal))
    {v174 v200 v228 : FVec Ideal S16x128 .f32} {v242 : FVec Ideal S256x128 .f32}
    (h0 : ∀ r c, v174 (ix2 r c) = ((I.q 0 c.val (n + r.val) : ℝ) : EReal))
    (h1 : ∀ r c, v200 (ix2 r c) = ((I.q 1 c.val (n + r.val) : ℝ) : EReal))
    (h2 : ∀ r c, v228 (ix2 r c) = ((I.q 2 c.val (n + r.val) : ℝ) : EReal))
    (hd : ∀ r c, v242 (ix2 r c) = ((I.dpool 3 (n + r.val) c.val : ℝ) : EReal)) :
    ∀ r c, k0_pay74 v154 v174 v200 v228 v242 (ix2 r c) = ((I.q (c.val / 128) (c.val % 128) (n + r.val) : ℝ) : EReal) := by
  intro r c
  pointwise [k0_pay74]
  by_cases a1 : c.val < 128
  · rw [dif_pos a1, h0, Nat.div_eq_of_lt a1, Nat.mod_eq_of_lt a1]
  rw [dif_neg a1]
  by_cases a2 : c.val - 128 < 128
  · rw [dif_pos a2, h1, show c.val / 128 = 1 by omega, show c.val % 128 = c.val - 128 by omega]
  rw [dif_neg a2]
  by_cases a3 : c.val - 128 - 128 < 128
  · rw [dif_pos a3, h2, show c.val / 128 = 2 by omega, show c.val % 128 = c.val - 128 - 128 by omega]
  rw [dif_neg a3, p73 h154 hd, show c.val / 128 = 3 by omega, show c.val % 128 = c.val - 128 - 128 - 128 by omega]

/-- The nine parts of the projection's gradient, side by side. -/
def join (v128 v63 v129 v67 : FVec Ideal S256x512 .f32) (v180 v208 v238 v270 : FVec Ideal S256x128 .f32) (v138 : FVec Ideal S256x512 .f32) :
    FVec Ideal S256x3072 .bf16 :=
  truncf .bf16 (concatenate S256x3072 1 [⟨S256x512, v128⟩, ⟨S256x512, v63⟩, ⟨S256x512, v129⟩, ⟨S256x512, v67⟩, ⟨S256x128, v180⟩, ⟨S256x128, v208⟩, ⟨S256x128, v238⟩, ⟨S256x128, v270⟩, ⟨S256x512, v138⟩] concatenates_S256x512_S256x512_S256x512_S256x512_S256x128_S256x128_S256x128_S256x128_S256x512_S256x3072_d1) bitsLt_bf16_f32

theorem join_rows {v128 v63 v129 v67 : FVec Ideal S256x512 .f32} {v180 v208 v238 v270 : FVec Ideal S256x128 .f32} {v138 : FVec Ideal S256x512 .f32}
    (h128 : ∀ r c, v128 (ix2 r c) = ((I.dz (n + r.val) c.val * I.proj (n + r.val) (1024 + c.val) : ℝ) : EReal))
    (h63 : ∀ r c, v63 (ix2 r c) = ((I.db (n + r.val) c.val : ℝ) : EReal))
    (h129 : ∀ r c, v129 (ix2 r c) = ((I.dz (n + r.val) c.val * I.proj (n + r.val) c.val : ℝ) : EReal))
    (h67 : ∀ r c, v67 (ix2 r c) = ((I.dga (n + r.val) c.val : ℝ) : EReal))
    (h180 : ∀ r c, v180 (ix2 r c) = ((I.dup 0 (n + r.val) c.val : ℝ) : EReal))
    (h208 : ∀ r c, v208 (ix2 r c) = ((I.dup 1 (n + r.val) c.val : ℝ) : EReal))
    (h238 : ∀ r c, v238 (ix2 r c) = ((I.dup 2 (n + r.val) c.val : ℝ) : EReal))
    (h270 : ∀ r c, v270 (ix2 r c) = ((I.dup 3 (n + r.val) c.val : ℝ) : EReal))
    (h138 : ∀ r c, v138 (ix2 r c) = ((I.dgp (n + r.val) c.val : ℝ) : EReal)) :
    ∀ r c, join v128 v63 v129 v67 v180 v208 v238 v270 v138 (ix2 r c) = ((I.dproj (n + r.val) c.val : ℝ) : EReal) := by
  intro r c
  pointwise [join]
  simp only [h128, h63, h129, h67, h180, h208, h238, h270, h138]
  unfold Layer.Args.dproj
  by_cases a0 : c.val < 512
  · rw [dif_pos a0, if_pos (by omega)]
  rw [dif_neg a0]
  by_cases a1 : c.val - 512 < 512
  · rw [dif_pos a1, if_neg (by omega), if_pos (by omega), show c.val - 512 = c.val - 512 by omega]
  rw [dif_neg a1]
  by_cases a2 : c.val - 512 - 512 < 512
  · rw [dif_pos a2, if_neg (by omega), if_neg (by omega), if_pos (by omega), show c.val - 1024 = c.val - 512 - 512 by omega]
  rw [dif_neg a2]
  by_cases a3 : c.val - 512 - 512 - 512 < 512
  · rw [dif_pos a3, if_neg (by omega), if_neg (by omega), if_neg (by omega), if_pos (by omega), show c.val - 1536 = c.val - 512 - 512 - 512 by omega]
  rw [dif_neg a3]
  by_cases a4 : c.val - 512 - 512 - 512 - 512 < 128
  · rw [dif_pos a4, if_neg (by omega), if_neg (by omega), if_neg (by omega), if_neg (by omega), if_pos (by omega), show (c.val - 2048) / 128 = 0 by omega, show (c.val - 2048) % 128 = c.val - 512 - 512 - 512 - 512 by omega]
  rw [dif_neg a4]
  by_cases a5 : c.val - 512 - 512 - 512 - 512 - 128 < 128
  · rw [dif_pos a5, if_neg (by omega), if_neg (by omega), if_neg (by omega), if_neg (by omega), if_pos (by omega), show (c.val - 2048) / 128 = 1 by omega, show (c.val - 2048) % 128 = c.val - 512 - 512 - 512 - 512 - 128 by omega]
  rw [dif_neg a5]
  by_cases a6 : c.val - 512 - 512 - 512 - 512 - 128 - 128 < 128
  · rw [dif_pos a6, if_neg (by omega), if_neg (by omega), if_neg (by omega), if_neg (by omega), if_pos (by omega), show (c.val - 2048) / 128 = 2 by omega, show (c.val - 2048) % 128 = c.val - 512 - 512 - 512 - 512 - 128 - 128 by omega]
  rw [dif_neg a6]
  by_cases a7 : c.val - 512 - 512 - 512 - 512 - 128 - 128 - 128 < 128
  · rw [dif_pos a7, if_neg (by omega), if_neg (by omega), if_neg (by omega), if_neg (by omega), if_pos (by omega), show (c.val - 2048) / 128 = 3 by omega, show (c.val - 2048) % 128 = c.val - 512 - 512 - 512 - 512 - 128 - 128 - 128 by omega]
  rw [dif_neg a7]
  rw [if_neg (by omega), if_neg (by omega), if_neg (by omega), if_neg (by omega), if_neg (by omega), show c.val - 2560 = c.val - 512 - 512 - 512 - 512 - 128 - 128 - 128 - 128 by omega]

theorem p75 (v63 v67 v128 v129 v138 : FVec Ideal S256x512 .f32) (v154 : FVec Ideal S256x1 .f32)
    (v180 v208 v238 v242 : FVec Ideal S256x128 .f32) (v259 : FVec Ideal S16x128 .f32) :
    k0_pay75 v63 v67 v128 v129 v138 v154 v180 v208 v238 v242 v259 = join v128 v63 v129 v67 v180 v208 v238 (last v154 v242 v259) v138 := rfl

end Cert.KernelIdeal.Tile
-- ==== Proof.Tile2.lean ====
/- The last values of a tile: the input's gradient, the sums over the rows, and the rows of parameters. -/
module

public import proofs.«01_k».proof.Proof.Tile

@[expose] public section

set_option maxRecDepth 16384

noncomputable section

namespace Cert.KernelIdeal.Tile

open Cert.KernelIdeal Cert.KernelIdeal.Gen Idealize.ShloMosaic Idealize.ShloMosaic.TcCoe
open Layer (late soon msq rms sgm cnt wdw eps reals sum_real ite_real dite_real)

variable {I : Layer.Args} {n : ℕ}

theorem p44 {v72 v102 : FVec Ideal S256x512 .f32} (h72 : ∀ r c, v72 (ix2 r c) = ((I.proj (n + r.val) (1024 + c.val) : ℝ) : EReal))
    (h102 : ∀ r c, v102 (ix2 r c) = ((I.dz (n + r.val) c.val : ℝ) : EReal)) :
    ∀ r c, k0_pay44 v72 v102 (ix2 r c) = ((I.dz (n + r.val) c.val * I.proj (n + r.val) (1024 + c.val) : ℝ) : EReal) := by
  intro r c
  pointwise [k0_pay44]
  simp only [h72, h102, reals]

theorem p45 {v71 v102 : FVec Ideal S256x512 .f32} (h71 : ∀ r c, v71 (ix2 r c) = ((I.proj (n + r.val) c.val : ℝ) : EReal))
    (h102 : ∀ r c, v102 (ix2 r c) = ((I.dz (n + r.val) c.val : ℝ) : EReal)) :
    ∀ r c, k0_pay45 v71 v102 (ix2 r c) = ((I.dz (n + r.val) c.val * I.proj (n + r.val) c.val : ℝ) : EReal) := by
  intro r c
  pointwise [k0_pay45]
  simp only [h71, h102, reals]

variable {v278 : Vec Ideal S256x1024 .f32} (h278 : ∀ r c, v278 (ix2 r c) = ((I.x (n + r.val) c.val : ℝ) : EReal))

include h278 in
theorem p76 : ∀ r, k0_pay76 v278 (ix2 r 0) = ((I.rx (n + r.val) : ℝ) : EReal) := by
  intro r
  pointwise [k0_pay76]
  simp only [h278, reals, sum_real]
  rw [← Finset.sum_range fun k => I.x (n + r.val) k * I.x (n + r.val) k]
  exact Layer.rms_real _

variable {v286 : FVec Ideal S256x1 .f32} (h286 : ∀ r, v286 (ix2 r 0) = ((I.rx (n + r.val) : ℝ) : EReal))

include h278 h286 in
theorem p77 : ∀ r c, k0_pay77 v278 v286 (ix2 r c) = ((I.xn (n + r.val) c.val : ℝ) : EReal) := by
  intro r c
  pointwise [k0_pay77]
  simp only [h278, h286, reals]
  rfl

theorem p78 {v5 : FVec Ideal S1x1024 .f32} (h5 : ∀ l, v5 (ix2 0 l) = ((I.sc l.val : ℝ) : EReal)) :
    ∀ l, k0_pay78 v5 (ix2 0 l) = ((1 + I.sc l.val : ℝ) : EReal) := by
  intro l
  pointwise [k0_pay78]
  simp only [h5, reals]

variable {v276 : FVec Ideal S256x3072 .bf16} (h276 : ∀ r c, v276 (ix2 r c) = ((I.dproj (n + r.val) c.val : ℝ) : EReal))
  {v291 : Vec Ideal S1024x3072 .bf16} (h291 : ∀ l c, v291 (ix2 l c) = ((I.win l.val c.val : ℝ) : EReal))

include h276 h291 in
theorem p79 : ∀ r l, k0_pay79 v276 v291 (ix2 r l) = ((I.dh (n + r.val) l.val : ℝ) : EReal) := by
  intro r l
  pointwise [k0_pay79]
  simp only [h276, h291, reals, sum_real, Layer.Args.dh, Finset.sum_range]

variable {a : ℕ → ℝ} {row : Vec Ideal S1x1024 .f32} (hrow : ∀ l, row (ix2 0 l) = ((a l.val : ℝ) : EReal))

include h276 h291 hrow in
theorem p80 : ∀ l, k0_pay80 v276 v291 row (ix2 0 l) = ((a l.val + ∑ k ∈ Finset.range 256, I.dh (n + k) l.val : ℝ) : EReal) := by
  intro l
  pointwise [k0_pay80]
  simp only [hrow, p79 h276 h291, reals, sum_real, Finset.sum_range]

include h278 h286 h276 h291 hrow in
theorem p81 : ∀ l, k0_pay81 v276 v278 v286 v291 row (ix2 0 l)
    = ((a l.val + ∑ k ∈ Finset.range 256, I.dh (n + k) l.val * I.xn (n + k) l.val : ℝ) : EReal) := by
  intro l
  pointwise [k0_pay81]
  simp only [hrow, p79 h276 h291, p77 h278 h286, reals, sum_real, Finset.sum_range]

include h278 h286 h276 h291 in
theorem p82 {v5 v9 : FVec Ideal S1x1024 .f32} (h5 : ∀ l, v5 (ix2 0 l) = ((I.sc l.val : ℝ) : EReal))
    (h9 : ∀ l, v9 (ix2 0 l) = ((I.gpre 3 l.val : ℝ) : EReal))
    {v18 : Vec Ideal S256x1024 .f32} (h18 : ∀ r c, v18 (ix2 r c) = ((I.dxo (n + r.val) c.val : ℝ) : EReal)) :
    ∀ r c, k0_pay82 v5 v9 v18 v276 v278 v286 v291 (ix2 r c) = ((I.dx (n + r.val) c.val : ℝ) : EReal) := by
  intro r c
  pointwise [k0_pay82]
  simp only [h18, h9, p78 h5, p79 h276 h291, p77 h278 h286, h286, reals, sum_real]
  simp only [Layer.Args.dx, Layer.Args.dxn, Finset.sum_range]

/-! The last point's products. -/

theorem p1 {v : Vec Ideal S4x128x128 .f32} {f : ℕ → ℕ → ℕ → ℝ} (h : ∀ g k l, v (ix3 g k l) = ((f g.val k.val l.val : ℝ) : EReal)) :
    ∀ g k l, k0_pay1 v (ix3 g k l) = ((f g.val k.val l.val : ℝ) : EReal) := by
  intro g k l
  pointwise [k0_pay1]
  simp only [h]

section
variable {b : ℕ → ℝ} {v : FVec Ideal S1x1024 .f32} (hv : ∀ l, v (ix2 0 l) = ((b l.val : ℝ) : EReal))

include hrow hv in
theorem p4 : ∀ l, k0_pay4 v row (ix2 0 l) = ((a l.val * b l.val : ℝ) : EReal) := by
  intro l
  pointwise [k0_pay4, k0_pay2]
  simp only [hrow, hv, reals]

include hrow hv in
theorem p5 : ∀ l, k0_pay5 v row (ix2 0 l) = ((a l.val * b l.val : ℝ) : EReal) := by
  intro l
  pointwise [k0_pay5, k0_pay2]
  simp only [hrow, hv, reals]

include hrow hv in
theorem p6 : ∀ l, k0_pay6 v row (ix2 0 l) = ((a l.val * b l.val : ℝ) : EReal) := by
  intro l
  pointwise [k0_pay6, k0_pay3]
  simp only [hrow, hv, reals]

include hrow hv in
theorem p7 : ∀ l, k0_pay7 v row (ix2 0 l) = ((a l.val * b l.val : ℝ) : EReal) := by
  intro l
  pointwise [k0_pay7, k0_pay3]
  simp only [hrow, hv, reals]
end

/-! The rows of the parameters. -/

section
variable {v : Vec Ideal S1x1x1024 .f32} (hv : ∀ l, v (ix3 0 0 l) = ((a l.val : ℝ) : EReal))

include hv in
theorem p13 : ∀ l, k0_pay13 v (ix2 0 l) = ((a l.val : ℝ) : EReal) := by
  intro l; pointwise [k0_pay13]; simp only [hv]
include hv in
theorem p14 : ∀ l, k0_pay14 v (ix2 0 l) = ((a l.val : ℝ) : EReal) := by
  intro l; pointwise [k0_pay14]; simp only [hv]
include hv in
theorem p15 : ∀ l, k0_pay15 v (ix2 0 l) = ((a l.val : ℝ) : EReal) := by
  intro l; pointwise [k0_pay15]; simp only [hv]
include hv in
theorem p16 : ∀ l, k0_pay16 v (ix2 0 l) = ((a l.val : ℝ) : EReal) := by
  intro l; pointwise [k0_pay16]; simp only [hv]
end

section
variable {v : Vec Ideal S1x1x512 .f32} (hv : ∀ l, v (ix3 0 0 l) = ((a l.val : ℝ) : EReal))

include hv in
theorem p17 : ∀ l, k0_pay17 v (ix2 0 l) = ((a l.val : ℝ) : EReal) := by
  intro l; pointwise [k0_pay17]; simp only [hv]
include hv in
theorem p18 : ∀ l, k0_pay18 v (ix2 0 l) = ((a l.val : ℝ) : EReal) := by
  intro l; pointwise [k0_pay18]; simp only [hv]
include hv in
theorem p19 : ∀ l, k0_pay19 v (ix2 0 l) = ((a l.val : ℝ) : EReal) := by
  intro l; pointwise [k0_pay19]; simp only [hv]
end

end Cert.KernelIdeal.Tile
-- ==== Proof.Blocks.lean ====
/- What each window of the call holds at each grid point: rows of the host's arrays. -/
module

public import proofs.«01_k».proof.Proof.Host
public import proofs.«01_k».proof.Proof.Gen.KernelIdeal.Frame

@[expose] public section

set_option maxRecDepth 16384

noncomputable section

namespace Cert.KernelIdeal.Host

open Idealize.ShloMosaic Idealize.ShloMosaic.TcCoe Idealize.ShloMosaic.StableHlo Cert.KernelIdeal Cert.KernelIdeal.Gen
open Layer (sgm reals sum_real ite_real dite_real)

section
variable {V0 : Valuation τ sig (Elt Ideal)} {I : Layer.Args} (H : Reads V0 I)
include H

/-- The last layer's rows of the modulation and the gains, in the four layers' array. -/
theorem v10 : ∀ r l, after line V0 (Proc.devRef .tc main_v10) (ix3 3 r l) = ((vecRow I r.val l.val : ℝ) : EReal) := by
  intro r l
  have A := H; unfold Reads at A
  rw [piece V0 0 13 (by decide +kernel), upto_zero]
  repeat after_reads_at
  simp only [A, reals, Fin.sum_univ_one, sum_real, ite_real, dite_real]
  refine congrArg Real.toEReal ?_
  unfold vecRow Layer.Args.sh Layer.Args.sc Layer.Args.gate
  split_ifs <;> first | rfl | omega | (congr 1 <;> omega)

theorem v2 : ∀ r l, after line V0 (Proc.devRef .tc main_v2) (ix3 3 r l) = ((cpsRow I r.val l.val : ℝ) : EReal) := by
  intro r l
  have A := H; unfold Reads at A
  rw [piece V0 0 4 (by decide +kernel), upto_zero]
  repeat after_reads_at
  simp only [A, reals, Fin.sum_univ_one, sum_real, ite_real, dite_real]
  refine congrArg Real.toEReal ?_
  unfold cpsRow
  split_ifs <;> first | rfl | omega | (congr 1 <;> omega)

theorem v3 : ∀ a r l, after line V0 (Proc.devRef .tc main_v3) (ix4 3 a r l) = ((I.wp 3 a.val r.val l.val : ℝ) : EReal) := by
  intro a r l
  have A := H; unfold Reads at A
  rw [piece V0 0 5 (by decide +kernel), upto_zero]
  repeat after_reads_at
  simp only [A, reals, Fin.sum_univ_one, sum_real, ite_real, dite_real]
  rfl
end

variable (m : (ℓ : Loc nD τ sig) → Buf (Elt Ideal) ℓ) (c : Dev nD) {I : Layer.Args} (H : Reads (fun b => m (c, b)) I) (t : Fin cfg0.N)

/-- The first token of the point's tile. -/
def tok (t : ℕ) : ℕ := 256 * (7 - t)

/-- The tiles' block numbers: the last tile first. -/
theorem at0 : ∀ t : Fin grid0.N, (win0_0.index t 0 = 7 - t.val) ∧ (win0_1.index t 0 = 7 - t.val) ∧ (win0_2.index t 0 = 7 - t.val)
    ∧ (win0_3.index t 0 = 7 - t.val) ∧ (win0_5.index t 0 = 7 - t.val) ∧ (win0_6.index t 0 = 7 - t.val)
    ∧ (win0_4.index t 0 = 16 * (7 - t.val) - 1) := by decide +kernel

include H
theorem in0 : ∀ r l, (iblk m c 0 t : Vec Ideal S256x1024 .f32) (ix2 r l) = (((I.dxo (tok t.val + r.val) l.val) : ℝ) : EReal) := by
  intro r l
  have ht : t.val < 8 := t.isLt
  refine Eq.trans ?_ (arg9 H ⟨tok t.val + r.val, by have := r.isLt; unfold tok; omega⟩ l)
  unfold iblk
  rw [View.read_apply]
  show V m c main_arg9 _ = V m c main_arg9 _
  congr 1
  funext a
  apply Fin.ext
  match a with
  | ⟨0, _⟩ => show win0_0.index t 0 * 256 + 1 * r.val = tok t.val + r.val; rw [(at0 t).1]; unfold tok; omega
  | ⟨1, _⟩ => show 0 * 1024 + 1 * l.val = l.val; omega

theorem in1 : ∀ r l, (iblk m c 1 t : Vec Ideal S256x1024 .bf16) (ix2 r l) = (((I.y (tok t.val + r.val) l.val) : ℝ) : EReal) := by
  intro r l
  have ht : t.val < 8 := t.isLt
  refine Eq.trans ?_ (v207 H ⟨tok t.val + r.val, by have := r.isLt; unfold tok; omega⟩ l)
  unfold iblk
  rw [View.read_apply]
  show V m c main_v207 _ = V m c main_v207 _
  congr 1
  funext a
  apply Fin.ext
  match a with
  | ⟨0, _⟩ => show win0_1.index t 0 * 256 + 1 * r.val = tok t.val + r.val; rw [(at0 t).2.1]; unfold tok; omega
  | ⟨1, _⟩ => show 0 * 1024 + 1 * l.val = l.val; omega

theorem in2 : ∀ r l, (iblk m c 2 t : Vec Ideal S256x1024 .f32) (ix2 r l) = (((I.x (tok t.val + r.val) l.val) : ℝ) : EReal) := by
  intro r l
  have ht : t.val < 8 := t.isLt
  refine Eq.trans ?_ (arg0 H ⟨tok t.val + r.val, by have := r.isLt; unfold tok; omega⟩ l)
  unfold iblk
  rw [View.read_apply]
  show V m c main_arg0 _ = V m c main_arg0 _
  congr 1
  funext a
  apply Fin.ext
  match a with
  | ⟨0, _⟩ => show win0_2.index t 0 * 256 + 1 * r.val = tok t.val + r.val; rw [(at0 t).2.2.1]; unfold tok; omega
  | ⟨1, _⟩ => show 0 * 1024 + 1 * l.val = l.val; omega

theorem in3 : ∀ r l, (iblk m c 3 t : Vec Ideal S256x1024 .bf16) (ix2 r l) = (((if l.val < 512 then I.proj (tok t.val + r.val) l.val else I.proj (tok t.val + r.val) (512 + l.val)) : ℝ) : EReal) := by
  intro r l
  have ht : t.val < 8 := t.isLt
  refine Eq.trans ?_ (v51 H ⟨tok t.val + r.val, by have := r.isLt; unfold tok; omega⟩ l)
  unfold iblk
  rw [View.read_apply]
  show V m c main_v51 _ = V m c main_v51 _
  congr 1
  funext a
  apply Fin.ext
  match a with
  | ⟨0, _⟩ => show win0_3.index t 0 * 256 + 1 * r.val = tok t.val + r.val; rw [(at0 t).2.2.2.1]; unfold tok; omega
  | ⟨1, _⟩ => show 0 * 1024 + 1 * l.val = l.val; omega

/-- The sixteen rows before the tile, where it is not the first. -/
theorem in4 (h : t.val < 7) : ∀ r l, (iblk m c 4 t : Vec Ideal S16x1024 .bf16) (ix2 r l)
    = (((if l.val < 512 then I.proj (tok t.val - 16 + r.val) l.val else I.proj (tok t.val - 16 + r.val) (512 + l.val)) : ℝ) : EReal) := by
  intro r l
  refine Eq.trans ?_ (v51 H ⟨tok t.val - 16 + r.val, by have := r.isLt; unfold tok; omega⟩ l)
  unfold iblk
  rw [View.read_apply]
  show V m c main_v51 _ = V m c main_v51 _
  congr 1
  funext a
  apply Fin.ext
  match a with
  | ⟨0, _⟩ => show win0_4.index t 0 * 16 + 1 * r.val = tok t.val - 16 + r.val; rw [(at0 t).2.2.2.2.2.2]; unfold tok; omega
  | ⟨1, _⟩ => show 0 * 1024 + 1 * l.val = l.val; omega

theorem in5 : ∀ r l, (iblk m c 5 t : Vec Ideal S256x1536 .bf16) (ix2 r l) = (((faRow I (tok t.val + r.val) l.val) : ℝ) : EReal) := by
  intro r l
  have ht : t.val < 8 := t.isLt
  refine Eq.trans ?_ (v84 H ⟨tok t.val + r.val, by have := r.isLt; unfold tok; omega⟩ l)
  unfold iblk
  rw [View.read_apply]
  show V m c main_v84 _ = V m c main_v84 _
  congr 1
  funext a
  apply Fin.ext
  match a with
  | ⟨0, _⟩ => show win0_5.index t 0 * 256 + 1 * r.val = tok t.val + r.val; rw [(at0 t).2.2.2.2.1]; unfold tok; omega
  | ⟨1, _⟩ => show 0 * 1536 + 1 * l.val = l.val; omega

theorem in6 : ∀ r l, (iblk m c 6 t : Vec Ideal S256x2048 .bf16) (ix2 r l) = (((fpRow I (tok t.val + r.val) l.val) : ℝ) : EReal) := by
  intro r l
  have ht : t.val < 8 := t.isLt
  refine Eq.trans ?_ (v203 H ⟨tok t.val + r.val, by have := r.isLt; unfold tok; omega⟩ l)
  unfold iblk
  rw [View.read_apply]
  show V m c main_v203 _ = V m c main_v203 _
  congr 1
  funext a
  apply Fin.ext
  match a with
  | ⟨0, _⟩ => show win0_6.index t 0 * 256 + 1 * r.val = tok t.val + r.val; rw [(at0 t).2.2.2.2.2.1]; unfold tok; omega
  | ⟨1, _⟩ => show 0 * 2048 + 1 * l.val = l.val; omega

theorem in7 : ∀ r l, (iblk m c 7 t : Vec Ideal S1x8x1024 .f32) (ix3 0 r l) = (((vecRow I r.val l.val) : ℝ) : EReal) := by
  intro r l
  refine Eq.trans ?_ (v10 H r l)
  unfold iblk
  rw [View.read_apply]
  show V m c main_v10 _ = V m c main_v10 _
  congr 1
  funext a
  apply Fin.ext
  match a with
  | ⟨0, _⟩ => rfl
  | ⟨1, _⟩ => show 0 * 8 + 1 * r.val = r.val; omega
  | ⟨2, _⟩ => show 0 * 1024 + 1 * l.val = l.val; omega

theorem in8 : ∀ r l, (iblk m c 8 t : Vec Ideal S1x8x512 .f32) (ix3 0 r l) = (((cpsRow I r.val l.val) : ℝ) : EReal) := by
  intro r l
  refine Eq.trans ?_ (v2 H r l)
  unfold iblk
  rw [View.read_apply]
  show V m c main_v2 _ = V m c main_v2 _
  congr 1
  funext a
  apply Fin.ext
  match a with
  | ⟨0, _⟩ => rfl
  | ⟨1, _⟩ => show 0 * 8 + 1 * r.val = r.val; omega
  | ⟨2, _⟩ => show 0 * 512 + 1 * l.val = l.val; omega

theorem in9 : ∀ g r l, (iblk m c 9 t : Vec Ideal S1x4x128x128 .bf16) (ix4 0 g r l) = (((I.wp 3 g.val r.val l.val) : ℝ) : EReal) := by
  intro g r l
  refine Eq.trans ?_ (v3 H g r l)
  unfold iblk
  rw [View.read_apply]
  show V m c main_v3 _ = V m c main_v3 _
  congr 1
  funext a
  apply Fin.ext
  match a with
  | ⟨0, _⟩ => rfl
  | ⟨1, _⟩ => show 0 * 4 + 1 * g.val = g.val; omega
  | ⟨2, _⟩ => show 0 * 128 + 1 * r.val = r.val; omega
  | ⟨3, _⟩ => show 0 * 128 + 1 * l.val = l.val; omega

theorem in10 : ∀ r l, (iblk m c 10 t : Vec Ideal S1024x1024 .bf16) (ix2 r l) = (((I.wout r.val l.val) : ℝ) : EReal) := by
  intro r l
  refine Eq.trans ?_ (v5 H r l)
  unfold iblk
  rw [View.read_apply]
  show V m c main_v5 _ = V m c main_v5 _
  congr 1
  funext a
  apply Fin.ext
  match a with
  | ⟨0, _⟩ => show 0 * 1024 + 1 * r.val = r.val; omega
  | ⟨1, _⟩ => show 0 * 1024 + 1 * l.val = l.val; omega

theorem in11 : ∀ r l, (iblk m c 11 t : Vec Ideal S1024x3072 .bf16) (ix2 r l) = (((I.win r.val l.val) : ℝ) : EReal) := by
  intro r l
  refine Eq.trans ?_ (v4 H r l)
  unfold iblk
  rw [View.read_apply]
  show V m c main_v4 _ = V m c main_v4 _
  congr 1
  funext a
  apply Fin.ext
  match a with
  | ⟨0, _⟩ => show 0 * 1024 + 1 * r.val = r.val; omega
  | ⟨1, _⟩ => show 0 * 3072 + 1 * l.val = l.val; omega

end Cert.KernelIdeal.Host
-- ==== Proof.Point.lean ====
/- What one grid point computes from its blocks and the rows carried to it. -/
module

public import Idealize.ShloMosaic.Lib.VecWindow
public import proofs.«01_k».proof.Proof.Tile2
public import proofs.«01_k».proof.Proof.Blocks

@[expose] public section

set_option maxRecDepth 16384

noncomputable section

namespace Cert.KernelIdeal.Point

open Cert.KernelIdeal Cert.KernelIdeal.Gen Cert.KernelIdeal.Host Cert.KernelIdeal.Tile Idealize.ShloMosaic Idealize.ShloMosaic.TcCoe
open Layer (late soon msq rms sgm cnt wdw eps reals sum_real ite_real dite_real)

/-! ## Reading and writing boxes -/

theorem ld2 {e : EltTy} {A B p q : ℕ} (X : Vec Ideal ⟨2, ![A, B]⟩ e) (a b : ℕ) (inb : ∀ i, (![a, b] : Fin 2 → ℕ) i + (![p, q] : Fin 2 → ℕ) i ≤ (![A, B] : Fin 2 → ℕ) i)
    (r : Fin p) (l : Fin q) :
    View.ld X (Rect.unit (s := ⟨2, ![A, B]⟩) ![a, b] ![p, q] inb) (ix2 r l)
      = X (ix2 ⟨a + r.val, lt_of_lt_of_le (Nat.add_lt_add_left r.isLt a) (inb 0)⟩ ⟨b + l.val, lt_of_lt_of_le (Nat.add_lt_add_left l.isLt b) (inb 1)⟩) := by
  refine congrArg X (funext fun i => Fin.ext ?_)
  fin_cases i
  · exact congrArg (a + ·) (Nat.one_mul r.val)
  · exact congrArg (b + ·) (Nat.one_mul l.val)

theorem ld3 {e : EltTy} {A B C p q s : ℕ} (X : Vec Ideal ⟨3, ![A, B, C]⟩ e) (a b c : ℕ)
    (inb : ∀ i, (![a, b, c] : Fin 3 → ℕ) i + (![p, q, s] : Fin 3 → ℕ) i ≤ (![A, B, C] : Fin 3 → ℕ) i)
    (r : Fin p) (l : Fin q) (k : Fin s) :
    View.ld X (Rect.unit (s := ⟨3, ![A, B, C]⟩) ![a, b, c] ![p, q, s] inb) (ix3 r l k)
      = X (ix3 ⟨a + r.val, lt_of_lt_of_le (Nat.add_lt_add_left r.isLt a) (inb 0)⟩ ⟨b + l.val, lt_of_lt_of_le (Nat.add_lt_add_left l.isLt b) (inb 1)⟩
        ⟨c + k.val, lt_of_lt_of_le (Nat.add_lt_add_left k.isLt c) (inb 2)⟩) := by
  refine congrArg X (funext fun i => Fin.ext ?_)
  fin_cases i
  · exact congrArg (a + ·) (Nat.one_mul r.val)
  · exact congrArg (b + ·) (Nat.one_mul l.val)
  · exact congrArg (c + ·) (Nat.one_mul k.val)

theorem ld4 {e : EltTy} {A B C D p q s u : ℕ} (X : Vec Ideal ⟨4, ![A, B, C, D]⟩ e) (a b c d : ℕ)
    (inb : ∀ i, (![a, b, c, d] : Fin 4 → ℕ) i + (![p, q, s, u] : Fin 4 → ℕ) i ≤ (![A, B, C, D] : Fin 4 → ℕ) i)
    (r : Fin p) (l : Fin q) (k : Fin s) (j : Fin u) :
    View.ld X (Rect.unit (s := ⟨4, ![A, B, C, D]⟩) ![a, b, c, d] ![p, q, s, u] inb) (ix4 r l k j)
      = X (ix4 ⟨a + r.val, lt_of_lt_of_le (Nat.add_lt_add_left r.isLt a) (inb 0)⟩ ⟨b + l.val, lt_of_lt_of_le (Nat.add_lt_add_left l.isLt b) (inb 1)⟩
        ⟨c + k.val, lt_of_lt_of_le (Nat.add_lt_add_left k.isLt c) (inb 2)⟩ ⟨d + j.val, lt_of_lt_of_le (Nat.add_lt_add_left j.isLt d) (inb 3)⟩) := by
  refine congrArg X (funext fun i => Fin.ext ?_)
  fin_cases i
  · exact congrArg (a + ·) (Nat.one_mul r.val)
  · exact congrArg (b + ·) (Nat.one_mul l.val)
  · exact congrArg (c + ·) (Nat.one_mul k.val)
  · exact congrArg (d + ·) (Nat.one_mul j.val)

/-- A row put into a matrix: that row, and the others as before. -/
theorem put2 {e : EltTy} {A p : ℕ} (X : Vec Ideal ⟨2, ![A, p]⟩ e) (k : ℕ) (w : Vec Ideal ⟨2, ![1, p]⟩ e) (r : Fin A) (l : Fin p) :
    VecWindow.put (s := ⟨2, ![A, p]⟩) X ![k, 0] ![1, p] w (ix2 r l) = if r.val = k then w (ix2 0 l) else X (ix2 r l) := by
  unfold VecWindow.put
  by_cases h : r.val = k
  · rw [if_pos h, dif_pos (by
      intro i; fin_cases i
      · exact ⟨h.ge, by show r.val < k + 1; omega⟩
      · exact ⟨Nat.zero_le _, by show l.val < 0 + p; omega⟩)]
    refine congrArg w (funext fun i => Fin.ext ?_)
    fin_cases i
    · show r.val - k = 0; omega
    · rfl
  · rw [if_neg h, dif_neg]
    intro H
    have := H 0
    change k ≤ r.val ∧ r.val < k + 1 at this
    omega

/-- A plane put into a stack of planes: that plane, and the others as before. -/
theorem put3 {e : EltTy} {A p q : ℕ} (X : Vec Ideal ⟨3, ![A, p, q]⟩ e) (k : ℕ) (w : Vec Ideal ⟨3, ![1, p, q]⟩ e) (r : Fin A) (l : Fin p) (j : Fin q) :
    VecWindow.put (s := ⟨3, ![A, p, q]⟩) X ![k, 0, 0] ![1, p, q] w (ix3 r l j) = if r.val = k then w (ix3 0 l j) else X (ix3 r l j) := by
  unfold VecWindow.put
  by_cases h : r.val = k
  · rw [if_pos h, dif_pos (by
      intro i; fin_cases i
      · exact ⟨h.ge, by show r.val < k + 1; omega⟩
      · exact ⟨Nat.zero_le _, by show l.val < 0 + p; omega⟩
      · exact ⟨Nat.zero_le _, by show j.val < 0 + q; omega⟩)]
    refine congrArg w (funext fun i => Fin.ext ?_)
    fin_cases i
    · show r.val - k = 0; omega
    · rfl
    · rfl
  · rw [if_neg h, dif_neg]
    intro H
    have := H 0
    change k ≤ r.val ∧ r.val < k + 1 at this
    omega

/-- What a grid point's body is given: its tile's number and its twelve blocks. -/
structure Ins where
  v0 : BitVec 32
  x0 : Vec Ideal S256x1024 .f32
  x1 : Vec Ideal S256x1024 .bf16
  x2 : Vec Ideal S256x1024 .f32
  x3 : Vec Ideal S256x1024 .bf16
  x4 : Vec Ideal S16x1024 .bf16
  x5 : Vec Ideal S256x1536 .bf16
  x6 : Vec Ideal S256x2048 .bf16
  x7 : Vec Ideal S1x8x1024 .f32
  x8 : Vec Ideal S1x8x512 .f32
  x9 : Vec Ideal S1x4x128x128 .bf16
  x10 : Vec Ideal S1024x1024 .bf16
  x11 : Vec Ideal S1024x3072 .bf16

namespace Ins

variable (b : Ins)

def sc : FVec Ideal S1x1024 .f32 := k0_pay13 (View.ld b.x7 (Rect.unit ![0, 1, 0] ![1, 1, 1024] inb_S1x8x1024_S1x1x1024_0_1_0))
def gate : FVec Ideal S1x1024 .f32 := k0_pay14 (View.ld b.x7 (Rect.unit ![0, 2, 0] ![1, 1, 1024] inb_S1x8x1024_S1x1x1024_0_2_0))
def gpre : FVec Ideal S1x1024 .f32 := k0_pay15 (View.ld b.x7 (Rect.unit ![0, 3, 0] ![1, 1, 1024] inb_S1x8x1024_S1x1x1024_0_3_0))
def gpost : FVec Ideal S1x1024 .f32 := k0_pay16 (View.ld b.x7 (Rect.unit ![0, 4, 0] ![1, 1, 1024] inb_S1x8x1024_S1x1x1024_0_4_0))
def tap0 : FVec Ideal S1x512 .f32 := k0_pay17 (View.ld b.x8 (Rect.unit ![0, 0, 0] ![1, 1, 512] inb_S1x8x512_S1x1x512_0_0_0))
def tap1 : FVec Ideal S1x512 .f32 := k0_pay18 (View.ld b.x8 (Rect.unit ![0, 1, 0] ![1, 1, 512] inb_S1x8x512_S1x1x512_0_1_0))
def tap2 : FVec Ideal S1x512 .f32 := k0_pay19 (View.ld b.x8 (Rect.unit ![0, 2, 0] ![1, 1, 512] inb_S1x8x512_S1x1x512_0_2_0))
def dxo : Vec Ideal S256x1024 .f32 := (View.ld b.x0 (Rect.unit ![0, 0] ![256, 1024] inb_S256x1024_S256x1024_0_0))
def yb : Vec Ideal S256x1024 .bf16 := (View.ld b.x1 (Rect.unit ![0, 0] ![256, 1024] inb_S256x1024_S256x1024_0_0))
def y : FVec Ideal S256x1024 .f32 := k0_pay20 b.yb
def ms : FVec Ideal S256x1 .f32 := k0_pay21 b.yb
def wout : Vec Ideal S1024x1024 .bf16 := (View.ld b.x10 (Rect.unit ![0, 0] ![1024, 1024] inb_S1024x1024_S1024x1024_0_0))
def fa : Vec Ideal S256x1536 .bf16 := (View.ld b.x5 (Rect.unit ![0, 0] ![256, 1536] inb_S256x1536_S256x1536_0_0))
def uc : Vec Ideal S256x1024 .bf16 := (View.ld b.x3 (Rect.unit ![0, 0] ![256, 1024] inb_S256x1024_S256x1024_0_0))
def halo : Vec Ideal S16x1024 .bf16 := (View.ld b.x4 (Rect.unit ![0, 0] ![16, 1024] inb_S16x1024_S16x1024_0_0))
def fp0 : Vec Ideal S256x512 .bf16 := (View.ld b.x6 (Rect.unit ![0, 0] ![256, 512] inb_S256x2048_S256x512_0_0))
def fp1 : Vec Ideal S256x512 .bf16 := (View.ld b.x6 (Rect.unit ![0, 512] ![256, 512] inb_S256x2048_S256x512_0_512))
def fp2 : Vec Ideal S256x512 .bf16 := (View.ld b.x6 (Rect.unit ![0, 1024] ![256, 512] inb_S256x2048_S256x512_0_1024))
def pooled0 : Vec Ideal S256x128 .bf16 := (View.ld b.x6 (Rect.unit ![0, 1536] ![256, 128] inb_S256x2048_S256x128_0_1536))
def pooled1 : Vec Ideal S256x128 .bf16 := (View.ld b.x6 (Rect.unit ![0, 1664] ![256, 128] inb_S256x2048_S256x128_0_1664))
def pooled2 : Vec Ideal S256x128 .bf16 := (View.ld b.x6 (Rect.unit ![0, 1792] ![256, 128] inb_S256x2048_S256x128_0_1792))
def pooled3 : Vec Ideal S256x128 .bf16 := (View.ld b.x6 (Rect.unit ![0, 1920] ![256, 128] inb_S256x2048_S256x128_0_1920))
def wp0 : Vec Ideal S1x1x128x128 .bf16 := (View.ld b.x9 (Rect.unit ![0, 0, 0, 0] ![1, 1, 128, 128] inb_S1x4x128x128_S1x1x128x128_0_0_0_0))
def wp1 : Vec Ideal S1x1x128x128 .bf16 := (View.ld b.x9 (Rect.unit ![0, 1, 0, 0] ![1, 1, 128, 128] inb_S1x4x128x128_S1x1x128x128_0_1_0_0))
def wp2 : Vec Ideal S1x1x128x128 .bf16 := (View.ld b.x9 (Rect.unit ![0, 2, 0, 0] ![1, 1, 128, 128] inb_S1x4x128x128_S1x1x128x128_0_2_0_0))
def wp3 : Vec Ideal S1x1x128x128 .bf16 := (View.ld b.x9 (Rect.unit ![0, 3, 0, 0] ![1, 1, 128, 128] inb_S1x4x128x128_S1x1x128x128_0_3_0_0))
def x : Vec Ideal S256x1024 .f32 := (View.ld b.x2 (Rect.unit ![0, 0] ![256, 1024] inb_S256x1024_S256x1024_0_0))
def win : Vec Ideal S1024x3072 .bf16 := (View.ld b.x11 (Rect.unit ![0, 0] ![1024, 3072] inb_S1024x3072_S1024x3072_0_0))
def dy : FVec Ideal S256x1024 .bf16 := k0_pay25 b.gate b.gpost b.dxo b.y b.ms (FloatOps.ofBits .f32 897988541#32)
def dyp : FVec Ideal S256x512 .f32 := k0_pay28 b.gate b.gpost b.dxo b.y b.ms (FloatOps.ofBits .f32 897988541#32) b.wout
def db : FVec Ideal S256x512 .f32 := k0_pay30 b.gate b.gpost b.dxo b.y b.ms (FloatOps.ofBits .f32 897988541#32) b.wout b.fa
def dconv : FVec Ideal S256x512 .f32 := k0_pay31 b.gate b.gpost b.dxo b.y b.ms (FloatOps.ofBits .f32 897988541#32) b.wout b.fa
def dga : FVec Ideal S256x512 .f32 := k0_pay32 b.gate b.gpost b.dxo b.y b.ms (FloatOps.ofBits .f32 897988541#32) b.wout b.fa
def u : FVec Ideal S256x512 .f32 := k0_pay34 b.uc
def v : FVec Ideal S256x512 .f32 := k0_pay35 b.uc
def z : FVec Ideal S256x512 .f32 := k0_pay36 b.uc
def z1 : FVec Ideal S256x512 .f32 := k0_pay38 b.v0 b.uc b.halo
def dz (C : Vec Ideal S8x512 .f32) : FVec Ideal S256x512 .f32 := k0_pay39 b.tap0 b.tap1 b.tap2 b.dconv (View.ld C (Rect.unit ![0, 0] ![8, 512] inb_S8x512_S8x512_0_0))
def dcc : FVec Ideal S8x512 .f32 := k0_pay40 b.dconv
def dm : FVec Ideal S256x512 .bf16 := k0_pay46 b.dyp b.fp0
def dgp : FVec Ideal S256x512 .f32 := k0_pay47 b.dyp b.fp1
def num : FVec Ideal S256x1 .f32 := k0_pay49 b.v0
def qc : FVec Ideal S16x512 .f32 := k0_pay74 b.num (k0_pay54 b.v0 b.dm b.wp0) (k0_pay60 b.num (k0_pay56 b.dm) b.wp1) (k0_pay67 b.num (k0_pay63 b.dm b.wp2)) (k0_pay70 b.dm b.wp3)
def dproj (C : Vec Ideal S8x512 .f32) (Q : Vec Ideal S16x512 .f32) : FVec Ideal S256x3072 .bf16 :=
  k0_pay75 b.db b.dga (k0_pay44 b.v (b.dz C)) (k0_pay45 b.u (b.dz C)) b.dgp b.num (k0_pay55 b.v0 b.dm b.wp0 (View.ld Q (Rect.unit ![0, 0] ![16, 128] inb_S16x512_S16x128_0_0)))
    (k0_pay61 b.num (k0_pay56 b.dm) b.wp1 (View.ld Q (Rect.unit ![0, 128] ![16, 128] inb_S16x512_S16x128_0_128))) (k0_pay68 b.num (k0_pay63 b.dm b.wp2) (View.ld Q (Rect.unit ![0, 256] ![16, 128] inb_S16x512_S16x128_0_256)))
    (k0_pay70 b.dm b.wp3) (View.ld Q (Rect.unit ![0, 384] ![16, 128] inb_S16x512_S16x128_0_384))
def dx (C : Vec Ideal S8x512 .f32) (Q : Vec Ideal S16x512 .f32) : FVec Ideal S256x1024 .f32 :=
  k0_pay82 b.sc b.gpre b.dxo (b.dproj C Q) b.x (k0_pay76 b.x) b.win
def acc0 (S : Vec Ideal S4x128x128 .f32) : FVec Ideal S1x128x128 .f32 := (k0_pay52 b.dm (View.ld S (Rect.unit ![0, 0, 0] ![1, 128, 128] inb_S4x128x128_S1x128x128_0_0_0)) b.pooled0)
def acc1 (S : Vec Ideal S4x128x128 .f32) : FVec Ideal S1x128x128 .f32 := (k0_pay58 (k0_pay56 b.dm) (View.ld S (Rect.unit ![1, 0, 0] ![1, 128, 128] inb_S4x128x128_S1x128x128_1_0_0)) b.pooled1)
def acc2 (S : Vec Ideal S4x128x128 .f32) : FVec Ideal S1x128x128 .f32 := (k0_pay65 (k0_pay62 b.dm) (k0_pay64 (View.ld S (Rect.unit ![2, 0, 0] ![1, 128, 128] inb_S4x128x128_S1x128x128_2_0_0))) b.pooled2)
def acc3 (S : Vec Ideal S4x128x128 .f32) : FVec Ideal S1x128x128 .f32 := (k0_pay72 (k0_pay71 b.dm (View.ld S (Rect.unit ![3, 0, 0] ![1, 128, 128] inb_S4x128x128_S1x128x128_3_0_0)) b.pooled3))
def acc (X S : Vec Ideal S4x128x128 .f32) : Vec Ideal S4x128x128 .f32 := (VecWindow.put (VecWindow.put (VecWindow.put (VecWindow.put X ![0, 0, 0] ![1, 128, 128] (b.acc0 S)) ![1, 0, 0] ![1, 128, 128] (b.acc1 S)) ![2, 0, 0] ![1, 128, 128] (b.acc2 S)) ![3, 0, 0] ![1, 128, 128] (b.acc3 S))
def cps0 (S : Vec Ideal S8x512 .f32) : FVec Ideal S1x512 .f32 := (k0_pay41 b.v0 b.dconv b.uc b.halo (View.ld S (Rect.unit ![0, 0] ![1, 512] inb_S8x512_S1x512_0_0)))
def cps1 (S : Vec Ideal S8x512 .f32) : FVec Ideal S1x512 .f32 := (k0_pay42 b.dconv b.z1 (View.ld S (Rect.unit ![1, 0] ![1, 512] inb_S8x512_S1x512_1_0)))
def cps2 (S : Vec Ideal S8x512 .f32) : FVec Ideal S1x512 .f32 := (k0_pay43 b.dconv b.z (View.ld S (Rect.unit ![2, 0] ![1, 512] inb_S8x512_S1x512_2_0)))
def cps3 (S : Vec Ideal S8x512 .f32) : FVec Ideal S1x512 .f32 := (k0_pay48 b.dyp (View.ld S (Rect.unit ![3, 0] ![1, 512] inb_S8x512_S1x512_3_0)) b.fp2)
def cps (S : Vec Ideal S8x512 .f32) : Vec Ideal S8x512 .f32 := (VecWindow.put (VecWindow.put (VecWindow.put (VecWindow.put S ![0, 0] ![1, 512] (b.cps0 S)) ![1, 0] ![1, 512] (b.cps1 S)) ![2, 0] ![1, 512] (b.cps2 S)) ![3, 0] ![1, 512] (b.cps3 S))
def vec2 (S : Vec Ideal S8x1024 .f32) : FVec Ideal S1x1024 .f32 := k0_pay24 b.dxo b.y b.ms (FloatOps.ofBits .f32 897988541#32) (View.ld S (Rect.unit ![2, 0] ![1, 1024] inb_S8x1024_S1x1024_2_0))
def vec0 (C : Vec Ideal S8x512 .f32) (Q : Vec Ideal S16x512 .f32) (S : Vec Ideal S8x1024 .f32) : FVec Ideal S1x1024 .f32 := k0_pay80 (b.dproj C Q) b.win (View.ld S (Rect.unit ![0, 0] ![1, 1024] inb_S8x1024_S1x1024_0_0))
def vec1 (C : Vec Ideal S8x512 .f32) (Q : Vec Ideal S16x512 .f32) (S : Vec Ideal S8x1024 .f32) : FVec Ideal S1x1024 .f32 := k0_pay81 (b.dproj C Q) b.x (k0_pay76 b.x) b.win (View.ld S (Rect.unit ![1, 0] ![1, 1024] inb_S8x1024_S1x1024_1_0))
def vec (C : Vec Ideal S8x512 .f32) (Q : Vec Ideal S16x512 .f32) (S : Vec Ideal S8x1024 .f32) : Vec Ideal S8x1024 .f32 := (VecWindow.put (VecWindow.put (VecWindow.put S ![2, 0] ![1, 1024] (b.vec2 S)) ![0, 0] ![1, 1024] (b.vec0 C Q S)) ![1, 0] ![1, 1024] (b.vec1 C Q S))
def fin (C : Vec Ideal S8x512 .f32) (Q : Vec Ideal S16x512 .f32) (S : Vec Ideal S8x1024 .f32) : Vec Ideal S8x1024 .f32 := (VecWindow.put (VecWindow.put (VecWindow.put (VecWindow.put (b.vec C Q S) ![1, 0] ![1, 1024] (k0_pay4 b.gpre (b.vec1 C Q S))) ![3, 0] ![1, 1024] (k0_pay5 (k0_pay78 b.sc) (b.vec1 C Q S))) ![2, 0] ![1, 1024] (k0_pay6 b.gpost (b.vec2 S))) ![4, 0] ![1, 1024] (k0_pay7 b.gate (b.vec2 S)))

end Ins
end Cert.KernelIdeal.Point
-- ==== Proof.PointValue.lean ====
/- The values of what one grid point computes, at the numbers its blocks hold. -/
module

public import proofs.«01_k».proof.Proof.Point

@[expose] public section

set_option maxRecDepth 16384

noncomputable section

namespace Cert.KernelIdeal.Point

open Cert.KernelIdeal Cert.KernelIdeal.Gen Cert.KernelIdeal.Host Cert.KernelIdeal.Tile Idealize.ShloMosaic Idealize.ShloMosaic.TcCoe
open Layer (late soon msq rms sgm cnt wdw eps reals sum_real ite_real dite_real)

/-- The numbers in the blocks of tile `T`, whose first token is `n`. -/
structure Holds (b : Ins) (I : Layer.Args) (n T : ℕ) : Prop where
  lt : T < 8
  eq : n = 256 * T
  v0 : b.v0 = BitVec.ofNat 32 T
  x0 : ∀ r l, b.x0 (ix2 r l) = ((I.dxo (n + r.val) l.val : ℝ) : EReal)
  x1 : ∀ r l, b.x1 (ix2 r l) = ((I.y (n + r.val) l.val : ℝ) : EReal)
  x2 : ∀ r l, b.x2 (ix2 r l) = ((I.x (n + r.val) l.val : ℝ) : EReal)
  x3 : ∀ r l, b.x3 (ix2 r l) = ((if l.val < 512 then I.proj (n + r.val) l.val else I.proj (n + r.val) (512 + l.val) : ℝ) : EReal)
  x4 : 0 < T → ∀ r l, b.x4 (ix2 r l) = ((if l.val < 512 then I.proj (n - 16 + r.val) l.val else I.proj (n - 16 + r.val) (512 + l.val) : ℝ) : EReal)
  x5 : ∀ r l, b.x5 (ix2 r l) = ((faRow I (n + r.val) l.val : ℝ) : EReal)
  x6 : ∀ r l, b.x6 (ix2 r l) = ((fpRow I (n + r.val) l.val : ℝ) : EReal)
  x7 : ∀ r l, b.x7 (ix3 0 r l) = ((vecRow I r.val l.val : ℝ) : EReal)
  x8 : ∀ r l, b.x8 (ix3 0 r l) = ((cpsRow I r.val l.val : ℝ) : EReal)
  x9 : ∀ g r l, b.x9 (ix4 0 g r l) = ((I.wp 3 g.val r.val l.val : ℝ) : EReal)
  x10 : ∀ r l, b.x10 (ix2 r l) = ((I.wout r.val l.val : ℝ) : EReal)
  x11 : ∀ r l, b.x11 (ix2 r l) = ((I.win r.val l.val : ℝ) : EReal)

namespace Holds

variable {b : Ins} {I : Layer.Args} {n T : ℕ} (H : Holds b I n T)
include H

/-! ## The loads -/

theorem sc : ∀ l, b.sc (ix2 0 l) = ((I.sc l.val : ℝ) : EReal) :=
  p13 fun l => (ld3 b.x7 0 1 0 _ 0 0 l).trans ((H.x7 1 ⟨0 + l.val, _⟩).trans (by
    refine congrArg Real.toEReal ?_
    show vecRow I 1 (0 + l.val) = _
    simp only [vecRow, Nat.zero_add]
    rfl))

theorem gate : ∀ l, b.gate (ix2 0 l) = ((I.gate l.val : ℝ) : EReal) :=
  p14 fun l => (ld3 b.x7 0 2 0 _ 0 0 l).trans ((H.x7 2 ⟨0 + l.val, _⟩).trans (by
    refine congrArg Real.toEReal ?_
    show vecRow I 2 (0 + l.val) = _
    simp only [vecRow, Nat.zero_add]
    rfl))

theorem gpre : ∀ l, b.gpre (ix2 0 l) = ((I.gpre 3 l.val : ℝ) : EReal) :=
  p15 fun l => (ld3 b.x7 0 3 0 _ 0 0 l).trans ((H.x7 3 ⟨0 + l.val, _⟩).trans (by
    refine congrArg Real.toEReal ?_
    show vecRow I 3 (0 + l.val) = _
    simp only [vecRow, Nat.zero_add]
    rfl))

theorem gpost : ∀ l, b.gpost (ix2 0 l) = ((I.gpost 3 l.val : ℝ) : EReal) :=
  p16 fun l => (ld3 b.x7 0 4 0 _ 0 0 l).trans ((H.x7 4 ⟨0 + l.val, _⟩).trans (by
    refine congrArg Real.toEReal ?_
    show vecRow I 4 (0 + l.val) = _
    simp only [vecRow, Nat.zero_add]
    rfl))

theorem tap0 : ∀ l, b.tap0 (ix2 0 l) = ((I.wc 3 0 l.val : ℝ) : EReal) :=
  p17 fun l => (ld3 b.x8 0 0 0 _ 0 0 l).trans ((H.x8 0 ⟨0 + l.val, _⟩).trans (by
    refine congrArg Real.toEReal ?_
    show cpsRow I 0 (0 + l.val) = _
    simp only [cpsRow, Nat.zero_add]
    rfl))

theorem tap1 : ∀ l, b.tap1 (ix2 0 l) = ((I.wc 3 1 l.val : ℝ) : EReal) :=
  p18 fun l => (ld3 b.x8 0 1 0 _ 0 0 l).trans ((H.x8 1 ⟨0 + l.val, _⟩).trans (by
    refine congrArg Real.toEReal ?_
    show cpsRow I 1 (0 + l.val) = _
    simp only [cpsRow, Nat.zero_add]
    rfl))

theorem tap2 : ∀ l, b.tap2 (ix2 0 l) = ((I.wc 3 2 l.val : ℝ) : EReal) :=
  p19 fun l => (ld3 b.x8 0 2 0 _ 0 0 l).trans ((H.x8 2 ⟨0 + l.val, _⟩).trans (by
    refine congrArg Real.toEReal ?_
    show cpsRow I 2 (0 + l.val) = _
    simp only [cpsRow, Nat.zero_add]
    rfl))

theorem dxo : ∀ r l, b.dxo (ix2 r l) = ((I.dxo (n + r.val) l.val : ℝ) : EReal) :=
  fun r l => (ld2 b.x0 0 0 _ r l).trans ((H.x0 _ _).trans (by simp only [Nat.zero_add]))

theorem yb : ∀ r l, b.yb (ix2 r l) = ((I.y (n + r.val) l.val : ℝ) : EReal) :=
  fun r l => (ld2 b.x1 0 0 _ r l).trans ((H.x1 _ _).trans (by simp only [Nat.zero_add]))

theorem x : ∀ r l, b.x (ix2 r l) = ((I.x (n + r.val) l.val : ℝ) : EReal) :=
  fun r l => (ld2 b.x2 0 0 _ r l).trans ((H.x2 _ _).trans (by simp only [Nat.zero_add]))

theorem uc : ∀ r l, b.uc (ix2 r l) = ((if l.val < 512 then I.proj (n + r.val) l.val else I.proj (n + r.val) (512 + l.val) : ℝ) : EReal) :=
  fun r l => (ld2 b.x3 0 0 _ r l).trans ((H.x3 _ _).trans (by simp only [Nat.zero_add]))

theorem fa : ∀ r l, b.fa (ix2 r l) = ((faRow I (n + r.val) l.val : ℝ) : EReal) :=
  fun r l => (ld2 b.x5 0 0 _ r l).trans ((H.x5 _ _).trans (by simp only [Nat.zero_add]))

theorem wout : ∀ r l, b.wout (ix2 r l) = ((I.wout r.val l.val : ℝ) : EReal) :=
  fun r l => (ld2 b.x10 0 0 _ r l).trans ((H.x10 _ _).trans (by simp only [Nat.zero_add]))

theorem win : ∀ r l, b.win (ix2 r l) = ((I.win r.val l.val : ℝ) : EReal) :=
  fun r l => (ld2 b.x11 0 0 _ r l).trans ((H.x11 _ _).trans (by simp only [Nat.zero_add]))

theorem halo : 0 < T → ∀ r l, b.halo (ix2 r l) = ((if l.val < 512 then I.proj (n - 16 + r.val) l.val else I.proj (n - 16 + r.val) (512 + l.val) : ℝ) : EReal) :=
  fun h r l => (ld2 b.x4 0 0 _ r l).trans ((H.x4 h _ _).trans (by simp only [Nat.zero_add]))

theorem fp0 : ∀ r l, b.fp0 (ix2 r l) = ((I.ps 3 l.val * I.silup (n + r.val) l.val : ℝ) : EReal) :=
  fun r l => (ld2 b.x6 0 0 _ r l).trans ((H.x6 _ _).trans (by
    have h := l.isLt
    refine congrArg Real.toEReal ?_
    show fpRow I (n + (0 + r.val)) (0 + l.val) = _
    simp only [fpRow, Nat.zero_add]
    rw [if_pos h]))

theorem fp1 : ∀ r l, b.fp1 (ix2 r l) = ((I.mps (n + r.val) l.val * (sgm (I.gp (n + r.val) l.val) + I.silup (n + r.val) l.val * (1 - sgm (I.gp (n + r.val) l.val))) : ℝ) : EReal) :=
  fun r l => (ld2 b.x6 0 512 _ r l).trans ((H.x6 _ _).trans (by
    have h := l.isLt
    refine congrArg Real.toEReal ?_
    show fpRow I (n + (0 + r.val)) (512 + l.val) = _
    rw [Nat.zero_add]; unfold fpRow
    rw [if_neg (by omega), if_pos (by omega), Nat.add_sub_cancel_left]))

theorem fp2 : ∀ r l, b.fp2 (ix2 r l) = ((I.silup (n + r.val) l.val * I.mixed (n + r.val) l.val : ℝ) : EReal) :=
  fun r l => (ld2 b.x6 0 1024 _ r l).trans ((H.x6 _ _).trans (by
    have h := l.isLt
    refine congrArg Real.toEReal ?_
    show fpRow I (n + (0 + r.val)) (1024 + l.val) = _
    rw [Nat.zero_add]; unfold fpRow
    rw [if_neg (by omega), if_neg (by omega), if_pos (by omega), Nat.add_sub_cancel_left]))

theorem pooled0 : ∀ r l, b.pooled0 (ix2 r l) = ((I.pooled 0 (n + r.val) l.val : ℝ) : EReal) :=
  fun r l => (ld2 b.x6 0 1536 _ r l).trans ((H.x6 _ _).trans (by
    have h := l.isLt
    refine congrArg Real.toEReal ?_
    show fpRow I (n + (0 + r.val)) (1536 + l.val) = _
    rw [Nat.zero_add]; unfold fpRow
    rw [if_neg (by omega), if_neg (by omega), if_neg (by omega)]
    have e1 : (1536 + l.val - 1536) / 128 = 0 := by omega
    have e2 : (1536 + l.val - 1536) % 128 = l.val := by omega
    rw [e1, e2]))

theorem pooled1 : ∀ r l, b.pooled1 (ix2 r l) = ((I.pooled 1 (n + r.val) l.val : ℝ) : EReal) :=
  fun r l => (ld2 b.x6 0 1664 _ r l).trans ((H.x6 _ _).trans (by
    have h := l.isLt
    refine congrArg Real.toEReal ?_
    show fpRow I (n + (0 + r.val)) (1664 + l.val) = _
    rw [Nat.zero_add]; unfold fpRow
    rw [if_neg (by omega), if_neg (by omega), if_neg (by omega)]
    have e1 : (1664 + l.val - 1536) / 128 = 1 := by omega
    have e2 : (1664 + l.val - 1536) % 128 = l.val := by omega
    rw [e1, e2]))

theorem pooled2 : ∀ r l, b.pooled2 (ix2 r l) = ((I.pooled 2 (n + r.val) l.val : ℝ) : EReal) :=
  fun r l => (ld2 b.x6 0 1792 _ r l).trans ((H.x6 _ _).trans (by
    have h := l.isLt
    refine congrArg Real.toEReal ?_
    show fpRow I (n + (0 + r.val)) (1792 + l.val) = _
    rw [Nat.zero_add]; unfold fpRow
    rw [if_neg (by omega), if_neg (by omega), if_neg (by omega)]
    have e1 : (1792 + l.val - 1536) / 128 = 2 := by omega
    have e2 : (1792 + l.val - 1536) % 128 = l.val := by omega
    rw [e1, e2]))

theorem pooled3 : ∀ r l, b.pooled3 (ix2 r l) = ((I.pooled 3 (n + r.val) l.val : ℝ) : EReal) :=
  fun r l => (ld2 b.x6 0 1920 _ r l).trans ((H.x6 _ _).trans (by
    have h := l.isLt
    refine congrArg Real.toEReal ?_
    show fpRow I (n + (0 + r.val)) (1920 + l.val) = _
    rw [Nat.zero_add]; unfold fpRow
    rw [if_neg (by omega), if_neg (by omega), if_neg (by omega)]
    have e1 : (1920 + l.val - 1536) / 128 = 3 := by omega
    have e2 : (1920 + l.val - 1536) % 128 = l.val := by omega
    rw [e1, e2]))

theorem wp0 : ∀ r l, b.wp0 (ix4 0 0 r l) = ((I.wp 3 0 r.val l.val : ℝ) : EReal) :=
  fun r l => (ld4 b.x9 0 0 0 0 _ 0 0 r l).trans ((H.x9 0 _ _).trans (by simp only [Nat.zero_add]; rfl))

theorem wp1 : ∀ r l, b.wp1 (ix4 0 0 r l) = ((I.wp 3 1 r.val l.val : ℝ) : EReal) :=
  fun r l => (ld4 b.x9 0 1 0 0 _ 0 0 r l).trans ((H.x9 1 _ _).trans (by simp only [Nat.zero_add]; rfl))

theorem wp2 : ∀ r l, b.wp2 (ix4 0 0 r l) = ((I.wp 3 2 r.val l.val : ℝ) : EReal) :=
  fun r l => (ld4 b.x9 0 2 0 0 _ 0 0 r l).trans ((H.x9 2 _ _).trans (by simp only [Nat.zero_add]; rfl))

theorem wp3 : ∀ r l, b.wp3 (ix4 0 0 r l) = ((I.wp 3 3 r.val l.val : ℝ) : EReal) :=
  fun r l => (ld4 b.x9 0 3 0 0 _ 0 0 r l).trans ((H.x9 3 _ _).trans (by simp only [Nat.zero_add]; rfl))

/-! ## The tile's values -/
omit H in
theorem word : (FloatOps.ofBits (F := Ideal) .f32 897988541#32) = ((eps : ℝ) : EReal) := Layer.c_eps

theorem y : ∀ r l, b.y (ix2 r l) = ((I.y (n + r.val) l.val : ℝ) : EReal) :=
  p20 H.yb

theorem ms : ∀ r, b.ms (ix2 r 0) = ((msq (I.y (n + r.val)) - eps : ℝ) : EReal) :=
  p21 H.yb

theorem dy : ∀ r l, b.dy (ix2 r l) = ((I.dy (n + r.val) l.val : ℝ) : EReal) :=
  p25 word H.y H.ms H.dxo H.gate H.gpost

theorem dyp : ∀ r l, b.dyp (ix2 r l) = ((I.dycat (n + r.val) (512 + l.val) : ℝ) : EReal) :=
  p28 word H.y H.ms H.dxo H.gate H.gpost H.wout

theorem db : ∀ r l, b.db (ix2 r l) = ((I.db (n + r.val) l.val : ℝ) : EReal) :=
  p30 word H.y H.ms H.dxo H.gate H.gpost H.wout H.fa

theorem dconv : ∀ r l, b.dconv (ix2 r l) = ((I.dconv l.val (n + r.val) : ℝ) : EReal) :=
  p31 word H.y H.ms H.dxo H.gate H.gpost H.wout H.fa

theorem dga : ∀ r l, b.dga (ix2 r l) = ((I.dga (n + r.val) l.val : ℝ) : EReal) :=
  p32 word H.y H.ms H.dxo H.gate H.gpost H.wout H.fa

theorem u : ∀ r l, b.u (ix2 r l) = ((I.proj (n + r.val) l.val : ℝ) : EReal) :=
  p34 H.uc

theorem v : ∀ r l, b.v (ix2 r l) = ((I.proj (n + r.val) (1024 + l.val) : ℝ) : EReal) :=
  p35 H.uc

theorem z : ∀ r l, b.z (ix2 r l) = ((I.z l.val (n + r.val) : ℝ) : EReal) :=
  p36 H.uc

theorem z1 : ∀ r l, b.z1 (ix2 r l) = ((late (I.z l.val) 1 (n + r.val) : ℝ) : EReal) := by
  unfold Ins.z1; rw [H.v0]
  exact p38 H.uc H.lt H.eq H.halo

section
variable {C : Vec Ideal S8x512 .f32} (hC : ∀ r c, C (ix2 r c) = ((soon (I.dconv c.val) 0 (n + (256 + r.val)) : ℝ) : EReal))
include hC

theorem dz : ∀ r l, b.dz C (ix2 r l) = ((I.dz (n + r.val) l.val : ℝ) : EReal) :=
  p39 H.lt H.eq H.dconv H.tap0 H.tap1 H.tap2 fun r c => (ld2 C 0 0 _ r c).trans ((hC _ _).trans (by simp only [Nat.zero_add]))
end

theorem dcc : ∀ r c, b.dcc (ix2 r c) = ((I.dconv c.val (n + r.val) : ℝ) : EReal) :=
  p40 H.dconv

theorem dm : ∀ r l, b.dm (ix2 r l) = ((I.dmixed (n + r.val) l.val : ℝ) : EReal) :=
  p46 H.dyp H.fp0

theorem dgp : ∀ r l, b.dgp (ix2 r l) = ((I.dgp (n + r.val) l.val : ℝ) : EReal) :=
  p47 H.dyp H.fp1

theorem num : ∀ r, b.num (ix2 r 0) = ((((n + r.val : ℕ) : ℝ) + 1 : ℝ) : EReal) := by
  unfold Ins.num; rw [H.v0]
  exact p49 H.lt H.eq

theorem qc : ∀ r c, b.qc (ix2 r c) = ((I.q (c.val / 128) (c.val % 128) (n + r.val) : ℝ) : EReal) := by
  unfold Ins.qc
  rw [H.v0]
  refine p74 H.num ?_ ?_ ?_ (p70 H.dm H.wp3)
  · intro r c
    pointwise [k0_pay54]
    exact p53 H.lt H.eq H.dm H.wp0 _ _
  · intro r c
    pointwise [k0_pay60]
    exact p59 H.num (p56 H.dm) H.wp1 _ _
  · intro r c
    pointwise [k0_pay67]
    exact p66 H.num (p63 H.dm H.wp2) _ _

section
variable {C : Vec Ideal S8x512 .f32} (hC : ∀ r c, C (ix2 r c) = ((soon (I.dconv c.val) 0 (n + (256 + r.val)) : ℝ) : EReal))
  {Q : Vec Ideal S16x512 .f32} (hQ : ∀ r c, Q (ix2 r c) = ((soon (I.q (c.val / 128) (c.val % 128)) 0 (n + (256 + r.val)) : ℝ) : EReal))

omit H in
include hQ in
theorem group {g k : ℕ} (hk : k = 128 * g) (inb) : ∀ (r : Fin 16) (c : Fin 128), View.ld Q (Rect.unit (s := S16x512) ![0, k] ![16, 128] inb) (ix2 r c)
    = ((soon (I.q g c.val) 0 (n + (256 + r.val)) : ℝ) : EReal) := by
  intro r c
  refine (ld2 Q 0 k inb r c).trans ((hQ _ _).trans ?_)
  have h := c.isLt
  show ((soon (I.q ((k + c.val) / 128) ((k + c.val) % 128)) 0 (n + (256 + (0 + r.val))) : ℝ) : EReal) = _
  have e1 : (k + c.val) / 128 = g := by omega
  have e2 : (k + c.val) % 128 = c.val := by omega
  rw [e1, e2, Nat.zero_add]

include hC hQ

theorem dproj : ∀ r c, b.dproj C Q (ix2 r c) = ((I.dproj (n + r.val) c.val : ℝ) : EReal) := by
  unfold Ins.dproj
  rw [p75, H.v0]
  exact join_rows (p44 H.v (H.dz hC)) H.db (p45 H.u (H.dz hC)) H.dga
    (p55 H.lt H.eq H.dm H.wp0 (group hQ (g := 0) rfl _))
    (p61 H.lt H.eq H.num (p56 H.dm) H.wp1 (group hQ (g := 1) rfl _))
    (p68 H.lt H.eq H.num (p63 H.dm H.wp2) (group hQ (g := 2) rfl _))
    (last_rows H.lt H.eq H.num (p70 H.dm H.wp3) (group hQ (g := 3) rfl _))
    H.dgp

theorem dx : ∀ r c, b.dx C Q (ix2 r c) = ((I.dx (n + r.val) c.val : ℝ) : EReal) :=
  p82 H.x (p76 H.x) (H.dproj hC hQ) H.win H.sc H.gpre H.dxo

end

/-! ## The sums over the tile's rows -/

omit H in
theorem plane {S : Vec Ideal S4x128x128 .f32} {f : ℕ → ℕ → ℕ → ℝ} (hS : ∀ g k l, S (ix3 g k l) = ((f g.val k.val l.val : ℝ) : EReal)) (g : ℕ) (inb) :
    ∀ (k l : Fin 128), View.ld S (Rect.unit (s := S4x128x128) ![g, 0, 0] ![1, 128, 128] inb) (ix3 0 k l) = ((f g k.val l.val : ℝ) : EReal) :=
  fun k l => (ld3 S g 0 0 inb 0 k l).trans ((hS _ _ _).trans (by simp only [Nat.zero_add]; rfl))

omit H in
theorem row {A p : ℕ} {S : Vec Ideal ⟨2, ![A, p]⟩ .f32} {f : ℕ → ℕ → ℝ} (hS : ∀ r l, S (ix2 r l) = ((f r.val l.val : ℝ) : EReal)) (g : ℕ) (inb) :
    ∀ (l : Fin p), View.ld S (Rect.unit (s := ⟨2, ![A, p]⟩) ![g, 0] ![1, p] inb) (ix2 0 l) = ((f g l.val : ℝ) : EReal) :=
  fun l => (ld2 S g 0 inb 0 l).trans ((hS _ _).trans (by simp only [Nat.zero_add]; rfl))

theorem acc {X S : Vec Ideal S4x128x128 .f32} {f : ℕ → ℕ → ℕ → ℝ} (hS : ∀ g k l, S (ix3 g k l) = ((f g.val k.val l.val : ℝ) : EReal)) :
    ∀ g k l, b.acc X S (ix3 g k l)
      = ((f g.val k.val l.val + ∑ t ∈ Finset.range 256, I.pooled g.val (n + t) k.val * I.dmixed (n + t) (128 * g.val + l.val) : ℝ) : EReal) := by
  intro g k l
  have h := g.isLt
  refine (put3 _ 3 _ g k l).trans ?_
  by_cases e3 : g.val = 3
  · rw [if_pos e3, e3]; exact p72 H.dm (plane hS 3 _) H.pooled3 k l
  rw [if_neg e3]
  refine (put3 _ 2 _ g k l).trans ?_
  by_cases e2 : g.val = 2
  · rw [if_pos e2, e2]; exact p65 (plane hS 2 _) (p62 H.dm) H.pooled2 k l
  rw [if_neg e2]
  refine (put3 _ 1 _ g k l).trans ?_
  by_cases e1 : g.val = 1
  · rw [if_pos e1, e1]; exact p58 (plane hS 1 _) (p56 H.dm) H.pooled1 k l
  rw [if_neg e1]
  refine (put3 _ 0 _ g k l).trans ?_
  have e0 : g.val = 0 := by omega
  rw [if_pos e0, e0]; exact p52 H.dm (plane hS 0 _) H.pooled0 k l

/-- The tile's part of the rows of `dcps`. -/
def cpsPart (I : Layer.Args) (n r l : ℕ) : ℝ :=
  if r < 3 then ∑ k ∈ Finset.range 256, I.dconv l (n + k) * late (I.z l) (2 - r) (n + k)
  else if r = 3 then ∑ k ∈ Finset.range 256, I.dycat (n + k) (512 + l) * (I.silup (n + k) l * I.mixed (n + k) l) else 0

theorem cps {S : Vec Ideal S8x512 .f32} {f : ℕ → ℕ → ℝ} (hS : ∀ r l, S (ix2 r l) = ((f r.val l.val : ℝ) : EReal)) :
    ∀ r l, b.cps S (ix2 r l) = ((f r.val l.val + cpsPart I n r.val l.val : ℝ) : EReal) := by
  intro r l
  refine (put2 _ 3 _ r l).trans ?_
  by_cases e3 : r.val = 3
  · rw [if_pos e3, e3]; exact p48 H.dyp (row hS 3 _) H.fp2 l
  rw [if_neg e3]
  refine (put2 _ 2 _ r l).trans ?_
  by_cases e2 : r.val = 2
  · rw [if_pos e2, e2]; refine (p43 H.dconv H.z (row hS 2 _) l).trans ?_
    rfl
  rw [if_neg e2]
  refine (put2 _ 1 _ r l).trans ?_
  by_cases e1 : r.val = 1
  · rw [if_pos e1, e1]; exact p42 H.dconv H.z1 (row hS 1 _) l
  rw [if_neg e1]
  refine (put2 _ 0 _ r l).trans ?_
  by_cases e0 : r.val = 0
  · rw [if_pos e0, e0]
    unfold Ins.cps0
    rw [H.v0]
    exact p41 H.uc H.lt H.eq H.halo H.dconv (row hS 0 _) l
  rw [if_neg e0, hS]
  unfold cpsPart
  rw [if_neg (by omega), if_neg e3, add_zero]

/-- The tile's part of the first rows of `dvec`. -/
def vecPart (I : Layer.Args) (n r l : ℕ) : ℝ :=
  if r = 0 then ∑ k ∈ Finset.range 256, I.dh (n + k) l
  else if r = 1 then ∑ k ∈ Finset.range 256, I.dh (n + k) l * I.xn (n + k) l
  else if r = 2 then ∑ k ∈ Finset.range 256, I.dxo (n + k) l * I.yh (n + k) l else 0

section
variable {C : Vec Ideal S8x512 .f32} (hC : ∀ r c, C (ix2 r c) = ((soon (I.dconv c.val) 0 (n + (256 + r.val)) : ℝ) : EReal))
  {Q : Vec Ideal S16x512 .f32} (hQ : ∀ r c, Q (ix2 r c) = ((soon (I.q (c.val / 128) (c.val % 128)) 0 (n + (256 + r.val)) : ℝ) : EReal))
  {S : Vec Ideal S8x1024 .f32} {f : ℕ → ℕ → ℝ} (hS : ∀ r l, S (ix2 r l) = ((f r.val l.val : ℝ) : EReal))

include hS in
theorem vec2 : ∀ l, b.vec2 S (ix2 0 l) = ((f 2 l.val + vecPart I n 2 l.val : ℝ) : EReal) :=
  p24 word H.y H.ms H.dxo (row hS 2 _)

include hC hQ hS

theorem vec0 : ∀ l, b.vec0 C Q S (ix2 0 l) = ((f 0 l.val + vecPart I n 0 l.val : ℝ) : EReal) :=
  p80 (H.dproj hC hQ) H.win (row hS 0 _)

theorem vec1 : ∀ l, b.vec1 C Q S (ix2 0 l) = ((f 1 l.val + vecPart I n 1 l.val : ℝ) : EReal) :=
  p81 H.x (p76 H.x) (H.dproj hC hQ) H.win (row hS 1 _)

theorem vec : ∀ r l, b.vec C Q S (ix2 r l) = ((f r.val l.val + vecPart I n r.val l.val : ℝ) : EReal) := by
  intro r l
  refine (put2 _ 1 _ r l).trans ?_
  by_cases e1 : r.val = 1
  · rw [if_pos e1, e1]; exact H.vec1 hC hQ hS l
  rw [if_neg e1]
  refine (put2 _ 0 _ r l).trans ?_
  by_cases e0 : r.val = 0
  · rw [if_pos e0, e0]; exact H.vec0 hC hQ hS l
  rw [if_neg e0]
  refine (put2 _ 2 _ r l).trans ?_
  by_cases e2 : r.val = 2
  · rw [if_pos e2, e2]; exact H.vec2 hS l
  rw [if_neg e2, hS]
  unfold vecPart
  rw [if_neg e0, if_neg e1, if_neg e2, add_zero]

/-- The last tile's end: the sums times the rows of parameters. -/
theorem fin (hf : ∀ l, f 3 l = 0 ∧ f 4 l = 0) : ∀ r l, b.fin C Q S (ix2 r l)
    = ((if r.val = 1 then (f 1 l.val + vecPart I n 1 l.val) * I.gpre 3 l.val
        else if r.val = 2 then (f 2 l.val + vecPart I n 2 l.val) * I.gpost 3 l.val
        else if r.val = 3 then (f 1 l.val + vecPart I n 1 l.val) * (1 + I.sc l.val)
        else if r.val = 4 then (f 2 l.val + vecPart I n 2 l.val) * I.gate l.val
        else f r.val l.val + vecPart I n r.val l.val : ℝ) : EReal) := by
  intro r l
  refine (put2 _ 4 _ r l).trans ?_
  by_cases e4 : r.val = 4
  · rw [if_pos e4, e4]; exact p7 (a := fun l => f 2 l + vecPart I n 2 l) (b := I.gate) (H.vec2 hS) H.gate l
  rw [if_neg e4]
  refine (put2 _ 2 _ r l).trans ?_
  by_cases e2 : r.val = 2
  · rw [if_pos e2, e2]; exact p6 (a := fun l => f 2 l + vecPart I n 2 l) (b := I.gpost 3) (H.vec2 hS) H.gpost l
  rw [if_neg e2]
  refine (put2 _ 3 _ r l).trans ?_
  by_cases e3 : r.val = 3
  · rw [if_pos e3, e3]; exact p5 (a := fun l => f 1 l + vecPart I n 1 l) (b := fun l => 1 + I.sc l) (H.vec1 hC hQ hS) (p78 H.sc) l
  rw [if_neg e3]
  refine (put2 _ 1 _ r l).trans ?_
  by_cases e1 : r.val = 1
  · rw [if_pos e1, e1]; exact p4 (a := fun l => f 1 l + vecPart I n 1 l) (b := I.gpre 3) (H.vec1 hC hQ hS) H.gpre l
  rw [if_neg e1]
  rw [if_neg e1, if_neg e2, if_neg e3, if_neg e4]
  exact H.vec hC hQ hS r l

end

end Holds
end Cert.KernelIdeal.Point
-- ==== Proof.Open.lean ====
/- A grid point's results and scratch, case by case, as the values of `Point.Ins`. -/
module

public import proofs.«01_k».proof.Proof.Point

@[expose] public section

set_option maxRecDepth 16384

noncomputable section

namespace Cert.KernelIdeal.Point

open Cert.KernelIdeal Cert.KernelIdeal.Gen Cert.KernelIdeal.Host Cert.KernelIdeal.Tile Idealize.ShloMosaic Idealize.ShloMosaic.TcCoe

section
variable {sig : RefSig} {κ : Kind} {sp : Space} {s : Shape} {e : EltTy}

/-- A load of stores that cover it is the load of what they leave. -/
theorem readCov_ld (v : View sig κ sp s e) (L : List (View.Piece (Elt Ideal) s e)) (r : Rect s) :
    v.readCov L r.toLoadRect = View.ld (View.canon L) r := View.readCov_eq_canon' v L r.toLoadRect

theorem canon_put {off size : Fin s.rank → ℕ} (inb : ∀ a, off a + size a ≤ s.size a) (w : (Rect.unit off size inb).shape.Idx → Elt Ideal e)
    (L : List (View.Piece (Elt Ideal) s e)) :
    View.canon (⟨Rect.unit off size inb, w⟩ :: L) = VecWindow.put (View.canon L) off size w := by
  funext y
  unfold VecWindow.put
  split_ifs with h
  · have := View.canon_cons_emb (Rect.unit off size inb) w L (Rect.unitLocal (s := s) (off := off) (size := size) y h)
    rw [← this]
    refine congrArg _ (funext fun a => Fin.ext ?_)
    have e : ((Rect.unit off size inb).emb (Rect.unitLocal (s := s) (off := off) (size := size) y h) a).val = off a + 1 * ((y a).val - off a) := rfl
    rw [e]; have := h a; omega
  · exact View.canon_cons_of_not_mem _ L fun hy => h ((Rect.mem_set_unit (inb := inb)).mp hy)

theorem writes_put (v : View sig κ sp s e) (f : v.ty.Contents (Elt Ideal)) {off size : Fin s.rank → ℕ} (inb : ∀ a, off a + size a ≤ s.size a)
    (w : (Rect.unit off size inb).shape.Idx → Elt Ideal e) (L : List (View.Piece (Elt Ideal) s e)) :
    v.read (Elt Ideal) (v.writes (Elt Ideal) f (⟨Rect.unit off size inb, w⟩ :: L)) = VecWindow.put (v.read (Elt Ideal) (v.writes (Elt Ideal) f L)) off size w :=
  View.read_writes_cons_put v f inb w L rfl

end

/-- A store of the whole matrix leaves it. -/
theorem put_full2 {α : Type} {A B : ℕ} (X : Shape.Idx ⟨2, ![A, B]⟩ → α) (w : ((a : Fin 2) → Fin ((![A, B] : Fin 2 → ℕ) a)) → α) :
    VecWindow.put (s := ⟨2, ![A, B]⟩) X ![0, 0] ![A, B] w = w := by
  funext y
  unfold VecWindow.put
  rw [dif_pos (fun a => ⟨by fin_cases a <;> exact Nat.zero_le _, by have := (y a).isLt; fin_cases a <;> (refine lt_of_lt_of_eq this ?_; exact (Nat.zero_add _).symm)⟩)]
  refine congrArg w (funext fun a => Fin.ext ?_)
  fin_cases a <;> rfl

theorem put_full3 {α : Type} {A B C : ℕ} (X : Shape.Idx ⟨3, ![A, B, C]⟩ → α) (w : ((a : Fin 3) → Fin ((![A, B, C] : Fin 3 → ℕ) a)) → α) :
    VecWindow.put (s := ⟨3, ![A, B, C]⟩) X ![0, 0, 0] ![A, B, C] w = w := by
  funext y
  unfold VecWindow.put
  rw [dif_pos (fun a => ⟨by fin_cases a <;> exact Nat.zero_le _, by have := (y a).isLt; fin_cases a <;> (refine lt_of_lt_of_eq this ?_; exact (Nat.zero_add _).symm)⟩)]
  refine congrArg w (funext fun a => Fin.ext ?_)
  fin_cases a <;> rfl

/-- A load of another row than the one put. -/
theorem ld_put2 {e : EltTy} {A p : ℕ} (X : Vec Ideal ⟨2, ![A, p]⟩ e) {k j : ℕ} (h : j ≠ k) (w : Vec Ideal ⟨2, ![1, p]⟩ e) (inb) :
    View.ld (VecWindow.put (s := ⟨2, ![A, p]⟩) X ![k, 0] ![1, p] w) (Rect.unit (s := ⟨2, ![A, p]⟩) ![j, 0] ![1, p] inb)
      = View.ld X (Rect.unit (s := ⟨2, ![A, p]⟩) ![j, 0] ![1, p] inb) := by
  funext y
  refine dif_neg fun H => ?_
  have h0 := H 0
  have h1 : (y 0).val < 1 := (y 0).isLt
  change k ≤ j + 1 * (y 0).val ∧ j + 1 * (y 0).val < k + 1 at h0
  omega

/-- A load of the row put. -/
theorem ld_put2_same {e : EltTy} {A p : ℕ} (X : Vec Ideal ⟨2, ![A, p]⟩ e) {k : ℕ} (w : Vec Ideal ⟨2, ![1, p]⟩ e) (inb) :
    View.ld (VecWindow.put (s := ⟨2, ![A, p]⟩) X ![k, 0] ![1, p] w) (Rect.unit (s := ⟨2, ![A, p]⟩) ![k, 0] ![1, p] inb) = w :=
  VecWindow.window_put_same X ![k, 0] ![1, p] inb w

theorem ld_put3 {e : EltTy} {A p q : ℕ} (X : Vec Ideal ⟨3, ![A, p, q]⟩ e) {k j : ℕ} (h : j ≠ k) (w : Vec Ideal ⟨3, ![1, p, q]⟩ e) (inb) :
    View.ld (VecWindow.put (s := ⟨3, ![A, p, q]⟩) X ![k, 0, 0] ![1, p, q] w) (Rect.unit (s := ⟨3, ![A, p, q]⟩) ![j, 0, 0] ![1, p, q] inb)
      = View.ld X (Rect.unit (s := ⟨3, ![A, p, q]⟩) ![j, 0, 0] ![1, p, q] inb) := by
  funext y
  refine dif_neg fun H => ?_
  have h0 := H 0
  have h1 : (y 0).val < 1 := (y 0).isLt
  change k ≤ j + 1 * (y 0).val ∧ j + 1 * (y 0).val < k + 1 at h0
  omega

variable (m : (ℓ : Loc nD τ sig) → Buf (Elt Ideal) ℓ) (c : Dev nD) (t : Fin cfg0.N)

/-- What the body of point `t` is given. -/
def ins : Ins where
  v0 := Scalar.subi 7#32 (BitVec.ofNat 32 (grid0.coords t 0).val)
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t

theorem same_1 (X : S8x1024.Idx → Ideal .f32) (w : S1x1024.Idx → Ideal .f32) (inb) :
    View.ld (Val := Elt Ideal) (e' := .f32) (VecWindow.put (α := Ideal .f32) (s := S8x1024) X ![1, 0] ![1, 1024] w) (Rect.unit (s := S8x1024) ![1, 0] ![1, 1024] inb) = w :=
  VecWindow.window_put_same (s := S8x1024) X ![1, 0] ![1, 1024] inb w

theorem same_2 (X : S8x1024.Idx → Ideal .f32) (w : S1x1024.Idx → Ideal .f32) (inb) :
    View.ld (Val := Elt Ideal) (e' := .f32) (VecWindow.put (α := Ideal .f32) (s := S8x1024) X ![2, 0] ![1, 1024] w) (Rect.unit (s := S8x1024) ![2, 0] ![1, 1024] inb) = w :=
  VecWindow.window_put_same (s := S8x1024) X ![2, 0] ![1, 1024] inb w

theorem put_whole {α : Type} {s : Shape} {off : Fin s.rank → ℕ} (h : off = fun _ => 0) (X w : s.Idx → α) : VecWindow.put X off s.size w = w := by
  subst h
  funext y
  unfold VecWindow.put
  rw [dif_pos (fun a => ⟨Nat.zero_le _, by have := (y a).isLt; omega⟩)]
  exact congrArg w (funext fun a => Fin.ext (Nat.sub_zero _))

theorem zeros2 : (![0, 0] : Fin 2 → ℕ) = fun _ => 0 := funext fun a => by fin_cases a <;> rfl
theorem zeros3 : (![0, 0, 0] : Fin 3 → ℕ) = fun _ => 0 := funext fun a => by fin_cases a <;> rfl

theorem read_0 (h : (Memref.whole cc0_scratch0).IsWhole) (X : Vec Ideal S4x128x128 .f32) : View.read (Elt Ideal) (View.whole cc0_scratch0) (h.unread X) = X := h.read_unread X
theorem read_1 (h : (Memref.whole cc0_scratch1).IsWhole) (X : Vec Ideal S8x512 .f32) : View.read (Elt Ideal) (View.whole cc0_scratch1) (h.unread X) = X := h.read_unread X
theorem read_2 (h : (Memref.whole cc0_scratch2).IsWhole) (X : Vec Ideal S16x512 .f32) : View.read (Elt Ideal) (View.whole cc0_scratch2) (h.unread X) = X := h.read_unread X

/-- What the point before left. -/
abbrev prev : Vec Ideal S256x1024 .f32 × Vec Ideal S256x3072 .bf16 × Vec Ideal S256x1024 .bf16 × Vec Ideal S4x128x128 .bf16 × Vec Ideal S8x512 .f32 × Vec Ideal S8x1024 .f32 × Vec Ideal S4x128x128 .f32 × Vec Ideal S8x512 .f32 × Vec Ideal S16x512 .f32 :=
  outsAt0 m c (t.val - 1) (Nat.lt_of_le_of_lt (Nat.sub_le _ _) t.isLt)

/-- What point `t` leaves. -/
abbrev outs := outsAt0 m c t.val t.isLt

theorem A12 (h0 : t.val % 8 = 0) (h1 : ¬t.val % 8 = 7) : (outs m c t).1 = (ins m c t).dx (k0_pay11 (F := Ideal)) (k0_pay12 (F := Ideal)) := by
  unfold outs
  rw [outsAt0_A m c t h0 h1]
  dsimp only
  unfold out0_A_12
  rw [View.read_writes_eq_canon _ _ _ (fun _ => cover0_A_12 ..)]
  unfold kernelRun0_A
  dsimp only
  sl_unfold_words
  simp only [View.readAt_eq_ld, Memref.IsWhole.read_unread, read_0, read_1, read_2, readCov_ld, canon_put, writes_put, View.writes_nil, put_whole (s := S8x512) zeros2, put_whole (s := S8x1024) zeros2, put_whole (s := S16x512) zeros2, put_whole (s := S4x128x128) zeros3]
  refine (put_full2 _ _).trans ?_
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem A13 (h0 : t.val % 8 = 0) (h1 : ¬t.val % 8 = 7) : (outs m c t).2.1 = (ins m c t).dproj (k0_pay11 (F := Ideal)) (k0_pay12 (F := Ideal)) := by
  unfold outs
  rw [outsAt0_A m c t h0 h1]
  dsimp only
  unfold out0_A_13
  rw [View.read_writes_eq_canon _ _ _ (fun _ => cover0_A_13 ..)]
  unfold kernelRun0_A
  dsimp only
  sl_unfold_words
  simp only [View.readAt_eq_ld, Memref.IsWhole.read_unread, read_0, read_1, read_2, readCov_ld, canon_put, writes_put, View.writes_nil, put_whole (s := S8x512) zeros2, put_whole (s := S8x1024) zeros2, put_whole (s := S16x512) zeros2, put_whole (s := S4x128x128) zeros3]
  refine (put_full2 _ _).trans ?_
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem A14 (h0 : t.val % 8 = 0) (h1 : ¬t.val % 8 = 7) : (outs m c t).2.2.1 = (ins m c t).dy := by
  unfold outs
  rw [outsAt0_A m c t h0 h1]
  dsimp only
  unfold out0_A_14
  rw [View.read_writes_eq_canon _ _ _ (fun _ => cover0_A_14 ..)]
  unfold kernelRun0_A
  dsimp only
  sl_unfold_words
  simp only [View.readAt_eq_ld, Memref.IsWhole.read_unread, read_0, read_1, read_2, readCov_ld, canon_put, writes_put, View.writes_nil, put_whole (s := S8x512) zeros2, put_whole (s := S8x1024) zeros2, put_whole (s := S16x512) zeros2, put_whole (s := S4x128x128) zeros3]
  refine (put_full2 _ _).trans ?_
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem A16 (h0 : t.val % 8 = 0) (h1 : ¬t.val % 8 = 7) : (outs m c t).2.2.2.2.1 = (ins m c t).cps (k0_pay9 (F := Ideal)) := by
  unfold outs
  rw [outsAt0_A m c t h0 h1]
  dsimp only
  unfold out0_A_16
  rw [View.read_writes_eq_canon _ _ _ (fun _ => cover0_A_16 ..)]
  unfold kernelRun0_A
  dsimp only
  sl_unfold_words
  simp only [View.readAt_eq_ld, Memref.IsWhole.read_unread, read_0, read_1, read_2, readCov_ld, canon_put, writes_put, View.writes_nil, put_whole (s := S8x512) zeros2, put_whole (s := S8x1024) zeros2, put_whole (s := S16x512) zeros2, put_whole (s := S4x128x128) zeros3]
  simp only [same_1, same_2, ld_put2 _ (show (1 : ℕ) ≠ 0 by decide), ld_put2 _ (show (2 : ℕ) ≠ 0 by decide), ld_put2 _ (show (2 : ℕ) ≠ 1 by decide), ld_put2 _ (show (3 : ℕ) ≠ 0 by decide), ld_put2 _ (show (3 : ℕ) ≠ 1 by decide), ld_put2 _ (show (3 : ℕ) ≠ 2 by decide)]
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem A17 (h0 : t.val % 8 = 0) (h1 : ¬t.val % 8 = 7) : (outs m c t).2.2.2.2.2.1 = (ins m c t).vec (k0_pay11 (F := Ideal)) (k0_pay12 (F := Ideal)) (k0_pay10 (F := Ideal)) := by
  unfold outs
  rw [outsAt0_A m c t h0 h1]
  dsimp only
  unfold out0_A_17
  rw [View.read_writes_eq_canon _ _ _ (fun _ => cover0_A_17 ..)]
  unfold kernelRun0_A
  dsimp only
  sl_unfold_words
  simp only [View.readAt_eq_ld, Memref.IsWhole.read_unread, read_0, read_1, read_2, readCov_ld, canon_put, writes_put, View.writes_nil, put_whole (s := S8x512) zeros2, put_whole (s := S8x1024) zeros2, put_whole (s := S16x512) zeros2, put_whole (s := S4x128x128) zeros3]
  simp only [same_1, same_2, ld_put2 _ (show (0 : ℕ) ≠ 2 by decide), ld_put2 _ (show (1 : ℕ) ≠ 0 by decide), ld_put2 _ (show (1 : ℕ) ≠ 2 by decide)]
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem As0 (h0 : t.val % 8 = 0) (h1 : ¬t.val % 8 = 7) : (outs m c t).2.2.2.2.2.2.1 = (ins m c t).acc (k0_pay8 (F := Ideal)) (k0_pay8 (F := Ideal)) := by
  unfold outs
  rw [outsAt0_A m c t h0 h1]
  dsimp only
  unfold sout0_A_0
  rw [View.read_writes_eq_canon _ _ _ (fun _ => scover0_A_0 ..)]
  unfold kernelRun0_A
  dsimp only
  sl_unfold_words
  simp only [View.readAt_eq_ld, Memref.IsWhole.read_unread, read_0, read_1, read_2, readCov_ld, canon_put, writes_put, View.writes_nil, put_whole (s := S8x512) zeros2, put_whole (s := S8x1024) zeros2, put_whole (s := S16x512) zeros2, put_whole (s := S4x128x128) zeros3]
  simp only [same_1, same_2, ld_put3 _ (show (1 : ℕ) ≠ 0 by decide), ld_put3 _ (show (2 : ℕ) ≠ 0 by decide), ld_put3 _ (show (2 : ℕ) ≠ 1 by decide), ld_put3 _ (show (3 : ℕ) ≠ 0 by decide), ld_put3 _ (show (3 : ℕ) ≠ 1 by decide), ld_put3 _ (show (3 : ℕ) ≠ 2 by decide)]
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem As1 (h0 : t.val % 8 = 0) (h1 : ¬t.val % 8 = 7) : (outs m c t).2.2.2.2.2.2.2.1 = (ins m c t).dcc := by
  unfold outs
  rw [outsAt0_A m c t h0 h1]
  dsimp only
  unfold sout0_A_1
  rw [View.read_writes_eq_canon _ _ _ (fun _ => scover0_A_1 ..)]
  unfold kernelRun0_A
  dsimp only
  sl_unfold_words
  simp only [View.readAt_eq_ld, Memref.IsWhole.read_unread, read_0, read_1, read_2, readCov_ld, canon_put, writes_put, View.writes_nil, put_whole (s := S8x512) zeros2, put_whole (s := S8x1024) zeros2, put_whole (s := S16x512) zeros2, put_whole (s := S4x128x128) zeros3]
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem As2 (h0 : t.val % 8 = 0) (h1 : ¬t.val % 8 = 7) : (outs m c t).2.2.2.2.2.2.2.2 = (ins m c t).qc := by
  unfold outs
  rw [outsAt0_A m c t h0 h1]
  dsimp only
  unfold sout0_A_2
  rw [View.read_writes_eq_canon _ _ _ (fun _ => scover0_A_2 ..)]
  unfold kernelRun0_A
  dsimp only
  sl_unfold_words
  simp only [View.readAt_eq_ld, Memref.IsWhole.read_unread, read_0, read_1, read_2, readCov_ld, canon_put, writes_put, View.writes_nil, put_whole (s := S8x512) zeros2, put_whole (s := S8x1024) zeros2, put_whole (s := S16x512) zeros2, put_whole (s := S4x128x128) zeros3]
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem B12 (h0 : ¬t.val % 8 = 0) (h1 : ¬t.val % 8 = 7) : (outs m c t).1 = (ins m c t).dx (prev m c t).2.2.2.2.2.2.2.1 (prev m c t).2.2.2.2.2.2.2.2 := by
  unfold outs
  rw [outsAt0_B m c t h0 h1]
  dsimp only
  unfold out0_B_12
  rw [View.read_writes_eq_canon _ _ _ (fun _ => cover0_B_12 ..)]
  unfold kernelRun0_B
  dsimp only
  sl_unfold_words
  simp only [View.readAt_eq_ld, Memref.IsWhole.read_unread, read_0, read_1, read_2, readCov_ld, canon_put, writes_put, View.writes_nil]
  refine (put_full2 _ _).trans ?_
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem B13 (h0 : ¬t.val % 8 = 0) (h1 : ¬t.val % 8 = 7) : (outs m c t).2.1 = (ins m c t).dproj (prev m c t).2.2.2.2.2.2.2.1 (prev m c t).2.2.2.2.2.2.2.2 := by
  unfold outs
  rw [outsAt0_B m c t h0 h1]
  dsimp only
  unfold out0_B_13
  rw [View.read_writes_eq_canon _ _ _ (fun _ => cover0_B_13 ..)]
  unfold kernelRun0_B
  dsimp only
  sl_unfold_words
  simp only [View.readAt_eq_ld, Memref.IsWhole.read_unread, read_0, read_1, read_2, readCov_ld, canon_put, writes_put, View.writes_nil]
  refine (put_full2 _ _).trans ?_
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem B14 (h0 : ¬t.val % 8 = 0) (h1 : ¬t.val % 8 = 7) : (outs m c t).2.2.1 = (ins m c t).dy := by
  unfold outs
  rw [outsAt0_B m c t h0 h1]
  dsimp only
  unfold out0_B_14
  rw [View.read_writes_eq_canon _ _ _ (fun _ => cover0_B_14 ..)]
  unfold kernelRun0_B
  dsimp only
  sl_unfold_words
  simp only [View.readAt_eq_ld, Memref.IsWhole.read_unread, read_0, read_1, read_2, readCov_ld, canon_put, writes_put, View.writes_nil]
  refine (put_full2 _ _).trans ?_
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem B16 (h0 : ¬t.val % 8 = 0) (h1 : ¬t.val % 8 = 7) : (outs m c t).2.2.2.2.1 = (ins m c t).cps (prev m c t).2.2.2.2.1 := by
  unfold outs
  rw [outsAt0_B m c t h0 h1]
  dsimp only
  unfold out0_B_16
  unfold kernelRun0_B
  dsimp only
  sl_unfold_words
  simp only [View.readAt_eq_ld, Memref.IsWhole.read_unread, read_0, read_1, read_2, readCov_ld, canon_put, writes_put, View.writes_nil]
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem B17 (h0 : ¬t.val % 8 = 0) (h1 : ¬t.val % 8 = 7) : (outs m c t).2.2.2.2.2.1 = (ins m c t).vec (prev m c t).2.2.2.2.2.2.2.1 (prev m c t).2.2.2.2.2.2.2.2 (prev m c t).2.2.2.2.2.1 := by
  unfold outs
  rw [outsAt0_B m c t h0 h1]
  dsimp only
  unfold out0_B_17
  unfold kernelRun0_B
  dsimp only
  sl_unfold_words
  simp only [View.readAt_eq_ld, Memref.IsWhole.read_unread, read_0, read_1, read_2, readCov_ld, canon_put, writes_put, View.writes_nil]
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem Bs0 (h0 : ¬t.val % 8 = 0) (h1 : ¬t.val % 8 = 7) : (outs m c t).2.2.2.2.2.2.1 = (ins m c t).acc (View.canon []) (prev m c t).2.2.2.2.2.2.1 := by
  unfold outs
  rw [outsAt0_B m c t h0 h1]
  dsimp only
  unfold sout0_B_0
  rw [View.read_writes_eq_canon _ _ _ (fun _ => scover0_B_0 ..)]
  unfold kernelRun0_B
  dsimp only
  sl_unfold_words
  simp only [View.readAt_eq_ld, Memref.IsWhole.read_unread, read_0, read_1, read_2, readCov_ld, canon_put, writes_put, View.writes_nil]
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem Bs1 (h0 : ¬t.val % 8 = 0) (h1 : ¬t.val % 8 = 7) : (outs m c t).2.2.2.2.2.2.2.1 = (ins m c t).dcc := by
  unfold outs
  rw [outsAt0_B m c t h0 h1]
  dsimp only
  unfold sout0_B_1
  rw [View.read_writes_eq_canon _ _ _ (fun _ => scover0_B_1 ..)]
  unfold kernelRun0_B
  dsimp only
  sl_unfold_words
  simp only [View.readAt_eq_ld, Memref.IsWhole.read_unread, read_0, read_1, read_2, readCov_ld, canon_put, writes_put, View.writes_nil]
  refine (put_full2 _ _).trans ?_
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem Bs2 (h0 : ¬t.val % 8 = 0) (h1 : ¬t.val % 8 = 7) : (outs m c t).2.2.2.2.2.2.2.2 = (ins m c t).qc := by
  unfold outs
  rw [outsAt0_B m c t h0 h1]
  dsimp only
  unfold sout0_B_2
  rw [View.read_writes_eq_canon _ _ _ (fun _ => scover0_B_2 ..)]
  unfold kernelRun0_B
  dsimp only
  sl_unfold_words
  simp only [View.readAt_eq_ld, Memref.IsWhole.read_unread, read_0, read_1, read_2, readCov_ld, canon_put, writes_put, View.writes_nil]
  refine (put_full2 _ _).trans ?_
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem C12 (h0 : ¬t.val % 8 = 0) (h1 : t.val % 8 = 7) : (outs m c t).1 = (ins m c t).dx (prev m c t).2.2.2.2.2.2.2.1 (prev m c t).2.2.2.2.2.2.2.2 := by
  unfold outs
  rw [outsAt0_C m c t h0 h1]
  dsimp only
  unfold out0_C_12
  rw [View.read_writes_eq_canon _ _ _ (fun _ => cover0_C_12 ..)]
  unfold kernelRun0_C
  dsimp only
  sl_unfold_words
  simp only [View.readAt_eq_ld, Memref.IsWhole.read_unread, read_0, read_1, read_2, readCov_ld, canon_put, writes_put, View.writes_nil]
  refine (put_full2 _ _).trans ?_
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem C13 (h0 : ¬t.val % 8 = 0) (h1 : t.val % 8 = 7) : (outs m c t).2.1 = (ins m c t).dproj (prev m c t).2.2.2.2.2.2.2.1 (prev m c t).2.2.2.2.2.2.2.2 := by
  unfold outs
  rw [outsAt0_C m c t h0 h1]
  dsimp only
  unfold out0_C_13
  rw [View.read_writes_eq_canon _ _ _ (fun _ => cover0_C_13 ..)]
  unfold kernelRun0_C
  dsimp only
  sl_unfold_words
  simp only [View.readAt_eq_ld, Memref.IsWhole.read_unread, read_0, read_1, read_2, readCov_ld, canon_put, writes_put, View.writes_nil]
  refine (put_full2 _ _).trans ?_
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem C14 (h0 : ¬t.val % 8 = 0) (h1 : t.val % 8 = 7) : (outs m c t).2.2.1 = (ins m c t).dy := by
  unfold outs
  rw [outsAt0_C m c t h0 h1]
  dsimp only
  unfold out0_C_14
  rw [View.read_writes_eq_canon _ _ _ (fun _ => cover0_C_14 ..)]
  unfold kernelRun0_C
  dsimp only
  sl_unfold_words
  simp only [View.readAt_eq_ld, Memref.IsWhole.read_unread, read_0, read_1, read_2, readCov_ld, canon_put, writes_put, View.writes_nil]
  refine (put_full2 _ _).trans ?_
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem C15 (h0 : ¬t.val % 8 = 0) (h1 : t.val % 8 = 7) : (outs m c t).2.2.2.1 = k0_pay1 (View.ld ((ins m c t).acc (View.canon []) (prev m c t).2.2.2.2.2.2.1) (Rect.unit ![0, 0, 0] ![4, 128, 128] inb_S4x128x128_S4x128x128_0_0_0)) := by
  unfold outs
  rw [outsAt0_C m c t h0 h1]
  dsimp only
  unfold out0_C_15
  rw [View.read_writes_eq_canon _ _ _ (fun _ => cover0_C_15 ..)]
  unfold kernelRun0_C
  dsimp only
  sl_unfold_words
  simp only [View.readAt_eq_ld, Memref.IsWhole.read_unread, read_0, read_1, read_2, readCov_ld, canon_put, writes_put, View.writes_nil]
  refine (put_full3 _ _).trans ?_
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem C16 (h0 : ¬t.val % 8 = 0) (h1 : t.val % 8 = 7) : (outs m c t).2.2.2.2.1 = (ins m c t).cps (prev m c t).2.2.2.2.1 := by
  unfold outs
  rw [outsAt0_C m c t h0 h1]
  dsimp only
  unfold out0_C_16
  unfold kernelRun0_C
  dsimp only
  sl_unfold_words
  simp only [View.readAt_eq_ld, Memref.IsWhole.read_unread, read_0, read_1, read_2, readCov_ld, canon_put, writes_put, View.writes_nil]
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

theorem C17 (h0 : ¬t.val % 8 = 0) (h1 : t.val % 8 = 7) : (outs m c t).2.2.2.2.2.1 = (ins m c t).fin (prev m c t).2.2.2.2.2.2.2.1 (prev m c t).2.2.2.2.2.2.2.2 (prev m c t).2.2.2.2.2.1 := by
  unfold outs
  rw [outsAt0_C m c t h0 h1]
  dsimp only
  unfold out0_C_17
  unfold kernelRun0_C
  dsimp only
  sl_unfold_words
  simp only [View.readAt_eq_ld, Memref.IsWhole.read_unread, read_0, read_1, read_2, readCov_ld, canon_put, writes_put, View.writes_nil]
  simp only [same_1, same_2, ld_put2 _ (show (0 : ℕ) ≠ 2 by decide), ld_put2 _ (show (1 : ℕ) ≠ 0 by decide), ld_put2 _ (show (1 : ℕ) ≠ 2 by decide), ld_put2 _ (show (2 : ℕ) ≠ 0 by decide), ld_put2 _ (show (2 : ℕ) ≠ 1 by decide), ld_put2 _ (show (2 : ℕ) ≠ 3 by decide)]
  dsimp only [Ins.sc, Ins.gate, Ins.gpre, Ins.gpost, Ins.tap0, Ins.tap1, Ins.tap2, Ins.dxo, Ins.yb, Ins.y, Ins.ms, Ins.wout, Ins.fa, Ins.uc, Ins.halo, Ins.fp0, Ins.fp1, Ins.fp2, Ins.pooled0, Ins.pooled1, Ins.pooled2, Ins.pooled3, Ins.wp0, Ins.wp1, Ins.wp2, Ins.wp3, Ins.x, Ins.win, Ins.dy, Ins.dyp, Ins.db, Ins.dconv, Ins.dga, Ins.u, Ins.v, Ins.z, Ins.z1, Ins.dz, Ins.dcc, Ins.dm, Ins.dgp, Ins.num, Ins.qc, Ins.dproj, Ins.dx, Ins.acc0, Ins.acc1, Ins.acc2, Ins.acc3, Ins.acc, Ins.cps0, Ins.cps1, Ins.cps2, Ins.cps3, Ins.cps, Ins.vec2, Ins.vec0, Ins.vec1, Ins.vec, Ins.fin, ins]

end Cert.KernelIdeal.Point
-- ==== Proof.After.lean ====
/- What the kernel holds after each grid point, and its six results. -/
module

public import proofs.«01_k».proof.Proof.PointValue
public import proofs.«01_k».proof.Proof.Open
public import proofs.«01_k».proof.Proof.Gen.KernelIdeal.Value

@[expose] public section

set_option maxRecDepth 16384

noncomputable section

namespace Cert.KernelIdeal.Point

open Cert.KernelIdeal Cert.KernelIdeal.Gen Cert.KernelIdeal.Host Cert.KernelIdeal.Tile Idealize.ShloMosaic Idealize.ShloMosaic.TcCoe
open Layer (late soon eps reals sum_real ite_real dite_real)
open Holds (cpsPart vecPart)

/-- A sum over eight tiles, the last tile first, is the sum over all rows. -/
theorem sum_tiles (f : ℕ → ℝ) : ∑ s ∈ Finset.range 8, ∑ k ∈ Finset.range 256, f (tok s + k) = ∑ t ∈ Finset.range 2048, f t := by
  have h : ∀ n, ∑ s ∈ Finset.range n, ∑ k ∈ Finset.range 256, f (256 * s + k) = ∑ t ∈ Finset.range (256 * n), f t := by
    intro n
    induction n with
    | zero => rfl
    | succ n ih => rw [Finset.sum_range_succ, ih, Nat.mul_succ, Finset.sum_range_add]
  refine Eq.trans ?_ (h 8)
  exact Finset.sum_range_reflect (fun s => ∑ k ∈ Finset.range 256, f (256 * s + k)) 8

/-- The last point. -/
def seven : {t : Fin cfg0.N // t.val % 8 = 7} := ⟨⟨7, by decide⟩, rfl⟩
theorem eight (t : Fin cfg0.N) : t.val < 8 := t.isLt
theorem of_lt_eight {n : ℕ} (h : n < 8) : n < cfg0.N := h

theorem zero8 : ∀ g k l, k0_pay8 (F := Ideal) (ix3 g k l) = ((0 : ℝ) : EReal) := by
  intro g k l; pointwise [k0_pay8]; simp only [reals]
theorem zero9 : ∀ r l, k0_pay9 (F := Ideal) (ix2 r l) = ((0 : ℝ) : EReal) := by
  intro r l; pointwise [k0_pay9]; simp only [reals]
theorem zero10 : ∀ r l, k0_pay10 (F := Ideal) (ix2 r l) = ((0 : ℝ) : EReal) := by
  intro r l; pointwise [k0_pay10]; simp only [reals]
theorem zero11 : ∀ r l, k0_pay11 (F := Ideal) (ix2 r l) = ((0 : ℝ) : EReal) := by
  intro r l; pointwise [k0_pay11]; simp only [reals]
theorem zero12 : ∀ r l, k0_pay12 (F := Ideal) (ix2 r l) = ((0 : ℝ) : EReal) := by
  intro r l; pointwise [k0_pay12]; simp only [reals]

theorem word_at : ∀ t : Fin grid0.N, Scalar.subi 7#32 (BitVec.ofNat 32 (grid0.coords t 0).val) = BitVec.ofNat 32 (7 - t.val) := by decide +kernel

variable (m : (ℓ : Loc nD τ sig) → Buf (Elt Ideal) ℓ) (c : Dev nD) {I : Layer.Args} (H : Reads (fun b => m (c, b)) I)

include H

set_option maxHeartbeats 2000000 in
/-- Every point's blocks hold its tile's numbers. -/
theorem holds (t : Fin cfg0.N) : Holds (ins m c t) I (tok t.val) (7 - t.val) where
  lt := by omega
  eq := by unfold tok; rfl
  v0 := by unfold ins; exact word_at t
  x0 := by unfold ins; exact in0 m c H t
  x1 := by unfold ins; exact in1 m c H t
  x2 := by unfold ins; exact in2 m c H t
  x3 := by unfold ins; exact in3 m c H t
  x4 := fun h => by unfold ins; exact in4 m c H t (by omega)
  x5 := by unfold ins; exact in5 m c H t
  x6 := by unfold ins; exact in6 m c H t
  x7 := by unfold ins; exact in7 m c H t
  x8 := by unfold ins; exact in8 m c H t
  x9 := by unfold ins; exact in9 m c H t
  x10 := by unfold ins; exact in10 m c H t
  x11 := by unfold ins; exact in11 m c H t

omit H

/-- What is carried from point `t` to the next one. -/
structure Carried (I : Layer.Args) (t : Fin cfg0.N) : Prop where
  cps : ∀ r l, (outs m c t).2.2.2.2.1 (ix2 r l) = ((∑ s ∈ Finset.range (t.val + 1), cpsPart I (tok s) r.val l.val : ℝ) : EReal)
  vec : ∀ r l, (outs m c t).2.2.2.2.2.1 (ix2 r l) = ((∑ s ∈ Finset.range (t.val + 1), vecPart I (tok s) r.val l.val : ℝ) : EReal)
  acc : ∀ g k l, (outs m c t).2.2.2.2.2.2.1 (ix3 g k l) = ((∑ s ∈ Finset.range (t.val + 1),
    ∑ u ∈ Finset.range 256, I.pooled g.val (tok s + u) k.val * I.dmixed (tok s + u) (128 * g.val + l.val) : ℝ) : EReal)
  dcc : ∀ r l, (outs m c t).2.2.2.2.2.2.2.1 (ix2 r l) = ((I.dconv l.val (tok t.val + r.val) : ℝ) : EReal)
  qc : ∀ r l, (outs m c t).2.2.2.2.2.2.2.2 (ix2 r l) = ((I.q (l.val / 128) (l.val % 128) (tok t.val + r.val) : ℝ) : EReal)

/-- Rows past the last token are zeros. -/
theorem past (f : ℕ → ℝ) (t r : ℕ) (h : t % 8 = 0) (ht : t < 8) : soon f 0 (tok t + (256 + r)) = 0 := by
  unfold soon tok
  rw [if_neg (by omega)]

/-- The rows carried from the point before are the next tile's first ones. -/
theorem following (f : ℕ → ℝ) (t r : ℕ) (h : ¬ t % 8 = 0) (ht : t < 8) (hr : r < 256) : f (tok (t - 1) + r) = soon f 0 (tok t + (256 + r)) := by
  unfold soon tok
  rw [if_pos (by omega)]
  congr 1
  omega

section
variable (t : Fin cfg0.N) (h0 : ¬ t.val % 8 = 0)

/-- The point before. -/
def pred : Fin cfg0.N := ⟨t.val - 1, by have := t.isLt; omega⟩

variable {m c} (P : Carried m c I (pred t))
include P h0

theorem prev_dcc : ∀ r l, (prev m c t).2.2.2.2.2.2.2.1 (ix2 r l) = ((soon (I.dconv l.val) 0 (tok t.val + (256 + r.val)) : ℝ) : EReal) :=
  fun r l => (P.dcc r l).trans (congrArg Real.toEReal (following (I.dconv l.val) t.val r.val h0 t.isLt (by have := r.isLt; omega)))

theorem prev_qc : ∀ r l, (prev m c t).2.2.2.2.2.2.2.2 (ix2 r l) = ((soon (I.q (l.val / 128) (l.val % 128)) 0 (tok t.val + (256 + r.val)) : ℝ) : EReal) :=
  fun r l => (P.qc r l).trans (congrArg Real.toEReal (following (I.q (l.val / 128) (l.val % 128)) t.val r.val h0 t.isLt (by have := r.isLt; omega)))

theorem prev_cps : ∀ r l, (prev m c t).2.2.2.2.1 (ix2 r l) = ((∑ s ∈ Finset.range t.val, cpsPart I (tok s) r.val l.val : ℝ) : EReal) := by
  intro r l
  refine (P.cps r l).trans ?_
  show ((∑ s ∈ Finset.range (t.val - 1 + 1), _ : ℝ) : EReal) = _
  rw [Nat.sub_add_cancel (by omega)]

theorem prev_vec : ∀ r l, (prev m c t).2.2.2.2.2.1 (ix2 r l) = ((∑ s ∈ Finset.range t.val, vecPart I (tok s) r.val l.val : ℝ) : EReal) := by
  intro r l
  refine (P.vec r l).trans ?_
  show ((∑ s ∈ Finset.range (t.val - 1 + 1), _ : ℝ) : EReal) = _
  rw [Nat.sub_add_cancel (by omega)]

theorem prev_acc : ∀ g k l, (prev m c t).2.2.2.2.2.2.1 (ix3 g k l) = ((∑ s ∈ Finset.range t.val,
    ∑ u ∈ Finset.range 256, I.pooled g.val (tok s + u) k.val * I.dmixed (tok s + u) (128 * g.val + l.val) : ℝ) : EReal) := by
  intro g k l
  refine (P.acc g k l).trans ?_
  show ((∑ s ∈ Finset.range (t.val - 1 + 1), _ : ℝ) : EReal) = _
  rw [Nat.sub_add_cancel (by omega)]
end

include H

theorem first_dcc (t : Fin cfg0.N) (h0 : t.val % 8 = 0) : ∀ r l, k0_pay11 (F := Ideal) (ix2 r l) = ((soon (I.dconv l.val) 0 (tok t.val + (256 + r.val)) : ℝ) : EReal) := by
  intro r l
  rw [past _ _ _ h0 t.isLt]
  exact zero11 r l

theorem first_qc (t : Fin cfg0.N) (h0 : t.val % 8 = 0) : ∀ r l, k0_pay12 (F := Ideal) (ix2 r l) = ((soon (I.q (l.val / 128) (l.val % 128)) 0 (tok t.val + (256 + r.val)) : ℝ) : EReal) := by
  intro r l
  rw [past _ _ _ h0 t.isLt]
  exact zero12 r l

/-- The first point leaves its own tile's parts. -/
theorem carried_first (t : Fin cfg0.N) (h0 : t.val % 8 = 0) : Carried m c I t := by
  have h1 : ¬ t.val % 8 = 7 := by omega
  have e : t.val = 0 := by have := eight t; omega
  have D := holds m c H t
  refine ⟨?_, ?_, ?_, ?_, ?_⟩
  · intro r l
    rw [A16 m c t h0 h1]
    refine (D.cps (f := fun _ _ => 0) zero9 r l).trans ?_
    rw [e, Finset.sum_range_one, zero_add]
  · intro r l
    rw [A17 m c t h0 h1]
    refine (D.vec (first_dcc m c H t h0) (first_qc m c H t h0) (f := fun _ _ => 0) zero10 r l).trans ?_
    rw [e, Finset.sum_range_one, zero_add]
  · intro g k l
    rw [As0 m c t h0 h1]
    refine (D.acc (f := fun _ _ _ => 0) zero8 g k l).trans ?_
    rw [e, Finset.sum_range_one, zero_add]
  · rw [As1 m c t h0 h1]; exact D.dcc
  · rw [As2 m c t h0 h1]; exact D.qc

/-- A later point adds its own tile's parts. -/
theorem carried_next (t : Fin cfg0.N) (h0 : ¬ t.val % 8 = 0) (h1 : ¬ t.val % 8 = 7) (P : Carried m c I (pred t)) : Carried m c I t := by
  have D := holds m c H t
  refine ⟨?_, ?_, ?_, ?_, ?_⟩
  · intro r l
    rw [B16 m c t h0 h1]
    refine (D.cps (f := fun r l => ∑ s ∈ Finset.range t.val, cpsPart I (tok s) r l) (prev_cps t h0 P) r l).trans ?_
    rw [Finset.sum_range_succ]
  · intro r l
    rw [B17 m c t h0 h1]
    refine (D.vec (prev_dcc t h0 P) (prev_qc t h0 P) (f := fun r l => ∑ s ∈ Finset.range t.val, vecPart I (tok s) r l) (prev_vec t h0 P) r l).trans ?_
    rw [Finset.sum_range_succ]
  · intro g k l
    rw [Bs0 m c t h0 h1]
    refine (D.acc (f := fun g k l => ∑ s ∈ Finset.range t.val, ∑ u ∈ Finset.range 256, I.pooled g (tok s + u) k * I.dmixed (tok s + u) (128 * g + l))
      (prev_acc t h0 P) g k l).trans ?_
    rw [Finset.sum_range_succ (n := t.val)]
  · rw [Bs1 m c t h0 h1]; exact D.dcc
  · rw [Bs2 m c t h0 h1]; exact D.qc

/-- What every point but the last leaves. -/
theorem carried : ∀ (k : ℕ) (h : k < cfg0.N), k < 7 → Carried m c I ⟨k, h⟩
  | 0, h, _ => carried_first m c H ⟨0, h⟩ rfl
  | k + 1, h, h7 => carried_next m c H ⟨k + 1, h⟩ (by dsimp only; omega) (by dsimp only; omega) (carried k (Nat.lt_of_succ_lt h) (by omega))

theorem carried_pred (t : Fin cfg0.N) (h0 : ¬ t.val % 8 = 0) : Carried m c I (pred t) :=
  carried m c H (t.val - 1) _ (by have := eight t; omega)

/-! ## The rows each point writes -/

theorem out_dx (t : Fin cfg0.N) : ∀ r l, (outs m c t).1 (ix2 r l) = ((I.dx (tok t.val + r.val) l.val : ℝ) : EReal) := by
  have D := holds m c H t
  by_cases h0 : t.val % 8 = 0
  · rw [A12 m c t h0 (by omega)]; exact D.dx (first_dcc m c H t h0) (first_qc m c H t h0)
  have P := carried_pred m c H t h0
  by_cases h1 : t.val % 8 = 7
  · rw [C12 m c t h0 h1]; exact D.dx (prev_dcc t h0 P) (prev_qc t h0 P)
  · rw [B12 m c t h0 h1]; exact D.dx (prev_dcc t h0 P) (prev_qc t h0 P)

theorem out_dproj (t : Fin cfg0.N) : ∀ r l, (outs m c t).2.1 (ix2 r l) = ((I.dproj (tok t.val + r.val) l.val : ℝ) : EReal) := by
  have D := holds m c H t
  by_cases h0 : t.val % 8 = 0
  · rw [A13 m c t h0 (by omega)]; exact D.dproj (first_dcc m c H t h0) (first_qc m c H t h0)
  have P := carried_pred m c H t h0
  by_cases h1 : t.val % 8 = 7
  · rw [C13 m c t h0 h1]; exact D.dproj (prev_dcc t h0 P) (prev_qc t h0 P)
  · rw [B13 m c t h0 h1]; exact D.dproj (prev_dcc t h0 P) (prev_qc t h0 P)

theorem out_dy (t : Fin cfg0.N) : ∀ r l, (outs m c t).2.2.1 (ix2 r l) = ((I.dy (tok t.val + r.val) l.val : ℝ) : EReal) := by
  have D := holds m c H t
  by_cases h0 : t.val % 8 = 0
  · rw [A14 m c t h0 (by omega)]; exact D.dy
  by_cases h1 : t.val % 8 = 7
  · rw [C14 m c t h0 h1]; exact D.dy
  · rw [B14 m c t h0 h1]; exact D.dy

/-! ## The sums the last point writes -/

section
variable (t : Fin cfg0.N) (h1 : t.val % 8 = 7)
include h1

theorem out_dwpool : ∀ g k l, (outs m c t).2.2.2.1 (ix3 g k l) = ((I.dwpool g.val k.val l.val : ℝ) : EReal) := by
  have h0 : ¬ t.val % 8 = 0 := by omega
  have e : t.val = 7 := by have := eight t; omega
  have D := holds m c H t
  have P := carried_pred m c H t h0
  rw [C15 m c t h0 h1]
  refine p1 (f := I.dwpool) fun g k l => (ld3 _ 0 0 0 _ g k l).trans ((D.acc (f := fun g k l => ∑ s ∈ Finset.range t.val,
    ∑ u ∈ Finset.range 256, I.pooled g (tok s + u) k * I.dmixed (tok s + u) (128 * g + l)) (prev_acc t h0 P) _ _ _).trans ?_)
  refine congrArg Real.toEReal ?_
  simp only [Nat.zero_add]
  rw [← Finset.sum_range_succ (fun s => ∑ u ∈ Finset.range 256, I.pooled g.val (tok s + u) k.val * I.dmixed (tok s + u) (128 * g.val + l.val)), e]
  exact sum_tiles fun t => I.pooled g.val t k.val * I.dmixed t (128 * g.val + l.val)

theorem out_dcps : ∀ r l, (outs m c t).2.2.2.2.1 (ix2 r l) = ((I.dcps r.val l.val : ℝ) : EReal) := by
  have h0 : ¬ t.val % 8 = 0 := by omega
  have e : t.val = 7 := by have := eight t; omega
  have D := holds m c H t
  have P := carried_pred m c H t h0
  intro r l
  rw [C16 m c t h0 h1]
  refine (D.cps (f := fun r l => ∑ s ∈ Finset.range t.val, cpsPart I (tok s) r l) (prev_cps t h0 P) r l).trans ?_
  refine congrArg Real.toEReal ?_
  rw [← Finset.sum_range_succ (fun s => cpsPart I (tok s) r.val l.val), e]
  unfold cpsPart Layer.Args.dcps Layer.Args.dwc Layer.Args.dps
  split_ifs
  · exact sum_tiles fun t => I.dconv l.val t * late (I.z l.val) (2 - r.val) t
  · exact sum_tiles fun t => I.dycat t (512 + l.val) * (I.silup t l.val * I.mixed t l.val)
  · exact Finset.sum_const_zero

omit H h1 in
theorem vec_sums (r l : ℕ) : ∑ s ∈ Finset.range 8, vecPart I (tok s) r l
    = if r = 0 then I.sumdh l else if r = 1 then I.sumdhx l else if r = 2 then I.sumdy l else 0 := by
  unfold vecPart Layer.Args.sumdh Layer.Args.sumdhx Layer.Args.sumdy
  split_ifs
  · exact sum_tiles fun t => I.dh t l
  · exact sum_tiles fun t => I.dh t l * I.xn t l
  · exact sum_tiles fun t => I.dxo t l * I.yh t l
  · exact Finset.sum_const_zero

theorem out_dvec : ∀ r l, (outs m c t).2.2.2.2.2.1 (ix2 r l) = ((I.dvec r.val l.val : ℝ) : EReal) := by
  have h0 : ¬ t.val % 8 = 0 := by omega
  have e : t.val = 7 := by have := eight t; omega
  have D := holds m c H t
  have P := carried_pred m c H t h0
  intro r l
  rw [C17 m c t h0 h1]
  refine (D.fin (prev_dcc t h0 P) (prev_qc t h0 P) (f := fun r l => ∑ s ∈ Finset.range t.val, vecPart I (tok s) r l) (prev_vec t h0 P) ?_ r l).trans ?_
  · intro l
    constructor <;> exact Finset.sum_eq_zero fun s _ => rfl
  refine congrArg Real.toEReal ?_
  have hs : ∀ r, (∑ s ∈ Finset.range t.val, vecPart I (tok s) r l.val) + vecPart I (tok t.val) r l.val
      = if r = 0 then I.sumdh l.val else if r = 1 then I.sumdhx l.val else if r = 2 then I.sumdy l.val else 0 := by
    intro r
    rw [← Finset.sum_range_succ (fun s => vecPart I (tok s) r l.val), e]
    exact vec_sums r l.val
  simp only [hs]
  unfold Layer.Args.dvec
  split_ifs <;> first | rfl | omega | simp_all
end

/-! ## The six arrays -/

omit H in
/-- The blocks' numbers: the last tile first. -/
theorem rows12 : ∀ t : Fin grid0.N, win0_12.index t 0 = 7 - t.val := by decide +kernel
omit H in
theorem rows13 : ∀ t : Fin grid0.N, win0_13.index t 0 = 7 - t.val := by decide +kernel
omit H in
theorem rows14 : ∀ t : Fin grid0.N, win0_14.index t 0 = 7 - t.val := by decide +kernel
omit H in
theorem last_one {t t' : Fin cfg0.N} (h : t.val % 8 = 7) (h' : t'.val % 8 = 7) : t = t' := by
  have := eight t; have := eight t'
  exact Fin.ext (by omega)

theorem arr_dx (i : Fin 2048) (l : Fin 1024) : (dats m 0 c).arrAt 12 cfg0.N (ix2 i l) = ((I.dx i.val l.val : ℝ) : EReal) := by
  have hi := i.isLt
  have ht : 7 - i.val / 256 < cfg0.N := of_lt_eight (by omega)
  have hr : i.val % 256 < 256 := Nat.mod_lt _ (by decide)
  have e : tok (7 - i.val / 256) + i.val % 256 = i.val := by unfold tok; omega
  have B := congrFun (Value.blocks12 m c ⟨7 - i.val / 256, ht⟩ (flush0_12 _)) (ix2 ⟨i.val % 256, hr⟩ l)
  rw [Value.flushed12] at B
  rw [View.read_apply] at B
  refine Eq.trans ?_ (B.trans ((out_dx m c H ⟨7 - i.val / 256, ht⟩ ⟨i.val % 256, hr⟩ l).trans ?_))
  · show (dats m 0 c).arrAt 12 cfg0.N _ = (dats m 0 c).arrAt 12 cfg0.N _
    congr 1
    funext a
    apply Fin.ext
    match a with
    | ⟨0, _⟩ =>
      show i.val = win0_12.index ⟨7 - i.val / 256, ht⟩ 0 * 256 + 1 * (i.val % 256)
      rw [rows12 ⟨7 - i.val / 256, ht⟩]; show i.val = (7 - (7 - i.val / 256)) * 256 + 1 * (i.val % 256); omega
    | ⟨1, _⟩ => show l.val = 0 * 1024 + 1 * l.val; omega
  · exact congrArg (fun n => ((I.dx n l.val : ℝ) : EReal)) e

theorem arr_dproj (i : Fin 2048) (l : Fin 3072) : (dats m 0 c).arrAt 13 cfg0.N (ix2 i l) = ((I.dproj i.val l.val : ℝ) : EReal) := by
  have hi := i.isLt
  have ht : 7 - i.val / 256 < cfg0.N := of_lt_eight (by omega)
  have hr : i.val % 256 < 256 := Nat.mod_lt _ (by decide)
  have e : tok (7 - i.val / 256) + i.val % 256 = i.val := by unfold tok; omega
  have B := congrFun (Value.blocks13 m c ⟨7 - i.val / 256, ht⟩ (flush0_13 _)) (ix2 ⟨i.val % 256, hr⟩ l)
  rw [Value.flushed13] at B
  rw [View.read_apply] at B
  refine Eq.trans ?_ (B.trans ((out_dproj m c H ⟨7 - i.val / 256, ht⟩ ⟨i.val % 256, hr⟩ l).trans ?_))
  · show (dats m 0 c).arrAt 13 cfg0.N _ = (dats m 0 c).arrAt 13 cfg0.N _
    congr 1
    funext a
    apply Fin.ext
    match a with
    | ⟨0, _⟩ =>
      show i.val = win0_13.index ⟨7 - i.val / 256, ht⟩ 0 * 256 + 1 * (i.val % 256)
      rw [rows13 ⟨7 - i.val / 256, ht⟩]; show i.val = (7 - (7 - i.val / 256)) * 256 + 1 * (i.val % 256); omega
    | ⟨1, _⟩ => show l.val = 0 * 3072 + 1 * l.val; omega
  · exact congrArg (fun n => ((I.dproj n l.val : ℝ) : EReal)) e

theorem arr_dy (i : Fin 2048) (l : Fin 1024) : (dats m 0 c).arrAt 14 cfg0.N (ix2 i l) = ((I.dy i.val l.val : ℝ) : EReal) := by
  have hi := i.isLt
  have ht : 7 - i.val / 256 < cfg0.N := of_lt_eight (by omega)
  have hr : i.val % 256 < 256 := Nat.mod_lt _ (by decide)
  have e : tok (7 - i.val / 256) + i.val % 256 = i.val := by unfold tok; omega
  have B := congrFun (Value.blocks14 m c ⟨7 - i.val / 256, ht⟩ (flush0_14 _)) (ix2 ⟨i.val % 256, hr⟩ l)
  rw [Value.flushed14] at B
  rw [View.read_apply] at B
  refine Eq.trans ?_ (B.trans ((out_dy m c H ⟨7 - i.val / 256, ht⟩ ⟨i.val % 256, hr⟩ l).trans ?_))
  · show (dats m 0 c).arrAt 14 cfg0.N _ = (dats m 0 c).arrAt 14 cfg0.N _
    congr 1
    funext a
    apply Fin.ext
    match a with
    | ⟨0, _⟩ =>
      show i.val = win0_14.index ⟨7 - i.val / 256, ht⟩ 0 * 256 + 1 * (i.val % 256)
      rw [rows14 ⟨7 - i.val / 256, ht⟩]; show i.val = (7 - (7 - i.val / 256)) * 256 + 1 * (i.val % 256); omega
    | ⟨1, _⟩ => show l.val = 0 * 1024 + 1 * l.val; omega
  · exact congrArg (fun n => ((I.dy n l.val : ℝ) : EReal)) e

theorem last_dwpool (t : Fin cfg0.N) (h7 : t.val % 8 = 7) (g : Fin 4) (k l : Fin 128) : (dats m 0 c).arrAt 15 cfg0.N (ix3 g k l) = ((I.dwpool g.val k.val l.val : ℝ) : EReal) := by
  have B := congrFun ((dats m 0 c).read_blk_arrAt_eq_flushed 15 (fun t t' h h' hne => absurd (last_one (flush0_15 t |>.mp h) (flush0_15 t' |>.mp h')) hne)
    cfg0.N t t.isLt ((flush0_15 t).mpr h7)) (ix3 g k l)
  rw [Value.flushed15] at B
  rw [View.read_apply] at B
  refine Eq.trans ?_ (B.trans (out_dwpool m c H t h7 g k l))
  · show (dats m 0 c).arrAt 15 cfg0.N _ = (dats m 0 c).arrAt 15 cfg0.N _
    congr 1
    funext a
    apply Fin.ext
    match a with
    | ⟨0, _⟩ => show g.val = 0 * 4 + 1 * g.val; omega
    | ⟨1, _⟩ => show k.val = 0 * 128 + 1 * k.val; omega
    | ⟨2, _⟩ => show l.val = 0 * 128 + 1 * l.val; omega

theorem arr_dwpool (g : Fin 4) (k l : Fin 128) : (dats m 0 c).arrAt 15 cfg0.N (ix3 g k l) = ((I.dwpool g.val k.val l.val : ℝ) : EReal) :=
  last_dwpool m c H seven.1 seven.2 g k l

theorem last_dcps (t : Fin cfg0.N) (h7 : t.val % 8 = 7) (r : Fin 8) (l : Fin 512) : (dats m 0 c).arrAt 16 cfg0.N (ix2 r l) = ((I.dcps r.val l.val : ℝ) : EReal) := by
  have B := congrFun ((dats m 0 c).read_blk_arrAt_eq_flushed 16 (fun t t' h h' hne => absurd (last_one (flush0_16 t |>.mp h) (flush0_16 t' |>.mp h')) hne)
    cfg0.N t t.isLt ((flush0_16 t).mpr h7)) (ix2 r l)
  rw [Value.flushed16] at B
  rw [View.read_apply] at B
  refine Eq.trans ?_ (B.trans (out_dcps m c H t h7 r l))
  · show (dats m 0 c).arrAt 16 cfg0.N _ = (dats m 0 c).arrAt 16 cfg0.N _
    congr 1
    funext a
    apply Fin.ext
    match a with
    | ⟨0, _⟩ => show r.val = 0 * 8 + 1 * r.val; omega
    | ⟨1, _⟩ => show l.val = 0 * 512 + 1 * l.val; omega

theorem arr_dcps (r : Fin 8) (l : Fin 512) : (dats m 0 c).arrAt 16 cfg0.N (ix2 r l) = ((I.dcps r.val l.val : ℝ) : EReal) :=
  last_dcps m c H seven.1 seven.2 r l

theorem last_dvec (t : Fin cfg0.N) (h7 : t.val % 8 = 7) (r : Fin 8) (l : Fin 1024) : (dats m 0 c).arrAt 17 cfg0.N (ix2 r l) = ((I.dvec r.val l.val : ℝ) : EReal) := by
  have B := congrFun ((dats m 0 c).read_blk_arrAt_eq_flushed 17 (fun t t' h h' hne => absurd (last_one (flush0_17 t |>.mp h) (flush0_17 t' |>.mp h')) hne)
    cfg0.N t t.isLt ((flush0_17 t).mpr h7)) (ix2 r l)
  rw [Value.flushed17] at B
  rw [View.read_apply] at B
  refine Eq.trans ?_ (B.trans (out_dvec m c H t h7 r l))
  · show (dats m 0 c).arrAt 17 cfg0.N _ = (dats m 0 c).arrAt 17 cfg0.N _
    congr 1
    funext a
    apply Fin.ext
    match a with
    | ⟨0, _⟩ => show r.val = 0 * 8 + 1 * r.val; omega
    | ⟨1, _⟩ => show l.val = 0 * 1024 + 1 * l.val; omega

theorem arr_dvec (r : Fin 8) (l : Fin 1024) : (dats m 0 c).arrAt 17 cfg0.N (ix2 r l) = ((I.dvec r.val l.val : ℝ) : EReal) :=
  last_dvec m c H seven.1 seven.2 r l

end Cert.KernelIdeal.Point
-- ==== Proof.FwdSpec.lean ====
/- The results of the forward call as reals: the last layer's output against a target, which is the tenth argument here. -/
module

public import proofs.«01_k».proof.Proof.Host

@[expose] public section

set_option maxRecDepth 16384

noncomputable section

namespace Layer

open Finset Idealize.ShloMosaic

/-- The layer's output less the target. -/
def Args.err (I : Args) (t l : ℕ) : ℝ := I.x t l + I.gate l * (I.y t l * I.ry t * I.gpost 3 l) - I.dxo t l

/-- The part of the loss that the tokens before `n` make. -/
def Args.lossTo (I : Args) (n : ℕ) : ℝ := ∑ t ∈ range n, (∑ l ∈ range 1024, I.err t l * I.err t l) * (1 / 2048)

/-- The saved `u` and `c`, side by side. -/
def Args.ucRow (I : Args) (t c : ℕ) : ℝ := if c < 512 then I.proj t c else I.proj t (512 + c)

theorem c_inv2048 : Ideal.ofBits .f32 0x3A000000#32 = ((1 / 2048 : ℝ) : EReal) := by
  simp [Ideal.ofBits, Ideal.ieee, -EReal.coe_mul]; norm_num

end Layer
-- ==== Proof.FwdTile.lean ====
/- The forward kernel's body at one tile of 512 rows, value by value, as the reals of `Layer.Args`: row `r` of the tile is
   token `n + r`. -/
module

public import proofs.«01_k».proof.Proof.Gen.ForwardIdeal.Skeleton
public import proofs.«01_k».proof.Proof.FwdSpec

@[expose] public section

set_option maxRecDepth 16384

noncomputable section

namespace Cert.ForwardIdeal.Tile

open Cert.ForwardIdeal Cert.ForwardIdeal.Gen Idealize.ShloMosaic Idealize.ShloMosaic.TcCoe
open Layer (late msq rms sgm cnt wdw eps reals sum_real)
open Cert.KernelIdeal.Host (faRow fpRow vecRow cpsRow)

/-! The window's sum of the rows up to a row, by doubling. -/

/-- Rows of 528, the rotated rows added to them. -/
def turn (b : BitVec 32) (x : FVec Ideal S528x128 .f32) : FVec Ideal S528x128 .f32 :=
  addf x (dynamicRotate 0 b none x rotates_S528x128_d0)

theorem turn_sum (k : ℕ) (b : BitVec 32) (hk : 0 < k) (h : ∀ (x : FVec Ideal S528x128 .f32) r c, turn b x (ix2 r c) = x (ix2 r c) + x (ix2 ⟨(r.val + 528 - k) % 528, by omega⟩ c))
    {u : ℕ → ℕ → ℝ} {x : FVec Ideal S528x128 .f32}
    (hx : ∀ r c, k ≤ r.val + 1 → x (ix2 r c) = ((∑ i ∈ Finset.range k, u c.val (r.val - i) : ℝ) : EReal)) :
    ∀ r c, k + k ≤ r.val + 1 → turn b x (ix2 r c) = ((∑ i ∈ Finset.range (k + k), u c.val (r.val - i) : ℝ) : EReal) := by
  intro r c hr
  have e : (r.val + 528 - k) % 528 = r.val - k := by omega
  rw [h, hx _ _ (by omega), hx _ _ (by simp only [e]; omega), Layer.add_real, Finset.sum_range_add _ k k]
  refine congrArg Real.toEReal (congrArg (_ + ·) (Finset.sum_congr rfl fun i _ => ?_))
  show u c.val ((r.val + 528 - k) % 528 - i) = _
  rw [e, Nat.sub_sub]

theorem turn_1 (x r c) : turn 1#32 x (ix2 r c) = x (ix2 r c) + x (ix2 ⟨(r.val + 528 - 1) % 528, by omega⟩ c) := by
  pointwise [turn]

theorem turn_2 (x r c) : turn 2#32 x (ix2 r c) = x (ix2 r c) + x (ix2 ⟨(r.val + 528 - 2) % 528, by omega⟩ c) := by
  pointwise [turn]

theorem turn_4 (x r c) : turn 4#32 x (ix2 r c) = x (ix2 r c) + x (ix2 ⟨(r.val + 528 - 4) % 528, by omega⟩ c) := by
  pointwise [turn]

theorem turn_8 (x r c) : turn 8#32 x (ix2 r c) = x (ix2 r c) + x (ix2 ⟨(r.val + 528 - 8) % 528, by omega⟩ c) := by
  pointwise [turn]

variable {I : Layer.Args} {n : ℕ}

/-! ## The norm, the modulation and the projection -/

theorem p15 {v3 : Vec Ideal S512x1024 .f32} (h3 : ∀ r l, v3 (ix2 r l) = ((I.x (n + r.val) l.val : ℝ) : EReal)) :
    ∀ r, k0_pay15 v3 (ix2 r 0) = ((∑ k ∈ Finset.range 1024, I.x (n + r.val) k * I.x (n + r.val) k : ℝ) : EReal) := by
  intro r
  pointwise [k0_pay15]
  simp only [h3, reals, sum_real, Finset.sum_range]

variable {w : Ideal .f32} (hw : w = ((1024 : ℝ) : EReal))
  {v3 : Vec Ideal S512x1024 .f32} (h3 : ∀ r l, v3 (ix2 r l) = ((I.x (n + r.val) l.val : ℝ) : EReal))
  {v5 v7 v11 : FVec Ideal S1x1024 .f32} (h5 : ∀ l, v5 (ix2 0 l) = ((I.sh l.val : ℝ) : EReal))
  (h7 : ∀ l, v7 (ix2 0 l) = ((I.sc l.val : ℝ) : EReal)) (h11 : ∀ l, v11 (ix2 0 l) = ((I.gpre 3 l.val : ℝ) : EReal))
  {v24 : FVec Ideal S512x1 .f32}
  (h24 : ∀ r, v24 (ix2 r 0) = ((∑ k ∈ Finset.range 1024, I.x (n + r.val) k * I.x (n + r.val) k : ℝ) : EReal))
  {v43 : Vec Ideal S1024x3072 .bf16} (h43 : ∀ k c, v43 (ix2 k c) = ((I.win k.val c.val : ℝ) : EReal))

/-- The reciprocal root of a row's mean square. -/
theorem root (f : ℕ → ℝ) :
    Ideal.rsqrt (((∑ k ∈ Finset.range 1024, f k * f k) / 1024 + eps : ℝ) : EReal) = ((rms f : ℝ) : EReal) := Layer.rms_real f

include hw h3 h5 h7 h11 h24 in
theorem p16 : ∀ r l, k0_pay16 v3 v5 v7 v11 v24 w (ix2 r l) = ((I.h (n + r.val) l.val : ℝ) : EReal) := by
  intro r l
  pointwise [k0_pay16]
  simp only [h3, h5, h7, h11, h24, hw, reals, root]
  rfl

include hw h3 h5 h7 h11 h24 in
theorem p17 : ∀ r l, k0_pay17 v3 v5 v7 v11 v24 w (ix2 r l) = ((I.h (n + r.val) l.val : ℝ) : EReal) := by
  intro r l
  pointwise [k0_pay17]
  exact p16 hw h3 h5 h7 h11 h24 r l

include hw h3 h5 h7 h11 h24 h43 in
theorem p18 : ∀ r c, k0_pay18 v3 v5 v7 v11 v24 w v43 (ix2 r c) = ((I.proj (n + r.val) c.val : ℝ) : EReal) := by
  intro r c
  pointwise [k0_pay18]
  simp only [p16 hw h3 h5 h7 h11 h24, h43, reals, sum_real, Layer.Args.proj, Finset.sum_range]

include hw h3 h5 h7 h11 h24 h43 in
theorem p19 : ∀ r c, k0_pay19 v3 v5 v7 v11 v24 w v43 (ix2 r c) = ((I.proj (n + r.val) c.val : ℝ) : EReal) := by
  intro r c
  pointwise [k0_pay19]
  exact p18 hw h3 h5 h7 h11 h24 h43 _ _

include hw h3 h5 h7 h11 h24 h43 in
theorem p20 : ∀ r c, k0_pay20 v3 v5 v7 v11 v24 w v43 (ix2 r c) = ((I.proj (n + r.val) (512 + c.val) : ℝ) : EReal) := by
  intro r c
  pointwise [k0_pay20]
  exact p18 hw h3 h5 h7 h11 h24 h43 _ _

include hw h3 h5 h7 h11 h24 h43 in
theorem p21 : ∀ r c, k0_pay21 v3 v5 v7 v11 v24 w v43 (ix2 r c) = ((I.proj (n + r.val) (1024 + c.val) : ℝ) : EReal) := by
  intro r c
  pointwise [k0_pay21]
  exact p18 hw h3 h5 h7 h11 h24 h43 _ _

include hw h3 h5 h7 h11 h24 h43 in
theorem p22 : ∀ r c, k0_pay22 v3 v5 v7 v11 v24 w v43 (ix2 r c) = ((I.ga (n + r.val) c.val : ℝ) : EReal) := by
  intro r c
  pointwise [k0_pay22]
  exact p18 hw h3 h5 h7 h11 h24 h43 _ _

include hw h3 h5 h7 h11 h24 h43 in
theorem p23 : ∀ r c, k0_pay23 v3 v5 v7 v11 v24 w v43 (ix2 r c) = ((I.proj (n + r.val) (2048 + c.val) : ℝ) : EReal) := by
  intro r c
  pointwise [k0_pay23]
  exact p18 hw h3 h5 h7 h11 h24 h43 _ _

include hw h3 h5 h7 h11 h24 h43 in
theorem p24 : ∀ r c, k0_pay24 v3 v5 v7 v11 v24 w v43 (ix2 r c) = ((I.gp (n + r.val) c.val : ℝ) : EReal) := by
  intro r c
  pointwise [k0_pay24]
  exact p18 hw h3 h5 h7 h11 h24 h43 _ _

include hw h3 h5 h7 h11 h24 h43 in
theorem p25 : ∀ r c, k0_pay25 v3 v5 v7 v11 v24 w v43 (ix2 r c) = ((I.ucRow (n + r.val) c.val : ℝ) : EReal) := by
  intro r c
  pointwise [k0_pay25]
  unfold Layer.Args.ucRow
  by_cases h : c.val < 512
  · rw [dif_pos h, if_pos h, p19 hw h3 h5 h7 h11 h24 h43]
  · rw [dif_neg h, if_neg h, p21 hw h3 h5 h7 h11 h24 h43]
    refine congrArg (fun k => ((I.proj (n + r.val) k : ℝ) : EReal)) ?_
    show 1024 + (c.val - 512) = 512 + c.val
    omega

include hw h3 h5 h7 h11 h24 h43 in
theorem p26 : ∀ r c, k0_pay26 v3 v5 v7 v11 v24 w v43 (ix2 r c) = ((I.z c.val (n + r.val) : ℝ) : EReal) := by
  intro r c
  pointwise [k0_pay26]
  simp only [p19 hw h3 h5 h7 h11 h24 h43, p21 hw h3 h5 h7 h11 h24 h43, reals]
  rfl

/-! ## The convolution -/

variable {v56 : Vec Ideal S8x512 .f32} (h56 : ∀ r c, v56 (ix2 r c) = ((late (I.z c.val) 8 (n + r.val) : ℝ) : EReal))

include hw h3 h5 h7 h11 h24 h43 h56 in
theorem p27 : ∀ r c, k0_pay27 v3 v5 v7 v11 v24 w v43 v56 (ix2 r c) = ((late (I.z c.val) 8 (n + r.val) : ℝ) : EReal) := by
  intro r c
  pointwise [k0_pay27]
  by_cases h : r.val < 8
  · rw [dif_pos h, h56]
  · rw [dif_neg h, p26 hw h3 h5 h7 h11 h24 h43]
    refine congrArg Real.toEReal ?_
    show I.z c.val (n + (r.val - 8)) = _
    unfold late
    rw [if_pos (by omega)]
    exact congrArg (I.z _) (by omega)

include hw h3 h5 h7 h11 h24 h43 in
theorem p28 : ∀ r c, k0_pay28 v3 v5 v7 v11 v24 w v43 (ix2 r c) = ((late (I.z c.val) 8 (n + 512 + r.val) : ℝ) : EReal) := by
  intro r c
  pointwise [k0_pay28]
  rw [p26 hw h3 h5 h7 h11 h24 h43, late, if_pos (by omega)]
  refine congrArg (fun k => ((I.z c.val k : ℝ) : EReal)) ?_
  show n + (504 + r.val) = _
  omega

/-- A row `8 - k` of the rows before the tile is `k` tokens ago. -/
theorem ago (f : ℕ → ℝ) {k m : ℕ} (r : ℕ) (hk : k ≤ 8) (hm : m = r + 8 - k) : late f 8 (n + m) = late f k (n + r) := by
  subst hm; unfold late
  by_cases h : k ≤ n + r
  · rw [if_pos h, if_pos (by omega)]; exact congrArg f (by omega)
  · rw [if_neg h, if_neg (by omega)]

include hw h3 h5 h7 h11 h24 h43 h56 in
theorem p29 {v15 : FVec Ideal S1x512 .f32} (h15 : ∀ l, v15 (ix2 0 l) = ((I.wc 3 0 l.val : ℝ) : EReal)) :
    ∀ r c, k0_pay29 v3 v5 v7 v11 v15 v24 w v43 v56 (ix2 r c) = ((I.wc 3 0 c.val * late (I.z c.val) 2 (n + r.val) : ℝ) : EReal) := by
  intro r c
  pointwise [k0_pay29]
  simp only [h15, p27 hw h3 h5 h7 h11 h24 h43 h56, reals]
  refine congrArg (fun x => ((I.wc 3 0 c.val * x : ℝ) : EReal)) ?_
  refine ago (I.z c.val) r.val (by omega) ?_
  show (8 + r.val + 520 - 2) % 520 = _
  omega

include hw h3 h5 h7 h11 h24 h43 h56 in
theorem p30 : ∀ (r : Fin 512) c, k0_pay30 v3 v5 v7 v11 v24 w v43 v56 (ix2 ⟨8 + r.val, by omega⟩ c)
    = ((late (I.z c.val) 1 (n + r.val) : ℝ) : EReal) := by
  intro r c
  pointwise [k0_pay30]
  rw [p27 hw h3 h5 h7 h11 h24 h43 h56]
  refine congrArg Real.toEReal (ago (I.z c.val) r.val (by omega) ?_)
  show (8 + r.val + 520 - 1) % 520 = _
  omega

variable {v17 v19 : FVec Ideal S1x512 .f32} (h17 : ∀ l, v17 (ix2 0 l) = ((I.wc 3 1 l.val : ℝ) : EReal))
  (h19 : ∀ l, v19 (ix2 0 l) = ((I.wc 3 2 l.val : ℝ) : EReal))
  {v55 v65 v47 v49 : FVec Ideal S512x512 .f32} (h55 : ∀ r c, v55 (ix2 r c) = ((I.z c.val (n + r.val) : ℝ) : EReal))
  (h65 : ∀ r c, v65 (ix2 r c) = ((I.wc 3 0 c.val * late (I.z c.val) 2 (n + r.val) : ℝ) : EReal))
  {v66 : FVec Ideal S520x512 .f32}
  (h66 : ∀ (r : Fin 512) c, v66 (ix2 ⟨8 + r.val, by omega⟩ c) = ((late (I.z c.val) 1 (n + r.val) : ℝ) : EReal))
  (h47 : ∀ r c, v47 (ix2 r c) = ((I.proj (n + r.val) (512 + c.val) : ℝ) : EReal))
  (h49 : ∀ r c, v49 (ix2 r c) = ((I.ga (n + r.val) c.val : ℝ) : EReal))

include h17 h19 h55 h65 h66 in
theorem p31 : ∀ r c, k0_pay31 v17 v19 v55 v65 v66 (ix2 r c) = ((I.conv (n + r.val) c.val : ℝ) : EReal) := by
  intro r c
  pointwise [k0_pay31]
  simp only [h17, h19, h55, h65, h66, reals]
  rfl

include h49 in
theorem p32 : ∀ r c, k0_pay32 v49 (ix2 r c) = ((sgm (I.ga (n + r.val) c.val) : ℝ) : EReal) := by
  intro r c
  pointwise [k0_pay32]
  simp only [h49, reals, zero_sub]

include h49 in
theorem p33 : ∀ r c, k0_pay33 v49 (ix2 r c) = ((I.silua (n + r.val) c.val : ℝ) : EReal) := by
  intro r c
  pointwise [k0_pay33]
  simp only [h49, p32 h49, reals]
  rfl

include h17 h19 h55 h65 h66 h47 in
theorem p34 : ∀ r c, k0_pay34 v17 v19 v47 v55 v65 v66 (ix2 r c) = ((I.bconv (n + r.val) c.val : ℝ) : EReal) := by
  intro r c
  pointwise [k0_pay34]
  simp only [h47, p31 h17 h19 h55 h65 h66, reals]
  rfl

include h17 h19 h55 h65 h66 h47 h49 in
theorem p35 : ∀ r c, k0_pay35 v17 v19 v47 v49 v55 v65 v66 (ix2 r c)
    = ((I.bconv (n + r.val) c.val * I.silua (n + r.val) c.val : ℝ) : EReal) := by
  intro r c
  pointwise [k0_pay35]
  simp only [p34 h17 h19 h55 h65 h66 h47, p33 h49, reals]

include h17 h19 h55 h65 h66 h47 h49 in
theorem p36 : ∀ r c, k0_pay36 v17 v19 v47 v49 v55 v65 v66 (ix2 r c) = ((faRow I (n + r.val) c.val : ℝ) : EReal) := by
  intro r c
  pointwise [k0_pay36]
  simp only [p31 h17 h19 h55 h65 h66, p34 h17 h19 h55 h65 h66 h47, p33 h49, p32 h49, h47, reals]
  unfold faRow
  split_ifs <;> first | rfl | omega

/-! ## The pool -/

/-- The channels of the pool's operand, from sixteen tokens before the tile on. -/
def ups (I : Layer.Args) (n r c : ℕ) : ℝ := late (fun s => I.proj s (2048 + c)) 16 (n + r)

variable {v50 v51 : FVec Ideal S512x512 .f32} (h50 : ∀ r c, v50 (ix2 r c) = ((I.proj (n + r.val) (2048 + c.val) : ℝ) : EReal))
  (h51 : ∀ r c, v51 (ix2 r c) = ((I.gp (n + r.val) c.val : ℝ) : EReal))
  {v94 : Vec Ideal S16x512 .f32} (h94 : ∀ r c, v94 (ix2 r c) = ((ups I n r.val c.val : ℝ) : EReal))

include h50 h94 in
theorem p37 : ∀ r c, k0_pay37 v50 v94 (ix2 r c) = ((ups I n r.val c.val : ℝ) : EReal) := by
  intro r c
  pointwise [k0_pay37]
  by_cases h : r.val < 16
  · rw [dif_pos h, h94]
  · rw [dif_neg h, h50]
    refine congrArg Real.toEReal ?_
    show I.proj (n + (r.val - 16)) (2048 + c.val) = _
    unfold ups late
    rw [if_pos (by omega)]
    exact congrArg (fun k => I.proj k _) (by omega)

include h50 in
theorem p38 : ∀ r c, k0_pay38 v50 (ix2 r c) = ((ups I (n + 512) r.val c.val : ℝ) : EReal) := by
  intro r c
  pointwise [k0_pay38]
  rw [h50, ups, late, if_pos (by omega)]
  refine congrArg (fun k => ((I.proj k (2048 + c.val) : ℝ) : EReal)) ?_
  show n + (496 + r.val) = _
  omega

theorem p39 {T : ℕ} (hT : T < 4) (hn : n = 512 * T) :
    ∀ r, k0_pay39 (F := Ideal) (BitVec.ofNat 32 T) (ix2 r 0) = ((((n + r.val : ℕ) : ℝ) + 1 : ℝ) : EReal) := by
  intro r
  pointwise [k0_pay39]
  rw [← Layer.count_real (t := n + r.val) (by omega)]
  refine congrArg (FloatOps.sitofp (F := Ideal) .f32) ?_
  unfold IntOp.addi Scalar.addi Scalar.muli
  rw [hn, BitVec.ofNat_add, BitVec.ofNat_mul, BitVec.mul_comm]
  ac_rfl

/-- The rows of the tile out of the rows before and in it. -/
theorem window {g c : ℕ} {k r : ℕ} (hk : k ≤ 16) :
    ∑ i ∈ Finset.range k, ups I n (16 + r - i) (128 * g + c)
      = ∑ i ∈ Finset.range k, late (fun s => I.proj s (2048 + (128 * g + c))) i (n + r) := by
  refine Finset.sum_congr rfl fun i hi => ?_
  have := Finset.mem_range.mp hi
  unfold ups late
  by_cases h : i ≤ n + r
  · rw [if_pos h, if_pos (by omega)]; exact congrArg (fun s => I.proj s _) (by omega)
  · rw [if_neg h, if_neg (by omega)]

/-- The 128 channels of a pool group from column `o` on. -/
def part (o : ℕ) (x : FVec Ideal S528x512 .f32) (h : S528x512.Slices ![0, o] S528x128) : FVec Ideal S528x128 .f32 :=
  extractStridedSlice S528x128 ![0, o] x h

theorem part_at {o g : ℕ} (ho : o = 128 * g) {x : FVec Ideal S528x512 .f32} {h : S528x512.Slices ![0, o] S528x128}
    (hx : ∀ r c, x (ix2 r c) = ((ups I n r.val c.val : ℝ) : EReal)) :
    ∀ r c, 1 ≤ r.val + 1 → part o x h (ix2 r c) = ((∑ i ∈ Finset.range 1, ups I n (r.val - i) (128 * g + c.val) : ℝ) : EReal) := by
  intro r c _
  pointwise [part]
  rw [hx, Finset.sum_range_one, ← ho]
  rfl

variable {v95 : FVec Ideal S528x512 .f32} (h95 : ∀ r c, v95 (ix2 r c) = ((ups I n r.val c.val : ℝ) : EReal))

/-- The window sums of two, four, eight and sixteen rows. -/
theorem sum_2 {g : ℕ} {x : FVec Ideal S528x128 .f32}
    (hx : ∀ r c, 1 ≤ r.val + 1 → x (ix2 r c) = ((∑ i ∈ Finset.range 1, ups I n (r.val - i) (128 * g + c.val) : ℝ) : EReal)) :
    ∀ r c, 2 ≤ r.val + 1 → turn 1#32 x (ix2 r c) = ((∑ i ∈ Finset.range 2, ups I n (r.val - i) (128 * g + c.val) : ℝ) : EReal) :=
  turn_sum 1 1#32 (by omega) turn_1 (u := fun c r => ups I n r (128 * g + c)) hx
theorem sum_4 {g : ℕ} {x : FVec Ideal S528x128 .f32}
    (hx : ∀ r c, 1 ≤ r.val + 1 → x (ix2 r c) = ((∑ i ∈ Finset.range 1, ups I n (r.val - i) (128 * g + c.val) : ℝ) : EReal)) :
    ∀ r c, 4 ≤ r.val + 1 → turn 2#32 (turn 1#32 x) (ix2 r c) = ((∑ i ∈ Finset.range 4, ups I n (r.val - i) (128 * g + c.val) : ℝ) : EReal) :=
  turn_sum 2 2#32 (by omega) turn_2 (u := fun c r => ups I n r (128 * g + c)) (sum_2 hx)
theorem sum_8 {g : ℕ} {x : FVec Ideal S528x128 .f32}
    (hx : ∀ r c, 1 ≤ r.val + 1 → x (ix2 r c) = ((∑ i ∈ Finset.range 1, ups I n (r.val - i) (128 * g + c.val) : ℝ) : EReal)) :
    ∀ r c, 8 ≤ r.val + 1 → turn 4#32 (turn 2#32 (turn 1#32 x)) (ix2 r c) = ((∑ i ∈ Finset.range 8, ups I n (r.val - i) (128 * g + c.val) : ℝ) : EReal) :=
  turn_sum 4 4#32 (by omega) turn_4 (u := fun c r => ups I n r (128 * g + c)) (sum_4 hx)
theorem sum_16 {g : ℕ} {x : FVec Ideal S528x128 .f32}
    (hx : ∀ r c, 1 ≤ r.val + 1 → x (ix2 r c) = ((∑ i ∈ Finset.range 1, ups I n (r.val - i) (128 * g + c.val) : ℝ) : EReal)) :
    ∀ r c, 16 ≤ r.val + 1 → turn 8#32 (turn 4#32 (turn 2#32 (turn 1#32 x))) (ix2 r c) = ((∑ i ∈ Finset.range 16, ups I n (r.val - i) (128 * g + c.val) : ℝ) : EReal) :=
  turn_sum 8 8#32 (by omega) turn_8 (u := fun c r => ups I n r (128 * g + c)) (sum_8 hx)

/-- The windowed sum of pool group `g` at token `n + r`. -/
def sumw (I : Layer.Args) (g t c : ℕ) : ℝ := ∑ j ∈ Finset.range (wdw g), late (fun s => I.proj s (2048 + (128 * g + c))) j t

/-- The tile's rows of the summed rows. -/
theorem cut {k g : ℕ} (hk : k ≤ 16) (hg : k = wdw g) {x : FVec Ideal S528x128 .f32} {h : S528x128.Slices ![16, 0] S512x128}
    (hx : ∀ r c, k ≤ r.val + 1 → x (ix2 r c) = ((∑ i ∈ Finset.range k, ups I n (r.val - i) (128 * g + c.val) : ℝ) : EReal)) :
    ∀ r c, (extractStridedSlice S512x128 ![16, 0] x h : FVec Ideal S512x128 .f32) (ix2 r c) = ((sumw I g (n + r.val) c.val : ℝ) : EReal) := by
  intro r c
  pointwise
  rw [hx _ _ (by show k ≤ 16 + r.val + 1; omega)]
  refine congrArg Real.toEReal ((window hk).trans ?_)
  rw [hg]; rfl

/-- The windowed mean less the token, any name for the window's size. -/
theorem pool_at {g : ℕ} {b : ℝ} (hb : b = (wdw g : ℝ)) (t c : ℕ) :
    ((sumw I g t c : ℝ) : EReal) * Ideal.div ((1 : ℝ) : EReal) ((min ((t : ℝ) + 1) b : ℝ) : EReal)
        - ((I.proj t (2048 + (128 * g + c)) : ℝ) : EReal)
      = ((I.pooled g t c : ℝ) : EReal) := by
  rw [Layer.inv_count g t hb]
  simp only [reals, mul_one_div]
  rfl

variable {v105 : FVec Ideal S512x1 .f32} (h105 : ∀ r, v105 (ix2 r 0) = ((((n + r.val : ℕ) : ℝ) + 1 : ℝ) : EReal))
  {v109 v147 : FVec Ideal S512x128 .f32} (h109 : ∀ r c, v109 (ix2 r c) = ((sumw I 0 (n + r.val) c.val : ℝ) : EReal))
  {v110 v149 v150 : FVec Ideal S512x1 .f32} (h110 : ∀ r, v110 (ix2 r 0) = ((2 : ℝ) : EReal))
  (h147 : ∀ r c, v147 (ix2 r c) = ((sumw I 2 (n + r.val) c.val : ℝ) : EReal))
  (h149 : ∀ r, v149 (ix2 r 0) = ((min (((n + r.val : ℕ) : ℝ) + 1) 8 : ℝ) : EReal))
  (h150 : ∀ r, v150 (ix2 r 0) = ((1 : ℝ) : EReal))
  {w0 w1 w2 w3 : Vec Ideal S1x1x128x128 .bf16} (hw0 : ∀ a b, w0 (ix4 0 0 a b) = ((I.wp 3 0 a.val b.val : ℝ) : EReal))
  (hw1 : ∀ a b, w1 (ix4 0 0 a b) = ((I.wp 3 1 a.val b.val : ℝ) : EReal))
  (hw2 : ∀ a b, w2 (ix4 0 0 a b) = ((I.wp 3 2 a.val b.val : ℝ) : EReal))
  (hw3 : ∀ a b, w3 (ix4 0 0 a b) = ((I.wp 3 3 a.val b.val : ℝ) : EReal))

include h50 h94 in
theorem p40 : ∀ r c, k0_pay40 v50 v94 (ix2 r c) = ((sumw I 0 (n + r.val) c.val : ℝ) : EReal) := by
  have e : k0_pay40 v50 v94 = extractStridedSlice S512x128 ![16, 0]
    (turn 1#32 (part 0 (k0_pay37 v50 v94) slices_S528x512_o0_0_S528x128)) slices_S528x128_o16_0_S512x128 := rfl
  rw [e]
  exact cut (k := 2) (g := 0) (by omega) rfl (sum_2 (part_at (g := 0) rfl (p37 h50 h94)))

theorem p41 : ∀ r, k0_pay41 (F := Ideal) (ix2 r 0) = ((2 : ℝ) : EReal) := by
  intro r
  pointwise [k0_pay41]
  simp only [reals]

include h50 h105 h109 h110 in
theorem p42 : ∀ r c, k0_pay42 v50 v105 v109 v110 (ix2 r c) = ((I.pooled 0 (n + r.val) c.val : ℝ) : EReal) := by
  intro r c
  pointwise [k0_pay42]
  have e := pool_at (I := I) (g := 0) (b := 2) (by norm_num [wdw]) (n + r.val) c.val
  simp only [reals, Nat.mul_zero, Nat.zero_add] at e
  simp only [h50, h105, h109, h110, reals]
  exact e

/-- The mixed channels of one group. -/
def mix (I : Layer.Args) (g t c : ℕ) : ℝ := ∑ k ∈ Finset.range 128, I.pooled g t k * I.wp 3 g k c

include h50 h105 h109 h110 hw0 in
theorem p43 : ∀ r c, k0_pay43 v50 v105 v109 v110 w0 (ix2 r c) = ((mix I 0 (n + r.val) c.val : ℝ) : EReal) := by
  intro r c
  pointwise [k0_pay43]
  simp only [p42 h50 h105 h109 h110, hw0, reals, sum_real, mix, Finset.sum_range]

include h95 in
theorem w4 : ∀ r c, (extractStridedSlice S512x128 ![16, 0]
    (turn 2#32 (turn 1#32 (part 128 v95 slices_S528x512_o0_128_S528x128))) slices_S528x128_o16_0_S512x128 : FVec Ideal S512x128 .f32) (ix2 r c)
      = ((sumw I 1 (n + r.val) c.val : ℝ) : EReal) :=
  cut (k := 4) (g := 1) (by omega) rfl (sum_4 (part_at (g := 1) rfl h95))

include h95 in
theorem w16 : ∀ r c, (extractStridedSlice S512x128 ![16, 0]
    (turn 8#32 (turn 4#32 (turn 2#32 (turn 1#32 (part 384 v95 slices_S528x512_o0_384_S528x128))))) slices_S528x128_o16_0_S512x128 : FVec Ideal S512x128 .f32) (ix2 r c)
      = ((sumw I 3 (n + r.val) c.val : ℝ) : EReal) :=
  cut (k := 16) (g := 3) (by omega) rfl (sum_16 (part_at (g := 3) rfl h95))

/-- A group's pooled rows of its summed rows `x`: over the number of tokens in the window, less the token. -/
def pooledOf (k : Ideal .f32) (o : ℕ) (h : S512x512.Slices ![0, o] S512x128) (x : FVec Ideal S512x128 .f32)
    (v50 : FVec Ideal S512x512 .f32) (v105 : FVec Ideal S512x1 .f32) : FVec Ideal S512x128 .bf16 :=
  truncf .bf16 (subf (mulf x (broadcastTo S512x128 (divf (broadcast S512x1 (Scalar.ofBits .f32 0x3F800000#32))
    (minimumf v105 (broadcast S512x1 k))) broadcasts_S512x1_S512x128)) (extractStridedSlice S512x128 ![0, o] v50 h)) bitsLt_bf16_f32

include h50 h105 in
theorem pooledOf_at {k : Ideal .f32} {b : ℝ} (hk : k = (b : EReal)) {o g : ℕ} (ho : o = 128 * g) (hb : b = (wdw g : ℝ))
    {h : S512x512.Slices ![0, o] S512x128} {x : FVec Ideal S512x128 .f32}
    (hx : ∀ r c, x (ix2 r c) = ((sumw I g (n + r.val) c.val : ℝ) : EReal)) :
    ∀ r c, pooledOf k o h x v50 v105 (ix2 r c) = ((I.pooled g (n + r.val) c.val : ℝ) : EReal) := by
  intro r c
  pointwise [pooledOf]
  rw [hx, h50, h105, hk]
  subst ho
  simp only [reals]
  exact pool_at hb _ _

include h50 h95 h105 in
theorem p44 : ∀ r c, k0_pay44 v50 v95 v105 (ix2 r c) = ((I.pooled 1 (n + r.val) c.val : ℝ) : EReal) := by
  have e : k0_pay44 v50 v95 v105 = pooledOf (Scalar.ofBits .f32 0x40800000#32) 128 slices_S512x512_o0_128_S512x128
    (extractStridedSlice S512x128 ![16, 0] (turn 2#32 (turn 1#32 (part 128 v95 slices_S528x512_o0_128_S528x128)))
      slices_S528x128_o16_0_S512x128) v50 v105 := rfl
  rw [e]
  exact pooledOf_at h50 h105 Layer.c_four (g := 1) rfl (by norm_num [wdw]) (w4 h95)

include h50 h95 h105 hw1 in
theorem p45 : ∀ r c, k0_pay45 v50 v95 v105 w1 (ix2 r c) = ((mix I 1 (n + r.val) c.val : ℝ) : EReal) := by
  intro r c
  pointwise [k0_pay45]
  simp only [p44 h50 h95 h105, hw1, reals, sum_real, mix, Finset.sum_range]

include h95 in
theorem p46 : ∀ r c, k0_pay46 v95 (ix2 r c) = ((sumw I 2 (n + r.val) c.val : ℝ) : EReal) := by
  have e : k0_pay46 v95 = extractStridedSlice S512x128 ![16, 0]
    (turn 4#32 (turn 2#32 (turn 1#32 (part 256 v95 slices_S528x512_o0_256_S528x128)))) slices_S528x128_o16_0_S512x128 := rfl
  rw [e]
  exact cut (k := 8) (g := 2) (by omega) rfl (sum_8 (part_at (g := 2) rfl h95))

include h105 in
theorem p47 : ∀ r, k0_pay47 v105 (ix2 r 0) = ((min (((n + r.val : ℕ) : ℝ) + 1) 8 : ℝ) : EReal) := by
  intro r
  pointwise [k0_pay47]
  simp only [h105, reals]

theorem p48 : ∀ r, k0_pay48 (F := Ideal) (ix2 r 0) = ((1 : ℝ) : EReal) := by
  intro r
  pointwise [k0_pay48]
  simp only [reals]

include h50 h147 h149 h150 in
theorem p49 : ∀ r c, k0_pay49 v50 v147 v149 v150 (ix2 r c) = ((I.pooled 2 (n + r.val) c.val : ℝ) : EReal) := by
  intro r c
  pointwise [k0_pay49]
  simp only [h50, h147, h149, h150]
  exact pool_at (g := 2) (b := 8) (by norm_num [wdw]) _ _

include h50 h95 h105 in
theorem p50 : ∀ r c, k0_pay50 v50 v95 v105 (ix2 r c) = ((I.pooled 3 (n + r.val) c.val : ℝ) : EReal) := by
  have e : k0_pay50 v50 v95 v105 = pooledOf (Scalar.ofBits .f32 0x41800000#32) 384 slices_S512x512_o0_384_S512x128
    (extractStridedSlice S512x128 ![16, 0] (turn 8#32 (turn 4#32 (turn 2#32 (turn 1#32
      (part 384 v95 slices_S528x512_o0_384_S528x128))))) slices_S528x128_o16_0_S512x128) v50 v105 := rfl
  rw [e]
  exact pooledOf_at h50 h105 Layer.c_sixteen (g := 3) rfl (by norm_num [wdw]) (w16 h95)

variable {v121 v139 : FVec Ideal S512x128 .f32} (h121 : ∀ r c, v121 (ix2 r c) = ((mix I 0 (n + r.val) c.val : ℝ) : EReal))
  (h139 : ∀ r c, v139 (ix2 r c) = ((mix I 1 (n + r.val) c.val : ℝ) : EReal))

/-- A channel by its group and its number in the group. -/
theorem mixed_at {g c d t : ℕ} (hd : d = 128 * g + c) (hc : c < 128) : I.mixed t d = mix I g t c := by
  unfold Layer.Args.mixed mix
  have e : d / 128 = g := by omega
  have e' : d % 128 = c := by omega
  rw [e, e']

include h50 h95 h105 h121 h139 h147 h149 h150 hw2 hw3 in
theorem p51 : ∀ r c, k0_pay51 v50 v95 v105 v121 v139 v147 v149 v150 w2 w3 (ix2 r c) = ((I.mixed (n + r.val) c.val : ℝ) : EReal) := by
  intro r c
  pointwise [k0_pay51]
  simp only [h121, h139, p49 h50 h147 h149 h150, p50 h50 h95 h105, hw2, hw3, reals, sum_real]
  split_ifs
  · exact congrArg Real.toEReal (mixed_at (g := 0) (by omega) (by omega)).symm
  · exact congrArg Real.toEReal (mixed_at (g := 1) (by omega) (by omega)).symm
  · refine congrArg Real.toEReal (Eq.trans ?_ (mixed_at (g := 2) (c := c.val - 128 - 128) (by omega) (by omega)).symm)
    exact (Finset.sum_range fun k => I.pooled 2 (n + r.val) k * I.wp 3 2 k (c.val - 128 - 128)).symm
  · refine congrArg Real.toEReal (Eq.trans ?_ (mixed_at (g := 3) (c := c.val - 128 - 128 - 128) (by omega) (by omega)).symm)
    exact (Finset.sum_range fun k => I.pooled 3 (n + r.val) k * I.wp 3 3 k (c.val - 128 - 128 - 128)).symm

variable {v182 v189 v190 v191 v83 : FVec Ideal S512x512 .f32} (h182 : ∀ r c, v182 (ix2 r c) = ((I.mixed (n + r.val) c.val : ℝ) : EReal))
  (h189 : ∀ r c, v189 (ix2 r c) = ((sgm (I.gp (n + r.val) c.val) : ℝ) : EReal))
  (h190 : ∀ r c, v190 (ix2 r c) = ((I.silup (n + r.val) c.val : ℝ) : EReal))
  (h191 : ∀ r c, v191 (ix2 r c) = ((I.ps 3 c.val : ℝ) : EReal))
  (h83 : ∀ r c, v83 (ix2 r c) = ((I.bconv (n + r.val) c.val * I.silua (n + r.val) c.val : ℝ) : EReal))
  {v21 : FVec Ideal S1x512 .f32} (h21 : ∀ l, v21 (ix2 0 l) = ((I.ps 3 l.val : ℝ) : EReal))
  {v118 v136 v156 v178 : FVec Ideal S512x128 .bf16} (h118 : ∀ r c, v118 (ix2 r c) = ((I.pooled 0 (n + r.val) c.val : ℝ) : EReal))
  (h136 : ∀ r c, v136 (ix2 r c) = ((I.pooled 1 (n + r.val) c.val : ℝ) : EReal))
  (h156 : ∀ r c, v156 (ix2 r c) = ((I.pooled 2 (n + r.val) c.val : ℝ) : EReal))
  (h178 : ∀ r c, v178 (ix2 r c) = ((I.pooled 3 (n + r.val) c.val : ℝ) : EReal))

include h51 in
theorem p52 : ∀ r c, k0_pay52 v51 (ix2 r c) = ((sgm (I.gp (n + r.val) c.val) : ℝ) : EReal) := by
  intro r c
  pointwise [k0_pay52]
  simp only [h51, reals, zero_sub]

include h51 in
theorem p53 : ∀ r c, k0_pay53 v51 (ix2 r c) = ((I.silup (n + r.val) c.val : ℝ) : EReal) := by
  intro r c
  pointwise [k0_pay53]
  simp only [h51, p52 h51, reals]
  rfl

include h21 in
theorem p54 : ∀ (r : Fin 512) c, k0_pay54 v21 (ix2 r c) = ((I.ps 3 c.val : ℝ) : EReal) := by
  intro r c
  pointwise [k0_pay54]
  exact h21 c

include h182 h191 in
theorem p55 : ∀ r c, k0_pay55 v182 v191 (ix2 r c) = ((I.mps (n + r.val) c.val : ℝ) : EReal) := by
  intro r c
  pointwise [k0_pay55]
  simp only [h182, h191, reals]
  rfl

include h21 h118 h136 h156 h178 h182 h189 h190 h191 in
theorem p56 : ∀ r c, k0_pay56 v21 v118 v136 v156 v178 v182 v189 v190 v191 (ix2 r c) = ((fpRow I (n + r.val) c.val : ℝ) : EReal) := by
  intro r c
  pointwise [k0_pay56]
  simp only [h21, h118, h136, h156, h178, h182, h189, h190, p55 h182 h191, reals]
  unfold fpRow
  have q : ∀ {g k : ℕ}, k < 128 → c.val - 1536 = 128 * g + k →
      I.pooled g (n + r.val) k = I.pooled ((c.val - 1536) / 128) (n + r.val) ((c.val - 1536) % 128) := by
    intro g k hk hc
    have e : (c.val - 1536) / 128 = g := by omega
    have e' : (c.val - 1536) % 128 = k := by omega
    rw [e, e']
  by_cases h1 : c.val < 512
  · rw [dif_pos h1, if_pos h1]
  rw [dif_neg h1, if_neg h1]
  by_cases h2 : c.val - 512 < 512
  · rw [dif_pos h2, if_pos (by omega)]
  rw [dif_neg h2, if_neg (by omega)]
  by_cases h3 : c.val - 512 - 512 < 512
  · rw [dif_pos h3, if_pos (by omega)]; rfl
  rw [dif_neg h3, if_neg (by omega)]
  by_cases h4 : c.val - 512 - 512 - 512 < 128
  · rw [dif_pos h4]; exact congrArg Real.toEReal (q (by omega) (by omega))
  rw [dif_neg h4]
  by_cases h5 : c.val - 512 - 512 - 512 - 128 < 128
  · rw [dif_pos h5]; exact congrArg Real.toEReal (q (by omega) (by omega))
  rw [dif_neg h5]
  by_cases h6 : c.val - 512 - 512 - 512 - 128 - 128 < 128
  · rw [dif_pos h6]; exact congrArg Real.toEReal (q (by omega) (by omega))
  rw [dif_neg h6]; exact congrArg Real.toEReal (q (by omega) (by omega))

include h83 h182 h190 h191 in
theorem p57 : ∀ r c, k0_pay57 v83 v182 v190 v191 (ix2 r c) = ((I.ycat (n + r.val) c.val : ℝ) : EReal) := by
  intro r c
  pointwise [k0_pay57]
  simp only [h83, h190, p55 h182 h191, reals]
  unfold Layer.Args.ycat
  split_ifs <;> rfl

include h83 h182 h190 h191 in
theorem p58 : ∀ r c, k0_pay58 v83 v182 v190 v191 (ix2 r c) = ((I.ycat (n + r.val) c.val : ℝ) : EReal) := by
  intro r c
  pointwise [k0_pay58]
  exact p57 h182 h190 h191 h83 r c

variable {v211 : Vec Ideal S1024x1024 .bf16} (h211 : ∀ k c, v211 (ix2 k c) = ((I.wout k.val c.val : ℝ) : EReal))

include h83 h182 h190 h191 h211 in
theorem p59 : ∀ r c, k0_pay59 v83 v182 v190 v191 v211 (ix2 r c) = ((I.y (n + r.val) c.val : ℝ) : EReal) := by
  intro r c
  pointwise [k0_pay59]
  simp only [p57 h182 h190 h191 h83, h211, reals, sum_real, Layer.Args.y, Finset.sum_range]

/-! ## The output, its error and the loss -/

variable {v9 v13 : FVec Ideal S1x1024 .f32} (h9 : ∀ l, v9 (ix2 0 l) = ((I.gate l.val : ℝ) : EReal))
  (h13 : ∀ l, v13 (ix2 0 l) = ((I.gpost 3 l.val : ℝ) : EReal))
  {v232 : Vec Ideal S512x1024 .f32} (h232 : ∀ r l, v232 (ix2 r l) = ((I.dxo (n + r.val) l.val : ℝ) : EReal))

include h3 h9 h13 h83 h182 h190 h191 h211 h232 in
theorem p60 : ∀ r c, k0_pay60 v3 v9 v13 v83 v182 v190 v191 v211 v232 (ix2 r c) = ((I.err (n + r.val) c.val : ℝ) : EReal) := by
  intro r c
  pointwise [k0_pay60]
  have e : (∑ k : Fin 1024, I.y (n + r.val) k.val * I.y (n + r.val) k.val)
    = ∑ k ∈ Finset.range 1024, I.y (n + r.val) k * I.y (n + r.val) k := (Finset.sum_range fun k => I.y (n + r.val) k * I.y (n + r.val) k).symm
  simp only [p59 h182 h190 h191 h83 h211, h3, h9, h13, h232, reals, sum_real, e, root]
  rfl

variable {v233 : FVec Ideal S512x1024 .f32} (h233 : ∀ r c, v233 (ix2 r c) = ((I.err (n + r.val) c.val : ℝ) : EReal))

include h233 in
theorem p1 : ∀ r c, k0_pay1 v233 (ix2 r c) = ((I.err (n + r.val) c.val * (1 / 1024) : ℝ) : EReal) := by
  intro r c
  pointwise [k0_pay1]
  simp only [h233, Layer.c_inv1024, reals]

include h233 in
theorem p2 {v237 : Vec Ideal S8x128 .f32} (h237 : ∀ r c, v237 (ix2 r c) = ((I.lossTo n : ℝ) : EReal)) :
    ∀ r c, k0_pay2 v233 v237 (ix2 r c) = ((I.lossTo (n + 512) : ℝ) : EReal) := by
  intro r c
  pointwise [k0_pay2]
  simp only [h233, h237, Layer.c_inv2048, reals, sum_real]
  refine congrArg Real.toEReal ?_
  unfold Layer.Args.lossTo
  rw [Finset.sum_range_add _ n 512, ← Finset.sum_mul (s := Finset.range 512), Finset.sum_range]
  simp only [Finset.sum_range]

/-! ## Rows read from the packed arrays, and zeros -/

section
variable {a : ℕ → ℝ}

theorem p6 {v : Vec Ideal S1x1x1024 .f32} (h : ∀ l, v (ix3 0 0 l) = ((a l.val : ℝ) : EReal)) :
    ∀ l, k0_pay6 v (ix2 0 l) = ((a l.val : ℝ) : EReal) := by
  intro l; pointwise [k0_pay6]; exact h l

theorem p11 {v : Vec Ideal S1x1x512 .f32} (h : ∀ l, v (ix3 0 0 l) = ((a l.val : ℝ) : EReal)) :
    ∀ l, k0_pay11 v (ix2 0 l) = ((a l.val : ℝ) : EReal) := by
  intro l; pointwise [k0_pay11]; exact h l
end

theorem p3 : ∀ r c, k0_pay3 (F := Ideal) (ix2 r c) = ((0 : ℝ) : EReal) := by
  intro r c; pointwise [k0_pay3]; simp only [reals]
theorem p4 : ∀ r c, k0_pay4 (F := Ideal) (ix2 r c) = ((0 : ℝ) : EReal) := by
  intro r c; pointwise [k0_pay4]; simp only [reals]
theorem p5 : ∀ r c, k0_pay5 (F := Ideal) (ix2 r c) = ((0 : ℝ) : EReal) := by
  intro r c; pointwise [k0_pay5]; simp only [reals]

end Cert.ForwardIdeal.Tile
-- ==== Proof.FwdHost.lean ====
/- The host lines before the forward call, and what each window of the call holds at each grid point. -/
module

public import proofs.«01_k».proof.Proof.FwdSpec
public import proofs.«01_k».proof.Proof.Gen.ForwardIdeal.Frame

@[expose] public section

set_option maxRecDepth 16384

noncomputable section

namespace Cert.ForwardIdeal.Host

open Idealize.ShloMosaic Idealize.ShloMosaic.TcCoe Idealize.ShloMosaic.StableHlo Cert.ForwardIdeal Cert.ForwardIdeal.Gen
open Layer (reals sum_real ite_real dite_real)
open Cert.KernelIdeal.Host (vecRow cpsRow)

/-- The ten arguments' contents are the reals of `I`; its `dxo` is the target. -/
def Reads (V0 : Valuation τ sig (Elt Ideal)) (I : Layer.Args) : Prop :=
  (∀ r l, V0 (Proc.devRef .tc main_arg0) (ix2 r l) = ((I.x r.val l.val : ℝ) : EReal))
  ∧ (∀ r l, V0 (Proc.devRef .tc main_arg1) (ix2 r l) = ((I.md r.val l.val : ℝ) : EReal))
  ∧ (∀ r l, V0 (Proc.devRef .tc main_arg2) (ix2 r l) = ((I.gpre r.val l.val : ℝ) : EReal))
  ∧ (∀ r l, V0 (Proc.devRef .tc main_arg3) (ix2 r l) = ((I.win r.val l.val : ℝ) : EReal))
  ∧ (∀ a r l, V0 (Proc.devRef .tc main_arg4) (ix3 a r l) = ((I.wc a.val r.val l.val : ℝ) : EReal))
  ∧ (∀ a b r l, V0 (Proc.devRef .tc main_arg5) (ix4 a b r l) = ((I.wp a.val b.val r.val l.val : ℝ) : EReal))
  ∧ (∀ r l, V0 (Proc.devRef .tc main_arg6) (ix2 r l) = ((I.ps r.val l.val : ℝ) : EReal))
  ∧ (∀ r l, V0 (Proc.devRef .tc main_arg7) (ix2 r l) = ((I.wout r.val l.val : ℝ) : EReal))
  ∧ (∀ r l, V0 (Proc.devRef .tc main_arg8) (ix2 r l) = ((I.gpost r.val l.val : ℝ) : EReal))
  ∧ (∀ r l, V0 (Proc.devRef .tc main_arg9) (ix2 r l) = ((I.dxo r.val l.val : ℝ) : EReal))

/-- The host lines. -/
abbrev line : List (HloOp τ sig (Elt Ideal)) := hostOps0

section
variable {V0 : Valuation τ sig (Elt Ideal)} {I : Layer.Args} (H : Reads V0 I)
include H

theorem arg0 : ∀ r l, after line V0 (Proc.devRef .tc main_arg0) (ix2 r l) = ((I.x r.val l.val : ℝ) : EReal) := by
  intro r l
  have A := H; unfold Reads at A
  repeat after_reads_at
  simp only [A]

theorem arg9 : ∀ r l, after line V0 (Proc.devRef .tc main_arg9) (ix2 r l) = ((I.dxo r.val l.val : ℝ) : EReal) := by
  intro r l
  have A := H; unfold Reads at A
  repeat after_reads_at
  simp only [A]

/-- The last layer's rows of the modulation and the gains, in the four layers' array. -/
theorem v10 : ∀ r l, after line V0 (Proc.devRef .tc main_v10) (ix3 3 r l) = ((vecRow I r.val l.val : ℝ) : EReal) := by
  intro r l
  have A := H; unfold Reads at A
  repeat after_reads_at
  simp only [A, reals, Fin.sum_univ_one, sum_real, ite_real, dite_real]
  refine congrArg Real.toEReal ?_
  unfold vecRow Layer.Args.sh Layer.Args.sc Layer.Args.gate
  split_ifs <;> first | rfl | omega | (congr 1 <;> omega)

theorem v2 : ∀ r l, after line V0 (Proc.devRef .tc main_v2) (ix3 3 r l) = ((cpsRow I r.val l.val : ℝ) : EReal) := by
  intro r l
  have A := H; unfold Reads at A
  repeat after_reads_at
  simp only [A, reals, Fin.sum_univ_one, sum_real, ite_real, dite_real]
  refine congrArg Real.toEReal ?_
  unfold cpsRow
  split_ifs <;> first | rfl | omega | (congr 1 <;> omega)

theorem v3 : ∀ a r l, after line V0 (Proc.devRef .tc main_v3) (ix4 3 a r l) = ((I.wp 3 a.val r.val l.val : ℝ) : EReal) := by
  intro a r l
  have A := H; unfold Reads at A
  repeat after_reads_at
  simp only [A]
  rfl

theorem v4 : ∀ r l, after line V0 (Proc.devRef .tc main_v4) (ix2 r l) = ((I.win r.val l.val : ℝ) : EReal) := by
  intro r l
  have A := H; unfold Reads at A
  repeat after_reads_at
  simp only [A]

theorem v5 : ∀ r l, after line V0 (Proc.devRef .tc main_v5) (ix2 r l) = ((I.wout r.val l.val : ℝ) : EReal) := by
  intro r l
  have A := H; unfold Reads at A
  repeat after_reads_at
  simp only [A]
end

variable (m : (ℓ : Loc nD τ sig) → Buf (Elt Ideal) ℓ) (c : Dev nD) {I : Layer.Args} (H : Reads (fun b => m (c, b)) I) (t : Fin cfg0.N)

/-- The tiles' block numbers: one after the other. -/
theorem at0 : ∀ t : Fin grid0.N, (win0_0.index t 0 = t.val) ∧ (win0_6.index t 0 = t.val) := by decide +kernel

include H
theorem in0 : ∀ r l, (iblk m c 0 t : Vec Ideal S512x1024 .f32) (ix2 r l) = ((I.x (512 * t.val + r.val) l.val : ℝ) : EReal) := by
  intro r l
  have ht : t.val < 4 := t.isLt
  refine Eq.trans ?_ (arg0 H ⟨512 * t.val + r.val, by have := r.isLt; omega⟩ l)
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [(at0 t).1]; omega
  | ⟨1, _⟩ => show 0 * 1024 + 1 * l.val = l.val; omega

theorem in1 : ∀ r l, (iblk m c 1 t : Vec Ideal S1x8x1024 .f32) (ix3 0 r l) = ((vecRow I r.val l.val : ℝ) : EReal) := by
  intro r l
  refine Eq.trans ?_ (v10 H r l)
  unfold iblk
  rw [View.read_apply]
  show V m c main_v10 _ = V m c main_v10 _
  congr 1
  funext a
  apply Fin.ext
  match a with
  | ⟨0, _⟩ => rfl
  | ⟨1, _⟩ => show 0 * 8 + 1 * r.val = r.val; omega
  | ⟨2, _⟩ => show 0 * 1024 + 1 * l.val = l.val; omega

theorem in2 : ∀ r l, (iblk m c 2 t : Vec Ideal S1x8x512 .f32) (ix3 0 r l) = ((cpsRow I r.val l.val : ℝ) : EReal) := by
  intro r l
  refine Eq.trans ?_ (v2 H r l)
  unfold iblk
  rw [View.read_apply]
  show V m c main_v2 _ = V m c main_v2 _
  congr 1
  funext a
  apply Fin.ext
  match a with
  | ⟨0, _⟩ => rfl
  | ⟨1, _⟩ => show 0 * 8 + 1 * r.val = r.val; omega
  | ⟨2, _⟩ => show 0 * 512 + 1 * l.val = l.val; omega

theorem in3 : ∀ g r l, (iblk m c 3 t : Vec Ideal S1x4x128x128 .bf16) (ix4 0 g r l) = ((I.wp 3 g.val r.val l.val : ℝ) : EReal) := by
  intro g r l
  refine Eq.trans ?_ (v3 H g r l)
  unfold iblk
  rw [View.read_apply]
  show V m c main_v3 _ = V m c main_v3 _
  congr 1
  funext a
  apply Fin.ext
  match a with
  | ⟨0, _⟩ => rfl
  | ⟨1, _⟩ => show 0 * 4 + 1 * g.val = g.val; omega
  | ⟨2, _⟩ => show 0 * 128 + 1 * r.val = r.val; omega
  | ⟨3, _⟩ => show 0 * 128 + 1 * l.val = l.val; omega

theorem in4 : ∀ r l, (iblk m c 4 t : Vec Ideal S1024x3072 .bf16) (ix2 r l) = ((I.win r.val l.val : ℝ) : EReal) := by
  intro r l
  refine Eq.trans ?_ (v4 H r l)
  unfold iblk
  rw [View.read_apply]
  show V m c main_v4 _ = V m c main_v4 _
  congr 1
  funext a
  apply Fin.ext
  match a with
  | ⟨0, _⟩ => show 0 * 1024 + 1 * r.val = r.val; omega
  | ⟨1, _⟩ => show 0 * 3072 + 1 * l.val = l.val; omega

theorem in5 : ∀ r l, (iblk m c 5 t : Vec Ideal S1024x1024 .bf16) (ix2 r l) = ((I.wout r.val l.val : ℝ) : EReal) := by
  intro r l
  refine Eq.trans ?_ (v5 H r l)
  unfold iblk
  rw [View.read_apply]
  show V m c main_v5 _ = V m c main_v5 _
  congr 1
  funext a
  apply Fin.ext
  match a with
  | ⟨0, _⟩ => show 0 * 1024 + 1 * r.val = r.val; omega
  | ⟨1, _⟩ => show 0 * 1024 + 1 * l.val = l.val; omega

theorem in6 : ∀ r l, (iblk m c 6 t : Vec Ideal S512x1024 .f32) (ix2 r l) = ((I.dxo (512 * t.val + r.val) l.val : ℝ) : EReal) := by
  intro r l
  have ht : t.val < 4 := t.isLt
  refine Eq.trans ?_ (arg9 H ⟨512 * t.val + r.val, by have := r.isLt; omega⟩ l)
  unfold iblk
  rw [View.read_apply]
  show V m c main_arg9 _ = V m c main_arg9 _
  congr 1
  funext a
  apply Fin.ext
  match a with
  | ⟨0, _⟩ => show win0_6.index t 0 * 512 + 1 * r.val = 512 * t.val + r.val; rw [(at0 t).2]; omega
  | ⟨1, _⟩ => show 0 * 1024 + 1 * l.val = l.val; omega

end Cert.ForwardIdeal.Host
-- ==== Proof.FwdPoint.lean ====
/- What one grid point of the forward call computes from its blocks and the rows carried to it. -/
module

public import Idealize.ShloMosaic.Lib.VecWindow
public import proofs.«01_k».proof.Proof.Open
public import proofs.«01_k».proof.Proof.FwdTile
public import proofs.«01_k».proof.Proof.FwdHost

@[expose] public section

set_option maxRecDepth 16384

noncomputable section

namespace Cert.ForwardIdeal.Point

open Cert.ForwardIdeal Cert.ForwardIdeal.Gen Cert.ForwardIdeal.Host Cert.ForwardIdeal.Tile Idealize.ShloMosaic Idealize.ShloMosaic.TcCoe
open Layer (late sgm reals sum_real ite_real dite_real)
open Cert.KernelIdeal.Host (faRow fpRow vecRow cpsRow)
open Cert.KernelIdeal.Point (ld2 ld3 ld4 put_full2 readCov_ld canon_put writes_put put_whole zeros2)

/-- What a grid point's body is given: its tile's number and its seven blocks. -/
structure Ins where
  v0 : BitVec 32
  x0 : Vec Ideal S512x1024 .f32
  x1 : Vec Ideal S1x8x1024 .f32
  x2 : Vec Ideal S1x8x512 .f32
  x3 : Vec Ideal S1x4x128x128 .bf16
  x4 : Vec Ideal S1024x3072 .bf16
  x5 : Vec Ideal S1024x1024 .bf16
  x6 : Vec Ideal S512x1024 .f32

namespace Ins

variable (b : Ins) (Z : Vec Ideal S8x512 .f32) (P : Vec Ideal S16x512 .f32) (L : Vec Ideal S8x128 .f32)

def sh : FVec Ideal S1x1024 .f32 := k0_pay6 (View.ld b.x1 (Rect.unit ![0, 0, 0] ![1, 1, 1024] inb_S1x8x1024_S1x1x1024_0_0_0))
def sc : FVec Ideal S1x1024 .f32 := k0_pay7 (View.ld b.x1 (Rect.unit ![0, 1, 0] ![1, 1, 1024] inb_S1x8x1024_S1x1x1024_0_1_0))
def gate : FVec Ideal S1x1024 .f32 := k0_pay8 (View.ld b.x1 (Rect.unit ![0, 2, 0] ![1, 1, 1024] inb_S1x8x1024_S1x1x1024_0_2_0))
def gpre : FVec Ideal S1x1024 .f32 := k0_pay9 (View.ld b.x1 (Rect.unit ![0, 3, 0] ![1, 1, 1024] inb_S1x8x1024_S1x1x1024_0_3_0))
def gpost : FVec Ideal S1x1024 .f32 := k0_pay10 (View.ld b.x1 (Rect.unit ![0, 4, 0] ![1, 1, 1024] inb_S1x8x1024_S1x1x1024_0_4_0))
def tap0 : FVec Ideal S1x512 .f32 := k0_pay11 (View.ld b.x2 (Rect.unit ![0, 0, 0] ![1, 1, 512] inb_S1x8x512_S1x1x512_0_0_0))
def tap1 : FVec Ideal S1x512 .f32 := k0_pay12 (View.ld b.x2 (Rect.unit ![0, 1, 0] ![1, 1, 512] inb_S1x8x512_S1x1x512_0_1_0))
def tap2 : FVec Ideal S1x512 .f32 := k0_pay13 (View.ld b.x2 (Rect.unit ![0, 2, 0] ![1, 1, 512] inb_S1x8x512_S1x1x512_0_2_0))
def ps : FVec Ideal S1x512 .f32 := k0_pay14 (View.ld b.x2 (Rect.unit ![0, 3, 0] ![1, 1, 512] inb_S1x8x512_S1x1x512_0_3_0))
def x : Vec Ideal S512x1024 .f32 := (View.ld b.x0 (Rect.unit ![0, 0] ![512, 1024] inb_S512x1024_S512x1024_0_0))
def target : Vec Ideal S512x1024 .f32 := (View.ld b.x6 (Rect.unit ![0, 0] ![512, 1024] inb_S512x1024_S512x1024_0_0))
def win : Vec Ideal S1024x3072 .bf16 := (View.ld b.x4 (Rect.unit ![0, 0] ![1024, 3072] inb_S1024x3072_S1024x3072_0_0))
def wout : Vec Ideal S1024x1024 .bf16 := (View.ld b.x5 (Rect.unit ![0, 0] ![1024, 1024] inb_S1024x1024_S1024x1024_0_0))
def wp0 : Vec Ideal S1x1x128x128 .bf16 := (View.ld b.x3 (Rect.unit ![0, 0, 0, 0] ![1, 1, 128, 128] inb_S1x4x128x128_S1x1x128x128_0_0_0_0))
def wp1 : Vec Ideal S1x1x128x128 .bf16 := (View.ld b.x3 (Rect.unit ![0, 1, 0, 0] ![1, 1, 128, 128] inb_S1x4x128x128_S1x1x128x128_0_1_0_0))
def wp2 : Vec Ideal S1x1x128x128 .bf16 := (View.ld b.x3 (Rect.unit ![0, 2, 0, 0] ![1, 1, 128, 128] inb_S1x4x128x128_S1x1x128x128_0_2_0_0))
def wp3 : Vec Ideal S1x1x128x128 .bf16 := (View.ld b.x3 (Rect.unit ![0, 3, 0, 0] ![1, 1, 128, 128] inb_S1x4x128x128_S1x1x128x128_0_3_0_0))
def ss : FVec Ideal S512x1 .f32 := k0_pay15 b.x
def h : FVec Ideal S512x1024 .bf16 := k0_pay17 b.x b.sh b.sc b.gpre b.ss (FloatOps.ofBits .f32 1149239296#32)
def uc : FVec Ideal S512x1024 .bf16 := k0_pay25 b.x b.sh b.sc b.gpre b.ss (FloatOps.ofBits .f32 1149239296#32) b.win
def bb : FVec Ideal S512x512 .f32 := k0_pay20 b.x b.sh b.sc b.gpre b.ss (FloatOps.ofBits .f32 1149239296#32) b.win
def ga : FVec Ideal S512x512 .f32 := k0_pay22 b.x b.sh b.sc b.gpre b.ss (FloatOps.ofBits .f32 1149239296#32) b.win
def up : FVec Ideal S512x512 .f32 := k0_pay23 b.x b.sh b.sc b.gpre b.ss (FloatOps.ofBits .f32 1149239296#32) b.win
def gp : FVec Ideal S512x512 .f32 := k0_pay24 b.x b.sh b.sc b.gpre b.ss (FloatOps.ofBits .f32 1149239296#32) b.win
def z : FVec Ideal S512x512 .f32 := k0_pay26 b.x b.sh b.sc b.gpre b.ss (FloatOps.ofBits .f32 1149239296#32) b.win
def z2 : FVec Ideal S512x512 .f32 := k0_pay29 b.x b.sh b.sc b.gpre b.tap0 b.ss (FloatOps.ofBits .f32 1149239296#32) b.win (View.ld Z (Rect.unit ![0, 0] ![8, 512] inb_S8x512_S8x512_0_0))
def z1 : FVec Ideal S520x512 .f32 := k0_pay30 b.x b.sh b.sc b.gpre b.ss (FloatOps.ofBits .f32 1149239296#32) b.win (View.ld Z (Rect.unit ![0, 0] ![8, 512] inb_S8x512_S8x512_0_0))
def ya : FVec Ideal S512x512 .f32 := k0_pay35 b.tap1 b.tap2 b.bb b.ga b.z (b.z2 Z) (b.z1 Z)
def fa : FVec Ideal S512x1536 .bf16 := k0_pay36 b.tap1 b.tap2 b.bb b.ga b.z (b.z2 Z) (b.z1 Z)
def zc : FVec Ideal S8x512 .f32 := k0_pay28 b.x b.sh b.sc b.gpre b.ss (FloatOps.ofBits .f32 1149239296#32) b.win
def pc : FVec Ideal S16x512 .f32 := k0_pay38 b.up
def rows : FVec Ideal S528x512 .f32 := k0_pay37 b.up (View.ld P (Rect.unit ![0, 0] ![16, 512] inb_S16x512_S16x512_0_0))
def num : FVec Ideal S512x1 .f32 := k0_pay39 b.v0
def s2 : FVec Ideal S512x128 .f32 := k0_pay40 b.up (View.ld P (Rect.unit ![0, 0] ![16, 512] inb_S16x512_S16x512_0_0))
def pooled0 : FVec Ideal S512x128 .bf16 := k0_pay42 b.up b.num (b.s2 P) k0_pay41
def mix0 : FVec Ideal S512x128 .f32 := k0_pay43 b.up b.num (b.s2 P) k0_pay41 b.wp0
def pooled1 : FVec Ideal S512x128 .bf16 := k0_pay44 b.up (b.rows P) b.num
def mix1 : FVec Ideal S512x128 .f32 := k0_pay45 b.up (b.rows P) b.num b.wp1
def s8 : FVec Ideal S512x128 .f32 := k0_pay46 (b.rows P)
def m8 : FVec Ideal S512x1 .f32 := k0_pay47 b.num
def pooled2 : FVec Ideal S512x128 .bf16 := k0_pay49 b.up (b.s8 P) b.m8 k0_pay48
def pooled3 : FVec Ideal S512x128 .bf16 := k0_pay50 b.up (b.rows P) b.num
def mixed : FVec Ideal S512x512 .f32 := k0_pay51 b.up (b.rows P) b.num (b.mix0 P) (b.mix1 P) (b.s8 P) b.m8 k0_pay48 b.wp2 b.wp3
def sp : FVec Ideal S512x512 .f32 := k0_pay52 b.gp
def silup : FVec Ideal S512x512 .f32 := k0_pay53 b.gp
def psb : FVec Ideal S512x512 .f32 := k0_pay54 b.ps
def fp : FVec Ideal S512x2048 .bf16 := k0_pay56 b.ps (b.pooled0 P) (b.pooled1 P) (b.pooled2 P) (b.pooled3 P) (b.mixed P) b.sp b.silup b.psb
def ycat : FVec Ideal S512x1024 .bf16 := k0_pay58 (b.ya Z) (b.mixed P) b.silup b.psb
def y : FVec Ideal S512x1024 .bf16 := k0_pay59 (b.ya Z) (b.mixed P) b.silup b.psb b.wout
def err : FVec Ideal S512x1024 .f32 := k0_pay60 b.x b.gate b.gpost (b.ya Z) (b.mixed P) b.silup b.psb b.wout b.target
def dloss : FVec Ideal S512x1024 .f32 := k0_pay1 (b.err Z P)
def loss : FVec Ideal S8x128 .f32 := k0_pay2 (b.err Z P) (View.ld L (Rect.unit ![0, 0] ![8, 128] inb_S8x128_S8x128_0_0))

end Ins

variable (m : (ℓ : Loc nD τ sig) → Buf (Elt Ideal) ℓ) (c : Dev nD) (t : Fin cfg0.N)

/-- What the body of point `t` is given. -/
def ins : Ins where
  v0 := BitVec.ofNat 32 (grid0.coords t 0).val
  x0 := iblk m c 0 t
  x1 := iblk m c 1 t
  x2 := iblk m c 2 t
  x3 := iblk m c 3 t
  x4 := iblk m c 4 t
  x5 := iblk m c 5 t
  x6 := iblk m c 6 t

theorem read_0 (h : (Memref.whole cc0_scratch0).IsWhole) (X : Vec Ideal S8x512 .f32) : View.read (Elt Ideal) (View.whole cc0_scratch0) (h.unread X) = X := h.read_unread X
theorem read_1 (h : (Memref.whole cc0_scratch1).IsWhole) (X : Vec Ideal S16x512 .f32) : View.read (Elt Ideal) (View.whole cc0_scratch1) (h.unread X) = X := h.read_unread X

/-- What the point before left. -/
abbrev prev := outsAt0 m c (t.val - 1) (Nat.lt_of_le_of_lt (Nat.sub_le _ _) t.isLt)

/-- What point `t` leaves. -/
abbrev outs := outsAt0 m c t.val t.isLt

theorem A7 (h0 : t.val % 4 = 0) : (outs m c t).1 = (ins m c t).dloss (k0_pay3 (F := Ideal)) (k0_pay4 (F := Ideal)) := by
  unfold outs
  rw [outsAt0_A m c t h0]
  dsimp only
  unfold out0_A_7
  rw [View.read_writes_eq_canon _ _ _ (fun _ => cover0_A_7 ..)]
  unfold kernelRun0_A
  dsimp only
  sl_unfold_words
  simp only [View.readAt_eq_ld, Memref.IsWhole.read_unread, read_0, read_1, readCov_ld, canon_put, put_whole (s := S8x512) zeros2, put_whole (s := S16x512) zeros2, put_whole (s := S8x128) zeros2]
  refine (put_full2 _ _).trans ?_
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem A8 (h0 : t.val % 4 = 0) : (outs m c t).2.1 = (ins m c t).y (k0_pay3 (F := Ideal)) (k0_pay4 (F := Ideal)) := by
  unfold outs
  rw [outsAt0_A m c t h0]
  dsimp only
  unfold out0_A_8
  rw [View.read_writes_eq_canon _ _ _ (fun _ => cover0_A_8 ..)]
  unfold kernelRun0_A
  dsimp only
  sl_unfold_words
  simp only [View.readAt_eq_ld, Memref.IsWhole.read_unread, read_0, read_1, readCov_ld, canon_put, put_whole (s := S8x512) zeros2, put_whole (s := S16x512) zeros2, put_whole (s := S8x128) zeros2]
  refine (put_full2 _ _).trans ?_
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem A9 (h0 : t.val % 4 = 0) : (outs m c t).2.2.1 = (ins m c t).h := by
  unfold outs
  rw [outsAt0_A m c t h0]
  dsimp only
  unfold out0_A_9
  rw [View.read_writes_eq_canon _ _ _ (fun _ => cover0_A_9 ..)]
  unfold kernelRun0_A
  dsimp only
  sl_unfold_words
  simp only [View.readAt_eq_ld, Memref.IsWhole.read_unread, read_0, read_1, readCov_ld, canon_put, put_whole (s := S8x512) zeros2, put_whole (s := S16x512) zeros2, put_whole (s := S8x128) zeros2]
  refine (put_full2 _ _).trans ?_
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem A10 (h0 : t.val % 4 = 0) : (outs m c t).2.2.2.1 = (ins m c t).ycat (k0_pay3 (F := Ideal)) (k0_pay4 (F := Ideal)) := by
  unfold outs
  rw [outsAt0_A m c t h0]
  dsimp only
  unfold out0_A_10
  rw [View.read_writes_eq_canon _ _ _ (fun _ => cover0_A_10 ..)]
  unfold kernelRun0_A
  dsimp only
  sl_unfold_words
  simp only [View.readAt_eq_ld, Memref.IsWhole.read_unread, read_0, read_1, readCov_ld, canon_put, put_whole (s := S8x512) zeros2, put_whole (s := S16x512) zeros2, put_whole (s := S8x128) zeros2]
  refine (put_full2 _ _).trans ?_
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem A11 (h0 : t.val % 4 = 0) : (outs m c t).2.2.2.2.1 = (ins m c t).uc := by
  unfold outs
  rw [outsAt0_A m c t h0]
  dsimp only
  unfold out0_A_11
  rw [View.read_writes_eq_canon _ _ _ (fun _ => cover0_A_11 ..)]
  unfold kernelRun0_A
  dsimp only
  sl_unfold_words
  simp only [View.readAt_eq_ld, Memref.IsWhole.read_unread, read_0, read_1, readCov_ld, canon_put, put_whole (s := S8x512) zeros2, put_whole (s := S16x512) zeros2, put_whole (s := S8x128) zeros2]
  refine (put_full2 _ _).trans ?_
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem A12 (h0 : t.val % 4 = 0) : (outs m c t).2.2.2.2.2.1 = (ins m c t).fa (k0_pay3 (F := Ideal)) := by
  unfold outs
  rw [outsAt0_A m c t h0]
  dsimp only
  unfold out0_A_12
  rw [View.read_writes_eq_canon _ _ _ (fun _ => cover0_A_12 ..)]
  unfold kernelRun0_A
  dsimp only
  sl_unfold_words
  simp only [View.readAt_eq_ld, Memref.IsWhole.read_unread, read_0, read_1, readCov_ld, canon_put, put_whole (s := S8x512) zeros2, put_whole (s := S16x512) zeros2, put_whole (s := S8x128) zeros2]
  refine (put_full2 _ _).trans ?_
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem A13 (h0 : t.val % 4 = 0) : (outs m c t).2.2.2.2.2.2.1 = (ins m c t).fp (k0_pay4 (F := Ideal)) := by
  unfold outs
  rw [outsAt0_A m c t h0]
  dsimp only
  unfold out0_A_13
  rw [View.read_writes_eq_canon _ _ _ (fun _ => cover0_A_13 ..)]
  unfold kernelRun0_A
  dsimp only
  sl_unfold_words
  simp only [View.readAt_eq_ld, Memref.IsWhole.read_unread, read_0, read_1, readCov_ld, canon_put, put_whole (s := S8x512) zeros2, put_whole (s := S16x512) zeros2, put_whole (s := S8x128) zeros2]
  refine (put_full2 _ _).trans ?_
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem A14 (h0 : t.val % 4 = 0) : (outs m c t).2.2.2.2.2.2.2.1 = (ins m c t).loss (k0_pay3 (F := Ideal)) (k0_pay4 (F := Ideal)) (k0_pay5 (F := Ideal)) := by
  unfold outs
  rw [outsAt0_A m c t h0]
  dsimp only
  unfold out0_A_14
  rw [View.read_writes_eq_canon _ _ _ (fun _ => cover0_A_14 ..)]
  unfold kernelRun0_A
  dsimp only
  sl_unfold_words
  simp only [View.readAt_eq_ld, Memref.IsWhole.read_unread, read_0, read_1, readCov_ld, canon_put, put_whole (s := S8x512) zeros2, put_whole (s := S16x512) zeros2, put_whole (s := S8x128) zeros2]
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem As0 (h0 : t.val % 4 = 0) : (outs m c t).2.2.2.2.2.2.2.2.1 = (ins m c t).zc := by
  unfold outs
  rw [outsAt0_A m c t h0]
  dsimp only
  unfold sout0_A_0
  rw [View.read_writes_eq_canon _ _ _ (fun _ => scover0_A_0 ..)]
  unfold kernelRun0_A
  dsimp only
  sl_unfold_words
  simp only [View.readAt_eq_ld, Memref.IsWhole.read_unread, read_0, read_1, readCov_ld, canon_put, put_whole (s := S8x512) zeros2, put_whole (s := S16x512) zeros2, put_whole (s := S8x128) zeros2]
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem As1 (h0 : t.val % 4 = 0) : (outs m c t).2.2.2.2.2.2.2.2.2 = (ins m c t).pc := by
  unfold outs
  rw [outsAt0_A m c t h0]
  dsimp only
  unfold sout0_A_1
  rw [View.read_writes_eq_canon _ _ _ (fun _ => scover0_A_1 ..)]
  unfold kernelRun0_A
  dsimp only
  sl_unfold_words
  simp only [View.readAt_eq_ld, Memref.IsWhole.read_unread, read_0, read_1, readCov_ld, canon_put, put_whole (s := S8x512) zeros2, put_whole (s := S16x512) zeros2, put_whole (s := S8x128) zeros2]
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem B7 (h0 : ¬t.val % 4 = 0) : (outs m c t).1 = (ins m c t).dloss (prev m c t).2.2.2.2.2.2.2.2.1 (prev m c t).2.2.2.2.2.2.2.2.2 := by
  unfold outs
  rw [outsAt0_B m c t h0]
  dsimp only
  unfold out0_B_7
  rw [View.read_writes_eq_canon _ _ _ (fun _ => cover0_B_7 ..)]
  unfold kernelRun0_B
  dsimp only
  sl_unfold_words
  simp only [View.readAt_eq_ld, Memref.IsWhole.read_unread, read_0, read_1, readCov_ld, canon_put, put_whole (s := S8x512) zeros2, put_whole (s := S16x512) zeros2, put_whole (s := S8x128) zeros2]
  refine (put_full2 _ _).trans ?_
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem B8 (h0 : ¬t.val % 4 = 0) : (outs m c t).2.1 = (ins m c t).y (prev m c t).2.2.2.2.2.2.2.2.1 (prev m c t).2.2.2.2.2.2.2.2.2 := by
  unfold outs
  rw [outsAt0_B m c t h0]
  dsimp only
  unfold out0_B_8
  rw [View.read_writes_eq_canon _ _ _ (fun _ => cover0_B_8 ..)]
  unfold kernelRun0_B
  dsimp only
  sl_unfold_words
  simp only [View.readAt_eq_ld, Memref.IsWhole.read_unread, read_0, read_1, readCov_ld, canon_put, put_whole (s := S8x512) zeros2, put_whole (s := S16x512) zeros2, put_whole (s := S8x128) zeros2]
  refine (put_full2 _ _).trans ?_
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem B9 (h0 : ¬t.val % 4 = 0) : (outs m c t).2.2.1 = (ins m c t).h := by
  unfold outs
  rw [outsAt0_B m c t h0]
  dsimp only
  unfold out0_B_9
  rw [View.read_writes_eq_canon _ _ _ (fun _ => cover0_B_9 ..)]
  unfold kernelRun0_B
  dsimp only
  sl_unfold_words
  simp only [View.readAt_eq_ld, Memref.IsWhole.read_unread, read_0, read_1, readCov_ld, canon_put, put_whole (s := S8x512) zeros2, put_whole (s := S16x512) zeros2, put_whole (s := S8x128) zeros2]
  refine (put_full2 _ _).trans ?_
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem B10 (h0 : ¬t.val % 4 = 0) : (outs m c t).2.2.2.1 = (ins m c t).ycat (prev m c t).2.2.2.2.2.2.2.2.1 (prev m c t).2.2.2.2.2.2.2.2.2 := by
  unfold outs
  rw [outsAt0_B m c t h0]
  dsimp only
  unfold out0_B_10
  rw [View.read_writes_eq_canon _ _ _ (fun _ => cover0_B_10 ..)]
  unfold kernelRun0_B
  dsimp only
  sl_unfold_words
  simp only [View.readAt_eq_ld, Memref.IsWhole.read_unread, read_0, read_1, readCov_ld, canon_put, put_whole (s := S8x512) zeros2, put_whole (s := S16x512) zeros2, put_whole (s := S8x128) zeros2]
  refine (put_full2 _ _).trans ?_
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem B11 (h0 : ¬t.val % 4 = 0) : (outs m c t).2.2.2.2.1 = (ins m c t).uc := by
  unfold outs
  rw [outsAt0_B m c t h0]
  dsimp only
  unfold out0_B_11
  rw [View.read_writes_eq_canon _ _ _ (fun _ => cover0_B_11 ..)]
  unfold kernelRun0_B
  dsimp only
  sl_unfold_words
  simp only [View.readAt_eq_ld, Memref.IsWhole.read_unread, read_0, read_1, readCov_ld, canon_put, put_whole (s := S8x512) zeros2, put_whole (s := S16x512) zeros2, put_whole (s := S8x128) zeros2]
  refine (put_full2 _ _).trans ?_
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem B12 (h0 : ¬t.val % 4 = 0) : (outs m c t).2.2.2.2.2.1 = (ins m c t).fa (prev m c t).2.2.2.2.2.2.2.2.1 := by
  unfold outs
  rw [outsAt0_B m c t h0]
  dsimp only
  unfold out0_B_12
  rw [View.read_writes_eq_canon _ _ _ (fun _ => cover0_B_12 ..)]
  unfold kernelRun0_B
  dsimp only
  sl_unfold_words
  simp only [View.readAt_eq_ld, Memref.IsWhole.read_unread, read_0, read_1, readCov_ld, canon_put, put_whole (s := S8x512) zeros2, put_whole (s := S16x512) zeros2, put_whole (s := S8x128) zeros2]
  refine (put_full2 _ _).trans ?_
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem B13 (h0 : ¬t.val % 4 = 0) : (outs m c t).2.2.2.2.2.2.1 = (ins m c t).fp (prev m c t).2.2.2.2.2.2.2.2.2 := by
  unfold outs
  rw [outsAt0_B m c t h0]
  dsimp only
  unfold out0_B_13
  rw [View.read_writes_eq_canon _ _ _ (fun _ => cover0_B_13 ..)]
  unfold kernelRun0_B
  dsimp only
  sl_unfold_words
  simp only [View.readAt_eq_ld, Memref.IsWhole.read_unread, read_0, read_1, readCov_ld, canon_put, put_whole (s := S8x512) zeros2, put_whole (s := S16x512) zeros2, put_whole (s := S8x128) zeros2]
  refine (put_full2 _ _).trans ?_
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem B14 (h0 : ¬t.val % 4 = 0) : (outs m c t).2.2.2.2.2.2.2.1 = (ins m c t).loss (prev m c t).2.2.2.2.2.2.2.2.1 (prev m c t).2.2.2.2.2.2.2.2.2 (prev m c t).2.2.2.2.2.2.2.1 := by
  unfold outs
  rw [outsAt0_B m c t h0]
  dsimp only
  unfold out0_B_14
  rw [View.read_writes_eq_canon _ _ _ (fun _ => cover0_B_14 ..)]
  unfold kernelRun0_B
  dsimp only
  sl_unfold_words
  simp only [View.readAt_eq_ld, Memref.IsWhole.read_unread, read_0, read_1, readCov_ld, canon_put, put_whole (s := S8x512) zeros2, put_whole (s := S16x512) zeros2, put_whole (s := S8x128) zeros2]
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem Bs0 (h0 : ¬t.val % 4 = 0) : (outs m c t).2.2.2.2.2.2.2.2.1 = (ins m c t).zc := by
  unfold outs
  rw [outsAt0_B m c t h0]
  dsimp only
  unfold sout0_B_0
  rw [View.read_writes_eq_canon _ _ _ (fun _ => scover0_B_0 ..)]
  unfold kernelRun0_B
  dsimp only
  sl_unfold_words
  simp only [View.readAt_eq_ld, Memref.IsWhole.read_unread, read_0, read_1, readCov_ld, canon_put, put_whole (s := S8x512) zeros2, put_whole (s := S16x512) zeros2, put_whole (s := S8x128) zeros2]
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

theorem Bs1 (h0 : ¬t.val % 4 = 0) : (outs m c t).2.2.2.2.2.2.2.2.2 = (ins m c t).pc := by
  unfold outs
  rw [outsAt0_B m c t h0]
  dsimp only
  unfold sout0_B_1
  rw [View.read_writes_eq_canon _ _ _ (fun _ => scover0_B_1 ..)]
  unfold kernelRun0_B
  dsimp only
  sl_unfold_words
  simp only [View.readAt_eq_ld, Memref.IsWhole.read_unread, read_0, read_1, readCov_ld, canon_put, put_whole (s := S8x512) zeros2, put_whole (s := S16x512) zeros2, put_whole (s := S8x128) zeros2]
  dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, Ins.err, Ins.dloss, Ins.loss, ins]

end Cert.ForwardIdeal.Point
-- ==== Proof.FwdValue.lean ====
/- The numbers that one grid point of the forward call computes. -/
module

public import proofs.«01_k».proof.Proof.FwdPoint

@[expose] public section

set_option maxRecDepth 16384

noncomputable section

namespace Cert.ForwardIdeal.Point

open Cert.ForwardIdeal Cert.ForwardIdeal.Gen Cert.ForwardIdeal.Host Cert.ForwardIdeal.Tile Idealize.ShloMosaic Idealize.ShloMosaic.TcCoe
open Layer (late sgm reals sum_real ite_real dite_real)
open Cert.KernelIdeal.Host (faRow fpRow vecRow cpsRow)
open Cert.KernelIdeal.Point (ld2 ld3 ld4 put_full2 readCov_ld canon_put writes_put put_whole zeros2)

/-- The numbers in the blocks of tile `T`, whose first token is `n`. -/
structure Holds (b : Ins) (I : Layer.Args) (n T : ℕ) : Prop where
  lt : T < 4
  eq : n = 512 * T
  v0 : b.v0 = BitVec.ofNat 32 T
  x0 : ∀ r l, b.x0 (ix2 r l) = ((I.x (n + r.val) l.val : ℝ) : EReal)
  x1 : ∀ r l, b.x1 (ix3 0 r l) = ((vecRow I r.val l.val : ℝ) : EReal)
  x2 : ∀ r l, b.x2 (ix3 0 r l) = ((cpsRow I r.val l.val : ℝ) : EReal)
  x3 : ∀ g r l, b.x3 (ix4 0 g r l) = ((I.wp 3 g.val r.val l.val : ℝ) : EReal)
  x4 : ∀ r l, b.x4 (ix2 r l) = ((I.win r.val l.val : ℝ) : EReal)
  x5 : ∀ r l, b.x5 (ix2 r l) = ((I.wout r.val l.val : ℝ) : EReal)
  x6 : ∀ r l, b.x6 (ix2 r l) = ((I.dxo (n + r.val) l.val : ℝ) : EReal)

namespace Holds

variable {b : Ins} {I : Layer.Args} {n T : ℕ} (H : Holds b I n T)
include H

/-! ## The loads -/

/-- A row of the packed vectors. -/
theorem vec_at (k : ℕ) (inb) (l : Fin 1024) :
    View.ld b.x1 (Rect.unit ![0, k, 0] ![1, 1, 1024] inb) (ix3 0 0 l) = ((vecRow I k l.val : ℝ) : EReal) :=
  (ld3 b.x1 0 k 0 inb 0 0 l).trans ((H.x1 _ _).trans (by
    refine congrArg Real.toEReal ?_
    show vecRow I (k + 0) (0 + l.val) = _
    rw [Nat.add_zero, Nat.zero_add]))

/-- A row of the packed taps and pool scale. -/
theorem cps_at (k : ℕ) (inb) (l : Fin 512) :
    View.ld b.x2 (Rect.unit ![0, k, 0] ![1, 1, 512] inb) (ix3 0 0 l) = ((cpsRow I k l.val : ℝ) : EReal) :=
  (ld3 b.x2 0 k 0 inb 0 0 l).trans ((H.x2 _ _).trans (by
    refine congrArg Real.toEReal ?_
    show cpsRow I (k + 0) (0 + l.val) = _
    rw [Nat.add_zero, Nat.zero_add]))

/-- A group's matrix of the pool weights. -/
theorem wp_at (g : ℕ) (inb) (r l : Fin 128) :
    View.ld b.x3 (Rect.unit ![0, g, 0, 0] ![1, 1, 128, 128] inb) (ix4 0 0 r l) = ((I.wp 3 g r.val l.val : ℝ) : EReal) :=
  (ld4 b.x3 0 g 0 0 inb 0 0 r l).trans ((H.x3 _ _ _).trans (by
    refine congrArg Real.toEReal ?_
    show I.wp 3 (g + 0) (0 + r.val) (0 + l.val) = _
    rw [Nat.add_zero, Nat.zero_add, Nat.zero_add]))

theorem sh : ∀ l, b.sh (ix2 0 l) = ((I.sh l.val : ℝ) : EReal) := p6 (a := I.sh) fun l => H.vec_at 0 _ l
theorem sc : ∀ l, b.sc (ix2 0 l) = ((I.sc l.val : ℝ) : EReal) := p6 (a := I.sc) fun l => H.vec_at 1 _ l
theorem gate : ∀ l, b.gate (ix2 0 l) = ((I.gate l.val : ℝ) : EReal) := p6 (a := I.gate) fun l => H.vec_at 2 _ l
theorem gpre : ∀ l, b.gpre (ix2 0 l) = ((I.gpre 3 l.val : ℝ) : EReal) := p6 (a := I.gpre 3) fun l => H.vec_at 3 _ l
theorem gpost : ∀ l, b.gpost (ix2 0 l) = ((I.gpost 3 l.val : ℝ) : EReal) := p6 (a := I.gpost 3) fun l => H.vec_at 4 _ l
theorem tap0 : ∀ l, b.tap0 (ix2 0 l) = ((I.wc 3 0 l.val : ℝ) : EReal) := p11 (a := I.wc 3 0) fun l => H.cps_at 0 _ l
theorem tap1 : ∀ l, b.tap1 (ix2 0 l) = ((I.wc 3 1 l.val : ℝ) : EReal) := p11 (a := I.wc 3 1) fun l => H.cps_at 1 _ l
theorem tap2 : ∀ l, b.tap2 (ix2 0 l) = ((I.wc 3 2 l.val : ℝ) : EReal) := p11 (a := I.wc 3 2) fun l => H.cps_at 2 _ l
theorem ps : ∀ l, b.ps (ix2 0 l) = ((I.ps 3 l.val : ℝ) : EReal) := p11 (a := I.ps 3) fun l => H.cps_at 3 _ l
theorem x : ∀ r l, b.x (ix2 r l) = ((I.x (n + r.val) l.val : ℝ) : EReal) :=
  fun r l => (ld2 b.x0 0 0 _ r l).trans ((H.x0 _ _).trans (by simp only [Nat.zero_add]))
theorem target : ∀ r l, b.target (ix2 r l) = ((I.dxo (n + r.val) l.val : ℝ) : EReal) :=
  fun r l => (ld2 b.x6 0 0 _ r l).trans ((H.x6 _ _).trans (by simp only [Nat.zero_add]))
theorem win : ∀ r l, b.win (ix2 r l) = ((I.win r.val l.val : ℝ) : EReal) :=
  fun r l => (ld2 b.x4 0 0 _ r l).trans ((H.x4 _ _).trans (by simp only [Nat.zero_add]))
theorem wout : ∀ r l, b.wout (ix2 r l) = ((I.wout r.val l.val : ℝ) : EReal) :=
  fun r l => (ld2 b.x5 0 0 _ r l).trans ((H.x5 _ _).trans (by simp only [Nat.zero_add]))
theorem wp0 : ∀ r l, b.wp0 (ix4 0 0 r l) = ((I.wp 3 0 r.val l.val : ℝ) : EReal) := fun r l => H.wp_at 0 _ r l
theorem wp1 : ∀ r l, b.wp1 (ix4 0 0 r l) = ((I.wp 3 1 r.val l.val : ℝ) : EReal) := fun r l => H.wp_at 1 _ r l
theorem wp2 : ∀ r l, b.wp2 (ix4 0 0 r l) = ((I.wp 3 2 r.val l.val : ℝ) : EReal) := fun r l => H.wp_at 2 _ r l
theorem wp3 : ∀ r l, b.wp3 (ix4 0 0 r l) = ((I.wp 3 3 r.val l.val : ℝ) : EReal) := fun r l => H.wp_at 3 _ r l

omit H in
theorem word : FloatOps.ofBits (F := Ideal) .f32 1149239296#32 = ((1024 : ℝ) : EReal) := Layer.c_1024

/-! ## The projection -/

theorem ss : ∀ r, b.ss (ix2 r 0) = ((∑ k ∈ Finset.range 1024, I.x (n + r.val) k * I.x (n + r.val) k : ℝ) : EReal) := p15 H.x
theorem h : ∀ r c, b.h (ix2 r c) = ((I.h (n + r.val) c.val : ℝ) : EReal) := p17 word H.x H.sh H.sc H.gpre H.ss
theorem uc : ∀ r c, b.uc (ix2 r c) = ((I.ucRow (n + r.val) c.val : ℝ) : EReal) := p25 word H.x H.sh H.sc H.gpre H.ss H.win
theorem bb : ∀ r c, b.bb (ix2 r c) = ((I.proj (n + r.val) (512 + c.val) : ℝ) : EReal) := p20 word H.x H.sh H.sc H.gpre H.ss H.win
theorem ga : ∀ r c, b.ga (ix2 r c) = ((I.ga (n + r.val) c.val : ℝ) : EReal) := p22 word H.x H.sh H.sc H.gpre H.ss H.win
theorem up : ∀ r c, b.up (ix2 r c) = ((I.proj (n + r.val) (2048 + c.val) : ℝ) : EReal) := p23 word H.x H.sh H.sc H.gpre H.ss H.win
theorem gp : ∀ r c, b.gp (ix2 r c) = ((I.gp (n + r.val) c.val : ℝ) : EReal) := p24 word H.x H.sh H.sc H.gpre H.ss H.win
theorem z : ∀ r c, b.z (ix2 r c) = ((I.z c.val (n + r.val) : ℝ) : EReal) := p26 word H.x H.sh H.sc H.gpre H.ss H.win
theorem zc : ∀ r c, b.zc (ix2 r c) = ((late (I.z c.val) 8 (n + 512 + r.val) : ℝ) : EReal) := p28 word H.x H.sh H.sc H.gpre H.ss H.win
theorem pc : ∀ r c, b.pc (ix2 r c) = ((ups I (n + 512) r.val c.val : ℝ) : EReal) := p38 H.up

/-! ## The convolution's branch -/

section
variable {Z : Vec Ideal S8x512 .f32} (hZ : ∀ r c, Z (ix2 r c) = ((late (I.z c.val) 8 (n + r.val) : ℝ) : EReal))
include hZ

omit H in
theorem zrows : ∀ r c, View.ld Z (Rect.unit ![0, 0] ![8, 512] inb_S8x512_S8x512_0_0) (ix2 r c) = ((late (I.z c.val) 8 (n + r.val) : ℝ) : EReal) :=
  fun r c => (ld2 Z 0 0 _ r c).trans ((hZ _ _).trans (by simp only [Nat.zero_add]))

theorem z2 : ∀ r c, b.z2 Z (ix2 r c) = ((I.wc 3 0 c.val * late (I.z c.val) 2 (n + r.val) : ℝ) : EReal) := p29 word H.x H.sh H.sc H.gpre H.ss H.win (zrows hZ) H.tap0
theorem z1 : ∀ (r : Fin 512) c, b.z1 Z (ix2 ⟨8 + r.val, by omega⟩ c) = ((late (I.z c.val) 1 (n + r.val) : ℝ) : EReal) := p30 word H.x H.sh H.sc H.gpre H.ss H.win (zrows hZ)
theorem ya : ∀ r c, b.ya Z (ix2 r c) = ((I.bconv (n + r.val) c.val * I.silua (n + r.val) c.val : ℝ) : EReal) :=
  p35 H.tap1 H.tap2 H.z (H.z2 hZ) (H.z1 hZ) H.bb H.ga
theorem fa : ∀ r c, b.fa Z (ix2 r c) = ((faRow I (n + r.val) c.val : ℝ) : EReal) :=
  p36 H.tap1 H.tap2 H.z (H.z2 hZ) (H.z1 hZ) H.bb H.ga
end

/-! ## The pool's branch -/

theorem num : ∀ r, b.num (ix2 r 0) = ((((n + r.val : ℕ) : ℝ) + 1 : ℝ) : EReal) := by
  unfold Ins.num
  rw [H.v0]
  exact p39 H.lt H.eq
theorem m8 : ∀ r, b.m8 (ix2 r 0) = ((min (((n + r.val : ℕ) : ℝ) + 1) 8 : ℝ) : EReal) := p47 H.num
theorem sp : ∀ r c, b.sp (ix2 r c) = ((sgm (I.gp (n + r.val) c.val) : ℝ) : EReal) := p52 H.gp
theorem silup : ∀ r c, b.silup (ix2 r c) = ((I.silup (n + r.val) c.val : ℝ) : EReal) := p53 H.gp
theorem psb : ∀ (r : Fin 512) c, b.psb (ix2 r c) = ((I.ps 3 c.val : ℝ) : EReal) := p54 H.ps

section
variable {P : Vec Ideal S16x512 .f32} (hP : ∀ r c, P (ix2 r c) = ((ups I n r.val c.val : ℝ) : EReal))
include hP

omit H in
theorem prows : ∀ r c, View.ld P (Rect.unit ![0, 0] ![16, 512] inb_S16x512_S16x512_0_0) (ix2 r c) = ((ups I n r.val c.val : ℝ) : EReal) :=
  fun r c => (ld2 P 0 0 _ r c).trans ((hP _ _).trans (by simp only [Nat.zero_add]))

theorem rows : ∀ r c, b.rows P (ix2 r c) = ((ups I n r.val c.val : ℝ) : EReal) := p37 H.up (prows hP)
theorem s2 : ∀ r c, b.s2 P (ix2 r c) = ((sumw I 0 (n + r.val) c.val : ℝ) : EReal) := p40 H.up (prows hP)
theorem pooled0 : ∀ r c, b.pooled0 P (ix2 r c) = ((I.pooled 0 (n + r.val) c.val : ℝ) : EReal) := p42 H.up H.num (H.s2 hP) p41
theorem mix0 : ∀ r c, b.mix0 P (ix2 r c) = ((mix I 0 (n + r.val) c.val : ℝ) : EReal) := p43 H.up H.num (H.s2 hP) p41 H.wp0
theorem pooled1 : ∀ r c, b.pooled1 P (ix2 r c) = ((I.pooled 1 (n + r.val) c.val : ℝ) : EReal) := p44 H.up (H.rows hP) H.num
theorem mix1 : ∀ r c, b.mix1 P (ix2 r c) = ((mix I 1 (n + r.val) c.val : ℝ) : EReal) := p45 H.up (H.rows hP) H.num H.wp1
theorem s8 : ∀ r c, b.s8 P (ix2 r c) = ((sumw I 2 (n + r.val) c.val : ℝ) : EReal) := p46 (H.rows hP)
theorem pooled2 : ∀ r c, b.pooled2 P (ix2 r c) = ((I.pooled 2 (n + r.val) c.val : ℝ) : EReal) := p49 H.up (H.s8 hP) H.m8 p48
theorem pooled3 : ∀ r c, b.pooled3 P (ix2 r c) = ((I.pooled 3 (n + r.val) c.val : ℝ) : EReal) := p50 H.up (H.rows hP) H.num
theorem mixed : ∀ r c, b.mixed P (ix2 r c) = ((I.mixed (n + r.val) c.val : ℝ) : EReal) :=
  p51 H.up (H.rows hP) H.num (H.s8 hP) H.m8 p48 H.wp2 H.wp3 (H.mix0 hP) (H.mix1 hP)
theorem fp : ∀ r c, b.fp P (ix2 r c) = ((fpRow I (n + r.val) c.val : ℝ) : EReal) :=
  p56 (H.mixed hP) H.sp H.silup H.psb H.ps (H.pooled0 hP) (H.pooled1 hP) (H.pooled2 hP) (H.pooled3 hP)

/-! ## The output -/

variable {Z : Vec Ideal S8x512 .f32} (hZ : ∀ r c, Z (ix2 r c) = ((late (I.z c.val) 8 (n + r.val) : ℝ) : EReal))
include hZ

theorem ycat : ∀ r c, b.ycat Z P (ix2 r c) = ((I.ycat (n + r.val) c.val : ℝ) : EReal) := p58 (H.mixed hP) H.silup H.psb (H.ya hZ)
theorem y : ∀ r c, b.y Z P (ix2 r c) = ((I.y (n + r.val) c.val : ℝ) : EReal) := p59 (H.mixed hP) H.silup H.psb (H.ya hZ) H.wout
theorem err : ∀ r c, b.err Z P (ix2 r c) = ((I.err (n + r.val) c.val : ℝ) : EReal) :=
  p60 H.x (H.mixed hP) H.silup H.psb (H.ya hZ) H.wout H.gate H.gpost H.target
theorem dloss : ∀ r c, b.dloss Z P (ix2 r c) = ((I.err (n + r.val) c.val * (1 / 1024) : ℝ) : EReal) := p1 (H.err hP hZ)
theorem loss {L : Vec Ideal S8x128 .f32} (hL : ∀ r c, L (ix2 r c) = ((I.lossTo n : ℝ) : EReal)) :
    ∀ r c, b.loss Z P L (ix2 r c) = ((I.lossTo (n + 512) : ℝ) : EReal) :=
  p2 (H.err hP hZ) fun r c => (ld2 L 0 0 _ r c).trans (hL _ _)
end

end Holds

end Cert.ForwardIdeal.Point
-- ==== Proof.FwdAfter.lean ====
/- What the forward call holds after each grid point, and its eight results. -/
module

public import proofs.«01_k».proof.Proof.FwdValue
public import proofs.«01_k».proof.Proof.Gen.ForwardIdeal.Value

@[expose] public section

set_option maxRecDepth 16384

noncomputable section

namespace Cert.ForwardIdeal.Point

open Cert.ForwardIdeal Cert.ForwardIdeal.Gen Cert.ForwardIdeal.Host Cert.ForwardIdeal.Tile Idealize.ShloMosaic Idealize.ShloMosaic.TcCoe
open Layer (late sgm reals sum_real ite_real dite_real)
open Cert.KernelIdeal.Host (faRow fpRow vecRow cpsRow)
open Cert.KernelIdeal.Point (ld2 ld3 ld4 put_full2 readCov_ld canon_put writes_put put_whole zeros2)

variable (m : (ℓ : Loc nD τ sig) → Buf (Elt Ideal) ℓ) (c : Dev nD) {I : Layer.Args} (H : Reads (fun b => m (c, b)) I)

/-- What point `t` leaves, from the rows and the loss handed to it. -/
structure Step (t : Fin cfg0.N) (Z : Vec Ideal S8x512 .f32) (P : Vec Ideal S16x512 .f32) (L : Vec Ideal S8x128 .f32) : Prop where
  dloss : (outs m c t).1 = (ins m c t).dloss Z P
  y : (outs m c t).2.1 = (ins m c t).y Z P
  h : (outs m c t).2.2.1 = (ins m c t).h
  ycat : (outs m c t).2.2.2.1 = (ins m c t).ycat Z P
  uc : (outs m c t).2.2.2.2.1 = (ins m c t).uc
  fa : (outs m c t).2.2.2.2.2.1 = (ins m c t).fa Z
  fp : (outs m c t).2.2.2.2.2.2.1 = (ins m c t).fp P
  loss : (outs m c t).2.2.2.2.2.2.2.1 = (ins m c t).loss Z P L
  zc : (outs m c t).2.2.2.2.2.2.2.2.1 = (ins m c t).zc
  pc : (outs m c t).2.2.2.2.2.2.2.2.2 = (ins m c t).pc

/-- The first point is handed zeros. -/
theorem step_first (t : Fin cfg0.N) (h0 : t.val % 4 = 0) : Step m c t (k0_pay3 (F := Ideal)) (k0_pay4 (F := Ideal)) (k0_pay5 (F := Ideal)) :=
  ⟨A7 m c t h0, A8 m c t h0, A9 m c t h0, A10 m c t h0, A11 m c t h0, A12 m c t h0, A13 m c t h0, A14 m c t h0, As0 m c t h0, As1 m c t h0⟩

/-- A later point is handed what the point before left. -/
theorem step_next (t : Fin cfg0.N) (h0 : ¬t.val % 4 = 0) :
    Step m c t (prev m c t).2.2.2.2.2.2.2.2.1 (prev m c t).2.2.2.2.2.2.2.2.2 (prev m c t).2.2.2.2.2.2.2.1 :=
  ⟨B7 m c t h0, B8 m c t h0, B9 m c t h0, B10 m c t h0, B11 m c t h0, B12 m c t h0, B13 m c t h0, B14 m c t h0, Bs0 m c t h0, Bs1 m c t h0⟩

theorem word_at : ∀ t : Fin grid0.N, BitVec.ofNat 32 (grid0.coords t 0).val = BitVec.ofNat 32 t.val := by decide +kernel

include H in
/-- Every point's blocks hold its tile's numbers. -/
theorem holds (t : Fin cfg0.N) : Holds (ins m c t) I (512 * t.val) t.val where
  lt := t.isLt
  eq := rfl
  v0 := by unfold ins; exact word_at t
  x0 := by unfold ins; exact in0 m c H t
  x1 := by unfold ins; exact in1 m c H t
  x2 := by unfold ins; exact in2 m c H t
  x3 := by unfold ins; exact in3 m c H t
  x4 := by unfold ins; exact in4 m c H t
  x5 := by unfold ins; exact in5 m c H t
  x6 := by unfold ins; exact in6 m c H t

/-- The numbers handed to the tile that begins at token `n`. -/
structure Handed (I : Layer.Args) (n : ℕ) (Z : Vec Ideal S8x512 .f32) (P : Vec Ideal S16x512 .f32) (L : Vec Ideal S8x128 .f32) : Prop where
  z : ∀ r c, Z (ix2 r c) = ((late (I.z c.val) 8 (n + r.val) : ℝ) : EReal)
  p : ∀ r c, P (ix2 r c) = ((ups I n r.val c.val : ℝ) : EReal)
  loss : ∀ r c, L (ix2 r c) = ((I.lossTo n : ℝ) : EReal)

/-- In front of the first token there are zeros. -/
theorem handed_first (I : Layer.Args) : Handed I 0 (k0_pay3 (F := Ideal)) (k0_pay4 (F := Ideal)) (k0_pay5 (F := Ideal)) where
  z := fun r c => (p3 r c).trans (congrArg Real.toEReal (by unfold late; rw [if_neg (by have := r.isLt; omega)]))
  p := fun r c => (p4 r c).trans (congrArg Real.toEReal (by unfold ups late; rw [if_neg (by have := r.isLt; omega)]))
  loss := fun r c => (p5 r c).trans (congrArg Real.toEReal (by unfold Layer.Args.lossTo; rw [Finset.sum_range_zero]))

include H in
/-- Every point hands the next tile its numbers. -/
theorem hands (t : Fin cfg0.N) {Z P L} (S : Step m c t Z P L) (A : Handed I (512 * t.val) Z P L) :
    Handed I (512 * (t.val + 1)) (outs m c t).2.2.2.2.2.2.2.2.1 (outs m c t).2.2.2.2.2.2.2.2.2 (outs m c t).2.2.2.2.2.2.2.1 where
  z := by rw [S.zc]; exact (holds m c H t).zc
  p := by rw [S.pc]; exact (holds m c H t).pc
  loss := by rw [S.loss]; exact (holds m c H t).loss A.p A.z A.loss

include H in
/-- So every tile is handed its numbers. -/
theorem handed : ∀ (k : ℕ) (h : k < cfg0.N), ∃ Z P L, Step m c ⟨k, h⟩ Z P L ∧ Handed I (512 * k) Z P L
  | 0, h => ⟨_, _, _, step_first m c ⟨0, h⟩ rfl, handed_first I⟩
  | k + 1, h => by
    obtain ⟨Z, P, L, S, A⟩ := handed k (Nat.lt_of_succ_lt h)
    have h4 : k + 1 < 4 := h
    exact ⟨_, _, _, step_next m c ⟨k + 1, h⟩ (by dsimp only; omega), hands m c H ⟨k, Nat.lt_of_succ_lt h⟩ S A⟩

/-- The blocks' numbers. -/
theorem tiles : ∀ t : Fin grid0.N, win0_7.index t 0 = t.val ∧ win0_8.index t 0 = t.val ∧ win0_9.index t 0 = t.val ∧ win0_10.index t 0 = t.val
    ∧ win0_11.index t 0 = t.val ∧ win0_12.index t 0 = t.val ∧ win0_13.index t 0 = t.val := by decide +kernel

/-- A row by its tile and its number in the tile. -/
theorem tile_lt {i : ℕ} (h : i < 2048) : i / 512 < cfg0.N := by show i / 512 < 4; omega
theorem row_lt (i : ℕ) : i % 512 < 512 := Nat.mod_lt _ (by decide)
theorem row_eq (i : ℕ) : 512 * (i / 512) + i % 512 = i := Nat.div_add_mod i 512

/-- Two entries of an array of 2048 rows are one where the second is named by its tile and its number in the tile. -/
theorem entry {n : ℕ} {x y : (⟨2, ![2048, n]⟩ : Shape).Idx} {i l : ℕ} (k : ℕ) (e : k = i / 512) (a0 : (x 0).val = i) (a1 : (x 1).val = l)
    (b0 : (y 0).val = k * 512 + 1 * (i % 512)) (b1 : (y 1).val = 0 * n + 1 * l) : x = y := by
  funext a
  apply Fin.ext
  match a with
  | ⟨0, _⟩ => show (x 0).val = (y 0).val; rw [a0, b0, e]; omega
  | ⟨1, _⟩ => show (x 1).val = (y 1).val; rw [a1, b1]; omega

include H in
theorem arr_dloss (i : Fin 2048) (l : Fin 1024) : (dats m 0 c).arrAt 7 cfg0.N (ix2 i l) = ((I.err i.val l.val * (1 / 1024) : ℝ) : EReal) := by
  obtain ⟨Z, P, L, S, A⟩ := handed m c H (i.val / 512) (tile_lt i.isLt)
  have B := congrFun (Value.blocks7 m c ⟨i.val / 512, tile_lt i.isLt⟩ (flush0_7 _)) (ix2 ⟨i.val % 512, row_lt i.val⟩ l)
  rw [Value.flushed7, View.read_apply] at B
  have E := (holds m c H ⟨i.val / 512, tile_lt i.isLt⟩).dloss A.p A.z ⟨i.val % 512, row_lt i.val⟩ l
  rw [← S.dloss] at E
  refine Eq.trans ?_ (B.trans (E.trans (congrArg (fun n => ((I.err n l.val * (1 / 1024) : ℝ) : EReal)) (row_eq i.val))))
  exact congrArg ((dats m 0 c).arrAt 7 cfg0.N) (entry (n := 1024) (i := i.val) (l := l.val) (win0_7.index ⟨i.val / 512, _⟩ 0)
    (tiles ⟨i.val / 512, tile_lt i.isLt⟩).1 rfl rfl rfl rfl)

include H in
theorem arr_y (i : Fin 2048) (l : Fin 1024) : (dats m 0 c).arrAt 8 cfg0.N (ix2 i l) = ((I.y i.val l.val : ℝ) : EReal) := by
  obtain ⟨Z, P, L, S, A⟩ := handed m c H (i.val / 512) (tile_lt i.isLt)
  have B := congrFun (Value.blocks8 m c ⟨i.val / 512, tile_lt i.isLt⟩ (flush0_8 _)) (ix2 ⟨i.val % 512, row_lt i.val⟩ l)
  rw [Value.flushed8, View.read_apply] at B
  have E := (holds m c H ⟨i.val / 512, tile_lt i.isLt⟩).y A.p A.z ⟨i.val % 512, row_lt i.val⟩ l
  rw [← S.y] at E
  refine Eq.trans ?_ (B.trans (E.trans (congrArg (fun n => ((I.y n l.val : ℝ) : EReal)) (row_eq i.val))))
  exact congrArg ((dats m 0 c).arrAt 8 cfg0.N) (entry (n := 1024) (i := i.val) (l := l.val) (win0_8.index ⟨i.val / 512, _⟩ 0)
    (tiles ⟨i.val / 512, tile_lt i.isLt⟩).2.1 rfl rfl rfl rfl)

include H in
theorem arr_h (i : Fin 2048) (l : Fin 1024) : (dats m 0 c).arrAt 9 cfg0.N (ix2 i l) = ((I.h i.val l.val : ℝ) : EReal) := by
  obtain ⟨Z, P, L, S, A⟩ := handed m c H (i.val / 512) (tile_lt i.isLt)
  have B := congrFun (Value.blocks9 m c ⟨i.val / 512, tile_lt i.isLt⟩ (flush0_9 _)) (ix2 ⟨i.val % 512, row_lt i.val⟩ l)
  rw [Value.flushed9, View.read_apply] at B
  have E := (holds m c H ⟨i.val / 512, tile_lt i.isLt⟩).h  ⟨i.val % 512, row_lt i.val⟩ l
  rw [← S.h] at E
  refine Eq.trans ?_ (B.trans (E.trans (congrArg (fun n => ((I.h n l.val : ℝ) : EReal)) (row_eq i.val))))
  exact congrArg ((dats m 0 c).arrAt 9 cfg0.N) (entry (n := 1024) (i := i.val) (l := l.val) (win0_9.index ⟨i.val / 512, _⟩ 0)
    (tiles ⟨i.val / 512, tile_lt i.isLt⟩).2.2.1 rfl rfl rfl rfl)

include H in
theorem arr_ycat (i : Fin 2048) (l : Fin 1024) : (dats m 0 c).arrAt 10 cfg0.N (ix2 i l) = ((I.ycat i.val l.val : ℝ) : EReal) := by
  obtain ⟨Z, P, L, S, A⟩ := handed m c H (i.val / 512) (tile_lt i.isLt)
  have B := congrFun (Value.blocks10 m c ⟨i.val / 512, tile_lt i.isLt⟩ (flush0_10 _)) (ix2 ⟨i.val % 512, row_lt i.val⟩ l)
  rw [Value.flushed10, View.read_apply] at B
  have E := (holds m c H ⟨i.val / 512, tile_lt i.isLt⟩).ycat A.p A.z ⟨i.val % 512, row_lt i.val⟩ l
  rw [← S.ycat] at E
  refine Eq.trans ?_ (B.trans (E.trans (congrArg (fun n => ((I.ycat n l.val : ℝ) : EReal)) (row_eq i.val))))
  exact congrArg ((dats m 0 c).arrAt 10 cfg0.N) (entry (n := 1024) (i := i.val) (l := l.val) (win0_10.index ⟨i.val / 512, _⟩ 0)
    (tiles ⟨i.val / 512, tile_lt i.isLt⟩).2.2.2.1 rfl rfl rfl rfl)

include H in
theorem arr_uc (i : Fin 2048) (l : Fin 1024) : (dats m 0 c).arrAt 11 cfg0.N (ix2 i l) = ((I.ucRow i.val l.val : ℝ) : EReal) := by
  obtain ⟨Z, P, L, S, A⟩ := handed m c H (i.val / 512) (tile_lt i.isLt)
  have B := congrFun (Value.blocks11 m c ⟨i.val / 512, tile_lt i.isLt⟩ (flush0_11 _)) (ix2 ⟨i.val % 512, row_lt i.val⟩ l)
  rw [Value.flushed11, View.read_apply] at B
  have E := (holds m c H ⟨i.val / 512, tile_lt i.isLt⟩).uc  ⟨i.val % 512, row_lt i.val⟩ l
  rw [← S.uc] at E
  refine Eq.trans ?_ (B.trans (E.trans (congrArg (fun n => ((I.ucRow n l.val : ℝ) : EReal)) (row_eq i.val))))
  exact congrArg ((dats m 0 c).arrAt 11 cfg0.N) (entry (n := 1024) (i := i.val) (l := l.val) (win0_11.index ⟨i.val / 512, _⟩ 0)
    (tiles ⟨i.val / 512, tile_lt i.isLt⟩).2.2.2.2.1 rfl rfl rfl rfl)

include H in
theorem arr_fa (i : Fin 2048) (l : Fin 1536) : (dats m 0 c).arrAt 12 cfg0.N (ix2 i l) = ((faRow I i.val l.val : ℝ) : EReal) := by
  obtain ⟨Z, P, L, S, A⟩ := handed m c H (i.val / 512) (tile_lt i.isLt)
  have B := congrFun (Value.blocks12 m c ⟨i.val / 512, tile_lt i.isLt⟩ (flush0_12 _)) (ix2 ⟨i.val % 512, row_lt i.val⟩ l)
  rw [Value.flushed12, View.read_apply] at B
  have E := (holds m c H ⟨i.val / 512, tile_lt i.isLt⟩).fa A.z ⟨i.val % 512, row_lt i.val⟩ l
  rw [← S.fa] at E
  refine Eq.trans ?_ (B.trans (E.trans (congrArg (fun n => ((faRow I n l.val : ℝ) : EReal)) (row_eq i.val))))
  exact congrArg ((dats m 0 c).arrAt 12 cfg0.N) (entry (n := 1536) (i := i.val) (l := l.val) (win0_12.index ⟨i.val / 512, _⟩ 0)
    (tiles ⟨i.val / 512, tile_lt i.isLt⟩).2.2.2.2.2.1 rfl rfl rfl rfl)

include H in
theorem arr_fp (i : Fin 2048) (l : Fin 2048) : (dats m 0 c).arrAt 13 cfg0.N (ix2 i l) = ((fpRow I i.val l.val : ℝ) : EReal) := by
  obtain ⟨Z, P, L, S, A⟩ := handed m c H (i.val / 512) (tile_lt i.isLt)
  have B := congrFun (Value.blocks13 m c ⟨i.val / 512, tile_lt i.isLt⟩ (flush0_13 _)) (ix2 ⟨i.val % 512, row_lt i.val⟩ l)
  rw [Value.flushed13, View.read_apply] at B
  have E := (holds m c H ⟨i.val / 512, tile_lt i.isLt⟩).fp A.p ⟨i.val % 512, row_lt i.val⟩ l
  rw [← S.fp] at E
  refine Eq.trans ?_ (B.trans (E.trans (congrArg (fun n => ((fpRow I n l.val : ℝ) : EReal)) (row_eq i.val))))
  exact congrArg ((dats m 0 c).arrAt 13 cfg0.N) (entry (n := 2048) (i := i.val) (l := l.val) (win0_13.index ⟨i.val / 512, _⟩ 0)
    (tiles ⟨i.val / 512, tile_lt i.isLt⟩).2.2.2.2.2.2 rfl rfl rfl rfl)

/-- The last point. -/
def three : {t : Fin cfg0.N // t.val % 4 = 3} := ⟨⟨3, by decide⟩, rfl⟩

theorem last_one {t t' : Fin cfg0.N} (h : t.val % 4 = 3) (h' : t'.val % 4 = 3) : t = t' := by
  have a : t.val < 4 := t.isLt
  have b : t'.val < 4 := t'.isLt
  exact Fin.ext (by omega)

include H in
/-- The last point's sum is the whole loss. -/
theorem last_loss (t : Fin cfg0.N) (h3 : t.val % 4 = 3) (r : Fin 8) (l : Fin 128) :
    (dats m 0 c).arrAt 14 cfg0.N (ix2 r l) = ((I.lossTo 2048 : ℝ) : EReal) := by
  obtain ⟨Z, P, L, S, A⟩ := handed m c H t.val t.isLt
  have B := congrFun ((dats m 0 c).read_blk_arrAt_eq_flushed 14 (fun t t' h h' hne => absurd (last_one (flush0_14 t |>.mp h) (flush0_14 t' |>.mp h')) hne)
    cfg0.N t t.isLt ((flush0_14 t).mpr h3)) (ix2 r l)
  rw [Value.flushed14, View.read_apply] at B
  have E := (hands m c H t S A).loss r l
  have e : 512 * (t.val + 1) = 2048 := by have a : t.val < 4 := t.isLt; omega
  rw [e] at E
  refine Eq.trans ?_ (B.trans E)
  show (dats m 0 c).arrAt 14 cfg0.N _ = (dats m 0 c).arrAt 14 cfg0.N _
  congr 1
  funext a
  apply Fin.ext
  match a with
  | ⟨0, _⟩ => show r.val = 0 * 8 + 1 * r.val; omega
  | ⟨1, _⟩ => show l.val = 0 * 128 + 1 * l.val; omega

include H in
theorem arr_loss (r : Fin 8) (l : Fin 128) : (dats m 0 c).arrAt 14 cfg0.N (ix2 r l) = ((I.lossTo 2048 : ℝ) : EReal) :=
  last_loss m c H three.1 three.2 r l

end Cert.ForwardIdeal.Point
-- ==== Proof.FwdRef.lean ====
/- The forward reference's buffers, entry by entry, as the reals of `Layer.Args`. -/
module

public import proofs.«01_k».proof.Proof.Gen.ForwardReferenceIdeal.Run
public import proofs.«01_k».proof.Proof.FwdSpec

@[expose] public section

set_option maxRecDepth 16384

noncomputable section

namespace Cert.ForwardReferenceIdeal.Value

open Cert.ForwardReferenceIdeal Cert.ForwardReferenceIdeal.Gen Idealize.ShloMosaic Idealize.ShloMosaic.TcCoe Idealize.SL.Sem Idealize.ShloMosaic.StableHlo
open Layer (late msq rms sgm cnt wdw eps reals sum_real ite_real dite_real)
open Cert.KernelIdeal.Host (faRow fpRow)

/-- The ten arguments' contents are the reals of `I`. -/
def Reads (V0 : Valuation τ sig (Elt Ideal)) (I : Layer.Args) : Prop :=
  (∀ r l, V0 (Proc.devRef .tc main_arg0) (ix2 r l) = ((I.x r.val l.val : ℝ) : EReal))
  ∧ (∀ r l, V0 (Proc.devRef .tc main_arg1) (ix2 r l) = ((I.md r.val l.val : ℝ) : EReal))
  ∧ (∀ r l, V0 (Proc.devRef .tc main_arg2) (ix2 r l) = ((I.gpre r.val l.val : ℝ) : EReal))
  ∧ (∀ r l, V0 (Proc.devRef .tc main_arg3) (ix2 r l) = ((I.win r.val l.val : ℝ) : EReal))
  ∧ (∀ a r l, V0 (Proc.devRef .tc main_arg4) (ix3 a r l) = ((I.wc a.val r.val l.val : ℝ) : EReal))
  ∧ (∀ a b r l, V0 (Proc.devRef .tc main_arg5) (ix4 a b r l) = ((I.wp a.val b.val r.val l.val : ℝ) : EReal))
  ∧ (∀ r l, V0 (Proc.devRef .tc main_arg6) (ix2 r l) = ((I.ps r.val l.val : ℝ) : EReal))
  ∧ (∀ r l, V0 (Proc.devRef .tc main_arg7) (ix2 r l) = ((I.wout r.val l.val : ℝ) : EReal))
  ∧ (∀ r l, V0 (Proc.devRef .tc main_arg8) (ix2 r l) = ((I.gpost r.val l.val : ℝ) : EReal))
  ∧ (∀ r l, V0 (Proc.devRef .tc main_arg9) (ix2 r l) = ((I.dxo r.val l.val : ℝ) : EReal))

theorem c_half : Ideal.ofBits .f32 0x3F000000#32 = ((1 / 2 : ℝ) : EReal) := by
  simp [Ideal.ofBits, Ideal.ieee, -EReal.coe_mul]; norm_num

/-- The reciprocal root of a row's mean square. -/
theorem root (f : ℕ → ℝ) : Ideal.rsqrt (((∑ k : Fin 1024, f k.val * f k.val) / 1024 + eps : ℝ) : EReal) = ((rms f : ℝ) : EReal) := by
  have e := Layer.rms_real f
  unfold msq at e
  simp only [Finset.sum_range] at e
  exact e

/-- The rows moved down by `k`, zeros in front. -/
theorem late_dite (f : ℕ → ℝ) (k t : ℕ) : (if h : t < k then 0 else f (t - k)) = late f k t := by
  unfold late
  split_ifs <;> first | rfl | omega

/-- The rows a window has in front of and at row `t`. -/
theorem count_min (g : ℕ) {b : ℝ} (hb : b = (wdw g : ℝ)) (t : ℕ) : min ((t : ℝ) + 1) b = cnt g t := by
  subst hb; rfl

/-- The factors that `b * conv * silu(g)` has for its three arguments, side by side. -/
theorem fa_real (I : Layer.Args) (t c : ℕ) :
    (if h : c < 512 then I.silua t c * I.conv t c
      else if h : c - 512 < 512 then I.proj t (512 + (c - 512)) * I.silua t (c - 512)
      else I.bconv t (c - 512 - 512) * sgm (I.ga t (c - 512 - 512))
        + I.ga t (c - 512 - 512) * I.bconv t (c - 512 - 512) * (sgm (I.ga t (c - 512 - 512)) * (1 - sgm (I.ga t (c - 512 - 512))))) = faRow I t c := by
  unfold faRow
  by_cases h0 : c < 512
  · rw [dif_pos h0, if_pos h0]
  rw [dif_neg h0, if_neg h0]
  by_cases h1 : c - 512 < 512
  · rw [dif_pos h1, if_pos (by omega)]; ring
  rw [dif_neg h1, if_neg (by omega), show c - 512 - 512 = c - 1024 by omega]
  simp only [Layer.Args.silua]
  ring

/-- The factors that `mixed * ps * silu(g)` has for its three arguments, and the four groups' pooled rows, side by side. -/
theorem fp_real (I : Layer.Args) (t c : ℕ) :
    (if h : c < 512 then I.silup t c * I.ps 3 c
      else if h : c - 512 < 512 then I.mps t (c - 512) * sgm (I.gp t (c - 512))
        + I.gp t (c - 512) * I.mps t (c - 512) * (sgm (I.gp t (c - 512)) * (1 - sgm (I.gp t (c - 512))))
      else if h : c - 512 - 512 < 512 then I.mixed t (c - 512 - 512) * I.silup t (c - 512 - 512)
      else I.pooled ((c - 512 - 512 - 512) / 128) t ((c - 512 - 512 - 512) % 128)) = fpRow I t c := by
  unfold fpRow
  by_cases h0 : c < 512
  · rw [dif_pos h0, if_pos h0, mul_comm]
  rw [dif_neg h0, if_neg h0]
  by_cases h1 : c - 512 < 512
  · rw [dif_pos h1, if_pos (by omega)]; simp only [Layer.Args.silup]; ring
  rw [dif_neg h1, if_neg (by omega)]
  by_cases h2 : c - 512 - 512 < 512
  · rw [dif_pos h2, if_pos (by omega), mul_comm, show c - 512 - 512 = c - 1024 by omega]
  rw [dif_neg h2, if_neg (by omega), show c - 512 - 512 - 512 = c - 1536 by omega]

variable {V0 : Valuation τ sig (Elt Ideal)} {I : Layer.Args} (H : Reads V0 I)
include H

theorem r1 : ∀ l, res_main_v1 V0 (ix1 l) = ((I.md 3 l.val : ℝ) : EReal) := by
  intro l
  have A := H; unfold Reads at A
  pointwise [res_main_v1]
  simp only [A, reals, sum_real, ite_real, dite_real]
  rfl

theorem r27 : ∀ r c, res_main_v27 V0 (ix2 r c) = ((I.h r.val c.val : ℝ) : EReal) := by
  intro r c
  have A := H; unfold Reads at A
  pointwise [res_main_v27]
  simp only [A, r1 H, root (I.x r.val), reals, sum_real, ite_real, dite_real]
  refine congrArg Real.toEReal ?_
  simp only [Layer.Args.h, Layer.Args.sh, Layer.Args.sc, Layer.Args.xn, Layer.Args.rx, Nat.zero_add]
  rfl

theorem r28 : ∀ r c, res_main_v28 V0 (ix2 r c) = ((I.proj r.val c.val : ℝ) : EReal) := by
  intro r c
  have A := H; unfold Reads at A
  pointwise [res_main_v28]
  simp only [A, r27 H, reals, sum_real, ite_real, dite_real]
  refine congrArg Real.toEReal ?_
  simp only [Layer.Args.proj, Finset.sum_range]

theorem r29 : ∀ r c, res_main_v29 V0 (ix2 r c) = ((I.proj r.val c.val : ℝ) : EReal) := by
  intro r c
  have A := H; unfold Reads at A
  pointwise [res_main_v29]
  simp only [A, r28 H, reals, sum_real, ite_real, dite_real]

theorem r30 : ∀ r c, res_main_v30 V0 (ix2 r c) = ((I.proj r.val (512 + c.val) : ℝ) : EReal) := by
  intro r c
  have A := H; unfold Reads at A
  pointwise [res_main_v30]
  simp only [A, r28 H, reals, sum_real, ite_real, dite_real]

theorem r31 : ∀ r c, res_main_v31 V0 (ix2 r c) = ((I.proj r.val (1024 + c.val) : ℝ) : EReal) := by
  intro r c
  have A := H; unfold Reads at A
  pointwise [res_main_v31]
  simp only [A, r28 H, reals, sum_real, ite_real, dite_real]

theorem r33 : ∀ r c, res_main_v33 V0 (ix2 r c) = ((I.proj r.val (2048 + c.val) : ℝ) : EReal) := by
  intro r c
  have A := H; unfold Reads at A
  pointwise [res_main_v33]
  simp only [A, r28 H, reals, sum_real, ite_real, dite_real]

theorem r32 : ∀ r c, res_main_v32 V0 (ix2 r c) = ((I.ga r.val c.val : ℝ) : EReal) := by
  intro r c
  have A := H; unfold Reads at A
  pointwise [res_main_v32]
  simp only [A, r28 H, reals, sum_real, ite_real, dite_real]
  rfl

theorem r34 : ∀ r c, res_main_v34 V0 (ix2 r c) = ((I.gp r.val c.val : ℝ) : EReal) := by
  intro r c
  have A := H; unfold Reads at A
  pointwise [res_main_v34]
  simp only [A, r28 H, reals, sum_real, ite_real, dite_real]
  rfl

theorem r35 : ∀ r c, res_main_v35 V0 (ix2 r c) = ((1 : ℝ) : EReal) := by
  intro r c
  have A := H; unfold Reads at A
  pointwise [res_main_v35]
  simp only [A, reals, sum_real, ite_real, dite_real]

theorem r36 : ∀ r c, res_main_v36 V0 (ix2 r c) = ((I.z c.val r.val : ℝ) : EReal) := by
  intro r c
  have A := H; unfold Reads at A
  pointwise [res_main_v36]
  simp only [A, r31 H, r29 H, reals, sum_real, ite_real, dite_real]
  rfl

theorem r38 : ∀ r c, res_main_v38 V0 (ix2 r c) = ((I.wc 3 r.val c.val : ℝ) : EReal) := by
  intro r c
  have A := H; unfold Reads at A
  pointwise [res_main_v38]
  simp only [A, reals, sum_real, ite_real, dite_real]
  rfl

theorem r61 : ∀ r c, res_main_v61 V0 (ix2 r c) = ((I.conv r.val c.val : ℝ) : EReal) := by
  intro r c
  have A := H; unfold Reads at A
  pointwise [res_main_v61]
  simp only [A, r36 H, r38 H, reals, sum_real, ite_real, dite_real]
  refine congrArg Real.toEReal ?_
  show I.wc 3 0 c.val * (if h : r.val < 2 then 0 else I.z c.val (r.val - 2)) + I.wc 3 1 c.val * (if h : r.val < 1 then 0 else I.z c.val (r.val - 1)) + I.wc 3 2 c.val * I.z c.val r.val = _
  rw [late_dite (I.z c.val) 2, late_dite (I.z c.val) 1]
  rfl

theorem r62 : ∀ r c, res_main_v62 V0 (ix2 r c) = ((I.bconv r.val c.val : ℝ) : EReal) := by
  intro r c
  have A := H; unfold Reads at A
  pointwise [res_main_v62]
  simp only [A, r30 H, r61 H, reals, sum_real, ite_real, dite_real]
  rfl

theorem r63_2 : ∀ r c, res_main_v63_2 V0 (ix2 r c) = ((sgm (I.ga r.val c.val) : ℝ) : EReal) := by
  intro r c
  have A := H; unfold Reads at A
  pointwise [res_main_v63_2]
  simp only [A, r32 H, reals, sum_real, ite_real, dite_real]

theorem r63_0 : ∀ r c, res_main_v63_0 V0 (ix2 r c) = ((I.silua r.val c.val : ℝ) : EReal) := by
  intro r c
  have A := H; unfold Reads at A
  pointwise [res_main_v63_0]
  simp only [A, r32 H, r63_2 H, reals, sum_real, ite_real, dite_real]
  rfl

theorem r65 : ∀ r c, res_main_v65 V0 (ix2 r c) = ((I.bconv r.val c.val : ℝ) : EReal) := by
  intro r c
  have A := H; unfold Reads at A
  pointwise [res_main_v65]
  simp only [A, r62 H, r35 H, mul_one, reals, sum_real, ite_real, dite_real]

theorem r66 : ∀ r c, res_main_v66 V0 (ix2 r c) = ((I.silua r.val c.val : ℝ) : EReal) := by
  intro r c
  have A := H; unfold Reads at A
  pointwise [res_main_v66]
  simp only [A, r35 H, r63_0 H, one_mul, reals, sum_real, ite_real, dite_real]

omit H in
theorem r76 : ∀ r, res_main_v76 V0 (ix2 r 0) = (((r.val : ℝ) + 1 : ℝ) : EReal) := by
  intro r
  pointwise [res_main_v76]
  exact Layer.count_real r.isLt

theorem r77 : ∀ r c, res_main_v77 V0 (ix2 r c) = ((I.proj r.val (2048 + (0 + c.val)) : ℝ) : EReal) := by
  intro r c
  have A := H; unfold Reads at A
  pointwise [res_main_v77]
  simp only [A, r33 H, reals, sum_real, ite_real, dite_real]

theorem r78 : ∀ r c, res_main_v78 V0 (ix2 r c) = ((∑ j ∈ Finset.range 2048, late (fun s => I.proj s (2048 + (0 + c.val))) j r.val : ℝ) : EReal) :=
  fun r c => Layer.cumsum_real _ (fun c s => I.proj s (2048 + (0 + c))) (r77 H) _ (fun i => by pointwise) _ _ r c

theorem r88 : ∀ r c, res_main_v88 V0 (ix2 r c) = ((I.proj r.val (2048 + (128 + c.val)) : ℝ) : EReal) := by
  intro r c
  have A := H; unfold Reads at A
  pointwise [res_main_v88]
  simp only [A, r33 H, reals, sum_real, ite_real, dite_real]

theorem r89 : ∀ r c, res_main_v89 V0 (ix2 r c) = ((∑ j ∈ Finset.range 2048, late (fun s => I.proj s (2048 + (128 + c.val))) j r.val : ℝ) : EReal) :=
  fun r c => Layer.cumsum_real _ (fun c s => I.proj s (2048 + (128 + c))) (r88 H) _ (fun i => by pointwise) _ _ r c

theorem r99 : ∀ r c, res_main_v99 V0 (ix2 r c) = ((I.proj r.val (2048 + (256 + c.val)) : ℝ) : EReal) := by
  intro r c
  have A := H; unfold Reads at A
  pointwise [res_main_v99]
  simp only [A, r33 H, reals, sum_real, ite_real, dite_real]

theorem r100 : ∀ r c, res_main_v100 V0 (ix2 r c) = ((∑ j ∈ Finset.range 2048, late (fun s => I.proj s (2048 + (256 + c.val))) j r.val : ℝ) : EReal) :=
  fun r c => Layer.cumsum_real _ (fun c s => I.proj s (2048 + (256 + c))) (r99 H) _ (fun i => by pointwise) _ _ r c

theorem r110 : ∀ r c, res_main_v110 V0 (ix2 r c) = ((I.proj r.val (2048 + (384 + c.val)) : ℝ) : EReal) := by
  intro r c
  have A := H; unfold Reads at A
  pointwise [res_main_v110]
  simp only [A, r33 H, reals, sum_real, ite_real, dite_real]

theorem r111 : ∀ r c, res_main_v111 V0 (ix2 r c) = ((∑ j ∈ Finset.range 2048, late (fun s => I.proj s (2048 + (384 + c.val))) j r.val : ℝ) : EReal) :=
  fun r c => Layer.cumsum_real _ (fun c s => I.proj s (2048 + (384 + c))) (r110 H) _ (fun i => by pointwise) _ _ r c

theorem r125 : ∀ r g c, res_main_v125 V0 (ix3 r g c) = ((I.pooled g.val r.val c.val : ℝ) : EReal) := by
  intro r g c
  have A := H; unfold Reads at A
  have c0 := count_min 0 (b := 2) (by norm_num [wdw]) r.val
  have c1 := count_min 1 (b := 4) (by norm_num [wdw]) r.val
  have c2 := count_min 2 (b := 8) (by norm_num [wdw]) r.val
  have c3 := count_min 3 (b := 16) (by norm_num [wdw]) r.val
  pointwise [res_main_v125]
  simp only [A, r78 H, r89 H, r100 H, r111 H, r77 H, r88 H, r99 H, r110 H, r76, c0, c1, c2, c3, reals, sum_real, ite_real, dite_real]
  refine congrArg Real.toEReal ?_
  clear A c0 c1 c2 c3
  simp only [Layer.window_real _ _ r.isLt]
  unfold Layer.Args.pooled
  obtain ⟨g, hg⟩ := g
  interval_cases g <;> simp [wdw]

theorem r129 : ∀ r c, res_main_v129 V0 (ix2 r c) = ((I.mixed r.val c.val : ℝ) : EReal) := by
  intro r c
  have A := H; unfold Reads at A
  pointwise [res_main_v129]
  simp only [A, r125 H, reals, sum_real, ite_real, dite_real]
  refine congrArg Real.toEReal ?_
  simp only [Layer.Args.mixed, Finset.sum_range]
  exact Finset.sum_congr rfl fun k _ => mul_comm _ _

theorem r132 : ∀ r c, res_main_v132 V0 (ix2 r c) = ((I.ps 3 c.val : ℝ) : EReal) := by
  intro r c
  have A := H; unfold Reads at A
  pointwise [res_main_v132]
  simp only [A, reals, sum_real, ite_real, dite_real]
  rfl

theorem r133 : ∀ r c, res_main_v133 V0 (ix2 r c) = ((I.mps r.val c.val : ℝ) : EReal) := by
  intro r c
  have A := H; unfold Reads at A
  pointwise [res_main_v133]
  simp only [A, r129 H, r132 H, reals, sum_real, ite_real, dite_real]
  rfl

theorem r134_2 : ∀ r c, res_main_v134_2 V0 (ix2 r c) = ((sgm (I.gp r.val c.val) : ℝ) : EReal) := by
  intro r c
  have A := H; unfold Reads at A
  pointwise [res_main_v134_2]
  simp only [A, r34 H, reals, sum_real, ite_real, dite_real]

theorem r134_0 : ∀ r c, res_main_v134_0 V0 (ix2 r c) = ((I.silup r.val c.val : ℝ) : EReal) := by
  intro r c
  have A := H; unfold Reads at A
  pointwise [res_main_v134_0]
  simp only [A, r34 H, r134_2 H, reals, sum_real, ite_real, dite_real]
  rfl

theorem r136 : ∀ r c, res_main_v136 V0 (ix2 r c) = ((I.mps r.val c.val : ℝ) : EReal) := by
  intro r c
  have A := H; unfold Reads at A
  pointwise [res_main_v136]
  simp only [A, r133 H, r35 H, mul_one, reals, sum_real, ite_real, dite_real]

theorem r137 : ∀ r c, res_main_v137 V0 (ix2 r c) = ((I.silup r.val c.val : ℝ) : EReal) := by
  intro r c
  have A := H; unfold Reads at A
  pointwise [res_main_v137]
  simp only [A, r35 H, r134_0 H, one_mul, reals, sum_real, ite_real, dite_real]

theorem r141 : ∀ r c, res_main_v141 V0 (ix2 r c) = ((I.ycat r.val c.val : ℝ) : EReal) := by
  intro r c
  have A := H; unfold Reads at A
  pointwise [res_main_v141]
  simp only [A, r62 H, r63_0 H, r133 H, r134_0 H, reals, sum_real, ite_real, dite_real]
  unfold Layer.Args.ycat
  split_ifs <;> rfl

theorem r142 : ∀ r c, res_main_v142 V0 (ix2 r c) = ((I.y r.val c.val : ℝ) : EReal) := by
  intro r c
  have A := H; unfold Reads at A
  pointwise [res_main_v142]
  simp only [A, r141 H, reals, sum_real, ite_real, dite_real]
  refine congrArg Real.toEReal ?_
  simp only [Layer.Args.y, Finset.sum_range]

theorem r162 : ∀ r c, res_main_v162 V0 (ix2 r c) = ((I.err r.val c.val : ℝ) : EReal) := by
  intro r c
  have A := H; unfold Reads at A
  pointwise [res_main_v162]
  simp only [A, r1 H, r142 H, root (I.y r.val), reals, sum_real, ite_real, dite_real]
  rfl

omit H in
/-- From contents that read the reals of `I`, the reference ends with its eight results those of the layer and its head, its arguments unchanged. -/
theorem forward (m : (ℓ : Loc nD τ sig) → Buf (Elt Ideal) ℓ) (ρ : Dev nD → PrngReg) (J : Dev nD → Layer.Args)
    (HJ : ∀ c, Reads (launchContents m c) (J c)) :
    θ_run defs (onTc (τ := τ) (main (F := Ideal))) ⟨m, fun _ => 0, ρ⟩ fun r => ∀ c : Dev nD,
      (∀ t l, r.2.mem ((c.tc : Thread nD τ).loc main_v176) (ix2 t l) = (((J c).err t.val l.val * (1 / 1024) : ℝ) : EReal))
      ∧ (∀ t l, r.2.mem ((c.tc : Thread nD τ).loc main_v180) (ix2 t l) = (((J c).y t.val l.val : ℝ) : EReal))
      ∧ (∀ t l, r.2.mem ((c.tc : Thread nD τ).loc main_v181) (ix2 t l) = (((J c).h t.val l.val : ℝ) : EReal))
      ∧ (∀ t l, r.2.mem ((c.tc : Thread nD τ).loc main_v182) (ix2 t l) = (((J c).ycat t.val l.val : ℝ) : EReal))
      ∧ (∀ t l, r.2.mem ((c.tc : Thread nD τ).loc main_v183) (ix2 t l) = (((J c).ucRow t.val l.val : ℝ) : EReal))
      ∧ (∀ t l, r.2.mem ((c.tc : Thread nD τ).loc main_v184) (ix2 t l) = ((faRow (J c) t.val l.val : ℝ) : EReal))
      ∧ (∀ t l, r.2.mem ((c.tc : Thread nD τ).loc main_v185) (ix2 t l) = ((fpRow (J c) t.val l.val : ℝ) : EReal))
      ∧ (∀ t l, r.2.mem ((c.tc : Thread nD τ).loc main_v186) (ix2 t l) = (((J c).lossTo 2048 : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (run (F := Ideal) m ρ)
  have H := HJ c
  clear HJ
  refine ⟨fun t l => ?_, fun t l => ?_, fun t l => ?_, fun t l => ?_, fun t l => ?_, fun t l => ?_, fun t l => ?_, fun t l => ?_, (h c).2.2.2.2.2.2.2.2⟩
  · rw [(h c).1]
    pointwise
    simp only [r162 H, c_half, reals]
    refine congrArg Real.toEReal ?_
    ring
  · rw [(h c).2.1]
    pointwise
    exact r142 H t l
  · rw [(h c).2.2.1]
    pointwise
    exact r27 H t l
  · rw [(h c).2.2.2.1]
    pointwise
    exact r141 H t l
  · rw [(h c).2.2.2.2.1]
    pointwise
    simp only [r29 H, r31 H, dite_real]
    refine congrArg Real.toEReal ?_
    unfold Layer.Args.ucRow
    split_ifs with a
    · rfl
    · exact congrArg ((J c).proj t.val) (by omega)
  · rw [(h c).2.2.2.2.2.1]
    pointwise
    simp only [r66 H, r61 H, r30 H, r65 H, r63_2 H, r32 H, reals, dite_real]
    refine congrArg Real.toEReal ?_
    exact fa_real (J c) t.val l.val
  · rw [(h c).2.2.2.2.2.2.1]
    pointwise
    simp only [r137 H, r132 H, r136 H, r134_2 H, r34 H, r129 H, r125 H, reals, dite_real]
    refine congrArg Real.toEReal ?_
    exact fp_real (J c) t.val l.val
  · rw [(h c).2.2.2.2.2.2.2.1]
    pointwise
    simp only [r162 H, c_half, reals, sum_real]
    refine congrArg Real.toEReal ?_
    unfold Layer.Args.lossTo
    simp only [Finset.sum_range, Finset.mul_sum]
    exact Finset.sum_congr rfl fun k _ => by ring

end Cert.ForwardReferenceIdeal.Value
-- ==== Proof.Finite.lean ====
/- The precondition read: every entry of every argument is a real number. -/
module

public import proofs.«01_k».proof.Defs
public import proofs.«01_k».proof.Proof.Gen.Pre_finite
public import proofs.«01_k».proof.Proof.Line
public import proofs.«01_k».proof.Proof.Ref

@[expose] public section

noncomputable section

namespace Cert.Finite

open Idealize.ShloMosaic Idealize.ShloMosaic.TcCoe Cert.Pre_finite

/-- A conjunction of bits over a list is set only where each bit is. -/
theorem foldl_and {α : Type} (f : α → BitVec 1) : ∀ (l : List α) (b : BitVec 1),
    l.foldl (fun r n => IntOp.andi r (f n)) b = 1#1 → b = 1#1 ∧ ∀ n ∈ l, f n = 1#1 := by
  have both : ∀ a b : BitVec 1, IntOp.andi a b = 1#1 → a = 1#1 ∧ b = 1#1 := by decide
  intro l
  induction l with
  | nil => exact fun b h => ⟨h, fun n hn => absurd hn List.not_mem_nil⟩
  | cons a l ih =>
    intro b h
    obtain ⟨h1, h2⟩ := ih _ h
    obtain ⟨h3, h4⟩ := both _ _ h1
    refine ⟨h3, fun n hn => ?_⟩
    rcases List.mem_cons.mp hn with rfl | hn
    · exact h4
    · exact h2 n hn

/-- The bit of an array's check: where it is set, each entry is a real number. -/
theorem entries {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1) :
    ∀ i, x i = (((x i : EReal).toReal : ℝ) : EReal) := by
  intro i
  have hm : s.rowMajor i ∈ (List.finRange s.numel).filter fun n => hr.drop (s.rowMajor.symm n) = j := by
    rw [List.mem_filter]
    exact ⟨List.mem_finRange _, decide_eq_true (funext fun a => a.elim0)⟩
  have hi := (foldl_and _ _ _ h).2 _ hm
  have top : Ideal.ofBits .f32 0x7F800000#32 = ⊤ := by simp [Ideal.ofBits, Ideal.ieee]
  change Ideal.cmp .olt (max (x (s.rowMajor.symm (s.rowMajor i)) : EReal) (-(x (s.rowMajor.symm (s.rowMajor i)) : EReal))) (Ideal.ofBits .f32 0x7F800000#32) = 1#1 at hi
  rw [Equiv.symm_apply_apply, top] at hi
  have hl : max (x i : EReal) (-(x i : EReal)) < ⊤ := by
    by_contra hn
    rw [Ideal.cmp] at hi
    simp [hn] at hi
  have h1 : (x i : EReal) ≠ ⊤ := fun e => by rw [e] at hl; simp at hl
  have h2 : (x i : EReal) ≠ ⊥ := fun e => by rw [e] at hl; simp at hl
  exact (EReal.coe_toReal h1 h2).symm

/-- Entries by natural numbers, zero outside. -/
def num2 {a b : ℕ} (x : FVec Ideal ⟨2, ![a, b]⟩ .f32) (r l : ℕ) : ℝ := if h : r < a ∧ l < b then (x (ix2 ⟨r, h.1⟩ ⟨l, h.2⟩) : EReal).toReal else 0
def num3 {a b d : ℕ} (x : FVec Ideal ⟨3, ![a, b, d]⟩ .f32) (q r l : ℕ) : ℝ :=
  if h : q < a ∧ r < b ∧ l < d then (x (ix3 ⟨q, h.1⟩ ⟨r, h.2.1⟩ ⟨l, h.2.2⟩) : EReal).toReal else 0
def num4 {a b d e : ℕ} (x : FVec Ideal ⟨4, ![a, b, d, e]⟩ .f32) (p q r l : ℕ) : ℝ :=
  if h : p < a ∧ q < b ∧ r < d ∧ l < e then (x (ix4 ⟨p, h.1⟩ ⟨q, h.2.1⟩ ⟨r, h.2.2.1⟩ ⟨l, h.2.2.2⟩) : EReal).toReal else 0

theorem at2 {a b : ℕ} (x : FVec Ideal ⟨2, ![a, b]⟩ .f32) (h : ∀ i, x i = (((x i : EReal).toReal : ℝ) : EReal)) (r : Fin a) (l : Fin b) :
    x (ix2 r l) = ((num2 x r.val l.val : ℝ) : EReal) := by
  unfold num2; rw [dif_pos ⟨r.isLt, l.isLt⟩]; exact h _
theorem at3 {a b d : ℕ} (x : FVec Ideal ⟨3, ![a, b, d]⟩ .f32) (h : ∀ i, x i = (((x i : EReal).toReal : ℝ) : EReal)) (q : Fin a) (r : Fin b) (l : Fin d) :
    x (ix3 q r l) = ((num3 x q.val r.val l.val : ℝ) : EReal) := by
  unfold num3; rw [dif_pos ⟨q.isLt, r.isLt, l.isLt⟩]; exact h _
theorem at4 {a b d e : ℕ} (x : FVec Ideal ⟨4, ![a, b, d, e]⟩ .f32) (h : ∀ i, x i = (((x i : EReal).toReal : ℝ) : EReal)) (p : Fin a) (q : Fin b) (r : Fin d) (l : Fin e) :
    x (ix4 p q r l) = ((num4 x p.val q.val r.val l.val : ℝ) : EReal) := by
  unfold num4; rw [dif_pos ⟨p.isLt, q.isLt, r.isLt, l.isLt⟩]; exact h _

section
variable (a0 : FVec Ideal S2048x1024 .f32) (a1 : FVec Ideal S4x3072 .f32) (a2 : FVec Ideal S4x1024 .f32) (a3 : FVec Ideal S1024x3072 .f32)
  (a4 : FVec Ideal S4x3x512 .f32) (a5 : FVec Ideal S4x4x128x128 .f32) (a6 : FVec Ideal S4x512 .f32) (a7 : FVec Ideal S1024x1024 .f32)
  (a8 : FVec Ideal S4x1024 .f32) (a9 : FVec Ideal S2048x1024 .f32)

/-- The numbers of the ten arguments. -/
def args : Layer.Args where
  x := num2 a0
  md := num2 a1
  gpre := num2 a2
  win := num2 a3
  wc := num3 a4
  wp := num4 a5
  ps := num2 a6
  wout := num2 a7
  gpost := num2 a8
  dxo := num2 a9

/-- Where the check's bit is set, every entry is its number. -/
theorem read (j : S_.Idx) (h : Cert.Pre_finite.fn (F := Ideal) a0 a1 a2 a3 a4 a5 a6 a7 a8 a9 j = 1#1) :
    (∀ r l, a0 (ix2 r l) = ((num2 a0 r.val l.val : ℝ) : EReal)) ∧ (∀ r l, a1 (ix2 r l) = ((num2 a1 r.val l.val : ℝ) : EReal))
    ∧ (∀ r l, a2 (ix2 r l) = ((num2 a2 r.val l.val : ℝ) : EReal)) ∧ (∀ r l, a3 (ix2 r l) = ((num2 a3 r.val l.val : ℝ) : EReal))
    ∧ (∀ q r l, a4 (ix3 q r l) = ((num3 a4 q.val r.val l.val : ℝ) : EReal)) ∧ (∀ p q r l, a5 (ix4 p q r l) = ((num4 a5 p.val q.val r.val l.val : ℝ) : EReal))
    ∧ (∀ r l, a6 (ix2 r l) = ((num2 a6 r.val l.val : ℝ) : EReal)) ∧ (∀ r l, a7 (ix2 r l) = ((num2 a7 r.val l.val : ℝ) : EReal))
    ∧ (∀ r l, a8 (ix2 r l) = ((num2 a8 r.val l.val : ℝ) : EReal)) ∧ (∀ r l, a9 (ix2 r l) = ((num2 a9 r.val l.val : ℝ) : EReal)) := by
  have both : ∀ a b : BitVec 1, IntOp.andi a b = 1#1 → a = 1#1 ∧ b = 1#1 := by decide
  unfold fn fn_part1 fn_part2 at h
  obtain ⟨h, h9⟩ := both _ _ h
  obtain ⟨h, h8⟩ := both _ _ h
  obtain ⟨h, h7⟩ := both _ _ h
  obtain ⟨h, h6⟩ := both _ _ h
  obtain ⟨h, h5⟩ := both _ _ h
  obtain ⟨h, h4⟩ := both _ _ h
  obtain ⟨h, h3⟩ := both _ _ h
  obtain ⟨h, h2⟩ := both _ _ h
  obtain ⟨h0, h1⟩ := both _ _ h
  exact ⟨at2 a0 (entries a0 _ _ _ j h0), at2 a1 (entries a1 _ _ _ j h1), at2 a2 (entries a2 _ _ _ j h2), at2 a3 (entries a3 _ _ _ j h3),
    at3 a4 (entries a4 _ _ _ j h4), at4 a5 (entries a5 _ _ _ j h5), at2 a6 (entries a6 _ _ _ j h6), at2 a7 (entries a7 _ _ _ j h7),
    at2 a8 (entries a8 _ _ _ j h8), at2 a9 (entries a9 _ _ _ j h9)⟩
end

end Cert.Finite
-- ==== Proof.Moved.lean ====
/- The host lines of another layer's backward call: the same as the last layer's but for three rows, so from any contents
   they leave what the last layer's lines leave from contents whose last rows are that layer's. -/
module

public import proofs.«01_k».proof.Proof.Blocks

@[expose] public section

set_option maxRecDepth 16384

noncomputable section

/-- The numbers whose rows for layer 3 are those for layer `l`. -/
def Layer.Args.moved (I : Layer.Args) (l : ℕ) : Layer.Args :=
  { I with
    md := fun r => I.md (if r = 3 then l else r)
    gpre := fun r => I.gpre (if r = 3 then l else r)
    wc := fun r => I.wc (if r = 3 then l else r)
    wp := fun r => I.wp (if r = 3 then l else r)
    ps := fun r => I.ps (if r = 3 then l else r)
    gpost := fun r => I.gpost (if r = 3 then l else r) }

namespace Cert

open Idealize.ShloMosaic Idealize.ShloMosaic.TcCoe Idealize.ShloMosaic.StableHlo

/-- Row `r` where row 3 stands for row `l`. -/
def row (l r : Fin 4) : Fin 4 := if r = 3 then l else r

theorem row_val (l r : Fin 4) : (row l r).val = if r.val = 3 then l.val else r.val := by
  unfold row
  by_cases h : r = 3
  · subst h; rfl
  · rw [if_neg h, if_neg (fun e : r.val = 3 => h (Fin.ext e))]

/-- Two arrays with the same entries are the same. -/
theorem eq2 {α : Type} {a b : ℕ} {X Y : (⟨2, ![a, b]⟩ : Shape).Idx → α} (h : ∀ r l, X (ix2 r l) = Y (ix2 r l)) : X = Y :=
  funext fun i => by
    have e : i = ix2 (i 0) (i 1) := funext fun k => by match k with | ⟨0, _⟩ => rfl | ⟨1, _⟩ => rfl
    rw [e]
    exact h _ _
theorem eq3 {α : Type} {a b d : ℕ} {X Y : (⟨3, ![a, b, d]⟩ : Shape).Idx → α} (h : ∀ q r l, X (ix3 q r l) = Y (ix3 q r l)) : X = Y :=
  funext fun i => by
    have e : i = ix3 (i 0) (i 1) (i 2) := funext fun k => by match k with | ⟨0, _⟩ => rfl | ⟨1, _⟩ => rfl | ⟨2, _⟩ => rfl
    rw [e]
    exact h _ _ _
theorem eq4 {α : Type} {a b d e : ℕ} {X Y : (⟨4, ![a, b, d, e]⟩ : Shape).Idx → α} (h : ∀ q p r l, X (ix4 q p r l) = Y (ix4 q p r l)) : X = Y :=
  funext fun i => by
    have e : i = ix4 (i 0) (i 1) (i 2) (i 3) := funext fun k => by match k with | ⟨0, _⟩ => rfl | ⟨1, _⟩ => rfl | ⟨2, _⟩ => rfl | ⟨3, _⟩ => rfl
    rw [e]
    exact h _ _ _ _

/-- Operations that touch no buffer of `S` keep the agreement of two contents off `S`. -/
theorem after_off {τ : Topo} {sig : RefSig} {Val : EltTy → Type} {S : Finset (DevRef τ sig)} :
    ∀ {ops : List (HloOp τ sig Val)}, (∀ op ∈ ops, Disjoint op.bufs S) → ∀ {U W : Valuation τ sig Val},
      (∀ b, b ∉ S → U b = W b) → ∀ b, b ∉ S → after ops U b = after ops W b
  | [], _, _, _, h, b, hb => h b hb
  | op :: ops, hS, U, W, h, b, hb => by
    rw [after_cons, after_cons]
    refine after_off (fun o ho => hS o (List.mem_cons_of_mem _ ho)) (fun x hx => ?_) b hb
    by_cases hm : x ∈ op.bufs
    · exact op.result_congr (fun y hy => h y (Finset.disjoint_left.mp (hS op List.mem_cons_self) hy)) x hm
    · rw [op.result_of_not_mem U fun hw => hm (op.writes_sub hw), op.result_of_not_mem W fun hw => hm (op.writes_sub hw)]
      exact h x hx

namespace Moved

open Idealize.SL.Sem Idealize.SL Idealize.SL.RA Idealize.ShloMosaic.Pipeline

section
variable {nD : ℕ} {τ : Topo} {sig : RefSig} {Val : EltTy → Type}

/-- A windowed array after the write-backs of the points below `n`, as a function of the window, the first contents and
    what each point writes back. -/
def fold {G : Grid} (w : Window sig G) (c : Dev nD) (A : Buf Val (w.arr.view.loc (c.tc : Thread nD τ)))
    (f : (t : Fin G.N) → (w.xblock (G.coords t)).Idx → Val w.elt) : ℕ → Buf Val (w.arr.view.loc (c.tc : Thread nD τ))
  | 0 => A
  | n + 1 =>
    if h : n < G.N then
      if w.flush ⟨n, h⟩ then (w.blk ⟨n, h⟩).view.write Val (fold w c A f n) (f ⟨n, h⟩) Finset.univ else fold w c A f n
    else fold w c A f n

theorem arrAt_eq {Λ₀ : Idealize.SL.Sem.Labels} {Ix : Type} [DecidableEq Ix] {Name : Type} [DecidableEq Name] {U : Type} [URA U] {Lvl : Type} [Preorder Lvl]
    {cfg : Cfg sig Λ₀} {c : Dev nD} (dat : Dat τ Val Ix Name U Lvl cfg c) (w : Fin cfg.W) (n : ℕ) :
    dat.arrAt w n = fold (cfg.win w) c (dat.A w) (fun t => dat.flushed w t) n := by
  induction n with
  | zero => rfl
  | succ n ih => simp only [Dat.arrAt, fold, ih]
end

end Moved

namespace KernelIdeal.Moved

open Cert.KernelIdeal Cert.KernelIdeal.Gen Cert.KernelIdeal.Host
open Layer (reals sum_real ite_real dite_real)

/-- The contents whose last rows of the layers' arguments are row `l`. -/
def move (l : Fin 4) (U : Valuation τ sig (Elt Ideal)) : Valuation τ sig (Elt Ideal) :=
  Function.update (Function.update (Function.update (Function.update (Function.update (Function.update U
    (Proc.devRef .tc main_arg1) (fun i : S4x3072.Idx => U (Proc.devRef .tc main_arg1) (ix2 (row l (i 0)) (i 1))))
    (Proc.devRef .tc main_arg2) (fun i : S4x1024.Idx => U (Proc.devRef .tc main_arg2) (ix2 (row l (i 0)) (i 1))))
    (Proc.devRef .tc main_arg4) (fun i : S4x3x512.Idx => U (Proc.devRef .tc main_arg4) (ix3 (row l (i 0)) (i 1) (i 2))))
    (Proc.devRef .tc main_arg5) (fun i : S4x4x128x128.Idx => U (Proc.devRef .tc main_arg5) (ix4 (row l (i 0)) (i 1) (i 2) (i 3))))
    (Proc.devRef .tc main_arg6) (fun i : S4x512.Idx => U (Proc.devRef .tc main_arg6) (ix2 (row l (i 0)) (i 1))))
    (Proc.devRef .tc main_arg8) (fun i : S4x1024.Idx => U (Proc.devRef .tc main_arg8) (ix2 (row l (i 0)) (i 1)))

/-- The buffers that the lines after the first nineteen do not touch and that may differ between the layers. -/
def odd : List (Ref sig .tc) :=
  [main_arg1, main_arg2, main_arg4, main_arg5, main_arg6, main_arg8, main_v0, main_cst, main_v1, main_v2, main_v3,
   main_cst_0, main_v6, main_v7, main_v8, main_v9, main_v10, main_v11, main_v13, main_v15]

/-- `odd` as a set of the device's buffers. -/
def oddSet : Finset (DevRef τ sig) := (odd.map (Proc.devRef (τ := τ) .tc)).toFinset

theorem clear : ∀ op ∈ line.drop 19, Disjoint op.bufs oddSet := by decide +kernel

section
variable (l : Fin 4) (U : Valuation τ sig (Elt Ideal))

theorem move_off {b : DevRef τ sig} (h : b ∉ oddSet) : move l U b = U b := by
  have e : ∀ r : Ref sig .tc, r ∈ odd → b ≠ Proc.devRef .tc r := fun r hr hb =>
    h (List.mem_toFinset.mpr (hb ▸ List.mem_map_of_mem hr))
  unfold move
  rw [Function.update_of_ne (e _ (by decide)), Function.update_of_ne (e _ (by decide)), Function.update_of_ne (e _ (by decide)),
    Function.update_of_ne (e _ (by decide)), Function.update_of_ne (e _ (by decide)), Function.update_of_ne (e _ (by decide))]

theorem ne {r s : Ref sig .tc} (h : r ≠ s) : Proc.devRef (τ := τ) .tc r ≠ Proc.devRef .tc s := fun e => h (Proc.devRef_injective _ e)

theorem move1 (i : S4x3072.Idx) : move l U (Proc.devRef .tc main_arg1) i = U (Proc.devRef .tc main_arg1) (ix2 (row l (i 0)) (i 1)) := by
  unfold move
  rw [Function.update_of_ne (ne (by decide)), Function.update_of_ne (ne (by decide)), Function.update_of_ne (ne (by decide)),
    Function.update_of_ne (ne (by decide)), Function.update_of_ne (ne (by decide)), Function.update_self]
theorem move2 (i : S4x1024.Idx) : move l U (Proc.devRef .tc main_arg2) i = U (Proc.devRef .tc main_arg2) (ix2 (row l (i 0)) (i 1)) := by
  unfold move
  rw [Function.update_of_ne (ne (by decide)), Function.update_of_ne (ne (by decide)), Function.update_of_ne (ne (by decide)),
    Function.update_of_ne (ne (by decide)), Function.update_self]
theorem move4 (i : S4x3x512.Idx) : move l U (Proc.devRef .tc main_arg4) i = U (Proc.devRef .tc main_arg4) (ix3 (row l (i 0)) (i 1) (i 2)) := by
  unfold move
  rw [Function.update_of_ne (ne (by decide)), Function.update_of_ne (ne (by decide)), Function.update_of_ne (ne (by decide)),
    Function.update_self]
theorem move5 (i : S4x4x128x128.Idx) : move l U (Proc.devRef .tc main_arg5) i = U (Proc.devRef .tc main_arg5) (ix4 (row l (i 0)) (i 1) (i 2) (i 3)) := by
  unfold move
  rw [Function.update_of_ne (ne (by decide)), Function.update_of_ne (ne (by decide)), Function.update_self]
theorem move6 (i : S4x512.Idx) : move l U (Proc.devRef .tc main_arg6) i = U (Proc.devRef .tc main_arg6) (ix2 (row l (i 0)) (i 1)) := by
  unfold move
  rw [Function.update_of_ne (ne (by decide)), Function.update_self]
theorem move8 (i : S4x1024.Idx) : move l U (Proc.devRef .tc main_arg8) i = U (Proc.devRef .tc main_arg8) (ix2 (row l (i 0)) (i 1)) := by
  unfold move
  rw [Function.update_self]

/-- The moved contents read the numbers moved to layer `l`. -/
theorem reads_move {I : Layer.Args} (H : Reads U I) : Reads (move l U) (I.moved l.val) := by
  unfold Reads at H ⊢
  obtain ⟨h0, h1, h2, h3, h4, h5, h6, h7, h8, h9⟩ := H
  refine ⟨fun r j => ?_, fun r j => ?_, fun r j => ?_, fun r j => ?_, fun a r j => ?_, fun a g r j => ?_, fun r j => ?_, fun r j => ?_,
    fun r j => ?_, fun r j => ?_⟩
  · rw [move_off l U (by decide +kernel)]; exact h0 r j
  · rw [move1]; exact (h1 (row l r) j).trans (by rw [row_val]; rfl)
  · rw [move2]; exact (h2 (row l r) j).trans (by rw [row_val]; rfl)
  · rw [move_off l U (by decide +kernel)]; exact h3 r j
  · rw [move4]; exact (h4 (row l a) r j).trans (by rw [row_val]; rfl)
  · rw [move5]; exact (h5 (row l a) g r j).trans (by rw [row_val]; rfl)
  · rw [move6]; exact (h6 (row l r) j).trans (by rw [row_val]; rfl)
  · rw [move_off l U (by decide +kernel)]; exact h7 r j
  · rw [move8]; exact (h8 (row l r) j).trans (by rw [row_val]; rfl)
  · rw [move_off l U (by decide +kernel)]; exact h9 r j
end

section
variable (l : Fin 4) (s10 : S4x8x1024.Slices ![l.val, 0, 0] S1x8x1024) (s2 : S4x8x512.Slices ![l.val, 0, 0] S1x8x512)
  (s3 : S4x4x128x128.Slices ![l.val, 0, 0, 0] S1x4x128x128)

/-- The first nineteen host lines of layer `l`'s call: the last six cut its rows out of the layers' arrays. -/
def front : List (HloOp τ sig (Elt Ideal)) :=
  line.take 13 ++ [
    StableHlo.unary main_v10 main_v11 ((extractStridedSlice S1x8x1024 ![l.val, 0, 0] · s10) : (⟨S4x8x1024, .f32⟩ : BufTy).Contents (Elt Ideal) → (⟨S1x8x1024, .f32⟩ : BufTy).Contents (Elt Ideal)),
    StableHlo.reshape main_v11 main_v12 (rfl : (.f32 : EltTy) = .f32) shapeCasts_S1x8x1024_S8x1024,
    StableHlo.unary main_v2 main_v13 ((extractStridedSlice S1x8x512 ![l.val, 0, 0] · s2) : (⟨S4x8x512, .f32⟩ : BufTy).Contents (Elt Ideal) → (⟨S1x8x512, .f32⟩ : BufTy).Contents (Elt Ideal)),
    StableHlo.reshape main_v13 main_v14 (rfl : (.f32 : EltTy) = .f32) shapeCasts_S1x8x512_S8x512,
    StableHlo.unary main_v3 main_v15 ((extractStridedSlice S1x4x128x128 ![l.val, 0, 0, 0] · s3) : (⟨S4x4x128x128, .bf16⟩ : BufTy).Contents (Elt Ideal) → (⟨S1x4x128x128, .bf16⟩ : BufTy).Contents (Elt Ideal)),
    StableHlo.reshape main_v15 main_v16 (rfl : (.bf16 : EltTy) = .bf16) shapeCasts_S1x4x128x128_S4x128x128]

theorem front_writes : (front l s10 s2 s3).map HloOp.writes = (targets.take 19).map fun w => {Proc.devRef (τ := τ) .tc w} := rfl

variable {U : Valuation τ sig (Elt Ideal)} {I : Layer.Args} (H : Reads U I)
include H

set_option maxHeartbeats 2000000 in
theorem front_v10 : ∀ r j, after (front l s10 s2 s3) U (Proc.devRef .tc main_v10) (ix3 l r j) = ((vecRow (I.moved l.val) r.val j.val : ℝ) : EReal) := by
  intro r j
  have A := H; unfold Reads at A
  unfold front
  repeat after_reads_at
  simp only [A, reals, Fin.sum_univ_one, sum_real, ite_real, dite_real]
  refine congrArg Real.toEReal ?_
  simp only [vecRow, Layer.Args.sh, Layer.Args.sc, Layer.Args.gate, Layer.Args.moved, ↓reduceIte]
  split_ifs <;> first | rfl | omega | (congr 1 <;> omega)

set_option maxHeartbeats 2000000 in
theorem front_v12 : ∀ r j, after (front l s10 s2 s3) U (Proc.devRef .tc main_v12) (ix2 r j) = ((vecRow (I.moved l.val) r.val j.val : ℝ) : EReal) := by
  intro r j
  have A := H; unfold Reads at A
  unfold front
  repeat after_reads_at
  simp only [A, reals, Fin.sum_univ_one, sum_real, ite_real, dite_real]
  refine congrArg Real.toEReal ?_
  simp only [vecRow, Layer.Args.sh, Layer.Args.sc, Layer.Args.gate, Layer.Args.moved, ↓reduceIte]
  split_ifs <;> first | rfl | omega | (congr 1 <;> omega)
theorem front_v14 : ∀ r j, after (front l s10 s2 s3) U (Proc.devRef .tc main_v14) (ix2 r j) = ((cpsRow (I.moved l.val) r.val j.val : ℝ) : EReal) := by
  intro r j
  have A := H; unfold Reads at A
  unfold front
  repeat after_reads_at
  simp only [A, reals, Fin.sum_univ_one, sum_real, ite_real, dite_real]
  refine congrArg Real.toEReal ?_
  simp only [cpsRow, Layer.Args.moved, ↓reduceIte]
  split_ifs <;> first | rfl | omega | (congr 1 <;> omega)

theorem front_v2 : ∀ r j, after (front l s10 s2 s3) U (Proc.devRef .tc main_v2) (ix3 l r j) = ((cpsRow (I.moved l.val) r.val j.val : ℝ) : EReal) := by
  intro r j
  have A := H; unfold Reads at A
  unfold front
  repeat after_reads_at
  simp only [A, reals, Fin.sum_univ_one, sum_real, ite_real, dite_real]
  refine congrArg Real.toEReal ?_
  simp only [cpsRow, Layer.Args.moved, ↓reduceIte]
  split_ifs <;> first | rfl | omega | (congr 1 <;> omega)

theorem front_v16 : ∀ g r j, after (front l s10 s2 s3) U (Proc.devRef .tc main_v16) (ix3 g r j) = (((I.moved l.val).wp 3 g.val r.val j.val : ℝ) : EReal) := by
  intro g r j
  have A := H; unfold Reads at A
  unfold front
  repeat after_reads_at
  simp only [A, reals, Fin.sum_univ_one, sum_real, ite_real, dite_real]
  rfl

theorem front_v3 : ∀ g r j, after (front l s10 s2 s3) U (Proc.devRef .tc main_v3) (ix4 l g r j) = (((I.moved l.val).wp 3 g.val r.val j.val : ℝ) : EReal) := by
  intro g r j
  have A := H; unfold Reads at A
  unfold front
  repeat after_reads_at
  simp only [A, reals, Fin.sum_univ_one, sum_real, ite_real, dite_real]
  rfl

theorem front_v4 : ∀ r j, after (front l s10 s2 s3) U (Proc.devRef .tc main_v4) (ix2 r j) = ((I.win r.val j.val : ℝ) : EReal) := by
  intro r j
  have A := H; unfold Reads at A
  unfold front
  repeat after_reads_at
  simp only [A, reals, Fin.sum_univ_one, sum_real, ite_real, dite_real]

theorem front_v5 : ∀ r j, after (front l s10 s2 s3) U (Proc.devRef .tc main_v5) (ix2 r j) = ((I.wout r.val j.val : ℝ) : EReal) := by
  intro r j
  have A := H; unfold Reads at A
  unfold front
  repeat after_reads_at
  simp only [A, reals, Fin.sum_univ_one, sum_real, ite_real, dite_real]

omit H in
/-- The contents after the first nineteen lines, at a buffer that the rest does not write, are those after all lines. -/
theorem kept {r : Ref sig .tc} (hr : r ∉ targets.drop 19) :
    after (front l s10 s2 s3 ++ line.drop 19) U (Proc.devRef .tc r) = after (front l s10 s2 s3) U (Proc.devRef .tc r) := by
  rw [after_append]
  refine after_unwritten (targets.drop 19) ?_ hr _
  rw [List.map_drop, line_writes, List.map_drop]

omit H in
theorem written : ((targets.take 19).map (Proc.devRef (τ := τ) .tc)).toFinset
    ⊆ oddSet ∪ ([main_v4, main_v5, main_v12, main_v14, main_v16].map (Proc.devRef (τ := τ) .tc)).toFinset := by decide +kernel

/-- Layer `l`'s host lines leave what the last layer's leave from the moved contents. -/
theorem same : ∀ b, b ∉ oddSet → after (front l s10 s2 s3 ++ line.drop 19) U b = after line (move l U) b := by
  have e : after line (move l U) = after (line.drop 19) (after (line.take 19) (move l U)) := by
    rw [← after_append, List.take_append_drop]
  rw [e, after_append]
  refine after_off clear fun b hb => ?_
  have M := reads_move l U H
  by_cases h : b ∈ ([main_v4, main_v5, main_v12, main_v14, main_v16].map (Proc.devRef (τ := τ) .tc)).toFinset
  · obtain ⟨r, hr, rfl⟩ := List.mem_map.mp (List.mem_toFinset.mp h)
    simp only [List.mem_cons, List.not_mem_nil, or_false] at hr
    rcases hr with rfl | rfl | rfl | rfl | rfl
    · exact eq2 fun r j => (front_v4 l s10 s2 s3 H r j).trans ((v4 M r j).symm.trans (congrFun (settled _ 19 (by decide +kernel)) _))
    · exact eq2 fun r j => (front_v5 l s10 s2 s3 H r j).trans ((v5 M r j).symm.trans (congrFun (settled _ 19 (by decide +kernel)) _))
    · exact eq2 fun r j => (front_v12 l s10 s2 s3 H r j).trans ((v12 M r j).symm.trans (congrFun (settled _ 19 (by decide +kernel)) _))
    · exact eq2 fun r j => (front_v14 l s10 s2 s3 H r j).trans ((v14 M r j).symm.trans (congrFun (settled _ 19 (by decide +kernel)) _))
    · exact eq3 fun g r j => (front_v16 l s10 s2 s3 H g r j).trans ((v16 M g r j).symm.trans (congrFun (settled _ 19 (by decide +kernel)) _))
  · have hw : b ∉ ((targets.take 19).map (Proc.devRef (τ := τ) .tc)).toFinset := fun hw =>
      (Finset.mem_union.mp (written hw)).elim hb h
    have w' : (line.take 19).map HloOp.writes = (targets.take 19).map fun w => {Proc.devRef (τ := τ) .tc w} := by
      rw [List.map_take, line_writes, List.map_take]
    rw [after_of_forall_not_mem _ U fun op ho hm => hw (List.forall_iff_forall_mem.mp (forall_writes_sub_of_map (front_writes l s10 s2 s3)) op ho hm),
      after_of_forall_not_mem _ (move l U) fun op ho hm => hw (List.forall_iff_forall_mem.mp (forall_writes_sub_of_map w') op ho hm),
      move_off l U hb]

/-- The memory whose contents on every device are the moved ones. -/
def moveAll (l : Fin 4) (m : (ℓ : Loc nD τ sig) → Buf (Elt Ideal) ℓ) : (ℓ : Loc nD τ sig) → Buf (Elt Ideal) ℓ :=
  fun ℓ => move l (fun b => m (ℓ.1, b)) ℓ.2
end

end KernelIdeal.Moved

end Cert

end
-- ==== Proof.MovedRef.lean ====
/- The reference of another layer's backward call: the same as the last layer's but for six rows, so from any contents it
   leaves what the last layer's leaves from contents whose last rows are that layer's. -/
module

public import proofs.«01_k».proof.Proof.Moved
public import proofs.«01_k».proof.Proof.RefGrad

@[expose] public section

set_option maxRecDepth 16384

noncomputable section

namespace Cert.ReferenceIdeal.Moved

open Idealize.ShloMosaic Idealize.ShloMosaic.TcCoe Idealize.ShloMosaic.StableHlo
open Cert.ReferenceIdeal Cert.ReferenceIdeal.Gen Cert.ReferenceIdeal.Value
open Layer (reals sum_real ite_real dite_real)

/-- The contents whose last rows of the layers' arguments are row `l`. -/
def move (l : Fin 4) (U : Valuation τ sig (Elt Ideal)) : Valuation τ sig (Elt Ideal) :=
  Function.update (Function.update (Function.update (Function.update (Function.update (Function.update U
    (Proc.devRef .tc main_arg1) (fun i : S4x3072.Idx => U (Proc.devRef .tc main_arg1) (ix2 (row l (i 0)) (i 1))))
    (Proc.devRef .tc main_arg2) (fun i : S4x1024.Idx => U (Proc.devRef .tc main_arg2) (ix2 (row l (i 0)) (i 1))))
    (Proc.devRef .tc main_arg4) (fun i : S4x3x512.Idx => U (Proc.devRef .tc main_arg4) (ix3 (row l (i 0)) (i 1) (i 2))))
    (Proc.devRef .tc main_arg5) (fun i : S4x4x128x128.Idx => U (Proc.devRef .tc main_arg5) (ix4 (row l (i 0)) (i 1) (i 2) (i 3))))
    (Proc.devRef .tc main_arg6) (fun i : S4x512.Idx => U (Proc.devRef .tc main_arg6) (ix2 (row l (i 0)) (i 1))))
    (Proc.devRef .tc main_arg8) (fun i : S4x1024.Idx => U (Proc.devRef .tc main_arg8) (ix2 (row l (i 0)) (i 1)))

/-- The buffers that the operations after the first twelve do not touch and that may differ between the layers. -/
def odd : List (Ref sig .tc) :=
  [main_arg1, main_arg2, main_arg4, main_arg5, main_arg6, main_arg8, main_v0, main_v2, main_v4, main_v6, main_v8, main_v10]

/-- `odd` as a set of the device's buffers. -/
def oddSet : Finset (DevRef τ sig) := (odd.map (Proc.devRef (τ := τ) .tc)).toFinset

theorem clear : ∀ op ∈ (ops : List (HloOp τ sig (Elt Ideal))).drop 12, Disjoint op.bufs oddSet := by decide +kernel

section
variable (l : Fin 4) (U : Valuation τ sig (Elt Ideal))

theorem move_off {b : DevRef τ sig} (h : b ∉ oddSet) : move l U b = U b := by
  have e : ∀ r : Ref sig .tc, r ∈ odd → b ≠ Proc.devRef .tc r := fun r hr hb =>
    h (List.mem_toFinset.mpr (hb ▸ List.mem_map_of_mem hr))
  unfold move
  rw [Function.update_of_ne (e _ (by decide)), Function.update_of_ne (e _ (by decide)), Function.update_of_ne (e _ (by decide)),
    Function.update_of_ne (e _ (by decide)), Function.update_of_ne (e _ (by decide)), Function.update_of_ne (e _ (by decide))]

theorem ne {r s : Ref sig .tc} (h : r ≠ s) : Proc.devRef (τ := τ) .tc r ≠ Proc.devRef .tc s := fun e => h (Proc.devRef_injective _ e)

theorem move1 (i : S4x3072.Idx) : move l U (Proc.devRef .tc main_arg1) i = U (Proc.devRef .tc main_arg1) (ix2 (row l (i 0)) (i 1)) := by
  unfold move
  rw [Function.update_of_ne (ne (by decide)), Function.update_of_ne (ne (by decide)), Function.update_of_ne (ne (by decide)),
    Function.update_of_ne (ne (by decide)), Function.update_of_ne (ne (by decide)), Function.update_self]
theorem move2 (i : S4x1024.Idx) : move l U (Proc.devRef .tc main_arg2) i = U (Proc.devRef .tc main_arg2) (ix2 (row l (i 0)) (i 1)) := by
  unfold move
  rw [Function.update_of_ne (ne (by decide)), Function.update_of_ne (ne (by decide)), Function.update_of_ne (ne (by decide)),
    Function.update_of_ne (ne (by decide)), Function.update_self]
theorem move4 (i : S4x3x512.Idx) : move l U (Proc.devRef .tc main_arg4) i = U (Proc.devRef .tc main_arg4) (ix3 (row l (i 0)) (i 1) (i 2)) := by
  unfold move
  rw [Function.update_of_ne (ne (by decide)), Function.update_of_ne (ne (by decide)), Function.update_of_ne (ne (by decide)),
    Function.update_self]
theorem move5 (i : S4x4x128x128.Idx) : move l U (Proc.devRef .tc main_arg5) i = U (Proc.devRef .tc main_arg5) (ix4 (row l (i 0)) (i 1) (i 2) (i 3)) := by
  unfold move
  rw [Function.update_of_ne (ne (by decide)), Function.update_of_ne (ne (by decide)), Function.update_self]
theorem move6 (i : S4x512.Idx) : move l U (Proc.devRef .tc main_arg6) i = U (Proc.devRef .tc main_arg6) (ix2 (row l (i 0)) (i 1)) := by
  unfold move
  rw [Function.update_of_ne (ne (by decide)), Function.update_self]
theorem move8 (i : S4x1024.Idx) : move l U (Proc.devRef .tc main_arg8) i = U (Proc.devRef .tc main_arg8) (ix2 (row l (i 0)) (i 1)) := by
  unfold move
  rw [Function.update_self]

/-- The moved contents read the numbers moved to layer `l`. -/
theorem reads_move {I : Layer.Args} (H : Reads U I) : Reads (move l U) (I.moved l.val) := by
  unfold Reads at H ⊢
  obtain ⟨h0, h1, h2, h3, h4, h5, h6, h7, h8, h9⟩ := H
  refine ⟨fun r j => ?_, fun r j => ?_, fun r j => ?_, fun r j => ?_, fun a r j => ?_, fun a g r j => ?_, fun r j => ?_, fun r j => ?_,
    fun r j => ?_, fun r j => ?_⟩
  · rw [move_off l U (by decide +kernel)]; exact h0 r j
  · rw [move1]; exact (h1 (row l r) j).trans (by rw [row_val]; rfl)
  · rw [move2]; exact (h2 (row l r) j).trans (by rw [row_val]; rfl)
  · rw [move_off l U (by decide +kernel)]; exact h3 r j
  · rw [move4]; exact (h4 (row l a) r j).trans (by rw [row_val]; rfl)
  · rw [move5]; exact (h5 (row l a) g r j).trans (by rw [row_val]; rfl)
  · rw [move6]; exact (h6 (row l r) j).trans (by rw [row_val]; rfl)
  · rw [move_off l U (by decide +kernel)]; exact h7 r j
  · rw [move8]; exact (h8 (row l r) j).trans (by rw [row_val]; rfl)
  · rw [move_off l U (by decide +kernel)]; exact h9 r j
end

section
variable (l : Fin 4) (s1 : S4x3072.Slices ![l.val, 0] S1x3072) (s2 : S4x1024.Slices ![l.val, 0] S1x1024)
  (s4 : S4x3x512.Slices ![l.val, 0, 0] S1x3x512) (s5 : S4x4x128x128.Slices ![l.val, 0, 0, 0] S1x4x128x128)
  (s6 : S4x512.Slices ![l.val, 0] S1x512)

/-- The first twelve operations of layer `l`'s reference: they cut its rows out of the layers' arguments. -/
def front : List (HloOp τ sig (Elt Ideal)) :=
  [ StableHlo.unary main_arg1 main_v0 ((extractStridedSlice S1x3072 ![l.val, 0] · s1) : (⟨S4x3072, .f32⟩ : BufTy).Contents (Elt Ideal) → (⟨S1x3072, .f32⟩ : BufTy).Contents (Elt Ideal)),
    StableHlo.reshape main_v0 main_v1 (rfl : (.f32 : EltTy) = .f32) shapeCasts_S1x3072_S3072,
    StableHlo.unary main_arg2 main_v2 ((extractStridedSlice S1x1024 ![l.val, 0] · s2) : (⟨S4x1024, .f32⟩ : BufTy).Contents (Elt Ideal) → (⟨S1x1024, .f32⟩ : BufTy).Contents (Elt Ideal)),
    StableHlo.reshape main_v2 main_v3 (rfl : (.f32 : EltTy) = .f32) shapeCasts_S1x1024_S1024,
    StableHlo.unary main_arg4 main_v4 ((extractStridedSlice S1x3x512 ![l.val, 0, 0] · s4) : (⟨S4x3x512, .f32⟩ : BufTy).Contents (Elt Ideal) → (⟨S1x3x512, .f32⟩ : BufTy).Contents (Elt Ideal)),
    StableHlo.reshape main_v4 main_v5 (rfl : (.f32 : EltTy) = .f32) shapeCasts_S1x3x512_S3x512,
    StableHlo.unary main_arg5 main_v6 ((extractStridedSlice S1x4x128x128 ![l.val, 0, 0, 0] · s5) : (⟨S4x4x128x128, .f32⟩ : BufTy).Contents (Elt Ideal) → (⟨S1x4x128x128, .f32⟩ : BufTy).Contents (Elt Ideal)),
    StableHlo.reshape main_v6 main_v7 (rfl : (.f32 : EltTy) = .f32) shapeCasts_S1x4x128x128_S4x128x128,
    StableHlo.unary main_arg6 main_v8 ((extractStridedSlice S1x512 ![l.val, 0] · s6) : (⟨S4x512, .f32⟩ : BufTy).Contents (Elt Ideal) → (⟨S1x512, .f32⟩ : BufTy).Contents (Elt Ideal)),
    StableHlo.reshape main_v8 main_v9 (rfl : (.f32 : EltTy) = .f32) shapeCasts_S1x512_S512,
    StableHlo.unary main_arg8 main_v10 ((extractStridedSlice S1x1024 ![l.val, 0] · s2) : (⟨S4x1024, .f32⟩ : BufTy).Contents (Elt Ideal) → (⟨S1x1024, .f32⟩ : BufTy).Contents (Elt Ideal)),
    StableHlo.reshape main_v10 main_v11 (rfl : (.f32 : EltTy) = .f32) shapeCasts_S1x1024_S1024]

/-- The references that the first twelve operations write. -/
def firsts : List (Ref sig .tc) := [main_v0, main_v1, main_v2, main_v3, main_v4, main_v5, main_v6, main_v7, main_v8, main_v9, main_v10, main_v11]

theorem front_writes : (front l s1 s2 s4 s5 s6).map HloOp.writes = firsts.map fun w => {Proc.devRef (τ := τ) .tc w} := rfl

theorem written : (firsts.map (Proc.devRef (τ := τ) .tc)).toFinset
    ⊆ oddSet ∪ ([main_v1, main_v3, main_v5, main_v7, main_v9, main_v11].map (Proc.devRef (τ := τ) .tc)).toFinset := by decide +kernel

theorem eq1 {α : Type} {a : ℕ} {X Y : (⟨1, ![a]⟩ : Shape).Idx → α} (h : ∀ r, X (ix1 r) = Y (ix1 r)) : X = Y :=
  funext fun i => by
    have e : i = ix1 (i 0) := funext fun k => by match k with | ⟨0, _⟩ => rfl
    rw [e]
    exact h _

section
variable {U : Valuation τ sig (Elt Ideal)} {I : Layer.Args} (H : Reads U I)
include H

/-- What the six rows are. -/
theorem rows : (∀ j, after (front l s1 s2 s4 s5 s6) U (Proc.devRef .tc main_v1) (ix1 j) = ((I.md l.val j.val : ℝ) : EReal))
    ∧ (∀ j, after (front l s1 s2 s4 s5 s6) U (Proc.devRef .tc main_v3) (ix1 j) = ((I.gpre l.val j.val : ℝ) : EReal))
    ∧ (∀ r j, after (front l s1 s2 s4 s5 s6) U (Proc.devRef .tc main_v5) (ix2 r j) = ((I.wc l.val r.val j.val : ℝ) : EReal))
    ∧ (∀ g r j, after (front l s1 s2 s4 s5 s6) U (Proc.devRef .tc main_v7) (ix3 g r j) = ((I.wp l.val g.val r.val j.val : ℝ) : EReal))
    ∧ (∀ j, after (front l s1 s2 s4 s5 s6) U (Proc.devRef .tc main_v9) (ix1 j) = ((I.ps l.val j.val : ℝ) : EReal))
    ∧ (∀ j, after (front l s1 s2 s4 s5 s6) U (Proc.devRef .tc main_v11) (ix1 j) = ((I.gpost l.val j.val : ℝ) : EReal)) := by
  have A := H; unfold Reads at A
  unfold front
  refine ⟨fun j => ?_, fun j => ?_, fun r j => ?_, fun g r j => ?_, fun j => ?_, fun j => ?_⟩ <;>
  · repeat after_reads_at
    simp only [A, reals]
end

theorem split : (ops : List (HloOp τ sig (Elt Ideal))) = front 3 slices_S4x3072_S1x3072_3_0 slices_S4x1024_S1x1024_3_0
    slices_S4x3x512_S1x3x512_3_0_0 slices_S4x4x128x128_S1x4x128x128_3_0_0_0 slices_S4x512_S1x512_3_0 ++ ops.drop 12 := rfl

variable {U : Valuation τ sig (Elt Ideal)} {I : Layer.Args} (H : Reads U I)
include H

/-- Layer `l`'s reference leaves what the last layer's leaves from the moved contents. -/
theorem same : ∀ b, b ∉ oddSet → after (front l s1 s2 s4 s5 s6 ++ ops.drop 12) U b = after ops (move l U) b := by
  have R := rows l s1 s2 s4 s5 s6 H
  have M := rows 3 slices_S4x3072_S1x3072_3_0 slices_S4x1024_S1x1024_3_0
    slices_S4x3x512_S1x3x512_3_0_0 slices_S4x4x128x128_S1x4x128x128_3_0_0_0 slices_S4x512_S1x512_3_0 (reads_move l U H)
  have e : after ops (move l U) = after (ops.drop 12) (after (front 3 slices_S4x3072_S1x3072_3_0 slices_S4x1024_S1x1024_3_0
    slices_S4x3x512_S1x3x512_3_0_0 slices_S4x4x128x128_S1x4x128x128_3_0_0_0 slices_S4x512_S1x512_3_0) (move l U)) := by
    rw [← after_append, ← split]
  rw [e, after_append]
  refine after_off clear fun b hb => ?_
  by_cases h : b ∈ ([main_v1, main_v3, main_v5, main_v7, main_v9, main_v11].map (Proc.devRef (τ := τ) .tc)).toFinset
  · obtain ⟨r, hr, rfl⟩ := List.mem_map.mp (List.mem_toFinset.mp h)
    simp only [List.mem_cons, List.not_mem_nil, or_false] at hr
    rcases hr with rfl | rfl | rfl | rfl | rfl | rfl
    · exact eq1 fun j => (R.1 j).trans (M.1 j).symm
    · exact eq1 fun j => (R.2.1 j).trans (M.2.1 j).symm
    · exact eq2 fun r j => (R.2.2.1 r j).trans (M.2.2.1 r j).symm
    · exact eq3 fun g r j => (R.2.2.2.1 g r j).trans (M.2.2.2.1 g r j).symm
    · exact eq1 fun j => (R.2.2.2.2.1 j).trans (M.2.2.2.2.1 j).symm
    · exact eq1 fun j => (R.2.2.2.2.2 j).trans (M.2.2.2.2.2 j).symm
  · have hw : b ∉ (firsts.map (Proc.devRef (τ := τ) .tc)).toFinset := fun hw =>
      (Finset.mem_union.mp (written hw)).elim hb h
    rw [after_of_forall_not_mem _ U fun op ho hm => hw (List.forall_iff_forall_mem.mp (forall_writes_sub_of_map (front_writes l s1 s2 s4 s5 s6)) op ho hm),
      after_of_forall_not_mem _ (move l U) fun op ho hm => hw (List.forall_iff_forall_mem.mp (forall_writes_sub_of_map (front_writes 3 _ _ _ _ _)) op ho hm),
      move_off l U hb]
end

end Cert.ReferenceIdeal.Moved

end
-- ==== Proof.Layer2.lean ====
/- The backward call of layer 2: its inputs' blocks, what its grid points leave and its six results are those of the last
   layer's call from the moved memory; and so are its reference's results. -/
module

public import proofs.«01_k».proof.Proof.MovedRef
public import proofs.«01_k».proof.Proof.Gen.KernelIdeal.Value
public import proofs.«01_k».proof.Proof.Gen.Kernel2Ideal.Value
public import proofs.«01_k».proof.Proof.Gen.Reference2Ideal.Run

@[expose] public section

set_option maxRecDepth 16384

noncomputable section

namespace Cert.Kernel2Ideal.Moved

open Idealize.ShloMosaic Idealize.ShloMosaic.TcCoe Idealize.ShloMosaic.StableHlo Cert.Kernel2Ideal Cert.Kernel2Ideal.Gen
open Cert.KernelIdeal.Moved (front move moveAll oddSet same)

variable (m : (ℓ : Loc nD τ sig) → Buf (Elt Ideal) ℓ) (c : Dev nD) {I : Layer.Args}
  (H : Cert.KernelIdeal.Host.Reads (fun b => m (c, b)) I)

/-- The host lines. -/
theorem line_eq : (hostOps0 : List (HloOp τ sig (Elt Ideal))) = front 2 slices_S4x8x1024_S1x8x1024_2_0_0 slices_S4x8x512_S1x8x512_2_0_0
    slices_S4x4x128x128_S1x4x128x128_2_0_0_0 ++ Cert.KernelIdeal.Host.line.drop 19 := rfl

include H
theorem arrays (r : Ref sig .tc) (hr : Proc.devRef (τ := τ) .tc r ∉ oddSet) :
    V m c r = Cert.KernelIdeal.Gen.V (moveAll 2 m) c r := by
  show after hostOps0 (fun b => m (c, b)) (Proc.devRef .tc r) = _
  rw [line_eq]
  exact same 2 _ _ _ H _ hr

variable (t : Fin cfg0.N)
/-! The twelve inputs' blocks are the last layer's from the moved memory. -/

theorem block0 : (iblk m c 0 t : Vec Ideal S256x1024 .f32) = (Cert.KernelIdeal.Gen.iblk (moveAll 2 m) c 0 t : Vec Ideal S256x1024 .f32) :=
  congrArg (((cfg0.win 0).blk t).view.read (Elt Ideal)) (arrays m c H (Pipeline.arrRef spec0 0) (by decide +kernel))
theorem block1 : (iblk m c 1 t : Vec Ideal S256x1024 .bf16) = (Cert.KernelIdeal.Gen.iblk (moveAll 2 m) c 1 t : Vec Ideal S256x1024 .bf16) :=
  congrArg (((cfg0.win 1).blk t).view.read (Elt Ideal)) (arrays m c H (Pipeline.arrRef spec0 1) (by decide +kernel))
theorem block2 : (iblk m c 2 t : Vec Ideal S256x1024 .f32) = (Cert.KernelIdeal.Gen.iblk (moveAll 2 m) c 2 t : Vec Ideal S256x1024 .f32) :=
  congrArg (((cfg0.win 2).blk t).view.read (Elt Ideal)) (arrays m c H (Pipeline.arrRef spec0 2) (by decide +kernel))
theorem block3 : (iblk m c 3 t : Vec Ideal S256x1024 .bf16) = (Cert.KernelIdeal.Gen.iblk (moveAll 2 m) c 3 t : Vec Ideal S256x1024 .bf16) :=
  congrArg (((cfg0.win 3).blk t).view.read (Elt Ideal)) (arrays m c H (Pipeline.arrRef spec0 3) (by decide +kernel))
theorem block4 : (iblk m c 4 t : Vec Ideal S16x1024 .bf16) = (Cert.KernelIdeal.Gen.iblk (moveAll 2 m) c 4 t : Vec Ideal S16x1024 .bf16) :=
  congrArg (((cfg0.win 4).blk t).view.read (Elt Ideal)) (arrays m c H (Pipeline.arrRef spec0 4) (by decide +kernel))
theorem block5 : (iblk m c 5 t : Vec Ideal S256x1536 .bf16) = (Cert.KernelIdeal.Gen.iblk (moveAll 2 m) c 5 t : Vec Ideal S256x1536 .bf16) :=
  congrArg (((cfg0.win 5).blk t).view.read (Elt Ideal)) (arrays m c H (Pipeline.arrRef spec0 5) (by decide +kernel))
theorem block6 : (iblk m c 6 t : Vec Ideal S256x2048 .bf16) = (Cert.KernelIdeal.Gen.iblk (moveAll 2 m) c 6 t : Vec Ideal S256x2048 .bf16) :=
  congrArg (((cfg0.win 6).blk t).view.read (Elt Ideal)) (arrays m c H (Pipeline.arrRef spec0 6) (by decide +kernel))
theorem block10 : (iblk m c 10 t : Vec Ideal S1024x1024 .bf16) = (Cert.KernelIdeal.Gen.iblk (moveAll 2 m) c 10 t : Vec Ideal S1024x1024 .bf16) :=
  congrArg (((cfg0.win 10).blk t).view.read (Elt Ideal)) (arrays m c H (Pipeline.arrRef spec0 10) (by decide +kernel))
theorem block11 : (iblk m c 11 t : Vec Ideal S1024x3072 .bf16) = (Cert.KernelIdeal.Gen.iblk (moveAll 2 m) c 11 t : Vec Ideal S1024x3072 .bf16) :=
  congrArg (((cfg0.win 11).blk t).view.read (Elt Ideal)) (arrays m c H (Pipeline.arrRef spec0 11) (by decide +kernel))
theorem block7 : (iblk m c 7 t : Vec Ideal S1x8x1024 .f32) = (Cert.KernelIdeal.Gen.iblk (moveAll 2 m) c 7 t : Vec Ideal S1x8x1024 .f32) := by
  refine eq3 fun q r j => ?_
  obtain rfl : q = 0 := Subsingleton.elim _ _
  refine Eq.trans ?_ (Cert.KernelIdeal.Host.in7 (moveAll 2 m) c (Cert.KernelIdeal.Moved.reads_move 2 _ H) t r j).symm
  refine Eq.trans ?_ (Cert.KernelIdeal.Moved.front_v10 2 slices_S4x8x1024_S1x8x1024_2_0_0 slices_S4x8x512_S1x8x512_2_0_0
    slices_S4x4x128x128_S1x4x128x128_2_0_0_0 H r j)
  rw [← Cert.KernelIdeal.Moved.kept _ _ _ _ (by decide +kernel), ← line_eq]
  unfold iblk
  rw [View.read_apply]
  show V m c main_v10 _ = V m c main_v10 _
  congr 1
  funext a
  apply Fin.ext
  match a with
    | ⟨0, _⟩ => rfl
    | ⟨1, _⟩ => show 0 * 8 + 1 * r.val = r.val; omega
    | ⟨2, _⟩ => show 0 * 1024 + 1 * j.val = j.val; omega
theorem block8 : (iblk m c 8 t : Vec Ideal S1x8x512 .f32) = (Cert.KernelIdeal.Gen.iblk (moveAll 2 m) c 8 t : Vec Ideal S1x8x512 .f32) := by
  refine eq3 fun q r j => ?_
  obtain rfl : q = 0 := Subsingleton.elim _ _
  refine Eq.trans ?_ (Cert.KernelIdeal.Host.in8 (moveAll 2 m) c (Cert.KernelIdeal.Moved.reads_move 2 _ H) t r j).symm
  refine Eq.trans ?_ (Cert.KernelIdeal.Moved.front_v2 2 slices_S4x8x1024_S1x8x1024_2_0_0 slices_S4x8x512_S1x8x512_2_0_0
    slices_S4x4x128x128_S1x4x128x128_2_0_0_0 H r j)
  rw [← Cert.KernelIdeal.Moved.kept _ _ _ _ (by decide +kernel), ← line_eq]
  unfold iblk
  rw [View.read_apply]
  show V m c main_v2 _ = V m c main_v2 _
  congr 1
  funext a
  apply Fin.ext
  match a with
    | ⟨0, _⟩ => rfl
    | ⟨1, _⟩ => show 0 * 8 + 1 * r.val = r.val; omega
    | ⟨2, _⟩ => show 0 * 512 + 1 * j.val = j.val; omega
theorem block9 : (iblk m c 9 t : Vec Ideal S1x4x128x128 .bf16) = (Cert.KernelIdeal.Gen.iblk (moveAll 2 m) c 9 t : Vec Ideal S1x4x128x128 .bf16) := by
  refine eq4 fun q g r j => ?_
  obtain rfl : q = 0 := Subsingleton.elim _ _
  refine Eq.trans ?_ (Cert.KernelIdeal.Host.in9 (moveAll 2 m) c (Cert.KernelIdeal.Moved.reads_move 2 _ H) t g r j).symm
  refine Eq.trans ?_ (Cert.KernelIdeal.Moved.front_v3 2 slices_S4x8x1024_S1x8x1024_2_0_0 slices_S4x8x512_S1x8x512_2_0_0
    slices_S4x4x128x128_S1x4x128x128_2_0_0_0 H g r j)
  rw [← Cert.KernelIdeal.Moved.kept _ _ _ _ (by decide +kernel), ← line_eq]
  unfold iblk
  rw [View.read_apply]
  show V m c main_v3 _ = V m c main_v3 _
  congr 1
  funext a
  apply Fin.ext
  match a with
    | ⟨0, _⟩ => rfl
    | ⟨1, _⟩ => show 0 * 4 + 1 * g.val = g.val; omega
    | ⟨2, _⟩ => show 0 * 128 + 1 * r.val = r.val; omega
    | ⟨3, _⟩ => show 0 * 128 + 1 * j.val = j.val; omega

/-- What the first grid point leaves: the same function of the same blocks. -/
theorem outs_first (t : Fin cfg0.N) (h0 : t.val % 8 = 0) (h1 : ¬ t.val % 8 = 7) :
    outsAt0 m c t.val t.isLt = Cert.KernelIdeal.Gen.outsAt0 (moveAll 2 m) c t.val t.isLt := by
  rw [outsAt0_A m c t h0 h1, Cert.KernelIdeal.Gen.outsAt0_A (moveAll 2 m) c t h0 h1]
  rw [block0 m c H t, block1 m c H t, block2 m c H t, block3 m c H t, block4 m c H t, block5 m c H t, block6 m c H t, block7 m c H t, block8 m c H t, block9 m c H t, block10 m c H t, block11 m c H t]
  sl_kernel_rfl

/-- What every grid point leaves. -/
theorem outs : ∀ n, ∀ t : Fin cfg0.N, t.val = n → outsAt0 m c t.val t.isLt = Cert.KernelIdeal.Gen.outsAt0 (moveAll 2 m) c t.val t.isLt := by
  intro n
  induction n using Nat.strong_induction_on with
  | _ n ih =>
    intro t e
    by_cases h0 : t.val % 8 = 0
    · exact outs_first m c H t h0 (by rw [h0]; decide)
    · have p : outsAt0 m c (t.val - 1) (Nat.lt_of_le_of_lt (Nat.sub_le _ _) t.isLt)
          = Cert.KernelIdeal.Gen.outsAt0 (moveAll 2 m) c (t.val - 1) (Nat.lt_of_le_of_lt (Nat.sub_le _ _) t.isLt) :=
        ih (t.val - 1) (e ▸ Nat.sub_lt (Nat.pos_of_ne_zero fun z => h0 (by rw [z])) Nat.one_pos) ⟨t.val - 1, Nat.lt_of_le_of_lt (Nat.sub_le _ _) t.isLt⟩ rfl
      by_cases h1 : t.val % 8 = 7
      · rw [outsAt0_C m c t h0 h1, Cert.KernelIdeal.Gen.outsAt0_C (moveAll 2 m) c t h0 h1]
        rw [block0 m c H t, block1 m c H t, block2 m c H t, block3 m c H t, block4 m c H t, block5 m c H t, block6 m c H t, block7 m c H t, block8 m c H t, block9 m c H t, block10 m c H t, block11 m c H t, p]
        sl_kernel_rfl
      · rw [outsAt0_B m c t h0 h1, Cert.KernelIdeal.Gen.outsAt0_B (moveAll 2 m) c t h0 h1]
        rw [block0 m c H t, block1 m c H t, block2 m c H t, block3 m c H t, block4 m c H t, block5 m c H t, block6 m c H t, block7 m c H t, block8 m c H t, block9 m c H t, block10 m c H t, block11 m c H t, p]
        sl_kernel_rfl

/-! The six results are the last layer's from the moved memory. -/

theorem result12 (n : ℕ) : ((dats m 0 c).arrAt 12 n : Vec Ideal S2048x1024 .f32) = ((Cert.KernelIdeal.Gen.dats (moveAll 2 m) 0 c).arrAt 12 n : Vec Ideal S2048x1024 .f32) := by
  have hA : (dats m 0 c).A 12 = (Cert.KernelIdeal.Gen.dats (moveAll 2 m) 0 c).A 12 := by
    rw [A_eq, Cert.KernelIdeal.Gen.A_eq]
    exact arrays m c H main_v208_0 (by decide +kernel)
  have hf : (fun t => (dats m 0 c).flushed 12 t) = fun t => (Cert.KernelIdeal.Gen.dats (moveAll 2 m) 0 c).flushed 12 t := funext fun t => by
    rw [Value.flushed12, Cert.KernelIdeal.Value.flushed12, outs m c H _ t rfl]
    sl_kernel_rfl
  rw [Cert.Moved.arrAt_eq, Cert.Moved.arrAt_eq]
  refine Eq.trans (congrArg₂ (fun A f => Cert.Moved.fold (cfg0.win 12) c A f n) hA hf) ?_
  sl_kernel_rfl

theorem result13 (n : ℕ) : ((dats m 0 c).arrAt 13 n : Vec Ideal S2048x3072 .bf16) = ((Cert.KernelIdeal.Gen.dats (moveAll 2 m) 0 c).arrAt 13 n : Vec Ideal S2048x3072 .bf16) := by
  have hA : (dats m 0 c).A 13 = (Cert.KernelIdeal.Gen.dats (moveAll 2 m) 0 c).A 13 := by
    rw [A_eq, Cert.KernelIdeal.Gen.A_eq]
    exact arrays m c H main_v208_1 (by decide +kernel)
  have hf : (fun t => (dats m 0 c).flushed 13 t) = fun t => (Cert.KernelIdeal.Gen.dats (moveAll 2 m) 0 c).flushed 13 t := funext fun t => by
    rw [Value.flushed13, Cert.KernelIdeal.Value.flushed13, outs m c H _ t rfl]
    sl_kernel_rfl
  rw [Cert.Moved.arrAt_eq, Cert.Moved.arrAt_eq]
  refine Eq.trans (congrArg₂ (fun A f => Cert.Moved.fold (cfg0.win 13) c A f n) hA hf) ?_
  sl_kernel_rfl

theorem result14 (n : ℕ) : ((dats m 0 c).arrAt 14 n : Vec Ideal S2048x1024 .bf16) = ((Cert.KernelIdeal.Gen.dats (moveAll 2 m) 0 c).arrAt 14 n : Vec Ideal S2048x1024 .bf16) := by
  have hA : (dats m 0 c).A 14 = (Cert.KernelIdeal.Gen.dats (moveAll 2 m) 0 c).A 14 := by
    rw [A_eq, Cert.KernelIdeal.Gen.A_eq]
    exact arrays m c H main_v208_2 (by decide +kernel)
  have hf : (fun t => (dats m 0 c).flushed 14 t) = fun t => (Cert.KernelIdeal.Gen.dats (moveAll 2 m) 0 c).flushed 14 t := funext fun t => by
    rw [Value.flushed14, Cert.KernelIdeal.Value.flushed14, outs m c H _ t rfl]
    sl_kernel_rfl
  rw [Cert.Moved.arrAt_eq, Cert.Moved.arrAt_eq]
  refine Eq.trans (congrArg₂ (fun A f => Cert.Moved.fold (cfg0.win 14) c A f n) hA hf) ?_
  sl_kernel_rfl

theorem result15 (n : ℕ) : ((dats m 0 c).arrAt 15 n : Vec Ideal S4x128x128 .bf16) = ((Cert.KernelIdeal.Gen.dats (moveAll 2 m) 0 c).arrAt 15 n : Vec Ideal S4x128x128 .bf16) := by
  have hA : (dats m 0 c).A 15 = (Cert.KernelIdeal.Gen.dats (moveAll 2 m) 0 c).A 15 := by
    rw [A_eq, Cert.KernelIdeal.Gen.A_eq]
    exact arrays m c H main_v208_3 (by decide +kernel)
  have hf : (fun t => (dats m 0 c).flushed 15 t) = fun t => (Cert.KernelIdeal.Gen.dats (moveAll 2 m) 0 c).flushed 15 t := funext fun t => by
    rw [Value.flushed15, Cert.KernelIdeal.Value.flushed15, outs m c H _ t rfl]
    sl_kernel_rfl
  rw [Cert.Moved.arrAt_eq, Cert.Moved.arrAt_eq]
  refine Eq.trans (congrArg₂ (fun A f => Cert.Moved.fold (cfg0.win 15) c A f n) hA hf) ?_
  sl_kernel_rfl

theorem result16 (n : ℕ) : ((dats m 0 c).arrAt 16 n : Vec Ideal S8x512 .f32) = ((Cert.KernelIdeal.Gen.dats (moveAll 2 m) 0 c).arrAt 16 n : Vec Ideal S8x512 .f32) := by
  have hA : (dats m 0 c).A 16 = (Cert.KernelIdeal.Gen.dats (moveAll 2 m) 0 c).A 16 := by
    rw [A_eq, Cert.KernelIdeal.Gen.A_eq]
    exact arrays m c H main_v208_4 (by decide +kernel)
  have hf : (fun t => (dats m 0 c).flushed 16 t) = fun t => (Cert.KernelIdeal.Gen.dats (moveAll 2 m) 0 c).flushed 16 t := funext fun t => by
    rw [Value.flushed16, Cert.KernelIdeal.Value.flushed16, outs m c H _ t rfl]
    sl_kernel_rfl
  rw [Cert.Moved.arrAt_eq, Cert.Moved.arrAt_eq]
  refine Eq.trans (congrArg₂ (fun A f => Cert.Moved.fold (cfg0.win 16) c A f n) hA hf) ?_
  sl_kernel_rfl

theorem result17 (n : ℕ) : ((dats m 0 c).arrAt 17 n : Vec Ideal S8x1024 .f32) = ((Cert.KernelIdeal.Gen.dats (moveAll 2 m) 0 c).arrAt 17 n : Vec Ideal S8x1024 .f32) := by
  have hA : (dats m 0 c).A 17 = (Cert.KernelIdeal.Gen.dats (moveAll 2 m) 0 c).A 17 := by
    rw [A_eq, Cert.KernelIdeal.Gen.A_eq]
    exact arrays m c H main_v208_5 (by decide +kernel)
  have hf : (fun t => (dats m 0 c).flushed 17 t) = fun t => (Cert.KernelIdeal.Gen.dats (moveAll 2 m) 0 c).flushed 17 t := funext fun t => by
    rw [Value.flushed17, Cert.KernelIdeal.Value.flushed17, outs m c H _ t rfl]
    sl_kernel_rfl
  rw [Cert.Moved.arrAt_eq, Cert.Moved.arrAt_eq]
  refine Eq.trans (congrArg₂ (fun A f => Cert.Moved.fold (cfg0.win 17) c A f n) hA hf) ?_
  sl_kernel_rfl

end Cert.Kernel2Ideal.Moved

namespace Cert.Reference2Ideal.Moved

open Idealize.ShloMosaic Idealize.ShloMosaic.TcCoe Idealize.SL.Sem Idealize.ShloMosaic.StableHlo Cert.Reference2Ideal Cert.Reference2Ideal.Gen
open Cert.ReferenceIdeal.Moved (front move oddSet same)

/-- The reference's operations. -/
theorem ops_eq : (Value.ops : List (HloOp τ sig (Elt Ideal))) = front 2 slices_S4x3072_S1x3072_2_0 slices_S4x1024_S1x1024_2_0
    slices_S4x3x512_S1x3x512_2_0_0 slices_S4x4x128x128_S1x4x128x128_2_0_0_0 slices_S4x512_S1x512_2_0
    ++ Cert.ReferenceIdeal.Value.ops.drop 12 := by sl_kernel_rfl

theorem after_moved {U : Valuation τ sig (Elt Ideal)} {I : Layer.Args} (H : Cert.ReferenceIdeal.Value.Reads U I)
    (b : DevRef τ sig) (hb : b ∉ oddSet) : Value.val8 U b = after Cert.ReferenceIdeal.Value.ops (move 2 U) b := by
  rw [← Value.after_ops, ops_eq]
  exact same 2 _ _ _ _ _ H _ hb

/-- The reference ends with the results of the last layer's from the moved contents, its arguments unchanged. -/
theorem run (m : (ℓ : Loc nD τ sig) → Buf (Elt Ideal) ℓ) (ρ : Dev nD → PrngReg) (J : Dev nD → Layer.Args)
    (HJ : ∀ c, Cert.ReferenceIdeal.Value.Reads (launchContents m c) (J c)) :
    θ_run defs (onTc (τ := τ) (main (F := Ideal))) ⟨m, fun _ => 0, ρ⟩ fun r => ∀ c : Dev nD,
      r.2.mem ((c.tc : Thread nD τ).loc main_v349) = after Cert.ReferenceIdeal.Value.ops (move 2 (launchContents m c)) (Proc.devRef .tc main_v349)
      ∧ r.2.mem ((c.tc : Thread nD τ).loc main_v359) = after Cert.ReferenceIdeal.Value.ops (move 2 (launchContents m c)) (Proc.devRef .tc main_v359)
      ∧ r.2.mem ((c.tc : Thread nD τ).loc main_v360) = after Cert.ReferenceIdeal.Value.ops (move 2 (launchContents m c)) (Proc.devRef .tc main_v360)
      ∧ r.2.mem ((c.tc : Thread nD τ).loc main_v361) = after Cert.ReferenceIdeal.Value.ops (move 2 (launchContents m c)) (Proc.devRef .tc main_v361)
      ∧ r.2.mem ((c.tc : Thread nD τ).loc main_v353) = after Cert.ReferenceIdeal.Value.ops (move 2 (launchContents m c)) (Proc.devRef .tc main_v353)
      ∧ r.2.mem ((c.tc : Thread nD τ).loc main_v358) = after Cert.ReferenceIdeal.Value.ops (move 2 (launchContents m c)) (Proc.devRef .tc main_v358)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans ((Value.val8_main_v349 _).symm.trans (after_moved (HJ c) _ (by decide +kernel))),
    (h c).2.1.trans ((Value.val8_main_v359 _).symm.trans (after_moved (HJ c) _ (by decide +kernel))),
    (h c).2.2.1.trans ((Value.val8_main_v360 _).symm.trans (after_moved (HJ c) _ (by decide +kernel))),
    (h c).2.2.2.1.trans ((Value.val8_main_v361 _).symm.trans (after_moved (HJ c) _ (by decide +kernel))),
    (h c).2.2.2.2.1.trans ((Value.val8_main_v353 _).symm.trans (after_moved (HJ c) _ (by decide +kernel))),
    (h c).2.2.2.2.2.1.trans ((Value.val8_main_v358 _).symm.trans (after_moved (HJ c) _ (by decide +kernel))),
    (h c).2.2.2.2.2.2⟩) (Value.run m ρ)

end Cert.Reference2Ideal.Moved

end
-- ==== Proof.Layer1.lean ====
/- The backward call of layer 1: its inputs' blocks, what its grid points leave and its six results are those of the last
   layer's call from the moved memory; and so are its reference's results. -/
module

public import proofs.«01_k».proof.Proof.MovedRef
public import proofs.«01_k».proof.Proof.Gen.KernelIdeal.Value
public import proofs.«01_k».proof.Proof.Gen.Kernel1Ideal.Value
public import proofs.«01_k».proof.Proof.Gen.Reference1Ideal.Run

@[expose] public section

set_option maxRecDepth 16384

noncomputable section

namespace Cert.Kernel1Ideal.Moved

open Idealize.ShloMosaic Idealize.ShloMosaic.TcCoe Idealize.ShloMosaic.StableHlo Cert.Kernel1Ideal Cert.Kernel1Ideal.Gen
open Cert.KernelIdeal.Moved (front move moveAll oddSet same)

variable (m : (ℓ : Loc nD τ sig) → Buf (Elt Ideal) ℓ) (c : Dev nD) {I : Layer.Args}
  (H : Cert.KernelIdeal.Host.Reads (fun b => m (c, b)) I)

/-- The host lines. -/
theorem line_eq : (hostOps0 : List (HloOp τ sig (Elt Ideal))) = front 1 slices_S4x8x1024_S1x8x1024_1_0_0 slices_S4x8x512_S1x8x512_1_0_0
    slices_S4x4x128x128_S1x4x128x128_1_0_0_0 ++ Cert.KernelIdeal.Host.line.drop 19 := rfl

include H
theorem arrays (r : Ref sig .tc) (hr : Proc.devRef (τ := τ) .tc r ∉ oddSet) :
    V m c r = Cert.KernelIdeal.Gen.V (moveAll 1 m) c r := by
  show after hostOps0 (fun b => m (c, b)) (Proc.devRef .tc r) = _
  rw [line_eq]
  exact same 1 _ _ _ H _ hr

variable (t : Fin cfg0.N)
/-! The twelve inputs' blocks are the last layer's from the moved memory. -/

theorem block0 : (iblk m c 0 t : Vec Ideal S256x1024 .f32) = (Cert.KernelIdeal.Gen.iblk (moveAll 1 m) c 0 t : Vec Ideal S256x1024 .f32) :=
  congrArg (((cfg0.win 0).blk t).view.read (Elt Ideal)) (arrays m c H (Pipeline.arrRef spec0 0) (by decide +kernel))
theorem block1 : (iblk m c 1 t : Vec Ideal S256x1024 .bf16) = (Cert.KernelIdeal.Gen.iblk (moveAll 1 m) c 1 t : Vec Ideal S256x1024 .bf16) :=
  congrArg (((cfg0.win 1).blk t).view.read (Elt Ideal)) (arrays m c H (Pipeline.arrRef spec0 1) (by decide +kernel))
theorem block2 : (iblk m c 2 t : Vec Ideal S256x1024 .f32) = (Cert.KernelIdeal.Gen.iblk (moveAll 1 m) c 2 t : Vec Ideal S256x1024 .f32) :=
  congrArg (((cfg0.win 2).blk t).view.read (Elt Ideal)) (arrays m c H (Pipeline.arrRef spec0 2) (by decide +kernel))
theorem block3 : (iblk m c 3 t : Vec Ideal S256x1024 .bf16) = (Cert.KernelIdeal.Gen.iblk (moveAll 1 m) c 3 t : Vec Ideal S256x1024 .bf16) :=
  congrArg (((cfg0.win 3).blk t).view.read (Elt Ideal)) (arrays m c H (Pipeline.arrRef spec0 3) (by decide +kernel))
theorem block4 : (iblk m c 4 t : Vec Ideal S16x1024 .bf16) = (Cert.KernelIdeal.Gen.iblk (moveAll 1 m) c 4 t : Vec Ideal S16x1024 .bf16) :=
  congrArg (((cfg0.win 4).blk t).view.read (Elt Ideal)) (arrays m c H (Pipeline.arrRef spec0 4) (by decide +kernel))
theorem block5 : (iblk m c 5 t : Vec Ideal S256x1536 .bf16) = (Cert.KernelIdeal.Gen.iblk (moveAll 1 m) c 5 t : Vec Ideal S256x1536 .bf16) :=
  congrArg (((cfg0.win 5).blk t).view.read (Elt Ideal)) (arrays m c H (Pipeline.arrRef spec0 5) (by decide +kernel))
theorem block6 : (iblk m c 6 t : Vec Ideal S256x2048 .bf16) = (Cert.KernelIdeal.Gen.iblk (moveAll 1 m) c 6 t : Vec Ideal S256x2048 .bf16) :=
  congrArg (((cfg0.win 6).blk t).view.read (Elt Ideal)) (arrays m c H (Pipeline.arrRef spec0 6) (by decide +kernel))
theorem block10 : (iblk m c 10 t : Vec Ideal S1024x1024 .bf16) = (Cert.KernelIdeal.Gen.iblk (moveAll 1 m) c 10 t : Vec Ideal S1024x1024 .bf16) :=
  congrArg (((cfg0.win 10).blk t).view.read (Elt Ideal)) (arrays m c H (Pipeline.arrRef spec0 10) (by decide +kernel))
theorem block11 : (iblk m c 11 t : Vec Ideal S1024x3072 .bf16) = (Cert.KernelIdeal.Gen.iblk (moveAll 1 m) c 11 t : Vec Ideal S1024x3072 .bf16) :=
  congrArg (((cfg0.win 11).blk t).view.read (Elt Ideal)) (arrays m c H (Pipeline.arrRef spec0 11) (by decide +kernel))
theorem block7 : (iblk m c 7 t : Vec Ideal S1x8x1024 .f32) = (Cert.KernelIdeal.Gen.iblk (moveAll 1 m) c 7 t : Vec Ideal S1x8x1024 .f32) := by
  refine eq3 fun q r j => ?_
  obtain rfl : q = 0 := Subsingleton.elim _ _
  refine Eq.trans ?_ (Cert.KernelIdeal.Host.in7 (moveAll 1 m) c (Cert.KernelIdeal.Moved.reads_move 1 _ H) t r j).symm
  refine Eq.trans ?_ (Cert.KernelIdeal.Moved.front_v10 1 slices_S4x8x1024_S1x8x1024_1_0_0 slices_S4x8x512_S1x8x512_1_0_0
    slices_S4x4x128x128_S1x4x128x128_1_0_0_0 H r j)
  rw [← Cert.KernelIdeal.Moved.kept _ _ _ _ (by decide +kernel), ← line_eq]
  unfold iblk
  rw [View.read_apply]
  show V m c main_v10 _ = V m c main_v10 _
  congr 1
  funext a
  apply Fin.ext
  match a with
    | ⟨0, _⟩ => rfl
    | ⟨1, _⟩ => show 0 * 8 + 1 * r.val = r.val; omega
    | ⟨2, _⟩ => show 0 * 1024 + 1 * j.val = j.val; omega
theorem block8 : (iblk m c 8 t : Vec Ideal S1x8x512 .f32) = (Cert.KernelIdeal.Gen.iblk (moveAll 1 m) c 8 t : Vec Ideal S1x8x512 .f32) := by
  refine eq3 fun q r j => ?_
  obtain rfl : q = 0 := Subsingleton.elim _ _
  refine Eq.trans ?_ (Cert.KernelIdeal.Host.in8 (moveAll 1 m) c (Cert.KernelIdeal.Moved.reads_move 1 _ H) t r j).symm
  refine Eq.trans ?_ (Cert.KernelIdeal.Moved.front_v2 1 slices_S4x8x1024_S1x8x1024_1_0_0 slices_S4x8x512_S1x8x512_1_0_0
    slices_S4x4x128x128_S1x4x128x128_1_0_0_0 H r j)
  rw [← Cert.KernelIdeal.Moved.kept _ _ _ _ (by decide +kernel), ← line_eq]
  unfold iblk
  rw [View.read_apply]
  show V m c main_v2 _ = V m c main_v2 _
  congr 1
  funext a
  apply Fin.ext
  match a with
    | ⟨0, _⟩ => rfl
    | ⟨1, _⟩ => show 0 * 8 + 1 * r.val = r.val; omega
    | ⟨2, _⟩ => show 0 * 512 + 1 * j.val = j.val; omega
theorem block9 : (iblk m c 9 t : Vec Ideal S1x4x128x128 .bf16) = (Cert.KernelIdeal.Gen.iblk (moveAll 1 m) c 9 t : Vec Ideal S1x4x128x128 .bf16) := by
  refine eq4 fun q g r j => ?_
  obtain rfl : q = 0 := Subsingleton.elim _ _
  refine Eq.trans ?_ (Cert.KernelIdeal.Host.in9 (moveAll 1 m) c (Cert.KernelIdeal.Moved.reads_move 1 _ H) t g r j).symm
  refine Eq.trans ?_ (Cert.KernelIdeal.Moved.front_v3 1 slices_S4x8x1024_S1x8x1024_1_0_0 slices_S4x8x512_S1x8x512_1_0_0
    slices_S4x4x128x128_S1x4x128x128_1_0_0_0 H g r j)
  rw [← Cert.KernelIdeal.Moved.kept _ _ _ _ (by decide +kernel), ← line_eq]
  unfold iblk
  rw [View.read_apply]
  show V m c main_v3 _ = V m c main_v3 _
  congr 1
  funext a
  apply Fin.ext
  match a with
    | ⟨0, _⟩ => rfl
    | ⟨1, _⟩ => show 0 * 4 + 1 * g.val = g.val; omega
    | ⟨2, _⟩ => show 0 * 128 + 1 * r.val = r.val; omega
    | ⟨3, _⟩ => show 0 * 128 + 1 * j.val = j.val; omega

/-- What the first grid point leaves: the same function of the same blocks. -/
theorem outs_first (t : Fin cfg0.N) (h0 : t.val % 8 = 0) (h1 : ¬ t.val % 8 = 7) :
    outsAt0 m c t.val t.isLt = Cert.KernelIdeal.Gen.outsAt0 (moveAll 1 m) c t.val t.isLt := by
  rw [outsAt0_A m c t h0 h1, Cert.KernelIdeal.Gen.outsAt0_A (moveAll 1 m) c t h0 h1]
  rw [block0 m c H t, block1 m c H t, block2 m c H t, block3 m c H t, block4 m c H t, block5 m c H t, block6 m c H t, block7 m c H t, block8 m c H t, block9 m c H t, block10 m c H t, block11 m c H t]
  sl_kernel_rfl

/-- What every grid point leaves. -/
theorem outs : ∀ n, ∀ t : Fin cfg0.N, t.val = n → outsAt0 m c t.val t.isLt = Cert.KernelIdeal.Gen.outsAt0 (moveAll 1 m) c t.val t.isLt := by
  intro n
  induction n using Nat.strong_induction_on with
  | _ n ih =>
    intro t e
    by_cases h0 : t.val % 8 = 0
    · exact outs_first m c H t h0 (by rw [h0]; decide)
    · have p : outsAt0 m c (t.val - 1) (Nat.lt_of_le_of_lt (Nat.sub_le _ _) t.isLt)
          = Cert.KernelIdeal.Gen.outsAt0 (moveAll 1 m) c (t.val - 1) (Nat.lt_of_le_of_lt (Nat.sub_le _ _) t.isLt) :=
        ih (t.val - 1) (e ▸ Nat.sub_lt (Nat.pos_of_ne_zero fun z => h0 (by rw [z])) Nat.one_pos) ⟨t.val - 1, Nat.lt_of_le_of_lt (Nat.sub_le _ _) t.isLt⟩ rfl
      by_cases h1 : t.val % 8 = 7
      · rw [outsAt0_C m c t h0 h1, Cert.KernelIdeal.Gen.outsAt0_C (moveAll 1 m) c t h0 h1]
        rw [block0 m c H t, block1 m c H t, block2 m c H t, block3 m c H t, block4 m c H t, block5 m c H t, block6 m c H t, block7 m c H t, block8 m c H t, block9 m c H t, block10 m c H t, block11 m c H t, p]
        sl_kernel_rfl
      · rw [outsAt0_B m c t h0 h1, Cert.KernelIdeal.Gen.outsAt0_B (moveAll 1 m) c t h0 h1]
        rw [block0 m c H t, block1 m c H t, block2 m c H t, block3 m c H t, block4 m c H t, block5 m c H t, block6 m c H t, block7 m c H t, block8 m c H t, block9 m c H t, block10 m c H t, block11 m c H t, p]
        sl_kernel_rfl

/-! The six results are the last layer's from the moved memory. -/

theorem result12 (n : ℕ) : ((dats m 0 c).arrAt 12 n : Vec Ideal S2048x1024 .f32) = ((Cert.KernelIdeal.Gen.dats (moveAll 1 m) 0 c).arrAt 12 n : Vec Ideal S2048x1024 .f32) := by
  have hA : (dats m 0 c).A 12 = (Cert.KernelIdeal.Gen.dats (moveAll 1 m) 0 c).A 12 := by
    rw [A_eq, Cert.KernelIdeal.Gen.A_eq]
    exact arrays m c H main_v208_0 (by decide +kernel)
  have hf : (fun t => (dats m 0 c).flushed 12 t) = fun t => (Cert.KernelIdeal.Gen.dats (moveAll 1 m) 0 c).flushed 12 t := funext fun t => by
    rw [Value.flushed12, Cert.KernelIdeal.Value.flushed12, outs m c H _ t rfl]
    sl_kernel_rfl
  rw [Cert.Moved.arrAt_eq, Cert.Moved.arrAt_eq]
  refine Eq.trans (congrArg₂ (fun A f => Cert.Moved.fold (cfg0.win 12) c A f n) hA hf) ?_
  sl_kernel_rfl

theorem result13 (n : ℕ) : ((dats m 0 c).arrAt 13 n : Vec Ideal S2048x3072 .bf16) = ((Cert.KernelIdeal.Gen.dats (moveAll 1 m) 0 c).arrAt 13 n : Vec Ideal S2048x3072 .bf16) := by
  have hA : (dats m 0 c).A 13 = (Cert.KernelIdeal.Gen.dats (moveAll 1 m) 0 c).A 13 := by
    rw [A_eq, Cert.KernelIdeal.Gen.A_eq]
    exact arrays m c H main_v208_1 (by decide +kernel)
  have hf : (fun t => (dats m 0 c).flushed 13 t) = fun t => (Cert.KernelIdeal.Gen.dats (moveAll 1 m) 0 c).flushed 13 t := funext fun t => by
    rw [Value.flushed13, Cert.KernelIdeal.Value.flushed13, outs m c H _ t rfl]
    sl_kernel_rfl
  rw [Cert.Moved.arrAt_eq, Cert.Moved.arrAt_eq]
  refine Eq.trans (congrArg₂ (fun A f => Cert.Moved.fold (cfg0.win 13) c A f n) hA hf) ?_
  sl_kernel_rfl

theorem result14 (n : ℕ) : ((dats m 0 c).arrAt 14 n : Vec Ideal S2048x1024 .bf16) = ((Cert.KernelIdeal.Gen.dats (moveAll 1 m) 0 c).arrAt 14 n : Vec Ideal S2048x1024 .bf16) := by
  have hA : (dats m 0 c).A 14 = (Cert.KernelIdeal.Gen.dats (moveAll 1 m) 0 c).A 14 := by
    rw [A_eq, Cert.KernelIdeal.Gen.A_eq]
    exact arrays m c H main_v208_2 (by decide +kernel)
  have hf : (fun t => (dats m 0 c).flushed 14 t) = fun t => (Cert.KernelIdeal.Gen.dats (moveAll 1 m) 0 c).flushed 14 t := funext fun t => by
    rw [Value.flushed14, Cert.KernelIdeal.Value.flushed14, outs m c H _ t rfl]
    sl_kernel_rfl
  rw [Cert.Moved.arrAt_eq, Cert.Moved.arrAt_eq]
  refine Eq.trans (congrArg₂ (fun A f => Cert.Moved.fold (cfg0.win 14) c A f n) hA hf) ?_
  sl_kernel_rfl

theorem result15 (n : ℕ) : ((dats m 0 c).arrAt 15 n : Vec Ideal S4x128x128 .bf16) = ((Cert.KernelIdeal.Gen.dats (moveAll 1 m) 0 c).arrAt 15 n : Vec Ideal S4x128x128 .bf16) := by
  have hA : (dats m 0 c).A 15 = (Cert.KernelIdeal.Gen.dats (moveAll 1 m) 0 c).A 15 := by
    rw [A_eq, Cert.KernelIdeal.Gen.A_eq]
    exact arrays m c H main_v208_3 (by decide +kernel)
  have hf : (fun t => (dats m 0 c).flushed 15 t) = fun t => (Cert.KernelIdeal.Gen.dats (moveAll 1 m) 0 c).flushed 15 t := funext fun t => by
    rw [Value.flushed15, Cert.KernelIdeal.Value.flushed15, outs m c H _ t rfl]
    sl_kernel_rfl
  rw [Cert.Moved.arrAt_eq, Cert.Moved.arrAt_eq]
  refine Eq.trans (congrArg₂ (fun A f => Cert.Moved.fold (cfg0.win 15) c A f n) hA hf) ?_
  sl_kernel_rfl

theorem result16 (n : ℕ) : ((dats m 0 c).arrAt 16 n : Vec Ideal S8x512 .f32) = ((Cert.KernelIdeal.Gen.dats (moveAll 1 m) 0 c).arrAt 16 n : Vec Ideal S8x512 .f32) := by
  have hA : (dats m 0 c).A 16 = (Cert.KernelIdeal.Gen.dats (moveAll 1 m) 0 c).A 16 := by
    rw [A_eq, Cert.KernelIdeal.Gen.A_eq]
    exact arrays m c H main_v208_4 (by decide +kernel)
  have hf : (fun t => (dats m 0 c).flushed 16 t) = fun t => (Cert.KernelIdeal.Gen.dats (moveAll 1 m) 0 c).flushed 16 t := funext fun t => by
    rw [Value.flushed16, Cert.KernelIdeal.Value.flushed16, outs m c H _ t rfl]
    sl_kernel_rfl
  rw [Cert.Moved.arrAt_eq, Cert.Moved.arrAt_eq]
  refine Eq.trans (congrArg₂ (fun A f => Cert.Moved.fold (cfg0.win 16) c A f n) hA hf) ?_
  sl_kernel_rfl

theorem result17 (n : ℕ) : ((dats m 0 c).arrAt 17 n : Vec Ideal S8x1024 .f32) = ((Cert.KernelIdeal.Gen.dats (moveAll 1 m) 0 c).arrAt 17 n : Vec Ideal S8x1024 .f32) := by
  have hA : (dats m 0 c).A 17 = (Cert.KernelIdeal.Gen.dats (moveAll 1 m) 0 c).A 17 := by
    rw [A_eq, Cert.KernelIdeal.Gen.A_eq]
    exact arrays m c H main_v208_5 (by decide +kernel)
  have hf : (fun t => (dats m 0 c).flushed 17 t) = fun t => (Cert.KernelIdeal.Gen.dats (moveAll 1 m) 0 c).flushed 17 t := funext fun t => by
    rw [Value.flushed17, Cert.KernelIdeal.Value.flushed17, outs m c H _ t rfl]
    sl_kernel_rfl
  rw [Cert.Moved.arrAt_eq, Cert.Moved.arrAt_eq]
  refine Eq.trans (congrArg₂ (fun A f => Cert.Moved.fold (cfg0.win 17) c A f n) hA hf) ?_
  sl_kernel_rfl

end Cert.Kernel1Ideal.Moved

namespace Cert.Reference1Ideal.Moved

open Idealize.ShloMosaic Idealize.ShloMosaic.TcCoe Idealize.SL.Sem Idealize.ShloMosaic.StableHlo Cert.Reference1Ideal Cert.Reference1Ideal.Gen
open Cert.ReferenceIdeal.Moved (front move oddSet same)

/-- The reference's operations. -/
theorem ops_eq : (Value.ops : List (HloOp τ sig (Elt Ideal))) = front 1 slices_S4x3072_S1x3072_1_0 slices_S4x1024_S1x1024_1_0
    slices_S4x3x512_S1x3x512_1_0_0 slices_S4x4x128x128_S1x4x128x128_1_0_0_0 slices_S4x512_S1x512_1_0
    ++ Cert.ReferenceIdeal.Value.ops.drop 12 := by sl_kernel_rfl

theorem after_moved {U : Valuation τ sig (Elt Ideal)} {I : Layer.Args} (H : Cert.ReferenceIdeal.Value.Reads U I)
    (b : DevRef τ sig) (hb : b ∉ oddSet) : Value.val8 U b = after Cert.ReferenceIdeal.Value.ops (move 1 U) b := by
  rw [← Value.after_ops, ops_eq]
  exact same 1 _ _ _ _ _ H _ hb

/-- The reference ends with the results of the last layer's from the moved contents, its arguments unchanged. -/
theorem run (m : (ℓ : Loc nD τ sig) → Buf (Elt Ideal) ℓ) (ρ : Dev nD → PrngReg) (J : Dev nD → Layer.Args)
    (HJ : ∀ c, Cert.ReferenceIdeal.Value.Reads (launchContents m c) (J c)) :
    θ_run defs (onTc (τ := τ) (main (F := Ideal))) ⟨m, fun _ => 0, ρ⟩ fun r => ∀ c : Dev nD,
      r.2.mem ((c.tc : Thread nD τ).loc main_v349) = after Cert.ReferenceIdeal.Value.ops (move 1 (launchContents m c)) (Proc.devRef .tc main_v349)
      ∧ r.2.mem ((c.tc : Thread nD τ).loc main_v359) = after Cert.ReferenceIdeal.Value.ops (move 1 (launchContents m c)) (Proc.devRef .tc main_v359)
      ∧ r.2.mem ((c.tc : Thread nD τ).loc main_v360) = after Cert.ReferenceIdeal.Value.ops (move 1 (launchContents m c)) (Proc.devRef .tc main_v360)
      ∧ r.2.mem ((c.tc : Thread nD τ).loc main_v361) = after Cert.ReferenceIdeal.Value.ops (move 1 (launchContents m c)) (Proc.devRef .tc main_v361)
      ∧ r.2.mem ((c.tc : Thread nD τ).loc main_v353) = after Cert.ReferenceIdeal.Value.ops (move 1 (launchContents m c)) (Proc.devRef .tc main_v353)
      ∧ r.2.mem ((c.tc : Thread nD τ).loc main_v358) = after Cert.ReferenceIdeal.Value.ops (move 1 (launchContents m c)) (Proc.devRef .tc main_v358)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans ((Value.val8_main_v349 _).symm.trans (after_moved (HJ c) _ (by decide +kernel))),
    (h c).2.1.trans ((Value.val8_main_v359 _).symm.trans (after_moved (HJ c) _ (by decide +kernel))),
    (h c).2.2.1.trans ((Value.val8_main_v360 _).symm.trans (after_moved (HJ c) _ (by decide +kernel))),
    (h c).2.2.2.1.trans ((Value.val8_main_v361 _).symm.trans (after_moved (HJ c) _ (by decide +kernel))),
    (h c).2.2.2.2.1.trans ((Value.val8_main_v353 _).symm.trans (after_moved (HJ c) _ (by decide +kernel))),
    (h c).2.2.2.2.2.1.trans ((Value.val8_main_v358 _).symm.trans (after_moved (HJ c) _ (by decide +kernel))),
    (h c).2.2.2.2.2.2⟩) (Value.run m ρ)

end Cert.Reference1Ideal.Moved

end
-- ==== Proof.Layer0.lean ====
/- The backward call of layer 0: its inputs' blocks, what its grid points leave and its six results are those of the last
   layer's call from the moved memory; and so are its reference's results. -/
module

public import proofs.«01_k».proof.Proof.MovedRef
public import proofs.«01_k».proof.Proof.Gen.KernelIdeal.Value
public import proofs.«01_k».proof.Proof.Gen.Kernel0Ideal.Value
public import proofs.«01_k».proof.Proof.Gen.Reference0Ideal.Run

@[expose] public section

set_option maxRecDepth 16384

noncomputable section

namespace Cert.Kernel0Ideal.Moved

open Idealize.ShloMosaic Idealize.ShloMosaic.TcCoe Idealize.ShloMosaic.StableHlo Cert.Kernel0Ideal Cert.Kernel0Ideal.Gen
open Cert.KernelIdeal.Moved (front move moveAll oddSet same)

variable (m : (ℓ : Loc nD τ sig) → Buf (Elt Ideal) ℓ) (c : Dev nD) {I : Layer.Args}
  (H : Cert.KernelIdeal.Host.Reads (fun b => m (c, b)) I)

/-- The host lines. -/
theorem line_eq : (hostOps0 : List (HloOp τ sig (Elt Ideal))) = front 0 slices_S4x8x1024_S1x8x1024_0_0_0 slices_S4x8x512_S1x8x512_0_0_0
    slices_S4x4x128x128_S1x4x128x128_0_0_0_0 ++ Cert.KernelIdeal.Host.line.drop 19 := rfl

include H
theorem arrays (r : Ref sig .tc) (hr : Proc.devRef (τ := τ) .tc r ∉ oddSet) :
    V m c r = Cert.KernelIdeal.Gen.V (moveAll 0 m) c r := by
  show after hostOps0 (fun b => m (c, b)) (Proc.devRef .tc r) = _
  rw [line_eq]
  exact same 0 _ _ _ H _ hr

variable (t : Fin cfg0.N)
/-! The twelve inputs' blocks are the last layer's from the moved memory. -/

theorem block0 : (iblk m c 0 t : Vec Ideal S256x1024 .f32) = (Cert.KernelIdeal.Gen.iblk (moveAll 0 m) c 0 t : Vec Ideal S256x1024 .f32) :=
  congrArg (((cfg0.win 0).blk t).view.read (Elt Ideal)) (arrays m c H (Pipeline.arrRef spec0 0) (by decide +kernel))
theorem block1 : (iblk m c 1 t : Vec Ideal S256x1024 .bf16) = (Cert.KernelIdeal.Gen.iblk (moveAll 0 m) c 1 t : Vec Ideal S256x1024 .bf16) :=
  congrArg (((cfg0.win 1).blk t).view.read (Elt Ideal)) (arrays m c H (Pipeline.arrRef spec0 1) (by decide +kernel))
theorem block2 : (iblk m c 2 t : Vec Ideal S256x1024 .f32) = (Cert.KernelIdeal.Gen.iblk (moveAll 0 m) c 2 t : Vec Ideal S256x1024 .f32) :=
  congrArg (((cfg0.win 2).blk t).view.read (Elt Ideal)) (arrays m c H (Pipeline.arrRef spec0 2) (by decide +kernel))
theorem block3 : (iblk m c 3 t : Vec Ideal S256x1024 .bf16) = (Cert.KernelIdeal.Gen.iblk (moveAll 0 m) c 3 t : Vec Ideal S256x1024 .bf16) :=
  congrArg (((cfg0.win 3).blk t).view.read (Elt Ideal)) (arrays m c H (Pipeline.arrRef spec0 3) (by decide +kernel))
theorem block4 : (iblk m c 4 t : Vec Ideal S16x1024 .bf16) = (Cert.KernelIdeal.Gen.iblk (moveAll 0 m) c 4 t : Vec Ideal S16x1024 .bf16) :=
  congrArg (((cfg0.win 4).blk t).view.read (Elt Ideal)) (arrays m c H (Pipeline.arrRef spec0 4) (by decide +kernel))
theorem block5 : (iblk m c 5 t : Vec Ideal S256x1536 .bf16) = (Cert.KernelIdeal.Gen.iblk (moveAll 0 m) c 5 t : Vec Ideal S256x1536 .bf16) :=
  congrArg (((cfg0.win 5).blk t).view.read (Elt Ideal)) (arrays m c H (Pipeline.arrRef spec0 5) (by decide +kernel))
theorem block6 : (iblk m c 6 t : Vec Ideal S256x2048 .bf16) = (Cert.KernelIdeal.Gen.iblk (moveAll 0 m) c 6 t : Vec Ideal S256x2048 .bf16) :=
  congrArg (((cfg0.win 6).blk t).view.read (Elt Ideal)) (arrays m c H (Pipeline.arrRef spec0 6) (by decide +kernel))
theorem block10 : (iblk m c 10 t : Vec Ideal S1024x1024 .bf16) = (Cert.KernelIdeal.Gen.iblk (moveAll 0 m) c 10 t : Vec Ideal S1024x1024 .bf16) :=
  congrArg (((cfg0.win 10).blk t).view.read (Elt Ideal)) (arrays m c H (Pipeline.arrRef spec0 10) (by decide +kernel))
theorem block11 : (iblk m c 11 t : Vec Ideal S1024x3072 .bf16) = (Cert.KernelIdeal.Gen.iblk (moveAll 0 m) c 11 t : Vec Ideal S1024x3072 .bf16) :=
  congrArg (((cfg0.win 11).blk t).view.read (Elt Ideal)) (arrays m c H (Pipeline.arrRef spec0 11) (by decide +kernel))
theorem block7 : (iblk m c 7 t : Vec Ideal S1x8x1024 .f32) = (Cert.KernelIdeal.Gen.iblk (moveAll 0 m) c 7 t : Vec Ideal S1x8x1024 .f32) := by
  refine eq3 fun q r j => ?_
  obtain rfl : q = 0 := Subsingleton.elim _ _
  refine Eq.trans ?_ (Cert.KernelIdeal.Host.in7 (moveAll 0 m) c (Cert.KernelIdeal.Moved.reads_move 0 _ H) t r j).symm
  refine Eq.trans ?_ (Cert.KernelIdeal.Moved.front_v10 0 slices_S4x8x1024_S1x8x1024_0_0_0 slices_S4x8x512_S1x8x512_0_0_0
    slices_S4x4x128x128_S1x4x128x128_0_0_0_0 H r j)
  rw [← Cert.KernelIdeal.Moved.kept _ _ _ _ (by decide +kernel), ← line_eq]
  unfold iblk
  rw [View.read_apply]
  show V m c main_v10 _ = V m c main_v10 _
  congr 1
  funext a
  apply Fin.ext
  match a with
    | ⟨0, _⟩ => rfl
    | ⟨1, _⟩ => show 0 * 8 + 1 * r.val = r.val; omega
    | ⟨2, _⟩ => show 0 * 1024 + 1 * j.val = j.val; omega
theorem block8 : (iblk m c 8 t : Vec Ideal S1x8x512 .f32) = (Cert.KernelIdeal.Gen.iblk (moveAll 0 m) c 8 t : Vec Ideal S1x8x512 .f32) := by
  refine eq3 fun q r j => ?_
  obtain rfl : q = 0 := Subsingleton.elim _ _
  refine Eq.trans ?_ (Cert.KernelIdeal.Host.in8 (moveAll 0 m) c (Cert.KernelIdeal.Moved.reads_move 0 _ H) t r j).symm
  refine Eq.trans ?_ (Cert.KernelIdeal.Moved.front_v2 0 slices_S4x8x1024_S1x8x1024_0_0_0 slices_S4x8x512_S1x8x512_0_0_0
    slices_S4x4x128x128_S1x4x128x128_0_0_0_0 H r j)
  rw [← Cert.KernelIdeal.Moved.kept _ _ _ _ (by decide +kernel), ← line_eq]
  unfold iblk
  rw [View.read_apply]
  show V m c main_v2 _ = V m c main_v2 _
  congr 1
  funext a
  apply Fin.ext
  match a with
    | ⟨0, _⟩ => rfl
    | ⟨1, _⟩ => show 0 * 8 + 1 * r.val = r.val; omega
    | ⟨2, _⟩ => show 0 * 512 + 1 * j.val = j.val; omega
theorem block9 : (iblk m c 9 t : Vec Ideal S1x4x128x128 .bf16) = (Cert.KernelIdeal.Gen.iblk (moveAll 0 m) c 9 t : Vec Ideal S1x4x128x128 .bf16) := by
  refine eq4 fun q g r j => ?_
  obtain rfl : q = 0 := Subsingleton.elim _ _
  refine Eq.trans ?_ (Cert.KernelIdeal.Host.in9 (moveAll 0 m) c (Cert.KernelIdeal.Moved.reads_move 0 _ H) t g r j).symm
  refine Eq.trans ?_ (Cert.KernelIdeal.Moved.front_v3 0 slices_S4x8x1024_S1x8x1024_0_0_0 slices_S4x8x512_S1x8x512_0_0_0
    slices_S4x4x128x128_S1x4x128x128_0_0_0_0 H g r j)
  rw [← Cert.KernelIdeal.Moved.kept _ _ _ _ (by decide +kernel), ← line_eq]
  unfold iblk
  rw [View.read_apply]
  show V m c main_v3 _ = V m c main_v3 _
  congr 1
  funext a
  apply Fin.ext
  match a with
    | ⟨0, _⟩ => rfl
    | ⟨1, _⟩ => show 0 * 4 + 1 * g.val = g.val; omega
    | ⟨2, _⟩ => show 0 * 128 + 1 * r.val = r.val; omega
    | ⟨3, _⟩ => show 0 * 128 + 1 * j.val = j.val; omega

/-- What the first grid point leaves: the same function of the same blocks. -/
theorem outs_first (t : Fin cfg0.N) (h0 : t.val % 8 = 0) (h1 : ¬ t.val % 8 = 7) :
    outsAt0 m c t.val t.isLt = Cert.KernelIdeal.Gen.outsAt0 (moveAll 0 m) c t.val t.isLt := by
  rw [outsAt0_A m c t h0 h1, Cert.KernelIdeal.Gen.outsAt0_A (moveAll 0 m) c t h0 h1]
  rw [block0 m c H t, block1 m c H t, block2 m c H t, block3 m c H t, block4 m c H t, block5 m c H t, block6 m c H t, block7 m c H t, block8 m c H t, block9 m c H t, block10 m c H t, block11 m c H t]
  sl_kernel_rfl

/-- What every grid point leaves. -/
theorem outs : ∀ n, ∀ t : Fin cfg0.N, t.val = n → outsAt0 m c t.val t.isLt = Cert.KernelIdeal.Gen.outsAt0 (moveAll 0 m) c t.val t.isLt := by
  intro n
  induction n using Nat.strong_induction_on with
  | _ n ih =>
    intro t e
    by_cases h0 : t.val % 8 = 0
    · exact outs_first m c H t h0 (by rw [h0]; decide)
    · have p : outsAt0 m c (t.val - 1) (Nat.lt_of_le_of_lt (Nat.sub_le _ _) t.isLt)
          = Cert.KernelIdeal.Gen.outsAt0 (moveAll 0 m) c (t.val - 1) (Nat.lt_of_le_of_lt (Nat.sub_le _ _) t.isLt) :=
        ih (t.val - 1) (e ▸ Nat.sub_lt (Nat.pos_of_ne_zero fun z => h0 (by rw [z])) Nat.one_pos) ⟨t.val - 1, Nat.lt_of_le_of_lt (Nat.sub_le _ _) t.isLt⟩ rfl
      by_cases h1 : t.val % 8 = 7
      · rw [outsAt0_C m c t h0 h1, Cert.KernelIdeal.Gen.outsAt0_C (moveAll 0 m) c t h0 h1]
        rw [block0 m c H t, block1 m c H t, block2 m c H t, block3 m c H t, block4 m c H t, block5 m c H t, block6 m c H t, block7 m c H t, block8 m c H t, block9 m c H t, block10 m c H t, block11 m c H t, p]
        sl_kernel_rfl
      · rw [outsAt0_B m c t h0 h1, Cert.KernelIdeal.Gen.outsAt0_B (moveAll 0 m) c t h0 h1]
        rw [block0 m c H t, block1 m c H t, block2 m c H t, block3 m c H t, block4 m c H t, block5 m c H t, block6 m c H t, block7 m c H t, block8 m c H t, block9 m c H t, block10 m c H t, block11 m c H t, p]
        sl_kernel_rfl

/-! The six results are the last layer's from the moved memory. -/

theorem result12 (n : ℕ) : ((dats m 0 c).arrAt 12 n : Vec Ideal S2048x1024 .f32) = ((Cert.KernelIdeal.Gen.dats (moveAll 0 m) 0 c).arrAt 12 n : Vec Ideal S2048x1024 .f32) := by
  have hA : (dats m 0 c).A 12 = (Cert.KernelIdeal.Gen.dats (moveAll 0 m) 0 c).A 12 := by
    rw [A_eq, Cert.KernelIdeal.Gen.A_eq]
    exact arrays m c H main_v208_0 (by decide +kernel)
  have hf : (fun t => (dats m 0 c).flushed 12 t) = fun t => (Cert.KernelIdeal.Gen.dats (moveAll 0 m) 0 c).flushed 12 t := funext fun t => by
    rw [Value.flushed12, Cert.KernelIdeal.Value.flushed12, outs m c H _ t rfl]
    sl_kernel_rfl
  rw [Cert.Moved.arrAt_eq, Cert.Moved.arrAt_eq]
  refine Eq.trans (congrArg₂ (fun A f => Cert.Moved.fold (cfg0.win 12) c A f n) hA hf) ?_
  sl_kernel_rfl

theorem result13 (n : ℕ) : ((dats m 0 c).arrAt 13 n : Vec Ideal S2048x3072 .bf16) = ((Cert.KernelIdeal.Gen.dats (moveAll 0 m) 0 c).arrAt 13 n : Vec Ideal S2048x3072 .bf16) := by
  have hA : (dats m 0 c).A 13 = (Cert.KernelIdeal.Gen.dats (moveAll 0 m) 0 c).A 13 := by
    rw [A_eq, Cert.KernelIdeal.Gen.A_eq]
    exact arrays m c H main_v208_1 (by decide +kernel)
  have hf : (fun t => (dats m 0 c).flushed 13 t) = fun t => (Cert.KernelIdeal.Gen.dats (moveAll 0 m) 0 c).flushed 13 t := funext fun t => by
    rw [Value.flushed13, Cert.KernelIdeal.Value.flushed13, outs m c H _ t rfl]
    sl_kernel_rfl
  rw [Cert.Moved.arrAt_eq, Cert.Moved.arrAt_eq]
  refine Eq.trans (congrArg₂ (fun A f => Cert.Moved.fold (cfg0.win 13) c A f n) hA hf) ?_
  sl_kernel_rfl

theorem result14 (n : ℕ) : ((dats m 0 c).arrAt 14 n : Vec Ideal S2048x1024 .bf16) = ((Cert.KernelIdeal.Gen.dats (moveAll 0 m) 0 c).arrAt 14 n : Vec Ideal S2048x1024 .bf16) := by
  have hA : (dats m 0 c).A 14 = (Cert.KernelIdeal.Gen.dats (moveAll 0 m) 0 c).A 14 := by
    rw [A_eq, Cert.KernelIdeal.Gen.A_eq]
    exact arrays m c H main_v208_2 (by decide +kernel)
  have hf : (fun t => (dats m 0 c).flushed 14 t) = fun t => (Cert.KernelIdeal.Gen.dats (moveAll 0 m) 0 c).flushed 14 t := funext fun t => by
    rw [Value.flushed14, Cert.KernelIdeal.Value.flushed14, outs m c H _ t rfl]
    sl_kernel_rfl
  rw [Cert.Moved.arrAt_eq, Cert.Moved.arrAt_eq]
  refine Eq.trans (congrArg₂ (fun A f => Cert.Moved.fold (cfg0.win 14) c A f n) hA hf) ?_
  sl_kernel_rfl

theorem result15 (n : ℕ) : ((dats m 0 c).arrAt 15 n : Vec Ideal S4x128x128 .bf16) = ((Cert.KernelIdeal.Gen.dats (moveAll 0 m) 0 c).arrAt 15 n : Vec Ideal S4x128x128 .bf16) := by
  have hA : (dats m 0 c).A 15 = (Cert.KernelIdeal.Gen.dats (moveAll 0 m) 0 c).A 15 := by
    rw [A_eq, Cert.KernelIdeal.Gen.A_eq]
    exact arrays m c H main_v208_3 (by decide +kernel)
  have hf : (fun t => (dats m 0 c).flushed 15 t) = fun t => (Cert.KernelIdeal.Gen.dats (moveAll 0 m) 0 c).flushed 15 t := funext fun t => by
    rw [Value.flushed15, Cert.KernelIdeal.Value.flushed15, outs m c H _ t rfl]
    sl_kernel_rfl
  rw [Cert.Moved.arrAt_eq, Cert.Moved.arrAt_eq]
  refine Eq.trans (congrArg₂ (fun A f => Cert.Moved.fold (cfg0.win 15) c A f n) hA hf) ?_
  sl_kernel_rfl

theorem result16 (n : ℕ) : ((dats m 0 c).arrAt 16 n : Vec Ideal S8x512 .f32) = ((Cert.KernelIdeal.Gen.dats (moveAll 0 m) 0 c).arrAt 16 n : Vec Ideal S8x512 .f32) := by
  have hA : (dats m 0 c).A 16 = (Cert.KernelIdeal.Gen.dats (moveAll 0 m) 0 c).A 16 := by
    rw [A_eq, Cert.KernelIdeal.Gen.A_eq]
    exact arrays m c H main_v208_4 (by decide +kernel)
  have hf : (fun t => (dats m 0 c).flushed 16 t) = fun t => (Cert.KernelIdeal.Gen.dats (moveAll 0 m) 0 c).flushed 16 t := funext fun t => by
    rw [Value.flushed16, Cert.KernelIdeal.Value.flushed16, outs m c H _ t rfl]
    sl_kernel_rfl
  rw [Cert.Moved.arrAt_eq, Cert.Moved.arrAt_eq]
  refine Eq.trans (congrArg₂ (fun A f => Cert.Moved.fold (cfg0.win 16) c A f n) hA hf) ?_
  sl_kernel_rfl

theorem result17 (n : ℕ) : ((dats m 0 c).arrAt 17 n : Vec Ideal S8x1024 .f32) = ((Cert.KernelIdeal.Gen.dats (moveAll 0 m) 0 c).arrAt 17 n : Vec Ideal S8x1024 .f32) := by
  have hA : (dats m 0 c).A 17 = (Cert.KernelIdeal.Gen.dats (moveAll 0 m) 0 c).A 17 := by
    rw [A_eq, Cert.KernelIdeal.Gen.A_eq]
    exact arrays m c H main_v208_5 (by decide +kernel)
  have hf : (fun t => (dats m 0 c).flushed 17 t) = fun t => (Cert.KernelIdeal.Gen.dats (moveAll 0 m) 0 c).flushed 17 t := funext fun t => by
    rw [Value.flushed17, Cert.KernelIdeal.Value.flushed17, outs m c H _ t rfl]
    sl_kernel_rfl
  rw [Cert.Moved.arrAt_eq, Cert.Moved.arrAt_eq]
  refine Eq.trans (congrArg₂ (fun A f => Cert.Moved.fold (cfg0.win 17) c A f n) hA hf) ?_
  sl_kernel_rfl

end Cert.Kernel0Ideal.Moved

namespace Cert.Reference0Ideal.Moved

open Idealize.ShloMosaic Idealize.ShloMosaic.TcCoe Idealize.SL.Sem Idealize.ShloMosaic.StableHlo Cert.Reference0Ideal Cert.Reference0Ideal.Gen
open Cert.ReferenceIdeal.Moved (front move oddSet same)

/-- The reference's operations. -/
theorem ops_eq : (Value.ops : List (HloOp τ sig (Elt Ideal))) = front 0 slices_S4x3072_S1x3072_0_0 slices_S4x1024_S1x1024_0_0
    slices_S4x3x512_S1x3x512_0_0_0 slices_S4x4x128x128_S1x4x128x128_0_0_0_0 slices_S4x512_S1x512_0_0
    ++ Cert.ReferenceIdeal.Value.ops.drop 12 := by sl_kernel_rfl

theorem after_moved {U : Valuation τ sig (Elt Ideal)} {I : Layer.Args} (H : Cert.ReferenceIdeal.Value.Reads U I)
    (b : DevRef τ sig) (hb : b ∉ oddSet) : Value.val8 U b = after Cert.ReferenceIdeal.Value.ops (move 0 U) b := by
  rw [← Value.after_ops, ops_eq]
  exact same 0 _ _ _ _ _ H _ hb

/-- The reference ends with the results of the last layer's from the moved contents, its arguments unchanged. -/
theorem run (m : (ℓ : Loc nD τ sig) → Buf (Elt Ideal) ℓ) (ρ : Dev nD → PrngReg) (J : Dev nD → Layer.Args)
    (HJ : ∀ c, Cert.ReferenceIdeal.Value.Reads (launchContents m c) (J c)) :
    θ_run defs (onTc (τ := τ) (main (F := Ideal))) ⟨m, fun _ => 0, ρ⟩ fun r => ∀ c : Dev nD,
      r.2.mem ((c.tc : Thread nD τ).loc main_v349) = after Cert.ReferenceIdeal.Value.ops (move 0 (launchContents m c)) (Proc.devRef .tc main_v349)
      ∧ r.2.mem ((c.tc : Thread nD τ).loc main_v359) = after Cert.ReferenceIdeal.Value.ops (move 0 (launchContents m c)) (Proc.devRef .tc main_v359)
      ∧ r.2.mem ((c.tc : Thread nD τ).loc main_v360) = after Cert.ReferenceIdeal.Value.ops (move 0 (launchContents m c)) (Proc.devRef .tc main_v360)
      ∧ r.2.mem ((c.tc : Thread nD τ).loc main_v361) = after Cert.ReferenceIdeal.Value.ops (move 0 (launchContents m c)) (Proc.devRef .tc main_v361)
      ∧ r.2.mem ((c.tc : Thread nD τ).loc main_v353) = after Cert.ReferenceIdeal.Value.ops (move 0 (launchContents m c)) (Proc.devRef .tc main_v353)
      ∧ r.2.mem ((c.tc : Thread nD τ).loc main_v358) = after Cert.ReferenceIdeal.Value.ops (move 0 (launchContents m c)) (Proc.devRef .tc main_v358)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans ((Value.val8_main_v349 _).symm.trans (after_moved (HJ c) _ (by decide +kernel))),
    (h c).2.1.trans ((Value.val8_main_v359 _).symm.trans (after_moved (HJ c) _ (by decide +kernel))),
    (h c).2.2.1.trans ((Value.val8_main_v360 _).symm.trans (after_moved (HJ c) _ (by decide +kernel))),
    (h c).2.2.2.1.trans ((Value.val8_main_v361 _).symm.trans (after_moved (HJ c) _ (by decide +kernel))),
    (h c).2.2.2.2.1.trans ((Value.val8_main_v353 _).symm.trans (after_moved (HJ c) _ (by decide +kernel))),
    (h c).2.2.2.2.2.1.trans ((Value.val8_main_v358 _).symm.trans (after_moved (HJ c) _ (by decide +kernel))),
    (h c).2.2.2.2.2.2⟩) (Value.run m ρ)

end Cert.Reference0Ideal.Moved

end
-- ==== Proof.FwdLayerHost.lean ====
/- The host lines before the forward call of a layer without a head: they are the same for the layers 0, 1 and 2. -/
module

public import proofs.«01_k».proof.Proof.FwdSpec
public import proofs.«01_k».proof.Proof.Moved
public import proofs.«01_k».proof.Proof.Gen.Forward2Ideal.Frame

@[expose] public section

set_option maxRecDepth 16384

noncomputable section

/-- The numbers whose rows are all those for layer `l`, with nothing to compare the output with. -/
def Layer.Args.layer (I : Layer.Args) (l : ℕ) : Layer.Args :=
  { I with
    md := fun _ => I.md l
    gpre := fun _ => I.gpre l
    wc := fun _ => I.wc l
    wp := fun _ => I.wp l
    ps := fun _ => I.ps l
    gpost := fun _ => I.gpost l
    dxo := fun _ _ => 0 }

/-- The layer's output. -/
def Layer.Args.out (I : Layer.Args) (t l : ℕ) : ℝ := I.x t l + I.gate l * (I.y t l * I.ry t * I.gpost 3 l)

theorem Layer.Args.err_layer (I : Layer.Args) (k t l : ℕ) : (I.layer k).err t l = (I.layer k).out t l := sub_zero _

namespace Cert.Forward2Ideal.Host

open Idealize.ShloMosaic Idealize.ShloMosaic.TcCoe Idealize.ShloMosaic.StableHlo Cert.Forward2Ideal Cert.Forward2Ideal.Gen
open Layer (reals sum_real ite_real dite_real)
open Cert.KernelIdeal.Host (vecRow cpsRow)

/-- The nine arguments' contents are the reals of `I`. -/
def Reads (V0 : Valuation τ sig (Elt Ideal)) (I : Layer.Args) : Prop :=
  (∀ r l, V0 (Proc.devRef .tc main_arg0) (ix2 r l) = ((I.x r.val l.val : ℝ) : EReal))
  ∧ (∀ r l, V0 (Proc.devRef .tc main_arg1) (ix2 r l) = ((I.md r.val l.val : ℝ) : EReal))
  ∧ (∀ r l, V0 (Proc.devRef .tc main_arg2) (ix2 r l) = ((I.gpre r.val l.val : ℝ) : EReal))
  ∧ (∀ r l, V0 (Proc.devRef .tc main_arg3) (ix2 r l) = ((I.win r.val l.val : ℝ) : EReal))
  ∧ (∀ a r l, V0 (Proc.devRef .tc main_arg4) (ix3 a r l) = ((I.wc a.val r.val l.val : ℝ) : EReal))
  ∧ (∀ a b r l, V0 (Proc.devRef .tc main_arg5) (ix4 a b r l) = ((I.wp a.val b.val r.val l.val : ℝ) : EReal))
  ∧ (∀ r l, V0 (Proc.devRef .tc main_arg6) (ix2 r l) = ((I.ps r.val l.val : ℝ) : EReal))
  ∧ (∀ r l, V0 (Proc.devRef .tc main_arg7) (ix2 r l) = ((I.wout r.val l.val : ℝ) : EReal))
  ∧ (∀ r l, V0 (Proc.devRef .tc main_arg8) (ix2 r l) = ((I.gpost r.val l.val : ℝ) : EReal))

/-- The host lines. -/
abbrev line : List (HloOp τ sig (Elt Ideal)) := hostOps0

variable {V0 : Valuation τ sig (Elt Ideal)} {I : Layer.Args} (H : Reads V0 I)
include H

theorem arg0 : ∀ r j, after line V0 (Proc.devRef .tc main_arg0) (ix2 r j) = ((I.x r.val j.val : ℝ) : EReal) := by
  intro r j
  have A := H; unfold Reads at A
  repeat after_reads_at
  simp only [A]

set_option maxHeartbeats 2000000 in
/-- A layer's rows of the modulation and the gains, in the four layers' array. -/
theorem v10 (l : Fin 4) : ∀ r j, after line V0 (Proc.devRef .tc main_v10) (ix3 l r j) = ((vecRow (I.layer l.val) r.val j.val : ℝ) : EReal) := by
  intro r j
  have A := H; unfold Reads at A
  repeat after_reads_at
  simp only [A, reals, Fin.sum_univ_one, sum_real, ite_real, dite_real]
  refine congrArg Real.toEReal ?_
  simp only [vecRow, Layer.Args.sh, Layer.Args.sc, Layer.Args.gate, Layer.Args.layer]
  split_ifs <;> first | rfl | omega | (congr 1 <;> omega)

theorem v2 (l : Fin 4) : ∀ r j, after line V0 (Proc.devRef .tc main_v2) (ix3 l r j) = ((cpsRow (I.layer l.val) r.val j.val : ℝ) : EReal) := by
  intro r j
  have A := H; unfold Reads at A
  repeat after_reads_at
  simp only [A, reals, Fin.sum_univ_one, sum_real, ite_real, dite_real]
  refine congrArg Real.toEReal ?_
  simp only [cpsRow, Layer.Args.layer]
  split_ifs <;> first | rfl | omega | (congr 1 <;> omega)

theorem v3 (l : Fin 4) : ∀ g r j, after line V0 (Proc.devRef .tc main_v3) (ix4 l g r j) = (((I.layer l.val).wp 3 g.val r.val j.val : ℝ) : EReal) := by
  intro g r j
  have A := H; unfold Reads at A
  repeat after_reads_at
  simp only [A]
  rfl

theorem v4 : ∀ r j, after line V0 (Proc.devRef .tc main_v4) (ix2 r j) = ((I.win r.val j.val : ℝ) : EReal) := by
  intro r j
  have A := H; unfold Reads at A
  repeat after_reads_at
  simp only [A]

theorem v5 : ∀ r j, after line V0 (Proc.devRef .tc main_v5) (ix2 r j) = ((I.wout r.val j.val : ℝ) : EReal) := by
  intro r j
  have A := H; unfold Reads at A
  repeat after_reads_at
  simp only [A]

end Cert.Forward2Ideal.Host

end
-- ==== Proof.FwdLayerPoint.lean ====
/- What one grid point of the forward call without a head computes from its blocks and the rows carried to it: the same as
   the call with a head does, but for the output, from which the head's target is taken off. -/
module

public import proofs.«01_k».proof.Proof.FwdValue
public import proofs.«01_k».proof.Proof.FwdLayerHost

@[expose] public section

set_option maxRecDepth 16384

noncomputable section

namespace Cert.Forward2Ideal.Point

open Cert.Forward2Ideal Cert.Forward2Ideal.Gen Idealize.ShloMosaic Idealize.ShloMosaic.TcCoe
open Cert.KernelIdeal.Point (put_full2 readCov_ld canon_put put_whole zeros2)
open Cert.ForwardIdeal.Point (Ins)

/-- What a grid point leaves: its blocks of the seven results, and the rows carried on. -/
abbrev Outs := Vec Ideal S512x1024 .f32 × Vec Ideal S512x1024 .bf16 × Vec Ideal S512x1024 .bf16 × Vec Ideal S512x1024 .bf16 × Vec Ideal S512x1024 .bf16
  × Vec Ideal S512x1536 .bf16 × Vec Ideal S512x2048 .bf16 × Vec Ideal S8x512 .f32 × Vec Ideal S16x512 .f32

/-- The output, before a head takes its target off. -/
def out (b : Ins) (Z : Vec Ideal S8x512 .f32) (P : Vec Ideal S16x512 .f32) : FVec Ideal S512x1024 .f32 :=
  k0_pay57 b.x b.gate b.gpost (b.ya Z) (b.mixed P) b.silup b.psb b.wout

theorem err_eq (b : Ins) (Z : Vec Ideal S8x512 .f32) (P : Vec Ideal S16x512 .f32) : b.err Z P = subf (out b Z P) b.target := by
  unfold out Ins.err
  rfl

theorem read_0 (h : (Memref.whole cc0_scratch0).IsWhole) (X : Vec Ideal S8x512 .f32) : View.read (Elt Ideal) (View.whole cc0_scratch0) (h.unread X) = X := h.read_unread X
theorem read_1 (h : (Memref.whole cc0_scratch1).IsWhole) (X : Vec Ideal S16x512 .f32) : View.read (Elt Ideal) (View.whole cc0_scratch1) (h.unread X) = X := h.read_unread X

/-! The bodies' values are those of the call with a head. -/

theorem e1 : k0_pay1 (F := Ideal) = Cert.ForwardIdeal.Gen.k0_pay3 (F := Ideal) := by sl_kernel_rfl
theorem e2 : k0_pay2 (F := Ideal) = Cert.ForwardIdeal.Gen.k0_pay4 (F := Ideal) := by sl_kernel_rfl
theorem e3 : k0_pay3 (F := Ideal) = Cert.ForwardIdeal.Gen.k0_pay6 (F := Ideal) := by sl_kernel_rfl
theorem e4 : k0_pay4 (F := Ideal) = Cert.ForwardIdeal.Gen.k0_pay7 (F := Ideal) := by sl_kernel_rfl
theorem e5 : k0_pay5 (F := Ideal) = Cert.ForwardIdeal.Gen.k0_pay8 (F := Ideal) := by sl_kernel_rfl
theorem e6 : k0_pay6 (F := Ideal) = Cert.ForwardIdeal.Gen.k0_pay9 (F := Ideal) := by sl_kernel_rfl
theorem e7 : k0_pay7 (F := Ideal) = Cert.ForwardIdeal.Gen.k0_pay10 (F := Ideal) := by sl_kernel_rfl
theorem e8 : k0_pay8 (F := Ideal) = Cert.ForwardIdeal.Gen.k0_pay11 (F := Ideal) := by sl_kernel_rfl
theorem e9 : k0_pay9 (F := Ideal) = Cert.ForwardIdeal.Gen.k0_pay12 (F := Ideal) := by sl_kernel_rfl
theorem e10 : k0_pay10 (F := Ideal) = Cert.ForwardIdeal.Gen.k0_pay13 (F := Ideal) := by sl_kernel_rfl
theorem e11 : k0_pay11 (F := Ideal) = Cert.ForwardIdeal.Gen.k0_pay14 (F := Ideal) := by sl_kernel_rfl
theorem e12 : k0_pay12 (F := Ideal) = Cert.ForwardIdeal.Gen.k0_pay15 (F := Ideal) := by sl_kernel_rfl
theorem e13 : k0_pay13 (F := Ideal) = Cert.ForwardIdeal.Gen.k0_pay16 (F := Ideal) := by sl_kernel_rfl
theorem e14 : k0_pay14 (F := Ideal) = Cert.ForwardIdeal.Gen.k0_pay17 (F := Ideal) := by sl_kernel_rfl
theorem e15 : k0_pay15 (F := Ideal) = Cert.ForwardIdeal.Gen.k0_pay18 (F := Ideal) := by sl_kernel_rfl
theorem e16 : k0_pay16 (F := Ideal) = Cert.ForwardIdeal.Gen.k0_pay19 (F := Ideal) := by sl_kernel_rfl
theorem e17 : k0_pay17 (F := Ideal) = Cert.ForwardIdeal.Gen.k0_pay20 (F := Ideal) := by sl_kernel_rfl
theorem e18 : k0_pay18 (F := Ideal) = Cert.ForwardIdeal.Gen.k0_pay21 (F := Ideal) := by sl_kernel_rfl
theorem e19 : k0_pay19 (F := Ideal) = Cert.ForwardIdeal.Gen.k0_pay22 (F := Ideal) := by sl_kernel_rfl
theorem e20 : k0_pay20 (F := Ideal) = Cert.ForwardIdeal.Gen.k0_pay23 (F := Ideal) := by sl_kernel_rfl
theorem e21 : k0_pay21 (F := Ideal) = Cert.ForwardIdeal.Gen.k0_pay24 (F := Ideal) := by sl_kernel_rfl
theorem e22 : k0_pay22 (F := Ideal) = Cert.ForwardIdeal.Gen.k0_pay25 (F := Ideal) := by sl_kernel_rfl
theorem e23 : k0_pay23 (F := Ideal) = Cert.ForwardIdeal.Gen.k0_pay26 (F := Ideal) := by sl_kernel_rfl
theorem e24 : k0_pay24 (F := Ideal) = Cert.ForwardIdeal.Gen.k0_pay27 (F := Ideal) := by sl_kernel_rfl
theorem e25 : k0_pay25 (F := Ideal) = Cert.ForwardIdeal.Gen.k0_pay28 (F := Ideal) := by sl_kernel_rfl
theorem e26 : k0_pay26 (F := Ideal) = Cert.ForwardIdeal.Gen.k0_pay29 (F := Ideal) := by sl_kernel_rfl
theorem e27 : k0_pay27 (F := Ideal) = Cert.ForwardIdeal.Gen.k0_pay30 (F := Ideal) := by sl_kernel_rfl
theorem e28 : k0_pay28 (F := Ideal) = Cert.ForwardIdeal.Gen.k0_pay31 (F := Ideal) := by sl_kernel_rfl
theorem e29 : k0_pay29 (F := Ideal) = Cert.ForwardIdeal.Gen.k0_pay32 (F := Ideal) := by sl_kernel_rfl
theorem e30 : k0_pay30 (F := Ideal) = Cert.ForwardIdeal.Gen.k0_pay33 (F := Ideal) := by sl_kernel_rfl
theorem e31 : k0_pay31 (F := Ideal) = Cert.ForwardIdeal.Gen.k0_pay34 (F := Ideal) := by sl_kernel_rfl
theorem e32 : k0_pay32 (F := Ideal) = Cert.ForwardIdeal.Gen.k0_pay35 (F := Ideal) := by sl_kernel_rfl
theorem e33 : k0_pay33 (F := Ideal) = Cert.ForwardIdeal.Gen.k0_pay36 (F := Ideal) := by sl_kernel_rfl
theorem e34 : k0_pay34 (F := Ideal) = Cert.ForwardIdeal.Gen.k0_pay37 (F := Ideal) := by sl_kernel_rfl
theorem e35 : k0_pay35 (F := Ideal) = Cert.ForwardIdeal.Gen.k0_pay38 (F := Ideal) := by sl_kernel_rfl
theorem e36 : k0_pay36 (F := Ideal) = Cert.ForwardIdeal.Gen.k0_pay39 (F := Ideal) := by sl_kernel_rfl
theorem e37 : k0_pay37 (F := Ideal) = Cert.ForwardIdeal.Gen.k0_pay40 (F := Ideal) := by sl_kernel_rfl
theorem e38 : k0_pay38 (F := Ideal) = Cert.ForwardIdeal.Gen.k0_pay41 (F := Ideal) := by sl_kernel_rfl
theorem e39 : k0_pay39 (F := Ideal) = Cert.ForwardIdeal.Gen.k0_pay42 (F := Ideal) := by sl_kernel_rfl
theorem e40 : k0_pay40 (F := Ideal) = Cert.ForwardIdeal.Gen.k0_pay43 (F := Ideal) := by sl_kernel_rfl
theorem e41 : k0_pay41 (F := Ideal) = Cert.ForwardIdeal.Gen.k0_pay44 (F := Ideal) := by sl_kernel_rfl
theorem e42 : k0_pay42 (F := Ideal) = Cert.ForwardIdeal.Gen.k0_pay45 (F := Ideal) := by sl_kernel_rfl
theorem e43 : k0_pay43 (F := Ideal) = Cert.ForwardIdeal.Gen.k0_pay46 (F := Ideal) := by sl_kernel_rfl
theorem e44 : k0_pay44 (F := Ideal) = Cert.ForwardIdeal.Gen.k0_pay47 (F := Ideal) := by sl_kernel_rfl
theorem e45 : k0_pay45 (F := Ideal) = Cert.ForwardIdeal.Gen.k0_pay48 (F := Ideal) := by sl_kernel_rfl
theorem e46 : k0_pay46 (F := Ideal) = Cert.ForwardIdeal.Gen.k0_pay49 (F := Ideal) := by sl_kernel_rfl
theorem e47 : k0_pay47 (F := Ideal) = Cert.ForwardIdeal.Gen.k0_pay50 (F := Ideal) := by sl_kernel_rfl
theorem e48 : k0_pay48 (F := Ideal) = Cert.ForwardIdeal.Gen.k0_pay51 (F := Ideal) := by sl_kernel_rfl
theorem e49 : k0_pay49 (F := Ideal) = Cert.ForwardIdeal.Gen.k0_pay52 (F := Ideal) := by sl_kernel_rfl
theorem e50 : k0_pay50 (F := Ideal) = Cert.ForwardIdeal.Gen.k0_pay53 (F := Ideal) := by sl_kernel_rfl
theorem e51 : k0_pay51 (F := Ideal) = Cert.ForwardIdeal.Gen.k0_pay54 (F := Ideal) := by sl_kernel_rfl
theorem e52 : k0_pay52 (F := Ideal) = Cert.ForwardIdeal.Gen.k0_pay55 (F := Ideal) := by sl_kernel_rfl
theorem e53 : k0_pay53 (F := Ideal) = Cert.ForwardIdeal.Gen.k0_pay56 (F := Ideal) := by sl_kernel_rfl
theorem e54 : k0_pay54 (F := Ideal) = Cert.ForwardIdeal.Gen.k0_pay57 (F := Ideal) := by sl_kernel_rfl
theorem e55 : k0_pay55 (F := Ideal) = Cert.ForwardIdeal.Gen.k0_pay58 (F := Ideal) := by sl_kernel_rfl
theorem e56 : k0_pay56 (F := Ideal) = Cert.ForwardIdeal.Gen.k0_pay59 (F := Ideal) := by sl_kernel_rfl

variable (c : Dev nD) (t : Fin cfg0.N) (x0 : Vec Ideal S512x1024 .f32) (x1 : Vec Ideal S1x8x1024 .f32) (x2 : Vec Ideal S1x8x512 .f32)
  (x3 : Vec Ideal S1x4x128x128 .bf16) (x4 : Vec Ideal S1024x3072 .bf16) (x5 : Vec Ideal S1024x1024 .bf16)

/-- What the body of point `t` is given, the target zero. -/
def ins : Ins where
  v0 := BitVec.ofNat 32 (grid0.coords t 0).val
  x0 := x0
  x1 := x1
  x2 := x2
  x3 := x3
  x4 := x4
  x5 := x5
  x6 := fun _ => (0 : EReal)

/-- What the first point leaves. -/
abbrev pointA (h0 : t.val % 4 = 0) : Outs := (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) x0 x1 x2 x3 x4 x5, out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) x0 x1 x2 x3 x4 x5, out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) x0 x1 x2 x3 x4 x5, out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) x0 x1 x2 x3 x4 x5, out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) x0 x1 x2 x3 x4 x5, out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) x0 x1 x2 x3 x4 x5, out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) x0 x1 x2 x3 x4 x5, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) x0 x1 x2 x3 x4 x5, sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) x0 x1 x2 x3 x4 x5)

/-- What a later point leaves, from the rows that the point before left. -/
abbrev pointB (h0 : ¬t.val % 4 = 0) (Z : Vec Ideal S8x512 .f32) (P : Vec Ideal S16x512 .f32) : Outs := (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) x0 x1 x2 x3 x4 x5 Z P, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) x0 x1 x2 x3 x4 x5 Z P, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) x0 x1 x2 x3 x4 x5 Z P, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) x0 x1 x2 x3 x4 x5 Z P, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) x0 x1 x2 x3 x4 x5 Z P, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) x0 x1 x2 x3 x4 x5 Z P, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) x0 x1 x2 x3 x4 x5 Z P, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) x0 x1 x2 x3 x4 x5 Z P, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) x0 x1 x2 x3 x4 x5 Z P)

/-- What the first point leaves, from its blocks. -/
theorem point_A (h0 : t.val % 4 = 0) :
    (pointA c t x0 x1 x2 x3 x4 x5 h0).1 = out (ins t x0 x1 x2 x3 x4 x5) (Cert.ForwardIdeal.Gen.k0_pay3 (F := Ideal)) (Cert.ForwardIdeal.Gen.k0_pay4 (F := Ideal))
    ∧ (pointA c t x0 x1 x2 x3 x4 x5 h0).2.1 = (ins t x0 x1 x2 x3 x4 x5).y (Cert.ForwardIdeal.Gen.k0_pay3 (F := Ideal)) (Cert.ForwardIdeal.Gen.k0_pay4 (F := Ideal))
    ∧ (pointA c t x0 x1 x2 x3 x4 x5 h0).2.2.1 = (ins t x0 x1 x2 x3 x4 x5).h
    ∧ (pointA c t x0 x1 x2 x3 x4 x5 h0).2.2.2.1 = (ins t x0 x1 x2 x3 x4 x5).ycat (Cert.ForwardIdeal.Gen.k0_pay3 (F := Ideal)) (Cert.ForwardIdeal.Gen.k0_pay4 (F := Ideal))
    ∧ (pointA c t x0 x1 x2 x3 x4 x5 h0).2.2.2.2.1 = (ins t x0 x1 x2 x3 x4 x5).uc
    ∧ (pointA c t x0 x1 x2 x3 x4 x5 h0).2.2.2.2.2.1 = (ins t x0 x1 x2 x3 x4 x5).fa (Cert.ForwardIdeal.Gen.k0_pay3 (F := Ideal))
    ∧ (pointA c t x0 x1 x2 x3 x4 x5 h0).2.2.2.2.2.2.1 = (ins t x0 x1 x2 x3 x4 x5).fp (Cert.ForwardIdeal.Gen.k0_pay4 (F := Ideal))
    ∧ (pointA c t x0 x1 x2 x3 x4 x5 h0).2.2.2.2.2.2.2.1 = (ins t x0 x1 x2 x3 x4 x5).zc
    ∧ (pointA c t x0 x1 x2 x3 x4 x5 h0).2.2.2.2.2.2.2.2 = (ins t x0 x1 x2 x3 x4 x5).pc := by
  unfold pointA
  dsimp only
  refine ⟨?_, ?_, ?_, ?_, ?_, ?_, ?_, ?_, ?_⟩
  on_goal 1 => unfold out0_A_6; rw [View.read_writes_eq_canon _ _ _ (fun _ => cover0_A_6 ..)]
  on_goal 2 => unfold out0_A_7; rw [View.read_writes_eq_canon _ _ _ (fun _ => cover0_A_7 ..)]
  on_goal 3 => unfold out0_A_8; rw [View.read_writes_eq_canon _ _ _ (fun _ => cover0_A_8 ..)]
  on_goal 4 => unfold out0_A_9; rw [View.read_writes_eq_canon _ _ _ (fun _ => cover0_A_9 ..)]
  on_goal 5 => unfold out0_A_10; rw [View.read_writes_eq_canon _ _ _ (fun _ => cover0_A_10 ..)]
  on_goal 6 => unfold out0_A_11; rw [View.read_writes_eq_canon _ _ _ (fun _ => cover0_A_11 ..)]
  on_goal 7 => unfold out0_A_12; rw [View.read_writes_eq_canon _ _ _ (fun _ => cover0_A_12 ..)]
  on_goal 8 => unfold sout0_A_0; rw [View.read_writes_eq_canon _ _ _ (fun _ => scover0_A_0 ..)]
  on_goal 9 => unfold sout0_A_1; rw [View.read_writes_eq_canon _ _ _ (fun _ => scover0_A_1 ..)]
  all_goals
    unfold kernelRun0_A
    dsimp only
    sl_unfold_words
    simp only [View.readAt_eq_ld, Memref.IsWhole.read_unread, read_0, read_1, readCov_ld, canon_put, put_whole (s := S8x512) zeros2, put_whole (s := S16x512) zeros2]
  on_goal 1 => refine (put_full2 _ _).trans ?_
  on_goal 2 => refine (put_full2 _ _).trans ?_
  on_goal 3 => refine (put_full2 _ _).trans ?_
  on_goal 4 => refine (put_full2 _ _).trans ?_
  on_goal 5 => refine (put_full2 _ _).trans ?_
  on_goal 6 => refine (put_full2 _ _).trans ?_
  on_goal 7 => refine (put_full2 _ _).trans ?_
  all_goals
    dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, out, ins]
    simp only [e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56] <;> rfl

/-- What a later point leaves, from its blocks and the rows carried to it. -/
theorem point_B (h0 : ¬t.val % 4 = 0) (Z : Vec Ideal S8x512 .f32) (P : Vec Ideal S16x512 .f32) :
    (pointB c t x0 x1 x2 x3 x4 x5 h0 Z P).1 = out (ins t x0 x1 x2 x3 x4 x5) Z P
    ∧ (pointB c t x0 x1 x2 x3 x4 x5 h0 Z P).2.1 = (ins t x0 x1 x2 x3 x4 x5).y Z P
    ∧ (pointB c t x0 x1 x2 x3 x4 x5 h0 Z P).2.2.1 = (ins t x0 x1 x2 x3 x4 x5).h
    ∧ (pointB c t x0 x1 x2 x3 x4 x5 h0 Z P).2.2.2.1 = (ins t x0 x1 x2 x3 x4 x5).ycat Z P
    ∧ (pointB c t x0 x1 x2 x3 x4 x5 h0 Z P).2.2.2.2.1 = (ins t x0 x1 x2 x3 x4 x5).uc
    ∧ (pointB c t x0 x1 x2 x3 x4 x5 h0 Z P).2.2.2.2.2.1 = (ins t x0 x1 x2 x3 x4 x5).fa Z
    ∧ (pointB c t x0 x1 x2 x3 x4 x5 h0 Z P).2.2.2.2.2.2.1 = (ins t x0 x1 x2 x3 x4 x5).fp P
    ∧ (pointB c t x0 x1 x2 x3 x4 x5 h0 Z P).2.2.2.2.2.2.2.1 = (ins t x0 x1 x2 x3 x4 x5).zc
    ∧ (pointB c t x0 x1 x2 x3 x4 x5 h0 Z P).2.2.2.2.2.2.2.2 = (ins t x0 x1 x2 x3 x4 x5).pc := by
  unfold pointB
  dsimp only
  refine ⟨?_, ?_, ?_, ?_, ?_, ?_, ?_, ?_, ?_⟩
  on_goal 1 => unfold out0_B_6; rw [View.read_writes_eq_canon _ _ _ (fun _ => cover0_B_6 ..)]
  on_goal 2 => unfold out0_B_7; rw [View.read_writes_eq_canon _ _ _ (fun _ => cover0_B_7 ..)]
  on_goal 3 => unfold out0_B_8; rw [View.read_writes_eq_canon _ _ _ (fun _ => cover0_B_8 ..)]
  on_goal 4 => unfold out0_B_9; rw [View.read_writes_eq_canon _ _ _ (fun _ => cover0_B_9 ..)]
  on_goal 5 => unfold out0_B_10; rw [View.read_writes_eq_canon _ _ _ (fun _ => cover0_B_10 ..)]
  on_goal 6 => unfold out0_B_11; rw [View.read_writes_eq_canon _ _ _ (fun _ => cover0_B_11 ..)]
  on_goal 7 => unfold out0_B_12; rw [View.read_writes_eq_canon _ _ _ (fun _ => cover0_B_12 ..)]
  on_goal 8 => unfold sout0_B_0; rw [View.read_writes_eq_canon _ _ _ (fun _ => scover0_B_0 ..)]
  on_goal 9 => unfold sout0_B_1; rw [View.read_writes_eq_canon _ _ _ (fun _ => scover0_B_1 ..)]
  all_goals
    unfold kernelRun0_B
    dsimp only
    sl_unfold_words
    simp only [View.readAt_eq_ld, Memref.IsWhole.read_unread, read_0, read_1, readCov_ld, canon_put, put_whole (s := S8x512) zeros2, put_whole (s := S16x512) zeros2]
  on_goal 1 => refine (put_full2 _ _).trans ?_
  on_goal 2 => refine (put_full2 _ _).trans ?_
  on_goal 3 => refine (put_full2 _ _).trans ?_
  on_goal 4 => refine (put_full2 _ _).trans ?_
  on_goal 5 => refine (put_full2 _ _).trans ?_
  on_goal 6 => refine (put_full2 _ _).trans ?_
  on_goal 7 => refine (put_full2 _ _).trans ?_
  all_goals
    dsimp only [Ins.sh, Ins.sc, Ins.gate, Ins.gpre, Ins.gpost, Ins.tap0, Ins.tap1, Ins.tap2, Ins.ps, Ins.x, Ins.target, Ins.win, Ins.wout, Ins.wp0, Ins.wp1, Ins.wp2, Ins.wp3, Ins.ss, Ins.h, Ins.uc, Ins.bb, Ins.ga, Ins.up, Ins.gp, Ins.z, Ins.z2, Ins.z1, Ins.ya, Ins.fa, Ins.zc, Ins.pc, Ins.rows, Ins.num, Ins.s2, Ins.pooled0, Ins.mix0, Ins.pooled1, Ins.mix1, Ins.s8, Ins.m8, Ins.pooled2, Ins.pooled3, Ins.mixed, Ins.sp, Ins.silup, Ins.psb, Ins.fp, Ins.ycat, Ins.y, out, ins]
    simp only [e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56] <;> rfl

end Cert.Forward2Ideal.Point

end
-- ==== Proof.FwdLayerStep.lean ====
/- From the numbers in the blocks of the four grid points to the numbers that they leave, for the forward call of a layer
   without a head. -/
module

public import proofs.«01_k».proof.Proof.FwdAfter
public import proofs.«01_k».proof.Proof.FwdLayerPoint

@[expose] public section

set_option maxRecDepth 16384

noncomputable section

namespace Cert.Forward2Ideal.Point

open Cert.Forward2Ideal Cert.Forward2Ideal.Gen Idealize.ShloMosaic Idealize.ShloMosaic.TcCoe
open Layer (late)
open Cert.KernelIdeal.Host (faRow fpRow vecRow cpsRow)
open Cert.ForwardIdeal.Point (Ins Holds Handed)
open Cert.ForwardIdeal.Tile (ups)

/-- What a point leaves, from the rows handed to it. -/
structure Step (o : Outs) (b : Ins) (Z : Vec Ideal S8x512 .f32) (P : Vec Ideal S16x512 .f32) : Prop where
  out : o.1 = out b Z P
  y : o.2.1 = b.y Z P
  h : o.2.2.1 = b.h
  ycat : o.2.2.2.1 = b.ycat Z P
  uc : o.2.2.2.2.1 = b.uc
  fa : o.2.2.2.2.2.1 = b.fa Z
  fp : o.2.2.2.2.2.2.1 = b.fp P
  zc : o.2.2.2.2.2.2.2.1 = b.zc
  pc : o.2.2.2.2.2.2.2.2 = b.pc

/-- The numbers that the tile that begins at token `n` leaves. -/
structure Leaves (o : Outs) (I : Layer.Args) (n : ℕ) : Prop where
  out : ∀ r l, o.1 (ix2 r l) = ((I.out (n + r.val) l.val : ℝ) : EReal)
  y : ∀ r l, o.2.1 (ix2 r l) = ((I.y (n + r.val) l.val : ℝ) : EReal)
  h : ∀ r l, o.2.2.1 (ix2 r l) = ((I.h (n + r.val) l.val : ℝ) : EReal)
  ycat : ∀ r l, o.2.2.2.1 (ix2 r l) = ((I.ycat (n + r.val) l.val : ℝ) : EReal)
  uc : ∀ r l, o.2.2.2.2.1 (ix2 r l) = ((I.ucRow (n + r.val) l.val : ℝ) : EReal)
  fa : ∀ r l, o.2.2.2.2.2.1 (ix2 r l) = ((faRow I (n + r.val) l.val : ℝ) : EReal)
  fp : ∀ r l, o.2.2.2.2.2.2.1 (ix2 r l) = ((fpRow I (n + r.val) l.val : ℝ) : EReal)

/-- The rows handed to the tile that begins at token `n`. -/
structure Rows (I : Layer.Args) (n : ℕ) (Z : Vec Ideal S8x512 .f32) (P : Vec Ideal S16x512 .f32) : Prop where
  z : ∀ r c, Z (ix2 r c) = ((late (I.z c.val) 8 (n + r.val) : ℝ) : EReal)
  p : ∀ r c, P (ix2 r c) = ((ups I n r.val c.val : ℝ) : EReal)

section
variable {o : Outs} {b : Ins} {I : Layer.Args} {k n T : ℕ} (B : Holds b (I.layer k) n T)
  {Z : Vec Ideal S8x512 .f32} {P : Vec Ideal S16x512 .f32} (S : Step o b Z P) (A : Rows (I.layer k) n Z P)
include B A

/-- The head's difference is the output, as there is nothing to compare it with. -/
theorem out_at (r : Fin 512) (l : Fin 1024) : out b Z P (ix2 r l) = (((I.layer k).out (n + r.val) l.val : ℝ) : EReal) := by
  have e := B.err A.p A.z r l
  rw [Layer.Args.err_layer, err_eq] at e
  refine Eq.trans ?_ e
  have t : b.target (ix2 r l) = ((0 : ℝ) : EReal) := B.target r l
  show (out b Z P (ix2 r l) : EReal) = (out b Z P (ix2 r l) : EReal) - (b.target (ix2 r l) : EReal)
  rw [t, EReal.coe_zero, sub_zero]

include S
theorem leaves : Leaves o (I.layer k) n where
  out := by rw [S.out]; exact out_at B A
  y := by rw [S.y]; exact B.y A.p A.z
  h := by rw [S.h]; exact B.h
  ycat := by rw [S.ycat]; exact B.ycat A.p A.z
  uc := by rw [S.uc]; exact B.uc
  fa := by rw [S.fa]; exact B.fa A.z
  fp := by rw [S.fp]; exact B.fp A.p
omit A in
theorem hands : Rows (I.layer k) (n + 512) o.2.2.2.2.2.2.2.1 o.2.2.2.2.2.2.2.2 where
  z := by rw [S.zc]; exact B.zc
  p := by rw [S.pc]; exact B.pc
end

/-- In front of the first token there are zeros. -/
theorem rows_first (I : Layer.Args) : Rows I 0 (Cert.ForwardIdeal.Gen.k0_pay3 (F := Ideal)) (Cert.ForwardIdeal.Gen.k0_pay4 (F := Ideal)) where
  z := (Cert.ForwardIdeal.Point.handed_first I).z
  p := (Cert.ForwardIdeal.Point.handed_first I).p

variable (c : Dev nD) (t : Fin cfg0.N) (x0 : Vec Ideal S512x1024 .f32) (x1 : Vec Ideal S1x8x1024 .f32) (x2 : Vec Ideal S1x8x512 .f32)
  (x3 : Vec Ideal S1x4x128x128 .bf16) (x4 : Vec Ideal S1024x3072 .bf16) (x5 : Vec Ideal S1024x1024 .bf16)

theorem step_first (h0 : t.val % 4 = 0) : Step (pointA c t x0 x1 x2 x3 x4 x5 h0) (ins t x0 x1 x2 x3 x4 x5)
    (Cert.ForwardIdeal.Gen.k0_pay3 (F := Ideal)) (Cert.ForwardIdeal.Gen.k0_pay4 (F := Ideal)) :=
  let ⟨o, y, h, ycat, uc, fa, fp, zc, pc⟩ := point_A c t x0 x1 x2 x3 x4 x5 h0
  ⟨o, y, h, ycat, uc, fa, fp, zc, pc⟩

theorem step_next (h0 : ¬t.val % 4 = 0) (Z : Vec Ideal S8x512 .f32) (P : Vec Ideal S16x512 .f32) :
    Step (pointB c t x0 x1 x2 x3 x4 x5 h0 Z P) (ins t x0 x1 x2 x3 x4 x5) Z P :=
  let ⟨o, y, h, ycat, uc, fa, fp, zc, pc⟩ := point_B c t x0 x1 x2 x3 x4 x5 h0 Z P
  ⟨o, y, h, ycat, uc, fa, fp, zc, pc⟩

/-- The blocks of point `t` hold the numbers of its tile. -/
structure Blocks (I : Layer.Args) : Prop where
  x0 : ∀ r l, x0 (ix2 r l) = ((I.x (512 * t.val + r.val) l.val : ℝ) : EReal)
  x1 : ∀ r l, x1 (ix3 0 r l) = ((vecRow I r.val l.val : ℝ) : EReal)
  x2 : ∀ r l, x2 (ix3 0 r l) = ((cpsRow I r.val l.val : ℝ) : EReal)
  x3 : ∀ g r l, x3 (ix4 0 g r l) = ((I.wp 3 g.val r.val l.val : ℝ) : EReal)
  x4 : ∀ r l, x4 (ix2 r l) = ((I.win r.val l.val : ℝ) : EReal)
  x5 : ∀ r l, x5 (ix2 r l) = ((I.wout r.val l.val : ℝ) : EReal)

theorem word_at : ∀ t : Fin grid0.N, BitVec.ofNat 32 (grid0.coords t 0).val = BitVec.ofNat 32 t.val := by decide +kernel

theorem holds {I : Layer.Args} {k : ℕ} (B : Blocks t x0 x1 x2 x3 x4 x5 (I.layer k)) :
    Holds (ins t x0 x1 x2 x3 x4 x5) (I.layer k) (512 * t.val) t.val where
  lt := t.isLt
  eq := rfl
  v0 := by unfold ins; exact word_at t
  x0 := by unfold ins; exact B.x0
  x1 := by unfold ins; exact B.x1
  x2 := by unfold ins; exact B.x2
  x3 := by unfold ins; exact B.x3
  x4 := by unfold ins; exact B.x4
  x5 := by unfold ins; exact B.x5
  x6 := fun _ _ => EReal.coe_zero.symm

/-- Four points' blocks, and what the points leave from them one after the other. -/
structure Run (o : (n : ℕ) → n < cfg0.N → Outs) (b0 : Fin cfg0.N → Vec Ideal S512x1024 .f32) (b1 : Fin cfg0.N → Vec Ideal S1x8x1024 .f32)
    (b2 : Fin cfg0.N → Vec Ideal S1x8x512 .f32) (b3 : Fin cfg0.N → Vec Ideal S1x4x128x128 .bf16) (b4 : Fin cfg0.N → Vec Ideal S1024x3072 .bf16)
    (b5 : Fin cfg0.N → Vec Ideal S1024x1024 .bf16) : Prop where
  first : ∀ (t : Fin cfg0.N) (h0 : t.val % 4 = 0), o t.val t.isLt = pointA c t (b0 t) (b1 t) (b2 t) (b3 t) (b4 t) (b5 t) h0
  next : ∀ (t : Fin cfg0.N) (h0 : ¬t.val % 4 = 0), o t.val t.isLt = pointB c t (b0 t) (b1 t) (b2 t) (b3 t) (b4 t) (b5 t) h0
    (o (t.val - 1) (Nat.lt_of_le_of_lt (Nat.sub_le _ _) t.isLt)).2.2.2.2.2.2.2.1 (o (t.val - 1) (Nat.lt_of_le_of_lt (Nat.sub_le _ _) t.isLt)).2.2.2.2.2.2.2.2

section
variable {c} {o : (n : ℕ) → n < cfg0.N → Outs} {b0 : Fin cfg0.N → Vec Ideal S512x1024 .f32} {b1 : Fin cfg0.N → Vec Ideal S1x8x1024 .f32}
  {b2 : Fin cfg0.N → Vec Ideal S1x8x512 .f32} {b3 : Fin cfg0.N → Vec Ideal S1x4x128x128 .bf16} {b4 : Fin cfg0.N → Vec Ideal S1024x3072 .bf16}
  {b5 : Fin cfg0.N → Vec Ideal S1024x1024 .bf16} (R : Run c o b0 b1 b2 b3 b4 b5) {I : Layer.Args} {k : ℕ}
  (B : ∀ t : Fin cfg0.N, Blocks t (b0 t) (b1 t) (b2 t) (b3 t) (b4 t) (b5 t) (I.layer k))
include R B

/-- Every tile is handed its rows. -/
theorem handed : ∀ (n : ℕ) (h : n < cfg0.N), ∃ Z P,
    Step (o n h) (ins ⟨n, h⟩ (b0 ⟨n, h⟩) (b1 ⟨n, h⟩) (b2 ⟨n, h⟩) (b3 ⟨n, h⟩) (b4 ⟨n, h⟩) (b5 ⟨n, h⟩)) Z P ∧ Rows (I.layer k) (512 * n) Z P
  | 0, h => ⟨_, _, (R.first ⟨0, h⟩ rfl) ▸ step_first c ⟨0, h⟩ _ _ _ _ _ _ rfl, rows_first _⟩
  | n + 1, h => by
    obtain ⟨Z, P, S, A⟩ := handed n (Nat.lt_of_succ_lt h)
    have h4 : n + 1 < 4 := h
    have h0 : ¬(n + 1) % 4 = 0 := by omega
    exact ⟨_, _, (R.next ⟨n + 1, h⟩ h0) ▸ step_next c ⟨n + 1, h⟩ _ _ _ _ _ _ h0 _ _, hands (holds ⟨n, Nat.lt_of_succ_lt h⟩ _ _ _ _ _ _ (B _)) S⟩

/-- So every tile leaves its numbers. -/
theorem left (t : Fin cfg0.N) : Leaves (o t.val t.isLt) (I.layer k) (512 * t.val) := by
  obtain ⟨Z, P, S, A⟩ := handed R B t.val t.isLt
  exact leaves (holds t _ _ _ _ _ _ (B t)) S A
end

end Cert.Forward2Ideal.Point

end
-- ==== Proof.FwdLayer2.lean ====
/- The forward call of layer 2: what its grid points are given and leave, and its seven results. -/
module

public import proofs.«01_k».proof.Proof.FwdLayerStep
public import proofs.«01_k».proof.Proof.Gen.Forward2Ideal.Value

@[expose] public section

set_option maxRecDepth 16384

noncomputable section

namespace Cert.Forward2Ideal.Results

open Cert.Forward2Ideal Cert.Forward2Ideal.Gen Idealize.ShloMosaic Idealize.ShloMosaic.TcCoe Idealize.ShloMosaic.StableHlo
open Cert.KernelIdeal.Host (faRow fpRow vecRow cpsRow)
open Cert.Forward2Ideal.Host (Reads)
open Cert.Forward2Ideal.Point (Outs Blocks Run Leaves left)
open Cert.ForwardIdeal.Point (tile_lt row_lt row_eq entry)

variable (m : (ℓ : Loc nD τ sig) → Buf (Elt Ideal) ℓ) (c : Dev nD)

/-- The four points leave what the bodies leave from the blocks, one after the other. -/
theorem points : Run c (outsAt0 m c) (fun t => iblk m c 0 t) (fun t => iblk m c 1 t) (fun t => iblk m c 2 t) (fun t => iblk m c 3 t)
    (fun t => iblk m c 4 t) (fun t => iblk m c 5 t) where
  first := fun t h0 => (outsAt0_A m c t h0).trans (by sl_kernel_rfl)
  next := fun t h0 => (outsAt0_B m c t h0).trans (by sl_kernel_rfl)

/-- The tiles' block numbers: one after the other. -/
theorem tiles : ∀ t : Fin grid0.N, win0_0.index t 0 = t.val ∧ win0_6.index t 0 = t.val ∧ win0_7.index t 0 = t.val ∧ win0_8.index t 0 = t.val
    ∧ win0_9.index t 0 = t.val ∧ win0_10.index t 0 = t.val ∧ win0_11.index t 0 = t.val ∧ win0_12.index t 0 = t.val := by decide +kernel

variable {I : Layer.Args} (H : Reads (fun b => m (c, b)) I)
include H

/-- Every point's blocks hold its tile's numbers. -/
theorem blocks (t : Fin cfg0.N) : Blocks t (iblk m c 0 t) (iblk m c 1 t) (iblk m c 2 t) (iblk m c 3 t) (iblk m c 4 t) (iblk m c 5 t) (I.layer 2) where
  x0 := by
    intro r j
    have ht : t.val < 4 := t.isLt
    refine Eq.trans ?_ (Cert.Forward2Ideal.Host.arg0 H ⟨512 * t.val + r.val, by have := r.isLt; omega⟩ j)
    unfold iblk
    rw [View.read_apply]
    show V m c main_arg0 _ = V m c main_arg0 _
    congr 1
    funext a
    apply Fin.ext
    match a with
    | ⟨0, _⟩ => show win0_0.index t 0 * 512 + 1 * r.val = 512 * t.val + r.val; rw [(tiles t).1]; omega
    | ⟨1, _⟩ => show 0 * 1024 + 1 * j.val = j.val; omega
  x1 := by
    intro r j
    refine Eq.trans ?_ (Cert.Forward2Ideal.Host.v10 H 2 r j)
    unfold iblk
    rw [View.read_apply]
    show V m c main_v10 _ = V m c main_v10 _
    congr 1
    funext a
    apply Fin.ext
    match a with
    | ⟨0, _⟩ => rfl
    | ⟨1, _⟩ => show 0 * 8 + 1 * r.val = r.val; omega
    | ⟨2, _⟩ => show 0 * 1024 + 1 * j.val = j.val; omega
  x2 := by
    intro r j
    refine Eq.trans ?_ (Cert.Forward2Ideal.Host.v2 H 2 r j)
    unfold iblk
    rw [View.read_apply]
    show V m c main_v2 _ = V m c main_v2 _
    congr 1
    funext a
    apply Fin.ext
    match a with
    | ⟨0, _⟩ => rfl
    | ⟨1, _⟩ => show 0 * 8 + 1 * r.val = r.val; omega
    | ⟨2, _⟩ => show 0 * 512 + 1 * j.val = j.val; omega
  x3 := by
    intro g r j
    refine Eq.trans ?_ (Cert.Forward2Ideal.Host.v3 H 2 g r j)
    unfold iblk
    rw [View.read_apply]
    show V m c main_v3 _ = V m c main_v3 _
    congr 1
    funext a
    apply Fin.ext
    match a with
    | ⟨0, _⟩ => rfl
    | ⟨1, _⟩ => show 0 * 4 + 1 * g.val = g.val; omega
    | ⟨2, _⟩ => show 0 * 128 + 1 * r.val = r.val; omega
    | ⟨3, _⟩ => show 0 * 128 + 1 * j.val = j.val; omega
  x4 := by
    intro r j
    refine Eq.trans ?_ (Cert.Forward2Ideal.Host.v4 H r j)
    unfold iblk
    rw [View.read_apply]
    show V m c main_v4 _ = V m c main_v4 _
    congr 1
    funext a
    apply Fin.ext
    match a with
    | ⟨0, _⟩ => show 0 * 1024 + 1 * r.val = r.val; omega
    | ⟨1, _⟩ => show 0 * 3072 + 1 * j.val = j.val; omega
  x5 := by
    intro r j
    refine Eq.trans ?_ (Cert.Forward2Ideal.Host.v5 H r j)
    unfold iblk
    rw [View.read_apply]
    show V m c main_v5 _ = V m c main_v5 _
    congr 1
    funext a
    apply Fin.ext
    match a with
    | ⟨0, _⟩ => show 0 * 1024 + 1 * r.val = r.val; omega
    | ⟨1, _⟩ => show 0 * 1024 + 1 * j.val = j.val; omega

theorem tile (t : Fin cfg0.N) : Leaves (outsAt0 m c t.val t.isLt) (I.layer 2) (512 * t.val) :=
  left (points m c) (blocks m c H) t

/-! The results: row `i` was left by tile `i / 512`. -/

theorem arr_out (i : Fin 2048) (l : Fin 1024) : (dats m 0 c).arrAt 6 cfg0.N (ix2 i l) = (((I.layer 2).out i.val l.val : ℝ) : EReal) := by
  have B := congrFun (Value.blocks6 m c ⟨i.val / 512, tile_lt i.isLt⟩ (flush0_6 _)) (ix2 ⟨i.val % 512, row_lt i.val⟩ l)
  rw [Value.flushed6, View.read_apply] at B
  have E := (tile m c H ⟨i.val / 512, tile_lt i.isLt⟩).out ⟨i.val % 512, row_lt i.val⟩ l
  refine Eq.trans ?_ (B.trans (E.trans (congrArg (fun n => (((I.layer 2).out n l.val : ℝ) : EReal)) (row_eq i.val))))
  exact congrArg ((dats m 0 c).arrAt 6 cfg0.N) (entry (n := 1024) (i := i.val) (l := l.val) (win0_6.index ⟨i.val / 512, _⟩ 0)
    (tiles ⟨i.val / 512, tile_lt i.isLt⟩).2.1 rfl rfl rfl rfl)

theorem arr_y (i : Fin 2048) (l : Fin 1024) : (dats m 0 c).arrAt 7 cfg0.N (ix2 i l) = (((I.layer 2).y i.val l.val : ℝ) : EReal) := by
  have B := congrFun (Value.blocks7 m c ⟨i.val / 512, tile_lt i.isLt⟩ (flush0_7 _)) (ix2 ⟨i.val % 512, row_lt i.val⟩ l)
  rw [Value.flushed7, View.read_apply] at B
  have E := (tile m c H ⟨i.val / 512, tile_lt i.isLt⟩).y ⟨i.val % 512, row_lt i.val⟩ l
  refine Eq.trans ?_ (B.trans (E.trans (congrArg (fun n => (((I.layer 2).y n l.val : ℝ) : EReal)) (row_eq i.val))))
  exact congrArg ((dats m 0 c).arrAt 7 cfg0.N) (entry (n := 1024) (i := i.val) (l := l.val) (win0_7.index ⟨i.val / 512, _⟩ 0)
    (tiles ⟨i.val / 512, tile_lt i.isLt⟩).2.2.1 rfl rfl rfl rfl)

theorem arr_h (i : Fin 2048) (l : Fin 1024) : (dats m 0 c).arrAt 8 cfg0.N (ix2 i l) = (((I.layer 2).h i.val l.val : ℝ) : EReal) := by
  have B := congrFun (Value.blocks8 m c ⟨i.val / 512, tile_lt i.isLt⟩ (flush0_8 _)) (ix2 ⟨i.val % 512, row_lt i.val⟩ l)
  rw [Value.flushed8, View.read_apply] at B
  have E := (tile m c H ⟨i.val / 512, tile_lt i.isLt⟩).h ⟨i.val % 512, row_lt i.val⟩ l
  refine Eq.trans ?_ (B.trans (E.trans (congrArg (fun n => (((I.layer 2).h n l.val : ℝ) : EReal)) (row_eq i.val))))
  exact congrArg ((dats m 0 c).arrAt 8 cfg0.N) (entry (n := 1024) (i := i.val) (l := l.val) (win0_8.index ⟨i.val / 512, _⟩ 0)
    (tiles ⟨i.val / 512, tile_lt i.isLt⟩).2.2.2.1 rfl rfl rfl rfl)

theorem arr_ycat (i : Fin 2048) (l : Fin 1024) : (dats m 0 c).arrAt 9 cfg0.N (ix2 i l) = (((I.layer 2).ycat i.val l.val : ℝ) : EReal) := by
  have B := congrFun (Value.blocks9 m c ⟨i.val / 512, tile_lt i.isLt⟩ (flush0_9 _)) (ix2 ⟨i.val % 512, row_lt i.val⟩ l)
  rw [Value.flushed9, View.read_apply] at B
  have E := (tile m c H ⟨i.val / 512, tile_lt i.isLt⟩).ycat ⟨i.val % 512, row_lt i.val⟩ l
  refine Eq.trans ?_ (B.trans (E.trans (congrArg (fun n => (((I.layer 2).ycat n l.val : ℝ) : EReal)) (row_eq i.val))))
  exact congrArg ((dats m 0 c).arrAt 9 cfg0.N) (entry (n := 1024) (i := i.val) (l := l.val) (win0_9.index ⟨i.val / 512, _⟩ 0)
    (tiles ⟨i.val / 512, tile_lt i.isLt⟩).2.2.2.2.1 rfl rfl rfl rfl)

theorem arr_uc (i : Fin 2048) (l : Fin 1024) : (dats m 0 c).arrAt 10 cfg0.N (ix2 i l) = (((I.layer 2).ucRow i.val l.val : ℝ) : EReal) := by
  have B := congrFun (Value.blocks10 m c ⟨i.val / 512, tile_lt i.isLt⟩ (flush0_10 _)) (ix2 ⟨i.val % 512, row_lt i.val⟩ l)
  rw [Value.flushed10, View.read_apply] at B
  have E := (tile m c H ⟨i.val / 512, tile_lt i.isLt⟩).uc ⟨i.val % 512, row_lt i.val⟩ l
  refine Eq.trans ?_ (B.trans (E.trans (congrArg (fun n => (((I.layer 2).ucRow n l.val : ℝ) : EReal)) (row_eq i.val))))
  exact congrArg ((dats m 0 c).arrAt 10 cfg0.N) (entry (n := 1024) (i := i.val) (l := l.val) (win0_10.index ⟨i.val / 512, _⟩ 0)
    (tiles ⟨i.val / 512, tile_lt i.isLt⟩).2.2.2.2.2.1 rfl rfl rfl rfl)

theorem arr_fa (i : Fin 2048) (l : Fin 1536) : (dats m 0 c).arrAt 11 cfg0.N (ix2 i l) = ((faRow (I.layer 2) i.val l.val : ℝ) : EReal) := by
  have B := congrFun (Value.blocks11 m c ⟨i.val / 512, tile_lt i.isLt⟩ (flush0_11 _)) (ix2 ⟨i.val % 512, row_lt i.val⟩ l)
  rw [Value.flushed11, View.read_apply] at B
  have E := (tile m c H ⟨i.val / 512, tile_lt i.isLt⟩).fa ⟨i.val % 512, row_lt i.val⟩ l
  refine Eq.trans ?_ (B.trans (E.trans (congrArg (fun n => ((faRow (I.layer 2) n l.val : ℝ) : EReal)) (row_eq i.val))))
  exact congrArg ((dats m 0 c).arrAt 11 cfg0.N) (entry (n := 1536) (i := i.val) (l := l.val) (win0_11.index ⟨i.val / 512, _⟩ 0)
    (tiles ⟨i.val / 512, tile_lt i.isLt⟩).2.2.2.2.2.2.1 rfl rfl rfl rfl)

theorem arr_fp (i : Fin 2048) (l : Fin 2048) : (dats m 0 c).arrAt 12 cfg0.N (ix2 i l) = ((fpRow (I.layer 2) i.val l.val : ℝ) : EReal) := by
  have B := congrFun (Value.blocks12 m c ⟨i.val / 512, tile_lt i.isLt⟩ (flush0_12 _)) (ix2 ⟨i.val % 512, row_lt i.val⟩ l)
  rw [Value.flushed12, View.read_apply] at B
  have E := (tile m c H ⟨i.val / 512, tile_lt i.isLt⟩).fp ⟨i.val % 512, row_lt i.val⟩ l
  refine Eq.trans ?_ (B.trans (E.trans (congrArg (fun n => ((fpRow (I.layer 2) n l.val : ℝ) : EReal)) (row_eq i.val))))
  exact congrArg ((dats m 0 c).arrAt 12 cfg0.N) (entry (n := 2048) (i := i.val) (l := l.val) (win0_12.index ⟨i.val / 512, _⟩ 0)
    (tiles ⟨i.val / 512, tile_lt i.isLt⟩).2.2.2.2.2.2.2 rfl rfl rfl rfl)

end Cert.Forward2Ideal.Results

end
-- ==== Proof.FwdLayer1.lean ====
/- The forward call of layer 1: what its grid points are given and leave, and its seven results. -/
module

public import proofs.«01_k».proof.Proof.FwdLayerStep
public import proofs.«01_k».proof.Proof.Gen.Forward1Ideal.Value

@[expose] public section

set_option maxRecDepth 16384

noncomputable section

namespace Cert.Forward1Ideal.Results

open Cert.Forward1Ideal Cert.Forward1Ideal.Gen Idealize.ShloMosaic Idealize.ShloMosaic.TcCoe Idealize.ShloMosaic.StableHlo
open Cert.KernelIdeal.Host (faRow fpRow vecRow cpsRow)
open Cert.Forward2Ideal.Host (Reads)
open Cert.Forward2Ideal.Point (Outs Blocks Run Leaves left)
open Cert.ForwardIdeal.Point (tile_lt row_lt row_eq entry)

variable (m : (ℓ : Loc nD τ sig) → Buf (Elt Ideal) ℓ) (c : Dev nD)

/-- The four points leave what the bodies leave from the blocks, one after the other. -/
theorem points : Run c (outsAt0 m c) (fun t => iblk m c 0 t) (fun t => iblk m c 1 t) (fun t => iblk m c 2 t) (fun t => iblk m c 3 t)
    (fun t => iblk m c 4 t) (fun t => iblk m c 5 t) where
  first := fun t h0 => (outsAt0_A m c t h0).trans (by sl_kernel_rfl)
  next := fun t h0 => (outsAt0_B m c t h0).trans (by sl_kernel_rfl)

/-- The tiles' block numbers: one after the other. -/
theorem tiles : ∀ t : Fin grid0.N, win0_0.index t 0 = t.val ∧ win0_6.index t 0 = t.val ∧ win0_7.index t 0 = t.val ∧ win0_8.index t 0 = t.val
    ∧ win0_9.index t 0 = t.val ∧ win0_10.index t 0 = t.val ∧ win0_11.index t 0 = t.val ∧ win0_12.index t 0 = t.val := by decide +kernel

variable {I : Layer.Args} (H : Reads (fun b => m (c, b)) I)
include H

/-- Every point's blocks hold its tile's numbers. -/
theorem blocks (t : Fin cfg0.N) : Blocks t (iblk m c 0 t) (iblk m c 1 t) (iblk m c 2 t) (iblk m c 3 t) (iblk m c 4 t) (iblk m c 5 t) (I.layer 1) where
  x0 := by
    intro r j
    have ht : t.val < 4 := t.isLt
    refine Eq.trans ?_ (Cert.Forward2Ideal.Host.arg0 H ⟨512 * t.val + r.val, by have := r.isLt; omega⟩ j)
    unfold iblk
    rw [View.read_apply]
    show V m c main_arg0 _ = V m c main_arg0 _
    congr 1
    funext a
    apply Fin.ext
    match a with
    | ⟨0, _⟩ => show win0_0.index t 0 * 512 + 1 * r.val = 512 * t.val + r.val; rw [(tiles t).1]; omega
    | ⟨1, _⟩ => show 0 * 1024 + 1 * j.val = j.val; omega
  x1 := by
    intro r j
    refine Eq.trans ?_ (Cert.Forward2Ideal.Host.v10 H 1 r j)
    unfold iblk
    rw [View.read_apply]
    show V m c main_v10 _ = V m c main_v10 _
    congr 1
    funext a
    apply Fin.ext
    match a with
    | ⟨0, _⟩ => rfl
    | ⟨1, _⟩ => show 0 * 8 + 1 * r.val = r.val; omega
    | ⟨2, _⟩ => show 0 * 1024 + 1 * j.val = j.val; omega
  x2 := by
    intro r j
    refine Eq.trans ?_ (Cert.Forward2Ideal.Host.v2 H 1 r j)
    unfold iblk
    rw [View.read_apply]
    show V m c main_v2 _ = V m c main_v2 _
    congr 1
    funext a
    apply Fin.ext
    match a with
    | ⟨0, _⟩ => rfl
    | ⟨1, _⟩ => show 0 * 8 + 1 * r.val = r.val; omega
    | ⟨2, _⟩ => show 0 * 512 + 1 * j.val = j.val; omega
  x3 := by
    intro g r j
    refine Eq.trans ?_ (Cert.Forward2Ideal.Host.v3 H 1 g r j)
    unfold iblk
    rw [View.read_apply]
    show V m c main_v3 _ = V m c main_v3 _
    congr 1
    funext a
    apply Fin.ext
    match a with
    | ⟨0, _⟩ => rfl
    | ⟨1, _⟩ => show 0 * 4 + 1 * g.val = g.val; omega
    | ⟨2, _⟩ => show 0 * 128 + 1 * r.val = r.val; omega
    | ⟨3, _⟩ => show 0 * 128 + 1 * j.val = j.val; omega
  x4 := by
    intro r j
    refine Eq.trans ?_ (Cert.Forward2Ideal.Host.v4 H r j)
    unfold iblk
    rw [View.read_apply]
    show V m c main_v4 _ = V m c main_v4 _
    congr 1
    funext a
    apply Fin.ext
    match a with
    | ⟨0, _⟩ => show 0 * 1024 + 1 * r.val = r.val; omega
    | ⟨1, _⟩ => show 0 * 3072 + 1 * j.val = j.val; omega
  x5 := by
    intro r j
    refine Eq.trans ?_ (Cert.Forward2Ideal.Host.v5 H r j)
    unfold iblk
    rw [View.read_apply]
    show V m c main_v5 _ = V m c main_v5 _
    congr 1
    funext a
    apply Fin.ext
    match a with
    | ⟨0, _⟩ => show 0 * 1024 + 1 * r.val = r.val; omega
    | ⟨1, _⟩ => show 0 * 1024 + 1 * j.val = j.val; omega

theorem tile (t : Fin cfg0.N) : Leaves (outsAt0 m c t.val t.isLt) (I.layer 1) (512 * t.val) :=
  left (points m c) (blocks m c H) t

/-! The results: row `i` was left by tile `i / 512`. -/

theorem arr_out (i : Fin 2048) (l : Fin 1024) : (dats m 0 c).arrAt 6 cfg0.N (ix2 i l) = (((I.layer 1).out i.val l.val : ℝ) : EReal) := by
  have B := congrFun (Value.blocks6 m c ⟨i.val / 512, tile_lt i.isLt⟩ (flush0_6 _)) (ix2 ⟨i.val % 512, row_lt i.val⟩ l)
  rw [Value.flushed6, View.read_apply] at B
  have E := (tile m c H ⟨i.val / 512, tile_lt i.isLt⟩).out ⟨i.val % 512, row_lt i.val⟩ l
  refine Eq.trans ?_ (B.trans (E.trans (congrArg (fun n => (((I.layer 1).out n l.val : ℝ) : EReal)) (row_eq i.val))))
  exact congrArg ((dats m 0 c).arrAt 6 cfg0.N) (entry (n := 1024) (i := i.val) (l := l.val) (win0_6.index ⟨i.val / 512, _⟩ 0)
    (tiles ⟨i.val / 512, tile_lt i.isLt⟩).2.1 rfl rfl rfl rfl)

theorem arr_y (i : Fin 2048) (l : Fin 1024) : (dats m 0 c).arrAt 7 cfg0.N (ix2 i l) = (((I.layer 1).y i.val l.val : ℝ) : EReal) := by
  have B := congrFun (Value.blocks7 m c ⟨i.val / 512, tile_lt i.isLt⟩ (flush0_7 _)) (ix2 ⟨i.val % 512, row_lt i.val⟩ l)
  rw [Value.flushed7, View.read_apply] at B
  have E := (tile m c H ⟨i.val / 512, tile_lt i.isLt⟩).y ⟨i.val % 512, row_lt i.val⟩ l
  refine Eq.trans ?_ (B.trans (E.trans (congrArg (fun n => (((I.layer 1).y n l.val : ℝ) : EReal)) (row_eq i.val))))
  exact congrArg ((dats m 0 c).arrAt 7 cfg0.N) (entry (n := 1024) (i := i.val) (l := l.val) (win0_7.index ⟨i.val / 512, _⟩ 0)
    (tiles ⟨i.val / 512, tile_lt i.isLt⟩).2.2.1 rfl rfl rfl rfl)

theorem arr_h (i : Fin 2048) (l : Fin 1024) : (dats m 0 c).arrAt 8 cfg0.N (ix2 i l) = (((I.layer 1).h i.val l.val : ℝ) : EReal) := by
  have B := congrFun (Value.blocks8 m c ⟨i.val / 512, tile_lt i.isLt⟩ (flush0_8 _)) (ix2 ⟨i.val % 512, row_lt i.val⟩ l)
  rw [Value.flushed8, View.read_apply] at B
  have E := (tile m c H ⟨i.val / 512, tile_lt i.isLt⟩).h ⟨i.val % 512, row_lt i.val⟩ l
  refine Eq.trans ?_ (B.trans (E.trans (congrArg (fun n => (((I.layer 1).h n l.val : ℝ) : EReal)) (row_eq i.val))))
  exact congrArg ((dats m 0 c).arrAt 8 cfg0.N) (entry (n := 1024) (i := i.val) (l := l.val) (win0_8.index ⟨i.val / 512, _⟩ 0)
    (tiles ⟨i.val / 512, tile_lt i.isLt⟩).2.2.2.1 rfl rfl rfl rfl)

theorem arr_ycat (i : Fin 2048) (l : Fin 1024) : (dats m 0 c).arrAt 9 cfg0.N (ix2 i l) = (((I.layer 1).ycat i.val l.val : ℝ) : EReal) := by
  have B := congrFun (Value.blocks9 m c ⟨i.val / 512, tile_lt i.isLt⟩ (flush0_9 _)) (ix2 ⟨i.val % 512, row_lt i.val⟩ l)
  rw [Value.flushed9, View.read_apply] at B
  have E := (tile m c H ⟨i.val / 512, tile_lt i.isLt⟩).ycat ⟨i.val % 512, row_lt i.val⟩ l
  refine Eq.trans ?_ (B.trans (E.trans (congrArg (fun n => (((I.layer 1).ycat n l.val : ℝ) : EReal)) (row_eq i.val))))
  exact congrArg ((dats m 0 c).arrAt 9 cfg0.N) (entry (n := 1024) (i := i.val) (l := l.val) (win0_9.index ⟨i.val / 512, _⟩ 0)
    (tiles ⟨i.val / 512, tile_lt i.isLt⟩).2.2.2.2.1 rfl rfl rfl rfl)

theorem arr_uc (i : Fin 2048) (l : Fin 1024) : (dats m 0 c).arrAt 10 cfg0.N (ix2 i l) = (((I.layer 1).ucRow i.val l.val : ℝ) : EReal) := by
  have B := congrFun (Value.blocks10 m c ⟨i.val / 512, tile_lt i.isLt⟩ (flush0_10 _)) (ix2 ⟨i.val % 512, row_lt i.val⟩ l)
  rw [Value.flushed10, View.read_apply] at B
  have E := (tile m c H ⟨i.val / 512, tile_lt i.isLt⟩).uc ⟨i.val % 512, row_lt i.val⟩ l
  refine Eq.trans ?_ (B.trans (E.trans (congrArg (fun n => (((I.layer 1).ucRow n l.val : ℝ) : EReal)) (row_eq i.val))))
  exact congrArg ((dats m 0 c).arrAt 10 cfg0.N) (entry (n := 1024) (i := i.val) (l := l.val) (win0_10.index ⟨i.val / 512, _⟩ 0)
    (tiles ⟨i.val / 512, tile_lt i.isLt⟩).2.2.2.2.2.1 rfl rfl rfl rfl)

theorem arr_fa (i : Fin 2048) (l : Fin 1536) : (dats m 0 c).arrAt 11 cfg0.N (ix2 i l) = ((faRow (I.layer 1) i.val l.val : ℝ) : EReal) := by
  have B := congrFun (Value.blocks11 m c ⟨i.val / 512, tile_lt i.isLt⟩ (flush0_11 _)) (ix2 ⟨i.val % 512, row_lt i.val⟩ l)
  rw [Value.flushed11, View.read_apply] at B
  have E := (tile m c H ⟨i.val / 512, tile_lt i.isLt⟩).fa ⟨i.val % 512, row_lt i.val⟩ l
  refine Eq.trans ?_ (B.trans (E.trans (congrArg (fun n => ((faRow (I.layer 1) n l.val : ℝ) : EReal)) (row_eq i.val))))
  exact congrArg ((dats m 0 c).arrAt 11 cfg0.N) (entry (n := 1536) (i := i.val) (l := l.val) (win0_11.index ⟨i.val / 512, _⟩ 0)
    (tiles ⟨i.val / 512, tile_lt i.isLt⟩).2.2.2.2.2.2.1 rfl rfl rfl rfl)

theorem arr_fp (i : Fin 2048) (l : Fin 2048) : (dats m 0 c).arrAt 12 cfg0.N (ix2 i l) = ((fpRow (I.layer 1) i.val l.val : ℝ) : EReal) := by
  have B := congrFun (Value.blocks12 m c ⟨i.val / 512, tile_lt i.isLt⟩ (flush0_12 _)) (ix2 ⟨i.val % 512, row_lt i.val⟩ l)
  rw [Value.flushed12, View.read_apply] at B
  have E := (tile m c H ⟨i.val / 512, tile_lt i.isLt⟩).fp ⟨i.val % 512, row_lt i.val⟩ l
  refine Eq.trans ?_ (B.trans (E.trans (congrArg (fun n => ((fpRow (I.layer 1) n l.val : ℝ) : EReal)) (row_eq i.val))))
  exact congrArg ((dats m 0 c).arrAt 12 cfg0.N) (entry (n := 2048) (i := i.val) (l := l.val) (win0_12.index ⟨i.val / 512, _⟩ 0)
    (tiles ⟨i.val / 512, tile_lt i.isLt⟩).2.2.2.2.2.2.2 rfl rfl rfl rfl)

end Cert.Forward1Ideal.Results

end
-- ==== Proof.FwdLayer0.lean ====
/- The forward call of layer 0: what its grid points are given and leave, and its seven results. -/
module

public import proofs.«01_k».proof.Proof.FwdLayerStep
public import proofs.«01_k».proof.Proof.Gen.Forward0Ideal.Value

@[expose] public section

set_option maxRecDepth 16384

noncomputable section

namespace Cert.Forward0Ideal.Results

open Cert.Forward0Ideal Cert.Forward0Ideal.Gen Idealize.ShloMosaic Idealize.ShloMosaic.TcCoe Idealize.ShloMosaic.StableHlo
open Cert.KernelIdeal.Host (faRow fpRow vecRow cpsRow)
open Cert.Forward2Ideal.Host (Reads)
open Cert.Forward2Ideal.Point (Outs Blocks Run Leaves left)
open Cert.ForwardIdeal.Point (tile_lt row_lt row_eq entry)

variable (m : (ℓ : Loc nD τ sig) → Buf (Elt Ideal) ℓ) (c : Dev nD)

/-- The four points leave what the bodies leave from the blocks, one after the other. -/
theorem points : Run c (outsAt0 m c) (fun t => iblk m c 0 t) (fun t => iblk m c 1 t) (fun t => iblk m c 2 t) (fun t => iblk m c 3 t)
    (fun t => iblk m c 4 t) (fun t => iblk m c 5 t) where
  first := fun t h0 => (outsAt0_A m c t h0).trans (by sl_kernel_rfl)
  next := fun t h0 => (outsAt0_B m c t h0).trans (by sl_kernel_rfl)

/-- The tiles' block numbers: one after the other. -/
theorem tiles : ∀ t : Fin grid0.N, win0_0.index t 0 = t.val ∧ win0_6.index t 0 = t.val ∧ win0_7.index t 0 = t.val ∧ win0_8.index t 0 = t.val
    ∧ win0_9.index t 0 = t.val ∧ win0_10.index t 0 = t.val ∧ win0_11.index t 0 = t.val ∧ win0_12.index t 0 = t.val := by decide +kernel

variable {I : Layer.Args} (H : Reads (fun b => m (c, b)) I)
include H

/-- Every point's blocks hold its tile's numbers. -/
theorem blocks (t : Fin cfg0.N) : Blocks t (iblk m c 0 t) (iblk m c 1 t) (iblk m c 2 t) (iblk m c 3 t) (iblk m c 4 t) (iblk m c 5 t) (I.layer 0) where
  x0 := by
    intro r j
    have ht : t.val < 4 := t.isLt
    refine Eq.trans ?_ (Cert.Forward2Ideal.Host.arg0 H ⟨512 * t.val + r.val, by have := r.isLt; omega⟩ j)
    unfold iblk
    rw [View.read_apply]
    show V m c main_arg0 _ = V m c main_arg0 _
    congr 1
    funext a
    apply Fin.ext
    match a with
    | ⟨0, _⟩ => show win0_0.index t 0 * 512 + 1 * r.val = 512 * t.val + r.val; rw [(tiles t).1]; omega
    | ⟨1, _⟩ => show 0 * 1024 + 1 * j.val = j.val; omega
  x1 := by
    intro r j
    refine Eq.trans ?_ (Cert.Forward2Ideal.Host.v10 H 0 r j)
    unfold iblk
    rw [View.read_apply]
    show V m c main_v10 _ = V m c main_v10 _
    congr 1
    funext a
    apply Fin.ext
    match a with
    | ⟨0, _⟩ => rfl
    | ⟨1, _⟩ => show 0 * 8 + 1 * r.val = r.val; omega
    | ⟨2, _⟩ => show 0 * 1024 + 1 * j.val = j.val; omega
  x2 := by
    intro r j
    refine Eq.trans ?_ (Cert.Forward2Ideal.Host.v2 H 0 r j)
    unfold iblk
    rw [View.read_apply]
    show V m c main_v2 _ = V m c main_v2 _
    congr 1
    funext a
    apply Fin.ext
    match a with
    | ⟨0, _⟩ => rfl
    | ⟨1, _⟩ => show 0 * 8 + 1 * r.val = r.val; omega
    | ⟨2, _⟩ => show 0 * 512 + 1 * j.val = j.val; omega
  x3 := by
    intro g r j
    refine Eq.trans ?_ (Cert.Forward2Ideal.Host.v3 H 0 g r j)
    unfold iblk
    rw [View.read_apply]
    show V m c main_v3 _ = V m c main_v3 _
    congr 1
    funext a
    apply Fin.ext
    match a with
    | ⟨0, _⟩ => rfl
    | ⟨1, _⟩ => show 0 * 4 + 1 * g.val = g.val; omega
    | ⟨2, _⟩ => show 0 * 128 + 1 * r.val = r.val; omega
    | ⟨3, _⟩ => show 0 * 128 + 1 * j.val = j.val; omega
  x4 := by
    intro r j
    refine Eq.trans ?_ (Cert.Forward2Ideal.Host.v4 H r j)
    unfold iblk
    rw [View.read_apply]
    show V m c main_v4 _ = V m c main_v4 _
    congr 1
    funext a
    apply Fin.ext
    match a with
    | ⟨0, _⟩ => show 0 * 1024 + 1 * r.val = r.val; omega
    | ⟨1, _⟩ => show 0 * 3072 + 1 * j.val = j.val; omega
  x5 := by
    intro r j
    refine Eq.trans ?_ (Cert.Forward2Ideal.Host.v5 H r j)
    unfold iblk
    rw [View.read_apply]
    show V m c main_v5 _ = V m c main_v5 _
    congr 1
    funext a
    apply Fin.ext
    match a with
    | ⟨0, _⟩ => show 0 * 1024 + 1 * r.val = r.val; omega
    | ⟨1, _⟩ => show 0 * 1024 + 1 * j.val = j.val; omega

theorem tile (t : Fin cfg0.N) : Leaves (outsAt0 m c t.val t.isLt) (I.layer 0) (512 * t.val) :=
  left (points m c) (blocks m c H) t

/-! The results: row `i` was left by tile `i / 512`. -/

theorem arr_out (i : Fin 2048) (l : Fin 1024) : (dats m 0 c).arrAt 6 cfg0.N (ix2 i l) = (((I.layer 0).out i.val l.val : ℝ) : EReal) := by
  have B := congrFun (Value.blocks6 m c ⟨i.val / 512, tile_lt i.isLt⟩ (flush0_6 _)) (ix2 ⟨i.val % 512, row_lt i.val⟩ l)
  rw [Value.flushed6, View.read_apply] at B
  have E := (tile m c H ⟨i.val / 512, tile_lt i.isLt⟩).out ⟨i.val % 512, row_lt i.val⟩ l
  refine Eq.trans ?_ (B.trans (E.trans (congrArg (fun n => (((I.layer 0).out n l.val : ℝ) : EReal)) (row_eq i.val))))
  exact congrArg ((dats m 0 c).arrAt 6 cfg0.N) (entry (n := 1024) (i := i.val) (l := l.val) (win0_6.index ⟨i.val / 512, _⟩ 0)
    (tiles ⟨i.val / 512, tile_lt i.isLt⟩).2.1 rfl rfl rfl rfl)

theorem arr_y (i : Fin 2048) (l : Fin 1024) : (dats m 0 c).arrAt 7 cfg0.N (ix2 i l) = (((I.layer 0).y i.val l.val : ℝ) : EReal) := by
  have B := congrFun (Value.blocks7 m c ⟨i.val / 512, tile_lt i.isLt⟩ (flush0_7 _)) (ix2 ⟨i.val % 512, row_lt i.val⟩ l)
  rw [Value.flushed7, View.read_apply] at B
  have E := (tile m c H ⟨i.val / 512, tile_lt i.isLt⟩).y ⟨i.val % 512, row_lt i.val⟩ l
  refine Eq.trans ?_ (B.trans (E.trans (congrArg (fun n => (((I.layer 0).y n l.val : ℝ) : EReal)) (row_eq i.val))))
  exact congrArg ((dats m 0 c).arrAt 7 cfg0.N) (entry (n := 1024) (i := i.val) (l := l.val) (win0_7.index ⟨i.val / 512, _⟩ 0)
    (tiles ⟨i.val / 512, tile_lt i.isLt⟩).2.2.1 rfl rfl rfl rfl)

theorem arr_h (i : Fin 2048) (l : Fin 1024) : (dats m 0 c).arrAt 8 cfg0.N (ix2 i l) = (((I.layer 0).h i.val l.val : ℝ) : EReal) := by
  have B := congrFun (Value.blocks8 m c ⟨i.val / 512, tile_lt i.isLt⟩ (flush0_8 _)) (ix2 ⟨i.val % 512, row_lt i.val⟩ l)
  rw [Value.flushed8, View.read_apply] at B
  have E := (tile m c H ⟨i.val / 512, tile_lt i.isLt⟩).h ⟨i.val % 512, row_lt i.val⟩ l
  refine Eq.trans ?_ (B.trans (E.trans (congrArg (fun n => (((I.layer 0).h n l.val : ℝ) : EReal)) (row_eq i.val))))
  exact congrArg ((dats m 0 c).arrAt 8 cfg0.N) (entry (n := 1024) (i := i.val) (l := l.val) (win0_8.index ⟨i.val / 512, _⟩ 0)
    (tiles ⟨i.val / 512, tile_lt i.isLt⟩).2.2.2.1 rfl rfl rfl rfl)

theorem arr_ycat (i : Fin 2048) (l : Fin 1024) : (dats m 0 c).arrAt 9 cfg0.N (ix2 i l) = (((I.layer 0).ycat i.val l.val : ℝ) : EReal) := by
  have B := congrFun (Value.blocks9 m c ⟨i.val / 512, tile_lt i.isLt⟩ (flush0_9 _)) (ix2 ⟨i.val % 512, row_lt i.val⟩ l)
  rw [Value.flushed9, View.read_apply] at B
  have E := (tile m c H ⟨i.val / 512, tile_lt i.isLt⟩).ycat ⟨i.val % 512, row_lt i.val⟩ l
  refine Eq.trans ?_ (B.trans (E.trans (congrArg (fun n => (((I.layer 0).ycat n l.val : ℝ) : EReal)) (row_eq i.val))))
  exact congrArg ((dats m 0 c).arrAt 9 cfg0.N) (entry (n := 1024) (i := i.val) (l := l.val) (win0_9.index ⟨i.val / 512, _⟩ 0)
    (tiles ⟨i.val / 512, tile_lt i.isLt⟩).2.2.2.2.1 rfl rfl rfl rfl)

theorem arr_uc (i : Fin 2048) (l : Fin 1024) : (dats m 0 c).arrAt 10 cfg0.N (ix2 i l) = (((I.layer 0).ucRow i.val l.val : ℝ) : EReal) := by
  have B := congrFun (Value.blocks10 m c ⟨i.val / 512, tile_lt i.isLt⟩ (flush0_10 _)) (ix2 ⟨i.val % 512, row_lt i.val⟩ l)
  rw [Value.flushed10, View.read_apply] at B
  have E := (tile m c H ⟨i.val / 512, tile_lt i.isLt⟩).uc ⟨i.val % 512, row_lt i.val⟩ l
  refine Eq.trans ?_ (B.trans (E.trans (congrArg (fun n => (((I.layer 0).ucRow n l.val : ℝ) : EReal)) (row_eq i.val))))
  exact congrArg ((dats m 0 c).arrAt 10 cfg0.N) (entry (n := 1024) (i := i.val) (l := l.val) (win0_10.index ⟨i.val / 512, _⟩ 0)
    (tiles ⟨i.val / 512, tile_lt i.isLt⟩).2.2.2.2.2.1 rfl rfl rfl rfl)

theorem arr_fa (i : Fin 2048) (l : Fin 1536) : (dats m 0 c).arrAt 11 cfg0.N (ix2 i l) = ((faRow (I.layer 0) i.val l.val : ℝ) : EReal) := by
  have B := congrFun (Value.blocks11 m c ⟨i.val / 512, tile_lt i.isLt⟩ (flush0_11 _)) (ix2 ⟨i.val % 512, row_lt i.val⟩ l)
  rw [Value.flushed11, View.read_apply] at B
  have E := (tile m c H ⟨i.val / 512, tile_lt i.isLt⟩).fa ⟨i.val % 512, row_lt i.val⟩ l
  refine Eq.trans ?_ (B.trans (E.trans (congrArg (fun n => ((faRow (I.layer 0) n l.val : ℝ) : EReal)) (row_eq i.val))))
  exact congrArg ((dats m 0 c).arrAt 11 cfg0.N) (entry (n := 1536) (i := i.val) (l := l.val) (win0_11.index ⟨i.val / 512, _⟩ 0)
    (tiles ⟨i.val / 512, tile_lt i.isLt⟩).2.2.2.2.2.2.1 rfl rfl rfl rfl)

theorem arr_fp (i : Fin 2048) (l : Fin 2048) : (dats m 0 c).arrAt 12 cfg0.N (ix2 i l) = ((fpRow (I.layer 0) i.val l.val : ℝ) : EReal) := by
  have B := congrFun (Value.blocks12 m c ⟨i.val / 512, tile_lt i.isLt⟩ (flush0_12 _)) (ix2 ⟨i.val % 512, row_lt i.val⟩ l)
  rw [Value.flushed12, View.read_apply] at B
  have E := (tile m c H ⟨i.val / 512, tile_lt i.isLt⟩).fp ⟨i.val % 512, row_lt i.val⟩ l
  refine Eq.trans ?_ (B.trans (E.trans (congrArg (fun n => ((fpRow (I.layer 0) n l.val : ℝ) : EReal)) (row_eq i.val))))
  exact congrArg ((dats m 0 c).arrAt 12 cfg0.N) (entry (n := 2048) (i := i.val) (l := l.val) (win0_12.index ⟨i.val / 512, _⟩ 0)
    (tiles ⟨i.val / 512, tile_lt i.isLt⟩).2.2.2.2.2.2.2 rfl rfl rfl rfl)

end Cert.Forward0Ideal.Results

end
-- ==== Proof.FwdLayerRef.lean ====
/- The reference of a forward call without a head, entry by entry: for layer 2 its buffers are the reals of `Layer.Args` that the
   numbers of that layer give. -/
module

public import proofs.«01_k».proof.Proof.Gen.ForwardReference2Ideal.Run
public import proofs.«01_k».proof.Proof.FwdRef
public import proofs.«01_k».proof.Proof.FwdLayerHost

@[expose] public section

set_option maxRecDepth 16384

noncomputable section

namespace Cert.ForwardReference2Ideal.Value

open Cert.ForwardReference2Ideal Cert.ForwardReference2Ideal.Gen Idealize.ShloMosaic Idealize.ShloMosaic.TcCoe Idealize.SL.Sem Idealize.ShloMosaic.StableHlo
open Layer (late msq rms sgm cnt wdw eps reals sum_real ite_real dite_real)
open Cert.KernelIdeal.Host (faRow fpRow)
open Cert.ForwardReferenceIdeal.Value (c_half root late_dite count_min fa_real fp_real)

/-- The nine arguments' contents are the reals of `I`. -/
def Reads (V0 : Valuation τ sig (Elt Ideal)) (I : Layer.Args) : Prop :=
  (∀ r l, V0 (Proc.devRef .tc main_arg0) (ix2 r l) = ((I.x r.val l.val : ℝ) : EReal))
  ∧ (∀ r l, V0 (Proc.devRef .tc main_arg1) (ix2 r l) = ((I.md r.val l.val : ℝ) : EReal))
  ∧ (∀ r l, V0 (Proc.devRef .tc main_arg2) (ix2 r l) = ((I.gpre r.val l.val : ℝ) : EReal))
  ∧ (∀ r l, V0 (Proc.devRef .tc main_arg3) (ix2 r l) = ((I.win r.val l.val : ℝ) : EReal))
  ∧ (∀ a r l, V0 (Proc.devRef .tc main_arg4) (ix3 a r l) = ((I.wc a.val r.val l.val : ℝ) : EReal))
  ∧ (∀ a b r l, V0 (Proc.devRef .tc main_arg5) (ix4 a b r l) = ((I.wp a.val b.val r.val l.val : ℝ) : EReal))
  ∧ (∀ r l, V0 (Proc.devRef .tc main_arg6) (ix2 r l) = ((I.ps r.val l.val : ℝ) : EReal))
  ∧ (∀ r l, V0 (Proc.devRef .tc main_arg7) (ix2 r l) = ((I.wout r.val l.val : ℝ) : EReal))
  ∧ (∀ r l, V0 (Proc.devRef .tc main_arg8) (ix2 r l) = ((I.gpost r.val l.val : ℝ) : EReal))

/-- The entries of the seven results are those of the layer. -/
abbrev Entries (J : Layer.Args) (o : FVec Ideal S2048x1024 .f32) (y h ycat uc : FVec Ideal S2048x1024 .bf16) (fa : FVec Ideal S2048x1536 .bf16)
    (fp : FVec Ideal S2048x2048 .bf16) : Prop :=
  (∀ t l, o (ix2 t l) = ((J.out t.val l.val : ℝ) : EReal)) ∧ (∀ t l, y (ix2 t l) = ((J.y t.val l.val : ℝ) : EReal))
  ∧ (∀ t l, h (ix2 t l) = ((J.h t.val l.val : ℝ) : EReal)) ∧ (∀ t l, ycat (ix2 t l) = ((J.ycat t.val l.val : ℝ) : EReal))
  ∧ (∀ t l, uc (ix2 t l) = ((J.ucRow t.val l.val : ℝ) : EReal)) ∧ (∀ t l, fa (ix2 t l) = ((faRow J t.val l.val : ℝ) : EReal))
  ∧ (∀ t l, fp (ix2 t l) = ((fpRow J t.val l.val : ℝ) : EReal))

variable {V0 : Valuation τ sig (Elt Ideal)} {I : Layer.Args} (H : Reads V0 I)
include H

theorem r1 : ∀ l, res_main_v1 V0 (ix1 l) = (((I.layer 2).md 3 l.val : ℝ) : EReal) := by
  intro l
  have A := H; unfold Reads at A
  pointwise [res_main_v1]
  simp only [A, reals, sum_real, ite_real, dite_real]
  rfl

theorem r27 : ∀ r c, res_main_v27 V0 (ix2 r c) = (((I.layer 2).h r.val c.val : ℝ) : EReal) := by
  intro r c
  have A := H; unfold Reads at A
  pointwise [res_main_v27]
  simp only [A, r1 H, root (I.x r.val), reals, sum_real, ite_real, dite_real]
  refine congrArg Real.toEReal ?_
  simp only [Layer.Args.h, Layer.Args.sh, Layer.Args.sc, Layer.Args.xn, Layer.Args.rx, Nat.zero_add]
  rfl

theorem r28 : ∀ r c, res_main_v28 V0 (ix2 r c) = (((I.layer 2).proj r.val c.val : ℝ) : EReal) := by
  intro r c
  have A := H; unfold Reads at A
  pointwise [res_main_v28]
  simp only [A, r27 H, reals, sum_real, ite_real, dite_real]
  refine congrArg Real.toEReal ?_
  simp only [Layer.Args.proj, Finset.sum_range]
  rfl

theorem r29 : ∀ r c, res_main_v29 V0 (ix2 r c) = (((I.layer 2).proj r.val c.val : ℝ) : EReal) := by
  intro r c
  have A := H; unfold Reads at A
  pointwise [res_main_v29]
  simp only [A, r28 H, reals, sum_real, ite_real, dite_real]

theorem r30 : ∀ r c, res_main_v30 V0 (ix2 r c) = (((I.layer 2).proj r.val (512 + c.val) : ℝ) : EReal) := by
  intro r c
  have A := H; unfold Reads at A
  pointwise [res_main_v30]
  simp only [A, r28 H, reals, sum_real, ite_real, dite_real]

theorem r31 : ∀ r c, res_main_v31 V0 (ix2 r c) = (((I.layer 2).proj r.val (1024 + c.val) : ℝ) : EReal) := by
  intro r c
  have A := H; unfold Reads at A
  pointwise [res_main_v31]
  simp only [A, r28 H, reals, sum_real, ite_real, dite_real]

theorem r33 : ∀ r c, res_main_v33 V0 (ix2 r c) = (((I.layer 2).proj r.val (2048 + c.val) : ℝ) : EReal) := by
  intro r c
  have A := H; unfold Reads at A
  pointwise [res_main_v33]
  simp only [A, r28 H, reals, sum_real, ite_real, dite_real]

theorem r32 : ∀ r c, res_main_v32 V0 (ix2 r c) = (((I.layer 2).ga r.val c.val : ℝ) : EReal) := by
  intro r c
  have A := H; unfold Reads at A
  pointwise [res_main_v32]
  simp only [A, r28 H, reals, sum_real, ite_real, dite_real]
  rfl

theorem r34 : ∀ r c, res_main_v34 V0 (ix2 r c) = (((I.layer 2).gp r.val c.val : ℝ) : EReal) := by
  intro r c
  have A := H; unfold Reads at A
  pointwise [res_main_v34]
  simp only [A, r28 H, reals, sum_real, ite_real, dite_real]
  rfl

theorem r35 : ∀ r c, res_main_v35 V0 (ix2 r c) = ((1 : ℝ) : EReal) := by
  intro r c
  have A := H; unfold Reads at A
  pointwise [res_main_v35]
  simp only [A, reals, sum_real, ite_real, dite_real]

theorem r36 : ∀ r c, res_main_v36 V0 (ix2 r c) = (((I.layer 2).z c.val r.val : ℝ) : EReal) := by
  intro r c
  have A := H; unfold Reads at A
  pointwise [res_main_v36]
  simp only [A, r31 H, r29 H, reals, sum_real, ite_real, dite_real]
  rfl

theorem r38 : ∀ r c, res_main_v38 V0 (ix2 r c) = (((I.layer 2).wc 3 r.val c.val : ℝ) : EReal) := by
  intro r c
  have A := H; unfold Reads at A
  pointwise [res_main_v38]
  simp only [A, reals, sum_real, ite_real, dite_real]
  rfl

theorem r61 : ∀ r c, res_main_v61 V0 (ix2 r c) = (((I.layer 2).conv r.val c.val : ℝ) : EReal) := by
  intro r c
  have A := H; unfold Reads at A
  pointwise [res_main_v61]
  simp only [A, r36 H, r38 H, reals, sum_real, ite_real, dite_real]
  refine congrArg Real.toEReal ?_
  show (I.layer 2).wc 3 0 c.val * (if h : r.val < 2 then 0 else (I.layer 2).z c.val (r.val - 2)) + (I.layer 2).wc 3 1 c.val * (if h : r.val < 1 then 0 else (I.layer 2).z c.val (r.val - 1)) + (I.layer 2).wc 3 2 c.val * (I.layer 2).z c.val r.val = _
  rw [late_dite ((I.layer 2).z c.val) 2, late_dite ((I.layer 2).z c.val) 1]
  rfl

theorem r62 : ∀ r c, res_main_v62 V0 (ix2 r c) = (((I.layer 2).bconv r.val c.val : ℝ) : EReal) := by
  intro r c
  have A := H; unfold Reads at A
  pointwise [res_main_v62]
  simp only [A, r30 H, r61 H, reals, sum_real, ite_real, dite_real]
  rfl

theorem r63_2 : ∀ r c, res_main_v63_2 V0 (ix2 r c) = ((sgm ((I.layer 2).ga r.val c.val) : ℝ) : EReal) := by
  intro r c
  have A := H; unfold Reads at A
  pointwise [res_main_v63_2]
  simp only [A, r32 H, reals, sum_real, ite_real, dite_real]

theorem r63_0 : ∀ r c, res_main_v63_0 V0 (ix2 r c) = (((I.layer 2).silua r.val c.val : ℝ) : EReal) := by
  intro r c
  have A := H; unfold Reads at A
  pointwise [res_main_v63_0]
  simp only [A, r32 H, r63_2 H, reals, sum_real, ite_real, dite_real]
  rfl

theorem r65 : ∀ r c, res_main_v65 V0 (ix2 r c) = (((I.layer 2).bconv r.val c.val : ℝ) : EReal) := by
  intro r c
  have A := H; unfold Reads at A
  pointwise [res_main_v65]
  simp only [A, r62 H, r35 H, mul_one, reals, sum_real, ite_real, dite_real]

theorem r66 : ∀ r c, res_main_v66 V0 (ix2 r c) = (((I.layer 2).silua r.val c.val : ℝ) : EReal) := by
  intro r c
  have A := H; unfold Reads at A
  pointwise [res_main_v66]
  simp only [A, r35 H, r63_0 H, one_mul, reals, sum_real, ite_real, dite_real]

omit H in
theorem r76 : ∀ r, res_main_v76 V0 (ix2 r 0) = (((r.val : ℝ) + 1 : ℝ) : EReal) := by
  intro r
  pointwise [res_main_v76]
  exact Layer.count_real r.isLt

theorem r77 : ∀ r c, res_main_v77 V0 (ix2 r c) = (((I.layer 2).proj r.val (2048 + (0 + c.val)) : ℝ) : EReal) := by
  intro r c
  have A := H; unfold Reads at A
  pointwise [res_main_v77]
  simp only [A, r33 H, reals, sum_real, ite_real, dite_real]

theorem r78 : ∀ r c, res_main_v78 V0 (ix2 r c) = ((∑ j ∈ Finset.range 2048, late (fun s => (I.layer 2).proj s (2048 + (0 + c.val))) j r.val : ℝ) : EReal) :=
  fun r c => Layer.cumsum_real _ (fun c s => (I.layer 2).proj s (2048 + (0 + c))) (r77 H) _ (fun i => by pointwise) _ _ r c

theorem r88 : ∀ r c, res_main_v88 V0 (ix2 r c) = (((I.layer 2).proj r.val (2048 + (128 + c.val)) : ℝ) : EReal) := by
  intro r c
  have A := H; unfold Reads at A
  pointwise [res_main_v88]
  simp only [A, r33 H, reals, sum_real, ite_real, dite_real]

theorem r89 : ∀ r c, res_main_v89 V0 (ix2 r c) = ((∑ j ∈ Finset.range 2048, late (fun s => (I.layer 2).proj s (2048 + (128 + c.val))) j r.val : ℝ) : EReal) :=
  fun r c => Layer.cumsum_real _ (fun c s => (I.layer 2).proj s (2048 + (128 + c))) (r88 H) _ (fun i => by pointwise) _ _ r c

theorem r99 : ∀ r c, res_main_v99 V0 (ix2 r c) = (((I.layer 2).proj r.val (2048 + (256 + c.val)) : ℝ) : EReal) := by
  intro r c
  have A := H; unfold Reads at A
  pointwise [res_main_v99]
  simp only [A, r33 H, reals, sum_real, ite_real, dite_real]

theorem r100 : ∀ r c, res_main_v100 V0 (ix2 r c) = ((∑ j ∈ Finset.range 2048, late (fun s => (I.layer 2).proj s (2048 + (256 + c.val))) j r.val : ℝ) : EReal) :=
  fun r c => Layer.cumsum_real _ (fun c s => (I.layer 2).proj s (2048 + (256 + c))) (r99 H) _ (fun i => by pointwise) _ _ r c

theorem r110 : ∀ r c, res_main_v110 V0 (ix2 r c) = (((I.layer 2).proj r.val (2048 + (384 + c.val)) : ℝ) : EReal) := by
  intro r c
  have A := H; unfold Reads at A
  pointwise [res_main_v110]
  simp only [A, r33 H, reals, sum_real, ite_real, dite_real]

theorem r111 : ∀ r c, res_main_v111 V0 (ix2 r c) = ((∑ j ∈ Finset.range 2048, late (fun s => (I.layer 2).proj s (2048 + (384 + c.val))) j r.val : ℝ) : EReal) :=
  fun r c => Layer.cumsum_real _ (fun c s => (I.layer 2).proj s (2048 + (384 + c))) (r110 H) _ (fun i => by pointwise) _ _ r c

theorem r125 : ∀ r g c, res_main_v125 V0 (ix3 r g c) = (((I.layer 2).pooled g.val r.val c.val : ℝ) : EReal) := by
  intro r g c
  have A := H; unfold Reads at A
  have c0 := count_min 0 (b := 2) (by norm_num [wdw]) r.val
  have c1 := count_min 1 (b := 4) (by norm_num [wdw]) r.val
  have c2 := count_min 2 (b := 8) (by norm_num [wdw]) r.val
  have c3 := count_min 3 (b := 16) (by norm_num [wdw]) r.val
  pointwise [res_main_v125]
  simp only [A, r78 H, r89 H, r100 H, r111 H, r77 H, r88 H, r99 H, r110 H, r76, c0, c1, c2, c3, reals, sum_real, ite_real, dite_real]
  refine congrArg Real.toEReal ?_
  clear A c0 c1 c2 c3
  simp only [Layer.window_real _ _ r.isLt]
  unfold Layer.Args.pooled
  obtain ⟨g, hg⟩ := g
  interval_cases g <;> simp [wdw]

theorem r129 : ∀ r c, res_main_v129 V0 (ix2 r c) = (((I.layer 2).mixed r.val c.val : ℝ) : EReal) := by
  intro r c
  have A := H; unfold Reads at A
  pointwise [res_main_v129]
  simp only [A, r125 H, reals, sum_real, ite_real, dite_real]
  refine congrArg Real.toEReal ?_
  simp only [Layer.Args.mixed, Finset.sum_range]
  exact Finset.sum_congr rfl fun k _ => mul_comm _ _

theorem r132 : ∀ r c, res_main_v132 V0 (ix2 r c) = (((I.layer 2).ps 3 c.val : ℝ) : EReal) := by
  intro r c
  have A := H; unfold Reads at A
  pointwise [res_main_v132]
  simp only [A, reals, sum_real, ite_real, dite_real]
  rfl

theorem r133 : ∀ r c, res_main_v133 V0 (ix2 r c) = (((I.layer 2).mps r.val c.val : ℝ) : EReal) := by
  intro r c
  have A := H; unfold Reads at A
  pointwise [res_main_v133]
  simp only [A, r129 H, r132 H, reals, sum_real, ite_real, dite_real]
  rfl

theorem r134_2 : ∀ r c, res_main_v134_2 V0 (ix2 r c) = ((sgm ((I.layer 2).gp r.val c.val) : ℝ) : EReal) := by
  intro r c
  have A := H; unfold Reads at A
  pointwise [res_main_v134_2]
  simp only [A, r34 H, reals, sum_real, ite_real, dite_real]

theorem r134_0 : ∀ r c, res_main_v134_0 V0 (ix2 r c) = (((I.layer 2).silup r.val c.val : ℝ) : EReal) := by
  intro r c
  have A := H; unfold Reads at A
  pointwise [res_main_v134_0]
  simp only [A, r34 H, r134_2 H, reals, sum_real, ite_real, dite_real]
  rfl

theorem r136 : ∀ r c, res_main_v136 V0 (ix2 r c) = (((I.layer 2).mps r.val c.val : ℝ) : EReal) := by
  intro r c
  have A := H; unfold Reads at A
  pointwise [res_main_v136]
  simp only [A, r133 H, r35 H, mul_one, reals, sum_real, ite_real, dite_real]

theorem r137 : ∀ r c, res_main_v137 V0 (ix2 r c) = (((I.layer 2).silup r.val c.val : ℝ) : EReal) := by
  intro r c
  have A := H; unfold Reads at A
  pointwise [res_main_v137]
  simp only [A, r35 H, r134_0 H, one_mul, reals, sum_real, ite_real, dite_real]

theorem r141 : ∀ r c, res_main_v141 V0 (ix2 r c) = (((I.layer 2).ycat r.val c.val : ℝ) : EReal) := by
  intro r c
  have A := H; unfold Reads at A
  pointwise [res_main_v141]
  simp only [A, r62 H, r63_0 H, r133 H, r134_0 H, reals, sum_real, ite_real, dite_real]
  unfold Layer.Args.ycat
  split_ifs <;> rfl

theorem r142 : ∀ r c, res_main_v142 V0 (ix2 r c) = (((I.layer 2).y r.val c.val : ℝ) : EReal) := by
  intro r c
  have A := H; unfold Reads at A
  pointwise [res_main_v142]
  simp only [A, r141 H, reals, sum_real, ite_real, dite_real]
  refine congrArg Real.toEReal ?_
  simp only [Layer.Args.y, Finset.sum_range]
  rfl

/-- The seven results are those of the layer. -/
theorem values : Entries (I.layer 2) (after ops V0 (Proc.devRef .tc main_v161)) (after ops V0 (Proc.devRef .tc main_v165)) (after ops V0 (Proc.devRef .tc main_v166)) (after ops V0 (Proc.devRef .tc main_v167)) (after ops V0 (Proc.devRef .tc main_v168)) (after ops V0 (Proc.devRef .tc main_v169)) (after ops V0 (Proc.devRef .tc main_v170)) := by
  rw [after_ops]
  refine ⟨fun t l => ?_, fun t l => ?_, fun t l => ?_, fun t l => ?_, fun t l => ?_, fun t l => ?_, fun t l => ?_⟩
  · rw [val4_main_v161]
    have A := H; unfold Reads at A
    pointwise
    simp only [A, r1 H, r142 H, root ((I.layer 2).y t.val), reals, sum_real, ite_real, dite_real]
    rfl
  · rw [val4_main_v165]
    pointwise
    exact r142 H t l
  · rw [val4_main_v166]
    pointwise
    exact r27 H t l
  · rw [val4_main_v167]
    pointwise
    exact r141 H t l
  · rw [val4_main_v168]
    pointwise
    simp only [r29 H, r31 H, dite_real]
    refine congrArg Real.toEReal ?_
    unfold Layer.Args.ucRow
    split_ifs with a
    · rfl
    · exact congrArg ((I.layer 2).proj t.val) (by omega)
  · rw [val4_main_v169]
    pointwise
    simp only [r66 H, r61 H, r30 H, r65 H, r63_2 H, r32 H, reals, dite_real]
    refine congrArg Real.toEReal ?_
    exact fa_real (I.layer 2) t.val l.val
  · rw [val4_main_v170]
    pointwise
    simp only [r137 H, r132 H, r136 H, r134_2 H, r34 H, r129 H, r125 H, reals, dite_real]
    refine congrArg Real.toEReal ?_
    exact fp_real (I.layer 2) t.val l.val

end Cert.ForwardReference2Ideal.Value
-- ==== Proof.FwdLayerMoved.lean ====
/- The reference of a forward call of layer 1 or 0: the same as layer 2's but for six rows, so from any contents it leaves what
   layer 2's leaves from contents whose rows are all that layer's. -/
module

public import proofs.«01_k».proof.Proof.FwdLayerRef

@[expose] public section

set_option maxRecDepth 16384

noncomputable section

namespace Cert.ForwardReference2Ideal.Moved

open Idealize.ShloMosaic Idealize.ShloMosaic.TcCoe Idealize.ShloMosaic.StableHlo
open Cert.ForwardReference2Ideal Cert.ForwardReference2Ideal.Gen Cert.ForwardReference2Ideal.Value

/-- The contents whose layers' arguments have row `l` for each row. -/
def move (l : Fin 4) (U : Valuation τ sig (Elt Ideal)) : Valuation τ sig (Elt Ideal) :=
  Function.update (Function.update (Function.update (Function.update (Function.update (Function.update U
    (Proc.devRef .tc main_arg1) (fun i : S4x3072.Idx => U (Proc.devRef .tc main_arg1) (ix2 l (i 1))))
    (Proc.devRef .tc main_arg2) (fun i : S4x1024.Idx => U (Proc.devRef .tc main_arg2) (ix2 l (i 1))))
    (Proc.devRef .tc main_arg4) (fun i : S4x3x512.Idx => U (Proc.devRef .tc main_arg4) (ix3 l (i 1) (i 2))))
    (Proc.devRef .tc main_arg5) (fun i : S4x4x128x128.Idx => U (Proc.devRef .tc main_arg5) (ix4 l (i 1) (i 2) (i 3))))
    (Proc.devRef .tc main_arg6) (fun i : S4x512.Idx => U (Proc.devRef .tc main_arg6) (ix2 l (i 1))))
    (Proc.devRef .tc main_arg8) (fun i : S4x1024.Idx => U (Proc.devRef .tc main_arg8) (ix2 l (i 1)))

/-- The arguments that hold a row for each layer. -/
def rowed : List (Ref sig .tc) := [main_arg1, main_arg2, main_arg4, main_arg5, main_arg6, main_arg8]

/-- `rowed` as a set of the device's buffers. -/
def rowedSet : Finset (DevRef τ sig) := (rowed.map (Proc.devRef (τ := τ) .tc)).toFinset

section
variable (l : Fin 4) (U : Valuation τ sig (Elt Ideal))

theorem move_off {b : DevRef τ sig} (h : b ∉ rowedSet) : move l U b = U b := by
  have e : ∀ r : Ref sig .tc, r ∈ rowed → b ≠ Proc.devRef .tc r := fun r hr hb =>
    h (List.mem_toFinset.mpr (hb ▸ List.mem_map_of_mem hr))
  unfold move
  rw [Function.update_of_ne (e _ (by decide)), Function.update_of_ne (e _ (by decide)), Function.update_of_ne (e _ (by decide)),
    Function.update_of_ne (e _ (by decide)), Function.update_of_ne (e _ (by decide)), Function.update_of_ne (e _ (by decide))]

theorem ne {r s : Ref sig .tc} (h : r ≠ s) : Proc.devRef (τ := τ) .tc r ≠ Proc.devRef .tc s := fun e => h (Proc.devRef_injective _ e)

theorem move1 : move l U (Proc.devRef .tc main_arg1) = fun i : S4x3072.Idx => U (Proc.devRef .tc main_arg1) (ix2 l (i 1)) := by
  unfold move
  rw [Function.update_of_ne (ne (by decide)), Function.update_of_ne (ne (by decide)), Function.update_of_ne (ne (by decide)),
    Function.update_of_ne (ne (by decide)), Function.update_of_ne (ne (by decide)), Function.update_self]
theorem move2 : move l U (Proc.devRef .tc main_arg2) = fun i : S4x1024.Idx => U (Proc.devRef .tc main_arg2) (ix2 l (i 1)) := by
  unfold move
  rw [Function.update_of_ne (ne (by decide)), Function.update_of_ne (ne (by decide)), Function.update_of_ne (ne (by decide)),
    Function.update_of_ne (ne (by decide)), Function.update_self]
theorem move4 : move l U (Proc.devRef .tc main_arg4) = fun i : S4x3x512.Idx => U (Proc.devRef .tc main_arg4) (ix3 l (i 1) (i 2)) := by
  unfold move
  rw [Function.update_of_ne (ne (by decide)), Function.update_of_ne (ne (by decide)), Function.update_of_ne (ne (by decide)),
    Function.update_self]
theorem move5 : move l U (Proc.devRef .tc main_arg5) = fun i : S4x4x128x128.Idx => U (Proc.devRef .tc main_arg5) (ix4 l (i 1) (i 2) (i 3)) := by
  unfold move
  rw [Function.update_of_ne (ne (by decide)), Function.update_of_ne (ne (by decide)), Function.update_self]
theorem move6 : move l U (Proc.devRef .tc main_arg6) = fun i : S4x512.Idx => U (Proc.devRef .tc main_arg6) (ix2 l (i 1)) := by
  unfold move
  rw [Function.update_of_ne (ne (by decide)), Function.update_self]
theorem move8 : move l U (Proc.devRef .tc main_arg8) = fun i : S4x1024.Idx => U (Proc.devRef .tc main_arg8) (ix2 l (i 1)) := by
  unfold move
  rw [Function.update_self]

/-- The moved contents read the numbers of layer `l`. -/
theorem reads_move {I : Layer.Args} (H : Reads U I) : Reads (move l U) (I.layer l.val) := by
  unfold Reads at H ⊢
  obtain ⟨h0, h1, h2, h3, h4, h5, h6, h7, h8⟩ := H
  refine ⟨fun r j => ?_, fun r j => ?_, fun r j => ?_, fun r j => ?_, fun a r j => ?_, fun a g r j => ?_, fun r j => ?_, fun r j => ?_,
    fun r j => ?_⟩
  · rw [move_off l U (by decide +kernel)]; exact h0 r j
  · rw [move1]; exact h1 l j
  · rw [move2]; exact h2 l j
  · rw [move_off l U (by decide +kernel)]; exact h3 r j
  · rw [move4]; exact h4 l r j
  · rw [move5]; exact h5 l g r j
  · rw [move6]; exact h6 l j
  · rw [move_off l U (by decide +kernel)]; exact h7 r j
  · rw [move8]; exact h8 l j

/-- Contents that agree on the rowed arguments still do when moved. -/
theorem move_same {U W : Valuation τ sig (Elt Ideal)} (h : ∀ b ∈ rowedSet, U b = W b) : ∀ b ∈ rowedSet, move l U b = move l W b := by
  intro b hb
  obtain ⟨r, hr, rfl⟩ := List.mem_map.mp (List.mem_toFinset.mp hb)
  simp only [rowed, List.mem_cons, List.not_mem_nil, or_false] at hr
  obtain rfl | rfl | rfl | rfl | rfl | rfl := hr
  · rw [move1, move1, h _ hb]
  · rw [move2, move2, h _ hb]
  · rw [move4, move4, h _ hb]
  · rw [move5, move5, h _ hb]
  · rw [move6, move6, h _ hb]
  · rw [move8, move8, h _ hb]
end

/-- Operations that touch no rowed argument may come before the moving or after it. -/
theorem after_move (l : Fin 4) {L : List (HloOp τ sig (Elt Ideal))} (hL : ∀ op ∈ L, Disjoint op.bufs rowedSet)
    (U : Valuation τ sig (Elt Ideal)) : after L (move l U) = move l (after L U) := by
  have keep : ∀ (L : List (HloOp τ sig (Elt Ideal))), (∀ op ∈ L, Disjoint op.bufs rowedSet) → ∀ (V : Valuation τ sig (Elt Ideal)),
      ∀ b ∈ rowedSet, after L V b = V b := by
    intro L
    induction L with
    | nil => intro _ V b _; rfl
    | cons op L ih =>
      intro hL V b hb
      rw [after_cons, ih (fun o ho => hL o (List.mem_cons_of_mem _ ho)) _ b hb]
      exact op.result_of_not_mem V fun hw => Finset.disjoint_left.mp (hL op List.mem_cons_self) (op.writes_sub hw) hb
  funext b
  by_cases hb : b ∈ rowedSet
  · rw [keep L hL _ b hb]
    exact (move_same l (fun x hx => keep L hL U x hx) b hb).symm
  · rw [move_off l _ hb]
    exact after_off hL (fun x hx => move_off l U hx) b hb

/-- An operation on a rowed argument, taken of the moved contents, is the one with which it agrees there, taken before the moving. -/
theorem cut_move (l : Fin 4) {x y : Ref sig .tc} {f g : x.ty.Contents (Elt Ideal) → y.ty.Contents (Elt Ideal)} {hx hy}
    (hd : Proc.devRef (τ := τ) .tc y ∉ rowedSet)
    (e : ∀ U : Valuation τ sig (Elt Ideal), f (move l U (Proc.devRef .tc x)) = g (U (Proc.devRef .tc x))) (U : Valuation τ sig (Elt Ideal)) :
    (unary x y f hx hy : HloOp τ sig (Elt Ideal)).result (move l U) = move l ((unary x y g hx hy : HloOp τ sig (Elt Ideal)).result U) := by
  have off : ∀ (k : x.ty.Contents (Elt Ideal) → y.ty.Contents (Elt Ideal)) (V : Valuation τ sig (Elt Ideal)) (b : DevRef τ sig),
      b ≠ Proc.devRef .tc y → (unary x y k hx hy : HloOp τ sig (Elt Ideal)).result V b = V b := fun k V b h =>
    (unary x y k hx hy : HloOp τ sig (Elt Ideal)).result_of_not_mem V fun hw => h (Finset.mem_singleton.mp hw)
  funext b
  by_cases hb : b ∈ rowedSet
  · have hne : b ≠ Proc.devRef .tc y := fun h => hd (h ▸ hb)
    rw [off f _ b hne]
    exact (move_same l (fun z hz => off g U z fun h => hd (h ▸ hz)) b hb).symm
  · rw [move_off l _ hb]
    by_cases hy' : b = Proc.devRef .tc y
    · subst hy'
      exact (unary_result x y f hx hy _).trans ((e U).trans (unary_result x y g hx hy U).symm)
    · rw [off f _ b hy', off g _ b hy']
      exact move_off l U hb

section
variable (l : Fin 4) (s1 : S4x3072.Slices ![l.val, 0] S1x3072) (s2 : S4x1024.Slices ![l.val, 0] S1x1024)
  (s4 : S4x3x512.Slices ![l.val, 0, 0] S1x3x512) (s5 : S4x4x128x128.Slices ![l.val, 0, 0, 0] S1x4x128x128)
  (s6 : S4x512.Slices ![l.val, 0] S1x512)

/-- The six operations that cut layer `l`'s rows out of the layers' arguments. -/
def cut1 : HloOp τ sig (Elt Ideal) :=
  unary main_arg1 main_v0 ((extractStridedSlice S1x3072 ![l.val, 0] · s1) : (⟨S4x3072, .f32⟩ : BufTy).Contents (Elt Ideal) → (⟨S1x3072, .f32⟩ : BufTy).Contents (Elt Ideal))
def cut2 : HloOp τ sig (Elt Ideal) :=
  unary main_arg2 main_v5 ((extractStridedSlice S1x1024 ![l.val, 0] · s2) : (⟨S4x1024, .f32⟩ : BufTy).Contents (Elt Ideal) → (⟨S1x1024, .f32⟩ : BufTy).Contents (Elt Ideal))
def cut4 : HloOp τ sig (Elt Ideal) :=
  unary main_arg4 main_v37 ((extractStridedSlice S1x3x512 ![l.val, 0, 0] · s4) : (⟨S4x3x512, .f32⟩ : BufTy).Contents (Elt Ideal) → (⟨S1x3x512, .f32⟩ : BufTy).Contents (Elt Ideal))
def cut5 : HloOp τ sig (Elt Ideal) :=
  unary main_arg5 main_v70 ((extractStridedSlice S1x4x128x128 ![l.val, 0, 0, 0] · s5) : (⟨S4x4x128x128, .f32⟩ : BufTy).Contents (Elt Ideal) → (⟨S1x4x128x128, .f32⟩ : BufTy).Contents (Elt Ideal))
def cut6 : HloOp τ sig (Elt Ideal) :=
  unary main_arg6 main_v130 ((extractStridedSlice S1x512 ![l.val, 0] · s6) : (⟨S4x512, .f32⟩ : BufTy).Contents (Elt Ideal) → (⟨S1x512, .f32⟩ : BufTy).Contents (Elt Ideal))
def cut8 : HloOp τ sig (Elt Ideal) :=
  unary main_arg8 main_v143 ((extractStridedSlice S1x1024 ![l.val, 0] · s2) : (⟨S4x1024, .f32⟩ : BufTy).Contents (Elt Ideal) → (⟨S1x1024, .f32⟩ : BufTy).Contents (Elt Ideal))

/-- The operations from number `a` on, `n` of them. -/
def part (a n : ℕ) : List (HloOp τ sig (Elt Ideal)) := (ops.drop a).take n

/-- The operations of layer `l`'s reference. -/
def opsAt : List (HloOp τ sig (Elt Ideal)) :=
  cut1 l s1 :: (part 1 4 ++ cut2 l s2 :: (part 6 36 ++ cut4 l s4 :: (part 43 49 ++ cut5 l s5 :: (part 93 76 ++ cut6 l s6 ::
    (part 170 27 ++ cut8 l s2 :: part 198 30)))))

theorem clear : ∀ p ∈ [(1, 4), (6, 36), (43, 49), (93, 76), (170, 27), (198, 30)], ∀ op ∈ part p.1 p.2, Disjoint op.bufs rowedSet := by
  decide +kernel

end

theorem ops_eq : ops = opsAt 2 slices_S4x3072_S1x3072_2_0 slices_S4x1024_S1x1024_2_0 slices_S4x3x512_S1x3x512_2_0_0
    slices_S4x4x128x128_S1x4x128x128_2_0_0_0 slices_S4x512_S1x512_2_0 := by sl_kernel_rfl

section
variable (l : Fin 4) (s1 : S4x3072.Slices ![l.val, 0] S1x3072) (s2 : S4x1024.Slices ![l.val, 0] S1x1024)
  (s4 : S4x3x512.Slices ![l.val, 0, 0] S1x3x512) (s5 : S4x4x128x128.Slices ![l.val, 0, 0, 0] S1x4x128x128)
  (s6 : S4x512.Slices ![l.val, 0] S1x512) (U : Valuation τ sig (Elt Ideal))

theorem cut1_move : (cut1 2 slices_S4x3072_S1x3072_2_0).result (move l U) = move l ((cut1 l s1).result U) :=
  cut_move l (by decide +kernel) (fun U => by
    rw [move1]
    refine eq2 fun r j => ?_
    pointwise) U

theorem cut2_move : (cut2 2 slices_S4x1024_S1x1024_2_0).result (move l U) = move l ((cut2 l s2).result U) :=
  cut_move l (by decide +kernel) (fun U => by
    rw [move2]
    refine eq2 fun r j => ?_
    pointwise) U

theorem cut4_move : (cut4 2 slices_S4x3x512_S1x3x512_2_0_0).result (move l U) = move l ((cut4 l s4).result U) :=
  cut_move l (by decide +kernel) (fun U => by
    rw [move4]
    refine eq3 fun a r j => ?_
    pointwise) U

theorem cut5_move : (cut5 2 slices_S4x4x128x128_S1x4x128x128_2_0_0_0).result (move l U) = move l ((cut5 l s5).result U) :=
  cut_move l (by decide +kernel) (fun U => by
    rw [move5]
    refine eq4 fun a g r j => ?_
    pointwise) U

theorem cut6_move : (cut6 2 slices_S4x512_S1x512_2_0).result (move l U) = move l ((cut6 l s6).result U) :=
  cut_move l (by decide +kernel) (fun U => by
    rw [move6]
    refine eq2 fun r j => ?_
    pointwise) U

theorem cut8_move : (cut8 2 slices_S4x1024_S1x1024_2_0).result (move l U) = move l ((cut8 l s2).result U) :=
  cut_move l (by decide +kernel) (fun U => by
    rw [move8]
    refine eq2 fun r j => ?_
    pointwise) U

/-- Layer 2's reference from moved contents leaves what layer `l`'s leaves, moved. -/
theorem same : after ops (move l U) = move l (after (opsAt l s1 s2 s4 s5 s6) U) := by
  rw [ops_eq]
  unfold opsAt
  simp only [after_cons, after_append]
  rw [cut1_move l s1, after_move l (clear (1, 4) (by decide)), cut2_move l s2, after_move l (clear (6, 36) (by decide)), cut4_move l s4,
    after_move l (clear (43, 49) (by decide)), cut5_move l s5, after_move l (clear (93, 76) (by decide)), cut6_move l s6,
    after_move l (clear (170, 27) (by decide)), cut8_move l s2, after_move l (clear (198, 30) (by decide))]

/-- What layer `l`'s reference leaves off the layers' arguments. -/
theorem same_at {b : DevRef τ sig} (hb : b ∉ rowedSet) : after (opsAt l s1 s2 s4 s5 s6) U b = after ops (move l U) b := by
  rw [same l s1 s2 s4 s5 s6, move_off l _ hb]

/-- The seven results are those of the layer. -/
theorem values_at {I : Layer.Args} (H : Reads U I) :
    Entries (I.layer l.val) (after (opsAt l s1 s2 s4 s5 s6) U (Proc.devRef .tc main_v161)) (after (opsAt l s1 s2 s4 s5 s6) U (Proc.devRef .tc main_v165)) (after (opsAt l s1 s2 s4 s5 s6) U (Proc.devRef .tc main_v166)) (after (opsAt l s1 s2 s4 s5 s6) U (Proc.devRef .tc main_v167)) (after (opsAt l s1 s2 s4 s5 s6) U (Proc.devRef .tc main_v168)) (after (opsAt l s1 s2 s4 s5 s6) U (Proc.devRef .tc main_v169)) (after (opsAt l s1 s2 s4 s5 s6) U (Proc.devRef .tc main_v170)) := by
  have e := fun {b} => same_at l s1 s2 s4 s5 s6 U (b := b)
  rw [e (b := Proc.devRef .tc main_v161) (by decide +kernel), e (b := Proc.devRef .tc main_v165) (by decide +kernel),
    e (b := Proc.devRef .tc main_v166) (by decide +kernel), e (b := Proc.devRef .tc main_v167) (by decide +kernel),
    e (b := Proc.devRef .tc main_v168) (by decide +kernel), e (b := Proc.devRef .tc main_v169) (by decide +kernel),
    e (b := Proc.devRef .tc main_v170) (by decide +kernel)]
  exact values (reads_move l U H)
end

end Cert.ForwardReference2Ideal.Moved
-- ==== Proof.FwdLayerRun2.lean ====
/- The reference of the forward call of layer 2 ends with its seven results those of the layer. -/
module

public import proofs.«01_k».proof.Proof.FwdLayerMoved

@[expose] public section

set_option maxRecDepth 16384

noncomputable section

namespace Cert.ForwardReference2Ideal.Layer

open Cert.ForwardReference2Ideal Cert.ForwardReference2Ideal.Gen Idealize.ShloMosaic Idealize.ShloMosaic.TcCoe Idealize.SL.Sem Idealize.ShloMosaic.StableHlo
open Cert.ForwardReference2Ideal.Value (Reads Entries)

/-- What the operations leave in the results' buffers. -/
theorem values {U : Valuation τ sig (Elt Ideal)} {I : Layer.Args} (H : Reads U I) :
    Entries (I.layer 2) (after Value.ops U (Proc.devRef .tc main_v161)) (after Value.ops U (Proc.devRef .tc main_v165)) (after Value.ops U (Proc.devRef .tc main_v166)) (after Value.ops U (Proc.devRef .tc main_v167)) (after Value.ops U (Proc.devRef .tc main_v168)) (after Value.ops U (Proc.devRef .tc main_v169)) (after Value.ops U (Proc.devRef .tc main_v170)) := Cert.ForwardReference2Ideal.Value.values H

/-- From contents that read the reals of `J`, the reference ends with its seven results those of the layer, its arguments unchanged. -/
theorem forward (m : (ℓ : Loc nD τ sig) → Buf (Elt Ideal) ℓ) (ρ : Dev nD → PrngReg) (J : Dev nD → Layer.Args)
    (HJ : ∀ c, Reads (launchContents m c) (J c)) :
    θ_run defs (onTc (τ := τ) (main (F := Ideal))) ⟨m, fun _ => 0, ρ⟩ fun r => ∀ c : Dev nD,
      Entries ((J c).layer 2) (r.2.mem ((c.tc : Thread nD τ).loc main_v161)) (r.2.mem ((c.tc : Thread nD τ).loc main_v165)) (r.2.mem ((c.tc : Thread nD τ).loc main_v166)) (r.2.mem ((c.tc : Thread nD τ).loc main_v167)) (r.2.mem ((c.tc : Thread nD τ).loc main_v168)) (r.2.mem ((c.tc : Thread nD τ).loc main_v169)) (r.2.mem ((c.tc : Thread nD τ).loc main_v170))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    have E := congrFun (Value.after_ops (launchContents m c))
    have A := values (HJ c)
    ⟨⟨fun t j => (congrFun ((h c).1.trans ((E _).trans (Value.val4_main_v161 _)).symm) _).trans (A.1 t j),
     fun t j => (congrFun ((h c).2.1.trans ((E _).trans (Value.val4_main_v165 _)).symm) _).trans (A.2.1 t j),
     fun t j => (congrFun ((h c).2.2.1.trans ((E _).trans (Value.val4_main_v166 _)).symm) _).trans (A.2.2.1 t j),
     fun t j => (congrFun ((h c).2.2.2.1.trans ((E _).trans (Value.val4_main_v167 _)).symm) _).trans (A.2.2.2.1 t j),
     fun t j => (congrFun ((h c).2.2.2.2.1.trans ((E _).trans (Value.val4_main_v168 _)).symm) _).trans (A.2.2.2.2.1 t j),
     fun t j => (congrFun ((h c).2.2.2.2.2.1.trans ((E _).trans (Value.val4_main_v169 _)).symm) _).trans (A.2.2.2.2.2.1 t j),
     fun t j => (congrFun ((h c).2.2.2.2.2.2.1.trans ((E _).trans (Value.val4_main_v170 _)).symm) _).trans (A.2.2.2.2.2.2 t j)⟩,
     (h c).2.2.2.2.2.2.2⟩)
    (Value.run (F := Ideal) m ρ)

end Cert.ForwardReference2Ideal.Layer
-- ==== Proof.FwdLayerRun1.lean ====
/- The reference of the forward call of layer 1 ends with its seven results those of the layer. -/
module

public import proofs.«01_k».proof.Proof.FwdLayerMoved
public import proofs.«01_k».proof.Proof.Gen.ForwardReference1Ideal.Run

@[expose] public section

set_option maxRecDepth 16384

noncomputable section

namespace Cert.ForwardReference1Ideal.Layer

open Cert.ForwardReference1Ideal Cert.ForwardReference1Ideal.Gen Idealize.ShloMosaic Idealize.ShloMosaic.TcCoe Idealize.SL.Sem Idealize.ShloMosaic.StableHlo
open Cert.ForwardReference2Ideal.Value (Reads Entries)

/-- The reference's operations. -/
theorem ops_eq : (Value.ops : List (HloOp τ sig (Elt Ideal))) = Cert.ForwardReference2Ideal.Moved.opsAt 1 slices_S4x3072_S1x3072_1_0
    slices_S4x1024_S1x1024_1_0 slices_S4x3x512_S1x3x512_1_0_0 slices_S4x4x128x128_S1x4x128x128_1_0_0_0 slices_S4x512_S1x512_1_0 := by sl_kernel_rfl

/-- What the operations leave in the results' buffers. -/
theorem values {U : Valuation τ sig (Elt Ideal)} {I : Layer.Args} (H : Reads U I) :
    Entries (I.layer 1) (after Value.ops U (Proc.devRef .tc main_v161)) (after Value.ops U (Proc.devRef .tc main_v165)) (after Value.ops U (Proc.devRef .tc main_v166)) (after Value.ops U (Proc.devRef .tc main_v167)) (after Value.ops U (Proc.devRef .tc main_v168)) (after Value.ops U (Proc.devRef .tc main_v169)) (after Value.ops U (Proc.devRef .tc main_v170)) := by
  rw [ops_eq]
  exact Cert.ForwardReference2Ideal.Moved.values_at 1 _ _ _ _ _ U H

/-- From contents that read the reals of `J`, the reference ends with its seven results those of the layer, its arguments unchanged. -/
theorem forward (m : (ℓ : Loc nD τ sig) → Buf (Elt Ideal) ℓ) (ρ : Dev nD → PrngReg) (J : Dev nD → Layer.Args)
    (HJ : ∀ c, Reads (launchContents m c) (J c)) :
    θ_run defs (onTc (τ := τ) (main (F := Ideal))) ⟨m, fun _ => 0, ρ⟩ fun r => ∀ c : Dev nD,
      Entries ((J c).layer 1) (r.2.mem ((c.tc : Thread nD τ).loc main_v161)) (r.2.mem ((c.tc : Thread nD τ).loc main_v165)) (r.2.mem ((c.tc : Thread nD τ).loc main_v166)) (r.2.mem ((c.tc : Thread nD τ).loc main_v167)) (r.2.mem ((c.tc : Thread nD τ).loc main_v168)) (r.2.mem ((c.tc : Thread nD τ).loc main_v169)) (r.2.mem ((c.tc : Thread nD τ).loc main_v170))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    have E := congrFun (Value.after_ops (launchContents m c))
    have A := values (HJ c)
    ⟨⟨fun t j => (congrFun ((h c).1.trans ((E _).trans (Value.val4_main_v161 _)).symm) _).trans (A.1 t j),
     fun t j => (congrFun ((h c).2.1.trans ((E _).trans (Value.val4_main_v165 _)).symm) _).trans (A.2.1 t j),
     fun t j => (congrFun ((h c).2.2.1.trans ((E _).trans (Value.val4_main_v166 _)).symm) _).trans (A.2.2.1 t j),
     fun t j => (congrFun ((h c).2.2.2.1.trans ((E _).trans (Value.val4_main_v167 _)).symm) _).trans (A.2.2.2.1 t j),
     fun t j => (congrFun ((h c).2.2.2.2.1.trans ((E _).trans (Value.val4_main_v168 _)).symm) _).trans (A.2.2.2.2.1 t j),
     fun t j => (congrFun ((h c).2.2.2.2.2.1.trans ((E _).trans (Value.val4_main_v169 _)).symm) _).trans (A.2.2.2.2.2.1 t j),
     fun t j => (congrFun ((h c).2.2.2.2.2.2.1.trans ((E _).trans (Value.val4_main_v170 _)).symm) _).trans (A.2.2.2.2.2.2 t j)⟩,
     (h c).2.2.2.2.2.2.2⟩)
    (Value.run (F := Ideal) m ρ)

end Cert.ForwardReference1Ideal.Layer
-- ==== Proof.FwdLayerRun0.lean ====
/- The reference of the forward call of layer 0 ends with its seven results those of the layer. -/
module

public import proofs.«01_k».proof.Proof.FwdLayerMoved
public import proofs.«01_k».proof.Proof.Gen.ForwardReference0Ideal.Run

@[expose] public section

set_option maxRecDepth 16384

noncomputable section

namespace Cert.ForwardReference0Ideal.Layer

open Cert.ForwardReference0Ideal Cert.ForwardReference0Ideal.Gen Idealize.ShloMosaic Idealize.ShloMosaic.TcCoe Idealize.SL.Sem Idealize.ShloMosaic.StableHlo
open Cert.ForwardReference2Ideal.Value (Reads Entries)

/-- The reference's operations. -/
theorem ops_eq : (Value.ops : List (HloOp τ sig (Elt Ideal))) = Cert.ForwardReference2Ideal.Moved.opsAt 0 slices_S4x3072_S1x3072_0_0
    slices_S4x1024_S1x1024_0_0 slices_S4x3x512_S1x3x512_0_0_0 slices_S4x4x128x128_S1x4x128x128_0_0_0_0 slices_S4x512_S1x512_0_0 := by sl_kernel_rfl

/-- What the operations leave in the results' buffers. -/
theorem values {U : Valuation τ sig (Elt Ideal)} {I : Layer.Args} (H : Reads U I) :
    Entries (I.layer 0) (after Value.ops U (Proc.devRef .tc main_v161)) (after Value.ops U (Proc.devRef .tc main_v165)) (after Value.ops U (Proc.devRef .tc main_v166)) (after Value.ops U (Proc.devRef .tc main_v167)) (after Value.ops U (Proc.devRef .tc main_v168)) (after Value.ops U (Proc.devRef .tc main_v169)) (after Value.ops U (Proc.devRef .tc main_v170)) := by
  rw [ops_eq]
  exact Cert.ForwardReference2Ideal.Moved.values_at 0 _ _ _ _ _ U H

/-- From contents that read the reals of `J`, the reference ends with its seven results those of the layer, its arguments unchanged. -/
theorem forward (m : (ℓ : Loc nD τ sig) → Buf (Elt Ideal) ℓ) (ρ : Dev nD → PrngReg) (J : Dev nD → Layer.Args)
    (HJ : ∀ c, Reads (launchContents m c) (J c)) :
    θ_run defs (onTc (τ := τ) (main (F := Ideal))) ⟨m, fun _ => 0, ρ⟩ fun r => ∀ c : Dev nD,
      Entries ((J c).layer 0) (r.2.mem ((c.tc : Thread nD τ).loc main_v161)) (r.2.mem ((c.tc : Thread nD τ).loc main_v165)) (r.2.mem ((c.tc : Thread nD τ).loc main_v166)) (r.2.mem ((c.tc : Thread nD τ).loc main_v167)) (r.2.mem ((c.tc : Thread nD τ).loc main_v168)) (r.2.mem ((c.tc : Thread nD τ).loc main_v169)) (r.2.mem ((c.tc : Thread nD τ).loc main_v170))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    have E := congrFun (Value.after_ops (launchContents m c))
    have A := values (HJ c)
    ⟨⟨fun t j => (congrFun ((h c).1.trans ((E _).trans (Value.val4_main_v161 _)).symm) _).trans (A.1 t j),
     fun t j => (congrFun ((h c).2.1.trans ((E _).trans (Value.val4_main_v165 _)).symm) _).trans (A.2.1 t j),
     fun t j => (congrFun ((h c).2.2.1.trans ((E _).trans (Value.val4_main_v166 _)).symm) _).trans (A.2.2.1 t j),
     fun t j => (congrFun ((h c).2.2.2.1.trans ((E _).trans (Value.val4_main_v167 _)).symm) _).trans (A.2.2.2.1 t j),
     fun t j => (congrFun ((h c).2.2.2.2.1.trans ((E _).trans (Value.val4_main_v168 _)).symm) _).trans (A.2.2.2.2.1 t j),
     fun t j => (congrFun ((h c).2.2.2.2.2.1.trans ((E _).trans (Value.val4_main_v169 _)).symm) _).trans (A.2.2.2.2.2.1 t j),
     fun t j => (congrFun ((h c).2.2.2.2.2.2.1.trans ((E _).trans (Value.val4_main_v170 _)).symm) _).trans (A.2.2.2.2.2.2 t j)⟩,
     (h c).2.2.2.2.2.2.2⟩)
    (Value.run (F := Ideal) m ρ)

end Cert.ForwardReference0Ideal.Layer
-- ==== Proof.FwdLayerFinite.lean ====
/- The precondition of the forward calls without a head read: every entry of the nine arguments is a real number. -/
module

public import proofs.«01_k».proof.Proof.Finite
public import proofs.«01_k».proof.Proof.Gen.Pre_finite_layer

@[expose] public section

noncomputable section

namespace Cert.Finite

open Idealize.ShloMosaic Idealize.ShloMosaic.TcCoe Cert.Pre_finite_layer

/-- Where the check's bit is set, every entry is its number. -/
theorem read_layer (a0 : FVec Ideal S2048x1024 .f32) (a1 : FVec Ideal S4x3072 .f32) (a2 : FVec Ideal S4x1024 .f32) (a3 : FVec Ideal S1024x3072 .f32)
    (a4 : FVec Ideal S4x3x512 .f32) (a5 : FVec Ideal S4x4x128x128 .f32) (a6 : FVec Ideal S4x512 .f32) (a7 : FVec Ideal S1024x1024 .f32)
    (a8 : FVec Ideal S4x1024 .f32) (j : S_.Idx) (h : Cert.Pre_finite_layer.fn (F := Ideal) a0 a1 a2 a3 a4 a5 a6 a7 a8 j = 1#1) :
    (∀ r l, a0 (ix2 r l) = ((num2 a0 r.val l.val : ℝ) : EReal)) ∧ (∀ r l, a1 (ix2 r l) = ((num2 a1 r.val l.val : ℝ) : EReal))
    ∧ (∀ r l, a2 (ix2 r l) = ((num2 a2 r.val l.val : ℝ) : EReal)) ∧ (∀ r l, a3 (ix2 r l) = ((num2 a3 r.val l.val : ℝ) : EReal))
    ∧ (∀ q r l, a4 (ix3 q r l) = ((num3 a4 q.val r.val l.val : ℝ) : EReal)) ∧ (∀ p q r l, a5 (ix4 p q r l) = ((num4 a5 p.val q.val r.val l.val : ℝ) : EReal))
    ∧ (∀ r l, a6 (ix2 r l) = ((num2 a6 r.val l.val : ℝ) : EReal)) ∧ (∀ r l, a7 (ix2 r l) = ((num2 a7 r.val l.val : ℝ) : EReal))
    ∧ (∀ r l, a8 (ix2 r l) = ((num2 a8 r.val l.val : ℝ) : EReal)) := by
  have both : ∀ a b : BitVec 1, IntOp.andi a b = 1#1 → a = 1#1 ∧ b = 1#1 := by decide
  unfold fn fn_part1 fn_part2 at h
  obtain ⟨h, h8⟩ := both _ _ h
  obtain ⟨h, h7⟩ := both _ _ h
  obtain ⟨h, h6⟩ := both _ _ h
  obtain ⟨h, h5⟩ := both _ _ h
  obtain ⟨h, h4⟩ := both _ _ h
  obtain ⟨h, h3⟩ := both _ _ h
  obtain ⟨h, h2⟩ := both _ _ h
  obtain ⟨h0, h1⟩ := both _ _ h
  exact ⟨at2 a0 (entries a0 _ _ _ j h0), at2 a1 (entries a1 _ _ _ j h1), at2 a2 (entries a2 _ _ _ j h2), at2 a3 (entries a3 _ _ _ j h3),
    at3 a4 (entries a4 _ _ _ j h4), at4 a5 (entries a5 _ _ _ j h5), at2 a6 (entries a6 _ _ _ j h6), at2 a7 (entries a7 _ _ _ j h7),
    at2 a8 (entries a8 _ _ _ j h8)⟩

end Cert.Finite
-- ==== Proof.Modulation.lean ====
/- The modulation's columns: what the kernel and the reference leave, entry by entry, over the extended reals. -/
module

public import proofs.«01_k».proof.Proof.Gen.ModulationIdeal.Value
public import proofs.«01_k».proof.Proof.Gen.ModulationReferenceIdeal.Run
public import proofs.«01_k».proof.Proof.Reals

@[expose] public section

set_option maxRecDepth 16384

noncomputable section

namespace Cert.ModulationIdeal.Columns

open Cert.ModulationIdeal Cert.ModulationIdeal.Gen Idealize.ShloMosaic Idealize.ShloMosaic.TcCoe

/-- `silu` of an entry of the conditioning. -/
def act (C : FVec Ideal S8x1024 .f32) (r : Fin 8) (k : Fin 1024) : EReal := C (ix2 r k) * Ideal.div 1 (1 + Ideal.exp (-C (ix2 r k)))

/-- Column `j` of layer `a`'s modulation. -/
def col (C : FVec Ideal S8x1024 .f32) (W : FVec Ideal S4x1024x384 .f32) (r : Fin 8) (a : Fin 4) (j : Fin 384) : EReal :=
  ∑ k : Fin 1024, act C r k * W (ix3 a k j)

/-- The kernel's first store is `silu`. -/
theorem stored_act (C : FVec Ideal S8x1024 .f32) (r : Fin 8) (k : Fin 1024) : k0_pay1 (F := Ideal) C (ix2 r k) = act C r k := by
  pointwise [k0_pay1]
  simp only [act, zero_sub]

/-- Its second is the product of `silu` with the window's matrix. -/
theorem stored_col (C : FVec Ideal S8x1024 .f32) (B : FVec Ideal S1x1024x384 .f32) (r : Fin 8) (j : Fin 384) :
    k0_pay2 (F := Ideal) C B (ix2 r j) = ∑ k : Fin 1024, act C r k * B (ix3 0 k j) := by
  pointwise [k0_pay2]
  simp only [stored_act, zero_add]

variable (m : (ℓ : Loc nD τ sig) → Buf (Elt Ideal) ℓ) (c : Dev nD)

/-- The conditioning on a device. -/
abbrev cond : FVec Ideal S8x1024 .f32 := m ((c.tc : Thread nD τ).loc main_arg0)
/-- The layers' matrices. -/
abbrev mats : FVec Ideal S4x1024x384 .f32 := m ((c.tc : Thread nD τ).loc main_arg1)

/-- The conditioning's window is the whole array at every point. -/
theorem in0 (t : Fin cfg0.N) (r : Fin 8) (k : Fin 1024) : (iblk m c 0 t : FVec Ideal S8x1024 .f32) (ix2 r k) = cond m c (ix2 r k) := by
  unfold iblk
  rw [View.read_apply]
  show V m c main_arg0 _ = V m c main_arg0 _
  congr 1
  funext a
  apply Fin.ext
  match a with
  | ⟨0, _⟩ => show 0 * 8 + 1 * r.val = r.val; omega
  | ⟨1, _⟩ => show 0 * 1024 + 1 * k.val = k.val; omega

/-- The block numbers: point `t` reads and writes layer `t`. -/
theorem at_layer : ∀ t : Fin grid0.N, win0_1.index t 0 = t.val ∧ win0_3.index t 1 = t.val := by decide +kernel

/-- The matrices' window at point `t` is layer `t`'s. -/
theorem in1 (t : Fin cfg0.N) (k : Fin 1024) (j : Fin 384) :
    (iblk m c 1 t : FVec Ideal S1x1024x384 .f32) (ix3 0 k j) = mats m c (ix3 ⟨t.val, t.isLt⟩ k j) := by
  unfold iblk
  rw [View.read_apply]
  show V m c main_arg1 _ = V m c main_arg1 _
  congr 1
  funext a
  apply Fin.ext
  match a with
  | ⟨0, _⟩ => show win0_1.index t 0 * 1 + 1 * 0 = t.val; rw [(at_layer t).1]; omega
  | ⟨1, _⟩ => show 0 * 1024 + 1 * k.val = k.val; omega
  | ⟨2, _⟩ => show 0 * 384 + 1 * j.val = j.val; omega

/-- So is its `silu`. -/
theorem act_in0 (t : Fin cfg0.N) (r : Fin 8) (k : Fin 1024) : act (iblk m c 0 t) r k = act (cond m c) r k := by
  unfold act
  rw [in0]

/-- What a point leaves in the first output's window. -/
theorem left_act (t : Fin cfg0.N) (r : Fin 8) (k : Fin 1024) : out0_2 (iblk m c 0 t) (iblk m c 1 t) (ix2 r k) = act (cond m c) r k := by
  have z : (![0, 0] : Fin 2 → ℕ) = fun _ => 0 := by funext a; fin_cases a <;> rfl
  unfold out0_2
  rw [View.canon_unit_zero z, View.ld_unit_zero z]
  exact (stored_act _ r k).trans (act_in0 m c t r k)

/-- What a point leaves in the second's. -/
theorem left_col (t : Fin cfg0.N) (r : Fin 8) (j : Fin 384) :
    out0_3 (iblk m c 0 t) (iblk m c 1 t) (ix2 r j) = col (cond m c) (mats m c) r ⟨t.val, t.isLt⟩ j := by
  have z : (![0, 0] : Fin 2 → ℕ) = fun _ => 0 := by funext a; fin_cases a <;> rfl
  have z3 : (![0, 0, 0] : Fin 3 → ℕ) = fun _ => 0 := by funext a; fin_cases a <;> rfl
  unfold out0_3
  rw [View.canon_unit_zero z, View.ld_unit_zero z, View.ld_unit_zero z3]
  refine (stored_col _ _ r j).trans (Finset.sum_congr rfl fun k _ => ?_)
  rw [act_in0, in1]

/-- Only the last point writes the first output back. -/
theorem last_one {t t' : Fin cfg0.N} (h : t.val % 4 = 3) (h' : t'.val % 4 = 3) : t = t' := by
  have a : t.val < 4 := t.isLt
  have b : t'.val < 4 := t'.isLt
  exact Fin.ext (by omega)

/-- So the first output ends with what that point leaves. -/
theorem last_act (t : Fin cfg0.N) (h3 : t.val % 4 = 3) (r : Fin 8) (k : Fin 1024) : (dats m 0 c).arrAt 2 cfg0.N (ix2 r k) = act (cond m c) r k := by
  have B := congrFun ((dats m 0 c).read_blk_arrAt_eq_flushed 2 (fun t t' h h' hne => absurd (last_one (flush0_2 t |>.mp h) (flush0_2 t' |>.mp h')) hne)
    cfg0.N t t.isLt ((flush0_2 t).mpr h3)) (ix2 r k)
  rw [Value.flushed2, View.read_apply] at B
  refine Eq.trans ?_ (B.trans (left_act m c t r k))
  show (dats m 0 c).arrAt 2 cfg0.N _ = (dats m 0 c).arrAt 2 cfg0.N _
  congr 1
  funext a
  apply Fin.ext
  match a with
  | ⟨0, _⟩ => show r.val = 0 * 8 + 1 * r.val; omega
  | ⟨1, _⟩ => show k.val = 0 * 1024 + 1 * k.val; omega

/-- The first result is `silu` of the conditioning. -/
theorem arr_act (r : Fin 8) (k : Fin 1024) : (dats m 0 c).arrAt 2 cfg0.N (ix2 r k) = act (cond m c) r k :=
  last_act m c ⟨3, by decide⟩ rfl r k

/-- A column by its layer and its number in the layer. -/
theorem layer_lt (j : Fin 1536) : j.val / 384 < 4 := by have := j.isLt; omega
theorem column_lt (j : Fin 1536) : j.val % 384 < 384 := Nat.mod_lt _ (by decide)

/-- The second result holds the layers' columns side by side. -/
theorem arr_col (r : Fin 8) (j : Fin 1536) :
    (dats m 0 c).arrAt 3 cfg0.N (ix2 r j) = col (cond m c) (mats m c) r ⟨j.val / 384, layer_lt j⟩ ⟨j.val % 384, column_lt j⟩ := by
  have B := congrFun (Value.blocks3 m c ⟨j.val / 384, layer_lt j⟩ (flush0_3 _)) (ix2 r ⟨j.val % 384, column_lt j⟩)
  rw [Value.flushed3, View.read_apply] at B
  refine Eq.trans ?_ (B.trans (left_col m c ⟨j.val / 384, layer_lt j⟩ r ⟨j.val % 384, column_lt j⟩))
  show (dats m 0 c).arrAt 3 cfg0.N _ = (dats m 0 c).arrAt 3 cfg0.N _
  congr 1
  funext a
  apply Fin.ext
  match a with
  | ⟨0, _⟩ => show r.val = 0 * 8 + 1 * r.val; omega
  | ⟨1, _⟩ =>
    show j.val = win0_3.index ⟨j.val / 384, layer_lt j⟩ 1 * 384 + 1 * (j.val % 384)
    rw [(at_layer ⟨j.val / 384, layer_lt j⟩).2]
    show j.val = j.val / 384 * 384 + 1 * (j.val % 384)
    omega

end Cert.ModulationIdeal.Columns

namespace Cert.ModulationReferenceIdeal.Columns

open Cert.ModulationReferenceIdeal Cert.ModulationReferenceIdeal.Gen Idealize.ShloMosaic Idealize.ShloMosaic.TcCoe
open Cert.ModulationIdeal.Columns (act col)

/-- The reference's `silu`. -/
abbrev silu (C : FVec Ideal S8x1024 .f32) : FVec Ideal S8x1024 .f32 :=
  mulf C (Host.divf (broadcastInDim S8x1024 ![] bcast_S_S8x1024 (constant S_ .f32 0x3F800000#32))
    (addf (broadcastInDim S8x1024 ![] bcast_S_S8x1024 (constant S_ .f32 0x3F800000#32)) (Host.exp (Host.negf C))))

/-- It is `silu`, entry by entry. -/
theorem silu_act (C : FVec Ideal S8x1024 .f32) (r : Fin 8) (k : Fin 1024) : silu C (ix2 r k) = act C r k := by
  pointwise [silu]
  simp only [act]

/-- The reference's second result: its four products side by side. -/
abbrev sides (C : FVec Ideal S8x1024 .f32) (W : FVec Ideal S4x1024x384 .f32) : FVec Ideal S8x1536 .f32 :=
  concatenate S8x1536 1
    [⟨S8x384, Host.dotGeneral dot_S8x1024_S1024x384_S8x384_1_0_0_1_n_n none (silu C)
        (shapeCast _ (extractStridedSlice S1x1024x384 ![0, 0, 0] W slices_S4x1024x384_S1x1024x384_0_0_0) shapeCasts_S1x1024x384_S1024x384)⟩,
     ⟨S8x384, Host.dotGeneral dot_S8x1024_S1024x384_S8x384_1_0_0_1_n_n none (silu C)
        (shapeCast _ (extractStridedSlice S1x1024x384 ![1, 0, 0] W slices_S4x1024x384_S1x1024x384_1_0_0) shapeCasts_S1x1024x384_S1024x384)⟩,
     ⟨S8x384, Host.dotGeneral dot_S8x1024_S1024x384_S8x384_1_0_0_1_n_n none (silu C)
        (shapeCast _ (extractStridedSlice S1x1024x384 ![2, 0, 0] W slices_S4x1024x384_S1x1024x384_2_0_0) shapeCasts_S1x1024x384_S1024x384)⟩,
     ⟨S8x384, Host.dotGeneral dot_S8x1024_S1024x384_S8x384_1_0_0_1_n_n none (silu C)
        (shapeCast _ (extractStridedSlice S1x1024x384 ![3, 0, 0] W slices_S4x1024x384_S1x1024x384_3_0_0) shapeCasts_S1x1024x384_S1024x384)⟩]
    concatenates_S8x384_S8x384_S8x384_S8x384_S8x1536_d1

/-- They are the layers' columns. -/
theorem sides_col (C : FVec Ideal S8x1024 .f32) (W : FVec Ideal S4x1024x384 .f32) (r : Fin 8) (j : Fin 1536) :
    sides C W (ix2 r j) = col C W r ⟨j.val / 384, Cert.ModulationIdeal.Columns.layer_lt j⟩ ⟨j.val % 384, Cert.ModulationIdeal.Columns.column_lt j⟩ := by
  pointwise [sides]
  have lt : j.val < 1536 := j.isLt
  have e {a a' : Fin 4} {l l' : Fin 384} (ha : a.val = a'.val) (hl : l.val = l'.val) :
      ∑ k : Fin 1024, C (ix2 r k) * Ideal.div 1 (1 + Ideal.exp (-C (ix2 r k))) * W (ix3 a k l) = col C W r a' l' := by
    rw [Fin.ext ha, Fin.ext hl]
    rfl
  split_ifs <;> exact e (by show _ = j.val / 384; simp; omega) (by show _ = j.val % 384; simp; omega)

end Cert.ModulationReferenceIdeal.Columns

end
-- ==== Proof.lean ====
/- The claims of the statement: the programs leave their arguments and their semaphore counters as they were, and over the
   extended reals the backward kernel of each of the four layers computes the gradients of the forward lines, and the forward
   kernel of each layer what the forward lines and their gate factors are, for the last layer with the loss; the modulation's columns are `silu` and its
   products with the layers' matrices. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationIdeal.Value
public import proofs.«01_k».proof.Proof.Gen.ModulationReferenceIdeal
public import proofs.«01_k».proof.Proof.Gen.ModulationReferenceIdeal.Run
public import proofs.«01_k».proof.Proof.Gen.Forward
public import proofs.«01_k».proof.Proof.Gen.Forward.Skeleton
public import proofs.«01_k».proof.Proof.Gen.Forward.Launch
public import proofs.«01_k».proof.Proof.Gen.Forward.Points
public import proofs.«01_k».proof.Proof.Gen.Forward.Frame
public import proofs.«01_k».proof.Proof.Gen.ForwardIdeal
public import proofs.«01_k».proof.Proof.Gen.ForwardIdeal.Skeleton
public import proofs.«01_k».proof.Proof.Gen.ForwardIdeal.Launch
public import proofs.«01_k».proof.Proof.Gen.ForwardIdeal.Points
public import proofs.«01_k».proof.Proof.Gen.ForwardIdeal.Frame
public import proofs.«01_k».proof.Proof.Gen.ForwardIdeal.Value
public import proofs.«01_k».proof.Proof.Gen.ForwardReferenceIdeal
public import proofs.«01_k».proof.Proof.Gen.ForwardReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel1
public import proofs.«01_k».proof.Proof.Gen.Kernel1.Skeleton
public import proofs.«01_k».proof.Proof.Gen.Kernel1.Launch
public import proofs.«01_k».proof.Proof.Gen.Kernel1.Points
public import proofs.«01_k».proof.Proof.Gen.Kernel1.Frame
public import proofs.«01_k».proof.Proof.Gen.Kernel1Ideal
public import proofs.«01_k».proof.Proof.Gen.Kernel1Ideal.Skeleton
public import proofs.«01_k».proof.Proof.Gen.Kernel1Ideal.Launch
public import proofs.«01_k».proof.Proof.Gen.Kernel1Ideal.Points
public import proofs.«01_k».proof.Proof.Gen.Kernel1Ideal.Frame
public import proofs.«01_k».proof.Proof.Gen.Kernel1Ideal.Value
public import proofs.«01_k».proof.Proof.Gen.Reference1Ideal
public import proofs.«01_k».proof.Proof.Gen.Reference1Ideal.Run
public import proofs.«01_k».proof.Proof.Gen.Kernel0
public import proofs.«01_k».proof.Proof.Gen.Kernel0.Skeleton
public import proofs.«01_k».proof.Proof.Gen.Kernel0.Launch
public import proofs.«01_k».proof.Proof.Gen.Kernel0.Points
public import proofs.«01_k».proof.Proof.Gen.Kernel0.Frame
public import proofs.«01_k».proof.Proof.Gen.Kernel0Ideal
public import proofs.«01_k».proof.Proof.Gen.Kernel0Ideal.Skeleton
public import proofs.«01_k».proof.Proof.Gen.Kernel0Ideal.Launch
public import proofs.«01_k».proof.Proof.Gen.Kernel0Ideal.Points
public import proofs.«01_k».proof.Proof.Gen.Kernel0Ideal.Frame
public import proofs.«01_k».proof.Proof.Gen.Kernel0Ideal.Value
public import proofs.«01_k».proof.Proof.Gen.Reference0Ideal
public import proofs.«01_k».proof.Proof.Gen.Reference0Ideal.Run
public import proofs.«01_k».proof.Proof.Gen.Forward2
public import proofs.«01_k».proof.Proof.Gen.Forward2.Skeleton
public import proofs.«01_k».proof.Proof.Gen.Forward2.Launch
public import proofs.«01_k».proof.Proof.Gen.Forward2.Points
public import proofs.«01_k».proof.Proof.Gen.Forward2.Frame
public import proofs.«01_k».proof.Proof.Gen.Forward2Ideal
public import proofs.«01_k».proof.Proof.Gen.Forward2Ideal.Skeleton
public import proofs.«01_k».proof.Proof.Gen.Forward2Ideal.Launch
public import proofs.«01_k».proof.Proof.Gen.Forward2Ideal.Points
public import proofs.«01_k».proof.Proof.Gen.Forward2Ideal.Frame
public import proofs.«01_k».proof.Proof.Gen.Forward2Ideal.Value
public import proofs.«01_k».proof.Proof.Gen.ForwardReference2Ideal
public import proofs.«01_k».proof.Proof.Gen.ForwardReference2Ideal.Run
public import proofs.«01_k».proof.Proof.Gen.Forward1
public import proofs.«01_k».proof.Proof.Gen.Forward1.Skeleton
public import proofs.«01_k».proof.Proof.Gen.Forward1.Launch
public import proofs.«01_k».proof.Proof.Gen.Forward1.Points
public import proofs.«01_k».proof.Proof.Gen.Forward1.Frame
public import proofs.«01_k».proof.Proof.Gen.Forward1Ideal
public import proofs.«01_k».proof.Proof.Gen.Forward1Ideal.Skeleton
public import proofs.«01_k».proof.Proof.Gen.Forward1Ideal.Launch
public import proofs.«01_k».proof.Proof.Gen.Forward1Ideal.Points
public import proofs.«01_k».proof.Proof.Gen.Forward1Ideal.Frame
public import proofs.«01_k».proof.Proof.Gen.Forward1Ideal.Value
public import proofs.«01_k».proof.Proof.Gen.ForwardReference1Ideal
public import proofs.«01_k».proof.Proof.Gen.ForwardReference1Ideal.Run
public import proofs.«01_k».proof.Proof.Gen.Forward0
public import proofs.«01_k».proof.Proof.Gen.Forward0.Skeleton
public import proofs.«01_k».proof.Proof.Gen.Forward0.Launch
public import proofs.«01_k».proof.Proof.Gen.Forward0.Points
public import proofs.«01_k».proof.Proof.Gen.Forward0.Frame
public import proofs.«01_k».proof.Proof.Gen.Forward0Ideal
public import proofs.«01_k».proof.Proof.Gen.Forward0Ideal.Skeleton
public import proofs.«01_k».proof.Proof.Gen.Forward0Ideal.Launch
public import proofs.«01_k».proof.Proof.Gen.Forward0Ideal.Points
public import proofs.«01_k».proof.Proof.Gen.Forward0Ideal.Frame
public import proofs.«01_k».proof.Proof.Gen.Forward0Ideal.Value
public import proofs.«01_k».proof.Proof.Gen.ForwardReference0Ideal
public import proofs.«01_k».proof.Proof.Gen.ForwardReference0Ideal.Run
public import proofs.«01_k».proof.Proof.Gen.Pre_finite
public import proofs.«01_k».proof.Proof.Gen.Pre_finite_layer
public import proofs.«01_k».proof.Proof.RefGrad
public import proofs.«01_k».proof.Proof.After
public import proofs.«01_k».proof.Proof.FwdAfter
public import proofs.«01_k».proof.Proof.FwdRef
public import proofs.«01_k».proof.Proof.Finite
public import Idealize.ShloMosaic.Adequacy
public import Idealize.ShloMosaic.Init
public import proofs.«01_k».proof.Proof.Layer2
public import proofs.«01_k».proof.Proof.Layer1
public import proofs.«01_k».proof.Proof.Layer0
public import proofs.«01_k».proof.Proof.FwdLayer2
public import proofs.«01_k».proof.Proof.FwdLayer1
public import proofs.«01_k».proof.Proof.FwdLayer0
public import proofs.«01_k».proof.Proof.FwdLayerRun2
public import proofs.«01_k».proof.Proof.FwdLayerRun1
public import proofs.«01_k».proof.Proof.FwdLayerRun0
public import proofs.«01_k».proof.Proof.FwdLayerFinite
public import proofs.«01_k».proof.Proof.Modulation

@[expose] public section

noncomputable section

namespace Cert.Proof

open Idealize.ShloMosaic Idealize.ShloMosaic.TcCoe Idealize.SL.Sem

/-- The reference leaves its arguments unchanged and has no semaphore. -/
theorem frame_reference : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

/-- So does the forward reference. -/
theorem frame_forward_reference : Cert.quiescent_ForwardReferenceIdeal := fun m ρ _ =>
  (θ_run Cert.ForwardReferenceIdeal.defs _ _).mono
    (fun r h => ⟨fun c => (h c).2.2.2.2.2.2.2.2, sem_eq_zero_of_no_sems (by decide) r.2⟩)
    (Cert.ForwardReferenceIdeal.Value.run (F := Ideal) m ρ)

section
open Cert.KernelIdeal

/-- The numbers of the arguments on device `c`. -/
def numbers (m : (ℓ : Loc nD τ sig) → Buf (Elt Ideal) ℓ) (c : Dev nD) : Layer.Args :=
  Cert.Finite.args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The kernel's arguments read as these numbers. -/
theorem reads (m : (ℓ : Loc nD τ sig) → Buf (Elt Ideal) ℓ) (h : Cert.Pre_KernelIdeal_finite m) (c : Dev nD) : Host.Reads (fun b => m (c, b)) (numbers m c) :=
  Cert.Finite.read (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (fun a => a.elim0) (congrFun (h c) (fun a => a.elim0))

/-- So do the reference's. -/
theorem reads_reference (m : (ℓ : Loc nD τ sig) → Buf (Elt Ideal) ℓ)
    (m' : (ℓ : Loc Cert.ReferenceIdeal.nD Cert.ReferenceIdeal.τ Cert.ReferenceIdeal.sig) → Buf (Elt Ideal) ℓ) (h : Cert.Pre_KernelIdeal_finite m) (c : Dev nD)
    (e0 : m' ((c.tc : Thread Cert.ReferenceIdeal.nD Cert.ReferenceIdeal.τ).loc Cert.ReferenceIdeal.main_arg0) = m ((c.tc : Thread nD τ).loc main_arg0)) (e1 : m' ((c.tc : Thread Cert.ReferenceIdeal.nD Cert.ReferenceIdeal.τ).loc Cert.ReferenceIdeal.main_arg1) = m ((c.tc : Thread nD τ).loc main_arg1))
     (e2 : m' ((c.tc : Thread Cert.ReferenceIdeal.nD Cert.ReferenceIdeal.τ).loc Cert.ReferenceIdeal.main_arg2) = m ((c.tc : Thread nD τ).loc main_arg2)) (e3 : m' ((c.tc : Thread Cert.ReferenceIdeal.nD Cert.ReferenceIdeal.τ).loc Cert.ReferenceIdeal.main_arg3) = m ((c.tc : Thread nD τ).loc main_arg3))
     (e4 : m' ((c.tc : Thread Cert.ReferenceIdeal.nD Cert.ReferenceIdeal.τ).loc Cert.ReferenceIdeal.main_arg4) = m ((c.tc : Thread nD τ).loc main_arg4)) (e5 : m' ((c.tc : Thread Cert.ReferenceIdeal.nD Cert.ReferenceIdeal.τ).loc Cert.ReferenceIdeal.main_arg5) = m ((c.tc : Thread nD τ).loc main_arg5))
     (e6 : m' ((c.tc : Thread Cert.ReferenceIdeal.nD Cert.ReferenceIdeal.τ).loc Cert.ReferenceIdeal.main_arg6) = m ((c.tc : Thread nD τ).loc main_arg6)) (e7 : m' ((c.tc : Thread Cert.ReferenceIdeal.nD Cert.ReferenceIdeal.τ).loc Cert.ReferenceIdeal.main_arg7) = m ((c.tc : Thread nD τ).loc main_arg7))
     (e8 : m' ((c.tc : Thread Cert.ReferenceIdeal.nD Cert.ReferenceIdeal.τ).loc Cert.ReferenceIdeal.main_arg8) = m ((c.tc : Thread nD τ).loc main_arg8)) (e9 : m' ((c.tc : Thread Cert.ReferenceIdeal.nD Cert.ReferenceIdeal.τ).loc Cert.ReferenceIdeal.main_arg9) = m ((c.tc : Thread nD τ).loc main_arg9)) :
    Cert.ReferenceIdeal.Value.Reads (StableHlo.launchContents m' c) (numbers m c) := by
  have A := reads m h c
  unfold Host.Reads at A
  unfold Cert.ReferenceIdeal.Value.Reads
  obtain ⟨h0, h1, h2, h3, h4, h5, h6, h7, h8, h9⟩ := A
  exact ⟨fun r l => (congrFun e0 _).trans (h0 r l), fun r l => (congrFun e1 _).trans (h1 r l), fun r l => (congrFun e2 _).trans (h2 r l), fun r l => (congrFun e3 _).trans (h3 r l), fun q r l => (congrFun e4 _).trans (h4 q r l), fun p q r l => (congrFun e5 _).trans (h5 p q r l), fun r l => (congrFun e6 _).trans (h6 r l), fun r l => (congrFun e7 _).trans (h7 r l), fun r l => (congrFun e8 _).trans (h8 r l), fun r l => (congrFun e9 _).trans (h9 r l)⟩

/-- From finite arguments the kernel and the reference end with the same six results: the gradients of the layer. -/
theorem algebraic : Cert.algebraic_KernelIdeal_ReferenceIdeal_pre_finite := by
  intro m g m' g' hpre same
  have reads := reads m hpre
  have reads' : ∀ c, Cert.ReferenceIdeal.Value.Reads (StableHlo.launchContents m' c) (numbers m c) := by
    intro c
    obtain ⟨e0, e1, e2, e3, e4, e5, e6, e7, e8, e9⟩ := same c
    exact reads_reference m m' hpre c e0 e1 e2 e3 e4 e5 e6 e7 e8 e9
  refine ⟨fun c => (Gen.dats m 0 c).arrAt 12 cfg0.N, fun c => (Gen.dats m 0 c).arrAt 13 cfg0.N, fun c => (Gen.dats m 0 c).arrAt 14 cfg0.N, fun c => (Gen.dats m 0 c).arrAt 15 cfg0.N, fun c => (Gen.dats m 0 c).arrAt 16 cfg0.N, fun c => (Gen.dats m 0 c).arrAt 17 cfg0.N, Value.run_blocks m g, ?_⟩
  refine (θ_run Cert.ReferenceIdeal.defs _ _).mono (fun r h c => ⟨
    eq2 fun r l => ((h c).1 r l).trans (Cert.KernelIdeal.Point.arr_dx m c (reads c) r l).symm,
    eq2 fun r l => ((h c).2.1 r l).trans (Cert.KernelIdeal.Point.arr_dproj m c (reads c) r l).symm,
    eq2 fun r l => ((h c).2.2.1 r l).trans (Cert.KernelIdeal.Point.arr_dy m c (reads c) r l).symm,
    eq3 fun g k l => ((h c).2.2.2.1 g k l).trans (Cert.KernelIdeal.Point.arr_dwpool m c (reads c) g k l).symm,
    eq2 fun r l => ((h c).2.2.2.2.1 r l).trans (Cert.KernelIdeal.Point.arr_dcps m c (reads c) r l).symm,
    eq2 fun r l => ((h c).2.2.2.2.2.1 r l).trans (Cert.KernelIdeal.Point.arr_dvec m c (reads c) r l).symm,
    (h c).2.2.2.2.2.2⟩) (Cert.ReferenceIdeal.Value.gradients m' g' (numbers m) reads')
end

section
open Cert.ForwardIdeal

/-- The numbers_forward of the arguments on device `c`. -/
def numbers_forward (m : (ℓ : Loc nD τ sig) → Buf (Elt Ideal) ℓ) (c : Dev nD) : Layer.Args :=
  Cert.Finite.args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The forward call's arguments read as these numbers_forward. -/
theorem reads_forward (m : (ℓ : Loc nD τ sig) → Buf (Elt Ideal) ℓ) (h : Cert.Pre_ForwardIdeal_finite m) (c : Dev nD) : Host.Reads (fun b => m (c, b)) (numbers_forward m c) :=
  Cert.Finite.read (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (fun a => a.elim0) (congrFun (h c) (fun a => a.elim0))

/-- So do the reference's. -/
theorem reads_forward_reference (m : (ℓ : Loc nD τ sig) → Buf (Elt Ideal) ℓ)
    (m' : (ℓ : Loc Cert.ForwardReferenceIdeal.nD Cert.ForwardReferenceIdeal.τ Cert.ForwardReferenceIdeal.sig) → Buf (Elt Ideal) ℓ) (h : Cert.Pre_ForwardIdeal_finite m) (c : Dev nD)
    (e0 : m' ((c.tc : Thread Cert.ForwardReferenceIdeal.nD Cert.ForwardReferenceIdeal.τ).loc Cert.ForwardReferenceIdeal.main_arg0) = m ((c.tc : Thread nD τ).loc main_arg0)) (e1 : m' ((c.tc : Thread Cert.ForwardReferenceIdeal.nD Cert.ForwardReferenceIdeal.τ).loc Cert.ForwardReferenceIdeal.main_arg1) = m ((c.tc : Thread nD τ).loc main_arg1))
     (e2 : m' ((c.tc : Thread Cert.ForwardReferenceIdeal.nD Cert.ForwardReferenceIdeal.τ).loc Cert.ForwardReferenceIdeal.main_arg2) = m ((c.tc : Thread nD τ).loc main_arg2)) (e3 : m' ((c.tc : Thread Cert.ForwardReferenceIdeal.nD Cert.ForwardReferenceIdeal.τ).loc Cert.ForwardReferenceIdeal.main_arg3) = m ((c.tc : Thread nD τ).loc main_arg3))
     (e4 : m' ((c.tc : Thread Cert.ForwardReferenceIdeal.nD Cert.ForwardReferenceIdeal.τ).loc Cert.ForwardReferenceIdeal.main_arg4) = m ((c.tc : Thread nD τ).loc main_arg4)) (e5 : m' ((c.tc : Thread Cert.ForwardReferenceIdeal.nD Cert.ForwardReferenceIdeal.τ).loc Cert.ForwardReferenceIdeal.main_arg5) = m ((c.tc : Thread nD τ).loc main_arg5))
     (e6 : m' ((c.tc : Thread Cert.ForwardReferenceIdeal.nD Cert.ForwardReferenceIdeal.τ).loc Cert.ForwardReferenceIdeal.main_arg6) = m ((c.tc : Thread nD τ).loc main_arg6)) (e7 : m' ((c.tc : Thread Cert.ForwardReferenceIdeal.nD Cert.ForwardReferenceIdeal.τ).loc Cert.ForwardReferenceIdeal.main_arg7) = m ((c.tc : Thread nD τ).loc main_arg7))
     (e8 : m' ((c.tc : Thread Cert.ForwardReferenceIdeal.nD Cert.ForwardReferenceIdeal.τ).loc Cert.ForwardReferenceIdeal.main_arg8) = m ((c.tc : Thread nD τ).loc main_arg8)) (e9 : m' ((c.tc : Thread Cert.ForwardReferenceIdeal.nD Cert.ForwardReferenceIdeal.τ).loc Cert.ForwardReferenceIdeal.main_arg9) = m ((c.tc : Thread nD τ).loc main_arg9)) :
    Cert.ForwardReferenceIdeal.Value.Reads (StableHlo.launchContents m' c) (numbers_forward m c) := by
  have A := reads_forward m h c
  unfold Host.Reads at A
  unfold Cert.ForwardReferenceIdeal.Value.Reads
  obtain ⟨h0, h1, h2, h3, h4, h5, h6, h7, h8, h9⟩ := A
  exact ⟨fun r l => (congrFun e0 _).trans (h0 r l), fun r l => (congrFun e1 _).trans (h1 r l), fun r l => (congrFun e2 _).trans (h2 r l), fun r l => (congrFun e3 _).trans (h3 r l), fun q r l => (congrFun e4 _).trans (h4 q r l), fun p q r l => (congrFun e5 _).trans (h5 p q r l), fun r l => (congrFun e6 _).trans (h6 r l), fun r l => (congrFun e7 _).trans (h7 r l), fun r l => (congrFun e8 _).trans (h8 r l), fun r l => (congrFun e9 _).trans (h9 r l)⟩

/-- From finite arguments the forward call and its reference end with the same eight results. -/
theorem algebraic_forward : Cert.algebraic_ForwardIdeal_ForwardReferenceIdeal_pre_finite := by
  intro m g m' g' hpre same
  have reads := reads_forward m hpre
  have reads' : ∀ c, Cert.ForwardReferenceIdeal.Value.Reads (StableHlo.launchContents m' c) (numbers_forward m c) := by
    intro c
    obtain ⟨e0, e1, e2, e3, e4, e5, e6, e7, e8, e9⟩ := same c
    exact reads_forward_reference m m' hpre c e0 e1 e2 e3 e4 e5 e6 e7 e8 e9
  refine ⟨fun c => (Gen.dats m 0 c).arrAt 7 cfg0.N, fun c => (Gen.dats m 0 c).arrAt 8 cfg0.N, fun c => (Gen.dats m 0 c).arrAt 9 cfg0.N, fun c => (Gen.dats m 0 c).arrAt 10 cfg0.N, fun c => (Gen.dats m 0 c).arrAt 11 cfg0.N, fun c => (Gen.dats m 0 c).arrAt 12 cfg0.N, fun c => (Gen.dats m 0 c).arrAt 13 cfg0.N, fun c => (Gen.dats m 0 c).arrAt 14 cfg0.N, Value.run_blocks m g, ?_⟩
  refine (θ_run Cert.ForwardReferenceIdeal.defs _ _).mono (fun r h c => ⟨
    eq2 fun r l => ((h c).1 r l).trans (Cert.ForwardIdeal.Point.arr_dloss m c (reads c) r l).symm,
    eq2 fun r l => ((h c).2.1 r l).trans (Cert.ForwardIdeal.Point.arr_y m c (reads c) r l).symm,
    eq2 fun r l => ((h c).2.2.1 r l).trans (Cert.ForwardIdeal.Point.arr_h m c (reads c) r l).symm,
    eq2 fun r l => ((h c).2.2.2.1 r l).trans (Cert.ForwardIdeal.Point.arr_ycat m c (reads c) r l).symm,
    eq2 fun r l => ((h c).2.2.2.2.1 r l).trans (Cert.ForwardIdeal.Point.arr_uc m c (reads c) r l).symm,
    eq2 fun r l => ((h c).2.2.2.2.2.1 r l).trans (Cert.ForwardIdeal.Point.arr_fa m c (reads c) r l).symm,
    eq2 fun r l => ((h c).2.2.2.2.2.2.1 r l).trans (Cert.ForwardIdeal.Point.arr_fp m c (reads c) r l).symm,
    eq2 fun r l => ((h c).2.2.2.2.2.2.2.1 r l).trans (Cert.ForwardIdeal.Point.arr_loss m c (reads c) r l).symm,
    (h c).2.2.2.2.2.2.2.2⟩) (Cert.ForwardReferenceIdeal.Value.forward m' g' (numbers_forward m) reads')
end

section
open Cert.Kernel2Ideal

/-- So does the reference of layer 2. -/
theorem frame_reference_2 : Cert.quiescent_Reference2Ideal := fun m ρ _ =>
  (θ_run Cert.Reference2Ideal.defs _ _).mono
    (fun r h => ⟨fun c => (h c).2.2.2.2.2.2, sem_eq_zero_of_no_sems (by decide) r.2⟩)
    (Cert.Reference2Ideal.Value.run (F := Ideal) m ρ)

set_option maxHeartbeats 1000000 in
/-- From finite arguments the backward call of layer 2 and its reference end with the same six results: the gradients of
    the layer. -/
theorem algebraic_2 : Cert.algebraic_Kernel2Ideal_Reference2Ideal_pre_finite := by
  intro m g m' g' hpre same
  have reads := reads m hpre
  have reads' : ∀ c, Cert.ReferenceIdeal.Value.Reads (StableHlo.launchContents m' c) (numbers m c) := by
    intro c
    obtain ⟨e0, e1, e2, e3, e4, e5, e6, e7, e8, e9⟩ := same c
    exact reads_reference m m' hpre c e0 e1 e2 e3 e4 e5 e6 e7 e8 e9
  have moved := fun c => Cert.KernelIdeal.Moved.reads_move 2 _ (reads c)
  have moved' := fun c => Cert.ReferenceIdeal.Value.values (Cert.ReferenceIdeal.Moved.reads_move 2 _ (reads' c))
  refine ⟨fun c => (Gen.dats m 0 c).arrAt 12 cfg0.N, fun c => (Gen.dats m 0 c).arrAt 13 cfg0.N, fun c => (Gen.dats m 0 c).arrAt 14 cfg0.N, fun c => (Gen.dats m 0 c).arrAt 15 cfg0.N, fun c => (Gen.dats m 0 c).arrAt 16 cfg0.N, fun c => (Gen.dats m 0 c).arrAt 17 cfg0.N, Value.run_blocks m g, ?_⟩
  refine (θ_run Cert.Reference2Ideal.defs _ _).mono (fun r h c => ⟨
    (h c).1.trans ((eq2 fun r l => ((moved' c).1 r l).trans
      (Cert.KernelIdeal.Point.arr_dx (Cert.KernelIdeal.Moved.moveAll 2 m) c (moved c) r l).symm).trans (Moved.result12 m c (reads c) _).symm),
    (h c).2.1.trans ((eq2 fun r l => ((moved' c).2.1 r l).trans
      (Cert.KernelIdeal.Point.arr_dproj (Cert.KernelIdeal.Moved.moveAll 2 m) c (moved c) r l).symm).trans (Moved.result13 m c (reads c) _).symm),
    (h c).2.2.1.trans ((eq2 fun r l => ((moved' c).2.2.1 r l).trans
      (Cert.KernelIdeal.Point.arr_dy (Cert.KernelIdeal.Moved.moveAll 2 m) c (moved c) r l).symm).trans (Moved.result14 m c (reads c) _).symm),
    (h c).2.2.2.1.trans ((eq3 fun g k l => ((moved' c).2.2.2.1 g k l).trans
      (Cert.KernelIdeal.Point.arr_dwpool (Cert.KernelIdeal.Moved.moveAll 2 m) c (moved c) g k l).symm).trans (Moved.result15 m c (reads c) _).symm),
    (h c).2.2.2.2.1.trans ((eq2 fun r l => ((moved' c).2.2.2.2.1 r l).trans
      (Cert.KernelIdeal.Point.arr_dcps (Cert.KernelIdeal.Moved.moveAll 2 m) c (moved c) r l).symm).trans (Moved.result16 m c (reads c) _).symm),
    (h c).2.2.2.2.2.1.trans ((eq2 fun r l => ((moved' c).2.2.2.2.2 r l).trans
      (Cert.KernelIdeal.Point.arr_dvec (Cert.KernelIdeal.Moved.moveAll 2 m) c (moved c) r l).symm).trans (Moved.result17 m c (reads c) _).symm),
    (h c).2.2.2.2.2.2⟩) (Cert.Reference2Ideal.Moved.run m' g' (numbers m) reads')
end

section
open Cert.Kernel1Ideal

/-- So does the reference of layer 1. -/
theorem frame_reference_1 : Cert.quiescent_Reference1Ideal := fun m ρ _ =>
  (θ_run Cert.Reference1Ideal.defs _ _).mono
    (fun r h => ⟨fun c => (h c).2.2.2.2.2.2, sem_eq_zero_of_no_sems (by decide) r.2⟩)
    (Cert.Reference1Ideal.Value.run (F := Ideal) m ρ)

set_option maxHeartbeats 1000000 in
/-- From finite arguments the backward call of layer 1 and its reference end with the same six results: the gradients of
    the layer. -/
theorem algebraic_1 : Cert.algebraic_Kernel1Ideal_Reference1Ideal_pre_finite := by
  intro m g m' g' hpre same
  have reads := reads m hpre
  have reads' : ∀ c, Cert.ReferenceIdeal.Value.Reads (StableHlo.launchContents m' c) (numbers m c) := by
    intro c
    obtain ⟨e0, e1, e2, e3, e4, e5, e6, e7, e8, e9⟩ := same c
    exact reads_reference m m' hpre c e0 e1 e2 e3 e4 e5 e6 e7 e8 e9
  have moved := fun c => Cert.KernelIdeal.Moved.reads_move 1 _ (reads c)
  have moved' := fun c => Cert.ReferenceIdeal.Value.values (Cert.ReferenceIdeal.Moved.reads_move 1 _ (reads' c))
  refine ⟨fun c => (Gen.dats m 0 c).arrAt 12 cfg0.N, fun c => (Gen.dats m 0 c).arrAt 13 cfg0.N, fun c => (Gen.dats m 0 c).arrAt 14 cfg0.N, fun c => (Gen.dats m 0 c).arrAt 15 cfg0.N, fun c => (Gen.dats m 0 c).arrAt 16 cfg0.N, fun c => (Gen.dats m 0 c).arrAt 17 cfg0.N, Value.run_blocks m g, ?_⟩
  refine (θ_run Cert.Reference1Ideal.defs _ _).mono (fun r h c => ⟨
    (h c).1.trans ((eq2 fun r l => ((moved' c).1 r l).trans
      (Cert.KernelIdeal.Point.arr_dx (Cert.KernelIdeal.Moved.moveAll 1 m) c (moved c) r l).symm).trans (Moved.result12 m c (reads c) _).symm),
    (h c).2.1.trans ((eq2 fun r l => ((moved' c).2.1 r l).trans
      (Cert.KernelIdeal.Point.arr_dproj (Cert.KernelIdeal.Moved.moveAll 1 m) c (moved c) r l).symm).trans (Moved.result13 m c (reads c) _).symm),
    (h c).2.2.1.trans ((eq2 fun r l => ((moved' c).2.2.1 r l).trans
      (Cert.KernelIdeal.Point.arr_dy (Cert.KernelIdeal.Moved.moveAll 1 m) c (moved c) r l).symm).trans (Moved.result14 m c (reads c) _).symm),
    (h c).2.2.2.1.trans ((eq3 fun g k l => ((moved' c).2.2.2.1 g k l).trans
      (Cert.KernelIdeal.Point.arr_dwpool (Cert.KernelIdeal.Moved.moveAll 1 m) c (moved c) g k l).symm).trans (Moved.result15 m c (reads c) _).symm),
    (h c).2.2.2.2.1.trans ((eq2 fun r l => ((moved' c).2.2.2.2.1 r l).trans
      (Cert.KernelIdeal.Point.arr_dcps (Cert.KernelIdeal.Moved.moveAll 1 m) c (moved c) r l).symm).trans (Moved.result16 m c (reads c) _).symm),
    (h c).2.2.2.2.2.1.trans ((eq2 fun r l => ((moved' c).2.2.2.2.2 r l).trans
      (Cert.KernelIdeal.Point.arr_dvec (Cert.KernelIdeal.Moved.moveAll 1 m) c (moved c) r l).symm).trans (Moved.result17 m c (reads c) _).symm),
    (h c).2.2.2.2.2.2⟩) (Cert.Reference1Ideal.Moved.run m' g' (numbers m) reads')
end

section
open Cert.Kernel0Ideal

/-- So does the reference of layer 0. -/
theorem frame_reference_0 : Cert.quiescent_Reference0Ideal := fun m ρ _ =>
  (θ_run Cert.Reference0Ideal.defs _ _).mono
    (fun r h => ⟨fun c => (h c).2.2.2.2.2.2, sem_eq_zero_of_no_sems (by decide) r.2⟩)
    (Cert.Reference0Ideal.Value.run (F := Ideal) m ρ)

set_option maxHeartbeats 1000000 in
/-- From finite arguments the backward call of layer 0 and its reference end with the same six results: the gradients of
    the layer. -/
theorem algebraic_0 : Cert.algebraic_Kernel0Ideal_Reference0Ideal_pre_finite := by
  intro m g m' g' hpre same
  have reads := reads m hpre
  have reads' : ∀ c, Cert.ReferenceIdeal.Value.Reads (StableHlo.launchContents m' c) (numbers m c) := by
    intro c
    obtain ⟨e0, e1, e2, e3, e4, e5, e6, e7, e8, e9⟩ := same c
    exact reads_reference m m' hpre c e0 e1 e2 e3 e4 e5 e6 e7 e8 e9
  have moved := fun c => Cert.KernelIdeal.Moved.reads_move 0 _ (reads c)
  have moved' := fun c => Cert.ReferenceIdeal.Value.values (Cert.ReferenceIdeal.Moved.reads_move 0 _ (reads' c))
  refine ⟨fun c => (Gen.dats m 0 c).arrAt 12 cfg0.N, fun c => (Gen.dats m 0 c).arrAt 13 cfg0.N, fun c => (Gen.dats m 0 c).arrAt 14 cfg0.N, fun c => (Gen.dats m 0 c).arrAt 15 cfg0.N, fun c => (Gen.dats m 0 c).arrAt 16 cfg0.N, fun c => (Gen.dats m 0 c).arrAt 17 cfg0.N, Value.run_blocks m g, ?_⟩
  refine (θ_run Cert.Reference0Ideal.defs _ _).mono (fun r h c => ⟨
    (h c).1.trans ((eq2 fun r l => ((moved' c).1 r l).trans
      (Cert.KernelIdeal.Point.arr_dx (Cert.KernelIdeal.Moved.moveAll 0 m) c (moved c) r l).symm).trans (Moved.result12 m c (reads c) _).symm),
    (h c).2.1.trans ((eq2 fun r l => ((moved' c).2.1 r l).trans
      (Cert.KernelIdeal.Point.arr_dproj (Cert.KernelIdeal.Moved.moveAll 0 m) c (moved c) r l).symm).trans (Moved.result13 m c (reads c) _).symm),
    (h c).2.2.1.trans ((eq2 fun r l => ((moved' c).2.2.1 r l).trans
      (Cert.KernelIdeal.Point.arr_dy (Cert.KernelIdeal.Moved.moveAll 0 m) c (moved c) r l).symm).trans (Moved.result14 m c (reads c) _).symm),
    (h c).2.2.2.1.trans ((eq3 fun g k l => ((moved' c).2.2.2.1 g k l).trans
      (Cert.KernelIdeal.Point.arr_dwpool (Cert.KernelIdeal.Moved.moveAll 0 m) c (moved c) g k l).symm).trans (Moved.result15 m c (reads c) _).symm),
    (h c).2.2.2.2.1.trans ((eq2 fun r l => ((moved' c).2.2.2.2.1 r l).trans
      (Cert.KernelIdeal.Point.arr_dcps (Cert.KernelIdeal.Moved.moveAll 0 m) c (moved c) r l).symm).trans (Moved.result16 m c (reads c) _).symm),
    (h c).2.2.2.2.2.1.trans ((eq2 fun r l => ((moved' c).2.2.2.2.2 r l).trans
      (Cert.KernelIdeal.Point.arr_dvec (Cert.KernelIdeal.Moved.moveAll 0 m) c (moved c) r l).symm).trans (Moved.result17 m c (reads c) _).symm),
    (h c).2.2.2.2.2.2⟩) (Cert.Reference0Ideal.Moved.run m' g' (numbers m) reads')
end

section
open Cert.Forward2Ideal

/-- The numbers of the nine arguments on device `c`. -/
def numbers_layer (m : (ℓ : Loc nD τ sig) → Buf (Elt Ideal) ℓ) (c : Dev nD) : Layer.Args :=
  Cert.Finite.args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (fun _ => (0 : EReal))

/-- The arguments of a forward call without a head read as these numbers. -/
theorem reads_layer (m : (ℓ : Loc nD τ sig) → Buf (Elt Ideal) ℓ) (h : Cert.Pre_Forward2Ideal_finite_layer m) (c : Dev nD) :
    Host.Reads (fun b => m (c, b)) (numbers_layer m c) :=
  Cert.Finite.read_layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (fun a => a.elim0) (congrFun (h c) (fun a => a.elim0))

/-- So do the reference's. -/
theorem reads_layer_reference (m : (ℓ : Loc nD τ sig) → Buf (Elt Ideal) ℓ)
    (m' : (ℓ : Loc Cert.ForwardReference2Ideal.nD Cert.ForwardReference2Ideal.τ Cert.ForwardReference2Ideal.sig) → Buf (Elt Ideal) ℓ) (h : Cert.Pre_Forward2Ideal_finite_layer m) (c : Dev nD)
    (e0 : m' ((c.tc : Thread Cert.ForwardReference2Ideal.nD Cert.ForwardReference2Ideal.τ).loc Cert.ForwardReference2Ideal.main_arg0) = m ((c.tc : Thread nD τ).loc main_arg0))
    (e1 : m' ((c.tc : Thread Cert.ForwardReference2Ideal.nD Cert.ForwardReference2Ideal.τ).loc Cert.ForwardReference2Ideal.main_arg1) = m ((c.tc : Thread nD τ).loc main_arg1))
    (e2 : m' ((c.tc : Thread Cert.ForwardReference2Ideal.nD Cert.ForwardReference2Ideal.τ).loc Cert.ForwardReference2Ideal.main_arg2) = m ((c.tc : Thread nD τ).loc main_arg2))
    (e3 : m' ((c.tc : Thread Cert.ForwardReference2Ideal.nD Cert.ForwardReference2Ideal.τ).loc Cert.ForwardReference2Ideal.main_arg3) = m ((c.tc : Thread nD τ).loc main_arg3))
    (e4 : m' ((c.tc : Thread Cert.ForwardReference2Ideal.nD Cert.ForwardReference2Ideal.τ).loc Cert.ForwardReference2Ideal.main_arg4) = m ((c.tc : Thread nD τ).loc main_arg4))
    (e5 : m' ((c.tc : Thread Cert.ForwardReference2Ideal.nD Cert.ForwardReference2Ideal.τ).loc Cert.ForwardReference2Ideal.main_arg5) = m ((c.tc : Thread nD τ).loc main_arg5))
    (e6 : m' ((c.tc : Thread Cert.ForwardReference2Ideal.nD Cert.ForwardReference2Ideal.τ).loc Cert.ForwardReference2Ideal.main_arg6) = m ((c.tc : Thread nD τ).loc main_arg6))
    (e7 : m' ((c.tc : Thread Cert.ForwardReference2Ideal.nD Cert.ForwardReference2Ideal.τ).loc Cert.ForwardReference2Ideal.main_arg7) = m ((c.tc : Thread nD τ).loc main_arg7))
    (e8 : m' ((c.tc : Thread Cert.ForwardReference2Ideal.nD Cert.ForwardReference2Ideal.τ).loc Cert.ForwardReference2Ideal.main_arg8) = m ((c.tc : Thread nD τ).loc main_arg8)) :
    Cert.ForwardReference2Ideal.Value.Reads (StableHlo.launchContents m' c) (numbers_layer m c) := by
  have A := reads_layer m h c
  unfold Host.Reads at A
  unfold Cert.ForwardReference2Ideal.Value.Reads
  obtain ⟨h0, h1, h2, h3, h4, h5, h6, h7, h8⟩ := A
  exact ⟨fun r l => (congrFun e0 _).trans (h0 r l), fun r l => (congrFun e1 _).trans (h1 r l), fun r l => (congrFun e2 _).trans (h2 r l), fun r l => (congrFun e3 _).trans (h3 r l), fun q r l => (congrFun e4 _).trans (h4 q r l), fun p q r l => (congrFun e5 _).trans (h5 p q r l), fun r l => (congrFun e6 _).trans (h6 r l), fun r l => (congrFun e7 _).trans (h7 r l), fun r l => (congrFun e8 _).trans (h8 r l)⟩
end

section
open Cert.Forward2Ideal

/-- So does the reference of the forward call of layer 2. -/
theorem frame_forward_reference_2 : Cert.quiescent_ForwardReference2Ideal := fun m ρ _ =>
  (θ_run Cert.ForwardReference2Ideal.defs _ _).mono
    (fun r h => ⟨fun c => (h c).2.2.2.2.2.2.2, sem_eq_zero_of_no_sems (by decide) r.2⟩)
    (Cert.ForwardReference2Ideal.Value.run (F := Ideal) m ρ)

set_option maxHeartbeats 1000000 in
/-- From finite arguments the forward call of layer 2 and its reference end with the same seven results. -/
theorem algebraic_forward_2 : Cert.algebraic_Forward2Ideal_ForwardReference2Ideal_pre_finite_layer := by
  intro m g m' g' hpre same
  have reads := reads_layer m hpre
  have reads' : ∀ c, Cert.ForwardReference2Ideal.Value.Reads (StableHlo.launchContents m' c) (numbers_layer m c) := by
    intro c
    obtain ⟨e0, e1, e2, e3, e4, e5, e6, e7, e8⟩ := same c
    exact reads_layer_reference m m' hpre c e0 e1 e2 e3 e4 e5 e6 e7 e8
  refine ⟨fun c => (Gen.dats m 0 c).arrAt 6 cfg0.N, fun c => (Gen.dats m 0 c).arrAt 7 cfg0.N, fun c => (Gen.dats m 0 c).arrAt 8 cfg0.N, fun c => (Gen.dats m 0 c).arrAt 9 cfg0.N, fun c => (Gen.dats m 0 c).arrAt 10 cfg0.N, fun c => (Gen.dats m 0 c).arrAt 11 cfg0.N, fun c => (Gen.dats m 0 c).arrAt 12 cfg0.N, Value.run_blocks m g, ?_⟩
  refine (θ_run Cert.ForwardReference2Ideal.defs _ _).mono (fun r h c => ⟨
    eq2 fun r l => ((h c).1.1 r l).trans (Results.arr_out m c (reads c) r l).symm,
    eq2 fun r l => ((h c).1.2.1 r l).trans (Results.arr_y m c (reads c) r l).symm,
    eq2 fun r l => ((h c).1.2.2.1 r l).trans (Results.arr_h m c (reads c) r l).symm,
    eq2 fun r l => ((h c).1.2.2.2.1 r l).trans (Results.arr_ycat m c (reads c) r l).symm,
    eq2 fun r l => ((h c).1.2.2.2.2.1 r l).trans (Results.arr_uc m c (reads c) r l).symm,
    eq2 fun r l => ((h c).1.2.2.2.2.2.1 r l).trans (Results.arr_fa m c (reads c) r l).symm,
    eq2 fun r l => ((h c).1.2.2.2.2.2.2 r l).trans (Results.arr_fp m c (reads c) r l).symm,
    (h c).2⟩) (Cert.ForwardReference2Ideal.Layer.forward m' g' (numbers_layer m) reads')
end

section
open Cert.Forward1Ideal

/-- So does the reference of the forward call of layer 1. -/
theorem frame_forward_reference_1 : Cert.quiescent_ForwardReference1Ideal := fun m ρ _ =>
  (θ_run Cert.ForwardReference1Ideal.defs _ _).mono
    (fun r h => ⟨fun c => (h c).2.2.2.2.2.2.2, sem_eq_zero_of_no_sems (by decide) r.2⟩)
    (Cert.ForwardReference1Ideal.Value.run (F := Ideal) m ρ)

set_option maxHeartbeats 1000000 in
/-- From finite arguments the forward call of layer 1 and its reference end with the same seven results. -/
theorem algebraic_forward_1 : Cert.algebraic_Forward1Ideal_ForwardReference1Ideal_pre_finite_layer := by
  intro m g m' g' hpre same
  have reads := reads_layer m hpre
  have reads' : ∀ c, Cert.ForwardReference2Ideal.Value.Reads (StableHlo.launchContents m' c) (numbers_layer m c) := by
    intro c
    obtain ⟨e0, e1, e2, e3, e4, e5, e6, e7, e8⟩ := same c
    exact reads_layer_reference m m' hpre c e0 e1 e2 e3 e4 e5 e6 e7 e8
  refine ⟨fun c => (Gen.dats m 0 c).arrAt 6 cfg0.N, fun c => (Gen.dats m 0 c).arrAt 7 cfg0.N, fun c => (Gen.dats m 0 c).arrAt 8 cfg0.N, fun c => (Gen.dats m 0 c).arrAt 9 cfg0.N, fun c => (Gen.dats m 0 c).arrAt 10 cfg0.N, fun c => (Gen.dats m 0 c).arrAt 11 cfg0.N, fun c => (Gen.dats m 0 c).arrAt 12 cfg0.N, Value.run_blocks m g, ?_⟩
  refine (θ_run Cert.ForwardReference1Ideal.defs _ _).mono (fun r h c => ⟨
    eq2 fun r l => ((h c).1.1 r l).trans (Results.arr_out m c (reads c) r l).symm,
    eq2 fun r l => ((h c).1.2.1 r l).trans (Results.arr_y m c (reads c) r l).symm,
    eq2 fun r l => ((h c).1.2.2.1 r l).trans (Results.arr_h m c (reads c) r l).symm,
    eq2 fun r l => ((h c).1.2.2.2.1 r l).trans (Results.arr_ycat m c (reads c) r l).symm,
    eq2 fun r l => ((h c).1.2.2.2.2.1 r l).trans (Results.arr_uc m c (reads c) r l).symm,
    eq2 fun r l => ((h c).1.2.2.2.2.2.1 r l).trans (Results.arr_fa m c (reads c) r l).symm,
    eq2 fun r l => ((h c).1.2.2.2.2.2.2 r l).trans (Results.arr_fp m c (reads c) r l).symm,
    (h c).2⟩) (Cert.ForwardReference1Ideal.Layer.forward m' g' (numbers_layer m) reads')
end

section
open Cert.Forward0Ideal

/-- So does the reference of the forward call of layer 0. -/
theorem frame_forward_reference_0 : Cert.quiescent_ForwardReference0Ideal := fun m ρ _ =>
  (θ_run Cert.ForwardReference0Ideal.defs _ _).mono
    (fun r h => ⟨fun c => (h c).2.2.2.2.2.2.2, sem_eq_zero_of_no_sems (by decide) r.2⟩)
    (Cert.ForwardReference0Ideal.Value.run (F := Ideal) m ρ)

set_option maxHeartbeats 1000000 in
/-- From finite arguments the forward call of layer 0 and its reference end with the same seven results. -/
theorem algebraic_forward_0 : Cert.algebraic_Forward0Ideal_ForwardReference0Ideal_pre_finite_layer := by
  intro m g m' g' hpre same
  have reads := reads_layer m hpre
  have reads' : ∀ c, Cert.ForwardReference2Ideal.Value.Reads (StableHlo.launchContents m' c) (numbers_layer m c) := by
    intro c
    obtain ⟨e0, e1, e2, e3, e4, e5, e6, e7, e8⟩ := same c
    exact reads_layer_reference m m' hpre c e0 e1 e2 e3 e4 e5 e6 e7 e8
  refine ⟨fun c => (Gen.dats m 0 c).arrAt 6 cfg0.N, fun c => (Gen.dats m 0 c).arrAt 7 cfg0.N, fun c => (Gen.dats m 0 c).arrAt 8 cfg0.N, fun c => (Gen.dats m 0 c).arrAt 9 cfg0.N, fun c => (Gen.dats m 0 c).arrAt 10 cfg0.N, fun c => (Gen.dats m 0 c).arrAt 11 cfg0.N, fun c => (Gen.dats m 0 c).arrAt 12 cfg0.N, Value.run_blocks m g, ?_⟩
  refine (θ_run Cert.ForwardReference0Ideal.defs _ _).mono (fun r h c => ⟨
    eq2 fun r l => ((h c).1.1 r l).trans (Results.arr_out m c (reads c) r l).symm,
    eq2 fun r l => ((h c).1.2.1 r l).trans (Results.arr_y m c (reads c) r l).symm,
    eq2 fun r l => ((h c).1.2.2.1 r l).trans (Results.arr_h m c (reads c) r l).symm,
    eq2 fun r l => ((h c).1.2.2.2.1 r l).trans (Results.arr_ycat m c (reads c) r l).symm,
    eq2 fun r l => ((h c).1.2.2.2.2.1 r l).trans (Results.arr_uc m c (reads c) r l).symm,
    eq2 fun r l => ((h c).1.2.2.2.2.2.1 r l).trans (Results.arr_fa m c (reads c) r l).symm,
    eq2 fun r l => ((h c).1.2.2.2.2.2.2 r l).trans (Results.arr_fp m c (reads c) r l).symm,
    (h c).2⟩) (Cert.ForwardReference0Ideal.Layer.forward m' g' (numbers_layer m) reads')
end

section
open Cert.ModulationIdeal

/-- So does the reference of the modulation's columns. -/
theorem frame_modulation_reference : Cert.quiescent_ModulationReferenceIdeal := fun m ρ _ =>
  (θ_run Cert.ModulationReferenceIdeal.defs _ _).mono
    (fun r h => ⟨fun c => (h c).2.2, sem_eq_zero_of_no_sems (by decide) r.2⟩)
    (Cert.ModulationReferenceIdeal.Value.run (F := Ideal) m ρ)

/-- From any arguments the modulation's columns and their reference end with the same two results. -/
theorem algebraic_modulation : Cert.algebraic_ModulationIdeal_ModulationReferenceIdeal := by
  intro m g m' g' _ same
  refine ⟨fun c => (Gen.dats m 0 c).arrAt 2 cfg0.N, fun c => (Gen.dats m 0 c).arrAt 3 cfg0.N, Value.run_blocks m g, ?_⟩
  refine (θ_run Cert.ModulationReferenceIdeal.defs _ _).mono (fun r h c => ?_) (Cert.ModulationReferenceIdeal.Value.run (F := Ideal) m' g')
  obtain ⟨e0, e1, kept⟩ := h c
  rw [(same c).1] at e0 e1
  rw [(same c).2] at e1
  exact ⟨eq2 fun i k => (congrFun e0 _).trans ((Cert.ModulationReferenceIdeal.Columns.silu_act _ i k).trans (Columns.arr_act m c i k).symm),
    eq2 fun i j => (congrFun e1 _).trans ((Cert.ModulationReferenceIdeal.Columns.sides_col _ _ i j).trans (Columns.arr_col m c i j).symm), kept⟩
end

/-- The claims of the statement. -/
theorem claim : Cert.Claim := ⟨Cert.Kernel.Gen.facts, Cert.KernelIdeal.Gen.facts, Cert.ReferenceIdeal.Gen.facts,
  Cert.Forward.Gen.facts, Cert.ForwardIdeal.Gen.facts, Cert.ForwardReferenceIdeal.Gen.facts,
  Cert.Kernel2.Gen.facts, Cert.Kernel2Ideal.Gen.facts, Cert.Reference2Ideal.Gen.facts,
  Cert.Kernel1.Gen.facts, Cert.Kernel1Ideal.Gen.facts, Cert.Reference1Ideal.Gen.facts,
  Cert.Kernel0.Gen.facts, Cert.Kernel0Ideal.Gen.facts, Cert.Reference0Ideal.Gen.facts,
  Cert.Forward2.Gen.facts, Cert.Forward2Ideal.Gen.facts, Cert.ForwardReference2Ideal.Gen.facts,
  Cert.Forward1.Gen.facts, Cert.Forward1Ideal.Gen.facts, Cert.ForwardReference1Ideal.Gen.facts,
  Cert.Forward0.Gen.facts, Cert.Forward0Ideal.Gen.facts, Cert.ForwardReference0Ideal.Gen.facts,
  Cert.Modulation.Gen.facts, Cert.ModulationIdeal.Gen.facts, Cert.ModulationReferenceIdeal.Gen.facts,
  Cert.Pre_finite.Gen.facts, Cert.Pre_finite_layer.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Forward.Gen.frame m ρ, fun m ρ _ => Cert.ForwardIdeal.Gen.frame m ρ, fun m ρ _ => Cert.ForwardIdeal.Gen.frame m ρ,
  frame_forward_reference, fun m ρ _ => frame_forward_reference m ρ trivial,
  fun m ρ _ => Cert.Kernel2.Gen.frame m ρ, fun m ρ _ => Cert.Kernel2Ideal.Gen.frame m ρ, fun m ρ _ => Cert.Kernel2Ideal.Gen.frame m ρ,
  frame_reference_2, fun m ρ _ => frame_reference_2 m ρ trivial,
  fun m ρ _ => Cert.Kernel1.Gen.frame m ρ, fun m ρ _ => Cert.Kernel1Ideal.Gen.frame m ρ, fun m ρ _ => Cert.Kernel1Ideal.Gen.frame m ρ,
  frame_reference_1, fun m ρ _ => frame_reference_1 m ρ trivial,
  fun m ρ _ => Cert.Kernel0.Gen.frame m ρ, fun m ρ _ => Cert.Kernel0Ideal.Gen.frame m ρ, fun m ρ _ => Cert.Kernel0Ideal.Gen.frame m ρ,
  frame_reference_0, fun m ρ _ => frame_reference_0 m ρ trivial,
  fun m ρ _ => Cert.Forward2.Gen.frame m ρ, fun m ρ _ => Cert.Forward2Ideal.Gen.frame m ρ, fun m ρ _ => Cert.Forward2Ideal.Gen.frame m ρ,
  frame_forward_reference_2, fun m ρ _ => frame_forward_reference_2 m ρ trivial,
  fun m ρ _ => Cert.Forward1.Gen.frame m ρ, fun m ρ _ => Cert.Forward1Ideal.Gen.frame m ρ, fun m ρ _ => Cert.Forward1Ideal.Gen.frame m ρ,
  frame_forward_reference_1, fun m ρ _ => frame_forward_reference_1 m ρ trivial,
  fun m ρ _ => Cert.Forward0.Gen.frame m ρ, fun m ρ _ => Cert.Forward0Ideal.Gen.frame m ρ, fun m ρ _ => Cert.Forward0Ideal.Gen.frame m ρ,
  frame_forward_reference_0, fun m ρ _ => frame_forward_reference_0 m ρ trivial,
  fun m ρ _ => Cert.Modulation.Gen.frame m ρ, fun m ρ _ => Cert.ModulationIdeal.Gen.frame m ρ, frame_modulation_reference,
  trivial, algebraic, trivial, algebraic_forward, trivial, algebraic_2, trivial, algebraic_1, trivial, algebraic_0,
  trivial, algebraic_forward_2, trivial, algebraic_forward_1, trivial, algebraic_forward_0, trivial, algebraic_modulation⟩

end Cert.Proof

end
